-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_DxTwo (m : (ℓ : Loc Cert.DxTwo.nD Cert.DxTwo.τ Cert.DxTwo.sig) → Buf (Elt Bits) ℓ) : Prop :=
  True

def Pre_DxTwoIdeal (m : (ℓ : Loc Cert.DxTwoIdeal.nD Cert.DxTwoIdeal.τ Cert.DxTwoIdeal.sig) → Buf (Elt Ideal) ℓ) : Prop :=
  True

def Pre_DxTwoRefIdeal (m : (ℓ : Loc Cert.DxTwoRefIdeal.nD Cert.DxTwoRefIdeal.τ Cert.DxTwoRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_DwTwo (m : (ℓ : Loc Cert.DwTwo.nD Cert.DwTwo.τ Cert.DwTwo.sig) → Buf (Elt Bits) ℓ) : Prop :=
  True

def Pre_DwTwoIdeal (m : (ℓ : Loc Cert.DwTwoIdeal.nD Cert.DwTwoIdeal.τ Cert.DwTwoIdeal.sig) → Buf (Elt Ideal) ℓ) : Prop :=
  True

def Pre_DwTwoRefIdeal (m : (ℓ : Loc Cert.DwTwoRefIdeal.nD Cert.DwTwoRefIdeal.τ Cert.DwTwoRefIdeal.sig) → Buf (Elt Ideal) ℓ) : Prop :=
  True

def Pre_DwOne (m : (ℓ : Loc Cert.DwOne.nD Cert.DwOne.τ Cert.DwOne.sig) → Buf (Elt Bits) ℓ) : Prop :=
  True

def Pre_DwOneIdeal (m : (ℓ : Loc Cert.DwOneIdeal.nD Cert.DwOneIdeal.τ Cert.DwOneIdeal.sig) → Buf (Elt Ideal) ℓ) : Prop :=
  True

def Pre_DwOneRefIdeal (m : (ℓ : Loc Cert.DwOneRefIdeal.nD Cert.DwOneRefIdeal.τ Cert.DwOneRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DxGate (m : (ℓ : Loc Cert.DxGate.nD Cert.DxGate.τ Cert.DxGate.sig) → Buf (Elt Bits) ℓ) : Prop :=
  True

def Pre_DxGateIdeal (m : (ℓ : Loc Cert.DxGateIdeal.nD Cert.DxGateIdeal.τ Cert.DxGateIdeal.sig) → Buf (Elt Ideal) ℓ) : Prop :=
  True

def Pre_DxGateRefIdeal (m : (ℓ : Loc Cert.DxGateRefIdeal.nD Cert.DxGateRefIdeal.τ Cert.DxGateRefIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutRefIdeal (m : (ℓ : Loc Cert.DxOutRefIdeal.nD Cert.DxOutRefIdeal.τ Cert.DxOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_DxInRefIdeal (m : (ℓ : Loc Cert.DxInRefIdeal.nD Cert.DxInRefIdeal.τ Cert.DxInRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_FfTwo (m : (ℓ : Loc Cert.FfTwo.nD Cert.FfTwo.τ Cert.FfTwo.sig) → Buf (Elt Bits) ℓ) : Prop :=
  True

def Pre_FfTwoIdeal (m : (ℓ : Loc Cert.FfTwoIdeal.nD Cert.FfTwoIdeal.τ Cert.FfTwoIdeal.sig) → Buf (Elt Ideal) ℓ) : Prop :=
  True

def Pre_FfTwoRefIdeal (m : (ℓ : Loc Cert.FfTwoRefIdeal.nD Cert.FfTwoRefIdeal.τ Cert.FfTwoRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_DwProj (m : (ℓ : Loc Cert.DwProj.nD Cert.DwProj.τ Cert.DwProj.sig) → Buf (Elt Bits) ℓ) : Prop :=
  True

def Pre_DwProjIdeal (m : (ℓ : Loc Cert.DwProjIdeal.nD Cert.DwProjIdeal.τ Cert.DwProjIdeal.sig) → Buf (Elt Ideal) ℓ) : Prop :=
  True

def Pre_DwProjRefIdeal (m : (ℓ : Loc Cert.DwProjRefIdeal.nD Cert.DwProjRefIdeal.τ Cert.DwProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_DwGlu (m : (ℓ : Loc Cert.DwGlu.nD Cert.DwGlu.τ Cert.DwGlu.sig) → Buf (Elt Bits) ℓ) : Prop :=
  True

def Pre_DwGluIdeal (m : (ℓ : Loc Cert.DwGluIdeal.nD Cert.DwGluIdeal.τ Cert.DwGluIdeal.sig) → Buf (Elt Ideal) ℓ) : Prop :=
  True

def Pre_DwGluRefIdeal (m : (ℓ : Loc Cert.DwGluRefIdeal.nD Cert.DwGluRefIdeal.τ Cert.DwGluRefIdeal.sig) → Buf (Elt Ideal) ℓ) : Prop :=
  True

def Pre_DxGlu (m : (ℓ : Loc Cert.DxGlu.nD Cert.DxGlu.τ Cert.DxGlu.sig) → Buf (Elt Bits) ℓ) : Prop :=
  True

def Pre_DxGluIdeal (m : (ℓ : Loc Cert.DxGluIdeal.nD Cert.DxGluIdeal.τ Cert.DxGluIdeal.sig) → Buf (Elt Ideal) ℓ) : Prop :=
  True

def Pre_DxGluIdeal_finite20 [hPre_finite20 : Cert.Pre_finite20.Facts] (m : (ℓ : Loc Cert.DxGluIdeal.nD Cert.DxGluIdeal.τ Cert.DxGluIdeal.sig) → Buf (Elt Ideal) ℓ) : Prop :=
  ∀ c : Dev Cert.DxGluIdeal.nD,
    (Cert.Pre_finite20.fn (F := Ideal) (m ((c.tc : Thread Cert.DxGluIdeal.nD Cert.DxGluIdeal.τ).loc Cert.DxGluIdeal.main_arg0)) (m ((c.tc : Thread Cert.DxGluIdeal.nD Cert.DxGluIdeal.τ).loc Cert.DxGluIdeal.main_arg1)) (m ((c.tc : Thread Cert.DxGluIdeal.nD Cert.DxGluIdeal.τ).loc Cert.DxGluIdeal.main_arg2)) (m ((c.tc : Thread Cert.DxGluIdeal.nD Cert.DxGluIdeal.τ).loc Cert.DxGluIdeal.main_arg3))).1 = (fun _ => 1#1)
    ∧ (Cert.Pre_finite20.fn (F := Ideal) (m ((c.tc : Thread Cert.DxGluIdeal.nD Cert.DxGluIdeal.τ).loc Cert.DxGluIdeal.main_arg0)) (m ((c.tc : Thread Cert.DxGluIdeal.nD Cert.DxGluIdeal.τ).loc Cert.DxGluIdeal.main_arg1)) (m ((c.tc : Thread Cert.DxGluIdeal.nD Cert.DxGluIdeal.τ).loc Cert.DxGluIdeal.main_arg2)) (m ((c.tc : Thread Cert.DxGluIdeal.nD Cert.DxGluIdeal.τ).loc Cert.DxGluIdeal.main_arg3))).2.1 = (fun _ => 1#1)
    ∧ (Cert.Pre_finite20.fn (F := Ideal) (m ((c.tc : Thread Cert.DxGluIdeal.nD Cert.DxGluIdeal.τ).loc Cert.DxGluIdeal.main_arg0)) (m ((c.tc : Thread Cert.DxGluIdeal.nD Cert.DxGluIdeal.τ).loc Cert.DxGluIdeal.main_arg1)) (m ((c.tc : Thread Cert.DxGluIdeal.nD Cert.DxGluIdeal.τ).loc Cert.DxGluIdeal.main_arg2)) (m ((c.tc : Thread Cert.DxGluIdeal.nD Cert.DxGluIdeal.τ).loc Cert.DxGluIdeal.main_arg3))).2.2 = (fun _ => 1#1)

def Pre_DxGluRefIdeal (m : (ℓ : Loc Cert.DxGluRefIdeal.nD Cert.DxGluRefIdeal.τ Cert.DxGluRefIdeal.sig) → Buf (Elt Ideal) ℓ) : Prop :=
  True

def Pre_DxGluRefIdeal_finite20 [hPre_finite20 : Cert.Pre_finite20.Facts] (m : (ℓ : Loc Cert.DxGluRefIdeal.nD Cert.DxGluRefIdeal.τ Cert.DxGluRefIdeal.sig) → Buf (Elt Ideal) ℓ) : Prop :=
  ∀ c : Dev Cert.DxGluRefIdeal.nD,
    (Cert.Pre_finite20.fn (F := Ideal) (m ((c.tc : Thread Cert.DxGluRefIdeal.nD Cert.DxGluRefIdeal.τ).loc Cert.DxGluRefIdeal.main_arg0)) (m ((c.tc : Thread Cert.DxGluRefIdeal.nD Cert.DxGluRefIdeal.τ).loc Cert.DxGluRefIdeal.main_arg1)) (m ((c.tc : Thread Cert.DxGluRefIdeal.nD Cert.DxGluRefIdeal.τ).loc Cert.DxGluRefIdeal.main_arg2)) (m ((c.tc : Thread Cert.DxGluRefIdeal.nD Cert.DxGluRefIdeal.τ).loc Cert.DxGluRefIdeal.main_arg3))).1 = (fun _ => 1#1)
    ∧ (Cert.Pre_finite20.fn (F := Ideal) (m ((c.tc : Thread Cert.DxGluRefIdeal.nD Cert.DxGluRefIdeal.τ).loc Cert.DxGluRefIdeal.main_arg0)) (m ((c.tc : Thread Cert.DxGluRefIdeal.nD Cert.DxGluRefIdeal.τ).loc Cert.DxGluRefIdeal.main_arg1)) (m ((c.tc : Thread Cert.DxGluRefIdeal.nD Cert.DxGluRefIdeal.τ).loc Cert.DxGluRefIdeal.main_arg2)) (m ((c.tc : Thread Cert.DxGluRefIdeal.nD Cert.DxGluRefIdeal.τ).loc Cert.DxGluRefIdeal.main_arg3))).2.1 = (fun _ => 1#1)
    ∧ (Cert.Pre_finite20.fn (F := Ideal) (m ((c.tc : Thread Cert.DxGluRefIdeal.nD Cert.DxGluRefIdeal.τ).loc Cert.DxGluRefIdeal.main_arg0)) (m ((c.tc : Thread Cert.DxGluRefIdeal.nD Cert.DxGluRefIdeal.τ).loc Cert.DxGluRefIdeal.main_arg1)) (m ((c.tc : Thread Cert.DxGluRefIdeal.nD Cert.DxGluRefIdeal.τ).loc Cert.DxGluRefIdeal.main_arg2)) (m ((c.tc : Thread Cert.DxGluRefIdeal.nD Cert.DxGluRefIdeal.τ).loc Cert.DxGluRefIdeal.main_arg3))).2.2 = (fun _ => 1#1)

def Pre_PleElem (m : (ℓ : Loc Cert.PleElem.nD Cert.PleElem.τ Cert.PleElem.sig) → Buf (Elt Bits) ℓ) : Prop :=
  True

def Pre_PleElemIdeal (m : (ℓ : Loc Cert.PleElemIdeal.nD Cert.PleElemIdeal.τ Cert.PleElemIdeal.sig) → Buf (Elt Ideal) ℓ) : Prop :=
  True

def Pre_PleElemRefIdeal (m : (ℓ : Loc Cert.PleElemRefIdeal.nD Cert.PleElemRefIdeal.τ Cert.PleElemRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_DMerge (m : (ℓ : Loc Cert.DMerge.nD Cert.DMerge.τ Cert.DMerge.sig) → Buf (Elt Bits) ℓ) : Prop :=
  True

def Pre_DMergeIdeal (m : (ℓ : Loc Cert.DMergeIdeal.nD Cert.DMergeIdeal.τ Cert.DMergeIdeal.sig) → Buf (Elt Ideal) ℓ) : Prop :=
  True

def Pre_DMergeRefIdeal (m : (ℓ : Loc Cert.DMergeRefIdeal.nD Cert.DMergeRefIdeal.τ Cert.DMergeRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite25 [hPre_finite25 : Cert.Pre_finite25.Facts] (m : (ℓ : Loc Cert.AttnIdeal.nD Cert.AttnIdeal.τ Cert.AttnIdeal.sig) → Buf (Elt Ideal) ℓ) : Prop :=
  ∀ c : Dev Cert.AttnIdeal.nD,
    (Cert.Pre_finite25.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite25.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite25.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite25 [hPre_finite25 : Cert.Pre_finite25.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite25.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite25.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite25.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_DAttn (m : (ℓ : Loc Cert.DAttn.nD Cert.DAttn.τ Cert.DAttn.sig) → Buf (Elt Bits) ℓ) : Prop :=
  True

def Pre_DAttnIdeal (m : (ℓ : Loc Cert.DAttnIdeal.nD Cert.DAttnIdeal.τ Cert.DAttnIdeal.sig) → Buf (Elt Ideal) ℓ) : Prop :=
  True

def Pre_DAttnIdeal_finite26 [hPre_finite26 : Cert.Pre_finite26.Facts] (m : (ℓ : Loc Cert.DAttnIdeal.nD Cert.DAttnIdeal.τ Cert.DAttnIdeal.sig) → Buf (Elt Ideal) ℓ) : Prop :=
  ∀ c : Dev Cert.DAttnIdeal.nD,
    (Cert.Pre_finite26.fn (F := Ideal) (m ((c.tc : Thread Cert.DAttnIdeal.nD Cert.DAttnIdeal.τ).loc Cert.DAttnIdeal.main_arg0)) (m ((c.tc : Thread Cert.DAttnIdeal.nD Cert.DAttnIdeal.τ).loc Cert.DAttnIdeal.main_arg1)) (m ((c.tc : Thread Cert.DAttnIdeal.nD Cert.DAttnIdeal.τ).loc Cert.DAttnIdeal.main_arg2)) (m ((c.tc : Thread Cert.DAttnIdeal.nD Cert.DAttnIdeal.τ).loc Cert.DAttnIdeal.main_arg3)) (m ((c.tc : Thread Cert.DAttnIdeal.nD Cert.DAttnIdeal.τ).loc Cert.DAttnIdeal.main_arg4))).1 = (fun _ => 1#1)
    ∧ (Cert.Pre_finite26.fn (F := Ideal) (m ((c.tc : Thread Cert.DAttnIdeal.nD Cert.DAttnIdeal.τ).loc Cert.DAttnIdeal.main_arg0)) (m ((c.tc : Thread Cert.DAttnIdeal.nD Cert.DAttnIdeal.τ).loc Cert.DAttnIdeal.main_arg1)) (m ((c.tc : Thread Cert.DAttnIdeal.nD Cert.DAttnIdeal.τ).loc Cert.DAttnIdeal.main_arg2)) (m ((c.tc : Thread Cert.DAttnIdeal.nD Cert.DAttnIdeal.τ).loc Cert.DAttnIdeal.main_arg3)) (m ((c.tc : Thread Cert.DAttnIdeal.nD Cert.DAttnIdeal.τ).loc Cert.DAttnIdeal.main_arg4))).2.1 = (fun _ => 1#1)
    ∧ (Cert.Pre_finite26.fn (F := Ideal) (m ((c.tc : Thread Cert.DAttnIdeal.nD Cert.DAttnIdeal.τ).loc Cert.DAttnIdeal.main_arg0)) (m ((c.tc : Thread Cert.DAttnIdeal.nD Cert.DAttnIdeal.τ).loc Cert.DAttnIdeal.main_arg1)) (m ((c.tc : Thread Cert.DAttnIdeal.nD Cert.DAttnIdeal.τ).loc Cert.DAttnIdeal.main_arg2)) (m ((c.tc : Thread Cert.DAttnIdeal.nD Cert.DAttnIdeal.τ).loc Cert.DAttnIdeal.main_arg3)) (m ((c.tc : Thread Cert.DAttnIdeal.nD Cert.DAttnIdeal.τ).loc Cert.DAttnIdeal.main_arg4))).2.2.1 = (fun _ => 1#1)
    ∧ (Cert.Pre_finite26.fn (F := Ideal) (m ((c.tc : Thread Cert.DAttnIdeal.nD Cert.DAttnIdeal.τ).loc Cert.DAttnIdeal.main_arg0)) (m ((c.tc : Thread Cert.DAttnIdeal.nD Cert.DAttnIdeal.τ).loc Cert.DAttnIdeal.main_arg1)) (m ((c.tc : Thread Cert.DAttnIdeal.nD Cert.DAttnIdeal.τ).loc Cert.DAttnIdeal.main_arg2)) (m ((c.tc : Thread Cert.DAttnIdeal.nD Cert.DAttnIdeal.τ).loc Cert.DAttnIdeal.main_arg3)) (m ((c.tc : Thread Cert.DAttnIdeal.nD Cert.DAttnIdeal.τ).loc Cert.DAttnIdeal.main_arg4))).2.2.2.1 = (fun _ => 1#1)
    ∧ (Cert.Pre_finite26.fn (F := Ideal) (m ((c.tc : Thread Cert.DAttnIdeal.nD Cert.DAttnIdeal.τ).loc Cert.DAttnIdeal.main_arg0)) (m ((c.tc : Thread Cert.DAttnIdeal.nD Cert.DAttnIdeal.τ).loc Cert.DAttnIdeal.main_arg1)) (m ((c.tc : Thread Cert.DAttnIdeal.nD Cert.DAttnIdeal.τ).loc Cert.DAttnIdeal.main_arg2)) (m ((c.tc : Thread Cert.DAttnIdeal.nD Cert.DAttnIdeal.τ).loc Cert.DAttnIdeal.main_arg3)) (m ((c.tc : Thread Cert.DAttnIdeal.nD Cert.DAttnIdeal.τ).loc Cert.DAttnIdeal.main_arg4))).2.2.2.2 = (fun _ => 1#1)

def Pre_DAttnRefIdeal (m : (ℓ : Loc Cert.DAttnRefIdeal.nD Cert.DAttnRefIdeal.τ Cert.DAttnRefIdeal.sig) → Buf (Elt Ideal) ℓ) : Prop :=
  True

def Pre_DAttnRefIdeal_finite26 [hPre_finite26 : Cert.Pre_finite26.Facts] (m : (ℓ : Loc Cert.DAttnRefIdeal.nD Cert.DAttnRefIdeal.τ Cert.DAttnRefIdeal.sig) → Buf (Elt Ideal) ℓ) : Prop :=
  ∀ c : Dev Cert.DAttnRefIdeal.nD,
    (Cert.Pre_finite26.fn (F := Ideal) (m ((c.tc : Thread Cert.DAttnRefIdeal.nD Cert.DAttnRefIdeal.τ).loc Cert.DAttnRefIdeal.main_arg0)) (m ((c.tc : Thread Cert.DAttnRefIdeal.nD Cert.DAttnRefIdeal.τ).loc Cert.DAttnRefIdeal.main_arg1)) (m ((c.tc : Thread Cert.DAttnRefIdeal.nD Cert.DAttnRefIdeal.τ).loc Cert.DAttnRefIdeal.main_arg2)) (m ((c.tc : Thread Cert.DAttnRefIdeal.nD Cert.DAttnRefIdeal.τ).loc Cert.DAttnRefIdeal.main_arg3)) (m ((c.tc : Thread Cert.DAttnRefIdeal.nD Cert.DAttnRefIdeal.τ).loc Cert.DAttnRefIdeal.main_arg4))).1 = (fun _ => 1#1)
    ∧ (Cert.Pre_finite26.fn (F := Ideal) (m ((c.tc : Thread Cert.DAttnRefIdeal.nD Cert.DAttnRefIdeal.τ).loc Cert.DAttnRefIdeal.main_arg0)) (m ((c.tc : Thread Cert.DAttnRefIdeal.nD Cert.DAttnRefIdeal.τ).loc Cert.DAttnRefIdeal.main_arg1)) (m ((c.tc : Thread Cert.DAttnRefIdeal.nD Cert.DAttnRefIdeal.τ).loc Cert.DAttnRefIdeal.main_arg2)) (m ((c.tc : Thread Cert.DAttnRefIdeal.nD Cert.DAttnRefIdeal.τ).loc Cert.DAttnRefIdeal.main_arg3)) (m ((c.tc : Thread Cert.DAttnRefIdeal.nD Cert.DAttnRefIdeal.τ).loc Cert.DAttnRefIdeal.main_arg4))).2.1 = (fun _ => 1#1)
    ∧ (Cert.Pre_finite26.fn (F := Ideal) (m ((c.tc : Thread Cert.DAttnRefIdeal.nD Cert.DAttnRefIdeal.τ).loc Cert.DAttnRefIdeal.main_arg0)) (m ((c.tc : Thread Cert.DAttnRefIdeal.nD Cert.DAttnRefIdeal.τ).loc Cert.DAttnRefIdeal.main_arg1)) (m ((c.tc : Thread Cert.DAttnRefIdeal.nD Cert.DAttnRefIdeal.τ).loc Cert.DAttnRefIdeal.main_arg2)) (m ((c.tc : Thread Cert.DAttnRefIdeal.nD Cert.DAttnRefIdeal.τ).loc Cert.DAttnRefIdeal.main_arg3)) (m ((c.tc : Thread Cert.DAttnRefIdeal.nD Cert.DAttnRefIdeal.τ).loc Cert.DAttnRefIdeal.main_arg4))).2.2.1 = (fun _ => 1#1)
    ∧ (Cert.Pre_finite26.fn (F := Ideal) (m ((c.tc : Thread Cert.DAttnRefIdeal.nD Cert.DAttnRefIdeal.τ).loc Cert.DAttnRefIdeal.main_arg0)) (m ((c.tc : Thread Cert.DAttnRefIdeal.nD Cert.DAttnRefIdeal.τ).loc Cert.DAttnRefIdeal.main_arg1)) (m ((c.tc : Thread Cert.DAttnRefIdeal.nD Cert.DAttnRefIdeal.τ).loc Cert.DAttnRefIdeal.main_arg2)) (m ((c.tc : Thread Cert.DAttnRefIdeal.nD Cert.DAttnRefIdeal.τ).loc Cert.DAttnRefIdeal.main_arg3)) (m ((c.tc : Thread Cert.DAttnRefIdeal.nD Cert.DAttnRefIdeal.τ).loc Cert.DAttnRefIdeal.main_arg4))).2.2.2.1 = (fun _ => 1#1)
    ∧ (Cert.Pre_finite26.fn (F := Ideal) (m ((c.tc : Thread Cert.DAttnRefIdeal.nD Cert.DAttnRefIdeal.τ).loc Cert.DAttnRefIdeal.main_arg0)) (m ((c.tc : Thread Cert.DAttnRefIdeal.nD Cert.DAttnRefIdeal.τ).loc Cert.DAttnRefIdeal.main_arg1)) (m ((c.tc : Thread Cert.DAttnRefIdeal.nD Cert.DAttnRefIdeal.τ).loc Cert.DAttnRefIdeal.main_arg2)) (m ((c.tc : Thread Cert.DAttnRefIdeal.nD Cert.DAttnRefIdeal.τ).loc Cert.DAttnRefIdeal.main_arg3)) (m ((c.tc : Thread Cert.DAttnRefIdeal.nD Cert.DAttnRefIdeal.τ).loc Cert.DAttnRefIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_DxTwo [hDxTwo : Cert.DxTwo.Facts] : Prop :=
  ∀ (m : (ℓ : Loc Cert.DxTwo.nD Cert.DxTwo.τ Cert.DxTwo.sig) → Buf (Elt Bits) ℓ) (g : Dev Cert.DxTwo.nD → PrngReg), Pre_DxTwo m →
    θ_run (Cert.DxTwo.defs (F := Bits)) (onTc (τ := Cert.DxTwo.τ) (Cert.DxTwo.main (F := Bits))) ⟨m, fun _ => 0, g⟩ (fun r => (∀ c : Dev Cert.DxTwo.nD,
      r.2.mem ((c.tc : Thread Cert.DxTwo.nD Cert.DxTwo.τ).loc Cert.DxTwo.main_arg0) = m ((c.tc : Thread Cert.DxTwo.nD Cert.DxTwo.τ).loc Cert.DxTwo.main_arg0)
      ∧ r.2.mem ((c.tc : Thread Cert.DxTwo.nD Cert.DxTwo.τ).loc Cert.DxTwo.main_arg1) = m ((c.tc : Thread Cert.DxTwo.nD Cert.DxTwo.τ).loc Cert.DxTwo.main_arg1)
      ∧ r.2.mem ((c.tc : Thread Cert.DxTwo.nD Cert.DxTwo.τ).loc Cert.DxTwo.main_arg2) = m ((c.tc : Thread Cert.DxTwo.nD Cert.DxTwo.τ).loc Cert.DxTwo.main_arg2))
      ∧ r.2.sem = fun _ => 0)

def quiescent_DxTwoIdeal [hDxTwoIdeal : Cert.DxTwoIdeal.Facts] : Prop :=
  ∀ (m : (ℓ : Loc Cert.DxTwoIdeal.nD Cert.DxTwoIdeal.τ Cert.DxTwoIdeal.sig) → Buf (Elt Ideal) ℓ) (g : Dev Cert.DxTwoIdeal.nD → PrngReg), Pre_DxTwoIdeal m →
    θ_run (Cert.DxTwoIdeal.defs (F := Ideal)) (onTc (τ := Cert.DxTwoIdeal.τ) (Cert.DxTwoIdeal.main (F := Ideal))) ⟨m, fun _ => 0, g⟩ (fun r => (∀ c : Dev Cert.DxTwoIdeal.nD,
      r.2.mem ((c.tc : Thread Cert.DxTwoIdeal.nD Cert.DxTwoIdeal.τ).loc Cert.DxTwoIdeal.main_arg0) = m ((c.tc : Thread Cert.DxTwoIdeal.nD Cert.DxTwoIdeal.τ).loc Cert.DxTwoIdeal.main_arg0)
      ∧ r.2.mem ((c.tc : Thread Cert.DxTwoIdeal.nD Cert.DxTwoIdeal.τ).loc Cert.DxTwoIdeal.main_arg1) = m ((c.tc : Thread Cert.DxTwoIdeal.nD Cert.DxTwoIdeal.τ).loc Cert.DxTwoIdeal.main_arg1)
      ∧ r.2.mem ((c.tc : Thread Cert.DxTwoIdeal.nD Cert.DxTwoIdeal.τ).loc Cert.DxTwoIdeal.main_arg2) = m ((c.tc : Thread Cert.DxTwoIdeal.nD Cert.DxTwoIdeal.τ).loc Cert.DxTwoIdeal.main_arg2))
      ∧ r.2.sem = fun _ => 0)

def quiescent_DxTwoRefIdeal [hDxTwoRefIdeal : Cert.DxTwoRefIdeal.Facts] : Prop :=
  ∀ (m : (ℓ : Loc Cert.DxTwoRefIdeal.nD Cert.DxTwoRefIdeal.τ Cert.DxTwoRefIdeal.sig) → Buf (Elt Ideal) ℓ) (g : Dev Cert.DxTwoRefIdeal.nD → PrngReg), Pre_DxTwoRefIdeal m →
    θ_run (Cert.DxTwoRefIdeal.defs (F := Ideal)) (onTc (τ := Cert.DxTwoRefIdeal.τ) (Cert.DxTwoRefIdeal.main (F := Ideal))) ⟨m, fun _ => 0, g⟩ (fun r => (∀ c : Dev Cert.DxTwoRefIdeal.nD,
      r.2.mem ((c.tc : Thread Cert.DxTwoRefIdeal.nD Cert.DxTwoRefIdeal.τ).loc Cert.DxTwoRefIdeal.main_arg0) = m ((c.tc : Thread Cert.DxTwoRefIdeal.nD Cert.DxTwoRefIdeal.τ).loc Cert.DxTwoRefIdeal.main_arg0)
      ∧ r.2.mem ((c.tc : Thread Cert.DxTwoRefIdeal.nD Cert.DxTwoRefIdeal.τ).loc Cert.DxTwoRefIdeal.main_arg1) = m ((c.tc : Thread Cert.DxTwoRefIdeal.nD Cert.DxTwoRefIdeal.τ).loc Cert.DxTwoRefIdeal.main_arg1)
      ∧ r.2.mem ((c.tc : Thread Cert.DxTwoRefIdeal.nD Cert.DxTwoRefIdeal.τ).loc Cert.DxTwoRefIdeal.main_arg2) = m ((c.tc : Thread Cert.DxTwoRefIdeal.nD Cert.DxTwoRefIdeal.τ).loc Cert.DxTwoRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_DwTwo [hDwTwo : Cert.DwTwo.Facts] : Prop :=
  ∀ (m : (ℓ : Loc Cert.DwTwo.nD Cert.DwTwo.τ Cert.DwTwo.sig) → Buf (Elt Bits) ℓ) (g : Dev Cert.DwTwo.nD → PrngReg), Pre_DwTwo m →
    θ_run (Cert.DwTwo.defs (F := Bits)) (onTc (τ := Cert.DwTwo.τ) (Cert.DwTwo.main (F := Bits))) ⟨m, fun _ => 0, g⟩ (fun r => (∀ c : Dev Cert.DwTwo.nD,
      r.2.mem ((c.tc : Thread Cert.DwTwo.nD Cert.DwTwo.τ).loc Cert.DwTwo.main_arg0) = m ((c.tc : Thread Cert.DwTwo.nD Cert.DwTwo.τ).loc Cert.DwTwo.main_arg0)
      ∧ r.2.mem ((c.tc : Thread Cert.DwTwo.nD Cert.DwTwo.τ).loc Cert.DwTwo.main_arg1) = m ((c.tc : Thread Cert.DwTwo.nD Cert.DwTwo.τ).loc Cert.DwTwo.main_arg1))
      ∧ r.2.sem = fun _ => 0)

def quiescent_DwTwoIdeal [hDwTwoIdeal : Cert.DwTwoIdeal.Facts] : Prop :=
  ∀ (m : (ℓ : Loc Cert.DwTwoIdeal.nD Cert.DwTwoIdeal.τ Cert.DwTwoIdeal.sig) → Buf (Elt Ideal) ℓ) (g : Dev Cert.DwTwoIdeal.nD → PrngReg), Pre_DwTwoIdeal m →
    θ_run (Cert.DwTwoIdeal.defs (F := Ideal)) (onTc (τ := Cert.DwTwoIdeal.τ) (Cert.DwTwoIdeal.main (F := Ideal))) ⟨m, fun _ => 0, g⟩ (fun r => (∀ c : Dev Cert.DwTwoIdeal.nD,
      r.2.mem ((c.tc : Thread Cert.DwTwoIdeal.nD Cert.DwTwoIdeal.τ).loc Cert.DwTwoIdeal.main_arg0) = m ((c.tc : Thread Cert.DwTwoIdeal.nD Cert.DwTwoIdeal.τ).loc Cert.DwTwoIdeal.main_arg0)
      ∧ r.2.mem ((c.tc : Thread Cert.DwTwoIdeal.nD Cert.DwTwoIdeal.τ).loc Cert.DwTwoIdeal.main_arg1) = m ((c.tc : Thread Cert.DwTwoIdeal.nD Cert.DwTwoIdeal.τ).loc Cert.DwTwoIdeal.main_arg1))
      ∧ r.2.sem = fun _ => 0)

def quiescent_DwTwoRefIdeal [hDwTwoRefIdeal : Cert.DwTwoRefIdeal.Facts] : Prop :=
  ∀ (m : (ℓ : Loc Cert.DwTwoRefIdeal.nD Cert.DwTwoRefIdeal.τ Cert.DwTwoRefIdeal.sig) → Buf (Elt Ideal) ℓ) (g : Dev Cert.DwTwoRefIdeal.nD → PrngReg), Pre_DwTwoRefIdeal m →
    θ_run (Cert.DwTwoRefIdeal.defs (F := Ideal)) (onTc (τ := Cert.DwTwoRefIdeal.τ) (Cert.DwTwoRefIdeal.main (F := Ideal))) ⟨m, fun _ => 0, g⟩ (fun r => (∀ c : Dev Cert.DwTwoRefIdeal.nD,
      r.2.mem ((c.tc : Thread Cert.DwTwoRefIdeal.nD Cert.DwTwoRefIdeal.τ).loc Cert.DwTwoRefIdeal.main_arg0) = m ((c.tc : Thread Cert.DwTwoRefIdeal.nD Cert.DwTwoRefIdeal.τ).loc Cert.DwTwoRefIdeal.main_arg0)
      ∧ r.2.mem ((c.tc : Thread Cert.DwTwoRefIdeal.nD Cert.DwTwoRefIdeal.τ).loc Cert.DwTwoRefIdeal.main_arg1) = m ((c.tc : Thread Cert.DwTwoRefIdeal.nD Cert.DwTwoRefIdeal.τ).loc Cert.DwTwoRefIdeal.main_arg1))
      ∧ r.2.sem = fun _ => 0)

def quiescent_DwOne [hDwOne : Cert.DwOne.Facts] : Prop :=
  ∀ (m : (ℓ : Loc Cert.DwOne.nD Cert.DwOne.τ Cert.DwOne.sig) → Buf (Elt Bits) ℓ) (g : Dev Cert.DwOne.nD → PrngReg), Pre_DwOne m →
    θ_run (Cert.DwOne.defs (F := Bits)) (onTc (τ := Cert.DwOne.τ) (Cert.DwOne.main (F := Bits))) ⟨m, fun _ => 0, g⟩ (fun r => (∀ c : Dev Cert.DwOne.nD,
      r.2.mem ((c.tc : Thread Cert.DwOne.nD Cert.DwOne.τ).loc Cert.DwOne.main_arg0) = m ((c.tc : Thread Cert.DwOne.nD Cert.DwOne.τ).loc Cert.DwOne.main_arg0)
      ∧ r.2.mem ((c.tc : Thread Cert.DwOne.nD Cert.DwOne.τ).loc Cert.DwOne.main_arg1) = m ((c.tc : Thread Cert.DwOne.nD Cert.DwOne.τ).loc Cert.DwOne.main_arg1))
      ∧ r.2.sem = fun _ => 0)

def quiescent_DwOneIdeal [hDwOneIdeal : Cert.DwOneIdeal.Facts] : Prop :=
  ∀ (m : (ℓ : Loc Cert.DwOneIdeal.nD Cert.DwOneIdeal.τ Cert.DwOneIdeal.sig) → Buf (Elt Ideal) ℓ) (g : Dev Cert.DwOneIdeal.nD → PrngReg), Pre_DwOneIdeal m →
    θ_run (Cert.DwOneIdeal.defs (F := Ideal)) (onTc (τ := Cert.DwOneIdeal.τ) (Cert.DwOneIdeal.main (F := Ideal))) ⟨m, fun _ => 0, g⟩ (fun r => (∀ c : Dev Cert.DwOneIdeal.nD,
      r.2.mem ((c.tc : Thread Cert.DwOneIdeal.nD Cert.DwOneIdeal.τ).loc Cert.DwOneIdeal.main_arg0) = m ((c.tc : Thread Cert.DwOneIdeal.nD Cert.DwOneIdeal.τ).loc Cert.DwOneIdeal.main_arg0)
      ∧ r.2.mem ((c.tc : Thread Cert.DwOneIdeal.nD Cert.DwOneIdeal.τ).loc Cert.DwOneIdeal.main_arg1) = m ((c.tc : Thread Cert.DwOneIdeal.nD Cert.DwOneIdeal.τ).loc Cert.DwOneIdeal.main_arg1))
      ∧ r.2.sem = fun _ => 0)

def quiescent_DwOneRefIdeal [hDwOneRefIdeal : Cert.DwOneRefIdeal.Facts] : Prop :=
  ∀ (m : (ℓ : Loc Cert.DwOneRefIdeal.nD Cert.DwOneRefIdeal.τ Cert.DwOneRefIdeal.sig) → Buf (Elt Ideal) ℓ) (g : Dev Cert.DwOneRefIdeal.nD → PrngReg), Pre_DwOneRefIdeal m →
    θ_run (Cert.DwOneRefIdeal.defs (F := Ideal)) (onTc (τ := Cert.DwOneRefIdeal.τ) (Cert.DwOneRefIdeal.main (F := Ideal))) ⟨m, fun _ => 0, g⟩ (fun r => (∀ c : Dev Cert.DwOneRefIdeal.nD,
      r.2.mem ((c.tc : Thread Cert.DwOneRefIdeal.nD Cert.DwOneRefIdeal.τ).loc Cert.DwOneRefIdeal.main_arg0) = m ((c.tc : Thread Cert.DwOneRefIdeal.nD Cert.DwOneRefIdeal.τ).loc Cert.DwOneRefIdeal.main_arg0)
      ∧ r.2.mem ((c.tc : Thread Cert.DwOneRefIdeal.nD Cert.DwOneRefIdeal.τ).loc Cert.DwOneRefIdeal.main_arg1) = m ((c.tc : Thread Cert.DwOneRefIdeal.nD Cert.DwOneRefIdeal.τ).loc Cert.DwOneRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DxGate [hDxGate : Cert.DxGate.Facts] : Prop :=
  ∀ (m : (ℓ : Loc Cert.DxGate.nD Cert.DxGate.τ Cert.DxGate.sig) → Buf (Elt Bits) ℓ) (g : Dev Cert.DxGate.nD → PrngReg), Pre_DxGate m →
    θ_run (Cert.DxGate.defs (F := Bits)) (onTc (τ := Cert.DxGate.τ) (Cert.DxGate.main (F := Bits))) ⟨m, fun _ => 0, g⟩ (fun r => (∀ c : Dev Cert.DxGate.nD,
      r.2.mem ((c.tc : Thread Cert.DxGate.nD Cert.DxGate.τ).loc Cert.DxGate.main_arg0) = m ((c.tc : Thread Cert.DxGate.nD Cert.DxGate.τ).loc Cert.DxGate.main_arg0)
      ∧ r.2.mem ((c.tc : Thread Cert.DxGate.nD Cert.DxGate.τ).loc Cert.DxGate.main_arg1) = m ((c.tc : Thread Cert.DxGate.nD Cert.DxGate.τ).loc Cert.DxGate.main_arg1)
      ∧ r.2.mem ((c.tc : Thread Cert.DxGate.nD Cert.DxGate.τ).loc Cert.DxGate.main_arg2) = m ((c.tc : Thread Cert.DxGate.nD Cert.DxGate.τ).loc Cert.DxGate.main_arg2)
      ∧ r.2.mem ((c.tc : Thread Cert.DxGate.nD Cert.DxGate.τ).loc Cert.DxGate.main_arg3) = m ((c.tc : Thread Cert.DxGate.nD Cert.DxGate.τ).loc Cert.DxGate.main_arg3)
      ∧ r.2.mem ((c.tc : Thread Cert.DxGate.nD Cert.DxGate.τ).loc Cert.DxGate.main_arg4) = m ((c.tc : Thread Cert.DxGate.nD Cert.DxGate.τ).loc Cert.DxGate.main_arg4))
      ∧ r.2.sem = fun _ => 0)

def quiescent_DxGateIdeal [hDxGateIdeal : Cert.DxGateIdeal.Facts] : Prop :=
  ∀ (m : (ℓ : Loc Cert.DxGateIdeal.nD Cert.DxGateIdeal.τ Cert.DxGateIdeal.sig) → Buf (Elt Ideal) ℓ) (g : Dev Cert.DxGateIdeal.nD → PrngReg), Pre_DxGateIdeal m →
    θ_run (Cert.DxGateIdeal.defs (F := Ideal)) (onTc (τ := Cert.DxGateIdeal.τ) (Cert.DxGateIdeal.main (F := Ideal))) ⟨m, fun _ => 0, g⟩ (fun r => (∀ c : Dev Cert.DxGateIdeal.nD,
      r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
      ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1)
      ∧ r.2.mem ((c.tc : Thread Cert.DxGateIdeal.nD Cert.DxGateIdeal.τ).loc Cert.DxGateIdeal.main_arg2) = m ((c.tc : Thread Cert.DxGateIdeal.nD Cert.DxGateIdeal.τ).loc Cert.DxGateIdeal.main_arg2)
      ∧ r.2.mem ((c.tc : Thread Cert.DxGateIdeal.nD Cert.DxGateIdeal.τ).loc Cert.DxGateIdeal.main_arg3) = m ((c.tc : Thread Cert.DxGateIdeal.nD Cert.DxGateIdeal.τ).loc Cert.DxGateIdeal.main_arg3)
      ∧ r.2.mem ((c.tc : Thread Cert.DxGateIdeal.nD Cert.DxGateIdeal.τ).loc Cert.DxGateIdeal.main_arg4) = m ((c.tc : Thread Cert.DxGateIdeal.nD Cert.DxGateIdeal.τ).loc Cert.DxGateIdeal.main_arg4))
      ∧ r.2.sem = fun _ => 0)

def quiescent_DxGateRefIdeal [hDxGateRefIdeal : Cert.DxGateRefIdeal.Facts] : Prop :=
  ∀ (m : (ℓ : Loc Cert.DxGateRefIdeal.nD Cert.DxGateRefIdeal.τ Cert.DxGateRefIdeal.sig) → Buf (Elt Ideal) ℓ) (g : Dev Cert.DxGateRefIdeal.nD → PrngReg), Pre_DxGateRefIdeal m →
    θ_run (Cert.DxGateRefIdeal.defs (F := Ideal)) (onTc (τ := Cert.DxGateRefIdeal.τ) (Cert.DxGateRefIdeal.main (F := Ideal))) ⟨m, fun _ => 0, g⟩ (fun r => (∀ c : Dev Cert.DxGateRefIdeal.nD,
      r.2.mem ((c.tc : Thread Cert.DxGateRefIdeal.nD Cert.DxGateRefIdeal.τ).loc Cert.DxGateRefIdeal.main_arg0) = m ((c.tc : Thread Cert.DxGateRefIdeal.nD Cert.DxGateRefIdeal.τ).loc Cert.DxGateRefIdeal.main_arg0)
      ∧ r.2.mem ((c.tc : Thread Cert.DxGateRefIdeal.nD Cert.DxGateRefIdeal.τ).loc Cert.DxGateRefIdeal.main_arg1) = m ((c.tc : Thread Cert.DxGateRefIdeal.nD Cert.DxGateRefIdeal.τ).loc Cert.DxGateRefIdeal.main_arg1)
      ∧ r.2.mem ((c.tc : Thread Cert.DxGateRefIdeal.nD Cert.DxGateRefIdeal.τ).loc Cert.DxGateRefIdeal.main_arg2) = m ((c.tc : Thread Cert.DxGateRefIdeal.nD Cert.DxGateRefIdeal.τ).loc Cert.DxGateRefIdeal.main_arg2)
      ∧ r.2.mem ((c.tc : Thread Cert.DxGateRefIdeal.nD Cert.DxGateRefIdeal.τ).loc Cert.DxGateRefIdeal.main_arg3) = m ((c.tc : Thread Cert.DxGateRefIdeal.nD Cert.DxGateRefIdeal.τ).loc Cert.DxGateRefIdeal.main_arg3)
      ∧ r.2.mem ((c.tc : Thread Cert.DxGateRefIdeal.nD Cert.DxGateRefIdeal.τ).loc Cert.DxGateRefIdeal.main_arg4) = m ((c.tc : Thread Cert.DxGateRefIdeal.nD Cert.DxGateRefIdeal.τ).loc Cert.DxGateRefIdeal.main_arg4))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutRefIdeal [hDxOutRefIdeal : Cert.DxOutRefIdeal.Facts] : Prop :=
  ∀ (m : (ℓ : Loc Cert.DxOutRefIdeal.nD Cert.DxOutRefIdeal.τ Cert.DxOutRefIdeal.sig) → Buf (Elt Ideal) ℓ) (g : Dev Cert.DxOutRefIdeal.nD → PrngReg), Pre_DxOutRefIdeal m →
    θ_run (Cert.DxOutRefIdeal.defs (F := Ideal)) (onTc (τ := Cert.DxOutRefIdeal.τ) (Cert.DxOutRefIdeal.main (F := Ideal))) ⟨m, fun _ => 0, g⟩ (fun r => (∀ c : Dev Cert.DxOutRefIdeal.nD,
      r.2.mem ((c.tc : Thread Cert.DxOutRefIdeal.nD Cert.DxOutRefIdeal.τ).loc Cert.DxOutRefIdeal.main_arg0) = m ((c.tc : Thread Cert.DxOutRefIdeal.nD Cert.DxOutRefIdeal.τ).loc Cert.DxOutRefIdeal.main_arg0)
      ∧ r.2.mem ((c.tc : Thread Cert.DxOutRefIdeal.nD Cert.DxOutRefIdeal.τ).loc Cert.DxOutRefIdeal.main_arg1) = m ((c.tc : Thread Cert.DxOutRefIdeal.nD Cert.DxOutRefIdeal.τ).loc Cert.DxOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1)
      ∧ r.2.mem ((c.tc : Thread Cert.DxIn.nD Cert.DxIn.τ).loc Cert.DxIn.main_arg2) = m ((c.tc : Thread Cert.DxIn.nD Cert.DxIn.τ).loc Cert.DxIn.main_arg2)
      ∧ r.2.mem ((c.tc : Thread Cert.DxIn.nD Cert.DxIn.τ).loc Cert.DxIn.main_arg3) = m ((c.tc : Thread Cert.DxIn.nD Cert.DxIn.τ).loc Cert.DxIn.main_arg3)
      ∧ r.2.mem ((c.tc : Thread Cert.DxIn.nD Cert.DxIn.τ).loc Cert.DxIn.main_arg4) = m ((c.tc : Thread Cert.DxIn.nD Cert.DxIn.τ).loc Cert.DxIn.main_arg4))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
      ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
      ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
      ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4))
      ∧ r.2.sem = fun _ => 0)

def quiescent_DxInRefIdeal [hDxInRefIdeal : Cert.DxInRefIdeal.Facts] : Prop :=
  ∀ (m : (ℓ : Loc Cert.DxInRefIdeal.nD Cert.DxInRefIdeal.τ Cert.DxInRefIdeal.sig) → Buf (Elt Ideal) ℓ) (g : Dev Cert.DxInRefIdeal.nD → PrngReg), Pre_DxInRefIdeal m →
    θ_run (Cert.DxInRefIdeal.defs (F := Ideal)) (onTc (τ := Cert.DxInRefIdeal.τ) (Cert.DxInRefIdeal.main (F := Ideal))) ⟨m, fun _ => 0, g⟩ (fun r => (∀ c : Dev Cert.DxInRefIdeal.nD,
      r.2.mem ((c.tc : Thread Cert.DxInRefIdeal.nD Cert.DxInRefIdeal.τ).loc Cert.DxInRefIdeal.main_arg0) = m ((c.tc : Thread Cert.DxInRefIdeal.nD Cert.DxInRefIdeal.τ).loc Cert.DxInRefIdeal.main_arg0)
      ∧ r.2.mem ((c.tc : Thread Cert.DxInRefIdeal.nD Cert.DxInRefIdeal.τ).loc Cert.DxInRefIdeal.main_arg1) = m ((c.tc : Thread Cert.DxInRefIdeal.nD Cert.DxInRefIdeal.τ).loc Cert.DxInRefIdeal.main_arg1)
      ∧ r.2.mem ((c.tc : Thread Cert.DxInRefIdeal.nD Cert.DxInRefIdeal.τ).loc Cert.DxInRefIdeal.main_arg2) = m ((c.tc : Thread Cert.DxInRefIdeal.nD Cert.DxInRefIdeal.τ).loc Cert.DxInRefIdeal.main_arg2)
      ∧ r.2.mem ((c.tc : Thread Cert.DxInRefIdeal.nD Cert.DxInRefIdeal.τ).loc Cert.DxInRefIdeal.main_arg3) = m ((c.tc : Thread Cert.DxInRefIdeal.nD Cert.DxInRefIdeal.τ).loc Cert.DxInRefIdeal.main_arg3)
      ∧ r.2.mem ((c.tc : Thread Cert.DxInRefIdeal.nD Cert.DxInRefIdeal.τ).loc Cert.DxInRefIdeal.main_arg4) = m ((c.tc : Thread Cert.DxInRefIdeal.nD Cert.DxInRefIdeal.τ).loc Cert.DxInRefIdeal.main_arg4))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1)
      ∧ r.2.mem ((c.tc : Thread Cert.WOut.nD Cert.WOut.τ).loc Cert.WOut.main_arg2) = m ((c.tc : Thread Cert.WOut.nD Cert.WOut.τ).loc Cert.WOut.main_arg2)
      ∧ r.2.mem ((c.tc : Thread Cert.WOut.nD Cert.WOut.τ).loc Cert.WOut.main_arg3) = m ((c.tc : Thread Cert.WOut.nD Cert.WOut.τ).loc Cert.WOut.main_arg3))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
      ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
      ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1)
      ∧ r.2.mem ((c.tc : Thread Cert.WOutRefIdeal.nD Cert.WOutRefIdeal.τ).loc Cert.WOutRefIdeal.main_arg2) = m ((c.tc : Thread Cert.WOutRefIdeal.nD Cert.WOutRefIdeal.τ).loc Cert.WOutRefIdeal.main_arg2)
      ∧ r.2.mem ((c.tc : Thread Cert.WOutRefIdeal.nD Cert.WOutRefIdeal.τ).loc Cert.WOutRefIdeal.main_arg3) = m ((c.tc : Thread Cert.WOutRefIdeal.nD Cert.WOutRefIdeal.τ).loc Cert.WOutRefIdeal.main_arg3))
      ∧ r.2.sem = fun _ => 0)

def quiescent_FfTwo [hFfTwo : Cert.FfTwo.Facts] : Prop :=
  ∀ (m : (ℓ : Loc Cert.FfTwo.nD Cert.FfTwo.τ Cert.FfTwo.sig) → Buf (Elt Bits) ℓ) (g : Dev Cert.FfTwo.nD → PrngReg), Pre_FfTwo m →
    θ_run (Cert.FfTwo.defs (F := Bits)) (onTc (τ := Cert.FfTwo.τ) (Cert.FfTwo.main (F := Bits))) ⟨m, fun _ => 0, g⟩ (fun r => (∀ c : Dev Cert.FfTwo.nD,
      r.2.mem ((c.tc : Thread Cert.FfTwo.nD Cert.FfTwo.τ).loc Cert.FfTwo.main_arg0) = m ((c.tc : Thread Cert.FfTwo.nD Cert.FfTwo.τ).loc Cert.FfTwo.main_arg0)
      ∧ r.2.mem ((c.tc : Thread Cert.FfTwo.nD Cert.FfTwo.τ).loc Cert.FfTwo.main_arg1) = m ((c.tc : Thread Cert.FfTwo.nD Cert.FfTwo.τ).loc Cert.FfTwo.main_arg1)
      ∧ r.2.mem ((c.tc : Thread Cert.FfTwo.nD Cert.FfTwo.τ).loc Cert.FfTwo.main_arg2) = m ((c.tc : Thread Cert.FfTwo.nD Cert.FfTwo.τ).loc Cert.FfTwo.main_arg2)
      ∧ r.2.mem ((c.tc : Thread Cert.FfTwo.nD Cert.FfTwo.τ).loc Cert.FfTwo.main_arg3) = m ((c.tc : Thread Cert.FfTwo.nD Cert.FfTwo.τ).loc Cert.FfTwo.main_arg3))
      ∧ r.2.sem = fun _ => 0)

def quiescent_FfTwoIdeal [hFfTwoIdeal : Cert.FfTwoIdeal.Facts] : Prop :=
  ∀ (m : (ℓ : Loc Cert.FfTwoIdeal.nD Cert.FfTwoIdeal.τ Cert.FfTwoIdeal.sig) → Buf (Elt Ideal) ℓ) (g : Dev Cert.FfTwoIdeal.nD → PrngReg), Pre_FfTwoIdeal m →
    θ_run (Cert.FfTwoIdeal.defs (F := Ideal)) (onTc (τ := Cert.FfTwoIdeal.τ) (Cert.FfTwoIdeal.main (F := Ideal))) ⟨m, fun _ => 0, g⟩ (fun r => (∀ c : Dev Cert.FfTwoIdeal.nD,
      r.2.mem ((c.tc : Thread Cert.FfTwoIdeal.nD Cert.FfTwoIdeal.τ).loc Cert.FfTwoIdeal.main_arg0) = m ((c.tc : Thread Cert.FfTwoIdeal.nD Cert.FfTwoIdeal.τ).loc Cert.FfTwoIdeal.main_arg0)
      ∧ r.2.mem ((c.tc : Thread Cert.FfTwoIdeal.nD Cert.FfTwoIdeal.τ).loc Cert.FfTwoIdeal.main_arg1) = m ((c.tc : Thread Cert.FfTwoIdeal.nD Cert.FfTwoIdeal.τ).loc Cert.FfTwoIdeal.main_arg1)
      ∧ r.2.mem ((c.tc : Thread Cert.FfTwoIdeal.nD Cert.FfTwoIdeal.τ).loc Cert.FfTwoIdeal.main_arg2) = m ((c.tc : Thread Cert.FfTwoIdeal.nD Cert.FfTwoIdeal.τ).loc Cert.FfTwoIdeal.main_arg2)
      ∧ r.2.mem ((c.tc : Thread Cert.FfTwoIdeal.nD Cert.FfTwoIdeal.τ).loc Cert.FfTwoIdeal.main_arg3) = m ((c.tc : Thread Cert.FfTwoIdeal.nD Cert.FfTwoIdeal.τ).loc Cert.FfTwoIdeal.main_arg3))
      ∧ r.2.sem = fun _ => 0)

def quiescent_FfTwoRefIdeal [hFfTwoRefIdeal : Cert.FfTwoRefIdeal.Facts] : Prop :=
  ∀ (m : (ℓ : Loc Cert.FfTwoRefIdeal.nD Cert.FfTwoRefIdeal.τ Cert.FfTwoRefIdeal.sig) → Buf (Elt Ideal) ℓ) (g : Dev Cert.FfTwoRefIdeal.nD → PrngReg), Pre_FfTwoRefIdeal m →
    θ_run (Cert.FfTwoRefIdeal.defs (F := Ideal)) (onTc (τ := Cert.FfTwoRefIdeal.τ) (Cert.FfTwoRefIdeal.main (F := Ideal))) ⟨m, fun _ => 0, g⟩ (fun r => (∀ c : Dev Cert.FfTwoRefIdeal.nD,
      r.2.mem ((c.tc : Thread Cert.FfTwoRefIdeal.nD Cert.FfTwoRefIdeal.τ).loc Cert.FfTwoRefIdeal.main_arg0) = m ((c.tc : Thread Cert.FfTwoRefIdeal.nD Cert.FfTwoRefIdeal.τ).loc Cert.FfTwoRefIdeal.main_arg0)
      ∧ r.2.mem ((c.tc : Thread Cert.FfTwoRefIdeal.nD Cert.FfTwoRefIdeal.τ).loc Cert.FfTwoRefIdeal.main_arg1) = m ((c.tc : Thread Cert.FfTwoRefIdeal.nD Cert.FfTwoRefIdeal.τ).loc Cert.FfTwoRefIdeal.main_arg1)
      ∧ r.2.mem ((c.tc : Thread Cert.FfTwoRefIdeal.nD Cert.FfTwoRefIdeal.τ).loc Cert.FfTwoRefIdeal.main_arg2) = m ((c.tc : Thread Cert.FfTwoRefIdeal.nD Cert.FfTwoRefIdeal.τ).loc Cert.FfTwoRefIdeal.main_arg2)
      ∧ r.2.mem ((c.tc : Thread Cert.FfTwoRefIdeal.nD Cert.FfTwoRefIdeal.τ).loc Cert.FfTwoRefIdeal.main_arg3) = m ((c.tc : Thread Cert.FfTwoRefIdeal.nD Cert.FfTwoRefIdeal.τ).loc Cert.FfTwoRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_DwProj [hDwProj : Cert.DwProj.Facts] : Prop :=
  ∀ (m : (ℓ : Loc Cert.DwProj.nD Cert.DwProj.τ Cert.DwProj.sig) → Buf (Elt Bits) ℓ) (g : Dev Cert.DwProj.nD → PrngReg), Pre_DwProj m →
    θ_run (Cert.DwProj.defs (F := Bits)) (onTc (τ := Cert.DwProj.τ) (Cert.DwProj.main (F := Bits))) ⟨m, fun _ => 0, g⟩ (fun r => (∀ c : Dev Cert.DwProj.nD,
      r.2.mem ((c.tc : Thread Cert.DwProj.nD Cert.DwProj.τ).loc Cert.DwProj.main_arg0) = m ((c.tc : Thread Cert.DwProj.nD Cert.DwProj.τ).loc Cert.DwProj.main_arg0)
      ∧ r.2.mem ((c.tc : Thread Cert.DwProj.nD Cert.DwProj.τ).loc Cert.DwProj.main_arg1) = m ((c.tc : Thread Cert.DwProj.nD Cert.DwProj.τ).loc Cert.DwProj.main_arg1))
      ∧ r.2.sem = fun _ => 0)

def quiescent_DwProjIdeal [hDwProjIdeal : Cert.DwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg), Pre_DwProjIdeal m →
    θ_run (Cert.DwProjIdeal.defs (F := Ideal)) (onTc (τ := Cert.DwProjIdeal.τ) (Cert.DwProjIdeal.main (F := Ideal))) ⟨m, fun _ => 0, g⟩ (fun r => (∀ c : Dev Cert.DwProjIdeal.nD,
      r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
      ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ r.2.sem = fun _ => 0)

def quiescent_DwProjRefIdeal [hDwProjRefIdeal : Cert.DwProjRefIdeal.Facts] : Prop :=
  ∀ (m : (ℓ : Loc Cert.DwProjRefIdeal.nD Cert.DwProjRefIdeal.τ Cert.DwProjRefIdeal.sig) → Buf (Elt Ideal) ℓ) (g : Dev Cert.DwProjRefIdeal.nD → PrngReg), Pre_DwProjRefIdeal m →
    θ_run (Cert.DwProjRefIdeal.defs (F := Ideal)) (onTc (τ := Cert.DwProjRefIdeal.τ) (Cert.DwProjRefIdeal.main (F := Ideal))) ⟨m, fun _ => 0, g⟩ (fun r => (∀ c : Dev Cert.DwProjRefIdeal.nD,
      r.2.mem ((c.tc : Thread Cert.DwProjRefIdeal.nD Cert.DwProjRefIdeal.τ).loc Cert.DwProjRefIdeal.main_arg0) = m ((c.tc : Thread Cert.DwProjRefIdeal.nD Cert.DwProjRefIdeal.τ).loc Cert.DwProjRefIdeal.main_arg0)
      ∧ r.2.mem ((c.tc : Thread Cert.DwProjRefIdeal.nD Cert.DwProjRefIdeal.τ).loc Cert.DwProjRefIdeal.main_arg1) = m ((c.tc : Thread Cert.DwProjRefIdeal.nD Cert.DwProjRefIdeal.τ).loc Cert.DwProjRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_DwGlu [hDwGlu : Cert.DwGlu.Facts] : Prop :=
  ∀ (m : (ℓ : Loc Cert.DwGlu.nD Cert.DwGlu.τ Cert.DwGlu.sig) → Buf (Elt Bits) ℓ) (g : Dev Cert.DwGlu.nD → PrngReg), Pre_DwGlu m →
    θ_run (Cert.DwGlu.defs (F := Bits)) (onTc (τ := Cert.DwGlu.τ) (Cert.DwGlu.main (F := Bits))) ⟨m, fun _ => 0, g⟩ (fun r => (∀ c : Dev Cert.DwGlu.nD,
      r.2.mem ((c.tc : Thread Cert.DwGlu.nD Cert.DwGlu.τ).loc Cert.DwGlu.main_arg0) = m ((c.tc : Thread Cert.DwGlu.nD Cert.DwGlu.τ).loc Cert.DwGlu.main_arg0)
      ∧ r.2.mem ((c.tc : Thread Cert.DwGlu.nD Cert.DwGlu.τ).loc Cert.DwGlu.main_arg1) = m ((c.tc : Thread Cert.DwGlu.nD Cert.DwGlu.τ).loc Cert.DwGlu.main_arg1))
      ∧ r.2.sem = fun _ => 0)

def quiescent_DwGluIdeal [hDwGluIdeal : Cert.DwGluIdeal.Facts] : Prop :=
  ∀ (m : (ℓ : Loc Cert.DwGluIdeal.nD Cert.DwGluIdeal.τ Cert.DwGluIdeal.sig) → Buf (Elt Ideal) ℓ) (g : Dev Cert.DwGluIdeal.nD → PrngReg), Pre_DwGluIdeal m →
    θ_run (Cert.DwGluIdeal.defs (F := Ideal)) (onTc (τ := Cert.DwGluIdeal.τ) (Cert.DwGluIdeal.main (F := Ideal))) ⟨m, fun _ => 0, g⟩ (fun r => (∀ c : Dev Cert.DwGluIdeal.nD,
      r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
      ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ r.2.sem = fun _ => 0)

def quiescent_DwGluRefIdeal [hDwGluRefIdeal : Cert.DwGluRefIdeal.Facts] : Prop :=
  ∀ (m : (ℓ : Loc Cert.DwGluRefIdeal.nD Cert.DwGluRefIdeal.τ Cert.DwGluRefIdeal.sig) → Buf (Elt Ideal) ℓ) (g : Dev Cert.DwGluRefIdeal.nD → PrngReg), Pre_DwGluRefIdeal m →
    θ_run (Cert.DwGluRefIdeal.defs (F := Ideal)) (onTc (τ := Cert.DwGluRefIdeal.τ) (Cert.DwGluRefIdeal.main (F := Ideal))) ⟨m, fun _ => 0, g⟩ (fun r => (∀ c : Dev Cert.DwGluRefIdeal.nD,
      r.2.mem ((c.tc : Thread Cert.DwGluRefIdeal.nD Cert.DwGluRefIdeal.τ).loc Cert.DwGluRefIdeal.main_arg0) = m ((c.tc : Thread Cert.DwGluRefIdeal.nD Cert.DwGluRefIdeal.τ).loc Cert.DwGluRefIdeal.main_arg0)
      ∧ r.2.mem ((c.tc : Thread Cert.DwGluRefIdeal.nD Cert.DwGluRefIdeal.τ).loc Cert.DwGluRefIdeal.main_arg1) = m ((c.tc : Thread Cert.DwGluRefIdeal.nD Cert.DwGluRefIdeal.τ).loc Cert.DwGluRefIdeal.main_arg1))
      ∧ r.2.sem = fun _ => 0)

def quiescent_DxGlu [hDxGlu : Cert.DxGlu.Facts] : Prop :=
  ∀ (m : (ℓ : Loc Cert.DxGlu.nD Cert.DxGlu.τ Cert.DxGlu.sig) → Buf (Elt Bits) ℓ) (g : Dev Cert.DxGlu.nD → PrngReg), Pre_DxGlu m →
    θ_run (Cert.DxGlu.defs (F := Bits)) (onTc (τ := Cert.DxGlu.τ) (Cert.DxGlu.main (F := Bits))) ⟨m, fun _ => 0, g⟩ (fun r => (∀ c : Dev Cert.DxGlu.nD,
      r.2.mem ((c.tc : Thread Cert.DxGlu.nD Cert.DxGlu.τ).loc Cert.DxGlu.main_arg0) = m ((c.tc : Thread Cert.DxGlu.nD Cert.DxGlu.τ).loc Cert.DxGlu.main_arg0)
      ∧ r.2.mem ((c.tc : Thread Cert.DxGlu.nD Cert.DxGlu.τ).loc Cert.DxGlu.main_arg1) = m ((c.tc : Thread Cert.DxGlu.nD Cert.DxGlu.τ).loc Cert.DxGlu.main_arg1)
      ∧ r.2.mem ((c.tc : Thread Cert.DxGlu.nD Cert.DxGlu.τ).loc Cert.DxGlu.main_arg2) = m ((c.tc : Thread Cert.DxGlu.nD Cert.DxGlu.τ).loc Cert.DxGlu.main_arg2)
      ∧ r.2.mem ((c.tc : Thread Cert.DxGlu.nD Cert.DxGlu.τ).loc Cert.DxGlu.main_arg3) = m ((c.tc : Thread Cert.DxGlu.nD Cert.DxGlu.τ).loc Cert.DxGlu.main_arg3))
      ∧ r.2.sem = fun _ => 0)

def quiescent_DxGluIdeal [hDxGluIdeal : Cert.DxGluIdeal.Facts] : Prop :=
  ∀ (m : (ℓ : Loc Cert.DxGluIdeal.nD Cert.DxGluIdeal.τ Cert.DxGluIdeal.sig) → Buf (Elt Ideal) ℓ) (g : Dev Cert.DxGluIdeal.nD → PrngReg), Pre_DxGluIdeal m →
    θ_run (Cert.DxGluIdeal.defs (F := Ideal)) (onTc (τ := Cert.DxGluIdeal.τ) (Cert.DxGluIdeal.main (F := Ideal))) ⟨m, fun _ => 0, g⟩ (fun r => (∀ c : Dev Cert.DxGluIdeal.nD,
      r.2.mem ((c.tc : Thread Cert.DxGluIdeal.nD Cert.DxGluIdeal.τ).loc Cert.DxGluIdeal.main_arg0) = m ((c.tc : Thread Cert.DxGluIdeal.nD Cert.DxGluIdeal.τ).loc Cert.DxGluIdeal.main_arg0)
      ∧ r.2.mem ((c.tc : Thread Cert.DxGluIdeal.nD Cert.DxGluIdeal.τ).loc Cert.DxGluIdeal.main_arg1) = m ((c.tc : Thread Cert.DxGluIdeal.nD Cert.DxGluIdeal.τ).loc Cert.DxGluIdeal.main_arg1)
      ∧ r.2.mem ((c.tc : Thread Cert.DxGluIdeal.nD Cert.DxGluIdeal.τ).loc Cert.DxGluIdeal.main_arg2) = m ((c.tc : Thread Cert.DxGluIdeal.nD Cert.DxGluIdeal.τ).loc Cert.DxGluIdeal.main_arg2)
      ∧ r.2.mem ((c.tc : Thread Cert.DxGluIdeal.nD Cert.DxGluIdeal.τ).loc Cert.DxGluIdeal.main_arg3) = m ((c.tc : Thread Cert.DxGluIdeal.nD Cert.DxGluIdeal.τ).loc Cert.DxGluIdeal.main_arg3))
      ∧ r.2.sem = fun _ => 0)

def quiescent_DxGluIdeal_pre_finite20 [hDxGluIdeal : Cert.DxGluIdeal.Facts] [hPre_finite20 : Cert.Pre_finite20.Facts] : Prop :=
  ∀ (m : (ℓ : Loc Cert.DxGluIdeal.nD Cert.DxGluIdeal.τ Cert.DxGluIdeal.sig) → Buf (Elt Ideal) ℓ) (g : Dev Cert.DxGluIdeal.nD → PrngReg), Pre_DxGluIdeal_finite20 m →
    θ_run (Cert.DxGluIdeal.defs (F := Ideal)) (onTc (τ := Cert.DxGluIdeal.τ) (Cert.DxGluIdeal.main (F := Ideal))) ⟨m, fun _ => 0, g⟩ (fun r => (∀ c : Dev Cert.DxGluIdeal.nD,
      r.2.mem ((c.tc : Thread Cert.DxGluIdeal.nD Cert.DxGluIdeal.τ).loc Cert.DxGluIdeal.main_arg0) = m ((c.tc : Thread Cert.DxGluIdeal.nD Cert.DxGluIdeal.τ).loc Cert.DxGluIdeal.main_arg0)
      ∧ r.2.mem ((c.tc : Thread Cert.DxGluIdeal.nD Cert.DxGluIdeal.τ).loc Cert.DxGluIdeal.main_arg1) = m ((c.tc : Thread Cert.DxGluIdeal.nD Cert.DxGluIdeal.τ).loc Cert.DxGluIdeal.main_arg1)
      ∧ r.2.mem ((c.tc : Thread Cert.DxGluIdeal.nD Cert.DxGluIdeal.τ).loc Cert.DxGluIdeal.main_arg2) = m ((c.tc : Thread Cert.DxGluIdeal.nD Cert.DxGluIdeal.τ).loc Cert.DxGluIdeal.main_arg2)
      ∧ r.2.mem ((c.tc : Thread Cert.DxGluIdeal.nD Cert.DxGluIdeal.τ).loc Cert.DxGluIdeal.main_arg3) = m ((c.tc : Thread Cert.DxGluIdeal.nD Cert.DxGluIdeal.τ).loc Cert.DxGluIdeal.main_arg3))
      ∧ r.2.sem = fun _ => 0)

def quiescent_DxGluRefIdeal [hDxGluRefIdeal : Cert.DxGluRefIdeal.Facts] : Prop :=
  ∀ (m : (ℓ : Loc Cert.DxGluRefIdeal.nD Cert.DxGluRefIdeal.τ Cert.DxGluRefIdeal.sig) → Buf (Elt Ideal) ℓ) (g : Dev Cert.DxGluRefIdeal.nD → PrngReg), Pre_DxGluRefIdeal m →
    θ_run (Cert.DxGluRefIdeal.defs (F := Ideal)) (onTc (τ := Cert.DxGluRefIdeal.τ) (Cert.DxGluRefIdeal.main (F := Ideal))) ⟨m, fun _ => 0, g⟩ (fun r => (∀ c : Dev Cert.DxGluRefIdeal.nD,
      r.2.mem ((c.tc : Thread Cert.DxGluRefIdeal.nD Cert.DxGluRefIdeal.τ).loc Cert.DxGluRefIdeal.main_arg0) = m ((c.tc : Thread Cert.DxGluRefIdeal.nD Cert.DxGluRefIdeal.τ).loc Cert.DxGluRefIdeal.main_arg0)
      ∧ r.2.mem ((c.tc : Thread Cert.DxGluRefIdeal.nD Cert.DxGluRefIdeal.τ).loc Cert.DxGluRefIdeal.main_arg1) = m ((c.tc : Thread Cert.DxGluRefIdeal.nD Cert.DxGluRefIdeal.τ).loc Cert.DxGluRefIdeal.main_arg1)
      ∧ r.2.mem ((c.tc : Thread Cert.DxGluRefIdeal.nD Cert.DxGluRefIdeal.τ).loc Cert.DxGluRefIdeal.main_arg2) = m ((c.tc : Thread Cert.DxGluRefIdeal.nD Cert.DxGluRefIdeal.τ).loc Cert.DxGluRefIdeal.main_arg2)
      ∧ r.2.mem ((c.tc : Thread Cert.DxGluRefIdeal.nD Cert.DxGluRefIdeal.τ).loc Cert.DxGluRefIdeal.main_arg3) = m ((c.tc : Thread Cert.DxGluRefIdeal.nD Cert.DxGluRefIdeal.τ).loc Cert.DxGluRefIdeal.main_arg3))
      ∧ r.2.sem = fun _ => 0)

def quiescent_DxGluRefIdeal_pre_finite20 [hDxGluRefIdeal : Cert.DxGluRefIdeal.Facts] [hPre_finite20 : Cert.Pre_finite20.Facts] : Prop :=
  ∀ (m : (ℓ : Loc Cert.DxGluRefIdeal.nD Cert.DxGluRefIdeal.τ Cert.DxGluRefIdeal.sig) → Buf (Elt Ideal) ℓ) (g : Dev Cert.DxGluRefIdeal.nD → PrngReg), Pre_DxGluRefIdeal_finite20 m →
    θ_run (Cert.DxGluRefIdeal.defs (F := Ideal)) (onTc (τ := Cert.DxGluRefIdeal.τ) (Cert.DxGluRefIdeal.main (F := Ideal))) ⟨m, fun _ => 0, g⟩ (fun r => (∀ c : Dev Cert.DxGluRefIdeal.nD,
      r.2.mem ((c.tc : Thread Cert.DxGluRefIdeal.nD Cert.DxGluRefIdeal.τ).loc Cert.DxGluRefIdeal.main_arg0) = m ((c.tc : Thread Cert.DxGluRefIdeal.nD Cert.DxGluRefIdeal.τ).loc Cert.DxGluRefIdeal.main_arg0)
      ∧ r.2.mem ((c.tc : Thread Cert.DxGluRefIdeal.nD Cert.DxGluRefIdeal.τ).loc Cert.DxGluRefIdeal.main_arg1) = m ((c.tc : Thread Cert.DxGluRefIdeal.nD Cert.DxGluRefIdeal.τ).loc Cert.DxGluRefIdeal.main_arg1)
      ∧ r.2.mem ((c.tc : Thread Cert.DxGluRefIdeal.nD Cert.DxGluRefIdeal.τ).loc Cert.DxGluRefIdeal.main_arg2) = m ((c.tc : Thread Cert.DxGluRefIdeal.nD Cert.DxGluRefIdeal.τ).loc Cert.DxGluRefIdeal.main_arg2)
      ∧ r.2.mem ((c.tc : Thread Cert.DxGluRefIdeal.nD Cert.DxGluRefIdeal.τ).loc Cert.DxGluRefIdeal.main_arg3) = m ((c.tc : Thread Cert.DxGluRefIdeal.nD Cert.DxGluRefIdeal.τ).loc Cert.DxGluRefIdeal.main_arg3))
      ∧ r.2.sem = fun _ => 0)

def quiescent_PleElem [hPleElem : Cert.PleElem.Facts] : Prop :=
  ∀ (m : (ℓ : Loc Cert.PleElem.nD Cert.PleElem.τ Cert.PleElem.sig) → Buf (Elt Bits) ℓ) (g : Dev Cert.PleElem.nD → PrngReg), Pre_PleElem m →
    θ_run (Cert.PleElem.defs (F := Bits)) (onTc (τ := Cert.PleElem.τ) (Cert.PleElem.main (F := Bits))) ⟨m, fun _ => 0, g⟩ (fun r => (∀ c : Dev Cert.PleElem.nD,
      r.2.mem ((c.tc : Thread Cert.PleElem.nD Cert.PleElem.τ).loc Cert.PleElem.main_arg0) = m ((c.tc : Thread Cert.PleElem.nD Cert.PleElem.τ).loc Cert.PleElem.main_arg0)
      ∧ r.2.mem ((c.tc : Thread Cert.PleElem.nD Cert.PleElem.τ).loc Cert.PleElem.main_arg1) = m ((c.tc : Thread Cert.PleElem.nD Cert.PleElem.τ).loc Cert.PleElem.main_arg1)
      ∧ r.2.mem ((c.tc : Thread Cert.PleElem.nD Cert.PleElem.τ).loc Cert.PleElem.main_arg2) = m ((c.tc : Thread Cert.PleElem.nD Cert.PleElem.τ).loc Cert.PleElem.main_arg2))
      ∧ r.2.sem = fun _ => 0)

def quiescent_PleElemIdeal [hPleElemIdeal : Cert.PleElemIdeal.Facts] : Prop :=
  ∀ (m : (ℓ : Loc Cert.PleElemIdeal.nD Cert.PleElemIdeal.τ Cert.PleElemIdeal.sig) → Buf (Elt Ideal) ℓ) (g : Dev Cert.PleElemIdeal.nD → PrngReg), Pre_PleElemIdeal m →
    θ_run (Cert.PleElemIdeal.defs (F := Ideal)) (onTc (τ := Cert.PleElemIdeal.τ) (Cert.PleElemIdeal.main (F := Ideal))) ⟨m, fun _ => 0, g⟩ (fun r => (∀ c : Dev Cert.PleElemIdeal.nD,
      r.2.mem ((c.tc : Thread Cert.PleElemIdeal.nD Cert.PleElemIdeal.τ).loc Cert.PleElemIdeal.main_arg0) = m ((c.tc : Thread Cert.PleElemIdeal.nD Cert.PleElemIdeal.τ).loc Cert.PleElemIdeal.main_arg0)
      ∧ r.2.mem ((c.tc : Thread Cert.PleElemIdeal.nD Cert.PleElemIdeal.τ).loc Cert.PleElemIdeal.main_arg1) = m ((c.tc : Thread Cert.PleElemIdeal.nD Cert.PleElemIdeal.τ).loc Cert.PleElemIdeal.main_arg1)
      ∧ r.2.mem ((c.tc : Thread Cert.PleElemIdeal.nD Cert.PleElemIdeal.τ).loc Cert.PleElemIdeal.main_arg2) = m ((c.tc : Thread Cert.PleElemIdeal.nD Cert.PleElemIdeal.τ).loc Cert.PleElemIdeal.main_arg2))
      ∧ r.2.sem = fun _ => 0)

def quiescent_PleElemRefIdeal [hPleElemRefIdeal : Cert.PleElemRefIdeal.Facts] : Prop :=
  ∀ (m : (ℓ : Loc Cert.PleElemRefIdeal.nD Cert.PleElemRefIdeal.τ Cert.PleElemRefIdeal.sig) → Buf (Elt Ideal) ℓ) (g : Dev Cert.PleElemRefIdeal.nD → PrngReg), Pre_PleElemRefIdeal m →
    θ_run (Cert.PleElemRefIdeal.defs (F := Ideal)) (onTc (τ := Cert.PleElemRefIdeal.τ) (Cert.PleElemRefIdeal.main (F := Ideal))) ⟨m, fun _ => 0, g⟩ (fun r => (∀ c : Dev Cert.PleElemRefIdeal.nD,
      r.2.mem ((c.tc : Thread Cert.PleElemRefIdeal.nD Cert.PleElemRefIdeal.τ).loc Cert.PleElemRefIdeal.main_arg0) = m ((c.tc : Thread Cert.PleElemRefIdeal.nD Cert.PleElemRefIdeal.τ).loc Cert.PleElemRefIdeal.main_arg0)
      ∧ r.2.mem ((c.tc : Thread Cert.PleElemRefIdeal.nD Cert.PleElemRefIdeal.τ).loc Cert.PleElemRefIdeal.main_arg1) = m ((c.tc : Thread Cert.PleElemRefIdeal.nD Cert.PleElemRefIdeal.τ).loc Cert.PleElemRefIdeal.main_arg1)
      ∧ r.2.mem ((c.tc : Thread Cert.PleElemRefIdeal.nD Cert.PleElemRefIdeal.τ).loc Cert.PleElemRefIdeal.main_arg2) = m ((c.tc : Thread Cert.PleElemRefIdeal.nD Cert.PleElemRefIdeal.τ).loc Cert.PleElemRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_DMerge [hDMerge : Cert.DMerge.Facts] : Prop :=
  ∀ (m : (ℓ : Loc Cert.DMerge.nD Cert.DMerge.τ Cert.DMerge.sig) → Buf (Elt Bits) ℓ) (g : Dev Cert.DMerge.nD → PrngReg), Pre_DMerge m →
    θ_run (Cert.DMerge.defs (F := Bits)) (onTc (τ := Cert.DMerge.τ) (Cert.DMerge.main (F := Bits))) ⟨m, fun _ => 0, g⟩ (fun r => (∀ c : Dev Cert.DMerge.nD,
      r.2.mem ((c.tc : Thread Cert.DMerge.nD Cert.DMerge.τ).loc Cert.DMerge.main_arg0) = m ((c.tc : Thread Cert.DMerge.nD Cert.DMerge.τ).loc Cert.DMerge.main_arg0)
      ∧ r.2.mem ((c.tc : Thread Cert.DMerge.nD Cert.DMerge.τ).loc Cert.DMerge.main_arg1) = m ((c.tc : Thread Cert.DMerge.nD Cert.DMerge.τ).loc Cert.DMerge.main_arg1)
      ∧ r.2.mem ((c.tc : Thread Cert.DMerge.nD Cert.DMerge.τ).loc Cert.DMerge.main_arg2) = m ((c.tc : Thread Cert.DMerge.nD Cert.DMerge.τ).loc Cert.DMerge.main_arg2)
      ∧ r.2.mem ((c.tc : Thread Cert.DMerge.nD Cert.DMerge.τ).loc Cert.DMerge.main_arg3) = m ((c.tc : Thread Cert.DMerge.nD Cert.DMerge.τ).loc Cert.DMerge.main_arg3)
      ∧ r.2.mem ((c.tc : Thread Cert.DMerge.nD Cert.DMerge.τ).loc Cert.DMerge.main_arg4) = m ((c.tc : Thread Cert.DMerge.nD Cert.DMerge.τ).loc Cert.DMerge.main_arg4))
      ∧ r.2.sem = fun _ => 0)

def quiescent_DMergeIdeal [hDMergeIdeal : Cert.DMergeIdeal.Facts] : Prop :=
  ∀ (m : (ℓ : Loc Cert.DMergeIdeal.nD Cert.DMergeIdeal.τ Cert.DMergeIdeal.sig) → Buf (Elt Ideal) ℓ) (g : Dev Cert.DMergeIdeal.nD → PrngReg), Pre_DMergeIdeal m →
    θ_run (Cert.DMergeIdeal.defs (F := Ideal)) (onTc (τ := Cert.DMergeIdeal.τ) (Cert.DMergeIdeal.main (F := Ideal))) ⟨m, fun _ => 0, g⟩ (fun r => (∀ c : Dev Cert.DMergeIdeal.nD,
      r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
      ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
      ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2)
      ∧ r.2.mem ((c.tc : Thread Cert.DMergeIdeal.nD Cert.DMergeIdeal.τ).loc Cert.DMergeIdeal.main_arg3) = m ((c.tc : Thread Cert.DMergeIdeal.nD Cert.DMergeIdeal.τ).loc Cert.DMergeIdeal.main_arg3)
      ∧ r.2.mem ((c.tc : Thread Cert.DMergeIdeal.nD Cert.DMergeIdeal.τ).loc Cert.DMergeIdeal.main_arg4) = m ((c.tc : Thread Cert.DMergeIdeal.nD Cert.DMergeIdeal.τ).loc Cert.DMergeIdeal.main_arg4))
      ∧ r.2.sem = fun _ => 0)

def quiescent_DMergeRefIdeal [hDMergeRefIdeal : Cert.DMergeRefIdeal.Facts] : Prop :=
  ∀ (m : (ℓ : Loc Cert.DMergeRefIdeal.nD Cert.DMergeRefIdeal.τ Cert.DMergeRefIdeal.sig) → Buf (Elt Ideal) ℓ) (g : Dev Cert.DMergeRefIdeal.nD → PrngReg), Pre_DMergeRefIdeal m →
    θ_run (Cert.DMergeRefIdeal.defs (F := Ideal)) (onTc (τ := Cert.DMergeRefIdeal.τ) (Cert.DMergeRefIdeal.main (F := Ideal))) ⟨m, fun _ => 0, g⟩ (fun r => (∀ c : Dev Cert.DMergeRefIdeal.nD,
      r.2.mem ((c.tc : Thread Cert.DMergeRefIdeal.nD Cert.DMergeRefIdeal.τ).loc Cert.DMergeRefIdeal.main_arg0) = m ((c.tc : Thread Cert.DMergeRefIdeal.nD Cert.DMergeRefIdeal.τ).loc Cert.DMergeRefIdeal.main_arg0)
      ∧ r.2.mem ((c.tc : Thread Cert.DMergeRefIdeal.nD Cert.DMergeRefIdeal.τ).loc Cert.DMergeRefIdeal.main_arg1) = m ((c.tc : Thread Cert.DMergeRefIdeal.nD Cert.DMergeRefIdeal.τ).loc Cert.DMergeRefIdeal.main_arg1)
      ∧ r.2.mem ((c.tc : Thread Cert.DMergeRefIdeal.nD Cert.DMergeRefIdeal.τ).loc Cert.DMergeRefIdeal.main_arg2) = m ((c.tc : Thread Cert.DMergeRefIdeal.nD Cert.DMergeRefIdeal.τ).loc Cert.DMergeRefIdeal.main_arg2)
      ∧ r.2.mem ((c.tc : Thread Cert.DMergeRefIdeal.nD Cert.DMergeRefIdeal.τ).loc Cert.DMergeRefIdeal.main_arg3) = m ((c.tc : Thread Cert.DMergeRefIdeal.nD Cert.DMergeRefIdeal.τ).loc Cert.DMergeRefIdeal.main_arg3)
      ∧ r.2.mem ((c.tc : Thread Cert.DMergeRefIdeal.nD Cert.DMergeRefIdeal.τ).loc Cert.DMergeRefIdeal.main_arg4) = m ((c.tc : Thread Cert.DMergeRefIdeal.nD Cert.DMergeRefIdeal.τ).loc Cert.DMergeRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite25 [hAttnIdeal : Cert.AttnIdeal.Facts] [hPre_finite25 : Cert.Pre_finite25.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite25 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite25 [hAttnRefIdeal : Cert.AttnRefIdeal.Facts] [hPre_finite25 : Cert.Pre_finite25.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite25 m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_DAttn [hDAttn : Cert.DAttn.Facts] : Prop :=
  ∀ (m : (ℓ : Loc Cert.DAttn.nD Cert.DAttn.τ Cert.DAttn.sig) → Buf (Elt Bits) ℓ) (g : Dev Cert.DAttn.nD → PrngReg), Pre_DAttn m →
    θ_run (Cert.DAttn.defs (F := Bits)) (onTc (τ := Cert.DAttn.τ) (Cert.DAttn.main (F := Bits))) ⟨m, fun _ => 0, g⟩ (fun r => (∀ c : Dev Cert.DAttn.nD,
      r.2.mem ((c.tc : Thread Cert.DAttn.nD Cert.DAttn.τ).loc Cert.DAttn.main_arg0) = m ((c.tc : Thread Cert.DAttn.nD Cert.DAttn.τ).loc Cert.DAttn.main_arg0)
      ∧ r.2.mem ((c.tc : Thread Cert.DAttn.nD Cert.DAttn.τ).loc Cert.DAttn.main_arg1) = m ((c.tc : Thread Cert.DAttn.nD Cert.DAttn.τ).loc Cert.DAttn.main_arg1)
      ∧ r.2.mem ((c.tc : Thread Cert.DAttn.nD Cert.DAttn.τ).loc Cert.DAttn.main_arg2) = m ((c.tc : Thread Cert.DAttn.nD Cert.DAttn.τ).loc Cert.DAttn.main_arg2)
      ∧ r.2.mem ((c.tc : Thread Cert.DAttn.nD Cert.DAttn.τ).loc Cert.DAttn.main_arg3) = m ((c.tc : Thread Cert.DAttn.nD Cert.DAttn.τ).loc Cert.DAttn.main_arg3)
      ∧ r.2.mem ((c.tc : Thread Cert.DAttn.nD Cert.DAttn.τ).loc Cert.DAttn.main_arg4) = m ((c.tc : Thread Cert.DAttn.nD Cert.DAttn.τ).loc Cert.DAttn.main_arg4))
      ∧ r.2.sem = fun _ => 0)

def quiescent_DAttnIdeal [hDAttnIdeal : Cert.DAttnIdeal.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1)
      ∧ r.2.mem ((c.tc : Thread Cert.DAttnIdeal.nD Cert.DAttnIdeal.τ).loc Cert.DAttnIdeal.main_arg2) = m ((c.tc : Thread Cert.DAttnIdeal.nD Cert.DAttnIdeal.τ).loc Cert.DAttnIdeal.main_arg2)
      ∧ r.2.mem ((c.tc : Thread Cert.DAttnIdeal.nD Cert.DAttnIdeal.τ).loc Cert.DAttnIdeal.main_arg3) = m ((c.tc : Thread Cert.DAttnIdeal.nD Cert.DAttnIdeal.τ).loc Cert.DAttnIdeal.main_arg3)
      ∧ r.2.mem ((c.tc : Thread Cert.DAttnIdeal.nD Cert.DAttnIdeal.τ).loc Cert.DAttnIdeal.main_arg4) = m ((c.tc : Thread Cert.DAttnIdeal.nD Cert.DAttnIdeal.τ).loc Cert.DAttnIdeal.main_arg4))
      ∧ r.2.sem = fun _ => 0)

def quiescent_DAttnIdeal_pre_finite26 [hDAttnIdeal : Cert.DAttnIdeal.Facts] [hPre_finite26 : Cert.Pre_finite26.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal_finite26 m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1)
      ∧ r.2.mem ((c.tc : Thread Cert.DAttnIdeal.nD Cert.DAttnIdeal.τ).loc Cert.DAttnIdeal.main_arg2) = m ((c.tc : Thread Cert.DAttnIdeal.nD Cert.DAttnIdeal.τ).loc Cert.DAttnIdeal.main_arg2)
      ∧ r.2.mem ((c.tc : Thread Cert.DAttnIdeal.nD Cert.DAttnIdeal.τ).loc Cert.DAttnIdeal.main_arg3) = m ((c.tc : Thread Cert.DAttnIdeal.nD Cert.DAttnIdeal.τ).loc Cert.DAttnIdeal.main_arg3)
      ∧ r.2.mem ((c.tc : Thread Cert.DAttnIdeal.nD Cert.DAttnIdeal.τ).loc Cert.DAttnIdeal.main_arg4) = m ((c.tc : Thread Cert.DAttnIdeal.nD Cert.DAttnIdeal.τ).loc Cert.DAttnIdeal.main_arg4))
      ∧ r.2.sem = fun _ => 0)

def quiescent_DAttnRefIdeal [hDAttnRefIdeal : Cert.DAttnRefIdeal.Facts] : Prop :=
  ∀ (m : (ℓ : Loc Cert.DAttnRefIdeal.nD Cert.DAttnRefIdeal.τ Cert.DAttnRefIdeal.sig) → Buf (Elt Ideal) ℓ) (g : Dev Cert.DAttnRefIdeal.nD → PrngReg), Pre_DAttnRefIdeal m →
    θ_run (Cert.DAttnRefIdeal.defs (F := Ideal)) (onTc (τ := Cert.DAttnRefIdeal.τ) (Cert.DAttnRefIdeal.main (F := Ideal))) ⟨m, fun _ => 0, g⟩ (fun r => (∀ c : Dev Cert.DAttnRefIdeal.nD,
      r.2.mem ((c.tc : Thread Cert.DAttnRefIdeal.nD Cert.DAttnRefIdeal.τ).loc Cert.DAttnRefIdeal.main_arg0) = m ((c.tc : Thread Cert.DAttnRefIdeal.nD Cert.DAttnRefIdeal.τ).loc Cert.DAttnRefIdeal.main_arg0)
      ∧ r.2.mem ((c.tc : Thread Cert.DAttnRefIdeal.nD Cert.DAttnRefIdeal.τ).loc Cert.DAttnRefIdeal.main_arg1) = m ((c.tc : Thread Cert.DAttnRefIdeal.nD Cert.DAttnRefIdeal.τ).loc Cert.DAttnRefIdeal.main_arg1)
      ∧ r.2.mem ((c.tc : Thread Cert.DAttnRefIdeal.nD Cert.DAttnRefIdeal.τ).loc Cert.DAttnRefIdeal.main_arg2) = m ((c.tc : Thread Cert.DAttnRefIdeal.nD Cert.DAttnRefIdeal.τ).loc Cert.DAttnRefIdeal.main_arg2)
      ∧ r.2.mem ((c.tc : Thread Cert.DAttnRefIdeal.nD Cert.DAttnRefIdeal.τ).loc Cert.DAttnRefIdeal.main_arg3) = m ((c.tc : Thread Cert.DAttnRefIdeal.nD Cert.DAttnRefIdeal.τ).loc Cert.DAttnRefIdeal.main_arg3)
      ∧ r.2.mem ((c.tc : Thread Cert.DAttnRefIdeal.nD Cert.DAttnRefIdeal.τ).loc Cert.DAttnRefIdeal.main_arg4) = m ((c.tc : Thread Cert.DAttnRefIdeal.nD Cert.DAttnRefIdeal.τ).loc Cert.DAttnRefIdeal.main_arg4))
      ∧ r.2.sem = fun _ => 0)

def quiescent_DAttnRefIdeal_pre_finite26 [hDAttnRefIdeal : Cert.DAttnRefIdeal.Facts] [hPre_finite26 : Cert.Pre_finite26.Facts] : Prop :=
  ∀ (m : (ℓ : Loc Cert.DAttnRefIdeal.nD Cert.DAttnRefIdeal.τ Cert.DAttnRefIdeal.sig) → Buf (Elt Ideal) ℓ) (g : Dev Cert.DAttnRefIdeal.nD → PrngReg), Pre_DAttnRefIdeal_finite26 m →
    θ_run (Cert.DAttnRefIdeal.defs (F := Ideal)) (onTc (τ := Cert.DAttnRefIdeal.τ) (Cert.DAttnRefIdeal.main (F := Ideal))) ⟨m, fun _ => 0, g⟩ (fun r => (∀ c : Dev Cert.DAttnRefIdeal.nD,
      r.2.mem ((c.tc : Thread Cert.DAttnRefIdeal.nD Cert.DAttnRefIdeal.τ).loc Cert.DAttnRefIdeal.main_arg0) = m ((c.tc : Thread Cert.DAttnRefIdeal.nD Cert.DAttnRefIdeal.τ).loc Cert.DAttnRefIdeal.main_arg0)
      ∧ r.2.mem ((c.tc : Thread Cert.DAttnRefIdeal.nD Cert.DAttnRefIdeal.τ).loc Cert.DAttnRefIdeal.main_arg1) = m ((c.tc : Thread Cert.DAttnRefIdeal.nD Cert.DAttnRefIdeal.τ).loc Cert.DAttnRefIdeal.main_arg1)
      ∧ r.2.mem ((c.tc : Thread Cert.DAttnRefIdeal.nD Cert.DAttnRefIdeal.τ).loc Cert.DAttnRefIdeal.main_arg2) = m ((c.tc : Thread Cert.DAttnRefIdeal.nD Cert.DAttnRefIdeal.τ).loc Cert.DAttnRefIdeal.main_arg2)
      ∧ r.2.mem ((c.tc : Thread Cert.DAttnRefIdeal.nD Cert.DAttnRefIdeal.τ).loc Cert.DAttnRefIdeal.main_arg3) = m ((c.tc : Thread Cert.DAttnRefIdeal.nD Cert.DAttnRefIdeal.τ).loc Cert.DAttnRefIdeal.main_arg3)
      ∧ r.2.mem ((c.tc : Thread Cert.DAttnRefIdeal.nD Cert.DAttnRefIdeal.τ).loc Cert.DAttnRefIdeal.main_arg4) = m ((c.tc : Thread Cert.DAttnRefIdeal.nD Cert.DAttnRefIdeal.τ).loc Cert.DAttnRefIdeal.main_arg4))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v133) = v3 c
          ∧ r.2.mem ((c.tc : Thread Cert.ReferenceIdeal.nD Cert.ReferenceIdeal.τ).loc Cert.ReferenceIdeal.main_v137) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v4)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v4) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v3) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_DxTwo_DxTwoIdeal : Prop :=
  True

def algebraic_DxTwoIdeal_DxTwoRefIdeal [hDxTwoIdeal : Cert.DxTwoIdeal.Facts] [hDxTwoRefIdeal : Cert.DxTwoRefIdeal.Facts] : Prop :=
  ∀ (m : (ℓ : Loc Cert.DxTwoIdeal.nD Cert.DxTwoIdeal.τ Cert.DxTwoIdeal.sig) → Buf (Elt Ideal) ℓ) (g : Dev Cert.DxTwoIdeal.nD → PrngReg)
    (m' : (ℓ : Loc Cert.DxTwoRefIdeal.nD Cert.DxTwoRefIdeal.τ Cert.DxTwoRefIdeal.sig) → Buf (Elt Ideal) ℓ) (g' : Dev Cert.DxTwoRefIdeal.nD → PrngReg), Pre_DxTwoIdeal m →
    (∀ c : Dev Cert.DxTwoIdeal.nD,
      m' ((c.tc : Thread Cert.DxTwoRefIdeal.nD Cert.DxTwoRefIdeal.τ).loc Cert.DxTwoRefIdeal.main_arg0) = m ((c.tc : Thread Cert.DxTwoIdeal.nD Cert.DxTwoIdeal.τ).loc Cert.DxTwoIdeal.main_arg0)
      ∧ m' ((c.tc : Thread Cert.DxTwoRefIdeal.nD Cert.DxTwoRefIdeal.τ).loc Cert.DxTwoRefIdeal.main_arg1) = m ((c.tc : Thread Cert.DxTwoIdeal.nD Cert.DxTwoIdeal.τ).loc Cert.DxTwoIdeal.main_arg1)
      ∧ m' ((c.tc : Thread Cert.DxTwoRefIdeal.nD Cert.DxTwoRefIdeal.τ).loc Cert.DxTwoRefIdeal.main_arg2) = m ((c.tc : Thread Cert.DxTwoIdeal.nD Cert.DxTwoIdeal.τ).loc Cert.DxTwoIdeal.main_arg2)) →
    ∃ (v0 : (c : Dev Cert.DxTwoIdeal.nD) → Buf (Elt Ideal) ((c.tc : Thread Cert.DxTwoIdeal.nD Cert.DxTwoIdeal.τ).loc Cert.DxTwoIdeal.main_v5)),
      θ_run (Cert.DxTwoIdeal.defs (F := Ideal)) (onTc (τ := Cert.DxTwoIdeal.τ) (Cert.DxTwoIdeal.main (F := Ideal))) ⟨m, fun _ => 0, g⟩ (fun r => ∀ c : Dev Cert.DxTwoIdeal.nD,
          r.2.mem ((c.tc : Thread Cert.DxTwoIdeal.nD Cert.DxTwoIdeal.τ).loc Cert.DxTwoIdeal.main_v5) = v0 c
          ∧ r.2.mem ((c.tc : Thread Cert.DxTwoIdeal.nD Cert.DxTwoIdeal.τ).loc Cert.DxTwoIdeal.main_arg0) = m ((c.tc : Thread Cert.DxTwoIdeal.nD Cert.DxTwoIdeal.τ).loc Cert.DxTwoIdeal.main_arg0)
          ∧ r.2.mem ((c.tc : Thread Cert.DxTwoIdeal.nD Cert.DxTwoIdeal.τ).loc Cert.DxTwoIdeal.main_arg1) = m ((c.tc : Thread Cert.DxTwoIdeal.nD Cert.DxTwoIdeal.τ).loc Cert.DxTwoIdeal.main_arg1)
          ∧ r.2.mem ((c.tc : Thread Cert.DxTwoIdeal.nD Cert.DxTwoIdeal.τ).loc Cert.DxTwoIdeal.main_arg2) = m ((c.tc : Thread Cert.DxTwoIdeal.nD Cert.DxTwoIdeal.τ).loc Cert.DxTwoIdeal.main_arg2))
      ∧ θ_run (Cert.DxTwoRefIdeal.defs (F := Ideal)) (onTc (τ := Cert.DxTwoRefIdeal.τ) (Cert.DxTwoRefIdeal.main (F := Ideal))) ⟨m', fun _ => 0, g'⟩ (fun r => ∀ c : Dev Cert.DxTwoRefIdeal.nD,
          r.2.mem ((c.tc : Thread Cert.DxTwoRefIdeal.nD Cert.DxTwoRefIdeal.τ).loc Cert.DxTwoRefIdeal.main_v12) = v0 c
          ∧ r.2.mem ((c.tc : Thread Cert.DxTwoRefIdeal.nD Cert.DxTwoRefIdeal.τ).loc Cert.DxTwoRefIdeal.main_arg0) = m' ((c.tc : Thread Cert.DxTwoRefIdeal.nD Cert.DxTwoRefIdeal.τ).loc Cert.DxTwoRefIdeal.main_arg0)
          ∧ r.2.mem ((c.tc : Thread Cert.DxTwoRefIdeal.nD Cert.DxTwoRefIdeal.τ).loc Cert.DxTwoRefIdeal.main_arg1) = m' ((c.tc : Thread Cert.DxTwoRefIdeal.nD Cert.DxTwoRefIdeal.τ).loc Cert.DxTwoRefIdeal.main_arg1)
          ∧ r.2.mem ((c.tc : Thread Cert.DxTwoRefIdeal.nD Cert.DxTwoRefIdeal.τ).loc Cert.DxTwoRefIdeal.main_arg2) = m' ((c.tc : Thread Cert.DxTwoRefIdeal.nD Cert.DxTwoRefIdeal.τ).loc Cert.DxTwoRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v5_0)) (v1 : (c : Dev Cert.NormIdeal.nD) → Buf (Elt Ideal) ((c.tc : Thread Cert.NormIdeal.nD Cert.NormIdeal.τ).loc Cert.NormIdeal.main_v5_1)) (v2 : (c : Dev Cert.NormIdeal.nD) → Buf (Elt Ideal) ((c.tc : Thread Cert.NormIdeal.nD Cert.NormIdeal.τ).loc Cert.NormIdeal.main_v5_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v5_0) = v0 c
          ∧ r.2.mem ((c.tc : Thread Cert.NormIdeal.nD Cert.NormIdeal.τ).loc Cert.NormIdeal.main_v5_1) = v1 c
          ∧ r.2.mem ((c.tc : Thread Cert.NormIdeal.nD Cert.NormIdeal.τ).loc Cert.NormIdeal.main_v5_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v38) = v0 c
          ∧ r.2.mem ((c.tc : Thread Cert.NormRefIdeal.nD Cert.NormRefIdeal.τ).loc Cert.NormRefIdeal.main_v39) = v1 c
          ∧ r.2.mem ((c.tc : Thread Cert.NormRefIdeal.nD Cert.NormRefIdeal.τ).loc Cert.NormRefIdeal.main_v40) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_DwTwo_DwTwoIdeal : Prop :=
  True

def algebraic_DwTwoIdeal_DwTwoRefIdeal [hDwTwoIdeal : Cert.DwTwoIdeal.Facts] [hDwTwoRefIdeal : Cert.DwTwoRefIdeal.Facts] : Prop :=
  ∀ (m : (ℓ : Loc Cert.DwTwoIdeal.nD Cert.DwTwoIdeal.τ Cert.DwTwoIdeal.sig) → Buf (Elt Ideal) ℓ) (g : Dev Cert.DwTwoIdeal.nD → PrngReg)
    (m' : (ℓ : Loc Cert.DwTwoRefIdeal.nD Cert.DwTwoRefIdeal.τ Cert.DwTwoRefIdeal.sig) → Buf (Elt Ideal) ℓ) (g' : Dev Cert.DwTwoRefIdeal.nD → PrngReg), Pre_DwTwoIdeal m →
    (∀ c : Dev Cert.DwTwoIdeal.nD,
      m' ((c.tc : Thread Cert.DwTwoRefIdeal.nD Cert.DwTwoRefIdeal.τ).loc Cert.DwTwoRefIdeal.main_arg0) = m ((c.tc : Thread Cert.DwTwoIdeal.nD Cert.DwTwoIdeal.τ).loc Cert.DwTwoIdeal.main_arg0)
      ∧ m' ((c.tc : Thread Cert.DwTwoRefIdeal.nD Cert.DwTwoRefIdeal.τ).loc Cert.DwTwoRefIdeal.main_arg1) = m ((c.tc : Thread Cert.DwTwoIdeal.nD Cert.DwTwoIdeal.τ).loc Cert.DwTwoIdeal.main_arg1)) →
    ∃ (v0 : (c : Dev Cert.DwTwoIdeal.nD) → Buf (Elt Ideal) ((c.tc : Thread Cert.DwTwoIdeal.nD Cert.DwTwoIdeal.τ).loc Cert.DwTwoIdeal.main_v2)),
      θ_run (Cert.DwTwoIdeal.defs (F := Ideal)) (onTc (τ := Cert.DwTwoIdeal.τ) (Cert.DwTwoIdeal.main (F := Ideal))) ⟨m, fun _ => 0, g⟩ (fun r => ∀ c : Dev Cert.DwTwoIdeal.nD,
          r.2.mem ((c.tc : Thread Cert.DwTwoIdeal.nD Cert.DwTwoIdeal.τ).loc Cert.DwTwoIdeal.main_v2) = v0 c
          ∧ r.2.mem ((c.tc : Thread Cert.DwTwoIdeal.nD Cert.DwTwoIdeal.τ).loc Cert.DwTwoIdeal.main_arg0) = m ((c.tc : Thread Cert.DwTwoIdeal.nD Cert.DwTwoIdeal.τ).loc Cert.DwTwoIdeal.main_arg0)
          ∧ r.2.mem ((c.tc : Thread Cert.DwTwoIdeal.nD Cert.DwTwoIdeal.τ).loc Cert.DwTwoIdeal.main_arg1) = m ((c.tc : Thread Cert.DwTwoIdeal.nD Cert.DwTwoIdeal.τ).loc Cert.DwTwoIdeal.main_arg1))
      ∧ θ_run (Cert.DwTwoRefIdeal.defs (F := Ideal)) (onTc (τ := Cert.DwTwoRefIdeal.τ) (Cert.DwTwoRefIdeal.main (F := Ideal))) ⟨m', fun _ => 0, g'⟩ (fun r => ∀ c : Dev Cert.DwTwoRefIdeal.nD,
          r.2.mem ((c.tc : Thread Cert.DwTwoRefIdeal.nD Cert.DwTwoRefIdeal.τ).loc Cert.DwTwoRefIdeal.main_v3) = v0 c
          ∧ r.2.mem ((c.tc : Thread Cert.DwTwoRefIdeal.nD Cert.DwTwoRefIdeal.τ).loc Cert.DwTwoRefIdeal.main_arg0) = m' ((c.tc : Thread Cert.DwTwoRefIdeal.nD Cert.DwTwoRefIdeal.τ).loc Cert.DwTwoRefIdeal.main_arg0)
          ∧ r.2.mem ((c.tc : Thread Cert.DwTwoRefIdeal.nD Cert.DwTwoRefIdeal.τ).loc Cert.DwTwoRefIdeal.main_arg1) = m' ((c.tc : Thread Cert.DwTwoRefIdeal.nD Cert.DwTwoRefIdeal.τ).loc Cert.DwTwoRefIdeal.main_arg1))

def preserves_DwOne_DwOneIdeal : Prop :=
  True

def algebraic_DwOneIdeal_DwOneRefIdeal [hDwOneIdeal : Cert.DwOneIdeal.Facts] [hDwOneRefIdeal : Cert.DwOneRefIdeal.Facts] : Prop :=
  ∀ (m : (ℓ : Loc Cert.DwOneIdeal.nD Cert.DwOneIdeal.τ Cert.DwOneIdeal.sig) → Buf (Elt Ideal) ℓ) (g : Dev Cert.DwOneIdeal.nD → PrngReg)
    (m' : (ℓ : Loc Cert.DwOneRefIdeal.nD Cert.DwOneRefIdeal.τ Cert.DwOneRefIdeal.sig) → Buf (Elt Ideal) ℓ) (g' : Dev Cert.DwOneRefIdeal.nD → PrngReg), Pre_DwOneIdeal m →
    (∀ c : Dev Cert.DwOneIdeal.nD,
      m' ((c.tc : Thread Cert.DwOneRefIdeal.nD Cert.DwOneRefIdeal.τ).loc Cert.DwOneRefIdeal.main_arg0) = m ((c.tc : Thread Cert.DwOneIdeal.nD Cert.DwOneIdeal.τ).loc Cert.DwOneIdeal.main_arg0)
      ∧ m' ((c.tc : Thread Cert.DwOneRefIdeal.nD Cert.DwOneRefIdeal.τ).loc Cert.DwOneRefIdeal.main_arg1) = m ((c.tc : Thread Cert.DwOneIdeal.nD Cert.DwOneIdeal.τ).loc Cert.DwOneIdeal.main_arg1)) →
    ∃ (v0 : (c : Dev Cert.DwOneIdeal.nD) → Buf (Elt Ideal) ((c.tc : Thread Cert.DwOneIdeal.nD Cert.DwOneIdeal.τ).loc Cert.DwOneIdeal.main_v2)),
      θ_run (Cert.DwOneIdeal.defs (F := Ideal)) (onTc (τ := Cert.DwOneIdeal.τ) (Cert.DwOneIdeal.main (F := Ideal))) ⟨m, fun _ => 0, g⟩ (fun r => ∀ c : Dev Cert.DwOneIdeal.nD,
          r.2.mem ((c.tc : Thread Cert.DwOneIdeal.nD Cert.DwOneIdeal.τ).loc Cert.DwOneIdeal.main_v2) = v0 c
          ∧ r.2.mem ((c.tc : Thread Cert.DwOneIdeal.nD Cert.DwOneIdeal.τ).loc Cert.DwOneIdeal.main_arg0) = m ((c.tc : Thread Cert.DwOneIdeal.nD Cert.DwOneIdeal.τ).loc Cert.DwOneIdeal.main_arg0)
          ∧ r.2.mem ((c.tc : Thread Cert.DwOneIdeal.nD Cert.DwOneIdeal.τ).loc Cert.DwOneIdeal.main_arg1) = m ((c.tc : Thread Cert.DwOneIdeal.nD Cert.DwOneIdeal.τ).loc Cert.DwOneIdeal.main_arg1))
      ∧ θ_run (Cert.DwOneRefIdeal.defs (F := Ideal)) (onTc (τ := Cert.DwOneRefIdeal.τ) (Cert.DwOneRefIdeal.main (F := Ideal))) ⟨m', fun _ => 0, g'⟩ (fun r => ∀ c : Dev Cert.DwOneRefIdeal.nD,
          r.2.mem ((c.tc : Thread Cert.DwOneRefIdeal.nD Cert.DwOneRefIdeal.τ).loc Cert.DwOneRefIdeal.main_v5) = v0 c
          ∧ r.2.mem ((c.tc : Thread Cert.DwOneRefIdeal.nD Cert.DwOneRefIdeal.τ).loc Cert.DwOneRefIdeal.main_arg0) = m' ((c.tc : Thread Cert.DwOneRefIdeal.nD Cert.DwOneRefIdeal.τ).loc Cert.DwOneRefIdeal.main_arg0)
          ∧ r.2.mem ((c.tc : Thread Cert.DwOneRefIdeal.nD Cert.DwOneRefIdeal.τ).loc Cert.DwOneRefIdeal.main_arg1) = m' ((c.tc : Thread Cert.DwOneRefIdeal.nD Cert.DwOneRefIdeal.τ).loc Cert.DwOneRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v2)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v2) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v3) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DxGate_DxGateIdeal : Prop :=
  True

def algebraic_DxGateIdeal_DxGateRefIdeal [hDxGateIdeal : Cert.DxGateIdeal.Facts] [hDxGateRefIdeal : Cert.DxGateRefIdeal.Facts] : Prop :=
  ∀ (m : (ℓ : Loc Cert.DxGateIdeal.nD Cert.DxGateIdeal.τ Cert.DxGateIdeal.sig) → Buf (Elt Ideal) ℓ) (g : Dev Cert.DxGateIdeal.nD → PrngReg)
    (m' : (ℓ : Loc Cert.DxGateRefIdeal.nD Cert.DxGateRefIdeal.τ Cert.DxGateRefIdeal.sig) → Buf (Elt Ideal) ℓ) (g' : Dev Cert.DxGateRefIdeal.nD → PrngReg), Pre_DxGateIdeal m →
    (∀ c : Dev Cert.DxGateIdeal.nD,
      m' ((c.tc : Thread Cert.DxGateRefIdeal.nD Cert.DxGateRefIdeal.τ).loc Cert.DxGateRefIdeal.main_arg0) = m ((c.tc : Thread Cert.DxGateIdeal.nD Cert.DxGateIdeal.τ).loc Cert.DxGateIdeal.main_arg0)
      ∧ m' ((c.tc : Thread Cert.DxGateRefIdeal.nD Cert.DxGateRefIdeal.τ).loc Cert.DxGateRefIdeal.main_arg1) = m ((c.tc : Thread Cert.DxGateIdeal.nD Cert.DxGateIdeal.τ).loc Cert.DxGateIdeal.main_arg1)
      ∧ m' ((c.tc : Thread Cert.DxGateRefIdeal.nD Cert.DxGateRefIdeal.τ).loc Cert.DxGateRefIdeal.main_arg2) = m ((c.tc : Thread Cert.DxGateIdeal.nD Cert.DxGateIdeal.τ).loc Cert.DxGateIdeal.main_arg2)
      ∧ m' ((c.tc : Thread Cert.DxGateRefIdeal.nD Cert.DxGateRefIdeal.τ).loc Cert.DxGateRefIdeal.main_arg3) = m ((c.tc : Thread Cert.DxGateIdeal.nD Cert.DxGateIdeal.τ).loc Cert.DxGateIdeal.main_arg3)
      ∧ m' ((c.tc : Thread Cert.DxGateRefIdeal.nD Cert.DxGateRefIdeal.τ).loc Cert.DxGateRefIdeal.main_arg4) = m ((c.tc : Thread Cert.DxGateIdeal.nD Cert.DxGateIdeal.τ).loc Cert.DxGateIdeal.main_arg4)) →
    ∃ (v0 : (c : Dev Cert.DxGateIdeal.nD) → Buf (Elt Ideal) ((c.tc : Thread Cert.DxGateIdeal.nD Cert.DxGateIdeal.τ).loc Cert.DxGateIdeal.main_v3_0)) (v1 : (c : Dev Cert.DxGateIdeal.nD) → Buf (Elt Ideal) ((c.tc : Thread Cert.DxGateIdeal.nD Cert.DxGateIdeal.τ).loc Cert.DxGateIdeal.main_v3_1)) (v2 : (c : Dev Cert.DxGateIdeal.nD) → Buf (Elt Ideal) ((c.tc : Thread Cert.DxGateIdeal.nD Cert.DxGateIdeal.τ).loc Cert.DxGateIdeal.main_v3_2)),
      θ_run (Cert.DxGateIdeal.defs (F := Ideal)) (onTc (τ := Cert.DxGateIdeal.τ) (Cert.DxGateIdeal.main (F := Ideal))) ⟨m, fun _ => 0, g⟩ (fun r => ∀ c : Dev Cert.DxGateIdeal.nD,
          r.2.mem ((c.tc : Thread Cert.DxGateIdeal.nD Cert.DxGateIdeal.τ).loc Cert.DxGateIdeal.main_v3_0) = v0 c
          ∧ r.2.mem ((c.tc : Thread Cert.DxGateIdeal.nD Cert.DxGateIdeal.τ).loc Cert.DxGateIdeal.main_v3_1) = v1 c
          ∧ r.2.mem ((c.tc : Thread Cert.DxGateIdeal.nD Cert.DxGateIdeal.τ).loc Cert.DxGateIdeal.main_v3_2) = v2 c
          ∧ r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
          ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1)
          ∧ r.2.mem ((c.tc : Thread Cert.DxGateIdeal.nD Cert.DxGateIdeal.τ).loc Cert.DxGateIdeal.main_arg2) = m ((c.tc : Thread Cert.DxGateIdeal.nD Cert.DxGateIdeal.τ).loc Cert.DxGateIdeal.main_arg2)
          ∧ r.2.mem ((c.tc : Thread Cert.DxGateIdeal.nD Cert.DxGateIdeal.τ).loc Cert.DxGateIdeal.main_arg3) = m ((c.tc : Thread Cert.DxGateIdeal.nD Cert.DxGateIdeal.τ).loc Cert.DxGateIdeal.main_arg3)
          ∧ r.2.mem ((c.tc : Thread Cert.DxGateIdeal.nD Cert.DxGateIdeal.τ).loc Cert.DxGateIdeal.main_arg4) = m ((c.tc : Thread Cert.DxGateIdeal.nD Cert.DxGateIdeal.τ).loc Cert.DxGateIdeal.main_arg4))
      ∧ θ_run (Cert.DxGateRefIdeal.defs (F := Ideal)) (onTc (τ := Cert.DxGateRefIdeal.τ) (Cert.DxGateRefIdeal.main (F := Ideal))) ⟨m', fun _ => 0, g'⟩ (fun r => ∀ c : Dev Cert.DxGateRefIdeal.nD,
          r.2.mem ((c.tc : Thread Cert.DxGateRefIdeal.nD Cert.DxGateRefIdeal.τ).loc Cert.DxGateRefIdeal.main_v38) = v0 c
          ∧ r.2.mem ((c.tc : Thread Cert.DxGateRefIdeal.nD Cert.DxGateRefIdeal.τ).loc Cert.DxGateRefIdeal.main_v39) = v1 c
          ∧ r.2.mem ((c.tc : Thread Cert.DxGateRefIdeal.nD Cert.DxGateRefIdeal.τ).loc Cert.DxGateRefIdeal.main_v40) = v2 c
          ∧ r.2.mem ((c.tc : Thread Cert.DxGateRefIdeal.nD Cert.DxGateRefIdeal.τ).loc Cert.DxGateRefIdeal.main_arg0) = m' ((c.tc : Thread Cert.DxGateRefIdeal.nD Cert.DxGateRefIdeal.τ).loc Cert.DxGateRefIdeal.main_arg0)
          ∧ r.2.mem ((c.tc : Thread Cert.DxGateRefIdeal.nD Cert.DxGateRefIdeal.τ).loc Cert.DxGateRefIdeal.main_arg1) = m' ((c.tc : Thread Cert.DxGateRefIdeal.nD Cert.DxGateRefIdeal.τ).loc Cert.DxGateRefIdeal.main_arg1)
          ∧ r.2.mem ((c.tc : Thread Cert.DxGateRefIdeal.nD Cert.DxGateRefIdeal.τ).loc Cert.DxGateRefIdeal.main_arg2) = m' ((c.tc : Thread Cert.DxGateRefIdeal.nD Cert.DxGateRefIdeal.τ).loc Cert.DxGateRefIdeal.main_arg2)
          ∧ r.2.mem ((c.tc : Thread Cert.DxGateRefIdeal.nD Cert.DxGateRefIdeal.τ).loc Cert.DxGateRefIdeal.main_arg3) = m' ((c.tc : Thread Cert.DxGateRefIdeal.nD Cert.DxGateRefIdeal.τ).loc Cert.DxGateRefIdeal.main_arg3)
          ∧ r.2.mem ((c.tc : Thread Cert.DxGateRefIdeal.nD Cert.DxGateRefIdeal.τ).loc Cert.DxGateRefIdeal.main_arg4) = m' ((c.tc : Thread Cert.DxGateRefIdeal.nD Cert.DxGateRefIdeal.τ).loc Cert.DxGateRefIdeal.main_arg4))

def preserves_DxOut_DxOutIdeal : Prop :=
  True

def algebraic_DxOutIdeal_DxOutRefIdeal [hDxOutIdeal : Cert.DxOutIdeal.Facts] [hDxOutRefIdeal : Cert.DxOutRefIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutRefIdeal.nD Cert.DxOutRefIdeal.τ Cert.DxOutRefIdeal.sig) → Buf (Elt Ideal) ℓ) (g' : Dev Cert.DxOutRefIdeal.nD → PrngReg), Pre_DxOutIdeal m →
    (∀ c : Dev Cert.DxOutIdeal.nD,
      m' ((c.tc : Thread Cert.DxOutRefIdeal.nD Cert.DxOutRefIdeal.τ).loc Cert.DxOutRefIdeal.main_arg0) = m ((c.tc : Thread Cert.DxOutIdeal.nD Cert.DxOutIdeal.τ).loc Cert.DxOutIdeal.main_arg0)
      ∧ m' ((c.tc : Thread Cert.DxOutRefIdeal.nD Cert.DxOutRefIdeal.τ).loc Cert.DxOutRefIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v2)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v2) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutRefIdeal.defs (F := Ideal)) (onTc (τ := Cert.DxOutRefIdeal.τ) (Cert.DxOutRefIdeal.main (F := Ideal))) ⟨m', fun _ => 0, g'⟩ (fun r => ∀ c : Dev Cert.DxOutRefIdeal.nD,
          r.2.mem ((c.tc : Thread Cert.DxOutRefIdeal.nD Cert.DxOutRefIdeal.τ).loc Cert.DxOutRefIdeal.main_v2) = v0 c
          ∧ r.2.mem ((c.tc : Thread Cert.DxOutRefIdeal.nD Cert.DxOutRefIdeal.τ).loc Cert.DxOutRefIdeal.main_arg0) = m' ((c.tc : Thread Cert.DxOutRefIdeal.nD Cert.DxOutRefIdeal.τ).loc Cert.DxOutRefIdeal.main_arg0)
          ∧ r.2.mem ((c.tc : Thread Cert.DxOutRefIdeal.nD Cert.DxOutRefIdeal.τ).loc Cert.DxOutRefIdeal.main_arg1) = m' ((c.tc : Thread Cert.DxOutRefIdeal.nD Cert.DxOutRefIdeal.τ).loc Cert.DxOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v5) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DxIn_DxInIdeal : Prop :=
  True

def algebraic_DxInIdeal_DxInRefIdeal [hDxInIdeal : Cert.DxInIdeal.Facts] [hDxInRefIdeal : Cert.DxInRefIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.DxInRefIdeal.nD Cert.DxInRefIdeal.τ Cert.DxInRefIdeal.sig) → Buf (Elt Ideal) ℓ) (g' : Dev Cert.DxInRefIdeal.nD → PrngReg), Pre_DxInIdeal m →
    (∀ c : Dev Cert.DxInIdeal.nD,
      m' ((c.tc : Thread Cert.DxInRefIdeal.nD Cert.DxInRefIdeal.τ).loc Cert.DxInRefIdeal.main_arg0) = m ((c.tc : Thread Cert.DxInIdeal.nD Cert.DxInIdeal.τ).loc Cert.DxInIdeal.main_arg0)
      ∧ m' ((c.tc : Thread Cert.DxInRefIdeal.nD Cert.DxInRefIdeal.τ).loc Cert.DxInRefIdeal.main_arg1) = m ((c.tc : Thread Cert.DxInIdeal.nD Cert.DxInIdeal.τ).loc Cert.DxInIdeal.main_arg1)
      ∧ m' ((c.tc : Thread Cert.DxInRefIdeal.nD Cert.DxInRefIdeal.τ).loc Cert.DxInRefIdeal.main_arg2) = m ((c.tc : Thread Cert.DxInIdeal.nD Cert.DxInIdeal.τ).loc Cert.DxInIdeal.main_arg2)
      ∧ m' ((c.tc : Thread Cert.DxInRefIdeal.nD Cert.DxInRefIdeal.τ).loc Cert.DxInRefIdeal.main_arg3) = m ((c.tc : Thread Cert.DxInIdeal.nD Cert.DxInIdeal.τ).loc Cert.DxInIdeal.main_arg3)
      ∧ m' ((c.tc : Thread Cert.DxInRefIdeal.nD Cert.DxInRefIdeal.τ).loc Cert.DxInRefIdeal.main_arg4) = m ((c.tc : Thread Cert.DxInIdeal.nD Cert.DxInIdeal.τ).loc Cert.DxInIdeal.main_arg4)) →
    ∃ (v0 : (c : Dev Cert.DxInIdeal.nD) → Buf (Elt Ideal) ((c.tc : Thread Cert.DxInIdeal.nD Cert.DxInIdeal.τ).loc Cert.DxInIdeal.main_v5_0)) (v1 : (c : Dev Cert.DxInIdeal.nD) → Buf (Elt Ideal) ((c.tc : Thread Cert.DxInIdeal.nD Cert.DxInIdeal.τ).loc Cert.DxInIdeal.main_v5_1)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v5_0) = v0 c
          ∧ r.2.mem ((c.tc : Thread Cert.DxInIdeal.nD Cert.DxInIdeal.τ).loc Cert.DxInIdeal.main_v5_1) = v1 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
          ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
          ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
          ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4))
      ∧ θ_run (Cert.DxInRefIdeal.defs (F := Ideal)) (onTc (τ := Cert.DxInRefIdeal.τ) (Cert.DxInRefIdeal.main (F := Ideal))) ⟨m', fun _ => 0, g'⟩ (fun r => ∀ c : Dev Cert.DxInRefIdeal.nD,
          r.2.mem ((c.tc : Thread Cert.DxInRefIdeal.nD Cert.DxInRefIdeal.τ).loc Cert.DxInRefIdeal.main_v38) = v0 c
          ∧ r.2.mem ((c.tc : Thread Cert.DxInRefIdeal.nD Cert.DxInRefIdeal.τ).loc Cert.DxInRefIdeal.main_v39) = v1 c
          ∧ r.2.mem ((c.tc : Thread Cert.DxInRefIdeal.nD Cert.DxInRefIdeal.τ).loc Cert.DxInRefIdeal.main_arg0) = m' ((c.tc : Thread Cert.DxInRefIdeal.nD Cert.DxInRefIdeal.τ).loc Cert.DxInRefIdeal.main_arg0)
          ∧ r.2.mem ((c.tc : Thread Cert.DxInRefIdeal.nD Cert.DxInRefIdeal.τ).loc Cert.DxInRefIdeal.main_arg1) = m' ((c.tc : Thread Cert.DxInRefIdeal.nD Cert.DxInRefIdeal.τ).loc Cert.DxInRefIdeal.main_arg1)
          ∧ r.2.mem ((c.tc : Thread Cert.DxInRefIdeal.nD Cert.DxInRefIdeal.τ).loc Cert.DxInRefIdeal.main_arg2) = m' ((c.tc : Thread Cert.DxInRefIdeal.nD Cert.DxInRefIdeal.τ).loc Cert.DxInRefIdeal.main_arg2)
          ∧ r.2.mem ((c.tc : Thread Cert.DxInRefIdeal.nD Cert.DxInRefIdeal.τ).loc Cert.DxInRefIdeal.main_arg3) = m' ((c.tc : Thread Cert.DxInRefIdeal.nD Cert.DxInRefIdeal.τ).loc Cert.DxInRefIdeal.main_arg3)
          ∧ r.2.mem ((c.tc : Thread Cert.DxInRefIdeal.nD Cert.DxInRefIdeal.τ).loc Cert.DxInRefIdeal.main_arg4) = m' ((c.tc : Thread Cert.DxInRefIdeal.nD Cert.DxInRefIdeal.τ).loc Cert.DxInRefIdeal.main_arg4))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v4)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v4) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v0) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)
      ∧ m' ((c.tc : Thread Cert.WOutRefIdeal.nD Cert.WOutRefIdeal.τ).loc Cert.WOutRefIdeal.main_arg2) = m ((c.tc : Thread Cert.WOutIdeal.nD Cert.WOutIdeal.τ).loc Cert.WOutIdeal.main_arg2)
      ∧ m' ((c.tc : Thread Cert.WOutRefIdeal.nD Cert.WOutRefIdeal.τ).loc Cert.WOutRefIdeal.main_arg3) = m ((c.tc : Thread Cert.WOutIdeal.nD Cert.WOutIdeal.τ).loc Cert.WOutIdeal.main_arg3)) →
    ∃ (v0 : (c : Dev Cert.WOutIdeal.nD) → Buf (Elt Ideal) ((c.tc : Thread Cert.WOutIdeal.nD Cert.WOutIdeal.τ).loc Cert.WOutIdeal.main_v3_0)) (v1 : (c : Dev Cert.WOutIdeal.nD) → Buf (Elt Ideal) ((c.tc : Thread Cert.WOutIdeal.nD Cert.WOutIdeal.τ).loc Cert.WOutIdeal.main_v3_1)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v3_0) = v0 c
          ∧ r.2.mem ((c.tc : Thread Cert.WOutIdeal.nD Cert.WOutIdeal.τ).loc Cert.WOutIdeal.main_v3_1) = v1 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
          ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
          ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v1) = v0 c
          ∧ r.2.mem ((c.tc : Thread Cert.WOutRefIdeal.nD Cert.WOutRefIdeal.τ).loc Cert.WOutRefIdeal.main_v15) = v1 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1)
          ∧ r.2.mem ((c.tc : Thread Cert.WOutRefIdeal.nD Cert.WOutRefIdeal.τ).loc Cert.WOutRefIdeal.main_arg2) = m' ((c.tc : Thread Cert.WOutRefIdeal.nD Cert.WOutRefIdeal.τ).loc Cert.WOutRefIdeal.main_arg2)
          ∧ r.2.mem ((c.tc : Thread Cert.WOutRefIdeal.nD Cert.WOutRefIdeal.τ).loc Cert.WOutRefIdeal.main_arg3) = m' ((c.tc : Thread Cert.WOutRefIdeal.nD Cert.WOutRefIdeal.τ).loc Cert.WOutRefIdeal.main_arg3))

def preserves_FfTwo_FfTwoIdeal : Prop :=
  True

def algebraic_FfTwoIdeal_FfTwoRefIdeal [hFfTwoIdeal : Cert.FfTwoIdeal.Facts] [hFfTwoRefIdeal : Cert.FfTwoRefIdeal.Facts] : Prop :=
  ∀ (m : (ℓ : Loc Cert.FfTwoIdeal.nD Cert.FfTwoIdeal.τ Cert.FfTwoIdeal.sig) → Buf (Elt Ideal) ℓ) (g : Dev Cert.FfTwoIdeal.nD → PrngReg)
    (m' : (ℓ : Loc Cert.FfTwoRefIdeal.nD Cert.FfTwoRefIdeal.τ Cert.FfTwoRefIdeal.sig) → Buf (Elt Ideal) ℓ) (g' : Dev Cert.FfTwoRefIdeal.nD → PrngReg), Pre_FfTwoIdeal m →
    (∀ c : Dev Cert.FfTwoIdeal.nD,
      m' ((c.tc : Thread Cert.FfTwoRefIdeal.nD Cert.FfTwoRefIdeal.τ).loc Cert.FfTwoRefIdeal.main_arg0) = m ((c.tc : Thread Cert.FfTwoIdeal.nD Cert.FfTwoIdeal.τ).loc Cert.FfTwoIdeal.main_arg0)
      ∧ m' ((c.tc : Thread Cert.FfTwoRefIdeal.nD Cert.FfTwoRefIdeal.τ).loc Cert.FfTwoRefIdeal.main_arg1) = m ((c.tc : Thread Cert.FfTwoIdeal.nD Cert.FfTwoIdeal.τ).loc Cert.FfTwoIdeal.main_arg1)
      ∧ m' ((c.tc : Thread Cert.FfTwoRefIdeal.nD Cert.FfTwoRefIdeal.τ).loc Cert.FfTwoRefIdeal.main_arg2) = m ((c.tc : Thread Cert.FfTwoIdeal.nD Cert.FfTwoIdeal.τ).loc Cert.FfTwoIdeal.main_arg2)
      ∧ m' ((c.tc : Thread Cert.FfTwoRefIdeal.nD Cert.FfTwoRefIdeal.τ).loc Cert.FfTwoRefIdeal.main_arg3) = m ((c.tc : Thread Cert.FfTwoIdeal.nD Cert.FfTwoIdeal.τ).loc Cert.FfTwoIdeal.main_arg3)) →
    ∃ (v0 : (c : Dev Cert.FfTwoIdeal.nD) → Buf (Elt Ideal) ((c.tc : Thread Cert.FfTwoIdeal.nD Cert.FfTwoIdeal.τ).loc Cert.FfTwoIdeal.main_v3_0)) (v1 : (c : Dev Cert.FfTwoIdeal.nD) → Buf (Elt Ideal) ((c.tc : Thread Cert.FfTwoIdeal.nD Cert.FfTwoIdeal.τ).loc Cert.FfTwoIdeal.main_v3_1)),
      θ_run (Cert.FfTwoIdeal.defs (F := Ideal)) (onTc (τ := Cert.FfTwoIdeal.τ) (Cert.FfTwoIdeal.main (F := Ideal))) ⟨m, fun _ => 0, g⟩ (fun r => ∀ c : Dev Cert.FfTwoIdeal.nD,
          r.2.mem ((c.tc : Thread Cert.FfTwoIdeal.nD Cert.FfTwoIdeal.τ).loc Cert.FfTwoIdeal.main_v3_0) = v0 c
          ∧ r.2.mem ((c.tc : Thread Cert.FfTwoIdeal.nD Cert.FfTwoIdeal.τ).loc Cert.FfTwoIdeal.main_v3_1) = v1 c
          ∧ r.2.mem ((c.tc : Thread Cert.FfTwoIdeal.nD Cert.FfTwoIdeal.τ).loc Cert.FfTwoIdeal.main_arg0) = m ((c.tc : Thread Cert.FfTwoIdeal.nD Cert.FfTwoIdeal.τ).loc Cert.FfTwoIdeal.main_arg0)
          ∧ r.2.mem ((c.tc : Thread Cert.FfTwoIdeal.nD Cert.FfTwoIdeal.τ).loc Cert.FfTwoIdeal.main_arg1) = m ((c.tc : Thread Cert.FfTwoIdeal.nD Cert.FfTwoIdeal.τ).loc Cert.FfTwoIdeal.main_arg1)
          ∧ r.2.mem ((c.tc : Thread Cert.FfTwoIdeal.nD Cert.FfTwoIdeal.τ).loc Cert.FfTwoIdeal.main_arg2) = m ((c.tc : Thread Cert.FfTwoIdeal.nD Cert.FfTwoIdeal.τ).loc Cert.FfTwoIdeal.main_arg2)
          ∧ r.2.mem ((c.tc : Thread Cert.FfTwoIdeal.nD Cert.FfTwoIdeal.τ).loc Cert.FfTwoIdeal.main_arg3) = m ((c.tc : Thread Cert.FfTwoIdeal.nD Cert.FfTwoIdeal.τ).loc Cert.FfTwoIdeal.main_arg3))
      ∧ θ_run (Cert.FfTwoRefIdeal.defs (F := Ideal)) (onTc (τ := Cert.FfTwoRefIdeal.τ) (Cert.FfTwoRefIdeal.main (F := Ideal))) ⟨m', fun _ => 0, g'⟩ (fun r => ∀ c : Dev Cert.FfTwoRefIdeal.nD,
          r.2.mem ((c.tc : Thread Cert.FfTwoRefIdeal.nD Cert.FfTwoRefIdeal.τ).loc Cert.FfTwoRefIdeal.main_v1) = v0 c
          ∧ r.2.mem ((c.tc : Thread Cert.FfTwoRefIdeal.nD Cert.FfTwoRefIdeal.τ).loc Cert.FfTwoRefIdeal.main_v15) = v1 c
          ∧ r.2.mem ((c.tc : Thread Cert.FfTwoRefIdeal.nD Cert.FfTwoRefIdeal.τ).loc Cert.FfTwoRefIdeal.main_arg0) = m' ((c.tc : Thread Cert.FfTwoRefIdeal.nD Cert.FfTwoRefIdeal.τ).loc Cert.FfTwoRefIdeal.main_arg0)
          ∧ r.2.mem ((c.tc : Thread Cert.FfTwoRefIdeal.nD Cert.FfTwoRefIdeal.τ).loc Cert.FfTwoRefIdeal.main_arg1) = m' ((c.tc : Thread Cert.FfTwoRefIdeal.nD Cert.FfTwoRefIdeal.τ).loc Cert.FfTwoRefIdeal.main_arg1)
          ∧ r.2.mem ((c.tc : Thread Cert.FfTwoRefIdeal.nD Cert.FfTwoRefIdeal.τ).loc Cert.FfTwoRefIdeal.main_arg2) = m' ((c.tc : Thread Cert.FfTwoRefIdeal.nD Cert.FfTwoRefIdeal.τ).loc Cert.FfTwoRefIdeal.main_arg2)
          ∧ r.2.mem ((c.tc : Thread Cert.FfTwoRefIdeal.nD Cert.FfTwoRefIdeal.τ).loc Cert.FfTwoRefIdeal.main_arg3) = m' ((c.tc : Thread Cert.FfTwoRefIdeal.nD Cert.FfTwoRefIdeal.τ).loc Cert.FfTwoRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)) (v2 : (c : Dev Cert.GateIdeal.nD) → Buf (Elt Ideal) ((c.tc : Thread Cert.GateIdeal.nD Cert.GateIdeal.τ).loc Cert.GateIdeal.main_v3_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_v3_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v8) = v0 c
          ∧ r.2.mem ((c.tc : Thread Cert.GateRefIdeal.nD Cert.GateRefIdeal.τ).loc Cert.GateRefIdeal.main_v6) = v1 c
          ∧ r.2.mem ((c.tc : Thread Cert.GateRefIdeal.nD Cert.GateRefIdeal.τ).loc Cert.GateRefIdeal.main_v22) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v4)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v4) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v0) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_DwProj_DwProjIdeal : Prop :=
  True

def algebraic_DwProjIdeal_DwProjRefIdeal [hDwProjIdeal : Cert.DwProjIdeal.Facts] [hDwProjRefIdeal : Cert.DwProjRefIdeal.Facts] : Prop :=
  ∀ (m : (ℓ : Loc Cert.DwProjIdeal.nD Cert.DwProjIdeal.τ Cert.DwProjIdeal.sig) → Buf (Elt Ideal) ℓ) (g : Dev Cert.DwProjIdeal.nD → PrngReg)
    (m' : (ℓ : Loc Cert.DwProjRefIdeal.nD Cert.DwProjRefIdeal.τ Cert.DwProjRefIdeal.sig) → Buf (Elt Ideal) ℓ) (g' : Dev Cert.DwProjRefIdeal.nD → PrngReg), Pre_DwProjIdeal m →
    (∀ c : Dev Cert.DwProjIdeal.nD,
      m' ((c.tc : Thread Cert.DwProjRefIdeal.nD Cert.DwProjRefIdeal.τ).loc Cert.DwProjRefIdeal.main_arg0) = m ((c.tc : Thread Cert.DwProjIdeal.nD Cert.DwProjIdeal.τ).loc Cert.DwProjIdeal.main_arg0)
      ∧ m' ((c.tc : Thread Cert.DwProjRefIdeal.nD Cert.DwProjRefIdeal.τ).loc Cert.DwProjRefIdeal.main_arg1) = m ((c.tc : Thread Cert.DwProjIdeal.nD Cert.DwProjIdeal.τ).loc Cert.DwProjIdeal.main_arg1)) →
    ∃ (v0 : (c : Dev Cert.DwProjIdeal.nD) → Buf (Elt Ideal) ((c.tc : Thread Cert.DwProjIdeal.nD Cert.DwProjIdeal.τ).loc Cert.DwProjIdeal.main_v2)),
      θ_run (Cert.DwProjIdeal.defs (F := Ideal)) (onTc (τ := Cert.DwProjIdeal.τ) (Cert.DwProjIdeal.main (F := Ideal))) ⟨m, fun _ => 0, g⟩ (fun r => ∀ c : Dev Cert.DwProjIdeal.nD,
          r.2.mem ((c.tc : Thread Cert.DwProjIdeal.nD Cert.DwProjIdeal.τ).loc Cert.DwProjIdeal.main_v2) = v0 c
          ∧ r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
          ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ θ_run (Cert.DwProjRefIdeal.defs (F := Ideal)) (onTc (τ := Cert.DwProjRefIdeal.τ) (Cert.DwProjRefIdeal.main (F := Ideal))) ⟨m', fun _ => 0, g'⟩ (fun r => ∀ c : Dev Cert.DwProjRefIdeal.nD,
          r.2.mem ((c.tc : Thread Cert.DwProjRefIdeal.nD Cert.DwProjRefIdeal.τ).loc Cert.DwProjRefIdeal.main_v5) = v0 c
          ∧ r.2.mem ((c.tc : Thread Cert.DwProjRefIdeal.nD Cert.DwProjRefIdeal.τ).loc Cert.DwProjRefIdeal.main_arg0) = m' ((c.tc : Thread Cert.DwProjRefIdeal.nD Cert.DwProjRefIdeal.τ).loc Cert.DwProjRefIdeal.main_arg0)
          ∧ r.2.mem ((c.tc : Thread Cert.DwProjRefIdeal.nD Cert.DwProjRefIdeal.τ).loc Cert.DwProjRefIdeal.main_arg1) = m' ((c.tc : Thread Cert.DwProjRefIdeal.nD Cert.DwProjRefIdeal.τ).loc Cert.DwProjRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v2) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_DwGlu_DwGluIdeal : Prop :=
  True

def algebraic_DwGluIdeal_DwGluRefIdeal [hDwGluIdeal : Cert.DwGluIdeal.Facts] [hDwGluRefIdeal : Cert.DwGluRefIdeal.Facts] : Prop :=
  ∀ (m : (ℓ : Loc Cert.DwGluIdeal.nD Cert.DwGluIdeal.τ Cert.DwGluIdeal.sig) → Buf (Elt Ideal) ℓ) (g : Dev Cert.DwGluIdeal.nD → PrngReg)
    (m' : (ℓ : Loc Cert.DwGluRefIdeal.nD Cert.DwGluRefIdeal.τ Cert.DwGluRefIdeal.sig) → Buf (Elt Ideal) ℓ) (g' : Dev Cert.DwGluRefIdeal.nD → PrngReg), Pre_DwGluIdeal m →
    (∀ c : Dev Cert.DwGluIdeal.nD,
      m' ((c.tc : Thread Cert.DwGluRefIdeal.nD Cert.DwGluRefIdeal.τ).loc Cert.DwGluRefIdeal.main_arg0) = m ((c.tc : Thread Cert.DwGluIdeal.nD Cert.DwGluIdeal.τ).loc Cert.DwGluIdeal.main_arg0)
      ∧ m' ((c.tc : Thread Cert.DwGluRefIdeal.nD Cert.DwGluRefIdeal.τ).loc Cert.DwGluRefIdeal.main_arg1) = m ((c.tc : Thread Cert.DwGluIdeal.nD Cert.DwGluIdeal.τ).loc Cert.DwGluIdeal.main_arg1)) →
    ∃ (v0 : (c : Dev Cert.DwGluIdeal.nD) → Buf (Elt Ideal) ((c.tc : Thread Cert.DwGluIdeal.nD Cert.DwGluIdeal.τ).loc Cert.DwGluIdeal.main_v2)),
      θ_run (Cert.DwGluIdeal.defs (F := Ideal)) (onTc (τ := Cert.DwGluIdeal.τ) (Cert.DwGluIdeal.main (F := Ideal))) ⟨m, fun _ => 0, g⟩ (fun r => ∀ c : Dev Cert.DwGluIdeal.nD,
          r.2.mem ((c.tc : Thread Cert.DwGluIdeal.nD Cert.DwGluIdeal.τ).loc Cert.DwGluIdeal.main_v2) = v0 c
          ∧ r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
          ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ θ_run (Cert.DwGluRefIdeal.defs (F := Ideal)) (onTc (τ := Cert.DwGluRefIdeal.τ) (Cert.DwGluRefIdeal.main (F := Ideal))) ⟨m', fun _ => 0, g'⟩ (fun r => ∀ c : Dev Cert.DwGluRefIdeal.nD,
          r.2.mem ((c.tc : Thread Cert.DwGluRefIdeal.nD Cert.DwGluRefIdeal.τ).loc Cert.DwGluRefIdeal.main_v9) = v0 c
          ∧ r.2.mem ((c.tc : Thread Cert.DwGluRefIdeal.nD Cert.DwGluRefIdeal.τ).loc Cert.DwGluRefIdeal.main_arg0) = m' ((c.tc : Thread Cert.DwGluRefIdeal.nD Cert.DwGluRefIdeal.τ).loc Cert.DwGluRefIdeal.main_arg0)
          ∧ r.2.mem ((c.tc : Thread Cert.DwGluRefIdeal.nD Cert.DwGluRefIdeal.τ).loc Cert.DwGluRefIdeal.main_arg1) = m' ((c.tc : Thread Cert.DwGluRefIdeal.nD Cert.DwGluRefIdeal.τ).loc Cert.DwGluRefIdeal.main_arg1))

def preserves_DxGlu_DxGluIdeal : Prop :=
  IdealRules.named_const.Statement Cert.DxGluIdeal.κ "gelu_cubic" .f32 0x3D372713#32 ((8943 / 200000 : ℝ) : EReal)
  ∧ IdealRules.named_const.Statement Cert.DxGluIdeal.κ "gelu_cubic_3" .f32 0x3E095D4F#32 ((26829 / 200000 : ℝ) : EReal)

def algebraic_DxGluIdeal_DxGluRefIdeal_pre_finite20 [hDxGluIdeal : Cert.DxGluIdeal.Facts] [hDxGluRefIdeal : Cert.DxGluRefIdeal.Facts] [hPre_finite20 : Cert.Pre_finite20.Facts] : Prop :=
  ∀ (m : (ℓ : Loc Cert.DxGluIdeal.nD Cert.DxGluIdeal.τ Cert.DxGluIdeal.sig) → Buf (Elt Ideal) ℓ) (g : Dev Cert.DxGluIdeal.nD → PrngReg)
    (m' : (ℓ : Loc Cert.DxGluRefIdeal.nD Cert.DxGluRefIdeal.τ Cert.DxGluRefIdeal.sig) → Buf (Elt Ideal) ℓ) (g' : Dev Cert.DxGluRefIdeal.nD → PrngReg), Pre_DxGluIdeal_finite20 m →
    (∀ c : Dev Cert.DxGluIdeal.nD,
      m' ((c.tc : Thread Cert.DxGluRefIdeal.nD Cert.DxGluRefIdeal.τ).loc Cert.DxGluRefIdeal.main_arg0) = m ((c.tc : Thread Cert.DxGluIdeal.nD Cert.DxGluIdeal.τ).loc Cert.DxGluIdeal.main_arg0)
      ∧ m' ((c.tc : Thread Cert.DxGluRefIdeal.nD Cert.DxGluRefIdeal.τ).loc Cert.DxGluRefIdeal.main_arg1) = m ((c.tc : Thread Cert.DxGluIdeal.nD Cert.DxGluIdeal.τ).loc Cert.DxGluIdeal.main_arg1)
      ∧ m' ((c.tc : Thread Cert.DxGluRefIdeal.nD Cert.DxGluRefIdeal.τ).loc Cert.DxGluRefIdeal.main_arg2) = m ((c.tc : Thread Cert.DxGluIdeal.nD Cert.DxGluIdeal.τ).loc Cert.DxGluIdeal.main_arg2)
      ∧ m' ((c.tc : Thread Cert.DxGluRefIdeal.nD Cert.DxGluRefIdeal.τ).loc Cert.DxGluRefIdeal.main_arg3) = m ((c.tc : Thread Cert.DxGluIdeal.nD Cert.DxGluIdeal.τ).loc Cert.DxGluIdeal.main_arg3)) →
    ∃ (v0 : (c : Dev Cert.DxGluIdeal.nD) → Buf (Elt Ideal) ((c.tc : Thread Cert.DxGluIdeal.nD Cert.DxGluIdeal.τ).loc Cert.DxGluIdeal.main_v3)),
      θ_run (Cert.DxGluIdeal.defs (F := Ideal)) (onTc (τ := Cert.DxGluIdeal.τ) (Cert.DxGluIdeal.main (F := Ideal))) ⟨m, fun _ => 0, g⟩ (fun r => ∀ c : Dev Cert.DxGluIdeal.nD,
          r.2.mem ((c.tc : Thread Cert.DxGluIdeal.nD Cert.DxGluIdeal.τ).loc Cert.DxGluIdeal.main_v3) = v0 c
          ∧ r.2.mem ((c.tc : Thread Cert.DxGluIdeal.nD Cert.DxGluIdeal.τ).loc Cert.DxGluIdeal.main_arg0) = m ((c.tc : Thread Cert.DxGluIdeal.nD Cert.DxGluIdeal.τ).loc Cert.DxGluIdeal.main_arg0)
          ∧ r.2.mem ((c.tc : Thread Cert.DxGluIdeal.nD Cert.DxGluIdeal.τ).loc Cert.DxGluIdeal.main_arg1) = m ((c.tc : Thread Cert.DxGluIdeal.nD Cert.DxGluIdeal.τ).loc Cert.DxGluIdeal.main_arg1)
          ∧ r.2.mem ((c.tc : Thread Cert.DxGluIdeal.nD Cert.DxGluIdeal.τ).loc Cert.DxGluIdeal.main_arg2) = m ((c.tc : Thread Cert.DxGluIdeal.nD Cert.DxGluIdeal.τ).loc Cert.DxGluIdeal.main_arg2)
          ∧ r.2.mem ((c.tc : Thread Cert.DxGluIdeal.nD Cert.DxGluIdeal.τ).loc Cert.DxGluIdeal.main_arg3) = m ((c.tc : Thread Cert.DxGluIdeal.nD Cert.DxGluIdeal.τ).loc Cert.DxGluIdeal.main_arg3))
      ∧ θ_run (Cert.DxGluRefIdeal.defs (F := Ideal)) (onTc (τ := Cert.DxGluRefIdeal.τ) (Cert.DxGluRefIdeal.main (F := Ideal))) ⟨m', fun _ => 0, g'⟩ (fun r => ∀ c : Dev Cert.DxGluRefIdeal.nD,
          r.2.mem ((c.tc : Thread Cert.DxGluRefIdeal.nD Cert.DxGluRefIdeal.τ).loc Cert.DxGluRefIdeal.main_v40) = v0 c
          ∧ r.2.mem ((c.tc : Thread Cert.DxGluRefIdeal.nD Cert.DxGluRefIdeal.τ).loc Cert.DxGluRefIdeal.main_arg0) = m' ((c.tc : Thread Cert.DxGluRefIdeal.nD Cert.DxGluRefIdeal.τ).loc Cert.DxGluRefIdeal.main_arg0)
          ∧ r.2.mem ((c.tc : Thread Cert.DxGluRefIdeal.nD Cert.DxGluRefIdeal.τ).loc Cert.DxGluRefIdeal.main_arg1) = m' ((c.tc : Thread Cert.DxGluRefIdeal.nD Cert.DxGluRefIdeal.τ).loc Cert.DxGluRefIdeal.main_arg1)
          ∧ r.2.mem ((c.tc : Thread Cert.DxGluRefIdeal.nD Cert.DxGluRefIdeal.τ).loc Cert.DxGluRefIdeal.main_arg2) = m' ((c.tc : Thread Cert.DxGluRefIdeal.nD Cert.DxGluRefIdeal.τ).loc Cert.DxGluRefIdeal.main_arg2)
          ∧ r.2.mem ((c.tc : Thread Cert.DxGluRefIdeal.nD Cert.DxGluRefIdeal.τ).loc Cert.DxGluRefIdeal.main_arg3) = m' ((c.tc : Thread Cert.DxGluRefIdeal.nD Cert.DxGluRefIdeal.τ).loc Cert.DxGluRefIdeal.main_arg3))

def preserves_PleElem_PleElemIdeal : Prop :=
  True

def algebraic_PleElemIdeal_PleElemRefIdeal [hPleElemIdeal : Cert.PleElemIdeal.Facts] [hPleElemRefIdeal : Cert.PleElemRefIdeal.Facts] : Prop :=
  ∀ (m : (ℓ : Loc Cert.PleElemIdeal.nD Cert.PleElemIdeal.τ Cert.PleElemIdeal.sig) → Buf (Elt Ideal) ℓ) (g : Dev Cert.PleElemIdeal.nD → PrngReg)
    (m' : (ℓ : Loc Cert.PleElemRefIdeal.nD Cert.PleElemRefIdeal.τ Cert.PleElemRefIdeal.sig) → Buf (Elt Ideal) ℓ) (g' : Dev Cert.PleElemRefIdeal.nD → PrngReg), Pre_PleElemIdeal m →
    (∀ c : Dev Cert.PleElemIdeal.nD,
      m' ((c.tc : Thread Cert.PleElemRefIdeal.nD Cert.PleElemRefIdeal.τ).loc Cert.PleElemRefIdeal.main_arg0) = m ((c.tc : Thread Cert.PleElemIdeal.nD Cert.PleElemIdeal.τ).loc Cert.PleElemIdeal.main_arg0)
      ∧ m' ((c.tc : Thread Cert.PleElemRefIdeal.nD Cert.PleElemRefIdeal.τ).loc Cert.PleElemRefIdeal.main_arg1) = m ((c.tc : Thread Cert.PleElemIdeal.nD Cert.PleElemIdeal.τ).loc Cert.PleElemIdeal.main_arg1)
      ∧ m' ((c.tc : Thread Cert.PleElemRefIdeal.nD Cert.PleElemRefIdeal.τ).loc Cert.PleElemRefIdeal.main_arg2) = m ((c.tc : Thread Cert.PleElemIdeal.nD Cert.PleElemIdeal.τ).loc Cert.PleElemIdeal.main_arg2)) →
    ∃ (v0 : (c : Dev Cert.PleElemIdeal.nD) → Buf (Elt Ideal) ((c.tc : Thread Cert.PleElemIdeal.nD Cert.PleElemIdeal.τ).loc Cert.PleElemIdeal.main_v6_0)) (v1 : (c : Dev Cert.PleElemIdeal.nD) → Buf (Elt Ideal) ((c.tc : Thread Cert.PleElemIdeal.nD Cert.PleElemIdeal.τ).loc Cert.PleElemIdeal.main_v6_1)),
      θ_run (Cert.PleElemIdeal.defs (F := Ideal)) (onTc (τ := Cert.PleElemIdeal.τ) (Cert.PleElemIdeal.main (F := Ideal))) ⟨m, fun _ => 0, g⟩ (fun r => ∀ c : Dev Cert.PleElemIdeal.nD,
          r.2.mem ((c.tc : Thread Cert.PleElemIdeal.nD Cert.PleElemIdeal.τ).loc Cert.PleElemIdeal.main_v6_0) = v0 c
          ∧ r.2.mem ((c.tc : Thread Cert.PleElemIdeal.nD Cert.PleElemIdeal.τ).loc Cert.PleElemIdeal.main_v6_1) = v1 c
          ∧ r.2.mem ((c.tc : Thread Cert.PleElemIdeal.nD Cert.PleElemIdeal.τ).loc Cert.PleElemIdeal.main_arg0) = m ((c.tc : Thread Cert.PleElemIdeal.nD Cert.PleElemIdeal.τ).loc Cert.PleElemIdeal.main_arg0)
          ∧ r.2.mem ((c.tc : Thread Cert.PleElemIdeal.nD Cert.PleElemIdeal.τ).loc Cert.PleElemIdeal.main_arg1) = m ((c.tc : Thread Cert.PleElemIdeal.nD Cert.PleElemIdeal.τ).loc Cert.PleElemIdeal.main_arg1)
          ∧ r.2.mem ((c.tc : Thread Cert.PleElemIdeal.nD Cert.PleElemIdeal.τ).loc Cert.PleElemIdeal.main_arg2) = m ((c.tc : Thread Cert.PleElemIdeal.nD Cert.PleElemIdeal.τ).loc Cert.PleElemIdeal.main_arg2))
      ∧ θ_run (Cert.PleElemRefIdeal.defs (F := Ideal)) (onTc (τ := Cert.PleElemRefIdeal.τ) (Cert.PleElemRefIdeal.main (F := Ideal))) ⟨m', fun _ => 0, g'⟩ (fun r => ∀ c : Dev Cert.PleElemRefIdeal.nD,
          r.2.mem ((c.tc : Thread Cert.PleElemRefIdeal.nD Cert.PleElemRefIdeal.τ).loc Cert.PleElemRefIdeal.main_v13) = v0 c
          ∧ r.2.mem ((c.tc : Thread Cert.PleElemRefIdeal.nD Cert.PleElemRefIdeal.τ).loc Cert.PleElemRefIdeal.main_v14) = v1 c
          ∧ r.2.mem ((c.tc : Thread Cert.PleElemRefIdeal.nD Cert.PleElemRefIdeal.τ).loc Cert.PleElemRefIdeal.main_arg0) = m' ((c.tc : Thread Cert.PleElemRefIdeal.nD Cert.PleElemRefIdeal.τ).loc Cert.PleElemRefIdeal.main_arg0)
          ∧ r.2.mem ((c.tc : Thread Cert.PleElemRefIdeal.nD Cert.PleElemRefIdeal.τ).loc Cert.PleElemRefIdeal.main_arg1) = m' ((c.tc : Thread Cert.PleElemRefIdeal.nD Cert.PleElemRefIdeal.τ).loc Cert.PleElemRefIdeal.main_arg1)
          ∧ r.2.mem ((c.tc : Thread Cert.PleElemRefIdeal.nD Cert.PleElemRefIdeal.τ).loc Cert.PleElemRefIdeal.main_arg2) = m' ((c.tc : Thread Cert.PleElemRefIdeal.nD Cert.PleElemRefIdeal.τ).loc Cert.PleElemRefIdeal.main_arg2))

def preserves_Gmlp_GmlpIdeal : Prop :=
  IdealRules.named_const.Statement Cert.GmlpIdeal.κ "gelu_cubic" .f32 0x3D372713#32 ((8943 / 200000 : ℝ) : EReal)

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v8)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v8) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v52) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v52) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_DMerge_DMergeIdeal : Prop :=
  True

def algebraic_DMergeIdeal_DMergeRefIdeal [hDMergeIdeal : Cert.DMergeIdeal.Facts] [hDMergeRefIdeal : Cert.DMergeRefIdeal.Facts] : Prop :=
  ∀ (m : (ℓ : Loc Cert.DMergeIdeal.nD Cert.DMergeIdeal.τ Cert.DMergeIdeal.sig) → Buf (Elt Ideal) ℓ) (g : Dev Cert.DMergeIdeal.nD → PrngReg)
    (m' : (ℓ : Loc Cert.DMergeRefIdeal.nD Cert.DMergeRefIdeal.τ Cert.DMergeRefIdeal.sig) → Buf (Elt Ideal) ℓ) (g' : Dev Cert.DMergeRefIdeal.nD → PrngReg), Pre_DMergeIdeal m →
    (∀ c : Dev Cert.DMergeIdeal.nD,
      m' ((c.tc : Thread Cert.DMergeRefIdeal.nD Cert.DMergeRefIdeal.τ).loc Cert.DMergeRefIdeal.main_arg0) = m ((c.tc : Thread Cert.DMergeIdeal.nD Cert.DMergeIdeal.τ).loc Cert.DMergeIdeal.main_arg0)
      ∧ m' ((c.tc : Thread Cert.DMergeRefIdeal.nD Cert.DMergeRefIdeal.τ).loc Cert.DMergeRefIdeal.main_arg1) = m ((c.tc : Thread Cert.DMergeIdeal.nD Cert.DMergeIdeal.τ).loc Cert.DMergeIdeal.main_arg1)
      ∧ m' ((c.tc : Thread Cert.DMergeRefIdeal.nD Cert.DMergeRefIdeal.τ).loc Cert.DMergeRefIdeal.main_arg2) = m ((c.tc : Thread Cert.DMergeIdeal.nD Cert.DMergeIdeal.τ).loc Cert.DMergeIdeal.main_arg2)
      ∧ m' ((c.tc : Thread Cert.DMergeRefIdeal.nD Cert.DMergeRefIdeal.τ).loc Cert.DMergeRefIdeal.main_arg3) = m ((c.tc : Thread Cert.DMergeIdeal.nD Cert.DMergeIdeal.τ).loc Cert.DMergeIdeal.main_arg3)
      ∧ m' ((c.tc : Thread Cert.DMergeRefIdeal.nD Cert.DMergeRefIdeal.τ).loc Cert.DMergeRefIdeal.main_arg4) = m ((c.tc : Thread Cert.DMergeIdeal.nD Cert.DMergeIdeal.τ).loc Cert.DMergeIdeal.main_arg4)) →
    ∃ (v0 : (c : Dev Cert.DMergeIdeal.nD) → Buf (Elt Ideal) ((c.tc : Thread Cert.DMergeIdeal.nD Cert.DMergeIdeal.τ).loc Cert.DMergeIdeal.main_v1_0)) (v1 : (c : Dev Cert.DMergeIdeal.nD) → Buf (Elt Ideal) ((c.tc : Thread Cert.DMergeIdeal.nD Cert.DMergeIdeal.τ).loc Cert.DMergeIdeal.main_v1_1)) (v2 : (c : Dev Cert.DMergeIdeal.nD) → Buf (Elt Ideal) ((c.tc : Thread Cert.DMergeIdeal.nD Cert.DMergeIdeal.τ).loc Cert.DMergeIdeal.main_v1_2)) (v3 : (c : Dev Cert.DMergeIdeal.nD) → Buf (Elt Ideal) ((c.tc : Thread Cert.DMergeIdeal.nD Cert.DMergeIdeal.τ).loc Cert.DMergeIdeal.main_v1_3)),
      θ_run (Cert.DMergeIdeal.defs (F := Ideal)) (onTc (τ := Cert.DMergeIdeal.τ) (Cert.DMergeIdeal.main (F := Ideal))) ⟨m, fun _ => 0, g⟩ (fun r => ∀ c : Dev Cert.DMergeIdeal.nD,
          r.2.mem ((c.tc : Thread Cert.DMergeIdeal.nD Cert.DMergeIdeal.τ).loc Cert.DMergeIdeal.main_v1_0) = v0 c
          ∧ r.2.mem ((c.tc : Thread Cert.DMergeIdeal.nD Cert.DMergeIdeal.τ).loc Cert.DMergeIdeal.main_v1_1) = v1 c
          ∧ r.2.mem ((c.tc : Thread Cert.DMergeIdeal.nD Cert.DMergeIdeal.τ).loc Cert.DMergeIdeal.main_v1_2) = v2 c
          ∧ r.2.mem ((c.tc : Thread Cert.DMergeIdeal.nD Cert.DMergeIdeal.τ).loc Cert.DMergeIdeal.main_v1_3) = v3 c
          ∧ r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
          ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
          ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2)
          ∧ r.2.mem ((c.tc : Thread Cert.DMergeIdeal.nD Cert.DMergeIdeal.τ).loc Cert.DMergeIdeal.main_arg3) = m ((c.tc : Thread Cert.DMergeIdeal.nD Cert.DMergeIdeal.τ).loc Cert.DMergeIdeal.main_arg3)
          ∧ r.2.mem ((c.tc : Thread Cert.DMergeIdeal.nD Cert.DMergeIdeal.τ).loc Cert.DMergeIdeal.main_arg4) = m ((c.tc : Thread Cert.DMergeIdeal.nD Cert.DMergeIdeal.τ).loc Cert.DMergeIdeal.main_arg4))
      ∧ θ_run (Cert.DMergeRefIdeal.defs (F := Ideal)) (onTc (τ := Cert.DMergeRefIdeal.τ) (Cert.DMergeRefIdeal.main (F := Ideal))) ⟨m', fun _ => 0, g'⟩ (fun r => ∀ c : Dev Cert.DMergeRefIdeal.nD,
          r.2.mem ((c.tc : Thread Cert.DMergeRefIdeal.nD Cert.DMergeRefIdeal.τ).loc Cert.DMergeRefIdeal.main_v129) = v0 c
          ∧ r.2.mem ((c.tc : Thread Cert.DMergeRefIdeal.nD Cert.DMergeRefIdeal.τ).loc Cert.DMergeRefIdeal.main_v107) = v1 c
          ∧ r.2.mem ((c.tc : Thread Cert.DMergeRefIdeal.nD Cert.DMergeRefIdeal.τ).loc Cert.DMergeRefIdeal.main_v138) = v2 c
          ∧ r.2.mem ((c.tc : Thread Cert.DMergeRefIdeal.nD Cert.DMergeRefIdeal.τ).loc Cert.DMergeRefIdeal.main_v139) = v3 c
          ∧ r.2.mem ((c.tc : Thread Cert.DMergeRefIdeal.nD Cert.DMergeRefIdeal.τ).loc Cert.DMergeRefIdeal.main_arg0) = m' ((c.tc : Thread Cert.DMergeRefIdeal.nD Cert.DMergeRefIdeal.τ).loc Cert.DMergeRefIdeal.main_arg0)
          ∧ r.2.mem ((c.tc : Thread Cert.DMergeRefIdeal.nD Cert.DMergeRefIdeal.τ).loc Cert.DMergeRefIdeal.main_arg1) = m' ((c.tc : Thread Cert.DMergeRefIdeal.nD Cert.DMergeRefIdeal.τ).loc Cert.DMergeRefIdeal.main_arg1)
          ∧ r.2.mem ((c.tc : Thread Cert.DMergeRefIdeal.nD Cert.DMergeRefIdeal.τ).loc Cert.DMergeRefIdeal.main_arg2) = m' ((c.tc : Thread Cert.DMergeRefIdeal.nD Cert.DMergeRefIdeal.τ).loc Cert.DMergeRefIdeal.main_arg2)
          ∧ r.2.mem ((c.tc : Thread Cert.DMergeRefIdeal.nD Cert.DMergeRefIdeal.τ).loc Cert.DMergeRefIdeal.main_arg3) = m' ((c.tc : Thread Cert.DMergeRefIdeal.nD Cert.DMergeRefIdeal.τ).loc Cert.DMergeRefIdeal.main_arg3)
          ∧ r.2.mem ((c.tc : Thread Cert.DMergeRefIdeal.nD Cert.DMergeRefIdeal.τ).loc Cert.DMergeRefIdeal.main_arg4) = m' ((c.tc : Thread Cert.DMergeRefIdeal.nD Cert.DMergeRefIdeal.τ).loc Cert.DMergeRefIdeal.main_arg4))

def preserves_Attn_AttnIdeal : Prop :=
  IdealRules.named_const.Statement Cert.AttnIdeal.κ "mask" .f32 0xF149F2CA#32 ⊥

def algebraic_AttnIdeal_AttnRefIdeal_pre_finite25 [hAttnIdeal : Cert.AttnIdeal.Facts] [hAttnRefIdeal : Cert.AttnRefIdeal.Facts] [hPre_finite25 : Cert.Pre_finite25.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite25 m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v70) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_DAttn_DAttnIdeal : Prop :=
  IdealRules.named_const.Statement Cert.DAttnIdeal.κ "mask" .f32 0xF149F2CA#32 ⊥

def algebraic_DAttnIdeal_DAttnRefIdeal_pre_finite26 [hDAttnIdeal : Cert.DAttnIdeal.Facts] [hDAttnRefIdeal : Cert.DAttnRefIdeal.Facts] [hPre_finite26 : Cert.Pre_finite26.Facts] : Prop :=
  ∀ (m : (ℓ : Loc Cert.DAttnIdeal.nD Cert.DAttnIdeal.τ Cert.DAttnIdeal.sig) → Buf (Elt Ideal) ℓ) (g : Dev Cert.DAttnIdeal.nD → PrngReg)
    (m' : (ℓ : Loc Cert.DAttnRefIdeal.nD Cert.DAttnRefIdeal.τ Cert.DAttnRefIdeal.sig) → Buf (Elt Ideal) ℓ) (g' : Dev Cert.DAttnRefIdeal.nD → PrngReg), Pre_DAttnIdeal_finite26 m →
    (∀ c : Dev Cert.DAttnIdeal.nD,
      m' ((c.tc : Thread Cert.DAttnRefIdeal.nD Cert.DAttnRefIdeal.τ).loc Cert.DAttnRefIdeal.main_arg0) = m ((c.tc : Thread Cert.DAttnIdeal.nD Cert.DAttnIdeal.τ).loc Cert.DAttnIdeal.main_arg0)
      ∧ m' ((c.tc : Thread Cert.DAttnRefIdeal.nD Cert.DAttnRefIdeal.τ).loc Cert.DAttnRefIdeal.main_arg1) = m ((c.tc : Thread Cert.DAttnIdeal.nD Cert.DAttnIdeal.τ).loc Cert.DAttnIdeal.main_arg1)
      ∧ m' ((c.tc : Thread Cert.DAttnRefIdeal.nD Cert.DAttnRefIdeal.τ).loc Cert.DAttnRefIdeal.main_arg2) = m ((c.tc : Thread Cert.DAttnIdeal.nD Cert.DAttnIdeal.τ).loc Cert.DAttnIdeal.main_arg2)
      ∧ m' ((c.tc : Thread Cert.DAttnRefIdeal.nD Cert.DAttnRefIdeal.τ).loc Cert.DAttnRefIdeal.main_arg3) = m ((c.tc : Thread Cert.DAttnIdeal.nD Cert.DAttnIdeal.τ).loc Cert.DAttnIdeal.main_arg3)
      ∧ m' ((c.tc : Thread Cert.DAttnRefIdeal.nD Cert.DAttnRefIdeal.τ).loc Cert.DAttnRefIdeal.main_arg4) = m ((c.tc : Thread Cert.DAttnIdeal.nD Cert.DAttnIdeal.τ).loc Cert.DAttnIdeal.main_arg4)) →
    ∃ (v0 : (c : Dev Cert.DAttnIdeal.nD) → Buf (Elt Ideal) ((c.tc : Thread Cert.DAttnIdeal.nD Cert.DAttnIdeal.τ).loc Cert.DAttnIdeal.main_v2_0)) (v1 : (c : Dev Cert.DAttnIdeal.nD) → Buf (Elt Ideal) ((c.tc : Thread Cert.DAttnIdeal.nD Cert.DAttnIdeal.τ).loc Cert.DAttnIdeal.main_v2_1)) (v2 : (c : Dev Cert.DAttnIdeal.nD) → Buf (Elt Ideal) ((c.tc : Thread Cert.DAttnIdeal.nD Cert.DAttnIdeal.τ).loc Cert.DAttnIdeal.main_v2_2)) (v3 : (c : Dev Cert.DAttnIdeal.nD) → Buf (Elt Ideal) ((c.tc : Thread Cert.DAttnIdeal.nD Cert.DAttnIdeal.τ).loc Cert.DAttnIdeal.main_v2_3)) (v4 : (c : Dev Cert.DAttnIdeal.nD) → Buf (Elt Ideal) ((c.tc : Thread Cert.DAttnIdeal.nD Cert.DAttnIdeal.τ).loc Cert.DAttnIdeal.main_v2_4)) (v5 : (c : Dev Cert.DAttnIdeal.nD) → Buf (Elt Ideal) ((c.tc : Thread Cert.DAttnIdeal.nD Cert.DAttnIdeal.τ).loc Cert.DAttnIdeal.main_v2_5)),
      θ_run (Cert.DAttnIdeal.defs (F := Ideal)) (onTc (τ := Cert.DAttnIdeal.τ) (Cert.DAttnIdeal.main (F := Ideal))) ⟨m, fun _ => 0, g⟩ (fun r => ∀ c : Dev Cert.DAttnIdeal.nD,
          r.2.mem ((c.tc : Thread Cert.DAttnIdeal.nD Cert.DAttnIdeal.τ).loc Cert.DAttnIdeal.main_v2_0) = v0 c
          ∧ r.2.mem ((c.tc : Thread Cert.DAttnIdeal.nD Cert.DAttnIdeal.τ).loc Cert.DAttnIdeal.main_v2_1) = v1 c
          ∧ r.2.mem ((c.tc : Thread Cert.DAttnIdeal.nD Cert.DAttnIdeal.τ).loc Cert.DAttnIdeal.main_v2_2) = v2 c
          ∧ r.2.mem ((c.tc : Thread Cert.DAttnIdeal.nD Cert.DAttnIdeal.τ).loc Cert.DAttnIdeal.main_v2_3) = v3 c
          ∧ r.2.mem ((c.tc : Thread Cert.DAttnIdeal.nD Cert.DAttnIdeal.τ).loc Cert.DAttnIdeal.main_v2_4) = v4 c
          ∧ r.2.mem ((c.tc : Thread Cert.DAttnIdeal.nD Cert.DAttnIdeal.τ).loc Cert.DAttnIdeal.main_v2_5) = v5 c
          ∧ r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
          ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1)
          ∧ r.2.mem ((c.tc : Thread Cert.DAttnIdeal.nD Cert.DAttnIdeal.τ).loc Cert.DAttnIdeal.main_arg2) = m ((c.tc : Thread Cert.DAttnIdeal.nD Cert.DAttnIdeal.τ).loc Cert.DAttnIdeal.main_arg2)
          ∧ r.2.mem ((c.tc : Thread Cert.DAttnIdeal.nD Cert.DAttnIdeal.τ).loc Cert.DAttnIdeal.main_arg3) = m ((c.tc : Thread Cert.DAttnIdeal.nD Cert.DAttnIdeal.τ).loc Cert.DAttnIdeal.main_arg3)
          ∧ r.2.mem ((c.tc : Thread Cert.DAttnIdeal.nD Cert.DAttnIdeal.τ).loc Cert.DAttnIdeal.main_arg4) = m ((c.tc : Thread Cert.DAttnIdeal.nD Cert.DAttnIdeal.τ).loc Cert.DAttnIdeal.main_arg4))
      ∧ θ_run (Cert.DAttnRefIdeal.defs (F := Ideal)) (onTc (τ := Cert.DAttnRefIdeal.τ) (Cert.DAttnRefIdeal.main (F := Ideal))) ⟨m', fun _ => 0, g'⟩ (fun r => ∀ c : Dev Cert.DAttnRefIdeal.nD,
          r.2.mem ((c.tc : Thread Cert.DAttnRefIdeal.nD Cert.DAttnRefIdeal.τ).loc Cert.DAttnRefIdeal.main_v141) = v0 c
          ∧ r.2.mem ((c.tc : Thread Cert.DAttnRefIdeal.nD Cert.DAttnRefIdeal.τ).loc Cert.DAttnRefIdeal.main_v149) = v1 c
          ∧ r.2.mem ((c.tc : Thread Cert.DAttnRefIdeal.nD Cert.DAttnRefIdeal.τ).loc Cert.DAttnRefIdeal.main_v152) = v2 c
          ∧ r.2.mem ((c.tc : Thread Cert.DAttnRefIdeal.nD Cert.DAttnRefIdeal.τ).loc Cert.DAttnRefIdeal.main_v160) = v3 c
          ∧ r.2.mem ((c.tc : Thread Cert.DAttnRefIdeal.nD Cert.DAttnRefIdeal.τ).loc Cert.DAttnRefIdeal.main_v163) = v4 c
          ∧ r.2.mem ((c.tc : Thread Cert.DAttnRefIdeal.nD Cert.DAttnRefIdeal.τ).loc Cert.DAttnRefIdeal.main_v165) = v5 c
          ∧ r.2.mem ((c.tc : Thread Cert.DAttnRefIdeal.nD Cert.DAttnRefIdeal.τ).loc Cert.DAttnRefIdeal.main_arg0) = m' ((c.tc : Thread Cert.DAttnRefIdeal.nD Cert.DAttnRefIdeal.τ).loc Cert.DAttnRefIdeal.main_arg0)
          ∧ r.2.mem ((c.tc : Thread Cert.DAttnRefIdeal.nD Cert.DAttnRefIdeal.τ).loc Cert.DAttnRefIdeal.main_arg1) = m' ((c.tc : Thread Cert.DAttnRefIdeal.nD Cert.DAttnRefIdeal.τ).loc Cert.DAttnRefIdeal.main_arg1)
          ∧ r.2.mem ((c.tc : Thread Cert.DAttnRefIdeal.nD Cert.DAttnRefIdeal.τ).loc Cert.DAttnRefIdeal.main_arg2) = m' ((c.tc : Thread Cert.DAttnRefIdeal.nD Cert.DAttnRefIdeal.τ).loc Cert.DAttnRefIdeal.main_arg2)
          ∧ r.2.mem ((c.tc : Thread Cert.DAttnRefIdeal.nD Cert.DAttnRefIdeal.τ).loc Cert.DAttnRefIdeal.main_arg3) = m' ((c.tc : Thread Cert.DAttnRefIdeal.nD Cert.DAttnRefIdeal.τ).loc Cert.DAttnRefIdeal.main_arg3)
          ∧ r.2.mem ((c.tc : Thread Cert.DAttnRefIdeal.nD Cert.DAttnRefIdeal.τ).loc Cert.DAttnRefIdeal.main_arg4) = m' ((c.tc : Thread Cert.DAttnRefIdeal.nD Cert.DAttnRefIdeal.τ).loc Cert.DAttnRefIdeal.main_arg4))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActRefIdeal : Cert.ActRefIdeal.Facts) (hDxTwo : Cert.DxTwo.Facts) (hDxTwoIdeal : Cert.DxTwoIdeal.Facts) (hDxTwoRefIdeal : Cert.DxTwoRefIdeal.Facts) (hNorm : Cert.Norm.Facts) (hNormIdeal : Cert.NormIdeal.Facts) (hNormRefIdeal : Cert.NormRefIdeal.Facts) (hDwTwo : Cert.DwTwo.Facts) (hDwTwoIdeal : Cert.DwTwoIdeal.Facts) (hDwTwoRefIdeal : Cert.DwTwoRefIdeal.Facts) (hDwOne : Cert.DwOne.Facts) (hDwOneIdeal : Cert.DwOneIdeal.Facts) (hDwOneRefIdeal : Cert.DwOneRefIdeal.Facts) (hDwGate : Cert.DwGate.Facts) (hDwGateIdeal : Cert.DwGateIdeal.Facts) (hDwGateRefIdeal : Cert.DwGateRefIdeal.Facts) (hDxGate : Cert.DxGate.Facts) (hDxGateIdeal : Cert.DxGateIdeal.Facts) (hDxGateRefIdeal : Cert.DxGateRefIdeal.Facts) (hDxOut : Cert.DxOut.Facts) (hDxOutIdeal : Cert.DxOutIdeal.Facts) (hDxOutRefIdeal : Cert.DxOutRefIdeal.Facts) (hDwIn : Cert.DwIn.Facts) (hDwInIdeal : Cert.DwInIdeal.Facts) (hDwInRefIdeal : Cert.DwInRefIdeal.Facts) (hDxIn : Cert.DxIn.Facts) (hDxInIdeal : Cert.DxInIdeal.Facts) (hDxInRefIdeal : Cert.DxInRefIdeal.Facts) (hWIn : Cert.WIn.Facts) (hWInIdeal : Cert.WInIdeal.Facts) (hWInRefIdeal : Cert.WInRefIdeal.Facts) (hWOut : Cert.WOut.Facts) (hWOutIdeal : Cert.WOutIdeal.Facts) (hWOutRefIdeal : Cert.WOutRefIdeal.Facts) (hFfTwo : Cert.FfTwo.Facts) (hFfTwoIdeal : Cert.FfTwoIdeal.Facts) (hFfTwoRefIdeal : Cert.FfTwoRefIdeal.Facts) (hGate : Cert.Gate.Facts) (hGateIdeal : Cert.GateIdeal.Facts) (hGateRefIdeal : Cert.GateRefIdeal.Facts) (hPleProj : Cert.PleProj.Facts) (hPleProjIdeal : Cert.PleProjIdeal.Facts) (hPleProjRefIdeal : Cert.PleProjRefIdeal.Facts) (hDwProj : Cert.DwProj.Facts) (hDwProjIdeal : Cert.DwProjIdeal.Facts) (hDwProjRefIdeal : Cert.DwProjRefIdeal.Facts) (hGlu : Cert.Glu.Facts) (hGluIdeal : Cert.GluIdeal.Facts) (hGluRefIdeal : Cert.GluRefIdeal.Facts) (hDwGlu : Cert.DwGlu.Facts) (hDwGluIdeal : Cert.DwGluIdeal.Facts) (hDwGluRefIdeal : Cert.DwGluRefIdeal.Facts) (hDxGlu : Cert.DxGlu.Facts) (hDxGluIdeal : Cert.DxGluIdeal.Facts) (hDxGluRefIdeal : Cert.DxGluRefIdeal.Facts) (hPleElem : Cert.PleElem.Facts) (hPleElemIdeal : Cert.PleElemIdeal.Facts) (hPleElemRefIdeal : Cert.PleElemRefIdeal.Facts) (hGmlp : Cert.Gmlp.Facts) (hGmlpIdeal : Cert.GmlpIdeal.Facts) (hGmlpRefIdeal : Cert.GmlpRefIdeal.Facts) (hMerge : Cert.Merge.Facts) (hMergeIdeal : Cert.MergeIdeal.Facts) (hMergeRefIdeal : Cert.MergeRefIdeal.Facts) (hDMerge : Cert.DMerge.Facts) (hDMergeIdeal : Cert.DMergeIdeal.Facts) (hDMergeRefIdeal : Cert.DMergeRefIdeal.Facts) (hAttn : Cert.Attn.Facts) (hAttnIdeal : Cert.AttnIdeal.Facts) (hAttnRefIdeal : Cert.AttnRefIdeal.Facts) (hDAttn : Cert.DAttn.Facts) (hDAttnIdeal : Cert.DAttnIdeal.Facts) (hDAttnRefIdeal : Cert.DAttnRefIdeal.Facts) (hPre_finite : Cert.Pre_finite.Facts) (hPre_finite20 : Cert.Pre_finite20.Facts) (hPre_finite25 : Cert.Pre_finite25.Facts) (hPre_finite26 : Cert.Pre_finite26.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Act (hAct := hAct)
    ∧ quiescent_ActIdeal (hActIdeal := hActIdeal)
    ∧ quiescent_ActRefIdeal (hActRefIdeal := hActRefIdeal)
    ∧ quiescent_DxTwo (hDxTwo := hDxTwo)
    ∧ quiescent_DxTwoIdeal (hDxTwoIdeal := hDxTwoIdeal)
    ∧ quiescent_DxTwoRefIdeal (hDxTwoRefIdeal := hDxTwoRefIdeal)
    ∧ quiescent_Norm (hNorm := hNorm)
    ∧ quiescent_NormIdeal (hNormIdeal := hNormIdeal)
    ∧ quiescent_NormRefIdeal (hNormRefIdeal := hNormRefIdeal)
    ∧ quiescent_DwTwo (hDwTwo := hDwTwo)
    ∧ quiescent_DwTwoIdeal (hDwTwoIdeal := hDwTwoIdeal)
    ∧ quiescent_DwTwoRefIdeal (hDwTwoRefIdeal := hDwTwoRefIdeal)
    ∧ quiescent_DwOne (hDwOne := hDwOne)
    ∧ quiescent_DwOneIdeal (hDwOneIdeal := hDwOneIdeal)
    ∧ quiescent_DwOneRefIdeal (hDwOneRefIdeal := hDwOneRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DxGate (hDxGate := hDxGate)
    ∧ quiescent_DxGateIdeal (hDxGateIdeal := hDxGateIdeal)
    ∧ quiescent_DxGateRefIdeal (hDxGateRefIdeal := hDxGateRefIdeal)
    ∧ quiescent_DxOut (hDxOut := hDxOut)
    ∧ quiescent_DxOutIdeal (hDxOutIdeal := hDxOutIdeal)
    ∧ quiescent_DxOutRefIdeal (hDxOutRefIdeal := hDxOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DxIn (hDxIn := hDxIn)
    ∧ quiescent_DxInIdeal (hDxInIdeal := hDxInIdeal)
    ∧ quiescent_DxInRefIdeal (hDxInRefIdeal := hDxInRefIdeal)
    ∧ quiescent_WIn (hWIn := hWIn)
    ∧ quiescent_WInIdeal (hWInIdeal := hWInIdeal)
    ∧ quiescent_WInRefIdeal (hWInRefIdeal := hWInRefIdeal)
    ∧ quiescent_WOut (hWOut := hWOut)
    ∧ quiescent_WOutIdeal (hWOutIdeal := hWOutIdeal)
    ∧ quiescent_WOutRefIdeal (hWOutRefIdeal := hWOutRefIdeal)
    ∧ quiescent_FfTwo (hFfTwo := hFfTwo)
    ∧ quiescent_FfTwoIdeal (hFfTwoIdeal := hFfTwoIdeal)
    ∧ quiescent_FfTwoRefIdeal (hFfTwoRefIdeal := hFfTwoRefIdeal)
    ∧ quiescent_Gate (hGate := hGate)
    ∧ quiescent_GateIdeal (hGateIdeal := hGateIdeal)
    ∧ quiescent_GateRefIdeal (hGateRefIdeal := hGateRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_DwProj (hDwProj := hDwProj)
    ∧ quiescent_DwProjIdeal (hDwProjIdeal := hDwProjIdeal)
    ∧ quiescent_DwProjRefIdeal (hDwProjRefIdeal := hDwProjRefIdeal)
    ∧ quiescent_Glu (hGlu := hGlu)
    ∧ quiescent_GluIdeal (hGluIdeal := hGluIdeal)
    ∧ quiescent_GluRefIdeal (hGluRefIdeal := hGluRefIdeal)
    ∧ quiescent_DwGlu (hDwGlu := hDwGlu)
    ∧ quiescent_DwGluIdeal (hDwGluIdeal := hDwGluIdeal)
    ∧ quiescent_DwGluRefIdeal (hDwGluRefIdeal := hDwGluRefIdeal)
    ∧ quiescent_DxGlu (hDxGlu := hDxGlu)
    ∧ quiescent_DxGluIdeal (hDxGluIdeal := hDxGluIdeal)
    ∧ quiescent_DxGluIdeal_pre_finite20 (hDxGluIdeal := hDxGluIdeal) (hPre_finite20 := hPre_finite20)
    ∧ quiescent_DxGluRefIdeal (hDxGluRefIdeal := hDxGluRefIdeal)
    ∧ quiescent_DxGluRefIdeal_pre_finite20 (hDxGluRefIdeal := hDxGluRefIdeal) (hPre_finite20 := hPre_finite20)
    ∧ quiescent_PleElem (hPleElem := hPleElem)
    ∧ quiescent_PleElemIdeal (hPleElemIdeal := hPleElemIdeal)
    ∧ quiescent_PleElemRefIdeal (hPleElemRefIdeal := hPleElemRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_DMerge (hDMerge := hDMerge)
    ∧ quiescent_DMergeIdeal (hDMergeIdeal := hDMergeIdeal)
    ∧ quiescent_DMergeRefIdeal (hDMergeRefIdeal := hDMergeRefIdeal)
    ∧ quiescent_Attn (hAttn := hAttn)
    ∧ quiescent_AttnIdeal (hAttnIdeal := hAttnIdeal)
    ∧ quiescent_AttnIdeal_pre_finite25 (hAttnIdeal := hAttnIdeal) (hPre_finite25 := hPre_finite25)
    ∧ quiescent_AttnRefIdeal (hAttnRefIdeal := hAttnRefIdeal)
    ∧ quiescent_AttnRefIdeal_pre_finite25 (hAttnRefIdeal := hAttnRefIdeal) (hPre_finite25 := hPre_finite25)
    ∧ quiescent_DAttn (hDAttn := hDAttn)
    ∧ quiescent_DAttnIdeal (hDAttnIdeal := hDAttnIdeal)
    ∧ quiescent_DAttnIdeal_pre_finite26 (hDAttnIdeal := hDAttnIdeal) (hPre_finite26 := hPre_finite26)
    ∧ quiescent_DAttnRefIdeal (hDAttnRefIdeal := hDAttnRefIdeal)
    ∧ quiescent_DAttnRefIdeal_pre_finite26 (hDAttnRefIdeal := hDAttnRefIdeal) (hPre_finite26 := hPre_finite26)
    ∧ preserves_Kernel_KernelIdeal
    ∧ algebraic_KernelIdeal_ReferenceIdeal_pre_finite (hKernelIdeal := hKernelIdeal) (hReferenceIdeal := hReferenceIdeal) (hPre_finite := hPre_finite)
    ∧ preserves_Act_ActIdeal
    ∧ algebraic_ActIdeal_ActRefIdeal (hActIdeal := hActIdeal) (hActRefIdeal := hActRefIdeal)
    ∧ preserves_DxTwo_DxTwoIdeal
    ∧ algebraic_DxTwoIdeal_DxTwoRefIdeal (hDxTwoIdeal := hDxTwoIdeal) (hDxTwoRefIdeal := hDxTwoRefIdeal)
    ∧ preserves_Norm_NormIdeal
    ∧ algebraic_NormIdeal_NormRefIdeal (hNormIdeal := hNormIdeal) (hNormRefIdeal := hNormRefIdeal)
    ∧ preserves_DwTwo_DwTwoIdeal
    ∧ algebraic_DwTwoIdeal_DwTwoRefIdeal (hDwTwoIdeal := hDwTwoIdeal) (hDwTwoRefIdeal := hDwTwoRefIdeal)
    ∧ preserves_DwOne_DwOneIdeal
    ∧ algebraic_DwOneIdeal_DwOneRefIdeal (hDwOneIdeal := hDwOneIdeal) (hDwOneRefIdeal := hDwOneRefIdeal)
    ∧ preserves_DwGate_DwGateIdeal
    ∧ algebraic_DwGateIdeal_DwGateRefIdeal (hDwGateIdeal := hDwGateIdeal) (hDwGateRefIdeal := hDwGateRefIdeal)
    ∧ preserves_DxGate_DxGateIdeal
    ∧ algebraic_DxGateIdeal_DxGateRefIdeal (hDxGateIdeal := hDxGateIdeal) (hDxGateRefIdeal := hDxGateRefIdeal)
    ∧ preserves_DxOut_DxOutIdeal
    ∧ algebraic_DxOutIdeal_DxOutRefIdeal (hDxOutIdeal := hDxOutIdeal) (hDxOutRefIdeal := hDxOutRefIdeal)
    ∧ preserves_DwIn_DwInIdeal
    ∧ algebraic_DwInIdeal_DwInRefIdeal (hDwInIdeal := hDwInIdeal) (hDwInRefIdeal := hDwInRefIdeal)
    ∧ preserves_DxIn_DxInIdeal
    ∧ algebraic_DxInIdeal_DxInRefIdeal (hDxInIdeal := hDxInIdeal) (hDxInRefIdeal := hDxInRefIdeal)
    ∧ preserves_WIn_WInIdeal
    ∧ algebraic_WInIdeal_WInRefIdeal (hWInIdeal := hWInIdeal) (hWInRefIdeal := hWInRefIdeal)
    ∧ preserves_WOut_WOutIdeal
    ∧ algebraic_WOutIdeal_WOutRefIdeal (hWOutIdeal := hWOutIdeal) (hWOutRefIdeal := hWOutRefIdeal)
    ∧ preserves_FfTwo_FfTwoIdeal
    ∧ algebraic_FfTwoIdeal_FfTwoRefIdeal (hFfTwoIdeal := hFfTwoIdeal) (hFfTwoRefIdeal := hFfTwoRefIdeal)
    ∧ preserves_Gate_GateIdeal
    ∧ algebraic_GateIdeal_GateRefIdeal (hGateIdeal := hGateIdeal) (hGateRefIdeal := hGateRefIdeal)
    ∧ preserves_PleProj_PleProjIdeal
    ∧ algebraic_PleProjIdeal_PleProjRefIdeal (hPleProjIdeal := hPleProjIdeal) (hPleProjRefIdeal := hPleProjRefIdeal)
    ∧ preserves_DwProj_DwProjIdeal
    ∧ algebraic_DwProjIdeal_DwProjRefIdeal (hDwProjIdeal := hDwProjIdeal) (hDwProjRefIdeal := hDwProjRefIdeal)
    ∧ preserves_Glu_GluIdeal
    ∧ algebraic_GluIdeal_GluRefIdeal (hGluIdeal := hGluIdeal) (hGluRefIdeal := hGluRefIdeal)
    ∧ preserves_DwGlu_DwGluIdeal
    ∧ algebraic_DwGluIdeal_DwGluRefIdeal (hDwGluIdeal := hDwGluIdeal) (hDwGluRefIdeal := hDwGluRefIdeal)
    ∧ preserves_DxGlu_DxGluIdeal
    ∧ algebraic_DxGluIdeal_DxGluRefIdeal_pre_finite20 (hDxGluIdeal := hDxGluIdeal) (hDxGluRefIdeal := hDxGluRefIdeal) (hPre_finite20 := hPre_finite20)
    ∧ preserves_PleElem_PleElemIdeal
    ∧ algebraic_PleElemIdeal_PleElemRefIdeal (hPleElemIdeal := hPleElemIdeal) (hPleElemRefIdeal := hPleElemRefIdeal)
    ∧ preserves_Gmlp_GmlpIdeal
    ∧ algebraic_GmlpIdeal_GmlpRefIdeal (hGmlpIdeal := hGmlpIdeal) (hGmlpRefIdeal := hGmlpRefIdeal)
    ∧ preserves_Merge_MergeIdeal
    ∧ algebraic_MergeIdeal_MergeRefIdeal (hMergeIdeal := hMergeIdeal) (hMergeRefIdeal := hMergeRefIdeal)
    ∧ preserves_DMerge_DMergeIdeal
    ∧ algebraic_DMergeIdeal_DMergeRefIdeal (hDMergeIdeal := hDMergeIdeal) (hDMergeRefIdeal := hDMergeRefIdeal)
    ∧ preserves_Attn_AttnIdeal
    ∧ algebraic_AttnIdeal_AttnRefIdeal_pre_finite25 (hAttnIdeal := hAttnIdeal) (hAttnRefIdeal := hAttnRefIdeal) (hPre_finite25 := hPre_finite25)
    ∧ preserves_DAttn_DAttnIdeal
    ∧ algebraic_DAttnIdeal_DAttnRefIdeal_pre_finite26 (hDAttnIdeal := hDAttnIdeal) (hDAttnRefIdeal := hDAttnRefIdeal) (hPre_finite26 := hPre_finite26)
-- ==== Pre_finite.lean ====
abbrev S8192x1536 : Shape := ⟨2, ![8192, 1536]⟩
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S_ : Shape := ⟨0, ![]⟩

class Facts : Prop where
  bcast_S_S8192x1536 : S_.BroadcastsInDim S8192x1536 (![] : Fin 0 → Fin S8192x1536.rank)
  bcast_S_S8192x256 : S_.BroadcastsInDim S8192x256 (![] : Fin 0 → Fin S8192x256.rank)
  bcast_S_S4x64 : S_.BroadcastsInDim S4x64 (![] : Fin 0 → Fin S4x64.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn {F : FTy → Type} [FloatOps F] (main_arg0 : FVec F S8192x1536 .f32) (main_arg1 : FVec F S8192x256 .f32) (main_arg2 : FVec F S4x64 .f32) (main_arg3 : FVec F S4x64 .f32) (main_arg4 : FVec F S4x128x128 .f32) (main_arg5 : FVec F S4x128 .f32) : IVec S8192x1536 1 × IVec S8192x256 1 × IVec S4x64 1 × IVec S4x64 1 × IVec S4x128x128 1 × IVec S4x128 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S4x64 .f32 := Host.absf main_arg2
  let main_cst_1 : FVec F S_ .f32 := constant S_ .f32 0x7F800000#32
  let main_v7 : FVec F S4x64 .f32 := broadcastInDim S4x64 ![] bcast_S_S4x64 main_cst_1
  let main_v8 : IVec S4x64 1 := cmpf .olt main_v6 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_v12 : FVec F S4x128x128 .f32 := Host.absf main_arg4
  let main_cst_3 : FVec F S_ .f32 := constant S_ .f32 0x7F800000#32
  let main_v13 : FVec F S4x128x128 .f32 := broadcastInDim S4x128x128 ![] bcast_S_S4x128x128 main_cst_3
  let main_v14 : IVec S4x128x128 1 := cmpf .olt main_v12 main_v13
  let main_v15 : FVec F S4x128 .f32 := Host.absf main_arg5
  let main_cst_4 : FVec F S_ .f32 := constant S_ .f32 0x7F800000#32
  let main_v16 : FVec F S4x128 .f32 := broadcastInDim S4x128 ![] bcast_S_S4x128 main_cst_4
  let main_v17 : IVec S4x128 1 := cmpf .olt main_v15 main_v16
  (main_v2, main_v5, main_v8, main_v11, main_v14, main_v17)
-- ==== Pre_finite20.lean ====
abbrev S8192x512 : Shape := ⟨2, ![8192, 512]⟩
abbrev S256x256 : Shape := ⟨2, ![256, 256]⟩
abbrev S8192x256 : Shape := ⟨2, ![8192, 256]⟩
abbrev S_ : Shape := ⟨0, ![]⟩

class Facts : Prop where
  bcast_S_S8192x512 : S_.BroadcastsInDim S8192x512 (![] : Fin 0 → Fin S8192x512.rank)
  bcast_S_S256x256 : S_.BroadcastsInDim S256x256 (![] : Fin 0 → Fin S256x256.rank)

variable [Facts]

def fn {F : FTy → Type} [FloatOps F] (main_arg0 : FVec F S8192x512 .f32) (main_arg1 : FVec F S256x256 .f32) (main_arg2 : FVec F S256x256 .f32) (main_arg3 : FVec F S8192x256 .f32) : IVec S8192x512 1 × IVec S256x256 1 × IVec S256x256 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S256x256 .f32 := Host.absf main_arg1
  let main_cst_0 : FVec F S_ .f32 := constant S_ .f32 0x7F800000#32
  let main_v4 : FVec F S256x256 .f32 := broadcastInDim S256x256 ![] bcast_S_S256x256 main_cst_0
  let main_v5 : IVec S256x256 1 := cmpf .olt main_v3 main_v4
  let main_v6 : FVec F S256x256 .f32 := Host.absf main_arg2
  let main_cst_1 : FVec F S_ .f32 := constant S_ .f32 0x7F800000#32
  let main_v7 : FVec F S256x256 .f32 := broadcastInDim S256x256 ![] bcast_S_S256x256 main_cst_1
  let main_v8 : IVec S256x256 1 := cmpf .olt main_v6 main_v7
  (main_v2, main_v5, main_v8)
-- ==== Pre_finite25.lean ====
abbrev S8192x512 : Shape := ⟨2, ![8192, 512]⟩
abbrev S8192x128 : Shape := ⟨2, ![8192, 128]⟩
abbrev S8192x1536 : Shape := ⟨2, ![8192, 1536]⟩
abbrev S8 : Shape := ⟨1, ![8]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)
  bcast_S_S8 : S_.BroadcastsInDim S8 (![] : Fin 0 → Fin S8.rank)

variable [Facts]

def fn {F : FTy → Type} [FloatOps F] (main_arg0 : FVec F S8192x512 .f32) (main_arg1 : FVec F S8192x128 .f32) (main_arg2 : FVec F S8192x1536 .f32) (main_arg3 : FVec F S8 .f32) : IVec S8192x512 1 × IVec S8192x128 1 × IVec S8 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Pre_finite26.lean ====
abbrev S8192x512 : Shape := ⟨2, ![8192, 512]⟩
abbrev S8192x128 : Shape := ⟨2, ![8192, 128]⟩
abbrev S8192x1536 : Shape := ⟨2, ![8192, 1536]⟩
abbrev S8 : Shape := ⟨1, ![8]⟩
abbrev S_ : Shape := ⟨0, ![]⟩

class Facts : Prop where
  slices_S8192x1536_S8192x128_0_1152 : S8192x1536.Slices ![0, 1152] S8192x128
  bcast_S_S8192x512 : S_.BroadcastsInDim S8192x512 (![] : Fin 0 → Fin S8192x512.rank)
  bcast_S_S8192x128 : S_.BroadcastsInDim S8192x128 (![] : Fin 0 → Fin S8192x128.rank)
  bcast_S_S8 : S_.BroadcastsInDim S8 (![] : Fin 0 → Fin S8.rank)

variable [Facts]

def fn {F : FTy → Type} [FloatOps F] (main_arg0 : FVec F S8192x512 .f32) (main_arg1 : FVec F S8192x128 .f32) (main_arg2 : FVec F S8192x1536 .f32) (main_arg3 : FVec F S8 .f32) (main_arg4 : FVec F S8192x512 .f32) : IVec S8192x512 1 × IVec S8192x128 1 × IVec S8192x128 1 × IVec S8 1 × IVec S8192x512 1 :=
  let main_v0 : FVec F S8192x128 .f32 := (extractStridedSlice S8192x128 ![0, 1152] · slices_S8192x1536_S8192x128_0_1152) main_arg2
  let main_v1 : FVec F S8192x512 .f32 := Host.absf main_arg0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_v7 : FVec F S8192x128 .f32 := Host.absf main_v0
  let main_cst_1 : FVec F S_ .f32 := constant S_ .f32 0x7F800000#32
  let main_v8 : FVec F S8192x128 .f32 := broadcastInDim S8192x128 ![] bcast_S_S8192x128 main_cst_1
  let main_v9 : IVec S8192x128 1 := cmpf .olt main_v7 main_v8
  let main_v10 : FVec F S8 .f32 := Host.absf main_arg3
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_v13 : FVec F S8192x512 .f32 := Host.absf main_arg4
  let main_cst_3 : FVec F S_ .f32 := constant S_ .f32 0x7F800000#32
  let main_v14 : FVec F S8192x512 .f32 := broadcastInDim S8192x512 ![] bcast_S_S8192x512 main_cst_3
  let main_v15 : IVec S8192x512 1 := cmpf .olt main_v13 main_v14
  (main_v3, main_v6, main_v9, main_v12, main_v15)
-- ==== Kernel.lean ====
abbrev S8192x1536 : Shape := ⟨2, ![8192, 1536]⟩
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S_ : Shape := ⟨0, ![]⟩
abbrev S4x128x64 : Shape := ⟨3, ![4, 128, 64]⟩
abbrev S4x128x1 : Shape := ⟨3, ![4, 128, 1]⟩
abbrev S8192x512 : Shape := ⟨2, ![8192, 512]⟩
abbrev S256x512 : Shape := ⟨2, ![256, 512]⟩
abbrev S256x256 : Shape := ⟨2, ![256, 256]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 23
  | .vmem => 15
  | .smem => 0
  | _ => 0

abbrev bufTy : (tb : Table) → Fin (tcTables nBuf tb) → BufTy
  | .hbm, ⟨0, _⟩ => ⟨S8192x1536, .f32⟩
  | .hbm, ⟨1, _⟩ => ⟨S8192x256, .f32⟩
  | .hbm, ⟨2, _⟩ => ⟨S4x64, .f32⟩
  | .hbm, ⟨3, _⟩ => ⟨S4x64, .f32⟩
  | .hbm, ⟨4, _⟩ => ⟨S4x128x128, .f32⟩
  | .hbm, ⟨5, _⟩ => ⟨S4x128, .f32⟩
  | .hbm, ⟨6, _⟩ => ⟨S4x128x128, .f32⟩
  | .hbm, ⟨7, _⟩ => ⟨S_, .f32⟩
  | .hbm, ⟨8, _⟩ => ⟨S4x128x64, .f32⟩
  | .hbm, ⟨9, _⟩ => ⟨S4x128x1, .f32⟩
  | .hbm, ⟨10, _⟩ => ⟨S4x128x64, .f32⟩
  | .hbm, ⟨11, _⟩ => ⟨S4x128x128, .f32⟩
  | .hbm, ⟨12, _⟩ => ⟨S_, .f32⟩
  | .hbm, ⟨13, _⟩ => ⟨S4x64, .f32⟩
  | .hbm, ⟨14, _⟩ => ⟨S4x128, .f32⟩
  | .hbm, ⟨15, _⟩ => ⟨S_, .f32⟩
  | .hbm, ⟨16, _⟩ => ⟨S4x64, .f32⟩
  | .hbm, ⟨17, _⟩ => ⟨S4x128, .f32⟩
  | .hbm, ⟨18, _⟩ => ⟨S8192x512, .bf16⟩
  | .hbm, ⟨19, _⟩ => ⟨S4x128x128, .f32⟩
  | .hbm, ⟨20, _⟩ => ⟨S4x128x128, .f32⟩
  | .hbm, ⟨21, _⟩ => ⟨S4x128x128, .f32⟩
  | .hbm, ⟨22, _⟩ => ⟨S4x128x128, .f32⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S4x128x128, .f32⟩
  | .local _ .vmem, ⟨5, _⟩ => ⟨S4x128x128, .f32⟩
  | .local _ .vmem, ⟨6, _⟩ => ⟨S4x128x128, .f32⟩
  | .local _ .vmem, ⟨7, _⟩ => ⟨S4x128, .f32⟩
  | .local _ .vmem, ⟨8, _⟩ => ⟨S4x128, .f32⟩
  | .local _ .vmem, ⟨9, _⟩ => ⟨S256x512, .bf16⟩
  | .local _ .vmem, ⟨10, _⟩ => ⟨S256x512, .bf16⟩
  | .local _ .vmem, ⟨11, _⟩ => ⟨S4x128x128, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== ReferenceIdeal.lean ====
abbrev S8192x1536 : Shape := ⟨2, ![8192, 1536]⟩
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S8192x512 : Shape := ⟨2, ![8192, 512]⟩
abbrev S1x8192x512 : Shape := ⟨3, ![1, 8192, 512]⟩
abbrev S_ : Shape := ⟨0, ![]⟩
abbrev S1x64x128x4x128 : Shape := ⟨5, ![1, 64, 128, 4, 128]⟩
abbrev S1x64x128x4x64 : Shape := ⟨5, ![1, 64, 128, 4, 64]⟩
abbrev S1x64x128x4 : Shape := ⟨4, ![1, 64, 128, 4]⟩
abbrev S1x64x128x4x1 : Shape := ⟨5, ![1, 64, 128, 4, 1]⟩
abbrev S1x1x1x4x64 : Shape := ⟨5, ![1, 1, 1, 4, 64]⟩
abbrev S128x128 : Shape := ⟨2, ![128, 128]⟩
abbrev S4x1x64x64x128 : Shape := ⟨5, ![4, 1, 64, 64, 128]⟩
abbrev S128x4 : Shape := ⟨2, ![128, 4]⟩
abbrev S1x1x128x4x1 : Shape := ⟨5, ![1, 1, 128, 4, 1]⟩
abbrev S1x8192x256 : Shape := ⟨3, ![1, 8192, 256]⟩
abbrev S1x128x4 : Shape := ⟨3, ![1, 128, 4]⟩
abbrev S1x4x64 : Shape := ⟨3, ![1, 4, 64]⟩
abbrev S64x128x4 : Shape := ⟨3, ![64, 128, 4]⟩
abbrev S4x128x1 : Shape := ⟨3, ![4, 128, 1]⟩
abbrev S4x1x128 : Shape := ⟨3, ![4, 1, 128]⟩

abbrev nBuf : Space → Nat
  | .hbm => 193
  | .vmem => 0
  | .smem => 0
  | _ => 0

abbrev hbmTy0_0 (i : Nat) : BufTy := match i % 128 with
  | 0 => ⟨S8192x1536, .f32⟩
  | 1 => ⟨S8192x256, .f32⟩
  | 2 => ⟨S4x64, .f32⟩
  | 3 => ⟨S4x64, .f32⟩
  | 4 => ⟨S4x128x128, .f32⟩
  | 5 => ⟨S4x128, .f32⟩
  | 6 => ⟨S8192x512, .f32⟩
  | 7 => ⟨S1x8192x512, .f32⟩
  | 8 => ⟨S_, .f32⟩
  | 9 => ⟨S_, .f32⟩
  | 10 => ⟨S_, .f32⟩
  | 11 => ⟨S1x8192x512, .f32⟩
  | 12 => ⟨S1x8192x512, .f32⟩
  | 13 => ⟨S1x8192x512, .f32⟩
  | 14 => ⟨S_, .f32⟩
  | 15 => ⟨S1x8192x512, .f32⟩
  | 16 => ⟨S1x8192x512, .f32⟩
  | 17 => ⟨S1x8192x512, .f32⟩
  | 18 => ⟨S1x8192x512, .f32⟩
  | 19 => ⟨S1x8192x512, .f32⟩
  | 20 => ⟨S_, .f32⟩
  | 21 => ⟨S1x8192x512, .f32⟩
  | 22 => ⟨S1x8192x512, .f32⟩
  | 23 => ⟨S1x8192x512, .f32⟩
  | 24 => ⟨S_, .f32⟩
  | 25 => ⟨S1x8192x512, .f32⟩
  | 26 => ⟨S1x8192x512, .f32⟩
  | 27 => ⟨S_, .f32⟩
  | 28 => ⟨S1x8192x512, .f32⟩
  | 29 => ⟨S1x8192x512, .f32⟩
  | 30 => ⟨S1x8192x512, .f32⟩
  | 31 => ⟨S_, .f32⟩
  | 32 => ⟨S1x8192x512, .f32⟩
  | 33 => ⟨S1x8192x512, .f32⟩
  | 34 => ⟨S_, .f32⟩
  | 35 => ⟨S1x8192x512, .f32⟩
  | 36 => ⟨S1x8192x512, .f32⟩
  | 37 => ⟨S1x8192x512, .f32⟩
  | 38 => ⟨S1x64x128x4x128, .f32⟩
  | 39 => ⟨S1x64x128x4x64, .f32⟩
  | 40 => ⟨S1x64x128x4x64, .f32⟩
  | 41 => ⟨S_, .f32⟩
  | 42 => ⟨S1x64x128x4, .f32⟩
  | 43 => ⟨S1x64x128x4x1, .f32⟩
  | 44 => ⟨S_, .f32⟩
  | 45 => ⟨S1x64x128x4x1, .f32⟩
  | 46 => ⟨S1x64x128x4x1, .f32⟩
  | 47 => ⟨S1x64x128x4x64, .f32⟩
  | 48 => ⟨S1x64x128x4x64, .f32⟩
  | 49 => ⟨S1x64x128x4x64, .f32⟩
  | 50 => ⟨S_, .f32⟩
  | 51 => ⟨S1x64x128x4, .f32⟩
  | 52 => ⟨S1x64x128x4x1, .f32⟩
  | 53 => ⟨S_, .f32⟩
  | 54 => ⟨S1x64x128x4x1, .f32⟩
  | 55 => ⟨S1x64x128x4x1, .f32⟩
  | 56 => ⟨S_, .f32⟩
  | 57 => ⟨S1x64x128x4x1, .f32⟩
  | 58 => ⟨S1x64x128x4x1, .f32⟩
  | 59 => ⟨S1x64x128x4x1, .f32⟩
  | 60 => ⟨S1x64x128x4x1, .f32⟩
  | 61 => ⟨S_, .f32⟩
  | 62 => ⟨S1x64x128x4x1, .f32⟩
  | 63 => ⟨S1x64x128x4x1, .f32⟩
  | 64 => ⟨S1x64x128x4x64, .f32⟩
  | 65 => ⟨S1x64x128x4x64, .f32⟩
  | 66 => ⟨S1x1x1x4x64, .f32⟩
  | 67 => ⟨S1x64x128x4x64, .f32⟩
  | 68 => ⟨S1x64x128x4x64, .f32⟩
  | 69 => ⟨S1x1x1x4x64, .f32⟩
  | 70 => ⟨S1x64x128x4x64, .f32⟩
  | 71 => ⟨S1x64x128x4x64, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S_, .f32⟩
  | 84 => ⟨S_, .f32⟩
  | 85 => ⟨S4x128x128, .i1⟩
  | 86 => ⟨S4x128x128, .f32⟩
  | 87 => ⟨S4x128x128, .f32⟩
  | 88 => ⟨S_, .f32⟩
  | 89 => ⟨S4x128x128, .f32⟩
  | 90 => ⟨S4x1x64x64x128, .f32⟩
  | 91 => ⟨S1x64x128x4x64, .f32⟩
  | 92 => ⟨S128x4, .f32⟩
  | 93 => ⟨S1x1x128x4x1, .f32⟩
  | 94 => ⟨S1x64x128x4x64, .f32⟩
  | 95 => ⟨S1x64x128x4x64, .f32⟩
  | 96 => ⟨S1x64x128x4x64, .f32⟩
  | 97 => ⟨S1x8192x256, .f32⟩
  | 98 => ⟨S8192x256, .f32⟩
  | 99 => ⟨S1x8192x256, .f32⟩
  | 100 => ⟨S1x64x128x4x64, .f32⟩
  | 101 => ⟨S1x64x128x4x64, .f32⟩
  | 102 => ⟨S1x64x128x4x64, .f32⟩
  | 103 => ⟨S_, .f32⟩
  | 104 => ⟨S1x128x4, .f32⟩
  | 105 => ⟨S1x1x128x4x1, .f32⟩
  | 106 => ⟨S_, .f32⟩
  | 107 => ⟨S128x4, .f32⟩
  | 108 => ⟨S4x128, .f32⟩
  | 109 => ⟨S4x1x64x64x128, .f32⟩
  | 110 => ⟨S4x128x128, .f32⟩
  | 111 => ⟨S4x1x64x64x128, .f32⟩
  | 112 => ⟨S1x64x128x4x64, .f32⟩
  | 113 => ⟨S_, .f32⟩
  | 114 => ⟨S4x128x128, .f32⟩
  | 115 => ⟨S4x128x128, .f32⟩
  | 116 => ⟨S_, .f32⟩
  | 117 => ⟨S1x4x64, .f32⟩
  | 118 => ⟨S1x1x1x4x64, .f32⟩
  | 119 => ⟨S_, .f32⟩
  | 120 => ⟨S4x64, .f32⟩
  | 121 => ⟨S1x64x128x4x64, .f32⟩
  | 122 => ⟨S_, .f32⟩
  | 123 => ⟨S1x4x64, .f32⟩
  | 124 => ⟨S1x1x1x4x64, .f32⟩
  | 125 => ⟨S1x64x128x4x64, .f32⟩
  | 126 => ⟨S1x64x128x4x64, .f32⟩
  | 127 => ⟨S_, .f32⟩
  | _ => ⟨S8192x1536, .f32⟩

abbrev hbmTy0_1 (i : Nat) : BufTy := match i % 128 with
  | 0 => ⟨S4x64, .f32⟩
  | 1 => ⟨S1x64x128x4x64, .f32⟩
  | 2 => ⟨S_, .f32⟩
  | 3 => ⟨S1x64x128x4, .f32⟩
  | 4 => ⟨S1x64x128x4x1, .f32⟩
  | 5 => ⟨S1x64x128x4x64, .f32⟩
  | 6 => ⟨S1x64x128x4x64, .f32⟩
  | 7 => ⟨S1x64x128x4x1, .f32⟩
  | 8 => ⟨S_, .f32⟩
  | 9 => ⟨S1x64x128x4x1, .f32⟩
  | 10 => ⟨S1x64x128x4x1, .f32⟩
  | 11 => ⟨S_, .f32⟩
  | 12 => ⟨S64x128x4, .f32⟩
  | 13 => ⟨S1x64x128x4, .f32⟩
  | 14 => ⟨S1x64x128x4x64, .f32⟩
  | 15 => ⟨S1x64x128x4x64, .f32⟩
  | 16 => ⟨S1x64x128x4x64, .f32⟩
  | 17 => ⟨S1x64x128x4x64, .f32⟩
  | 18 => ⟨S1x64x128x4x64, .f32⟩
  | 19 => ⟨S1x64x128x4x64, .f32⟩
  | 20 => ⟨S_, .f32⟩
  | 21 => ⟨S1x64x128x4, .f32⟩
  | 22 => ⟨S1x64x128x4x1, .f32⟩
  | 23 => ⟨S_, .f32⟩
  | 24 => ⟨S1x64x128x4x1, .f32⟩
  | 25 => ⟨S1x64x128x4x1, .f32⟩
  | 26 => ⟨S_, .f32⟩
  | 27 => ⟨S64x128x4, .f32⟩
  | 28 => ⟨S1x64x128x4, .f32⟩
  | 29 => ⟨S1x64x128x4x64, .f32⟩
  | 30 => ⟨S1x64x128x4x64, .f32⟩
  | 31 => ⟨S1x64x128x4x128, .f32⟩
  | 32 => ⟨S1x8192x512, .f32⟩
  | 33 => ⟨S1x8192x512, .f32⟩
  | 34 => ⟨S1x8192x512, .f32⟩
  | 35 => ⟨S_, .f32⟩
  | 36 => ⟨S1x8192x512, .f32⟩
  | 37 => ⟨S1x8192x512, .f32⟩
  | 38 => ⟨S1x8192x512, .f32⟩
  | 39 => ⟨S_, .f32⟩
  | 40 => ⟨S1x8192x512, .f32⟩
  | 41 => ⟨S1x8192x512, .f32⟩
  | 42 => ⟨S1x8192x512, .f32⟩
  | 43 => ⟨S1x8192x512, .f32⟩
  | 44 => ⟨S1x8192x512, .f32⟩
  | 45 => ⟨S1x8192x512, .f32⟩
  | 46 => ⟨S1x8192x512, .f32⟩
  | 47 => ⟨S_, .f32⟩
  | 48 => ⟨S8192x512, .f32⟩
  | 49 => ⟨S_, .f32⟩
  | 50 => ⟨S8192x1536, .f32⟩
  | 51 => ⟨S8192x512, .f32⟩
  | 52 => ⟨S8192x512, .bf16⟩
  | 53 => ⟨S4x128x1, .f32⟩
  | 54 => ⟨S4x128x128, .f32⟩
  | 55 => ⟨S_, .f32⟩
  | 56 => ⟨S4x64, .f32⟩
  | 57 => ⟨S4x128, .f32⟩
  | 58 => ⟨S4x1x128, .f32⟩
  | 59 => ⟨S4x128x128, .f32⟩
  | 60 => ⟨S_, .f32⟩
  | 61 => ⟨S4x64, .f32⟩
  | 62 => ⟨S4x128, .f32⟩
  | 63 => ⟨S4x1x128, .f32⟩
  | 64 => ⟨S4x128x128, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_v52 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v53 : Ref sig .tc := ⟨.hbm, 82, rfl⟩
abbrev main_cst_13 : Ref sig .tc := ⟨.hbm, 83, rfl⟩
abbrev main_call1_v0 : Ref sig .tc := ⟨.hbm, 84, rfl⟩
abbrev main_v54_1 : Ref sig .tc := ⟨.hbm, 85, rfl⟩
abbrev main_call1_v2 : Ref sig .tc := ⟨.hbm, 86, rfl⟩
abbrev main_v54_0 : Ref sig .tc := ⟨.hbm, 87, rfl⟩
abbrev main_call1_cst : Ref sig .tc := ⟨.hbm, 88, rfl⟩
abbrev main_v54_2 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call2_cst : Ref sig .tc := ⟨.hbm, 113, rfl⟩
abbrev main_call2_v0 : Ref sig .tc := ⟨.hbm, 114, rfl⟩
abbrev main_v76 : Ref sig .tc := ⟨.hbm, 115, rfl⟩
abbrev main_cst_16 : Ref sig .tc := ⟨.hbm, 116, rfl⟩
abbrev main_v77 : Ref sig .tc := ⟨.hbm, 117, rfl⟩
abbrev main_v78 : Ref sig .tc := ⟨.hbm, 118, rfl⟩
abbrev main_cst_17 : Ref sig .tc := ⟨.hbm, 119, rfl⟩
abbrev main_v79 : Ref sig .tc := ⟨.hbm, 120, rfl⟩
abbrev main_v80 : Ref sig .tc := ⟨.hbm, 121, rfl⟩
abbrev main_cst_18 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_19 : Ref sig .tc := ⟨.hbm, 127, rfl⟩
abbrev main_v85 : Ref sig .tc := ⟨.hbm, 128, rfl⟩
abbrev main_v86 : Ref sig .tc := ⟨.hbm, 129, rfl⟩
abbrev main_cst_20 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_21 : Ref sig .tc := ⟨.hbm, 136, rfl⟩
abbrev main_v92 : Ref sig .tc := ⟨.hbm, 137, rfl⟩
abbrev main_v93 : Ref sig .tc := ⟨.hbm, 138, rfl⟩
abbrev main_cst_22 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_v102 : Ref sig .tc := ⟨.hbm, 149, rfl⟩
abbrev main_v103 : Ref sig .tc := ⟨.hbm, 150, rfl⟩
abbrev main_cst_24 : Ref sig .tc := ⟨.hbm, 151, rfl⟩
abbrev main_v104 : Ref sig .tc := ⟨.hbm, 152, rfl⟩
abbrev main_v105 : Ref sig .tc := ⟨.hbm, 153, rfl⟩
abbrev main_cst_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_27 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_28 : Ref sig .tc := ⟨.hbm, 175, rfl⟩
abbrev main_v124 : Ref sig .tc := ⟨.hbm, 176, rfl⟩
abbrev main_cst_29 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_30 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_31 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩

abbrev nD : Nat := 1
abbrev τ : Topo := Topo.v7x

variable {F : FTy → Type} [FloatOps F]
-- ==== Act.lean ====
abbrev S8192x1024 : Shape := ⟨2, ![8192, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S1024x1024 : Shape := ⟨2, ![1024, 1024]⟩
abbrev S1x1024x1024 : Shape := ⟨3, ![1, 1024, 1024]⟩
abbrev S256x1024 : Shape := ⟨2, ![256, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ActRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DxTwo.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x1024, .bf16⟩
  | .hbm, ⟨9, _⟩ => ⟨S4096x1024, .bf16⟩
  | .hbm, ⟨10, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxTwoRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Norm.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S1024x1024 : Shape := ⟨2, ![1024, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x4096, .bf16⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v15 : BitVec 32 := Scalar.extui v0
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== NormRefIdeal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DwTwo.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwTwoRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOne.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOneRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGate.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwGateRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DxGate.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DxGateRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DxOut.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwIn.lean ====
abbrev S8192x1024 : Shape := ⟨2, ![8192, 1024]⟩
abbrev S8192x1536 : Shape := ⟨2, ![8192, 1536]⟩
abbrev S4x1024x384 : Shape := ⟨3, ![4, 1024, 384]⟩
abbrev S2048x1024 : Shape := ⟨2, ![2048, 1024]⟩
abbrev S2048x384 : Shape := ⟨2, ![2048, 384]⟩
abbrev S1x1024x384 : Shape := ⟨3, ![1, 1024, 384]⟩
abbrev S1024x384 : Shape := ⟨2, ![1024, 384]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .bf16⟩
  | .hbm, ⟨3, _⟩ => ⟨S8192x1536, .bf16⟩
  | .hbm, ⟨4, _⟩ => ⟨S4x1024x384, .f32⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1x1024x384, .f32⟩
  | .local _ .vmem, ⟨5, _⟩ => ⟨S1x1024x384, .f32⟩
  | .local _ .vmem, ⟨6, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | .hbm, ⟨7, _⟩ => ⟨S1024x4x384, .f32⟩
  | .hbm, ⟨8, _⟩ => ⟨S4x1024x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxIn.lean ====
abbrev S8192x1536 : Shape := ⟨2, ![8192, 1536]⟩
abbrev S1024x1536 : Shape := ⟨2, ![1024, 1536]⟩
abbrev S8192x1024 : Shape := ⟨2, ![8192, 1024]⟩
abbrev S1024 : Shape := ⟨1, ![1024]⟩
abbrev S1024x4x384 : Shape := ⟨3, ![1024, 4, 384]⟩
abbrev S4x1024x384 : Shape := ⟨3, ![4, 1024, 384]⟩
abbrev S1x1024 : Shape := ⟨2, ![1, 1024]⟩
abbrev S1024x384 : Shape := ⟨2, ![1024, 384]⟩
abbrev S1x1024x384 : Shape := ⟨3, ![1, 1024, 384]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1536, .bf16⟩
  | .hbm, ⟨6, _⟩ => ⟨S1024x1536, .bf16⟩
  | .hbm, ⟨7, _⟩ => ⟨S1024x4x384, .bf16⟩
  | .hbm, ⟨8, _⟩ => ⟨S4x1024x384, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S1024x384, .bf16⟩
  | .local _ .vmem, ⟨1, _⟩ => ⟨S1024x384, .bf16⟩
  | .local _ .vmem, ⟨2, _⟩ => ⟨S1x1024x384, .bf16⟩
  | .local _ .vmem, ⟨3, _⟩ => ⟨S1x1024x384, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v15 : BitVec 32 := Scalar.extui v0
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DxInRefIdeal.lean ====
abbrev S8192x1536 : Shape := ⟨2, ![8192, 1536]⟩
abbrev S1024x1536 : Shape := ⟨2, ![1024, 1536]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1536, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== WIn.lean ====
abbrev S8192x1024 : Shape := ⟨2, ![8192, 1024]⟩
abbrev S1024x1536 : Shape := ⟨2, ![1024, 1536]⟩
abbrev S1024x4x384 : Shape := ⟨3, ![1024, 4, 384]⟩
abbrev S4x1024x384 : Shape := ⟨3, ![4, 1024, 384]⟩
abbrev S8192x1536 : Shape := ⟨2, ![8192, 1536]⟩
abbrev S1024x1024 : Shape := ⟨2, ![1024, 1024]⟩
abbrev S1x1024x384 : Shape := ⟨3, ![1, 1024, 384]⟩
abbrev S1024x384 : Shape := ⟨2, ![1024, 384]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S1024x4x384, .bf16⟩
  | .hbm, ⟨5, _⟩ => ⟨S4x1024x384, .bf16⟩
  | .hbm, ⟨6, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x384, .bf16⟩
  | .local _ .vmem, ⟨3, _⟩ => ⟨S1x1024x384, .bf16⟩
  | .local _ .vmem, ⟨4, _⟩ => ⟨S1024x384, .f32⟩
  | .local _ .vmem, ⟨5, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WOut.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== WOutRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== FfTwo.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x4096, .bf16⟩
  | .hbm, ⟨5, _⟩ => ⟨S4096x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfTwoRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Gate.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== GateRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== PleProj.lean ====
abbrev S8192x256 : Shape := ⟨2, ![8192, 256]⟩
abbrev S256x1024 : Shape := ⟨2, ![256, 1024]⟩
abbrev S256x4x256 : Shape := ⟨3, ![256, 4, 256]⟩
abbrev S4x256x256 : Shape := ⟨3, ![4, 256, 256]⟩
abbrev S8192x1024 : Shape := ⟨2, ![8192, 1024]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 7
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S256x4x256, .bf16⟩
  | .hbm, ⟨5, _⟩ => ⟨S4x256x256, .bf16⟩
  | .hbm, ⟨6, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1024x256, .f32⟩
  | .local _ .vmem, ⟨5, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwProj.lean ====
abbrev S8192x256 : Shape := ⟨2, ![8192, 256]⟩
abbrev S8192x1024 : Shape := ⟨2, ![8192, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S4x256x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwProjRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x4x256, .f32⟩
  | .hbm, ⟨8, _⟩ => ⟨S4x256x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Glu.lean ====
abbrev S8192x256 : Shape := ⟨2, ![8192, 256]⟩
abbrev S256x256 : Shape := ⟨2, ![256, 256]⟩
abbrev S256x512 : Shape := ⟨2, ![256, 512]⟩
abbrev S8192x512 : Shape := ⟨2, ![8192, 512]⟩
abbrev S1024x256 : Shape := ⟨2, ![1024, 256]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S256x512, .f32⟩
  | .hbm, ⟨4, _⟩ => ⟨S256x512, .bf16⟩
  | .hbm, ⟨5, _⟩ => ⟨S8192x256, .bf16⟩
  | .hbm, ⟨6, _⟩ => ⟨S8192x512, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S1024x512, .f32⟩
  | .local _ .vmem, ⟨4, _⟩ => ⟨S1024x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluRefIdeal.lean ====
abbrev S8192x256 : Shape := ⟨2, ![8192, 256]⟩
abbrev S256x256 : Shape := ⟨2, ![256, 256]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S8192x256, .f32⟩
  | .hbm, ⟨4, _⟩ => ⟨S8192x256, .f32⟩
  | .hbm, ⟨5, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwGlu.lean ====
abbrev S8192x256 : Shape := ⟨2, ![8192, 256]⟩
abbrev S8192x512 : Shape := ⟨2, ![8192, 512]⟩
abbrev S256x512 : Shape := ⟨2, ![256, 512]⟩
abbrev S2048x256 : Shape := ⟨2, ![2048, 256]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .bf16⟩
  | .hbm, ⟨3, _⟩ => ⟨S8192x512, .bf16⟩
  | .hbm, ⟨4, _⟩ => ⟨S256x512, .f32⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwGluRefIdeal.lean ====
abbrev S8192x256 : Shape := ⟨2, ![8192, 256]⟩
abbrev S8192x512 : Shape := ⟨2, ![8192, 512]⟩
abbrev S_ : Shape := ⟨0, ![]⟩
abbrev S256x256 : Shape := ⟨2, ![256, 256]⟩
abbrev S256x512 : Shape := ⟨2, ![256, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S_, .f32⟩
  | .hbm, ⟨3, _⟩ => ⟨S256x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DxGlu.lean ====
abbrev S8192x512 : Shape := ⟨2, ![8192, 512]⟩
abbrev S256x256 : Shape := ⟨2, ![256, 256]⟩
abbrev S8192x256 : Shape := ⟨2, ![8192, 256]⟩
abbrev S256x512 : Shape := ⟨2, ![256, 512]⟩
abbrev S1024x512 : Shape := ⟨2, ![1024, 512]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S256x256, .f32⟩
  | .hbm, ⟨2, _⟩ => ⟨S256x256, .f32⟩
  | .hbm, ⟨3, _⟩ => ⟨S8192x256, .f32⟩
  | .hbm, ⟨4, _⟩ => ⟨S256x512, .f32⟩
  | .hbm, ⟨5, _⟩ => ⟨S256x512, .bf16⟩
  | .hbm, ⟨6, _⟩ => ⟨S8192x512, .bf16⟩
  | .hbm, ⟨7, _⟩ => ⟨S8192x256, .f32⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxGluIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== DxGluRefIdeal.lean ====
abbrev S8192x512 : Shape := ⟨2, ![8192, 512]⟩
abbrev S256x256 : Shape := ⟨2, ![256, 256]⟩
abbrev S8192x256 : Shape := ⟨2, ![8192, 256]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x256, .f32⟩
  | .hbm, ⟨2, _⟩ => ⟨S256x256, .f32⟩
  | .hbm, ⟨3, _⟩ => ⟨S8192x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S8192x256, .f32⟩
  | .hbm, ⟨22, _⟩ => ⟨S8192x256, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S_, .f32⟩
  | .hbm, ⟨48, _⟩ => ⟨S8192x256, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== PleElem.lean ====
abbrev S8192x1024 : Shape := ⟨2, ![8192, 1024]⟩
abbrev S_ : Shape := ⟨0, ![]⟩
abbrev S512x1024 : Shape := ⟨2, ![512, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleElemRefIdeal.lean ====
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Gmlp.lean ====
abbrev S8192x1536 : Shape := ⟨2, ![8192, 1536]⟩
abbrev S4x64 : Shape := ⟨2, ![4, 64]⟩
abbrev S4x128x128 : Shape := ⟨3, ![4, 128, 128]⟩
abbrev S4x128 : Shape := ⟨2, ![4, 128]⟩
abbrev S_ : Shape := ⟨0, ![]⟩
abbrev S4x128x64 : Shape := ⟨3, ![4, 128, 64]⟩
abbrev S4x128x1 : Shape := ⟨3, ![4, 128, 1]⟩
abbrev S8192x256 : Shape := ⟨2, ![8192, 256]⟩
abbrev S256x512 : Shape := ⟨2, ![256, 512]⟩
abbrev S256x256 : Shape := ⟨2, ![256, 256]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩

abbrev nBuf : Space → Nat
  | .hbm => 17
  | .vmem => 8
  | .smem => 0
  | _ => 0

abbrev bufTy : (tb : Table) → Fin (tcTables nBuf tb) → BufTy
  | .hbm, ⟨0, _⟩ => ⟨S8192x1536, .f32⟩
  | .hbm, ⟨1, _⟩ => ⟨S4x64, .f32⟩
  | .hbm, ⟨2, _⟩ => ⟨S4x64, .f32⟩
  | .hbm, ⟨3, _⟩ => ⟨S4x128x128, .f32⟩
  | .hbm, ⟨4, _⟩ => ⟨S4x128, .f32⟩
  | .hbm, ⟨5, _⟩ => ⟨S_, .f32⟩
  | .hbm, ⟨6, _⟩ => ⟨S4x128x64, .f32⟩
  | .hbm, ⟨7, _⟩ => ⟨S4x128x1, .f32⟩
  | .hbm, ⟨8, _⟩ => ⟨S4x128x64, .f32⟩
  | .hbm, ⟨9, _⟩ => ⟨S4x128x128, .f32⟩
  | .hbm, ⟨10, _⟩ => ⟨S_, .f32⟩
  | .hbm, ⟨11, _⟩ => ⟨S4x64, .f32⟩
  | .hbm, ⟨12, _⟩ => ⟨S4x128, .f32⟩
  | .hbm, ⟨13, _⟩ => ⟨S_, .f32⟩
  | .hbm, ⟨14, _⟩ => ⟨S4x64, .f32⟩
  | .hbm, ⟨15, _⟩ => ⟨S4x128, .f32⟩
  | .hbm, ⟨16, _⟩ => ⟨S8192x256, .f32⟩
  | .local _ .vmem, ⟨0, _⟩ => ⟨S256x512, .f32⟩
  | .local _ .vmem, ⟨1, _⟩ => ⟨S256x512, .f32⟩
  | .local _ .vmem, ⟨2, _⟩ => ⟨S4x128x128, .f32⟩
  | .local _ .vmem, ⟨3, _⟩ => ⟨S4x128x128, .f32⟩
  | .local _ .vmem, ⟨4, _⟩ => ⟨S4x128, .f32⟩
  | .local _ .vmem, ⟨5, _⟩ => ⟨S4x128, .f32⟩
  | .local _ .vmem, ⟨6, _⟩ => ⟨S256x256, .f32⟩
  | .local _ .vmem, ⟨7, _⟩ => ⟨S256x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== GmlpRefIdeal.lean ====
abbrev S8192x1536 : Shape := ⟨2, ![8192, 1536]⟩
abbrev S4x64 : Shape := ⟨2, ![4, 64]⟩
abbrev S4x128x128 : Shape := ⟨3, ![4, 128, 128]⟩
abbrev S4x128 : Shape := ⟨2, ![4, 128]⟩
abbrev S8192x512 : Shape := ⟨2, ![8192, 512]⟩
abbrev S1x8192x512 : Shape := ⟨3, ![1, 8192, 512]⟩
abbrev S_ : Shape := ⟨0, ![]⟩
abbrev S1x64x128x4x128 : Shape := ⟨5, ![1, 64, 128, 4, 128]⟩
abbrev S1x64x128x4x64 : Shape := ⟨5, ![1, 64, 128, 4, 64]⟩
abbrev S1x64x128x4 : Shape := ⟨4, ![1, 64, 128, 4]⟩
abbrev S1x64x128x4x1 : Shape := ⟨5, ![1, 64, 128, 4, 1]⟩
abbrev S1x1x1x4x64 : Shape := ⟨5, ![1, 1, 1, 4, 64]⟩
abbrev S128x128 : Shape := ⟨2, ![128, 128]⟩
abbrev S4x1x64x64x128 : Shape := ⟨5, ![4, 1, 64, 64, 128]⟩
abbrev S128x4 : Shape := ⟨2, ![128, 4]⟩
abbrev S1x1x128x4x1 : Shape := ⟨5, ![1, 1, 128, 4, 1]⟩
abbrev S1x8192x256 : Shape := ⟨3, ![1, 8192, 256]⟩
abbrev S8192x256 : Shape := ⟨2, ![8192, 256]⟩

abbrev nBuf : Space → Nat
  | .hbm => 81
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S4x64, .f32⟩
  | .hbm, ⟨2, _⟩ => ⟨S4x64, .f32⟩
  | .hbm, ⟨3, _⟩ => ⟨S4x128x128, .f32⟩
  | .hbm, ⟨4, _⟩ => ⟨S4x128, .f32⟩
  | .hbm, ⟨5, _⟩ => ⟨S8192x512, .f32⟩
  | .hbm, ⟨6, _⟩ => ⟨S1x8192x512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x8192x512, .f32⟩
  | .hbm, ⟨11, _⟩ => ⟨S1x8192x512, .f32⟩
  | .hbm, ⟨12, _⟩ => ⟨S1x8192x512, .f32⟩
  | .hbm, ⟨13, _⟩ => ⟨S1x8192x512, .f32⟩
  | .hbm, ⟨14, _⟩ => ⟨S1x8192x512, .f32⟩
  | .hbm, ⟨15, _⟩ => ⟨S_, .f32⟩
  | .hbm, ⟨16, _⟩ => ⟨S1x8192x512, .f32⟩
  | .hbm, ⟨17, _⟩ => ⟨S1x8192x512, .f32⟩
  | .hbm, ⟨18, _⟩ => ⟨S1x8192x512, .f32⟩
  | .hbm, ⟨19, _⟩ => ⟨S_, .f32⟩
  | .hbm, ⟨20, _⟩ => ⟨S1x8192x512, .f32⟩
  | .hbm, ⟨21, _⟩ => ⟨S1x8192x512, .f32⟩
  | .hbm, ⟨22, _⟩ => ⟨S_, .f32⟩
  | .hbm, ⟨23, _⟩ => ⟨S1x8192x512, .f32⟩
  | .hbm, ⟨24, _⟩ => ⟨S1x8192x512, .f32⟩
  | .hbm, ⟨25, _⟩ => ⟨S1x8192x512, .f32⟩
  | .hbm, ⟨26, _⟩ => ⟨S1x64x128x4x128, .f32⟩
  | .hbm, ⟨27, _⟩ => ⟨S1x64x128x4x64, .f32⟩
  | .hbm, ⟨28, _⟩ => ⟨S1x64x128x4x64, .f32⟩
  | .hbm, ⟨29, _⟩ => ⟨S_, .f32⟩
  | .hbm, ⟨30, _⟩ => ⟨S1x64x128x4, .f32⟩
  | .hbm, ⟨31, _⟩ => ⟨S1x64x128x4x1, .f32⟩
  | .hbm, ⟨32, _⟩ => ⟨S_, .f32⟩
  | .hbm, ⟨33, _⟩ => ⟨S1x64x128x4x1, .f32⟩
  | .hbm, ⟨34, _⟩ => ⟨S1x64x128x4x1, .f32⟩
  | .hbm, ⟨35, _⟩ => ⟨S1x64x128x4x64, .f32⟩
  | .hbm, ⟨36, _⟩ => ⟨S1x64x128x4x64, .f32⟩
  | .hbm, ⟨37, _⟩ => ⟨S1x64x128x4x64, .f32⟩
  | .hbm, ⟨38, _⟩ => ⟨S_, .f32⟩
  | .hbm, ⟨39, _⟩ => ⟨S1x64x128x4, .f32⟩
  | .hbm, ⟨40, _⟩ => ⟨S1x64x128x4x1, .f32⟩
  | .hbm, ⟨41, _⟩ => ⟨S_, .f32⟩
  | .hbm, ⟨42, _⟩ => ⟨S1x64x128x4x1, .f32⟩
  | .hbm, ⟨43, _⟩ => ⟨S1x64x128x4x1, .f32⟩
  | .hbm, ⟨44, _⟩ => ⟨S_, .f32⟩
  | .hbm, ⟨45, _⟩ => ⟨S1x64x128x4x1, .f32⟩
  | .hbm, ⟨46, _⟩ => ⟨S1x64x128x4x1, .f32⟩
  | .hbm, ⟨47, _⟩ => ⟨S1x64x128x4x1, .f32⟩
  | .hbm, ⟨48, _⟩ => ⟨S1x64x128x4x64, .f32⟩
  | .hbm, ⟨49, _⟩ => ⟨S1x64x128x4x64, .f32⟩
  | .hbm, ⟨50, _⟩ => ⟨S1x1x1x4x64, .f32⟩
  | .hbm, ⟨51, _⟩ => ⟨S1x64x128x4x64, .f32⟩
  | .hbm, ⟨52, _⟩ => ⟨S1x64x128x4x64, .f32⟩
  | .hbm, ⟨53, _⟩ => ⟨S1x1x1x4x64, .f32⟩
  | .hbm, ⟨54, _⟩ => ⟨S1x64x128x4x64, .f32⟩
  | .hbm, ⟨55, _⟩ => ⟨S1x64x128x4x64, .f32⟩
  | .hbm, ⟨56, _⟩ => ⟨S_, .i1⟩
  | .hbm, ⟨57, _⟩ => ⟨S128x128, .i1⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S_, .i1⟩
  | .hbm, ⟨65, _⟩ => ⟨S128x128, .i1⟩
  | .hbm, ⟨66, _⟩ => ⟨S128x128, .i1⟩
  | .hbm, ⟨67, _⟩ => ⟨S_, .f32⟩
  | .hbm, ⟨68, _⟩ => ⟨S_, .f32⟩
  | .hbm, ⟨69, _⟩ => ⟨S4x128x128, .i1⟩
  | .hbm, ⟨70, _⟩ => ⟨S4x128x128, .f32⟩
  | .hbm, ⟨71, _⟩ => ⟨S4x128x128, .f32⟩
  | .hbm, ⟨72, _⟩ => ⟨S4x1x64x64x128, .f32⟩
  | .hbm, ⟨73, _⟩ => ⟨S1x64x128x4x64, .f32⟩
  | .hbm, ⟨74, _⟩ => ⟨S128x4, .f32⟩
  | .hbm, ⟨75, _⟩ => ⟨S1x1x128x4x1, .f32⟩
  | .hbm, ⟨76, _⟩ => ⟨S1x64x128x4x64, .f32⟩
  | .hbm, ⟨77, _⟩ => ⟨S1x64x128x4x64, .f32⟩
  | .hbm, ⟨78, _⟩ => ⟨S1x64x128x4x64, .f32⟩
  | .hbm, ⟨79, _⟩ => ⟨S1x8192x256, .f32⟩
  | .hbm, ⟨80, _⟩ => ⟨S8192x256, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_0 : Ref sig .tc := ⟨.hbm, 64, rfl⟩
abbrev main_call0_v5 : Ref sig .tc := ⟨.hbm, 65, rfl⟩
abbrev main_v42 : Ref sig .tc := ⟨.hbm, 66, rfl⟩
abbrev main_cst_9 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Merge.lean ====
abbrev S8192x256 : Shape := ⟨2, ![8192, 256]⟩
abbrev S8192x512 : Shape := ⟨2, ![8192, 512]⟩
abbrev S1024 : Shape := ⟨1, ![1024]⟩
abbrev S1x1024 : Shape := ⟨2, ![1, 1024]⟩
abbrev S8192x1024 : Shape := ⟨2, ![8192, 1024]⟩
abbrev S512x256 : Shape := ⟨2, ![512, 256]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x256 : Shape := ⟨2, ![1, 256]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x512, .f32⟩
  | .hbm, ⟨3, _⟩ => ⟨S1024, .f32⟩
  | .hbm, ⟨4, _⟩ => ⟨S1x1024, .f32⟩
  | .hbm, ⟨5, _⟩ => ⟨S8192x1024, .bf16⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S8192x256 : Shape := ⟨2, ![8192, 256]⟩
abbrev S8192x512 : Shape := ⟨2, ![8192, 512]⟩
abbrev S1024 : Shape := ⟨1, ![1024]⟩
abbrev S_ : Shape := ⟨0, ![]⟩
abbrev S256 : Shape := ⟨1, ![256]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩
abbrev S8192x1024 : Shape := ⟨2, ![8192, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x512, .f32⟩
  | .hbm, ⟨3, _⟩ => ⟨S1024, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S_, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S256, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x256, .f32⟩
  | .hbm, ⟨28, _⟩ => ⟨S8192x256, .f32⟩
  | .hbm, ⟨29, _⟩ => ⟨S1x256, .f32⟩
  | .hbm, ⟨30, _⟩ => ⟨S8192x256, .f32⟩
  | .hbm, ⟨31, _⟩ => ⟨S8192x256, .f32⟩
  | .hbm, ⟨32, _⟩ => ⟨S512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x512, .f32⟩
  | .hbm, ⟨45, _⟩ => ⟨S8192x512, .f32⟩
  | .hbm, ⟨46, _⟩ => ⟨S1x512, .f32⟩
  | .hbm, ⟨47, _⟩ => ⟨S8192x512, .f32⟩
  | .hbm, ⟨48, _⟩ => ⟨S8192x512, .f32⟩
  | .hbm, ⟨49, _⟩ => ⟨S256, .f32⟩
  | .hbm, ⟨50, _⟩ => ⟨S8192x256, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x256, .f32⟩
  | .hbm, ⟨62, _⟩ => ⟨S8192x256, .f32⟩
  | .hbm, ⟨63, _⟩ => ⟨S1x256, .f32⟩
  | .hbm, ⟨64, _⟩ => ⟨S8192x256, .f32⟩
  | .hbm, ⟨65, _⟩ => ⟨S8192x256, .f32⟩
  | .hbm, ⟨66, _⟩ => ⟨S8192x1024, .f32⟩
  | .hbm, ⟨67, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== DMerge.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256 : Shape := ⟨2, ![1, 256]⟩
abbrev S256 : Shape := ⟨1, ![256]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x512, .f32⟩
  | .hbm, ⟨4, _⟩ => ⟨S1024, .f32⟩
  | .hbm, ⟨5, _⟩ => ⟨S1x1024, .f32⟩
  | .hbm, ⟨6, _⟩ => ⟨S8192x256, .f32⟩
  | .hbm, ⟨7, _⟩ => ⟨S8192x512, .f32⟩
  | .hbm, ⟨8, _⟩ => ⟨S8192x512, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1024, .f32⟩
  | .local _ .vmem, ⟨9, _⟩ => ⟨S512x256, .f32⟩
  | .local _ .vmem, ⟨10, _⟩ => ⟨S512x256, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DMergeRefIdeal.lean ====
abbrev S8192x1024 : Shape := ⟨2, ![8192, 1024]⟩
abbrev S8192x256 : Shape := ⟨2, ![8192, 256]⟩
abbrev S8192x512 : Shape := ⟨2, ![8192, 512]⟩
abbrev S1024 : Shape := ⟨1, ![1024]⟩
abbrev S_ : Shape := ⟨0, ![]⟩
abbrev S256 : Shape := ⟨1, ![256]⟩
abbrev S8192 : Shape := ⟨1, ![8192]⟩
abbrev S8192x1 : Shape := ⟨2, ![8192, 1]⟩
abbrev S1x256 : Shape := ⟨2, ![1, 256]⟩
abbrev S512 : Shape := ⟨1, ![512]⟩
abbrev S1x512 : Shape := ⟨2, ![1, 512]⟩
abbrev S1x1024 : Shape := ⟨2, ![1, 1024]⟩

abbrev nBuf : Space → Nat
  | .hbm => 180
  | .vmem => 0
  | .smem => 0
  | _ => 0

abbrev hbmTy0_0 (i : Nat) : BufTy := match i % 128 with
  | 0 => ⟨S8192x1024, .f32⟩
  | 1 => ⟨S8192x256, .f32⟩
  | 2 => ⟨S8192x512, .f32⟩
  | 3 => ⟨S8192x512, .f32⟩
  | 4 => ⟨S1024, .f32⟩
  | 5 => ⟨S8192x256, .f32⟩
  | 6 => ⟨S8192x256, .f32⟩
  | 7 => ⟨S8192x256, .f32⟩
  | 8 => ⟨S8192x256, .f32⟩
  | 9 => ⟨S_, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S_, .f32⟩
  | 16 => ⟨S8192x256, .f32⟩
  | 17 => ⟨S8192x256, .f32⟩
  | 18 => ⟨S8192x256, .f32⟩
  | 19 => ⟨S8192x256, .f32⟩
  | 20 => ⟨S256, .f32⟩
  | 21 => ⟨S8192x256, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x256, .f32⟩
  | 37 => ⟨S8192x256, .f32⟩
  | 38 => ⟨S1x256, .f32⟩
  | 39 => ⟨S8192x256, .f32⟩
  | 40 => ⟨S8192x256, .f32⟩
  | 41 => ⟨S512, .f32⟩
  | 42 => ⟨S8192x512, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x512, .f32⟩
  | 58 => ⟨S8192x512, .f32⟩
  | 59 => ⟨S1x512, .f32⟩
  | 60 => ⟨S8192x512, .f32⟩
  | 61 => ⟨S8192x512, .f32⟩
  | 62 => ⟨S256, .f32⟩
  | 63 => ⟨S8192x256, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x256, .f32⟩
  | 79 => ⟨S8192x256, .f32⟩
  | 80 => ⟨S1x256, .f32⟩
  | 81 => ⟨S8192x256, .f32⟩
  | 82 => ⟨S8192x256, .f32⟩
  | 83 => ⟨S8192x1024, .f32⟩
  | 84 => ⟨S8192x256, .f32⟩
  | 85 => ⟨S8192x512, .f32⟩
  | 86 => ⟨S8192x256, .f32⟩
  | 87 => ⟨S8192x256, .f32⟩
  | 88 => ⟨S_, .f32⟩
  | 89 => ⟨S256, .f32⟩
  | 90 => ⟨S1x256, .f32⟩
  | 91 => ⟨S8192x256, .f32⟩
  | 92 => ⟨S8192x256, .f32⟩
  | 93 => ⟨S_, .f32⟩
  | 94 => ⟨S256, .f32⟩
  | 95 => ⟨S8192x256, .f32⟩
  | 96 => ⟨S_, .f32⟩
  | 97 => ⟨S8192, .f32⟩
  | 98 => ⟨S8192x1, .f32⟩
  | 99 => ⟨S8192x256, .f32⟩
  | 100 => ⟨S8192x256, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S_, .f32⟩
  | 113 => ⟨S1024, .f32⟩
  | 114 => ⟨S8192x512, .f32⟩
  | 115 => ⟨S_, .f32⟩
  | 116 => ⟨S512, .f32⟩
  | 117 => ⟨S1x512, .f32⟩
  | 118 => ⟨S8192x512, .f32⟩
  | 119 => ⟨S8192x512, .f32⟩
  | 120 => ⟨S_, .f32⟩
  | 121 => ⟨S512, .f32⟩
  | 122 => ⟨S8192x512, .f32⟩
  | 123 => ⟨S_, .f32⟩
  | 124 => ⟨S8192, .f32⟩
  | 125 => ⟨S8192x1, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S_, .f32⟩
  | 12 => ⟨S1024, .f32⟩
  | 13 => ⟨S1024, .f32⟩
  | 14 => ⟨S8192x256, .f32⟩
  | 15 => ⟨S_, .f32⟩
  | 16 => ⟨S256, .f32⟩
  | 17 => ⟨S1x256, .f32⟩
  | 18 => ⟨S8192x256, .f32⟩
  | 19 => ⟨S8192x256, .f32⟩
  | 20 => ⟨S_, .f32⟩
  | 21 => ⟨S256, .f32⟩
  | 22 => ⟨S8192x256, .f32⟩
  | 23 => ⟨S_, .f32⟩
  | 24 => ⟨S8192, .f32⟩
  | 25 => ⟨S8192x1, .f32⟩
  | 26 => ⟨S8192x256, .f32⟩
  | 27 => ⟨S8192x256, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S_, .f32⟩
  | 40 => ⟨S1024, .f32⟩
  | 41 => ⟨S1024, .f32⟩
  | 42 => ⟨S8192x256, .f32⟩
  | 43 => ⟨S8192x256, .f32⟩
  | 44 => ⟨S8192x256, .f32⟩
  | 45 => ⟨S_, .f32⟩
  | 46 => ⟨S8192x512, .f32⟩
  | 47 => ⟨S_, .f32⟩
  | 48 => ⟨S8192x512, .f32⟩
  | 49 => ⟨S8192x512, .f32⟩
  | 50 => ⟨S8192x512, .bf16⟩
  | 51 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_15 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_17 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_21 : Ref sig .tc := ⟨.hbm, 120, rfl⟩
abbrev main_v93 : Ref sig .tc := ⟨.hbm, 121, rfl⟩
abbrev main_v94 : Ref sig .tc := ⟨.hbm, 122, rfl⟩
abbrev main_cst_22 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_23 : Ref sig .tc := ⟨.hbm, 129, rfl⟩
abbrev main_v100 : Ref sig .tc := ⟨.hbm, 130, rfl⟩
abbrev main_v101 : Ref sig .tc := ⟨.hbm, 131, rfl⟩
abbrev main_cst_24 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_25 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_26 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_27 : Ref sig .tc := ⟨.hbm, 148, rfl⟩
abbrev main_v115 : Ref sig .tc := ⟨.hbm, 149, rfl⟩
abbrev main_v116 : Ref sig .tc := ⟨.hbm, 150, rfl⟩
abbrev main_cst_28 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_29 : Ref sig .tc := ⟨.hbm, 157, rfl⟩
abbrev main_v122 : Ref sig .tc := ⟨.hbm, 158, rfl⟩
abbrev main_v123 : Ref sig .tc := ⟨.hbm, 159, rfl⟩
abbrev main_cst_30 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_31 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_32 : Ref sig .tc := ⟨.hbm, 173, rfl⟩
abbrev main_v135 : Ref sig .tc := ⟨.hbm, 174, rfl⟩
abbrev main_cst_33 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩

abbrev nD : Nat := 1
abbrev τ : Topo := Topo.v7x

variable {F : FTy → Type} [FloatOps F]
-- ==== Attn.lean ====
abbrev S8192x512 : Shape := ⟨2, ![8192, 512]⟩
abbrev S8192x128 : Shape := ⟨2, ![8192, 128]⟩
abbrev S8192x1536 : Shape := ⟨2, ![8192, 1536]⟩
abbrev S8 : Shape := ⟨1, ![8]⟩
abbrev S512x512 : Shape := ⟨2, ![512, 512]⟩
abbrev S128x128 : Shape := ⟨2, ![128, 128]⟩
abbrev S512x128 : Shape := ⟨2, ![512, 128]⟩
abbrev S640x128 : Shape := ⟨2, ![640, 128]⟩
abbrev S256x512 : Shape := ⟨2, ![256, 512]⟩
abbrev S256x128 : Shape := ⟨2, ![256, 128]⟩
abbrev S1x512 : Shape := ⟨2, ![1, 512]⟩
abbrev S1 : Shape := ⟨1, ![1]⟩
abbrev S512 : Shape := ⟨1, ![512]⟩

abbrev nBuf : Space → Nat
  | .hbm => 7
  | .vmem => 12
  | .smem => 1
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x1536, .f32⟩
  | .hbm, ⟨3, _⟩ => ⟨S8, .f32⟩
  | .hbm, ⟨4, _⟩ => ⟨S8192x512, .bf16⟩
  | .hbm, ⟨5, _⟩ => ⟨S8192x128, .bf16⟩
  | .hbm, ⟨6, _⟩ => ⟨S8192x512, .f32⟩
  | .local _ .vmem, ⟨0, _⟩ => ⟨S512x512, .bf16⟩
  | .local _ .vmem, ⟨1, _⟩ => ⟨S512x512, .bf16⟩
  | .local _ .vmem, ⟨2, _⟩ => ⟨S128x128, .bf16⟩
  | .local _ .vmem, ⟨3, _⟩ => ⟨S128x128, .bf16⟩
  | .local _ .vmem, ⟨4, _⟩ => ⟨S512x128, .bf16⟩
  | .local _ .vmem, ⟨5, _⟩ => ⟨S512x128, .bf16⟩
  | .local _ .vmem, ⟨6, _⟩ => ⟨S128x128, .f32⟩
  | .local _ .vmem, ⟨7, _⟩ => ⟨S128x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .smem, ⟨0, _⟩ => ⟨S8, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S8192x512 : Shape := ⟨2, ![8192, 512]⟩
abbrev S8192x128 : Shape := ⟨2, ![8192, 128]⟩
abbrev S8192x1536 : Shape := ⟨2, ![8192, 1536]⟩
abbrev S8 : Shape := ⟨1, ![8]⟩
abbrev S8192x8x64 : Shape := ⟨3, ![8192, 8, 64]⟩
abbrev S8192x2x64 : Shape := ⟨3, ![8192, 2, 64]⟩
abbrev S64x128x2x4x64 : Shape := ⟨5, ![64, 128, 2, 4, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x1536, .f32⟩
  | .hbm, ⟨3, _⟩ => ⟨S8, .f32⟩
  | .hbm, ⟨4, _⟩ => ⟨S8192x128, .f32⟩
  | .hbm, ⟨5, _⟩ => ⟨S8192x8x64, .f32⟩
  | .hbm, ⟨6, _⟩ => ⟨S8192x2x64, .f32⟩
  | .hbm, ⟨7, _⟩ => ⟨S8192x2x64, .f32⟩
  | .hbm, ⟨8, _⟩ => ⟨S64x128x2x4x64, .f32⟩
  | .hbm, ⟨9, _⟩ => ⟨S64x128x2x64, .f32⟩
  | .hbm, ⟨10, _⟩ => ⟨S1x128x2x64, .f32⟩
  | .hbm, ⟨11, _⟩ => ⟨S_, .f32⟩
  | .hbm, ⟨12, _⟩ => ⟨S1x128x2x64, .f32⟩
  | .hbm, ⟨13, _⟩ => ⟨S63x128x2x64, .f32⟩
  | .hbm, ⟨14, _⟩ => ⟨S64x128x2x64, .f32⟩
  | .hbm, ⟨15, _⟩ => ⟨S64x256x2x64, .f32⟩
  | .hbm, ⟨16, _⟩ => ⟨S64x128x2x64, .f32⟩
  | .hbm, ⟨17, _⟩ => ⟨S1x128x2x64, .f32⟩
  | .hbm, ⟨18, _⟩ => ⟨S_, .f32⟩
  | .hbm, ⟨19, _⟩ => ⟨S1x128x2x64, .f32⟩
  | .hbm, ⟨20, _⟩ => ⟨S63x128x2x64, .f32⟩
  | .hbm, ⟨21, _⟩ => ⟨S64x128x2x64, .f32⟩
  | .hbm, ⟨22, _⟩ => ⟨S64x256x2x64, .f32⟩
  | .hbm, ⟨23, _⟩ => ⟨S64x2x256x128x4, .f32⟩
  | .hbm, ⟨24, _⟩ => ⟨S64x2x4x128x256, .f32⟩
  | .hbm, ⟨25, _⟩ => ⟨S_, .f32⟩
  | .hbm, ⟨26, _⟩ => ⟨S64x2x4x128x256, .f32⟩
  | .hbm, ⟨27, _⟩ => ⟨S64x2x4x128x256, .f32⟩
  | .hbm, ⟨28, _⟩ => ⟨S128, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S64, .i32⟩
  | .hbm, ⟨46, _⟩ => ⟨S64x1x1, .i32⟩
  | .hbm, ⟨47, _⟩ => ⟨S_, .i32⟩
  | .hbm, ⟨48, _⟩ => ⟨S64x1x1, .i32⟩
  | .hbm, ⟨49, _⟩ => ⟨S64x1x1, .i1⟩
  | .hbm, ⟨50, _⟩ => ⟨S1x128x256, .i1⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S1x1x256, .i1⟩
  | .hbm, ⟨55, _⟩ => ⟨S64x1x256, .i1⟩
  | .hbm, ⟨56, _⟩ => ⟨S64x1x256, .i1⟩
  | .hbm, ⟨57, _⟩ => ⟨S64x1x256, .i1⟩
  | .hbm, ⟨58, _⟩ => ⟨S64x128x256, .i1⟩
  | .hbm, ⟨59, _⟩ => ⟨S64x128x256, .i1⟩
  | .hbm, ⟨60, _⟩ => ⟨S64x128x256, .i1⟩
  | .hbm, ⟨61, _⟩ => ⟨S64x1x1x128x256, .i1⟩
  | .hbm, ⟨62, _⟩ => ⟨S_, .f32⟩
  | .hbm, ⟨63, _⟩ => ⟨S_, .f32⟩
  | .hbm, ⟨64, _⟩ => ⟨S64x2x4x128x256, .i1⟩
  | .hbm, ⟨65, _⟩ => ⟨S64x2x4x128x256, .f32⟩
  | .hbm, ⟨66, _⟩ => ⟨S64x2x4x128x256, .f32⟩
  | .hbm, ⟨67, _⟩ => ⟨S2x4, .f32⟩
  | .hbm, ⟨68, _⟩ => ⟨S1x2x4x1x1, .f32⟩
  | .hbm, ⟨69, _⟩ => ⟨S_, .f32⟩
  | .hbm, ⟨70, _⟩ => ⟨S64x2x4x128, .f32⟩
  | .hbm, ⟨71, _⟩ => ⟨S64x2x4x128x1, .f32⟩
  | .hbm, ⟨72, _⟩ => ⟨S64x2x4x128x1, .f32⟩
  | .hbm, ⟨73, _⟩ => ⟨S64x2x4x128x1, .f32⟩
  | .hbm, ⟨74, _⟩ => ⟨S64x2x4x128x256, .f32⟩
  | .hbm, ⟨75, _⟩ => ⟨S64x2x4x128x256, .f32⟩
  | .hbm, ⟨76, _⟩ => ⟨S64x2x4x128x256, .f32⟩
  | .hbm, ⟨77, _⟩ => ⟨S_, .f32⟩
  | .hbm, ⟨78, _⟩ => ⟨S64x2x4x128, .f32⟩
  | .hbm, ⟨79, _⟩ => ⟨S64x2x4x128x1, .f32⟩
  | .hbm, ⟨80, _⟩ => ⟨S64x2x4x128x1, .f32⟩
  | .hbm, ⟨81, _⟩ => ⟨S64x2x4x128x1, .f32⟩
  | .hbm, ⟨82, _⟩ => ⟨S64x2x4x128x1, .f32⟩
  | .hbm, ⟨83, _⟩ => ⟨S64x2x4x128x1, .f32⟩
  | .hbm, ⟨84, _⟩ => ⟨S64x2x4x128x256, .f32⟩
  | .hbm, ⟨85, _⟩ => ⟨S64x2x4x128x256, .f32⟩
  | .hbm, ⟨86, _⟩ => ⟨S64x2x64x4x128, .f32⟩
  | .hbm, ⟨87, _⟩ => ⟨S64x128x2x4x64, .f32⟩
  | .hbm, ⟨88, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== DAttn.lean ====
abbrev S8192x512 : Shape := ⟨2, ![8192, 512]⟩
abbrev S8192x128 : Shape := ⟨2, ![8192, 128]⟩
abbrev S8192x1536 : Shape := ⟨2, ![8192, 1536]⟩
abbrev S8 : Shape := ⟨1, ![8]⟩
abbrev S2048x128 : Shape := ⟨2, ![2048, 128]⟩
abbrev S8x128 : Shape := ⟨2, ![8, 128]⟩
abbrev S512x512 : Shape := ⟨2, ![512, 512]⟩
abbrev S128x128 : Shape := ⟨2, ![128, 128]⟩
abbrev S512x128 : Shape := ⟨2, ![512, 128]⟩
abbrev S640x128 : Shape := ⟨2, ![640, 128]⟩
abbrev S1x128 : Shape := ⟨2, ![1, 128]⟩
abbrev S256x512 : Shape := ⟨2, ![256, 512]⟩
abbrev S256x128 : Shape := ⟨2, ![256, 128]⟩
abbrev S1x512 : Shape := ⟨2, ![1, 512]⟩
abbrev S1 : Shape := ⟨1, ![1]⟩
abbrev S512 : Shape := ⟨1, ![512]⟩
abbrev S1x1 : Shape := ⟨2, ![1, 1]⟩

abbrev nBuf : Space → Nat
  | .hbm => 13
  | .vmem => 23
  | .smem => 1
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x1536, .f32⟩
  | .hbm, ⟨3, _⟩ => ⟨S8, .f32⟩
  | .hbm, ⟨4, _⟩ => ⟨S8192x512, .f32⟩
  | .hbm, ⟨5, _⟩ => ⟨S8192x512, .bf16⟩
  | .hbm, ⟨6, _⟩ => ⟨S8192x128, .bf16⟩
  | .hbm, ⟨7, _⟩ => ⟨S8192x512, .f32⟩
  | .hbm, ⟨8, _⟩ => ⟨S8192x128, .f32⟩
  | .hbm, ⟨9, _⟩ => ⟨S2048x128, .f32⟩
  | .hbm, ⟨10, _⟩ => ⟨S8192x128, .f32⟩
  | .hbm, ⟨11, _⟩ => ⟨S2048x128, .f32⟩
  | .hbm, ⟨12, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S128x128, .bf16⟩
  | .local _ .vmem, ⟨3, _⟩ => ⟨S128x128, .bf16⟩
  | .local _ .vmem, ⟨4, _⟩ => ⟨S512x128, .bf16⟩
  | .local _ .vmem, ⟨5, _⟩ => ⟨S512x128, .bf16⟩
  | .local _ .vmem, ⟨6, _⟩ => ⟨S128x128, .f32⟩
  | .local _ .vmem, ⟨7, _⟩ => ⟨S128x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S128x128, .f32⟩
  | .local _ .vmem, ⟨17, _⟩ => ⟨S128x128, .f32⟩
  | .local _ .vmem, ⟨18, _⟩ => ⟨S512x128, .f32⟩
  | .local _ .vmem, ⟨19, _⟩ => ⟨S512x128, .f32⟩
  | .local _ .vmem, ⟨20, _⟩ => ⟨S128x128, .f32⟩
  | .local _ .vmem, ⟨21, _⟩ => ⟨S128x128, .f32⟩
  | .local _ .vmem, ⟨22, _⟩ => ⟨S8x128, .f32⟩
  | .local _ .smem, ⟨0, _⟩ => ⟨S8, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== DAttnIdeal.lean ====
variable {F : FTy → Type} [FloatOps F] [Named F]
def κ : String → Option EReal := fun
  | "mask" => some ⊥
  | _ => none
-- ==== DAttnRefIdeal.lean ====
abbrev S8192x512 : Shape := ⟨2, ![8192, 512]⟩
abbrev S8192x128 : Shape := ⟨2, ![8192, 128]⟩
abbrev S8192x1536 : Shape := ⟨2, ![8192, 1536]⟩
abbrev S8 : Shape := ⟨1, ![8]⟩
abbrev S64x128x2x4x64 : Shape := ⟨5, ![64, 128, 2, 4, 64]⟩
abbrev S8192x2x64 : Shape := ⟨3, ![8192, 2, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩
abbrev S64x2x64x256 : Shape := ⟨4, ![64, 2, 64, 256]⟩
abbrev S2x4x1 : Shape := ⟨3, ![2, 4, 1]⟩
abbrev S64x2x128x4x64 : Shape := ⟨5, ![64, 2, 128, 4, 64]⟩
abbrev S64x2x256x64 : Shape := ⟨4, ![64, 2, 256, 64]⟩
abbrev S16x4x256x128 : Shape := ⟨4, ![16, 4, 256, 128]⟩
abbrev S16x3x128x128 : Shape := ⟨4, ![16, 3, 128, 128]⟩
abbrev S16x1x128x128 : Shape := ⟨4, ![16, 1, 128, 128]⟩
abbrev S16x4x128x128 : Shape := ⟨4, ![16, 4, 128, 128]⟩
abbrev S16x128x128 : Shape := ⟨3, ![16, 128, 128]⟩
abbrev S2048x128 : Shape := ⟨2, ![2048, 128]⟩
abbrev S1x8 : Shape := ⟨2, ![1, 8]⟩
abbrev S8x128 : Shape := ⟨2, ![8, 128]⟩

abbrev nBuf : Space → Nat
  | .hbm => 209
  | .vmem => 0
  | .smem => 0
  | _ => 0

abbrev hbmTy0_0 (i : Nat) : BufTy := match i % 128 with
  | 0 => ⟨S8192x512, .f32⟩
  | 1 => ⟨S8192x128, .f32⟩
  | 2 => ⟨S8192x1536, .f32⟩
  | 3 => ⟨S8, .f32⟩
  | 4 => ⟨S8192x512, .f32⟩
  | 5 => ⟨S64x128x2x4x64, .f32⟩
  | 6 => ⟨S8192x2x64, .f32⟩
  | 7 => ⟨S64x128x2x64, .f32⟩
  | 8 => ⟨S1x128x2x64, .f32⟩
  | 9 => ⟨S_, .f32⟩
  | 10 => ⟨S1x128x2x64, .f32⟩
  | 11 => ⟨S63x128x2x64, .f32⟩
  | 12 => ⟨S64x128x2x64, .f32⟩
  | 13 => ⟨S64x256x2x64, .f32⟩
  | 14 => ⟨S8192x128, .f32⟩
  | 15 => ⟨S8192x2x64, .f32⟩
  | 16 => ⟨S64x128x2x64, .f32⟩
  | 17 => ⟨S1x128x2x64, .f32⟩
  | 18 => ⟨S_, .f32⟩
  | 19 => ⟨S1x128x2x64, .f32⟩
  | 20 => ⟨S63x128x2x64, .f32⟩
  | 21 => ⟨S64x128x2x64, .f32⟩
  | 22 => ⟨S64x256x2x64, .f32⟩
  | 23 => ⟨S64x2x256x128x4, .f32⟩
  | 24 => ⟨S64x2x4x128x256, .f32⟩
  | 25 => ⟨S_, .f32⟩
  | 26 => ⟨S64x2x4x128x256, .f32⟩
  | 27 => ⟨S64x2x4x128x256, .f32⟩
  | 28 => ⟨S128, .i32⟩
  | 29 => ⟨S128x1, .i32⟩
  | 30 => ⟨S_, .i32⟩
  | 31 => ⟨S128x1, .i32⟩
  | 32 => ⟨S128x1, .i32⟩
  | 33 => ⟨S256, .i32⟩
  | 34 => ⟨S1x256, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S64, .i32⟩
  | 46 => ⟨S64x1x1, .i32⟩
  | 47 => ⟨S_, .i32⟩
  | 48 => ⟨S64x1x1, .i32⟩
  | 49 => ⟨S64x1x1, .i1⟩
  | 50 => ⟨S1x128x256, .i1⟩
  | 51 => ⟨S_, .i32⟩
  | 52 => ⟨S1x256, .i32⟩
  | 53 => ⟨S1x256, .i1⟩
  | 54 => ⟨S1x1x256, .i1⟩
  | 55 => ⟨S64x1x256, .i1⟩
  | 56 => ⟨S64x1x256, .i1⟩
  | 57 => ⟨S64x1x256, .i1⟩
  | 58 => ⟨S64x128x256, .i1⟩
  | 59 => ⟨S64x128x256, .i1⟩
  | 60 => ⟨S64x128x256, .i1⟩
  | 61 => ⟨S64x1x1x128x256, .i1⟩
  | 62 => ⟨S_, .f32⟩
  | 63 => ⟨S_, .f32⟩
  | 64 => ⟨S64x2x4x128x256, .i1⟩
  | 65 => ⟨S64x2x4x128x256, .f32⟩
  | 66 => ⟨S64x2x4x128x256, .f32⟩
  | 67 => ⟨S_, .f32⟩
  | 68 => ⟨S64x2x4x128x256, .f32⟩
  | 69 => ⟨S2x4, .f32⟩
  | 70 => ⟨S1x2x4x1x1, .f32⟩
  | 71 => ⟨S_, .f32⟩
  | 72 => ⟨S64x2x4x128, .f32⟩
  | 73 => ⟨S64x2x4x128x1, .f32⟩
  | 74 => ⟨S64x2x4x128x256, .f32⟩
  | 75 => ⟨S64x2x4x128x256, .i1⟩
  | 76 => ⟨S64x2x4x128x256, .f32⟩
  | 77 => ⟨S_, .f32⟩
  | 78 => ⟨S64x2x4x128, .f32⟩
  | 79 => ⟨S64x2x4x128x1, .f32⟩
  | 80 => ⟨S64x2x4x128x1, .f32⟩
  | 81 => ⟨S64x2x4x128x1, .f32⟩
  | 82 => ⟨S64x2x4x128x1, .f32⟩
  | 83 => ⟨S64x2x4x128x1, .i1⟩
  | 84 => ⟨S64x2x4x128x1, .f32⟩
  | 85 => ⟨S64x2x4x128x1, .i1⟩
  | 86 => ⟨S_, .f32⟩
  | 87 => ⟨S64x2x4x128x1, .f32⟩
  | 88 => ⟨S_, .f32⟩
  | 89 => ⟨S64x2x4x128x1, .f32⟩
  | 90 => ⟨S_, .f32⟩
  | 91 => ⟨S64x2x4x128x1, .f32⟩
  | 92 => ⟨S64x2x4x128x1, .f32⟩
  | 93 => ⟨S64x2x4x128x1, .f32⟩
  | 94 => ⟨S64x2x4x128x1, .f32⟩
  | 95 => ⟨S64x2x4x128x1, .i1⟩
  | 96 => ⟨S64x2x4x128x1, .f32⟩
  | 97 => ⟨S64x2x4x128x1, .i1⟩
  | 98 => ⟨S_, .f32⟩
  | 99 => ⟨S64x2x4x128x1, .f32⟩
  | 100 => ⟨S_, .f32⟩
  | 101 => ⟨S64x2x4x128x1, .f32⟩
  | 102 => ⟨S_, .f32⟩
  | 103 => ⟨S64x2x4x128x1, .f32⟩
  | 104 => ⟨S64x2x4x128x1, .f32⟩
  | 105 => ⟨S64x2x4x128x1, .f32⟩
  | 106 => ⟨S64x2x4x128x256, .f32⟩
  | 107 => ⟨S64x2x4x128x256, .f32⟩
  | 108 => ⟨S64x2x4x128x256, .f32⟩
  | 109 => ⟨S_, .f32⟩
  | 110 => ⟨S64x2x4x128, .f32⟩
  | 111 => ⟨S64x2x4x128x1, .f32⟩
  | 112 => ⟨S64x2x4x128x1, .f32⟩
  | 113 => ⟨S64x2x4x128x1, .f32⟩
  | 114 => ⟨S64x2x4x128x1, .f32⟩
  | 115 => ⟨S64x2x4x128x1, .f32⟩
  | 116 => ⟨S64x2x4x128x256, .f32⟩
  | 117 => ⟨S64x2x4x128x256, .f32⟩
  | 118 => ⟨S64x2x4x128x1, .f32⟩
  | 119 => ⟨S_, .f32⟩
  | 120 => ⟨S64x2x4x128x1, .f32⟩
  | 121 => ⟨S64x2x4x128x1, .f32⟩
  | 122 => ⟨S64x2x64x4x128, .f32⟩
  | 123 => ⟨S64x128x2x4x64, .f32⟩
  | 124 => ⟨S8192x512, .f32⟩
  | 125 => ⟨S64x128x2x4x64, .f32⟩
  | 126 => ⟨S64x2x64x4x128, .f32⟩
  | 127 => ⟨S64x2x4x128x256, .f32⟩
  | _ => ⟨S8192x512, .f32⟩

abbrev hbmTy0_1 (i : Nat) : BufTy := match i % 128 with
  | 0 => ⟨S64x2x64x256, .f32⟩
  | 1 => ⟨S64x256x2x64, .f32⟩
  | 2 => ⟨S64x2x4x128x256, .f32⟩
  | 3 => ⟨S64x2x4x128x256, .f32⟩
  | 4 => ⟨S64x2x4x128x256, .f32⟩
  | 5 => ⟨S_, .f32⟩
  | 6 => ⟨S64x2x4x128, .f32⟩
  | 7 => ⟨S64x2x4x128x1, .f32⟩
  | 8 => ⟨S64x2x4x128x1, .f32⟩
  | 9 => ⟨S64x2x4x128x256, .f32⟩
  | 10 => ⟨S64x2x4x128x256, .f32⟩
  | 11 => ⟨S64x2x4x128x1, .f32⟩
  | 12 => ⟨S_, .f32⟩
  | 13 => ⟨S2x4x1, .f32⟩
  | 14 => ⟨S1x2x4x1x1, .f32⟩
  | 15 => ⟨S64x2x4x128x1, .f32⟩
  | 16 => ⟨S_, .f32⟩
  | 17 => ⟨S64x2x4x128, .f32⟩
  | 18 => ⟨S64x2x4x128x256, .f32⟩
  | 19 => ⟨S64x2x4x128x256, .f32⟩
  | 20 => ⟨S64x2x4x128x256, .f32⟩
  | 21 => ⟨S64x2x4x128x256, .f32⟩
  | 22 => ⟨S_, .f32⟩
  | 23 => ⟨S64x2x4x128, .f32⟩
  | 24 => ⟨S64x2x4x128x1, .f32⟩
  | 25 => ⟨S64x2x4x128x1, .f32⟩
  | 26 => ⟨S64x2x4x128x1, .f32⟩
  | 27 => ⟨S_, .f32⟩
  | 28 => ⟨S2x4x1, .f32⟩
  | 29 => ⟨S1x2x4x1x1, .f32⟩
  | 30 => ⟨S1x2x4x1x1, .f32⟩
  | 31 => ⟨S64x2x4x128x1, .f32⟩
  | 32 => ⟨S_, .f32⟩
  | 33 => ⟨S64x2x4x128, .f32⟩
  | 34 => ⟨S64x2x4x128, .f32⟩
  | 35 => ⟨S64x2x4x128x256, .f32⟩
  | 36 => ⟨S64x2x4x128x256, .f32⟩
  | 37 => ⟨S64x2x4x128x256, .f32⟩
  | 38 => ⟨S_, .f32⟩
  | 39 => ⟨S2x4, .f32⟩
  | 40 => ⟨S8, .f32⟩
  | 41 => ⟨S_, .f32⟩
  | 42 => ⟨S64x2x4x128x256, .f32⟩
  | 43 => ⟨S64x2x4x128x256, .f32⟩
  | 44 => ⟨S_, .f32⟩
  | 45 => ⟨S64x2x4x128x256, .f32⟩
  | 46 => ⟨S64x2x4x128x256, .f32⟩
  | 47 => ⟨S64x2x256x128x4, .f32⟩
  | 48 => ⟨S64x2x128x4x64, .f32⟩
  | 49 => ⟨S64x128x2x4x64, .f32⟩
  | 50 => ⟨S64x2x256x64, .f32⟩
  | 51 => ⟨S64x256x2x64, .f32⟩
  | 52 => ⟨S8192x512, .f32⟩
  | 53 => ⟨S16x4x256x128, .f32⟩
  | 54 => ⟨S16x3x128x128, .f32⟩
  | 55 => ⟨S16x1x128x128, .f32⟩
  | 56 => ⟨S_, .f32⟩
  | 57 => ⟨S16x1x128x128, .f32⟩
  | 58 => ⟨S16x4x128x128, .f32⟩
  | 59 => ⟨S16x4x128x128, .f32⟩
  | 60 => ⟨S16x4x128x128, .f32⟩
  | 61 => ⟨S8192x128, .f32⟩
  | 62 => ⟨S16x1x128x128, .f32⟩
  | 63 => ⟨S16x128x128, .f32⟩
  | 64 => ⟨S2048x128, .f32⟩
  | 65 => ⟨S16x4x256x128, .f32⟩
  | 66 => ⟨S16x3x128x128, .f32⟩
  | 67 => ⟨S16x1x128x128, .f32⟩
  | 68 => ⟨S_, .f32⟩
  | 69 => ⟨S16x1x128x128, .f32⟩
  | 70 => ⟨S16x4x128x128, .f32⟩
  | 71 => ⟨S16x4x128x128, .f32⟩
  | 72 => ⟨S16x4x128x128, .f32⟩
  | 73 => ⟨S8192x128, .f32⟩
  | 74 => ⟨S16x1x128x128, .f32⟩
  | 75 => ⟨S16x128x128, .f32⟩
  | 76 => ⟨S2048x128, .f32⟩
  | 77 => ⟨S1x8, .f32⟩
  | 78 => ⟨S_, .i32⟩
  | 79 => ⟨S_, .f32⟩
  | 80 => ⟨S8x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_call0_v0 : Ref sig .tc := ⟨.hbm, 63, rfl⟩
abbrev main_v49_1 : Ref sig .tc := ⟨.hbm, 64, rfl⟩
abbrev main_call0_v2 : Ref sig .tc := ⟨.hbm, 65, rfl⟩
abbrev main_v49_0 : Ref sig .tc := ⟨.hbm, 66, rfl⟩
abbrev main_call0_cst : Ref sig .tc := ⟨.hbm, 67, rfl⟩
abbrev main_v49_2 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_15 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_17 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_18 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_19 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_20 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_21 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_22 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_23 : Ref sig .tc := ⟨.hbm, 166, rfl⟩
abbrev main_v131 : Ref sig .tc := ⟨.hbm, 167, rfl⟩
abbrev main_v132 : Ref sig .tc := ⟨.hbm, 168, rfl⟩
abbrev main_call1_cst : Ref sig .tc := ⟨.hbm, 169, rfl⟩
abbrev main_call1_v0 : Ref sig .tc := ⟨.hbm, 170, rfl⟩
abbrev main_v133 : Ref sig .tc := ⟨.hbm, 171, rfl⟩
abbrev main_cst_24 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_25 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_26 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_c_27 : Ref sig .tc := ⟨.hbm, 206, rfl⟩
abbrev main_call2_v0 : Ref sig .tc := ⟨.hbm, 207, rfl⟩
abbrev main_v165 : Ref sig .tc := ⟨.hbm, 208, rfl⟩

abbrev nD : Nat := 1
abbrev τ : Topo := Topo.v7x

variable {F : FTy → Type} [FloatOps F]
-- ==== Proof.Consts.lean ====
/- The float constants the two programs spell, as the real numbers their words denote over the extended reals. -/
module

public import Idealize.ShloMosaic.PureOps.Ideal

@[expose] public section

noncomputable section

namespace Cert.Consts

open Idealize.ShloMosaic

/-- `0.5`. -/
theorem half : Ideal.ofBits .f32 0x3F000000#32 = ((1 / 2 : ℝ) : EReal) := by
  simp [Ideal.ofBits, Ideal.ieee, -EReal.coe_mul]; norm_num

/-- `-0.5`. -/
theorem neg_half : Ideal.ofBits .f32 0xBF000000#32 = ((-1 / 2 : ℝ) : EReal) := by
  simp [Ideal.ofBits, Ideal.ieee, -EReal.coe_mul]; norm_num

/-- `1.0`. -/
theorem one : Ideal.ofBits .f32 0x3F800000#32 = ((1 : ℝ) : EReal) := by
  simp [Ideal.ofBits, Ideal.ieee, -EReal.coe_mul]; norm_num

/-- `3.0`. -/
theorem three : Ideal.ofBits .f32 0x40400000#32 = ((3 : ℝ) : EReal) := by
  simp [Ideal.ofBits, Ideal.ieee, -EReal.coe_mul]; norm_num

/-- `64.0`. -/
theorem sixtyFour : Ideal.ofBits .f32 0x42800000#32 = ((64 : ℝ) : EReal) := by
  simp [Ideal.ofBits, Ideal.ieee, -EReal.coe_mul]; norm_num

/-- `1/64`. -/
theorem inv64 : Ideal.ofBits .f32 0x3C800000#32 = ((1 / 64 : ℝ) : EReal) := by
  simp [Ideal.ofBits, Ideal.ieee, -EReal.coe_mul]; norm_num

/-- `44715.0`. -/
theorem whole : Ideal.ofBits .f32 0x472EAB00#32 = ((44715 : ℝ) : EReal) := by
  simp [Ideal.ofBits, Ideal.ieee, -EReal.coe_mul]; norm_num

/-- `1000000.0`. -/
theorem million : Ideal.ofBits .f32 0x49742400#32 = ((1000000 : ℝ) : EReal) := by
  simp [Ideal.ofBits, Ideal.ieee, -EReal.coe_mul]; norm_num

/-- `0.0`. -/
theorem zero : Ideal.ofBits .f32 0x00000000#32 = ((0 : ℝ) : EReal) := by
  simp [Ideal.ofBits, Ideal.ieee, -EReal.coe_mul]

/-- The float next to `√(2/π)`, the factor of the GELU's tanh. -/
def c0 : ℝ := 13386282 / 16777216

theorem gelu_scale : Ideal.ofBits .f32 0x3F4C422A#32 = ((c0 : ℝ) : EReal) := by
  simp [Ideal.ofBits, Ideal.ieee, -EReal.coe_mul, c0]; norm_num

/-- The float next to `10⁻⁶`, the LayerNorm's epsilon. -/
def eps : ℝ := 8796093 / 8796093022208

theorem ln_eps : Ideal.ofBits .f32 0x358637BD#32 = ((eps : ℝ) : EReal) := by
  simp [Ideal.ofBits, Ideal.ieee, -EReal.coe_mul, eps]; norm_num

theorem eps_pos : 0 < eps := by unfold eps; norm_num

end Cert.Consts

end
-- ==== Proof.Real.lean ====
/- The gradient of the chunked gate over the real numbers, for ONE chunk of 128 rows and ONE head. A head has 128 lanes of the
   pre-activation `x`: the first 64 become the values `u`, the last 64 the gate `v`, both through a GELU. The gate is normalised over its
   64 lanes, mixed along the rows by a lower triangular matrix, and multiplied onto the values. -/
module

public import Idealize.ShloMosaic.Lib.Pointwise
public import proofs.«01_k».proof.Proof.Consts

@[expose] public section

noncomputable section

namespace Cert.Gmlp

open Cert.Consts

/-- The cubic coefficient of the GELU. -/
def kap : ℝ := 8943 / 200000

/-- The tanh inside the GELU. -/
def th (x : ℝ) : ℝ := Real.tanh (c0 * (x + kap * (x * x * x)))

/-- The GELU, by its tanh formula. -/
def gelu (x : ℝ) : ℝ := 1 / 2 * x * (1 + th x)

/-- Its derivative. -/
def gelu' (x : ℝ) : ℝ := 1 / 2 * (1 + th x) + 1 / 2 * x * (1 - th x * th x) * (c0 * (1 + 26829 / 200000 * (x * x)))

/-- Lane `e` of the values, of a head's 128 lanes. -/
def lo (e : Fin 64) : Fin 128 := ⟨e.val, by omega⟩

/-- Lane `e` of the gate, of a head's 128 lanes. -/
def hi (e : Fin 64) : Fin 128 := ⟨64 + e.val, by omega⟩

/-- A function of the gate's 64 lanes on all 128, zero on the others. -/
def hp (f : Fin 64 → ℝ) (l : Fin 128) : ℝ := if h : 64 ≤ l.val then f ⟨l.val - 64, by omega⟩ else 0

/-- A function of the values' 64 lanes on all 128, zero on the others. -/
def lp (f : Fin 64 → ℝ) (l : Fin 128) : ℝ := if h : l.val < 64 then f ⟨l.val, h⟩ else 0

/-- What one chunk and head of the gate depends on: the pre-activation, the gain and bias of the norm, the mixing matrix and its
    bias, and the gradient of the gated values. -/
structure Blk where
  x : Fin 128 → Fin 128 → ℝ
  g : Fin 64 → ℝ
  b : Fin 64 → ℝ
  w : Fin 128 → Fin 128 → ℝ
  s : Fin 128 → ℝ
  d : Fin 128 → Fin 64 → ℝ

namespace Blk

variable (B : Blk)

def u (t : Fin 128) (e : Fin 64) : ℝ := gelu (B.x t (lo e))
def v (t : Fin 128) (e : Fin 64) : ℝ := gelu (B.x t (hi e))
def mean (t : Fin 128) : ℝ := (∑ e, B.v t e) * (1 / 64)
def xc (t : Fin 128) (e : Fin 64) : ℝ := B.v t e - B.mean t
def var (t : Fin 128) : ℝ := (∑ e, B.xc t e * B.xc t e) * (1 / 64)
def rstd (t : Fin 128) : ℝ := (Real.sqrt (B.var t + eps))⁻¹
def xhat (t : Fin 128) (e : Fin 64) : ℝ := B.xc t e * B.rstd t
def vn (t : Fin 128) (e : Fin 64) : ℝ := B.xhat t e * B.g e + B.b e
/-- The mixing matrix, lower triangular. -/
def wt (t s : Fin 128) : ℝ := if s ≤ t then B.w t s else 0
def sv (t : Fin 128) (e : Fin 64) : ℝ := (∑ s, B.wt t s * B.vn s e) + B.s t
/-- The gradient of the mixed gate. -/
def dsv (t : Fin 128) (e : Fin 64) : ℝ := B.d t e * B.u t e
/-- The gradient of the values. -/
def du (t : Fin 128) (e : Fin 64) : ℝ := B.d t e * B.sv t e
/-- The gradient of the mixing matrix. -/
def dw (t s : Fin 128) : ℝ := if s ≤ t then ∑ e, B.dsv t e * B.vn s e else 0
/-- The gradient of the normalised gate. -/
def dvn (s : Fin 128) (e : Fin 64) : ℝ := ∑ t, B.wt t s * B.dsv t e
def dx (t : Fin 128) (e : Fin 64) : ℝ := B.dvn t e * B.g e
def m1 (t : Fin 128) : ℝ := (∑ e, B.dx t e) * (1 / 64)
def m2 (t : Fin 128) : ℝ := (∑ e, B.dx t e * B.xhat t e) * (1 / 64)
/-- The gradient of the gate, before the norm. -/
def dv (t : Fin 128) (e : Fin 64) : ℝ := B.rstd t * (B.dx t e - B.m1 t - B.xhat t e * B.m2 t)
/-- The gradient of the pre-activation. -/
def dz (t l : Fin 128) : ℝ := (lp (B.du t) l + hp (B.dv t) l) * gelu' (B.x t l)

theorem var_nonneg (t : Fin 128) : 0 ≤ B.var t := by
  unfold var
  exact mul_nonneg (Finset.sum_nonneg fun e _ => mul_self_nonneg _) (by norm_num)

theorem var_eps_pos (t : Fin 128) : 0 < B.var t + eps := add_pos_of_nonneg_of_pos (B.var_nonneg t) eps_pos

/-- The centred gate sums to zero. -/
theorem sum_xc (t : Fin 128) : ∑ e, B.xc t e = 0 := by
  unfold xc mean
  rw [Finset.sum_sub_distrib, Finset.sum_const, Finset.card_univ, Fintype.card_fin]
  simp only [nsmul_eq_mul]
  push_cast
  ring

theorem sum_xhat (t : Fin 128) : ∑ e, B.xhat t e = 0 := by
  unfold xhat
  rw [← Finset.sum_mul, B.sum_xc, zero_mul]

theorem rstd_sq (t : Fin 128) : B.rstd t * B.rstd t = (B.var t + eps)⁻¹ := by
  unfold rstd
  rw [← mul_inv, Real.mul_self_sqrt (B.var_eps_pos t).le]

/-- The gradient through the variance, as differentiating the root of the sum of squares spells it: a half of the cube of the
    reciprocal root, twice times the centred gate. -/
def vpath (t : Fin 128) : ℝ := (∑ e, B.xc t e * B.dx t e) * (-1 / 2 * (B.rstd t / (B.var t + eps))) / 64

theorem vpath_eq (t : Fin 128) (e : Fin 64) :
    B.xc t e * B.vpath t + B.xc t e * B.vpath t = -(B.rstd t * (B.xhat t e * B.m2 t)) := by
  have h : ∑ e, B.dx t e * B.xhat t e = (∑ e, B.xc t e * B.dx t e) * B.rstd t := by
    rw [Finset.sum_mul]
    exact Finset.sum_congr rfl fun e _ => by unfold xhat; ring
  unfold vpath m2
  rw [h, div_eq_mul_inv (B.rstd t), ← B.rstd_sq t]
  unfold xhat
  ring

/-- The gradient of the centred gate, and with it of the gate, as differentiating mean and variance one after the other spells it. -/
def dxc (t : Fin 128) (e : Fin 64) : ℝ := B.dx t e * B.rstd t + B.xc t e * B.vpath t + B.xc t e * B.vpath t

theorem dv_eq (t : Fin 128) (e : Fin 64) : B.dxc t e + (∑ e, -(B.dxc t e)) / 64 = B.dv t e := by
  have h (e) : B.dxc t e = B.rstd t * (B.dx t e - B.xhat t e * B.m2 t) := by
    unfold dxc
    rw [add_assoc, B.vpath_eq]
    ring
  have hs : ∑ e, -(B.dxc t e) = -(B.rstd t * ∑ e, B.dx t e) := by
    simp only [h]
    rw [Finset.sum_neg_distrib, ← Finset.mul_sum, Finset.sum_sub_distrib, ← Finset.sum_mul, B.sum_xhat]
    ring
  rw [h, hs]
  unfold dv m1
  ring

end Blk

/-- The derivative of the GELU times a gradient, as differentiating its terms one after the other spells it. -/
theorem gelu'_eq (x c : ℝ) :
    c * (1 / 2 * (1 + th x)) + c0 * (1 / 2 * (x * c) * ((1 + th x) * (1 - th x))) +
        kap * (c0 * (1 / 2 * (x * c) * ((1 + th x) * (1 - th x)))) * (3 * (x * x)) = c * gelu' x := by
  unfold gelu' kap
  ring

theorem lp_lo (f : Fin 64 → ℝ) (e : Fin 64) : lp f (lo e) = f e := by simp [lp, lo]

theorem hp_hi (f : Fin 64 → ℝ) (e : Fin 64) : hp f (hi e) = f e := by simp [hp, hi]

theorem lp_hi (f : Fin 64 → ℝ) (e : Fin 64) : lp f (hi e) = 0 := by simp [lp, hi]

theorem hp_lo (f : Fin 64 → ℝ) (e : Fin 64) : hp f (lo e) = 0 := by
  have := e.isLt
  simp [hp, lo]

/-- A sum over the 128 lanes is the sum over the values' and over the gate's. -/
theorem sum_lanes {M : Type*} [AddCommMonoid M] (f : Fin 128 → M) : ∑ l, f l = ∑ e, f (lo e) + ∑ e, f (hi e) := by
  rw [show (∑ l, f l) = ∑ l : Fin (64 + 64), f l from rfl, Fin.sum_univ_add]
  rfl

/-- Every lane is a lane of the values or a lane of the gate. -/
theorem lane_cases (l : Fin 128) : (∃ e, l = lo e) ∨ ∃ e, l = hi e := by
  by_cases h : l.val < 64
  · exact .inl ⟨⟨l.val, h⟩, rfl⟩
  · exact .inr ⟨⟨l.val - 64, by omega⟩, Fin.ext (by simp only [hi]; omega)⟩

theorem sum_hp (f : Fin 64 → ℝ) : ∑ l, hp f l = ∑ e, f e := by
  rw [sum_lanes]
  simp [hp_lo, hp_hi]

/-- A sum of real numbers, over the extended reals. -/
theorem coe_sum {ι : Type*} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

/-- The arguments, as real numbers. -/
structure Args where
  z : Fin 8192 → Fin 1536 → ℝ
  d : Fin 8192 → Fin 256 → ℝ
  g : Fin 4 → Fin 64 → ℝ
  b : Fin 4 → Fin 64 → ℝ
  w : Fin 4 → Fin 128 → Fin 128 → ℝ
  s : Fin 4 → Fin 128 → ℝ

/-- Row `t` of chunk `n`. -/
def row (n : Fin 64) (t : Fin 128) : Fin 8192 := ⟨128 * n.val + t.val, by omega⟩

/-- Lane `l` of head `h`, in the pre-activation. -/
def col (h : Fin 4) (l : Fin 128) : Fin 1536 := ⟨128 * h.val + l.val, by omega⟩

/-- Lane `e` of head `h`, in the gradient of the gated values. -/
def lane (h : Fin 4) (e : Fin 64) : Fin 256 := ⟨64 * h.val + e.val, by omega⟩

/-- Chunk `n` and head `h` of the arguments. -/
def Args.blk (A : Args) (n : Fin 64) (h : Fin 4) : Blk where
  x t l := A.z (row n t) (col h l)
  g := A.g h
  b := A.b h
  w := A.w h
  s := A.s h
  d t e := A.d (row n t) (lane h e)

end Cert.Gmlp

end
-- ==== Proof.Head.lean ====
/- What the kernel computes for one chunk of 128 rows and one head, in its own vector operations, and each of these vectors read over
   the real numbers. -/
module

public import proofs.«01_k».proof.Proof.Gen.KernelIdeal.Skeleton
public import proofs.«01_k».proof.Proof.Real
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Head

open Cert.KernelIdeal Cert.KernelIdeal.Gen Idealize.ShloMosaic Idealize.ShloMosaic.TcCoe Idealize.SL.Sem
open Cert.Gmlp Cert.Consts

section Ops
variable {F : FTy → Type} [FloatOps F] [Named F]

/-- The lanes of the gate. -/
def mkV : IVec S128x128 1 := cmpi .sge (iota .tc S128x128 32 [1] iota_S128x128_d1_w32) (broadcast S128x128 64#32)
def zeroV : FVec F S128x128 .f32 := broadcast S128x128 (Scalar.ofBits .f32 0x00000000#32)
/-- The sum over the lanes, one per row. -/
def rowSum (a : FVec F S128x128 .f32) : FVec F S128x1 .f32 :=
  shapeCast S128x1 (multiReduction .add [1] S128 a 0x00000000#32 reduces_S128x128_S128 (.inl rfl) rfl) shapeCasts_S128_S128x1
/-- A sixty-fourth of it. -/
def rowMean (a : FVec F S128x128 .f32) : FVec F S128x1 .f32 :=
  mulf (rowSum a) (broadcast S128x1 (Scalar.ofBits .f32 0x3C800000#32))
def rows (a : FVec F S128x1 .f32) : FVec F S128x128 .f32 := broadcastTo S128x128 a broadcasts_S128x1_S128x128
def lanes (a : FVec F S1x128 .f32) : FVec F S128x128 .f32 := broadcastTo S128x128 a broadcasts_S1x128_S128x128
def one (a : Vec F S1x128x128 .f32) : FVec F S128x128 .f32 := shapeCast S128x128 a shapeCasts_S1x128x128_S128x128
def up (a : FVec F S128x128 .f32) : FVec F S1x128x128 .f32 := shapeCast S1x128x128 a shapeCasts_S128x128_S1x128x128
def rot (a : FVec F S128x128 .f32) : FVec F S128x128 .f32 := dynamicRotate 1 64#32 none a rotates_S128x128_d1

def tanhV (Z : Vec F S128x128 .f32) : FVec F S128x128 .f32 :=
  tanh (mulf (broadcast S128x128 (Scalar.ofBits .f32 0x3F4C422A#32))
    (addf Z (mulf (broadcast S128x128 (Named.named κ "gelu_cubic" 0x3D372713#32)) (mulf (mulf Z Z) Z))))
def geluV (Z : Vec F S128x128 .f32) : FVec F S128x128 .f32 :=
  mulf (mulf (broadcast S128x128 (Scalar.ofBits .f32 0x3F000000#32)) Z)
    (addf (broadcast S128x128 (Scalar.ofBits .f32 0x3F800000#32)) (tanhV Z))
def gelu'V (Z : Vec F S128x128 .f32) : FVec F S128x128 .f32 :=
  addf (mulf (broadcast S128x128 (Scalar.ofBits .f32 0x3F000000#32)) (addf (broadcast S128x128 (Scalar.ofBits .f32 0x3F800000#32)) (tanhV Z)))
    (mulf (mulf (mulf (broadcast S128x128 (Scalar.ofBits .f32 0x3F000000#32)) Z)
        (subf (broadcast S128x128 (Scalar.ofBits .f32 0x3F800000#32)) (mulf (tanhV Z) (tanhV Z))))
      (mulf (broadcast S128x128 (Scalar.ofBits .f32 0x3F4C422A#32)) (addf (broadcast S128x128 (Scalar.ofBits .f32 0x3F800000#32))
        (mulf (broadcast S128x128 (Named.named κ "gelu_cubic_3" 0x3E095D4F#32)) (mulf Z Z)))))

def xcV (Z : Vec F S128x128 .f32) : FVec F S128x128 .f32 :=
  select mkV (subf (geluV Z) (rows (rowMean (select mkV (geluV Z) zeroV)))) zeroV
def rstdV (Z : Vec F S128x128 .f32) : FVec F S128x1 .f32 :=
  rsqrt (addf (rowMean (mulf (xcV Z) (xcV Z))) (broadcast S128x1 (Scalar.ofBits .f32 0x358637BD#32)))
def xhatV (Z : Vec F S128x128 .f32) : FVec F S128x128 .f32 := mulf (xcV Z) (rows (rstdV Z))
def vnV (lg lb : Vec F S1x128 .f32) (Z : Vec F S128x128 .f32) : FVec F S128x128 .f32 :=
  addf (mulf (xhatV Z) (lanes (shapeCast S1x128 lg shapeCasts_S1x128_S1x128))) (lanes (shapeCast S1x128 lb shapeCasts_S1x128_S1x128))
def lowerV (W : FVec F S128x128 .f32) : FVec F S128x128 .f32 :=
  select (cmpi .sge (iota .tc S128x128 32 [0] iota_S128x128_d0_w32) (iota .tc S128x128 32 [1] iota_S128x128_d1_w32)) W zeroV
def upperV (W : FVec F S128x128 .f32) : FVec F S128x128 .f32 :=
  select (cmpi .sle (iota .tc S128x128 32 [0] iota_S128x128_d0_w32) (iota .tc S128x128 32 [1] iota_S128x128_d1_w32)) W zeroV
def mm (a b : FVec F S128x128 .f32) : FVec F S128x128 .f32 :=
  matmul dot_S128x128_S128x128_S128x128_1_0_0_1_n_n none (truncf .bf16 a bitsLt_bf16_f32) (truncf .bf16 b bitsLt_bf16_f32)
    (constant S128x128 .f32 0x00000000#32)
def mmT (a b : FVec F S128x128 .f32) : FVec F S128x128 .f32 :=
  matmul dot_S128x128_S128x128_S128x128_1_1_0_0_n_n none (truncf .bf16 a bitsLt_bf16_f32) (truncf .bf16 b bitsLt_bf16_f32)
    (constant S128x128 .f32 0x00000000#32)
def doV (dp : FVec F S128x128 .f32) : FVec F S128x128 .f32 := select mkV zeroV dp
def duV (lg lb : Vec F S1x128 .f32) (W bf : Vec F S1x128x128 .f32) (Z : Vec F S128x128 .f32) (dp : FVec F S128x128 .f32) :
    FVec F S128x128 .f32 :=
  mulf (doV dp) (rot (addf (mm (lowerV (one W)) (vnV lg lb Z)) (one bf)))
def dsvV (Z : Vec F S128x128 .f32) (dp : FVec F S128x128 .f32) : FVec F S128x128 .f32 := rot (mulf (doV dp) (geluV Z))
def dwV (lg lb : Vec F S1x128 .f32) (Z : Vec F S128x128 .f32) (dp : FVec F S128x128 .f32) (old : Vec F S1x128x128 .f32) :
    FVec F S1x128x128 .f32 :=
  up (addf (one old) (lowerV (mmT (dsvV Z dp) (vnV lg lb Z))))
def dbV (Z : Vec F S128x128 .f32) (dp : FVec F S128x128 .f32) (old : Vec F S1x128x128 .f32) : FVec F S1x128x128 .f32 :=
  up (addf (one old) (dsvV Z dp))
def dvnV (WT : Vec F S1x128x128 .f32) (Z : Vec F S128x128 .f32) (dp : FVec F S128x128 .f32) : FVec F S128x128 .f32 :=
  mm (upperV (one WT)) (dsvV Z dp)
def dlgV (WT : Vec F S1x128x128 .f32) (Z : Vec F S128x128 .f32) (dp : FVec F S128x128 .f32) (old : Vec F S1x128x128 .f32) :
    FVec F S1x128x128 .f32 :=
  up (addf (one old) (mulf (dvnV WT Z dp) (xhatV Z)))
def dlbV (WT : Vec F S1x128x128 .f32) (Z : Vec F S128x128 .f32) (dp : FVec F S128x128 .f32) (old : Vec F S1x128x128 .f32) :
    FVec F S1x128x128 .f32 :=
  up (addf (one old) (dvnV WT Z dp))
def dxV (lg : Vec F S1x128 .f32) (WT : Vec F S1x128x128 .f32) (Z : Vec F S128x128 .f32) (dp : FVec F S128x128 .f32) :
    FVec F S128x128 .f32 :=
  mulf (dvnV WT Z dp) (lanes (shapeCast S1x128 lg shapeCasts_S1x128_S1x128))
def dvV (lg : Vec F S1x128 .f32) (WT : Vec F S1x128x128 .f32) (Z : Vec F S128x128 .f32) (dp : FVec F S128x128 .f32) :
    FVec F S128x128 .f32 :=
  select mkV (mulf (rows (rstdV Z)) (subf (subf (dxV lg WT Z dp) (rows (rowMean (dxV lg WT Z dp))))
    (mulf (xhatV Z) (rows (rowMean (mulf (dxV lg WT Z dp) (xhatV Z))))))) zeroV
def dzV (lg lb : Vec F S1x128 .f32) (W WT bf : Vec F S1x128x128 .f32) (Z : Vec F S128x128 .f32) (dp : FVec F S128x128 .f32) :
    FVec F S128x128 .bf16 :=
  shapeCast S128x128 (truncf .bf16 (mulf (addf (duV lg lb W bf Z dp) (dvV lg WT Z dp)) (gelu'V Z)) bitsLt_bf16_f32)
    shapeCasts_S128x128_S128x128
/-- The sum over the rows, on every row. -/
def colSumV (a : Vec F S1x128x128 .f32) : FVec F S1x128x128 .f32 :=
  up (lanes (shapeCast S1x128 (shapeCast S1x128 (multiReduction .add [0] S128 (one a) 0x00000000#32 reduces_S128x128_S128_2 (.inl rfl) rfl)
    shapeCasts_S128_S1x128) shapeCasts_S1x128_S1x128))
/-- The sum over the lanes, on every lane. -/
def rowSumV (a : Vec F S1x128x128 .f32) : FVec F S1x128x128 .f32 :=
  up (rows (shapeCast S128x1 (rowSum (one a)) shapeCasts_S128x1_S128x1))

end Ops

/-! ## Over the real numbers -/

theorem rowSum_apply (a : FVec Ideal S128x128 .f32) (t : Fin 128) (i : Fin 1) : rowSum a (ix2 t i) = ∑ l, a (ix2 t l) := by
  unfold rowSum
  pointwise

theorem rows_apply (a : FVec Ideal S128x1 .f32) (t l : Fin 128) : rows a (ix2 t l) = a (ix2 t 0) := by
  unfold rows
  pointwise

theorem lanes_apply (a : FVec Ideal S1x128 .f32) (t l : Fin 128) : lanes a (ix2 t l) = a (ix2 0 l) := by
  unfold lanes
  pointwise

theorem mm_apply (a b : FVec Ideal S128x128 .f32) (t l : Fin 128) : mm a b (ix2 t l) = ∑ k, a (ix2 t k) * b (ix2 k l) := by
  unfold mm
  pointwise

theorem mmT_apply (a b : FVec Ideal S128x128 .f32) (t l : Fin 128) : mmT a b (ix2 t l) = ∑ k, a (ix2 t k) * b (ix2 l k) := by
  unfold mmT
  pointwise

theorem cmp_ge (a b : Nat) (ha : a < 128) (hb : b < 128) :
    IntOp.cmpi .sge (BitVec.ofNat 32 a) (BitVec.ofNat 32 b) = BitVec.ofBool (decide (b ≤ a)) :=
  WordCmp.cmpi_sge_ofNat (by norm_num; omega) (by norm_num; omega)

theorem cmp_le (a b : Nat) (ha : a < 128) (hb : b < 128) :
    IntOp.cmpi .sle (BitVec.ofNat 32 a) (BitVec.ofNat 32 b) = BitVec.ofBool (decide (a ≤ b)) :=
  WordCmp.cmpi_sle_ofNat (by norm_num; omega) (by norm_num; omega)

theorem zeroV_apply (t l : Fin 128) : (zeroV : FVec Ideal S128x128 .f32) (ix2 t l) = ((0 : ℝ) : EReal) := by
  unfold zeroV
  pointwise
  exact EReal.coe_zero.symm

theorem mk_lo (a b : FVec Ideal S128x128 .f32) (t : Fin 128) (e : Fin 64) : select mkV a b (ix2 t (lo e)) = b (ix2 t (lo e)) := by
  unfold mkV
  pointwise
  rw [cmp_ge _ _ (lo e).isLt (by norm_num), WordCmp.select_ofBool, decide_eq_false (by simp [lo])]
  rfl

theorem mk_hi (a b : FVec Ideal S128x128 .f32) (t : Fin 128) (e : Fin 64) : select mkV a b (ix2 t (hi e)) = a (ix2 t (hi e)) := by
  unfold mkV
  pointwise
  rw [cmp_ge _ _ (hi e).isLt (by norm_num), WordCmp.select_ofBool, decide_eq_true (by simp [hi])]
  rfl

/-- The lanes of the gate kept, the others zero. -/
theorem mk_hp (a : FVec Ideal S128x128 .f32) (t : Fin 128) (f : Fin 64 → ℝ) (h : ∀ e, a (ix2 t (hi e)) = (f e : EReal)) (l : Fin 128) :
    select mkV a zeroV (ix2 t l) = (hp f l : EReal) := by
  rcases lane_cases l with ⟨e, rfl⟩ | ⟨e, rfl⟩
  · rw [mk_lo, zeroV_apply, hp_lo]
  · rw [mk_hi, h, hp_hi]

theorem rot_lo (a : FVec Ideal S128x128 .f32) (t : Fin 128) (e : Fin 64) : rot a (ix2 t (lo e)) = a (ix2 t (hi e)) := by
  unfold rot
  pointwise
  exact congrArg (fun k => a (ix2 t k)) (Fin.ext (by simp only [lo, hi]; omega))

theorem rot_hi (a : FVec Ideal S128x128 .f32) (t : Fin 128) (e : Fin 64) : rot a (ix2 t (hi e)) = a (ix2 t (lo e)) := by
  unfold rot
  pointwise
  exact congrArg (fun k => a (ix2 t k)) (Fin.ext (by simp only [lo, hi]; omega))

theorem lowerV_apply (W : FVec Ideal S128x128 .f32) (t s : Fin 128) : lowerV W (ix2 t s) = if s ≤ t then W (ix2 t s) else ((0 : ℝ) : EReal) := by
  unfold lowerV
  pointwise
  rw [cmp_ge _ _ t.isLt s.isLt, WordCmp.select_ofBool, zeroV_apply]
  simp only [decide_eq_true_eq]
  rfl

theorem upperV_apply (W : FVec Ideal S128x128 .f32) (t s : Fin 128) : upperV W (ix2 t s) = if t ≤ s then W (ix2 t s) else ((0 : ℝ) : EReal) := by
  unfold upperV
  pointwise
  rw [cmp_le _ _ t.isLt s.isLt, WordCmp.select_ofBool, zeroV_apply]
  simp only [decide_eq_true_eq]
  rfl

/-- The blocks a chunk and head reads hold the real numbers of `B`. -/
structure Reads (B : Blk) (lg lb : Vec Ideal S1x128 .f32) (W WT bf : Vec Ideal S1x128x128 .f32) (Z : Vec Ideal S128x128 .f32)
    (dp : FVec Ideal S128x128 .f32) : Prop where
  z : ∀ t l, Z (ix2 t l) = (B.x t l : EReal)
  lg : ∀ l, lg (ix2 0 l) = (hp B.g l : EReal)
  lb : ∀ l, lb (ix2 0 l) = (hp B.b l : EReal)
  w : ∀ t s, W (ix3 0 t s) = (B.w t s : EReal)
  wT : ∀ t s, WT (ix3 0 t s) = (B.w s t : EReal)
  bf : ∀ t l, bf (ix3 0 t l) = (hp (fun _ => B.s t) l : EReal)
  d : ∀ t e, dp (ix2 t (lo e)) = (B.d t e : EReal)

section
variable {B : Blk} {lg lb : Vec Ideal S1x128 .f32} {W WT bf : Vec Ideal S1x128x128 .f32} {Z : Vec Ideal S128x128 .f32}
  {dp : FVec Ideal S128x128 .f32} (h : Reads B lg lb W WT bf Z dp)
include h

theorem tanhV_apply (t l : Fin 128) : tanhV Z (ix2 t l) = (th (B.x t l) : EReal) := by
  unfold tanhV
  pointwise
  rw [h.z, gelu_scale, IdealRules.named_const.ideal_named_scalar κ "gelu_cubic" _ _ rfl]
  simp only [← EReal.coe_mul, ← EReal.coe_add, Ideal.tanh_coe]
  rfl

theorem geluV_apply (t l : Fin 128) : geluV Z (ix2 t l) = (gelu (B.x t l) : EReal) := by
  unfold geluV
  pointwise
  rw [h.z, tanhV_apply h, half]
  simp only [one, ← EReal.coe_one, ← EReal.coe_mul, ← EReal.coe_add]
  rfl

theorem gelu'V_apply (t l : Fin 128) : gelu'V Z (ix2 t l) = (gelu' (B.x t l) : EReal) := by
  unfold gelu'V
  pointwise
  rw [h.z, tanhV_apply h, half, gelu_scale, IdealRules.named_const.ideal_named_scalar κ "gelu_cubic_3" _ _ rfl]
  simp only [one, ← EReal.coe_one, ← EReal.coe_mul, ← EReal.coe_add, ← EReal.coe_sub]
  rfl

theorem rowMean_hp (a : FVec Ideal S128x128 .f32) (t : Fin 128) (f : Fin 64 → ℝ) (ha : ∀ l, a (ix2 t l) = (hp f l : EReal)) (i : Fin 1) :
    rowMean a (ix2 t i) = (((∑ e, f e) * (1 / 64) : ℝ) : EReal) := by
  unfold rowMean
  pointwise
  rw [rowSum_apply, inv64]
  simp only [ha]
  rw [coe_sum, sum_hp, ← EReal.coe_mul]

theorem xcV_apply (t l : Fin 128) : xcV Z (ix2 t l) = (hp (B.xc t) l : EReal) := by
  unfold xcV
  refine mk_hp _ t _ (fun e => ?_) l
  pointwise
  rw [rows_apply, rowMean_hp h _ t (B.v t) (fun l => mk_hp _ t _ (fun e => geluV_apply h t (hi e)) l), geluV_apply h, ← EReal.coe_sub]
  rfl

theorem rstdV_apply (t : Fin 128) (i : Fin 1) : rstdV Z (ix2 t i) = (B.rstd t : EReal) := by
  unfold rstdV
  pointwise
  rw [rowMean_hp h _ t (fun e => B.xc t e * B.xc t e) (fun l => ?_), ln_eps, ← EReal.coe_add, ← Blk.var, Ideal.rsqrt_coe,
    if_neg (not_lt.mpr (B.var_eps_pos t).le), if_neg (B.var_eps_pos t).ne']
  · rfl
  · pointwise
    rw [xcV_apply h, ← EReal.coe_mul]
    rcases lane_cases l with ⟨e, rfl⟩ | ⟨e, rfl⟩ <;> simp only [hp_lo, hp_hi, mul_zero]

theorem xhatV_apply (t l : Fin 128) : xhatV Z (ix2 t l) = (hp (B.xhat t) l : EReal) := by
  unfold xhatV
  pointwise
  rw [rows_apply, xcV_apply h, rstdV_apply h, ← EReal.coe_mul]
  rcases lane_cases l with ⟨e, rfl⟩ | ⟨e, rfl⟩ <;> simp only [hp_lo, hp_hi, zero_mul, Blk.xhat]

theorem one_apply (a : Vec Ideal S1x128x128 .f32) (t l : Fin 128) : one a (ix2 t l) = a (ix3 0 t l) := by
  unfold one
  pointwise

theorem vnV_apply (t l : Fin 128) : vnV lg lb Z (ix2 t l) = (hp (B.vn t) l : EReal) := by
  unfold vnV
  pointwise
  rw [lanes_apply, lanes_apply, xhatV_apply h, h.lg, h.lb, ← EReal.coe_mul, ← EReal.coe_add]
  rcases lane_cases l with ⟨e, rfl⟩ | ⟨e, rfl⟩ <;> simp only [hp_lo, hp_hi, zero_mul, add_zero, Blk.vn]

theorem lowerW_apply (t s : Fin 128) : lowerV (one W) (ix2 t s) = (B.wt t s : EReal) := by
  rw [lowerV_apply, one_apply h, h.w]
  unfold Blk.wt
  split <;> rfl

theorem upperW_apply (t s : Fin 128) : upperV (one WT) (ix2 s t) = (B.wt t s : EReal) := by
  rw [upperV_apply, one_apply h, h.wT]
  unfold Blk.wt
  split <;> rfl

theorem doV_apply (t l : Fin 128) : doV dp (ix2 t l) = (lp (B.d t) l : EReal) := by
  unfold doV
  rcases lane_cases l with ⟨e, rfl⟩ | ⟨e, rfl⟩
  · rw [mk_lo, h.d, lp_lo]
  · rw [mk_hi, zeroV_apply, lp_hi]

theorem duV_apply (t l : Fin 128) : duV lg lb W bf Z dp (ix2 t l) = (lp (B.du t) l : EReal) := by
  have hs (l) : addf (mm (lowerV (one W)) (vnV lg lb Z)) (one bf) (ix2 t l) = (hp (B.sv t) l : EReal) := by
    pointwise
    rw [mm_apply, one_apply h, h.bf]
    simp only [lowerW_apply h, vnV_apply h, ← EReal.coe_mul]
    rw [coe_sum, ← EReal.coe_add]
    rcases lane_cases l with ⟨e, rfl⟩ | ⟨e, rfl⟩ <;> simp only [hp_lo, hp_hi, mul_zero, Finset.sum_const_zero, add_zero, Blk.sv]
  unfold duV
  pointwise
  rw [doV_apply h]
  rcases lane_cases l with ⟨e, rfl⟩ | ⟨e, rfl⟩
  · rw [rot_lo, hs, ← EReal.coe_mul, lp_lo, lp_lo, hp_hi]; rfl
  · rw [rot_hi, hs, ← EReal.coe_mul, lp_hi, lp_hi, hp_lo, zero_mul]

theorem dsvV_apply (t l : Fin 128) : dsvV Z dp (ix2 t l) = (hp (B.dsv t) l : EReal) := by
  have hs (l) : mulf (doV dp) (geluV Z) (ix2 t l) = ((lp (B.d t) l * gelu (B.x t l) : ℝ) : EReal) := by
    pointwise
    rw [doV_apply h, geluV_apply h, ← EReal.coe_mul]
  unfold dsvV
  rcases lane_cases l with ⟨e, rfl⟩ | ⟨e, rfl⟩
  · rw [rot_lo, hs, lp_hi, hp_lo, zero_mul]
  · rw [rot_hi, hs, lp_lo, hp_hi]; rfl

theorem dvnV_apply (s l : Fin 128) : dvnV WT Z dp (ix2 s l) = (hp (B.dvn s) l : EReal) := by
  unfold dvnV
  rw [mm_apply]
  simp only [upperW_apply h, dsvV_apply h, ← EReal.coe_mul]
  rw [coe_sum]
  rcases lane_cases l with ⟨e, rfl⟩ | ⟨e, rfl⟩ <;> simp only [hp_lo, hp_hi, mul_zero, Finset.sum_const_zero, Blk.dvn]

/-- The mixing matrix's accumulator after the chunk. -/
theorem dwV_apply (old : Vec Ideal S1x128x128 .f32) (i : Fin 1) (t s : Fin 128) :
    dwV lg lb Z dp old (ix3 i t s) = old (ix3 0 t s) + (B.dw t s : EReal) := by
  unfold dwV up
  pointwise
  rw [lowerV_apply, one_apply h, mmT_apply]
  simp only [dsvV_apply h, vnV_apply h, ← EReal.coe_mul]
  rw [coe_sum]
  unfold Blk.dw
  split
  · rw [sum_lanes]
    simp only [hp_lo, hp_hi, mul_zero, Finset.sum_const_zero, zero_add]
  · rfl

/-- The mixing bias's accumulator after the chunk. -/
theorem dbV_apply (old : Vec Ideal S1x128x128 .f32) (i : Fin 1) (t l : Fin 128) :
    dbV Z dp old (ix3 i t l) = old (ix3 0 t l) + (hp (B.dsv t) l : EReal) := by
  unfold dbV up
  pointwise
  rw [one_apply h, dsvV_apply h]

/-- The gain's accumulator after the chunk. -/
theorem dlgV_apply (old : Vec Ideal S1x128x128 .f32) (i : Fin 1) (t l : Fin 128) :
    dlgV WT Z dp old (ix3 i t l) = old (ix3 0 t l) + (hp (fun e => B.dvn t e * B.xhat t e) l : EReal) := by
  unfold dlgV up
  pointwise
  rw [one_apply h, dvnV_apply h, xhatV_apply h, ← EReal.coe_mul]
  rcases lane_cases l with ⟨e, rfl⟩ | ⟨e, rfl⟩ <;> simp only [hp_lo, hp_hi, mul_zero]

/-- The norm bias's accumulator after the chunk. -/
theorem dlbV_apply (old : Vec Ideal S1x128x128 .f32) (i : Fin 1) (t l : Fin 128) :
    dlbV WT Z dp old (ix3 i t l) = old (ix3 0 t l) + (hp (B.dvn t) l : EReal) := by
  unfold dlbV up
  pointwise
  rw [one_apply h, dvnV_apply h]

theorem dxV_apply (t l : Fin 128) : dxV lg WT Z dp (ix2 t l) = (hp (B.dx t) l : EReal) := by
  unfold dxV
  pointwise
  rw [lanes_apply, dvnV_apply h, h.lg, ← EReal.coe_mul]
  rcases lane_cases l with ⟨e, rfl⟩ | ⟨e, rfl⟩ <;> simp only [hp_lo, hp_hi, mul_zero, Blk.dx]

theorem dvV_apply (t l : Fin 128) : dvV lg WT Z dp (ix2 t l) = (hp (B.dv t) l : EReal) := by
  have h2 (l) : mulf (dxV lg WT Z dp) (xhatV Z) (ix2 t l) = (hp (fun e => B.dx t e * B.xhat t e) l : EReal) := by
    pointwise
    rw [dxV_apply h, xhatV_apply h, ← EReal.coe_mul]
    rcases lane_cases l with ⟨e, rfl⟩ | ⟨e, rfl⟩ <;> simp only [hp_lo, hp_hi, mul_zero]
  unfold dvV
  refine mk_hp _ t _ (fun e => ?_) l
  pointwise
  rw [rows_apply, rows_apply, rows_apply, rstdV_apply h, dxV_apply h, xhatV_apply h, rowMean_hp h _ t _ (dxV_apply h t),
    rowMean_hp h _ t _ h2, hp_hi, hp_hi]
  simp only [← EReal.coe_mul, ← EReal.coe_sub]
  rfl

/-- The gradient of the pre-activation. -/
theorem dzV_apply (t l : Fin 128) : dzV lg lb W WT bf Z dp (ix2 t l) = (B.dz t l : EReal) := by
  unfold dzV
  pointwise
  rw [duV_apply h, dvV_apply h, gelu'V_apply h, ← EReal.coe_add, ← EReal.coe_mul]
  rfl

end

theorem colSumV_apply (a : Vec Ideal S1x128x128 .f32) (i : Fin 1) (t l : Fin 128) : colSumV a (ix3 i t l) = ∑ k, a (ix3 0 k l) := by
  unfold colSumV up lanes one
  pointwise

theorem rowSumV_apply (a : Vec Ideal S1x128x128 .f32) (i : Fin 1) (t l : Fin 128) : rowSumV a (ix3 i t l) = ∑ k, a (ix3 0 t k) := by
  unfold rowSumV up rows
  pointwise
  rw [rowSum_apply]
  unfold one
  pointwise

end Cert.KernelIdeal.Head

end
-- ==== Proof.Blocks.lean ====
/- The blocks one grid point stages (two chunks of 128 rows, four heads), and the loads of them that one chunk and head reads. -/
module

public import proofs.«01_k».proof.Proof.Head
public import Idealize.ShloMosaic.Lib.Pipeline.ReadBack

@[expose] public section

set_option maxRecDepth 16384

noncomputable section

namespace Cert.KernelIdeal.Head

open Cert.KernelIdeal Cert.KernelIdeal.Gen Idealize.ShloMosaic Idealize.ShloMosaic.TcCoe Idealize.SL.Sem
open Cert.Gmlp Cert.Consts

/-- The staged blocks hold the real numbers of `Bs c h`, chunk `c` of the two and head `h`. -/
structure Blocks (Bs : Fin 2 → Fin 4 → Blk) (Z : Vec Ideal S256x512 .f32) (D : Vec Ideal S256x256 .f32)
    (W WT BF : Vec Ideal S4x128x128 .f32) (LG LB : Vec Ideal S4x128 .f32) : Prop where
  z : ∀ (c : Fin 2) (h : Fin 4) (t l : Fin 128), Z (ix2 ⟨128 * c.val + t.val, by omega⟩ ⟨128 * h.val + l.val, by omega⟩) = ((Bs c h).x t l : EReal)
  d : ∀ (c : Fin 2) (h : Fin 4) (t : Fin 128) (e : Fin 64), D (ix2 ⟨128 * c.val + t.val, by omega⟩ ⟨64 * h.val + e.val, by omega⟩) = ((Bs c h).d t e : EReal)
  w : ∀ (c : Fin 2) (h : Fin 4) (t s : Fin 128), W (ix3 h t s) = ((Bs c h).w t s : EReal)
  wT : ∀ (c : Fin 2) (h : Fin 4) (t s : Fin 128), WT (ix3 h t s) = ((Bs c h).w s t : EReal)
  bf : ∀ (c : Fin 2) (h : Fin 4) (t l : Fin 128), BF (ix3 h t l) = (hp (fun _ => (Bs c h).s t) l : EReal)
  lg : ∀ (c : Fin 2) (h : Fin 4) (l : Fin 128), LG (ix2 h l) = (hp (Bs c h).g l : EReal)
  lb : ∀ (c : Fin 2) (h : Fin 4) (l : Fin 128), LB (ix2 h l) = (hp (Bs c h).b l : EReal)

section
variable {Bs : Fin 2 → Fin 4 → Blk} {Z : Vec Ideal S256x512 .f32} {D : Vec Ideal S256x256 .f32} {W WT BF : Vec Ideal S4x128x128 .f32}
  {LG LB : Vec Ideal S4x128 .f32} (hB : Blocks Bs Z D W WT BF LG LB)
include hB

theorem Blocks.reads (c : Fin 2) (h : Fin 4) (a b k : Nat) (ha : a = 128 * c.val) (hb : b = 128 * h.val) (hk : k = h.val)
    {i1 i2 : ∀ x, (![k, 0] : Fin 2 → Nat) x + (![1, 128] : Fin 2 → Nat) x ≤ S4x128.size x}
    {i3 i4 i5 : ∀ x, (![k, 0, 0] : Fin 3 → Nat) x + (![1, 128, 128] : Fin 3 → Nat) x ≤ S4x128x128.size x}
    {i6 : ∀ x, (![a, b] : Fin 2 → Nat) x + (![128, 128] : Fin 2 → Nat) x ≤ S256x512.size x} {dp : FVec Ideal S128x128 .f32}
    (hdp : ∀ t e, dp (ix2 t (lo e)) = ((Bs c h).d t e : EReal)) :
    Reads (Bs c h) (View.ld LG (Rect.unit ![k, 0] ![1, 128] i1)) (View.ld LB (Rect.unit ![k, 0] ![1, 128] i2))
      (View.ld W (Rect.unit ![k, 0, 0] ![1, 128, 128] i3)) (View.ld WT (Rect.unit ![k, 0, 0] ![1, 128, 128] i4))
      (View.ld BF (Rect.unit ![k, 0, 0] ![1, 128, 128] i5)) (View.ld Z (Rect.unit ![a, b] ![128, 128] i6)) dp := by
  subst ha hb hk
  refine ⟨fun t l => ?_, fun l => ?_, fun l => ?_, fun t s => ?_, fun t s => ?_, fun t l => ?_, hdp⟩
  · pointwise
    exact hB.z c h t l
  · pointwise
    exact hB.lg c h l
  · pointwise
    exact hB.lb c h l
  · pointwise
    exact hB.w c h t s
  · pointwise
    exact hB.wT c h t s
  · pointwise
    exact hB.bf c h t l

/-- An even head finds its gradient in the first 64 lanes of a pair of heads. -/
theorem Blocks.even (c : Fin 2) (h : Fin 4) (a b k q : Nat) (ha : a = 128 * c.val) (hb : b = 128 * h.val) (hk : k = h.val)
    (hq : q = 64 * h.val)
    (i1 : ∀ x, (![k, 0] : Fin 2 → Nat) x + (![1, 128] : Fin 2 → Nat) x ≤ S4x128.size x := by decide)
    (i3 : ∀ x, (![k, 0, 0] : Fin 3 → Nat) x + (![1, 128, 128] : Fin 3 → Nat) x ≤ S4x128x128.size x := by decide)
    (i6 : ∀ x, (![a, b] : Fin 2 → Nat) x + (![128, 128] : Fin 2 → Nat) x ≤ S256x512.size x := by decide)
    (i7 : ∀ x, (![a, q] : Fin 2 → Nat) x + (![128, 128] : Fin 2 → Nat) x ≤ S256x256.size x := by decide) :
    Reads (Bs c h) (View.ld LG (Rect.unit ![k, 0] ![1, 128] i1)) (View.ld LB (Rect.unit ![k, 0] ![1, 128] i1))
      (View.ld W (Rect.unit ![k, 0, 0] ![1, 128, 128] i3)) (View.ld WT (Rect.unit ![k, 0, 0] ![1, 128, 128] i3))
      (View.ld BF (Rect.unit ![k, 0, 0] ![1, 128, 128] i3)) (View.ld Z (Rect.unit ![a, b] ![128, 128] i6))
      (View.ld D (Rect.unit ![a, q] ![128, 128] i7)) := by
  refine hB.reads c h a b k ha hb hk fun t e => ?_
  subst ha hq
  pointwise
  exact hB.d c h t e

/-- An odd head finds it in the last 64, and turns the lanes by 64. -/
theorem Blocks.odd (c : Fin 2) (h : Fin 4) (a b k q : Nat) (ha : a = 128 * c.val) (hb : b = 128 * h.val) (hk : k = h.val)
    (hq : q + 64 = 64 * h.val)
    (i1 : ∀ x, (![k, 0] : Fin 2 → Nat) x + (![1, 128] : Fin 2 → Nat) x ≤ S4x128.size x := by decide)
    (i3 : ∀ x, (![k, 0, 0] : Fin 3 → Nat) x + (![1, 128, 128] : Fin 3 → Nat) x ≤ S4x128x128.size x := by decide)
    (i6 : ∀ x, (![a, b] : Fin 2 → Nat) x + (![128, 128] : Fin 2 → Nat) x ≤ S256x512.size x := by decide)
    (i7 : ∀ x, (![a, q] : Fin 2 → Nat) x + (![128, 128] : Fin 2 → Nat) x ≤ S256x256.size x := by decide) :
    Reads (Bs c h) (View.ld LG (Rect.unit ![k, 0] ![1, 128] i1)) (View.ld LB (Rect.unit ![k, 0] ![1, 128] i1))
      (View.ld W (Rect.unit ![k, 0, 0] ![1, 128, 128] i3)) (View.ld WT (Rect.unit ![k, 0, 0] ![1, 128, 128] i3))
      (View.ld BF (Rect.unit ![k, 0, 0] ![1, 128, 128] i3)) (View.ld Z (Rect.unit ![a, b] ![128, 128] i6))
      (rot (View.ld D (Rect.unit ![a, q] ![128, 128] i7))) := by
  refine hB.reads c h a b k ha hb hk fun t e => ?_
  rw [rot_lo]
  subst ha
  pointwise
  refine (congrArg (fun j => D (ix2 _ j)) (Fin.ext ?_)).trans (hB.d c h t e)
  simp only [hi]
  omega

end

/-! ## Both chunks of a grid point, one accumulator -/

section
variable {B0 B1 : Blk} {lg lb : Vec Ideal S1x128 .f32} {W WT bf : Vec Ideal S1x128x128 .f32} {Z0 Z1 : Vec Ideal S128x128 .f32}
  {dp0 dp1 : FVec Ideal S128x128 .f32} (h0 : Reads B0 lg lb W WT bf Z0 dp0) (h1 : Reads B1 lg lb W WT bf Z1 dp1)
include h0 h1

theorem dw_two (old : Vec Ideal S1x128x128 .f32) (i : Fin 1) (t s : Fin 128) :
    dwV lg lb Z1 dp1 (dwV lg lb Z0 dp0 old) (ix3 i t s) = old (ix3 0 t s) + (B0.dw t s : EReal) + (B1.dw t s : EReal) := by
  rw [dwV_apply h1, dwV_apply h0]

theorem db_two (old : Vec Ideal S1x128x128 .f32) (i : Fin 1) (t l : Fin 128) :
    dbV Z1 dp1 (dbV Z0 dp0 old) (ix3 i t l) = old (ix3 0 t l) + (hp (B0.dsv t) l : EReal) + (hp (B1.dsv t) l : EReal) := by
  rw [dbV_apply h1, dbV_apply h0]

theorem dlg_two (old : Vec Ideal S1x128x128 .f32) (i : Fin 1) (t l : Fin 128) :
    dlgV WT Z1 dp1 (dlgV WT Z0 dp0 old) (ix3 i t l) = old (ix3 0 t l) + (hp (fun e => B0.dvn t e * B0.xhat t e) l : EReal) +
      (hp (fun e => B1.dvn t e * B1.xhat t e) l : EReal) := by
  rw [dlgV_apply h1, dlgV_apply h0]

theorem dlb_two (old : Vec Ideal S1x128x128 .f32) (i : Fin 1) (t l : Fin 128) :
    dlbV WT Z1 dp1 (dlbV WT Z0 dp0 old) (ix3 i t l) = old (ix3 0 t l) + (hp (B0.dvn t) l : EReal) + (hp (B1.dvn t) l : EReal) := by
  rw [dlbV_apply h1, dlbV_apply h0]

end

/-! ## The arrays a grid point leaves -/

/-- An accumulator after one more grid point, `f` the summand of one chunk and head. -/
def plus (Bs : Fin 2 → Fin 4 → Blk) (f : Blk → Fin 128 → Fin 128 → ℝ) (X : Vec Ideal S4x128x128 .f32) : Vec Ideal S4x128x128 .f32 :=
  fun y => X y + (f (Bs 0 (y 0)) (y 1) (y 2) : EReal) + (f (Bs 1 (y 0)) (y 1) (y 2) : EReal)

theorem emb_head (k : Nat) (h : Fin 4) (hk : h.val = k)
    (i : ∀ x, (![k, 0, 0] : Fin 3 → Nat) x + (![1, 128, 128] : Fin 3 → Nat) x ≤ S4x128x128.size x) (x0 : Fin 1) (x1 x2 : Fin 128) :
    (Rect.unit ![k, 0, 0] ![1, 128, 128] i).emb (ix3 x0 x1 x2) = (ix3 h x1 x2 : S4x128x128.Idx) := by
  subst hk
  funext a
  refine Fin.ext ?_
  match a with
  | ⟨0, _⟩ => exact (show h.val + 1 * x0.val = h.val by omega)
  | ⟨1, _⟩ => exact (show 0 + 1 * x1.val = x1.val by omega)
  | ⟨2, _⟩ => exact (show 0 + 1 * x2.val = x2.val by omega)

/-- One head's store is that head of the accumulator. -/
theorem plus_piece {Bs : Fin 2 → Fin 4 → Blk} {f : Blk → Fin 128 → Fin 128 → ℝ} {X : Vec Ideal S4x128x128 .f32} (k : Nat) (h : Fin 4)
    (hk : h.val = k) {j : ∀ x, (![k, 0, 0] : Fin 3 → Nat) x + (![1, 128, 128] : Fin 3 → Nat) x ≤ S4x128x128.size x}
    {pay : Vec Ideal S1x128x128 .f32}
    (hp : ∀ (i : Fin 1) (t s : Fin 128), pay (ix3 i t s) =
      View.ld X (Rect.unit ![k, 0, 0] ![1, 128, 128] j) (ix3 0 t s) + (f (Bs 0 h) t s : EReal) + (f (Bs 1 h) t s : EReal))
    (x : (Rect.unit (s := S4x128x128) ![k, 0, 0] ![1, 128, 128] j).shape.Idx) :
    pay x = plus Bs f X ((Rect.unit ![k, 0, 0] ![1, 128, 128] j).emb x) := by
  idx_vars x
  rw [emb_head k h hk]
  refine (hp _ _ _).trans ?_
  unfold plus View.ld
  exact congrArg (fun z => X z + (f (Bs 0 h) x1 x2 : EReal) + (f (Bs 1 h) x1 x2 : EReal)) (emb_head k h hk j 0 x1 x2)

/-- An accumulator with each head summed along its lanes. -/
def rowSums (X : Vec Ideal S4x128x128 .f32) : Vec Ideal S4x128x128 .f32 := fun y => ∑ k : Fin 128, X (ix3 (y 0) (y 1) k)

/-- An accumulator with each head summed along its rows. -/
def colSums (X : Vec Ideal S4x128x128 .f32) : Vec Ideal S4x128x128 .f32 := fun y => ∑ k : Fin 128, X (ix3 (y 0) k (y 2))

theorem rowSums_piece {Bs : Fin 2 → Fin 4 → Blk} {f : Blk → Fin 128 → Fin 128 → ℝ} {X : Vec Ideal S4x128x128 .f32} (k : Nat) (h : Fin 4)
    (hk : h.val = k) {j : ∀ x, (![k, 0, 0] : Fin 3 → Nat) x + (![1, 128, 128] : Fin 3 → Nat) x ≤ S4x128x128.size x}
    {pay : Vec Ideal S1x128x128 .f32}
    (hp : ∀ (i : Fin 1) (t s : Fin 128), pay (ix3 i t s) =
      View.ld X (Rect.unit ![k, 0, 0] ![1, 128, 128] j) (ix3 0 t s) + (f (Bs 0 h) t s : EReal) + (f (Bs 1 h) t s : EReal))
    (x : (Rect.unit (s := S4x128x128) ![k, 0, 0] ![1, 128, 128] j).shape.Idx) :
    rowSumV pay x = rowSums (plus Bs f X) ((Rect.unit ![k, 0, 0] ![1, 128, 128] j).emb x) := by
  idx_vars x
  rw [emb_head k h hk]
  refine (rowSumV_apply pay _ _ _).trans (Finset.sum_congr rfl fun l _ => ?_)
  refine (plus_piece k h hk hp (ix3 0 x1 l)).trans ?_
  rw [emb_head k h hk]
  rfl

theorem colSums_piece {Bs : Fin 2 → Fin 4 → Blk} {f : Blk → Fin 128 → Fin 128 → ℝ} {X : Vec Ideal S4x128x128 .f32} (k : Nat) (h : Fin 4)
    (hk : h.val = k) {j : ∀ x, (![k, 0, 0] : Fin 3 → Nat) x + (![1, 128, 128] : Fin 3 → Nat) x ≤ S4x128x128.size x}
    {pay : Vec Ideal S1x128x128 .f32}
    (hp : ∀ (i : Fin 1) (t s : Fin 128), pay (ix3 i t s) =
      View.ld X (Rect.unit ![k, 0, 0] ![1, 128, 128] j) (ix3 0 t s) + (f (Bs 0 h) t s : EReal) + (f (Bs 1 h) t s : EReal))
    (x : (Rect.unit (s := S4x128x128) ![k, 0, 0] ![1, 128, 128] j).shape.Idx) :
    colSumV pay x = colSums (plus Bs f X) ((Rect.unit ![k, 0, 0] ![1, 128, 128] j).emb x) := by
  idx_vars x
  rw [emb_head k h hk]
  refine (colSumV_apply pay _ _ _).trans (Finset.sum_congr rfl fun l _ => ?_)
  refine (plus_piece k h hk hp (ix3 0 l x2)).trans ?_
  rw [emb_head k h hk]
  rfl

/-- The gradient of the pre-activation that a grid point leaves. -/
def dzG (Bs : Fin 2 → Fin 4 → Blk) : Vec Ideal S256x512 .bf16 := fun y =>
  ((Bs ⟨(y 0).val / 128, by have : (y 0).val < 256 := (y 0).isLt; omega⟩ ⟨(y 1).val / 128, by have : (y 1).val < 512 := (y 1).isLt; omega⟩).dz
    ⟨(y 0).val % 128, by omega⟩ ⟨(y 1).val % 128, by omega⟩ : EReal)

theorem dz_piece {Bs : Fin 2 → Fin 4 → Blk} (c : Fin 2) (h : Fin 4) (a b : Nat) (ha : a = 128 * c.val) (hb : b = 128 * h.val)
    {pay : Vec Ideal S128x128 .bf16} (hp : ∀ t l : Fin 128, pay (ix2 t l) = ((Bs c h).dz t l : EReal))
    (i : ∀ x, (![a, b] : Fin 2 → Nat) x + (![128, 128] : Fin 2 → Nat) x ≤ S256x512.size x := by decide)
    (x : (Rect.unit (s := S256x512) ![a, b] ![128, 128] i).shape.Idx) :
    pay x = dzG Bs ((Rect.unit ![a, b] ![128, 128] i).emb x) := by
  subst ha hb
  idx_vars x
  refine (hp _ _).trans ?_
  unfold dzG
  have e0 : ((Rect.unit (s := S256x512) ![128 * c.val, 128 * h.val] ![128, 128] i).emb (ix2 x0 x1) 0).val = 128 * c.val + x0.val :=
    show 128 * c.val + 1 * x0.val = 128 * c.val + x0.val by omega
  have e1 : ((Rect.unit (s := S256x512) ![128 * c.val, 128 * h.val] ![128, 128] i).emb (ix2 x0 x1) 1).val = 128 * h.val + x1.val :=
    show 128 * h.val + 1 * x1.val = 128 * h.val + x1.val by omega
  simp only [e0, e1]
  have d0 : (128 * c.val + x0.val) / 128 = c.val := by omega
  have d1 : (128 * h.val + x1.val) / 128 = h.val := by omega
  have r0 : (128 * c.val + x0.val) % 128 = x0.val := by omega
  have r1 : (128 * h.val + x1.val) % 128 = x1.val := by omega
  simp only [d0, d1, r0, r1]

end Cert.KernelIdeal.Head

end
-- ==== Proof.StepB.lean ====
/- What a grid point of the middle of the grid leaves: its rows of the pre-activation's gradient, and both of its chunks added to the
   four accumulators. -/
module

public import proofs.«01_k».proof.Proof.Gen.KernelIdeal.Frame
public import proofs.«01_k».proof.Proof.Blocks

@[expose] public section

set_option maxRecDepth 16384

noncomputable section

namespace Cert.KernelIdeal.Step

open Cert.KernelIdeal Cert.KernelIdeal.Gen Cert.KernelIdeal.Head Idealize.ShloMosaic Idealize.ShloMosaic.TcCoe Idealize.SL.Sem
open Cert.Gmlp
open Idealize.ShloMosaic.Pipeline (Dat)

variable (m : (ℓ : Loc nD τ sig) → Buf (Elt Ideal) ℓ)

/-- The real numbers one grid point's blocks hold. -/
abbrev At (c : Dev nD) (t : Fin cfg0.N) (Bs : Fin 2 → Fin 4 → Blk) : Prop :=
  Blocks Bs (iblk m c 0 t) (iblk m c 1 t) (iblk m c 2 t) (iblk m c 3 t) (iblk m c 4 t) (iblk m c 5 t) (iblk m c 6 t)

theorem dz_B (c : Dev nD) (t : Fin cfg0.N) (h0 : ¬t.val % 32 = 0) (h1 : ¬t.val % 32 = 31) (Bs : Fin 2 → Fin 4 → Blk) (hB : At m c t Bs) :
    (outsAt0 m c t.val t.isLt).1 = dzG Bs := by
  rw [outsAt0_B m c t h0 h1]
  dsimp only
  frame_open
  simp (disch := decide) only [↓ View.readCov_skip, ↓ View.readCov_cons_toLoadRect, ↓ View.readCov_fill]
  frame_out
  funext y
  refine View.canon_append_of_piecesOf (dzG Bs) [] [_, _, _, _, _, _, _, _] ⟨?_, ?_, ?_, ?_, ?_, ?_, ?_, ?_, trivial⟩ y
    (View.cover_of_tiledL _ ![128, 128] (by sl_kernel_rfl) y)
  · exact dz_piece 1 3 128 384 rfl rfl (dzV_apply (hB.odd 1 3 128 384 3 128 rfl rfl rfl rfl))
  · exact dz_piece 1 2 128 256 rfl rfl (dzV_apply (hB.even 1 2 128 256 2 128 rfl rfl rfl rfl))
  · exact dz_piece 1 1 128 128 rfl rfl (dzV_apply (hB.odd 1 1 128 128 1 0 rfl rfl rfl rfl))
  · exact dz_piece 1 0 128 0 rfl rfl (dzV_apply (hB.even 1 0 128 0 0 0 rfl rfl rfl rfl))
  · exact dz_piece 0 3 0 384 rfl rfl (dzV_apply (hB.odd 0 3 0 384 3 128 rfl rfl rfl rfl))
  · exact dz_piece 0 2 0 256 rfl rfl (dzV_apply (hB.even 0 2 0 256 2 128 rfl rfl rfl rfl))
  · exact dz_piece 0 1 0 128 rfl rfl (dzV_apply (hB.odd 0 1 0 128 1 0 rfl rfl rfl rfl))
  · exact dz_piece 0 0 0 0 rfl rfl (dzV_apply (hB.even 0 0 0 0 0 0 rfl rfl rfl rfl))

theorem dw_B (c : Dev nD) (t : Fin cfg0.N) (h0 : ¬t.val % 32 = 0) (h1 : ¬t.val % 32 = 31) (Bs : Fin 2 → Fin 4 → Blk) (hB : At m c t Bs) :
    (outsAt0 m c t.val t.isLt).2.1 = plus Bs Blk.dw (outsAt0 m c (t.val - 1) (by omega)).2.1 := by
  rw [outsAt0_B m c t h0 h1]
  dsimp only
  frame_open
  simp (disch := decide) only [↓ View.readCov_skip, ↓ View.readCov_cons_toLoadRect, ↓ View.readCov_fill]
  frame_out
  generalize (outsAt0 m c (t.val - 1) (by omega)).2.1 = X
  funext y
  refine View.canon_append_of_piecesOf (plus Bs Blk.dw X) [_, _, _, _] [_, _, _, _] ⟨?_, ?_, ?_, ?_, trivial⟩ y
    (View.cover_of_tiledL _ ![1, 128, 128] (by sl_kernel_rfl) y)
  · exact plus_piece 3 3 rfl (dw_two (hB.odd 0 3 0 384 3 128 rfl rfl rfl rfl) (hB.odd 1 3 128 384 3 128 rfl rfl rfl rfl) _)
  · exact plus_piece 2 2 rfl (dw_two (hB.even 0 2 0 256 2 128 rfl rfl rfl rfl) (hB.even 1 2 128 256 2 128 rfl rfl rfl rfl) _)
  · exact plus_piece 1 1 rfl (dw_two (hB.odd 0 1 0 128 1 0 rfl rfl rfl rfl) (hB.odd 1 1 128 128 1 0 rfl rfl rfl rfl) _)
  · exact plus_piece 0 0 rfl (dw_two (hB.even 0 0 0 0 0 0 rfl rfl rfl rfl) (hB.even 1 0 128 0 0 0 rfl rfl rfl rfl) _)

theorem db_B (c : Dev nD) (t : Fin cfg0.N) (h0 : ¬t.val % 32 = 0) (h1 : ¬t.val % 32 = 31) (Bs : Fin 2 → Fin 4 → Blk) (hB : At m c t Bs) :
    (outsAt0 m c t.val t.isLt).2.2.1 = plus Bs (fun B t l => hp (B.dsv t) l) (outsAt0 m c (t.val - 1) (by omega)).2.2.1 := by
  rw [outsAt0_B m c t h0 h1]
  dsimp only
  frame_open
  simp (disch := decide) only [↓ View.readCov_skip, ↓ View.readCov_cons_toLoadRect, ↓ View.readCov_fill]
  frame_out
  generalize (outsAt0 m c (t.val - 1) (by omega)).2.2.1 = X
  funext y
  refine View.canon_append_of_piecesOf (plus Bs (fun B t l => hp (B.dsv t) l) X) [_, _, _, _] [_, _, _, _] ⟨?_, ?_, ?_, ?_, trivial⟩ y
    (View.cover_of_tiledL _ ![1, 128, 128] (by sl_kernel_rfl) y)
  · exact plus_piece 3 3 rfl (db_two (hB.odd 0 3 0 384 3 128 rfl rfl rfl rfl) (hB.odd 1 3 128 384 3 128 rfl rfl rfl rfl) _)
  · exact plus_piece 2 2 rfl (db_two (hB.even 0 2 0 256 2 128 rfl rfl rfl rfl) (hB.even 1 2 128 256 2 128 rfl rfl rfl rfl) _)
  · exact plus_piece 1 1 rfl (db_two (hB.odd 0 1 0 128 1 0 rfl rfl rfl rfl) (hB.odd 1 1 128 128 1 0 rfl rfl rfl rfl) _)
  · exact plus_piece 0 0 rfl (db_two (hB.even 0 0 0 0 0 0 rfl rfl rfl rfl) (hB.even 1 0 128 0 0 0 rfl rfl rfl rfl) _)

theorem dlg_B (c : Dev nD) (t : Fin cfg0.N) (h0 : ¬t.val % 32 = 0) (h1 : ¬t.val % 32 = 31) (Bs : Fin 2 → Fin 4 → Blk) (hB : At m c t Bs) :
    (outsAt0 m c t.val t.isLt).2.2.2.1 = plus Bs (fun B t l => hp (fun e => B.dvn t e * B.xhat t e) l) (outsAt0 m c (t.val - 1) (by omega)).2.2.2.1 := by
  rw [outsAt0_B m c t h0 h1]
  dsimp only
  frame_open
  simp (disch := decide) only [↓ View.readCov_skip, ↓ View.readCov_cons_toLoadRect, ↓ View.readCov_fill]
  frame_out
  generalize (outsAt0 m c (t.val - 1) (by omega)).2.2.2.1 = X
  funext y
  refine View.canon_append_of_piecesOf (plus Bs (fun B t l => hp (fun e => B.dvn t e * B.xhat t e) l) X) [_, _, _, _] [_, _, _, _] ⟨?_, ?_, ?_, ?_, trivial⟩ y
    (View.cover_of_tiledL _ ![1, 128, 128] (by sl_kernel_rfl) y)
  · exact plus_piece 3 3 rfl (dlg_two (hB.odd 0 3 0 384 3 128 rfl rfl rfl rfl) (hB.odd 1 3 128 384 3 128 rfl rfl rfl rfl) _)
  · exact plus_piece 2 2 rfl (dlg_two (hB.even 0 2 0 256 2 128 rfl rfl rfl rfl) (hB.even 1 2 128 256 2 128 rfl rfl rfl rfl) _)
  · exact plus_piece 1 1 rfl (dlg_two (hB.odd 0 1 0 128 1 0 rfl rfl rfl rfl) (hB.odd 1 1 128 128 1 0 rfl rfl rfl rfl) _)
  · exact plus_piece 0 0 rfl (dlg_two (hB.even 0 0 0 0 0 0 rfl rfl rfl rfl) (hB.even 1 0 128 0 0 0 rfl rfl rfl rfl) _)

theorem dlb_B (c : Dev nD) (t : Fin cfg0.N) (h0 : ¬t.val % 32 = 0) (h1 : ¬t.val % 32 = 31) (Bs : Fin 2 → Fin 4 → Blk) (hB : At m c t Bs) :
    (outsAt0 m c t.val t.isLt).2.2.2.2 = plus Bs (fun B t l => hp (B.dvn t) l) (outsAt0 m c (t.val - 1) (by omega)).2.2.2.2 := by
  rw [outsAt0_B m c t h0 h1]
  dsimp only
  frame_open
  simp (disch := decide) only [↓ View.readCov_skip, ↓ View.readCov_cons_toLoadRect, ↓ View.readCov_fill]
  frame_out
  generalize (outsAt0 m c (t.val - 1) (by omega)).2.2.2.2 = X
  funext y
  refine View.canon_append_of_piecesOf (plus Bs (fun B t l => hp (B.dvn t) l) X) [_, _, _, _] [_, _, _, _] ⟨?_, ?_, ?_, ?_, trivial⟩ y
    (View.cover_of_tiledL _ ![1, 128, 128] (by sl_kernel_rfl) y)
  · exact plus_piece 3 3 rfl (dlb_two (hB.odd 0 3 0 384 3 128 rfl rfl rfl rfl) (hB.odd 1 3 128 384 3 128 rfl rfl rfl rfl) _)
  · exact plus_piece 2 2 rfl (dlb_two (hB.even 0 2 0 256 2 128 rfl rfl rfl rfl) (hB.even 1 2 128 256 2 128 rfl rfl rfl rfl) _)
  · exact plus_piece 1 1 rfl (dlb_two (hB.odd 0 1 0 128 1 0 rfl rfl rfl rfl) (hB.odd 1 1 128 128 1 0 rfl rfl rfl rfl) _)
  · exact plus_piece 0 0 rfl (dlb_two (hB.even 0 0 0 0 0 0 rfl rfl rfl rfl) (hB.even 1 0 128 0 0 0 rfl rfl rfl rfl) _)

end Cert.KernelIdeal.Step

end
-- ==== Proof.StepA.lean ====
/- What the first grid point leaves: its rows of the pre-activation's gradient, and both of its chunks in the four accumulators, which it
   clears first. -/
module

public import proofs.«01_k».proof.Proof.StepB

@[expose] public section

set_option maxRecDepth 16384

noncomputable section

namespace Cert.KernelIdeal.Step

open Cert.KernelIdeal Cert.KernelIdeal.Gen Cert.KernelIdeal.Head Idealize.ShloMosaic Idealize.ShloMosaic.TcCoe Idealize.SL.Sem
open Cert.Gmlp
open Idealize.ShloMosaic.Pipeline (Dat)

variable (m : (ℓ : Loc nD τ sig) → Buf (Elt Ideal) ℓ)

theorem dz_A (c : Dev nD) (t : Fin cfg0.N) (h0 : t.val % 32 = 0) (h1 : ¬t.val % 32 = 31) (Bs : Fin 2 → Fin 4 → Blk) (hB : At m c t Bs) :
    (outsAt0 m c t.val t.isLt).1 = dzG Bs := by
  rw [outsAt0_A m c t h0 h1]
  dsimp only
  frame_open
  simp (disch := decide) only [↓ View.readCov_skip, ↓ View.readCov_cons_toLoadRect, ↓ View.readCov_fill]
  frame_out
  funext y
  refine View.canon_append_of_piecesOf (dzG Bs) [] [_, _, _, _, _, _, _, _] ⟨?_, ?_, ?_, ?_, ?_, ?_, ?_, ?_, trivial⟩ y
    (View.cover_of_tiledL _ ![128, 128] (by sl_kernel_rfl) y)
  · exact dz_piece 1 3 128 384 rfl rfl (dzV_apply (hB.odd 1 3 128 384 3 128 rfl rfl rfl rfl))
  · exact dz_piece 1 2 128 256 rfl rfl (dzV_apply (hB.even 1 2 128 256 2 128 rfl rfl rfl rfl))
  · exact dz_piece 1 1 128 128 rfl rfl (dzV_apply (hB.odd 1 1 128 128 1 0 rfl rfl rfl rfl))
  · exact dz_piece 1 0 128 0 rfl rfl (dzV_apply (hB.even 1 0 128 0 0 0 rfl rfl rfl rfl))
  · exact dz_piece 0 3 0 384 rfl rfl (dzV_apply (hB.odd 0 3 0 384 3 128 rfl rfl rfl rfl))
  · exact dz_piece 0 2 0 256 rfl rfl (dzV_apply (hB.even 0 2 0 256 2 128 rfl rfl rfl rfl))
  · exact dz_piece 0 1 0 128 rfl rfl (dzV_apply (hB.odd 0 1 0 128 1 0 rfl rfl rfl rfl))
  · exact dz_piece 0 0 0 0 rfl rfl (dzV_apply (hB.even 0 0 0 0 0 0 rfl rfl rfl rfl))

theorem dw_A (c : Dev nD) (t : Fin cfg0.N) (h0 : t.val % 32 = 0) (h1 : ¬t.val % 32 = 31) (Bs : Fin 2 → Fin 4 → Blk) (hB : At m c t Bs) :
    (outsAt0 m c t.val t.isLt).2.1 = plus Bs Blk.dw (k0_pay16 (F := Ideal)) := by
  rw [outsAt0_A m c t h0 h1]
  dsimp only
  frame_open
  simp (disch := decide) only [↓ View.readCov_skip, ↓ View.readCov_cons_toLoadRect, ↓ View.readCov_fill]
  frame_out
  funext y
  refine View.canon_append_of_piecesOf (plus Bs Blk.dw (k0_pay16 (F := Ideal))) [_, _, _, _, _] [_, _, _, _] ⟨?_, ?_, ?_, ?_, trivial⟩ y
    (View.cover_of_tiledL _ ![1, 128, 128] (by sl_kernel_rfl) y)
  · exact plus_piece 3 3 rfl (dw_two (hB.odd 0 3 0 384 3 128 rfl rfl rfl rfl) (hB.odd 1 3 128 384 3 128 rfl rfl rfl rfl) _)
  · exact plus_piece 2 2 rfl (dw_two (hB.even 0 2 0 256 2 128 rfl rfl rfl rfl) (hB.even 1 2 128 256 2 128 rfl rfl rfl rfl) _)
  · exact plus_piece 1 1 rfl (dw_two (hB.odd 0 1 0 128 1 0 rfl rfl rfl rfl) (hB.odd 1 1 128 128 1 0 rfl rfl rfl rfl) _)
  · exact plus_piece 0 0 rfl (dw_two (hB.even 0 0 0 0 0 0 rfl rfl rfl rfl) (hB.even 1 0 128 0 0 0 rfl rfl rfl rfl) _)

theorem db_A (c : Dev nD) (t : Fin cfg0.N) (h0 : t.val % 32 = 0) (h1 : ¬t.val % 32 = 31) (Bs : Fin 2 → Fin 4 → Blk) (hB : At m c t Bs) :
    (outsAt0 m c t.val t.isLt).2.2.1 = plus Bs (fun B t l => hp (B.dsv t) l) (k0_pay17 (F := Ideal)) := by
  rw [outsAt0_A m c t h0 h1]
  dsimp only
  frame_open
  simp (disch := decide) only [↓ View.readCov_skip, ↓ View.readCov_cons_toLoadRect, ↓ View.readCov_fill]
  frame_out
  funext y
  refine View.canon_append_of_piecesOf (plus Bs (fun B t l => hp (B.dsv t) l) (k0_pay17 (F := Ideal))) [_, _, _, _, _] [_, _, _, _] ⟨?_, ?_, ?_, ?_, trivial⟩ y
    (View.cover_of_tiledL _ ![1, 128, 128] (by sl_kernel_rfl) y)
  · exact plus_piece 3 3 rfl (db_two (hB.odd 0 3 0 384 3 128 rfl rfl rfl rfl) (hB.odd 1 3 128 384 3 128 rfl rfl rfl rfl) _)
  · exact plus_piece 2 2 rfl (db_two (hB.even 0 2 0 256 2 128 rfl rfl rfl rfl) (hB.even 1 2 128 256 2 128 rfl rfl rfl rfl) _)
  · exact plus_piece 1 1 rfl (db_two (hB.odd 0 1 0 128 1 0 rfl rfl rfl rfl) (hB.odd 1 1 128 128 1 0 rfl rfl rfl rfl) _)
  · exact plus_piece 0 0 rfl (db_two (hB.even 0 0 0 0 0 0 rfl rfl rfl rfl) (hB.even 1 0 128 0 0 0 rfl rfl rfl rfl) _)

theorem dlg_A (c : Dev nD) (t : Fin cfg0.N) (h0 : t.val % 32 = 0) (h1 : ¬t.val % 32 = 31) (Bs : Fin 2 → Fin 4 → Blk) (hB : At m c t Bs) :
    (outsAt0 m c t.val t.isLt).2.2.2.1 = plus Bs (fun B t l => hp (fun e => B.dvn t e * B.xhat t e) l) (k0_pay18 (F := Ideal)) := by
  rw [outsAt0_A m c t h0 h1]
  dsimp only
  frame_open
  simp (disch := decide) only [↓ View.readCov_skip, ↓ View.readCov_cons_toLoadRect, ↓ View.readCov_fill]
  frame_out
  funext y
  refine View.canon_append_of_piecesOf (plus Bs (fun B t l => hp (fun e => B.dvn t e * B.xhat t e) l) (k0_pay18 (F := Ideal))) [_, _, _, _, _] [_, _, _, _] ⟨?_, ?_, ?_, ?_, trivial⟩ y
    (View.cover_of_tiledL _ ![1, 128, 128] (by sl_kernel_rfl) y)
  · exact plus_piece 3 3 rfl (dlg_two (hB.odd 0 3 0 384 3 128 rfl rfl rfl rfl) (hB.odd 1 3 128 384 3 128 rfl rfl rfl rfl) _)
  · exact plus_piece 2 2 rfl (dlg_two (hB.even 0 2 0 256 2 128 rfl rfl rfl rfl) (hB.even 1 2 128 256 2 128 rfl rfl rfl rfl) _)
  · exact plus_piece 1 1 rfl (dlg_two (hB.odd 0 1 0 128 1 0 rfl rfl rfl rfl) (hB.odd 1 1 128 128 1 0 rfl rfl rfl rfl) _)
  · exact plus_piece 0 0 rfl (dlg_two (hB.even 0 0 0 0 0 0 rfl rfl rfl rfl) (hB.even 1 0 128 0 0 0 rfl rfl rfl rfl) _)

theorem dlb_A (c : Dev nD) (t : Fin cfg0.N) (h0 : t.val % 32 = 0) (h1 : ¬t.val % 32 = 31) (Bs : Fin 2 → Fin 4 → Blk) (hB : At m c t Bs) :
    (outsAt0 m c t.val t.isLt).2.2.2.2 = plus Bs (fun B t l => hp (B.dvn t) l) (k0_pay19 (F := Ideal)) := by
  rw [outsAt0_A m c t h0 h1]
  dsimp only
  frame_open
  simp (disch := decide) only [↓ View.readCov_skip, ↓ View.readCov_cons_toLoadRect, ↓ View.readCov_fill]
  frame_out
  funext y
  refine View.canon_append_of_piecesOf (plus Bs (fun B t l => hp (B.dvn t) l) (k0_pay19 (F := Ideal))) [_, _, _, _, _] [_, _, _, _] ⟨?_, ?_, ?_, ?_, trivial⟩ y
    (View.cover_of_tiledL _ ![1, 128, 128] (by sl_kernel_rfl) y)
  · exact plus_piece 3 3 rfl (dlb_two (hB.odd 0 3 0 384 3 128 rfl rfl rfl rfl) (hB.odd 1 3 128 384 3 128 rfl rfl rfl rfl) _)
  · exact plus_piece 2 2 rfl (dlb_two (hB.even 0 2 0 256 2 128 rfl rfl rfl rfl) (hB.even 1 2 128 256 2 128 rfl rfl rfl rfl) _)
  · exact plus_piece 1 1 rfl (dlb_two (hB.odd 0 1 0 128 1 0 rfl rfl rfl rfl) (hB.odd 1 1 128 128 1 0 rfl rfl rfl rfl) _)
  · exact plus_piece 0 0 rfl (dlb_two (hB.even 0 0 0 0 0 0 rfl rfl rfl rfl) (hB.even 1 0 128 0 0 0 rfl rfl rfl rfl) _)

end Cert.KernelIdeal.Step

end
-- ==== Proof.StepC.lean ====
/- What the last grid point leaves: its rows of the pre-activation's gradient, and the four accumulators with its chunks added, three of
   them summed along lanes or rows. -/
module

public import proofs.«01_k».proof.Proof.StepB

@[expose] public section

set_option maxRecDepth 16384

noncomputable section

namespace Cert.KernelIdeal.Step

open Cert.KernelIdeal Cert.KernelIdeal.Gen Cert.KernelIdeal.Head Idealize.ShloMosaic Idealize.ShloMosaic.TcCoe Idealize.SL.Sem
open Cert.Gmlp
open Idealize.ShloMosaic.Pipeline (Dat)

variable (m : (ℓ : Loc nD τ sig) → Buf (Elt Ideal) ℓ)

theorem dz_C (c : Dev nD) (t : Fin cfg0.N) (h0 : ¬t.val % 32 = 0) (h1 : t.val % 32 = 31) (Bs : Fin 2 → Fin 4 → Blk) (hB : At m c t Bs) :
    (outsAt0 m c t.val t.isLt).1 = dzG Bs := by
  rw [outsAt0_C m c t h0 h1]
  dsimp only
  frame_open
  simp (disch := decide) only [↓ View.readCov_skip, ↓ View.readCov_cons_toLoadRect, ↓ View.readCov_fill]
  frame_out
  funext y
  refine View.canon_append_of_piecesOf (dzG Bs) [] [_, _, _, _, _, _, _, _] ⟨?_, ?_, ?_, ?_, ?_, ?_, ?_, ?_, trivial⟩ y
    (View.cover_of_tiledL _ ![128, 128] (by sl_kernel_rfl) y)
  · exact dz_piece 1 3 128 384 rfl rfl (dzV_apply (hB.odd 1 3 128 384 3 128 rfl rfl rfl rfl))
  · exact dz_piece 1 2 128 256 rfl rfl (dzV_apply (hB.even 1 2 128 256 2 128 rfl rfl rfl rfl))
  · exact dz_piece 1 1 128 128 rfl rfl (dzV_apply (hB.odd 1 1 128 128 1 0 rfl rfl rfl rfl))
  · exact dz_piece 1 0 128 0 rfl rfl (dzV_apply (hB.even 1 0 128 0 0 0 rfl rfl rfl rfl))
  · exact dz_piece 0 3 0 384 rfl rfl (dzV_apply (hB.odd 0 3 0 384 3 128 rfl rfl rfl rfl))
  · exact dz_piece 0 2 0 256 rfl rfl (dzV_apply (hB.even 0 2 0 256 2 128 rfl rfl rfl rfl))
  · exact dz_piece 0 1 0 128 rfl rfl (dzV_apply (hB.odd 0 1 0 128 1 0 rfl rfl rfl rfl))
  · exact dz_piece 0 0 0 0 rfl rfl (dzV_apply (hB.even 0 0 0 0 0 0 rfl rfl rfl rfl))

theorem dw_C (c : Dev nD) (t : Fin cfg0.N) (h0 : ¬t.val % 32 = 0) (h1 : t.val % 32 = 31) (Bs : Fin 2 → Fin 4 → Blk) (hB : At m c t Bs) :
    (outsAt0 m c t.val t.isLt).2.1 = plus Bs Blk.dw (outsAt0 m c (t.val - 1) (by omega)).2.1 := by
  rw [outsAt0_C m c t h0 h1]
  dsimp only
  frame_open
  simp (disch := decide) only [↓ View.readCov_skip, ↓ View.readCov_cons_toLoadRect, ↓ View.readCov_fill]
  frame_out
  generalize (outsAt0 m c (t.val - 1) (by omega)).2.1 = X
  funext y
  refine View.canon_append_of_piecesOf (plus Bs Blk.dw X) [_, _, _, _] [_, _, _, _] ⟨?_, ?_, ?_, ?_, trivial⟩ y
    (View.cover_of_tiledL _ ![1, 128, 128] (by sl_kernel_rfl) y)
  · exact plus_piece 3 3 rfl (dw_two (hB.odd 0 3 0 384 3 128 rfl rfl rfl rfl) (hB.odd 1 3 128 384 3 128 rfl rfl rfl rfl) _)
  · exact plus_piece 2 2 rfl (dw_two (hB.even 0 2 0 256 2 128 rfl rfl rfl rfl) (hB.even 1 2 128 256 2 128 rfl rfl rfl rfl) _)
  · exact plus_piece 1 1 rfl (dw_two (hB.odd 0 1 0 128 1 0 rfl rfl rfl rfl) (hB.odd 1 1 128 128 1 0 rfl rfl rfl rfl) _)
  · exact plus_piece 0 0 rfl (dw_two (hB.even 0 0 0 0 0 0 rfl rfl rfl rfl) (hB.even 1 0 128 0 0 0 rfl rfl rfl rfl) _)

theorem db_C (c : Dev nD) (t : Fin cfg0.N) (h0 : ¬t.val % 32 = 0) (h1 : t.val % 32 = 31) (Bs : Fin 2 → Fin 4 → Blk) (hB : At m c t Bs) :
    (outsAt0 m c t.val t.isLt).2.2.1 = rowSums (plus Bs (fun B t l => hp (B.dsv t) l) (outsAt0 m c (t.val - 1) (by omega)).2.2.1) := by
  rw [outsAt0_C m c t h0 h1]
  dsimp only
  frame_open
  simp (disch := decide) only [↓ View.readCov_skip, ↓ View.readCov_cons_toLoadRect, ↓ View.readCov_fill]
  frame_out
  generalize (outsAt0 m c (t.val - 1) (by omega)).2.2.1 = X
  funext y
  refine View.canon_append_of_piecesOf (rowSums (plus Bs (fun B t l => hp (B.dsv t) l) X)) [_, _, _, _, _, _, _, _] [_, _, _, _] ⟨?_, ?_, ?_, ?_, trivial⟩ y
    (View.cover_of_tiledL _ ![1, 128, 128] (by sl_kernel_rfl) y)
  · exact rowSums_piece 3 3 rfl (db_two (hB.odd 0 3 0 384 3 128 rfl rfl rfl rfl) (hB.odd 1 3 128 384 3 128 rfl rfl rfl rfl) _)
  · exact rowSums_piece 2 2 rfl (db_two (hB.even 0 2 0 256 2 128 rfl rfl rfl rfl) (hB.even 1 2 128 256 2 128 rfl rfl rfl rfl) _)
  · exact rowSums_piece 1 1 rfl (db_two (hB.odd 0 1 0 128 1 0 rfl rfl rfl rfl) (hB.odd 1 1 128 128 1 0 rfl rfl rfl rfl) _)
  · exact rowSums_piece 0 0 rfl (db_two (hB.even 0 0 0 0 0 0 rfl rfl rfl rfl) (hB.even 1 0 128 0 0 0 rfl rfl rfl rfl) _)

theorem dlg_C (c : Dev nD) (t : Fin cfg0.N) (h0 : ¬t.val % 32 = 0) (h1 : t.val % 32 = 31) (Bs : Fin 2 → Fin 4 → Blk) (hB : At m c t Bs) :
    (outsAt0 m c t.val t.isLt).2.2.2.1 = colSums (plus Bs (fun B t l => hp (fun e => B.dvn t e * B.xhat t e) l) (outsAt0 m c (t.val - 1) (by omega)).2.2.2.1) := by
  rw [outsAt0_C m c t h0 h1]
  dsimp only
  frame_open
  simp (disch := decide) only [↓ View.readCov_skip, ↓ View.readCov_cons_toLoadRect, ↓ View.readCov_fill]
  frame_out
  generalize (outsAt0 m c (t.val - 1) (by omega)).2.2.2.1 = X
  funext y
  refine View.canon_append_of_piecesOf (colSums (plus Bs (fun B t l => hp (fun e => B.dvn t e * B.xhat t e) l) X)) [_, _, _, _, _, _, _, _] [_, _, _, _] ⟨?_, ?_, ?_, ?_, trivial⟩ y
    (View.cover_of_tiledL _ ![1, 128, 128] (by sl_kernel_rfl) y)
  · exact colSums_piece 3 3 rfl (dlg_two (hB.odd 0 3 0 384 3 128 rfl rfl rfl rfl) (hB.odd 1 3 128 384 3 128 rfl rfl rfl rfl) _)
  · exact colSums_piece 2 2 rfl (dlg_two (hB.even 0 2 0 256 2 128 rfl rfl rfl rfl) (hB.even 1 2 128 256 2 128 rfl rfl rfl rfl) _)
  · exact colSums_piece 1 1 rfl (dlg_two (hB.odd 0 1 0 128 1 0 rfl rfl rfl rfl) (hB.odd 1 1 128 128 1 0 rfl rfl rfl rfl) _)
  · exact colSums_piece 0 0 rfl (dlg_two (hB.even 0 0 0 0 0 0 rfl rfl rfl rfl) (hB.even 1 0 128 0 0 0 rfl rfl rfl rfl) _)

theorem dlb_C (c : Dev nD) (t : Fin cfg0.N) (h0 : ¬t.val % 32 = 0) (h1 : t.val % 32 = 31) (Bs : Fin 2 → Fin 4 → Blk) (hB : At m c t Bs) :
    (outsAt0 m c t.val t.isLt).2.2.2.2 = colSums (plus Bs (fun B t l => hp (B.dvn t) l) (outsAt0 m c (t.val - 1) (by omega)).2.2.2.2) := by
  rw [outsAt0_C m c t h0 h1]
  dsimp only
  frame_open
  simp (disch := decide) only [↓ View.readCov_skip, ↓ View.readCov_cons_toLoadRect, ↓ View.readCov_fill]
  frame_out
  generalize (outsAt0 m c (t.val - 1) (by omega)).2.2.2.2 = X
  funext y
  refine View.canon_append_of_piecesOf (colSums (plus Bs (fun B t l => hp (B.dvn t) l) X)) [_, _, _, _, _, _, _, _] [_, _, _, _] ⟨?_, ?_, ?_, ?_, trivial⟩ y
    (View.cover_of_tiledL _ ![1, 128, 128] (by sl_kernel_rfl) y)
  · exact colSums_piece 3 3 rfl (dlb_two (hB.odd 0 3 0 384 3 128 rfl rfl rfl rfl) (hB.odd 1 3 128 384 3 128 rfl rfl rfl rfl) _)
  · exact colSums_piece 2 2 rfl (dlb_two (hB.even 0 2 0 256 2 128 rfl rfl rfl rfl) (hB.even 1 2 128 256 2 128 rfl rfl rfl rfl) _)
  · exact colSums_piece 1 1 rfl (dlb_two (hB.odd 0 1 0 128 1 0 rfl rfl rfl rfl) (hB.odd 1 1 128 128 1 0 rfl rfl rfl rfl) _)
  · exact colSums_piece 0 0 rfl (dlb_two (hB.even 0 0 0 0 0 0 rfl rfl rfl rfl) (hB.even 1 0 128 0 0 0 rfl rfl rfl rfl) _)

end Cert.KernelIdeal.Step

end
-- ==== Proof.Result.lean ====
/- The five arrays the kernel returns, over the real numbers. -/
module

public import proofs.«01_k».proof.Proof.Gen.KernelIdeal.Value
public import proofs.«01_k».proof.Proof.StepA
public import proofs.«01_k».proof.Proof.StepC

@[expose] public section

set_option maxRecDepth 16384

noncomputable section

namespace Cert.KernelIdeal.Result

open Cert.KernelIdeal Cert.KernelIdeal.Gen Cert.KernelIdeal.Head Cert.KernelIdeal.Step Idealize.ShloMosaic Idealize.ShloMosaic.TcCoe Idealize.SL.Sem
open Cert.Gmlp
open Idealize.ShloMosaic.Pipeline (Dat)

variable (m : (ℓ : Loc nD τ sig) → Buf (Elt Ideal) ℓ)

/-- The arguments a device is launched with are the real numbers `A`. -/
structure Holds (A : Args) (z : S8192x1536.Idx → EReal) (d : S8192x256.Idx → EReal) (g b : S4x64.Idx → EReal) (w : S4x128x128.Idx → EReal)
    (s : S4x128.Idx → EReal) : Prop where
  z : ∀ r k, z (ix2 r k) = (A.z r k : EReal)
  d : ∀ r k, d (ix2 r k) = (A.d r k : EReal)
  g : ∀ h e, g (ix2 h e) = (A.g h e : EReal)
  b : ∀ h e, b (ix2 h e) = (A.b h e : EReal)
  w : ∀ h t u, w (ix3 h t u) = (A.w h t u : EReal)
  s : ∀ h t, s (ix2 h t) = (A.s h t : EReal)

variable (c : Dev nD) (A : Args)
  (hA : Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))

theorem idx0 : ∀ t : Fin cfg0.N, win0_0.index t = ![t.val, 0] ∧ win0_1.index t = ![t.val, 0] ∧ win0_2.index t = ![0, 0, 0] ∧
    win0_3.index t = ![0, 0, 0] ∧ win0_4.index t = ![0, 0, 0] ∧ win0_5.index t = ![0, 0] ∧ win0_6.index t = ![0, 0] ∧ win0_7.index t = ![t.val, 0] := by
  decide +kernel

/-- The two chunks of grid point `t`. -/
def pts (t : Fin cfg0.N) (k : Fin 2) (h : Fin 4) : Blk := A.blk ⟨2 * t.val + k.val, by have : t.val < 32 := t.isLt; omega⟩ h

variable {A}
include hA

theorem at_z (t : Fin cfg0.N) (k : Fin 2) (h : Fin 4) (u l : Fin 128) :
    iblk m c 0 t (ix2 ⟨128 * k.val + u.val, by omega⟩ ⟨128 * h.val + l.val, by omega⟩) = ((pts A t k h).x u l : EReal) := by
  refine Eq.trans ?_ (hA.z (row ⟨2 * t.val + k.val, by have : t.val < 32 := t.isLt; omega⟩ u) (col h l))
  unfold row col
  blk_ext [iblk, V, idx0 t]

theorem at_d (t : Fin cfg0.N) (k : Fin 2) (h : Fin 4) (u : Fin 128) (e : Fin 64) :
    iblk m c 1 t (ix2 ⟨128 * k.val + u.val, by omega⟩ ⟨64 * h.val + e.val, by omega⟩) = ((pts A t k h).d u e : EReal) := by
  refine Eq.trans ?_ (hA.d (row ⟨2 * t.val + k.val, by have : t.val < 32 := t.isLt; omega⟩ u) (lane h e))
  unfold row lane
  blk_ext [iblk, V, idx0 t]

theorem at_w (t : Fin cfg0.N) (k : Fin 2) (h : Fin 4) (u s : Fin 128) : iblk m c 2 t (ix3 h u s) = ((pts A t k h).w u s : EReal) := by
  have e2 : ((View.whole main_arg4).slice (win0_2.rect t)).emb (ix3 h u s) = ix3 h u s := by blk_ext [idx0 t]
  refine Eq.trans ?_ (hA.w h u s)
  unfold iblk
  blk_simp
  entry_read
  rw [e2]

theorem at_wT (t : Fin cfg0.N) (k : Fin 2) (h : Fin 4) (u s : Fin 128) : iblk m c 3 t (ix3 h u s) = ((pts A t k h).w s u : EReal) := by
  have e3 : ((View.whole main_v0).slice (win0_3.rect t)).emb (ix3 h u s) = ix3 h u s := by blk_ext [idx0 t]
  refine Eq.trans ?_ (hA.w h s u)
  unfold iblk
  blk_simp
  entry_read
  rw [e3]
  pointwise

theorem at_bf (t : Fin cfg0.N) (k : Fin 2) (h : Fin 4) (u l : Fin 128) :
    iblk m c 4 t (ix3 h u l) = (hp (fun _ => (pts A t k h).s u) l : EReal) := by
  have e4 : ((View.whole main_v4).slice (win0_4.rect t)).emb (ix3 h u l) = ix3 h u l := by blk_ext [idx0 t]
  unfold iblk
  blk_simp
  entry_read
  rw [e4]
  pointwise
  rcases lane_cases l with ⟨e, rfl⟩ | ⟨e, rfl⟩
  · rw [hp_lo, dif_pos (show (lo e).val < 64 from e.isLt), EReal.coe_zero]
  · rw [hp_hi, dif_neg (show ¬(hi e).val < 64 by show ¬64 + e.val < 64; omega)]
    exact hA.s h u

theorem at_lg (t : Fin cfg0.N) (k : Fin 2) (h : Fin 4) (l : Fin 128) : iblk m c 5 t (ix2 h l) = (hp (pts A t k h).g l : EReal) := by
  have e5 : ((View.whole main_v6).slice (win0_5.rect t)).emb (ix2 h l) = ix2 h l := by blk_ext [idx0 t]
  unfold iblk
  blk_simp
  entry_read
  rw [e5]
  pointwise
  rcases lane_cases l with ⟨e, rfl⟩ | ⟨e, rfl⟩
  · rw [hp_lo, dif_pos (show (lo e).val < 64 from e.isLt), EReal.coe_zero]
  · rw [hp_hi, dif_neg (show ¬(hi e).val < 64 by show ¬64 + e.val < 64; omega)]
    refine (congrArg (fun x => m (c, Proc.tc.devRef main_arg2) (ix2 h x)) (Fin.ext (show 64 + e.val - 64 = e.val by omega))).trans (hA.g h e)

theorem at_lb (t : Fin cfg0.N) (k : Fin 2) (h : Fin 4) (l : Fin 128) : iblk m c 6 t (ix2 h l) = (hp (pts A t k h).b l : EReal) := by
  have e6 : ((View.whole main_v8).slice (win0_6.rect t)).emb (ix2 h l) = ix2 h l := by blk_ext [idx0 t]
  unfold iblk
  blk_simp
  entry_read
  rw [e6]
  pointwise
  rcases lane_cases l with ⟨e, rfl⟩ | ⟨e, rfl⟩
  · rw [hp_lo, dif_pos (show (lo e).val < 64 from e.isLt), EReal.coe_zero]
  · rw [hp_hi, dif_neg (show ¬(hi e).val < 64 by show ¬64 + e.val < 64; omega)]
    refine (congrArg (fun x => m (c, Proc.tc.devRef main_arg3) (ix2 h x)) (Fin.ext (show 64 + e.val - 64 = e.val by omega))).trans (hA.b h e)

theorem at_pts (t : Fin cfg0.N) : At m c t (pts A t) :=
  ⟨at_z m c hA t, at_d m c hA t, at_w m c hA t, at_wT m c hA t, at_bf m c hA t, at_lg m c hA t, at_lb m c hA t⟩

omit hA
variable (A)

/-- What grid point `j` adds to an accumulator. -/
def term (f : Blk → Fin 128 → Fin 128 → ℝ) (h : Fin 4) (t s : Fin 128) (j : Nat) : ℝ :=
  if hj : j < 32 then f (A.blk ⟨2 * j, by omega⟩ h) t s + f (A.blk ⟨2 * j + 1, by omega⟩ h) t s else 0

/-- An accumulator after the first `k` grid points. -/
def accR (f : Blk → Fin 128 → Fin 128 → ℝ) (k : Nat) : Vec Ideal S4x128x128 .f32 :=
  fun y => ((∑ j ∈ Finset.range k, term A f (y 0) (y 1) (y 2) j : ℝ) : EReal)

theorem plus_accR (f : Blk → Fin 128 → Fin 128 → ℝ) (t : Fin cfg0.N) : plus (pts A t) f (accR A f t.val) = accR A f (t.val + 1) := by
  have ht : t.val < 32 := t.isLt
  funext y
  unfold plus accR
  rw [Finset.sum_range_succ, ← EReal.coe_add, ← EReal.coe_add, add_assoc]
  refine congrArg (fun x : ℝ => ((_ + x : ℝ) : EReal)) ?_
  unfold term
  rw [dif_pos ht]
  rfl

/-- The sum over the grid points is the sum over the chunks. -/
theorem accR_all (f : Blk → Fin 128 → Fin 128 → ℝ) (y : S4x128x128.Idx) :
    accR A f 32 y = ((∑ n : Fin 64, f (A.blk n (y 0)) (y 1) (y 2) : ℝ) : EReal) := by
  unfold accR
  refine congrArg _ ?_
  rw [Finset.sum_range, ← Equiv.sum_comp (finProdFinEquiv (m := 32) (n := 2)), Fintype.sum_prod_type]
  refine Finset.sum_congr rfl fun j _ => ?_
  rw [Fin.sum_univ_two]
  unfold term
  rw [dif_pos j.isLt]
  have e0 : finProdFinEquiv (j, (0 : Fin 2)) = (⟨2 * j.val, by omega⟩ : Fin 64) := Fin.ext (show 0 + 2 * j.val = 2 * j.val by omega)
  have e1 : finProdFinEquiv (j, (1 : Fin 2)) = (⟨2 * j.val + 1, by omega⟩ : Fin 64) := Fin.ext (show 1 + 2 * j.val = 2 * j.val + 1 by omega)
  rw [e0, e1]

/-- An accumulator before the last grid point. -/
theorem acc_run (f : Blk → Fin 128 → Fin 128 → ℝ) (o : ∀ n, n < cfg0.N → Vec Ideal S4x128x128 .f32)
    (ho : ∀ t : Fin cfg0.N, t.val % 32 = 0 → ¬t.val % 32 = 31 → o t.val t.isLt = plus (pts A t) f (accR A f 0))
    (hs : ∀ (t : Fin cfg0.N) (h0 : ¬t.val % 32 = 0), ¬t.val % 32 = 31 → o t.val t.isLt = plus (pts A t) f (o (t.val - 1) (by omega))) :
    ∀ n (h : n < cfg0.N), n < 31 → o n h = accR A f (n + 1)
  | 0, h, _ => by
    rw [ho ⟨0, h⟩ (by show 0 % 32 = 0; omega) (by show ¬0 % 32 = 31; omega)]
    exact plus_accR A f ⟨0, h⟩
  | n + 1, h, hn => by
    rw [hs ⟨n + 1, h⟩ (by show ¬(n + 1) % 32 = 0; omega) (by show ¬(n + 1) % 32 = 31; omega)]
    show plus _ f (o n _) = _
    rw [acc_run f o ho hs n (by omega) (by omega)]
    exact plus_accR A f ⟨n + 1, h⟩

variable {A}
include hA

/-- The last grid point. -/
def tLast : Fin cfg0.N := ⟨31, by decide⟩

theorem dw_at (n : Nat) (h : n < cfg0.N) (hn : n < 31) : (outsAt0 m c n h).2.1 = accR A Blk.dw (n + 1) :=
  acc_run A Blk.dw (fun n h => (outsAt0 m c n h).2.1)
    (fun t h0 h1 => (dw_A m c t h0 h1 _ (at_pts m c hA t)).trans (congrArg _ (by
      funext y; unfold k0_pay16 accR; pointwise; rw [Finset.sum_range_zero, EReal.coe_zero])))
    (fun t h0 h1 => dw_B m c t h0 h1 _ (at_pts m c hA t)) n h hn

theorem dw_last : (dats m 0 c).arrAt 8 cfg0.N = accR A Blk.dw 32 := by
  refine (dats m 0 c).arrAt_eq_of_after_last 8 tLast (by decide +kernel) _ fun j => ?_
  blk_simp
  rw [after0_8, dw_C m c tLast (by decide) (by decide) _ (at_pts m c hA tLast)]
  show plus _ _ (outsAt0 m c 30 _).2.1 j = _
  rw [dw_at m c hA 30 (by decide) (by decide)]
  exact congrFun (plus_accR A _ tLast) j

theorem db_at (n : Nat) (h : n < cfg0.N) (hn : n < 31) : (outsAt0 m c n h).2.2.1 = accR A (fun B t l => hp (B.dsv t) l) (n + 1) :=
  acc_run A (fun B t l => hp (B.dsv t) l) (fun n h => (outsAt0 m c n h).2.2.1)
    (fun t h0 h1 => (db_A m c t h0 h1 _ (at_pts m c hA t)).trans (congrArg _ (by
      funext y; unfold k0_pay17 accR; pointwise; rw [Finset.sum_range_zero, EReal.coe_zero])))
    (fun t h0 h1 => db_B m c t h0 h1 _ (at_pts m c hA t)) n h hn

theorem db_last : (dats m 0 c).arrAt 9 cfg0.N = rowSums (accR A (fun B t l => hp (B.dsv t) l) 32) := by
  refine (dats m 0 c).arrAt_eq_of_after_last 9 tLast (by decide +kernel) _ fun j => ?_
  blk_simp
  rw [after0_9, db_C m c tLast (by decide) (by decide) _ (at_pts m c hA tLast)]
  show rowSums (plus _ _ (outsAt0 m c 30 _).2.2.1) j = _
  rw [db_at m c hA 30 (by decide) (by decide)]
  exact congrFun (congrArg rowSums (plus_accR A _ tLast)) j

theorem dlg_at (n : Nat) (h : n < cfg0.N) (hn : n < 31) : (outsAt0 m c n h).2.2.2.1 = accR A (fun B t l => hp (fun e => B.dvn t e * B.xhat t e) l) (n + 1) :=
  acc_run A (fun B t l => hp (fun e => B.dvn t e * B.xhat t e) l) (fun n h => (outsAt0 m c n h).2.2.2.1)
    (fun t h0 h1 => (dlg_A m c t h0 h1 _ (at_pts m c hA t)).trans (congrArg _ (by
      funext y; unfold k0_pay18 accR; pointwise; rw [Finset.sum_range_zero, EReal.coe_zero])))
    (fun t h0 h1 => dlg_B m c t h0 h1 _ (at_pts m c hA t)) n h hn

theorem dlg_last : (dats m 0 c).arrAt 10 cfg0.N = colSums (accR A (fun B t l => hp (fun e => B.dvn t e * B.xhat t e) l) 32) := by
  refine (dats m 0 c).arrAt_eq_of_after_last 10 tLast (by decide +kernel) _ fun j => ?_
  blk_simp
  rw [after0_10, dlg_C m c tLast (by decide) (by decide) _ (at_pts m c hA tLast)]
  show colSums (plus _ _ (outsAt0 m c 30 _).2.2.2.1) j = _
  rw [dlg_at m c hA 30 (by decide) (by decide)]
  exact congrFun (congrArg colSums (plus_accR A _ tLast)) j

theorem dlb_at (n : Nat) (h : n < cfg0.N) (hn : n < 31) : (outsAt0 m c n h).2.2.2.2 = accR A (fun B t l => hp (B.dvn t) l) (n + 1) :=
  acc_run A (fun B t l => hp (B.dvn t) l) (fun n h => (outsAt0 m c n h).2.2.2.2)
    (fun t h0 h1 => (dlb_A m c t h0 h1 _ (at_pts m c hA t)).trans (congrArg _ (by
      funext y; unfold k0_pay19 accR; pointwise; rw [Finset.sum_range_zero, EReal.coe_zero])))
    (fun t h0 h1 => dlb_B m c t h0 h1 _ (at_pts m c hA t)) n h hn

theorem dlb_last : (dats m 0 c).arrAt 11 cfg0.N = colSums (accR A (fun B t l => hp (B.dvn t) l) 32) := by
  refine (dats m 0 c).arrAt_eq_of_after_last 11 tLast (by decide +kernel) _ fun j => ?_
  blk_simp
  rw [after0_11, dlb_C m c tLast (by decide) (by decide) _ (at_pts m c hA tLast)]
  show colSums (plus _ _ (outsAt0 m c 30 _).2.2.2.2) j = _
  rw [dlb_at m c hA 30 (by decide) (by decide)]
  exact congrFun (congrArg colSums (plus_accR A _ tLast)) j

/-- The gradient of the mixer's input at every grid point. -/
theorem dz_at (t : Fin cfg0.N) : (outsAt0 m c t.val t.isLt).1 = dzG (pts A t) := by
  by_cases h0 : t.val % 32 = 0
  · exact dz_A m c t h0 (by omega) _ (at_pts m c hA t)
  · by_cases h1 : t.val % 32 = 31
    · exact dz_C m c t h0 h1 _ (at_pts m c hA t)
    · exact dz_B m c t h0 h1 _ (at_pts m c hA t)

/-- The gradient of the mixer's input, over the whole array. -/
def dzR (A : Args) : Vec Ideal S8192x512 .bf16 := fun y =>
  (((A.blk ⟨(y 0).val / 128, by have : (y 0).val < 8192 := (y 0).isLt; omega⟩ ⟨(y 1).val / 128, by have : (y 1).val < 512 := (y 1).isLt; omega⟩).dz
    ⟨(y 0).val % 128, by omega⟩ ⟨(y 1).val % 128, by omega⟩ : ℝ) : EReal)

theorem dz_all : (dats m 0 c).arrAt 7 cfg0.N = dzR A := by
  refine (dats m 0 c).arrAt_eq_of_covers 7 _ (by decide +kernel) fun t hf y => ?_
  blk_simp
  rw [after0_7, dz_at m c hA t]
  idx_vars y
  have ht : t.val < 32 := t.isLt
  have e : ((View.whole main_v9_0).slice (win0_7.rect t)).emb (ix2 y0 y1) = ix2 (⟨256 * t.val + y0.val, by omega⟩ : Fin 8192) y1 := by
    blk_ext [idx0 t]
  rw [e]
  unfold dzG dzR pts
  refine congrArg (fun x : ℝ => (x : EReal)) ?_
  have q : (256 * t.val + y0.val) / 128 = 2 * t.val + y0.val / 128 := by omega
  have r : (256 * t.val + y0.val) % 128 = y0.val % 128 := by omega
  show (A.blk ⟨2 * t.val + y0.val / 128, _⟩ _).dz _ _ = (A.blk ⟨(256 * t.val + y0.val) / 128, _⟩ _).dz ⟨(256 * t.val + y0.val) % 128, _⟩ _
  simp only [q, r]
  rfl

end Cert.KernelIdeal.Result
-- ==== Proof.Sums.lean ====
/- Sums over several axes at once, read as one sum over the coordinates summed over. -/
module

public import proofs.«01_k».proof.Proof.Gen.ReferenceIdeal.Read
public import Idealize.ShloMosaic.Lib.Pointwise

@[expose] public section

set_option maxRecDepth 16384

noncomputable section

namespace Cert.ReferenceIdeal.Sums

open Cert.ReferenceIdeal Cert.ReferenceIdeal.Gen Idealize.ShloMosaic Idealize.ShloMosaic.TcCoe

/-- A sum over several axes, where `f` lists the elements summed at `j`. -/
theorem reduce_of {s t : Shape} {axes : List (Fin s.rank)} {κ : Type} [Fintype κ] (h : s.ReducesTo axes t) (x : s.Idx → EReal) (init : EReal)
    (j : t.Idx) (f : κ → s.Idx) (p : s.Idx → κ) (hf : ∀ k, h.drop (f k) = j) (hp : ∀ k, p (f k) = k) (hs : ∀ i, h.drop i = j → f (p i) = i) :
    Ideal.hostReduceAdd h x init j = init + ∑ k, x (f k) := by
  unfold Ideal.hostReduceAdd
  refine congrArg (init + ·) (Finset.sum_bij' (fun i _ => p i) (fun k _ => f k) (fun i hi => Finset.mem_univ _)
    (fun k _ => Finset.mem_filter.mpr ⟨Finset.mem_univ _, hf k⟩) (fun i hi => hs i (Finset.mem_filter.mp hi).2) (fun k _ => hp k)
    fun i hi => by rw [hs i (Finset.mem_filter.mp hi).2])

/-- A product contracted over several axes, where `e` lists the contraction's coordinates. -/
theorem matmul_of {sl sr so : Shape} {κ : Type} [Fintype κ] (d : DotDims sl sr so) (x : sl.Idx → EReal) (y : sr.Idx → EReal) (j : so.Idx)
    (e : κ ≃ d.contr.Idx) (L : κ → sl.Idx) (R : κ → sr.Idx) (hL : ∀ k, d.lhsIdx j (e k) = L k) (hR : ∀ k, d.rhsIdx j (e k) = R k) :
    Ideal.matmul d x y (fun _ => 0) j = ∑ k, x (L k) * y (R k) := by
  unfold Ideal.matmul
  rw [zero_add, ← Equiv.sum_comp e]
  exact Finset.sum_congr rfl fun k _ => by rw [hL, hR]

/-- The sum over the chunks and the lanes. -/
theorem sum_rows_lanes (x : S1x64x128x4x64.Idx → EReal) (init : EReal) (t : Fin 128) (h : Fin 4) (i : Fin 1) :
    Ideal.hostReduceAdd reducesTo_S1x64x128x4x64_S1x128x4_d1_4 x init (ix3 i t h) = init + ∑ k : Fin 64 × Fin 64, x (ix5 0 k.1 t h k.2) := by
  refine reduce_of _ x init _ (fun k : Fin 64 × Fin 64 => ix5 0 k.1 t h k.2) (fun i => (i 1, i 4)) (fun k => ?_) (fun k => rfl) (fun a ha => ?_)
  · funext b
    fin_cases b <;> first | rfl | exact Subsingleton.elim (α := Fin 1) _ _
  · have e2 : a 2 = t := congrFun ha 1
    have e3 : a 3 = h := congrFun ha 2
    funext b
    fin_cases b <;> first | rfl | exact Subsingleton.elim (α := Fin 1) _ _ | exact e2.symm | exact e3.symm

/-- The sum over the chunks and their rows. -/
theorem sum_chunks_rows (x : S1x64x128x4x64.Idx → EReal) (init : EReal) (h : Fin 4) (e : Fin 64) (i : Fin 1) :
    Ideal.hostReduceAdd reducesTo_S1x64x128x4x64_S1x4x64_d1_2 x init (ix3 i h e) = init + ∑ k : Fin 64 × Fin 128, x (ix5 0 k.1 k.2 h e) := by
  refine reduce_of _ x init _ (fun k : Fin 64 × Fin 128 => ix5 0 k.1 k.2 h e) (fun i => (i 1, i 2)) (fun k => ?_) (fun k => rfl) (fun a ha => ?_)
  · funext b
    fin_cases b <;> first | rfl | exact Subsingleton.elim (α := Fin 1) _ _
  · have e3 : a 3 = h := congrFun ha 1
    have e4 : a 4 = e := congrFun ha 2
    funext b
    fin_cases b <;> first | rfl | exact Subsingleton.elim (α := Fin 1) _ _ | exact e3.symm | exact e4.symm

/-- A sum over axes of length one. -/
theorem sum_none_rows (x : S1x1x128x4x1.Idx → EReal) (init : EReal) (t : Fin 128) (h : Fin 4) :
    Ideal.hostReduceAdd reducesTo_S1x1x128x4x1_S128x4_d0_1_4 x init (ix2 t h) = init + x (ix5 0 0 t h 0) := by
  refine (reduce_of _ x init _ (fun k : Unit => ix5 0 0 t h 0) (fun i => ()) (fun k => ?_) (fun k => rfl) (fun a ha => ?_)).trans (by rw [Fintype.sum_unique])
  · funext b
    fin_cases b <;> first | rfl | exact Subsingleton.elim (α := Fin 1) _ _
  · have e2 : a 2 = t := congrFun ha 0
    have e3 : a 3 = h := congrFun ha 1
    funext b
    fin_cases b <;> first | rfl | exact Subsingleton.elim (α := Fin 1) _ _ | exact e2.symm | exact e3.symm

/-- A sum over axes of length one. -/
theorem sum_none_lanes (x : S1x1x1x4x64.Idx → EReal) (init : EReal) (h : Fin 4) (e : Fin 64) :
    Ideal.hostReduceAdd reducesTo_S1x1x1x4x64_S4x64_d0_1_2 x init (ix2 h e) = init + x (ix5 0 0 0 h e) := by
  refine (reduce_of _ x init _ (fun k : Unit => ix5 0 0 0 h e) (fun i => ()) (fun k => ?_) (fun k => rfl) (fun a ha => ?_)).trans (by rw [Fintype.sum_unique])
  · funext b
    fin_cases b <;> first | rfl | exact Subsingleton.elim (α := Fin 1) _ _
  · have e3 : a 3 = h := congrFun ha 0
    have e4 : a 4 = e := congrFun ha 1
    funext b
    fin_cases b <;> first | rfl | exact Subsingleton.elim (α := Fin 1) _ _ | exact e3.symm | exact e4.symm

/-- A sum over axes of length one. -/
theorem sum_none_chunks (x : S1x64x128x4x1.Idx → EReal) (init : EReal) (n : Fin 64) (t : Fin 128) (h : Fin 4) :
    Ideal.hostReduceAdd reducesTo_S1x64x128x4x1_S64x128x4_d0_4 x init (ix3 n t h) = init + x (ix5 0 n t h 0) := by
  refine (reduce_of _ x init _ (fun k : Unit => ix5 0 n t h 0) (fun i => ()) (fun k => ?_) (fun k => rfl) (fun a ha => ?_)).trans (by rw [Fintype.sum_unique])
  · funext b
    fin_cases b <;> first | rfl | exact Subsingleton.elim (α := Fin 1) _ _
  · have e1 : a 1 = n := congrFun ha 0
    have e2 : a 2 = t := congrFun ha 1
    have e3 : a 3 = h := congrFun ha 2
    funext b
    fin_cases b <;> first | rfl | exact Subsingleton.elim (α := Fin 1) _ _ | exact e1.symm | exact e2.symm | exact e3.symm

/-- The product's contraction index: a chunk and a lane. -/
def pairs : Fin 64 × Fin 64 ≃ dot_S4x1x64x64x128_S1x64x128x4x64_S4x128x128_123_014_4_2_0_3.contr.Idx where
  toFun k := fun (a : Fin 3) => match a with
    | ⟨0, _⟩ => (0 : Fin 1)
    | ⟨1, _⟩ => k.1
    | ⟨2, _⟩ => k.2
  invFun q := (q (1 : Fin 3), q (2 : Fin 3))
  left_inv k := rfl
  right_inv q := funext fun (a : Fin 3) => match a with
    | ⟨0, _⟩ => Subsingleton.elim (α := Fin 1) _ _
    | ⟨1, _⟩ => rfl
    | ⟨2, _⟩ => rfl

/-- The product contracted over the chunks and the lanes. -/
theorem prod_chunks (x : S4x1x64x64x128.Idx → EReal) (y : S1x64x128x4x64.Idx → EReal) (h : Fin 4) (t u : Fin 128) :
    Ideal.matmul dot_S4x1x64x64x128_S1x64x128x4x64_S4x128x128_123_014_4_2_0_3 x y (fun _ => 0) (ix3 h t u) =
      ∑ k : Fin 64 × Fin 64, x (ix5 h 0 k.1 k.2 t) * y (ix5 0 k.1 u h k.2) := by
  refine matmul_of _ x y _ pairs (fun k => ix5 h 0 k.1 k.2 t) (fun k => ix5 0 k.1 u h k.2) (fun k => ?_) (fun k => ?_)
  · funext b
    fin_cases b <;> first | rfl | exact Subsingleton.elim (α := Fin 1) _ _
  · funext b
    fin_cases b <;> first | rfl | exact Subsingleton.elim (α := Fin 1) _ _

end Cert.ReferenceIdeal.Sums
-- ==== Proof.Ref.lean ====
/- What the reference computes, read one operation at a time over the real numbers. -/
module

public import proofs.«01_k».proof.Proof.Gen.ReferenceIdeal.Read
public import proofs.«01_k».proof.Proof.Real
public import proofs.«01_k».proof.Proof.Sums
public import Idealize.ShloMosaic.Lib.Pipeline.ValueKit
public import Idealize.ShloMosaic.Lib.Pointwise
public import Idealize.ShloMosaic.Lib.WordCmp

@[expose] public section

set_option maxRecDepth 16384

noncomputable section

namespace Cert.ReferenceIdeal.Ref

open Cert.ReferenceIdeal Cert.ReferenceIdeal.Gen Cert.ReferenceIdeal.Read Idealize.ShloMosaic Idealize.ShloMosaic.TcCoe Idealize.SL.Sem
open Cert.Gmlp Cert.Consts Cert.ReferenceIdeal.Sums

/-- The arguments hold the real numbers of `A`. -/
structure Holds (A : Args) (z : Vec Ideal S8192x1536 .f32) (d : Vec Ideal S8192x256 .f32) (g b : Vec Ideal S4x64 .f32)
    (w : Vec Ideal S4x128x128 .f32) (s : Vec Ideal S4x128 .f32) : Prop where
  z : ∀ r l, z (ix2 r l) = (A.z r l : EReal)
  d : ∀ r l, d (ix2 r l) = (A.d r l : EReal)
  g : ∀ h l, g (ix2 h l) = (A.g h l : EReal)
  b : ∀ h l, b (ix2 h l) = (A.b h l : EReal)
  w : ∀ h t u, w (ix3 h t u) = (A.w h t u : EReal)
  s : ∀ h t, s (ix2 h t) = (A.s h t : EReal)

variable {A : Args} {z : Vec Ideal S8192x1536 .f32} {d : Vec Ideal S8192x256 .f32} {g b : Vec Ideal S4x64 .f32}
  {w : Vec Ideal S4x128x128 .f32} {s : Vec Ideal S4x128 .f32} (hA : Holds A z d g b w s)
include hA

/-- A lane of the mixer's pre-activation among all columns. -/
def wide (l : Fin 512) : Fin 1536 := ⟨l.val, by omega⟩

theorem r1 (r : Fin 8192) (l : Fin 512) : val_main_v1 z (ix3 0 r l) = (A.z r (wide l) : EReal) := by
  unfold val_main_v1 val_main_v0
  pointwise
  exact hA.z r (wide l)

omit hA in
theorem div_coe' (a : ℝ) {b : ℝ} (hb : b ≠ 0) : Ideal.div (a : EReal) (b : EReal) = ((a / b : ℝ) : EReal) := by
  rw [Ideal.div_coe hb, ← EReal.coe_mul, mul_one_div]

omit hA in
/-- The cubic coefficient of the GELU, the quotient of two whole numbers. -/
theorem coef (i : S_.Idx) : (val_main_v2 (F := Ideal) i) = (kap : EReal) := by
  unfold val_main_v2 val_main_cst val_main_cst_0
  pointwise
  rw [whole, million, div_coe' _ (by norm_num)]
  refine congrArg _ ?_
  unfold kap
  norm_num

theorem r13 (r : Fin 8192) (l : Fin 512) : val_main_v13 z (ix3 0 r l) = (th (A.z r (wide l)) : EReal) := by
  unfold val_main_v13 val_main_v12 val_main_v11 val_main_v10 val_main_v9 val_main_v8 val_main_v4 val_main_v3 val_main_cst_2
  pointwise
  rw [r1 hA, coef, gelu_scale]
  simp only [← EReal.coe_mul, ← EReal.coe_add, Ideal.tanh_coe]
  rfl

theorem r22 (r : Fin 8192) (l : Fin 512) : val_main_v22 z (ix3 0 r l) = ((1 / 2 * (1 + th (A.z r (wide l))) : ℝ) : EReal) := by
  unfold val_main_v22 val_main_v21 val_main_v20 val_main_v19 val_main_cst_5 val_main_cst_6
  pointwise
  rw [r13 hA, half]
  simp only [one, ← EReal.coe_one, ← EReal.coe_mul, ← EReal.coe_add]

omit hA in
theorem col_eq (h : Fin 4) (l : Fin 128) (i) : wide ⟨h.val * 128 + l.val, i⟩ = col h l := Fin.ext (show h.val * 128 + l.val = 128 * h.val + l.val by omega)
omit hA in
theorem row_eq (n : Fin 64) (t : Fin 128) (i) : (⟨n.val * 128 + t.val, i⟩ : Fin 8192) = row n t := Fin.ext (show n.val * 128 + t.val = 128 * n.val + t.val by omega)

theorem r24 (n : Fin 64) (t : Fin 128) (h : Fin 4) (l : Fin 128) : val_main_v24 z (ix5 0 n t h l) = (gelu ((A.blk n h).x t l) : EReal) := by
  unfold val_main_v24 val_main_v23
  pointwise
  rw [r1 hA, r22 hA, ← EReal.coe_mul, col_eq, row_eq]
  refine congrArg _ ?_
  unfold gelu
  show _ = 1 / 2 * A.z (row n t) (col h l) * (1 + th (A.z (row n t) (col h l)))
  ring

theorem r25 (n : Fin 64) (t : Fin 128) (h : Fin 4) (e : Fin 64) : val_main_v25 z (ix5 0 n t h e) = ((A.blk n h).u t e : EReal) := by
  unfold val_main_v25
  pointwise
  exact r24 hA n t h (lo e)

theorem r26 (n : Fin 64) (t : Fin 128) (h : Fin 4) (e : Fin 64) : val_main_v26 z (ix5 0 n t h e) = ((A.blk n h).v t e : EReal) := by
  unfold val_main_v26
  pointwise
  exact r24 hA n t h (hi e)

theorem r30 (n : Fin 64) (t : Fin 128) (h : Fin 4) : val_main_v30 z (ix5 0 n t h 0) = ((A.blk n h).mean t : EReal) := by
  unfold val_main_v30 val_main_v29 val_main_v28 val_main_v27 val_main_cst_7 val_main_cst_8
  pointwise
  simp only [r26 hA]
  rw [coe_sum, sixtyFour, div_coe' _ (by norm_num), div_eq_mul_one_div]
  rfl

theorem r32 (n : Fin 64) (t : Fin 128) (h : Fin 4) (e : Fin 64) : val_main_v32 z (ix5 0 n t h e) = ((A.blk n h).xc t e : EReal) := by
  unfold val_main_v32 val_main_v31
  pointwise
  rw [r26 hA, r30 hA, ← EReal.coe_sub]
  rfl

theorem r39 (n : Fin 64) (t : Fin 128) (h : Fin 4) : val_main_v39 z (ix5 0 n t h 0) = ((A.blk n h).var t + eps : ℝ) := by
  unfold val_main_v39 val_main_v38 val_main_v37 val_main_v36 val_main_v35 val_main_v34 val_main_v33 val_main_cst_9 val_main_cst_10 val_main_cst_11
  pointwise
  simp only [r32 hA, ← EReal.coe_mul]
  rw [coe_sum, sixtyFour, ln_eps, div_coe' _ (by norm_num), div_eq_mul_one_div, ← EReal.coe_add]
  rfl

theorem r40 (n : Fin 64) (t : Fin 128) (h : Fin 4) : val_main_v40 z (ix5 0 n t h 0) = ((A.blk n h).rstd t : EReal) := by
  unfold val_main_v40
  pointwise
  rw [r39 hA, Ideal.rsqrt_coe, if_neg (not_lt.mpr ((A.blk n h).var_eps_pos t).le), if_neg ((A.blk n h).var_eps_pos t).ne']
  rfl

theorem r43 (n : Fin 64) (t : Fin 128) (h : Fin 4) : val_main_v43 z (ix5 0 n t h 0) = ((-1 / 2 * ((A.blk n h).rstd t / ((A.blk n h).var t + eps)) : ℝ) : EReal) := by
  unfold val_main_v43 val_main_v42 val_main_v41 val_main_cst_12
  pointwise
  rw [r40 hA, r39 hA, neg_half, div_coe' _ ((A.blk n h).var_eps_pos t).ne', ← EReal.coe_mul]

theorem r45 (n : Fin 64) (t : Fin 128) (h : Fin 4) (e : Fin 64) : val_main_v45 z (ix5 0 n t h e) = ((A.blk n h).xhat t e : EReal) := by
  unfold val_main_v45 val_main_v44
  pointwise
  rw [r32 hA, r40 hA, ← EReal.coe_mul]
  rfl

theorem r51 (n : Fin 64) (t : Fin 128) (h : Fin 4) (e : Fin 64) : val_main_v51 z g b (ix5 0 n t h e) = ((A.blk n h).vn t e : EReal) := by
  unfold val_main_v51 val_main_v50 val_main_v49 val_main_v48 val_main_v47 val_main_v46
  pointwise
  rw [r45 hA, hA.g, hA.b, ← EReal.coe_mul, ← EReal.coe_add]
  rfl

omit hA in
/-- The mask keeps the lower triangle. -/
theorem mask (h : Fin 4) (t u : Fin 128) : val_main_v54_1 (F := Ideal) (ix3 h t u) = BitVec.ofBool (decide (u ≤ t)) := by
  unfold val_main_v54_1 val_main_v53 val_main_v52 val_main_call0_v5 val_main_call0_v4 val_main_call0_v3 val_main_call0_v2 val_main_call0_v1
    val_main_call0_v0 val_main_call0_c val_main_call0_c_0 val_main_c
  pointwise
  rw [show IntOp.addi (BitVec.ofNat 32 t.val) 0#32 = BitVec.ofNat 32 t.val from BitVec.add_zero _,
    WordCmp.cmpi_sge_ofNat (by have := t.isLt; norm_num; omega) (by have := u.isLt; norm_num; omega), WordCmp.select_ofBool]
  by_cases h : u ≤ t
  · rw [decide_eq_true h, decide_eq_true (show u.val ≤ t.val from h)]
    rfl
  · rw [decide_eq_false h, decide_eq_false (show ¬u.val ≤ t.val from h)]
    rfl

theorem r54 (h : Fin 4) (n : Fin 64) (t u : Fin 128) : val_main_v54_0 w (ix3 h t u) = ((A.blk n h).wt t u : EReal) := by
  unfold val_main_v54_0 val_main_call1_v2 val_main_call1_v0 val_main_cst_13
  pointwise
  rw [mask, WordCmp.select_ofBool, hA.w]
  simp only [decide_eq_true_eq]
  unfold Blk.wt
  split
  · rfl
  · exact zero

theorem r60 (n : Fin 64) (t : Fin 128) (h : Fin 4) (e : Fin 64) : val_main_v60 z g b w s (ix5 0 n t h e) = ((A.blk n h).sv t e : EReal) := by
  unfold val_main_v60 val_main_v59 val_main_v58 val_main_v57 val_main_v56 val_main_v55
  pointwise
  rw [hA.s]
  simp only [r51 hA, r54 hA h n, ← EReal.coe_mul]
  rw [coe_sum, ← EReal.coe_add]
  simp only [mul_comm ((A.blk n h).vn _ _)]
  rfl

theorem r65 (n : Fin 64) (t : Fin 128) (h : Fin 4) (e : Fin 64) : val_main_v65 d (ix5 0 n t h e) = ((A.blk n h).d t e : EReal) := by
  unfold val_main_v65 val_main_v64
  pointwise
  refine Eq.trans (congrArg d ?_) (hA.d (row n t) (lane h e))
  exact congrArg₂ ix2 (row_eq n t _) (Fin.ext (show h.val * 64 + e.val = 64 * h.val + e.val by omega))

theorem r66 (n : Fin 64) (t : Fin 128) (h : Fin 4) (e : Fin 64) : val_main_v66 z d (ix5 0 n t h e) = ((A.blk n h).dsv t e : EReal) := by
  unfold val_main_v66
  pointwise
  rw [r25 hA, r65 hA, ← EReal.coe_mul, mul_comm]
  rfl

theorem r67 (n : Fin 64) (t : Fin 128) (h : Fin 4) (e : Fin 64) : val_main_v67 z d g b w s (ix5 0 n t h e) = ((A.blk n h).du t e : EReal) := by
  unfold val_main_v67
  pointwise
  rw [r60 hA, r65 hA, ← EReal.coe_mul]
  rfl

/-- The gradient of the mixing's bias. -/
theorem r71 (h : Fin 4) (t : Fin 128) : val_main_v71 z d (ix2 h t) = ((∑ k : Fin 64 × Fin 64, (A.blk k.1 h).dsv t k.2 : ℝ) : EReal) := by
  unfold val_main_v71 val_main_v70 val_main_v69 val_main_v68 val_main_cst_14 val_main_cst_15
  pointwise
  rw [sum_none_rows]
  pointwise
  rw [sum_rows_lanes, zero_add]
  simp only [r66 hA]
  rw [coe_sum]

/-- The gradient of the mixing matrix. -/
theorem r76 (h : Fin 4) (t u : Fin 128) : val_main_v76 z d g b (ix3 h t u) = ((∑ n, (A.blk n h).dw t u : ℝ) : EReal) := by
  unfold val_main_v76 val_main_v73 val_main_v72 val_main_call2_v0 val_main_call2_cst
  pointwise
  rw [mask, WordCmp.select_ofBool, prod_chunks]
  pointwise
  simp only [r66 hA, r51 hA, ← EReal.coe_mul, decide_eq_true_eq]
  rw [coe_sum, Fintype.sum_prod_type]
  unfold Blk.dw
  split
  · rfl
  · rw [Finset.sum_const_zero]
    exact EReal.coe_zero.symm

theorem r75 (n : Fin 64) (t : Fin 128) (h : Fin 4) (e : Fin 64) : val_main_v75 z d w (ix5 0 n t h e) = ((A.blk n h).dvn t e : EReal) := by
  unfold val_main_v75 val_main_v74 val_main_v72
  pointwise
  simp only [r66 hA, r54 hA h n, ← EReal.coe_mul]
  rw [coe_sum]
  simp only [mul_comm ((A.blk n h).dsv _ _)]
  rfl

/-- The gradient of the norm's bias. -/
theorem r79 (h : Fin 4) (e : Fin 64) : val_main_v79 z d w (ix2 h e) = ((∑ k : Fin 64 × Fin 128, (A.blk k.1 h).dvn k.2 e : ℝ) : EReal) := by
  unfold val_main_v79 val_main_v78 val_main_v77 val_main_cst_16 val_main_cst_17
  pointwise
  rw [sum_none_lanes]
  pointwise
  rw [sum_chunks_rows, zero_add]
  simp only [r75 hA]
  rw [coe_sum]

/-- The gradient of the norm's gain. -/
theorem r85 (h : Fin 4) (e : Fin 64) : val_main_v85 z d w (ix2 h e) = ((∑ k : Fin 64 × Fin 128, (A.blk k.1 h).dvn k.2 e * (A.blk k.1 h).xhat k.2 e : ℝ) : EReal) := by
  unfold val_main_v85 val_main_v82 val_main_v81 val_main_v80 val_main_cst_18 val_main_cst_19
  pointwise
  rw [sum_none_lanes]
  pointwise
  rw [sum_chunks_rows, zero_add]
  pointwise
  simp only [r75 hA, r45 hA, ← EReal.coe_mul]
  rw [coe_sum]
  simp only [mul_comm ((A.blk _ h).xhat _ _)]

theorem r84 (n : Fin 64) (t : Fin 128) (h : Fin 4) (e : Fin 64) : val_main_v84 z d g w (ix5 0 n t h e) = ((A.blk n h).dx t e : EReal) := by
  unfold val_main_v84 val_main_v83 val_main_v46
  pointwise
  rw [r75 hA, hA.g, ← EReal.coe_mul]
  rfl

theorem r96 (n : Fin 64) (t : Fin 128) (h : Fin 4) (e : Fin 64) : val_main_v96 z d g w (ix5 0 n t h e) = ((A.blk n h).vpath t : EReal) := by
  unfold val_main_v96 val_main_v95 val_main_v94 val_main_cst_22
  pointwise
  rw [sum_none_chunks]
  unfold val_main_v93 val_main_v92 val_main_v91 val_main_v88 val_main_v87 val_main_v86 val_main_cst_20 val_main_cst_21
  pointwise
  simp only [r84 hA, r32 hA, ← EReal.coe_mul]
  rw [r43 hA, coe_sum, sixtyFour, ← EReal.coe_mul, div_coe' _ (by norm_num)]
  rfl

theorem r100 (n : Fin 64) (t : Fin 128) (h : Fin 4) (e : Fin 64) : val_main_v100 z d g w (ix5 0 n t h e) = ((A.blk n h).dxc t e : EReal) := by
  unfold val_main_v100 val_main_v99 val_main_v98 val_main_v97 val_main_v90 val_main_v89
  pointwise
  rw [r84 hA, r40 hA, r96 hA, r32 hA]
  simp only [← EReal.coe_mul, ← EReal.coe_add]
  rw [mul_comm ((A.blk n h).vpath t)]
  rfl

theorem r109 (n : Fin 64) (t : Fin 128) (h : Fin 4) (e : Fin 64) : val_main_v109 z d g w (ix5 0 n t h e) = ((A.blk n h).dv t e : EReal) := by
  unfold val_main_v109 val_main_v108 val_main_v107 val_main_v106 val_main_cst_25
  pointwise
  rw [sum_none_chunks]
  unfold val_main_v105 val_main_v104 val_main_v103 val_main_v102 val_main_v101 val_main_cst_23 val_main_cst_24
  pointwise
  simp only [r100 hA, ← EReal.coe_neg]
  rw [coe_sum, sixtyFour, div_coe' _ (by norm_num), ← EReal.coe_add, Blk.dv_eq]

theorem r110 (n : Fin 64) (t : Fin 128) (h : Fin 4) (l : Fin 128) : val_main_v110 z d g b w s (ix5 0 n t h l) = ((lp ((A.blk n h).du t) l + hp ((A.blk n h).dv t) l : ℝ) : EReal) := by
  unfold val_main_v110
  pointwise
  rcases lane_cases l with ⟨e, rfl⟩ | ⟨e, rfl⟩
  · rw [dif_pos (show (lo e).val < 64 from e.isLt), lp_lo, hp_lo, add_zero]
    exact r67 hA n t h e
  · rw [dif_neg (show ¬(hi e).val < 64 by show ¬64 + e.val < 64; omega), lp_hi, hp_hi, zero_add (M := ℝ)]
    refine Eq.trans (congrArg (fun x => val_main_v109 z d g w (ix5 0 n t h x)) (Fin.ext (show 64 + e.val - 64 = e.val by omega))) (r109 hA n t h e)

omit hA in
theorem ix5_ext {n0 n1 n2 n3 n4 : Nat} {a a' : Fin n0} {b b' : Fin n1} {c c' : Fin n2} {e e' : Fin n3} {f f' : Fin n4} (ha : a = a') (hb : b = b')
    (hc : c = c') (he : e = e') (hf : f = f') : ix5 a b c e f = ix5 a' b' c' e' f' := by
  subst_vars
  rfl

theorem r123 (n : Fin 64) (t : Fin 128) (h : Fin 4) (l : Fin 128) (q : Fin 512) (hq : q.val = 128 * h.val + l.val) :
    val_main_v123 z d g b w s (ix3 0 (row n t) q) = ((A.blk n h).dz t l : EReal) := by
  have e111 : val_main_v111 z d g b w s (ix3 0 (row n t) q) = ((lp ((A.blk n h).du t) l + hp ((A.blk n h).dv t) l : ℝ) : EReal) := by
    unfold val_main_v111
    pointwise
    refine Eq.trans (congrArg (val_main_v110 z d g b w s) ?_) (r110 hA n t h l)
    have i1 := t.isLt
    have i2 := l.isLt
    refine ix5_ext rfl (Fin.ext ?_) (Fin.ext ?_) (Fin.ext ?_) (Fin.ext ?_)
    · show (128 * n.val + t.val) / 128 = n.val
      omega
    · show (128 * n.val + t.val) % 128 = t.val
      omega
    · show q.val / 128 = h.val
      omega
    · show q.val % 128 = l.val
      omega
  have ex : A.z (row n t) (wide q) = (A.blk n h).x t l := congrArg (A.z (row n t)) (Fin.ext hq)
  unfold val_main_v123 val_main_v122 val_main_v121 val_main_v120 val_main_v119 val_main_v118 val_main_v117 val_main_v116 val_main_v115
    val_main_v114 val_main_v113 val_main_v112 val_main_v18 val_main_v17 val_main_v16 val_main_v15 val_main_v14 val_main_v7 val_main_v6 val_main_v5
    val_main_cst_27 val_main_cst_26 val_main_cst_4 val_main_cst_3 val_main_cst_1
  pointwise
  rw [e111, r22 hA, r13 hA, r1 hA, coef, gelu_scale, half, three, ex]
  simp only [one, ← EReal.coe_one, ← EReal.coe_mul, ← EReal.coe_add, ← EReal.coe_sub]
  exact congrArg _ (gelu'_eq _ _)

/-- The gradient of the mixer's input. -/
theorem r127 (n : Fin 64) (t : Fin 128) (h : Fin 4) (l : Fin 128) (q : Fin 512) (hq : q.val = 128 * h.val + l.val) :
    val_main_v127 z d g b w s (ix2 (row n t) q) = ((A.blk n h).dz t l : EReal) := by
  unfold val_main_v127 val_main_v126 val_main_v125 val_main_v124 val_main_cst_28
  pointwise
  rw [Fin.sum_univ_one]
  exact r123 hA n t h l q hq

/-- The gradient of the mixing's bias, on every lane. -/
theorem r129 (h : Fin 4) (t l : Fin 128) : val_main_v129 z d (ix3 h t l) = ((∑ k : Fin 64 × Fin 64, (A.blk k.1 h).dsv t k.2 : ℝ) : EReal) := by
  unfold val_main_v129 val_main_v128
  pointwise
  exact r71 hA h t

/-- The gradient of the norm's gain, on the gate's lanes and in every row. -/
theorem r133 (h : Fin 4) (t l : Fin 128) : val_main_v133 z d w (ix3 h t l) =
    (hp (fun e => ∑ k : Fin 64 × Fin 128, (A.blk k.1 h).dvn k.2 e * (A.blk k.1 h).xhat k.2 e) l : EReal) := by
  unfold val_main_v133 val_main_v132 val_main_v131 val_main_v130 val_main_cst_30
  pointwise
  rcases lane_cases l with ⟨e, rfl⟩ | ⟨e, rfl⟩
  · rw [dif_pos (show (lo e).val < 64 from e.isLt), hp_lo]
    exact EReal.coe_zero.symm
  · rw [dif_neg (show ¬(hi e).val < 64 by show ¬64 + e.val < 64; omega), hp_hi]
    refine Eq.trans (congrArg (fun x => val_main_v85 z d w (ix2 h x)) (Fin.ext (show 64 + e.val - 64 = e.val by omega))) (r85 hA h e)

/-- The gradient of the norm's bias, on the gate's lanes and in every row. -/
theorem r137 (h : Fin 4) (t l : Fin 128) : val_main_v137 z d w (ix3 h t l) =
    (hp (fun e => ∑ k : Fin 64 × Fin 128, (A.blk k.1 h).dvn k.2 e) l : EReal) := by
  unfold val_main_v137 val_main_v136 val_main_v135 val_main_v134 val_main_cst_31
  pointwise
  rcases lane_cases l with ⟨e, rfl⟩ | ⟨e, rfl⟩
  · rw [dif_pos (show (lo e).val < 64 from e.isLt), hp_lo]
    exact EReal.coe_zero.symm
  · rw [dif_neg (show ¬(hi e).val < 64 by show ¬64 + e.val < 64; omega), hp_hi]
    refine Eq.trans (congrArg (fun x => val_main_v79 z d w (ix2 h x)) (Fin.ext (show 64 + e.val - 64 = e.val by omega))) (r79 hA h e)

end Cert.ReferenceIdeal.Ref
-- ==== Proof.Finite.lean ====
/- The precondition, read: every entry of every argument is a real number. -/
module

public import proofs.«01_k».proof.Defs
public import proofs.«01_k».proof.Proof.Real
public import proofs.«01_k».proof.Proof.Result
public import proofs.«01_k».proof.Proof.Ref
public import Idealize.ShloMosaic.Lib.Pointwise

@[expose] public section

set_option maxRecDepth 16384

noncomputable section

namespace Cert.Finite

open Idealize.ShloMosaic Idealize.ShloMosaic.TcCoe Idealize.SL.Sem
open Cert.Gmlp

theorem infinity : Ideal.ofBits .f32 0x7F800000#32 = ⊤ := by
  simp [Ideal.ofBits, Ideal.ieee]

/-- An extended real whose absolute value is below infinity is a real number. -/
theorem real_of_abs {x : EReal} (h : max x (-x) < ⊤) : ((x.toReal : ℝ) : EReal) = x :=
  EReal.coe_toReal (fun e => by simp [e] at h) (fun e => by simp [e] at h)

theorem entry {s : Shape} (x : FVec Ideal s .f32) (bc : (⟨0, ![]⟩ : Shape).BroadcastsInDim s (![] : Fin 0 → Fin s.rank))
    (h : cmpf .olt (Host.absf x) (broadcastInDim s ![] bc (constant ⟨0, ![]⟩ .f32 0x7F800000#32)) = fun _ => 1#1) (i : s.Idx) :
    x i = ((x i : EReal).toReal : EReal) := by
  have e := congrFun h i
  pointwise at e
  rw [infinity] at e
  by_cases hx : (FloatOps.absf (x i) : EReal) < ⊤
  · exact (real_of_abs hx).symm
  · exact absurd e (by simp [hx])

/-- The arguments of a device as real numbers. -/
def args (z : Cert.KernelIdeal.S8192x1536.Idx → EReal) (d : Cert.KernelIdeal.S8192x256.Idx → EReal)
    (g b : Cert.KernelIdeal.S4x64.Idx → EReal) (w : Cert.KernelIdeal.S4x128x128.Idx → EReal) (s : Cert.KernelIdeal.S4x128.Idx → EReal) : Args where
  z r l := (z (ix2 r l)).toReal
  d r l := (d (ix2 r l)).toReal
  g h e := (g (ix2 h e)).toReal
  b h e := (b (ix2 h e)).toReal
  w h t u := (w (ix3 h t u)).toReal
  s h t := (s (ix2 h t)).toReal

/-- Under the precondition the device's arguments are those real numbers. -/
theorem holds [Cert.Pre_finite.Facts] (z : FVec Ideal Cert.KernelIdeal.S8192x1536 .f32) (d : FVec Ideal Cert.KernelIdeal.S8192x256 .f32)
    (g b : FVec Ideal Cert.KernelIdeal.S4x64 .f32) (w : FVec Ideal Cert.KernelIdeal.S4x128x128 .f32) (s : FVec Ideal Cert.KernelIdeal.S4x128 .f32)
    (h : (Cert.Pre_finite.fn (F := Ideal) z d g b w s).1 = (fun _ => 1#1) ∧ (Cert.Pre_finite.fn (F := Ideal) z d g b w s).2.1 = (fun _ => 1#1)
      ∧ (Cert.Pre_finite.fn (F := Ideal) z d g b w s).2.2.1 = (fun _ => 1#1) ∧ (Cert.Pre_finite.fn (F := Ideal) z d g b w s).2.2.2.1 = (fun _ => 1#1)
      ∧ (Cert.Pre_finite.fn (F := Ideal) z d g b w s).2.2.2.2.1 = (fun _ => 1#1) ∧ (Cert.Pre_finite.fn (F := Ideal) z d g b w s).2.2.2.2.2 = (fun _ => 1#1)) :
    Cert.KernelIdeal.Result.Holds (args z d g b w s) z d g b w s where
  z _ _ := entry z Cert.Pre_finite.Facts.bcast_S_S8192x1536 h.1 _
  d _ _ := entry d Cert.Pre_finite.Facts.bcast_S_S8192x256 h.2.1 _
  g _ _ := entry g Cert.Pre_finite.Facts.bcast_S_S4x64 h.2.2.1 _
  b _ _ := entry b Cert.Pre_finite.Facts.bcast_S_S4x64 h.2.2.2.1 _
  w _ _ _ := entry w Cert.Pre_finite.Facts.bcast_S_S4x128x128 h.2.2.2.2.1 _
  s _ _ := entry s Cert.Pre_finite.Facts.bcast_S_S4x128 h.2.2.2.2.2 _

end Cert.Finite
-- ==== Proof.Equal.lean ====
/- What the kernel leaves is what the reference computes: the sums over the chunks and over the lanes or rows of a head, taken in either
   order. -/
module

public import proofs.«01_k».proof.Proof.Result
public import proofs.«01_k».proof.Proof.Ref

@[expose] public section

set_option maxRecDepth 16384

noncomputable section

namespace Cert.Equal

open Idealize.ShloMosaic Idealize.ShloMosaic.TcCoe Idealize.SL.Sem
open Cert.Gmlp Cert.KernelIdeal.Head Cert.KernelIdeal.Result

variable {A : Args} {z : Vec Ideal Cert.ReferenceIdeal.S8192x1536 .f32} {d : Vec Ideal Cert.ReferenceIdeal.S8192x256 .f32}
  {g b : Vec Ideal Cert.ReferenceIdeal.S4x64 .f32} {w : Vec Ideal Cert.ReferenceIdeal.S4x128x128 .f32} {s : Vec Ideal Cert.ReferenceIdeal.S4x128 .f32}
  (hA : Cert.ReferenceIdeal.Ref.Holds A z d g b w s)
include hA

open Cert.ReferenceIdeal.Read

theorem dz : dzR A = val_main_v127 (F := Ideal) z d g b w s := by
  funext y
  idx_vars y
  have hr : y0 = row ⟨y0.val / 128, by omega⟩ ⟨y0.val % 128, by omega⟩ := Fin.ext (by simp only [row]; omega)
  have e := Cert.ReferenceIdeal.Ref.r127 hA ⟨y0.val / 128, by omega⟩ ⟨y0.val % 128, by omega⟩ ⟨y1.val / 128, by omega⟩ ⟨y1.val % 128, by omega⟩ y1
    (by simp only; omega)
  rw [← hr] at e
  exact e.symm

theorem dw : accR A Blk.dw 32 = val_main_v76 (F := Ideal) z d g b := by
  funext y
  rw [accR_all]
  idx_vars y
  exact (Cert.ReferenceIdeal.Ref.r76 hA _ _ _).symm

theorem db : rowSums (accR A (fun B t l => hp (B.dsv t) l) 32) = val_main_v129 (F := Ideal) z d := by
  funext y
  idx_vars y
  refine Eq.trans ?_ (Cert.ReferenceIdeal.Ref.r129 hA _ _ _).symm
  simp only [rowSums, accR_all, coe_sum]
  refine congrArg _ ?_
  change ∑ k : Fin 128, ∑ n : Fin 64, hp ((A.blk n y0).dsv y1) k = _
  rw [Finset.sum_comm, Fintype.sum_prod_type]
  exact Finset.sum_congr rfl fun n _ => sum_hp _

omit hA in
/-- Summing a gate's lane over the rows of every chunk, in either order. -/
theorem lanes (f : Blk → Fin 128 → Fin 64 → ℝ) (h : Fin 4) (l : Fin 128) :
    ∑ k : Fin 128, ∑ n : Fin 64, hp (f (A.blk n h) k) l = hp (fun e => ∑ k : Fin 64 × Fin 128, f (A.blk k.1 h) k.2 e) l := by
  rcases lane_cases l with ⟨e, rfl⟩ | ⟨e, rfl⟩
  · simp [hp_lo]
  · simp only [hp_hi]
    rw [Finset.sum_comm, Fintype.sum_prod_type]

theorem dlg : colSums (accR A (fun B t l => hp (fun e => B.dvn t e * B.xhat t e) l) 32) = val_main_v133 (F := Ideal) z d w := by
  funext y
  idx_vars y
  refine Eq.trans ?_ (Cert.ReferenceIdeal.Ref.r133 hA _ _ _).symm
  unfold colSums
  simp only [accR_all, coe_sum]
  exact congrArg _ (lanes (fun B t e => B.dvn t e * B.xhat t e) y0 y2)

theorem dlb : colSums (accR A (fun B t l => hp (B.dvn t) l) 32) = val_main_v137 (F := Ideal) z d w := by
  funext y
  idx_vars y
  refine Eq.trans ?_ (Cert.ReferenceIdeal.Ref.r137 hA _ _ _).symm
  unfold colSums
  simp only [accR_all, coe_sum]
  exact congrArg _ (lanes (fun B t e => B.dvn t e) y0 y2)

end Cert.Equal

end
-- ==== Proof.Products.lean ====
/- A sum over all rows by blocks of rows, over the extended reals. -/
module

public import Idealize.ShloMosaic.Lib.Pipeline.ValueKit
public import Idealize.ShloMosaic.Lib.Pipeline.ReadBack
public import Idealize.ShloMosaic.Lib.Pointwise

@[expose] public section

noncomputable section

namespace Cert.Products

/-- The sum of the blocks' sums is the sum. -/
theorem sum_blocks {J n L : ℕ} (hL : L = J * n) {F : Fin J → Fin n → EReal} {G : Fin L → EReal}
    (h : ∀ (s : Fin J) (k : Fin n) (hl : s.val * n + k.val < L), F s k = G ⟨s.val * n + k.val, hl⟩) :
    ∑ s : Fin J, ∑ k : Fin n, F s k = ∑ q : Fin L, G q :=
  (Finset.sum_congr rfl fun s _ => Finset.sum_congr rfl fun k _ => h s k _).trans (Fin.sum_mul_add_fin J n G hL)

open Idealize.ShloMosaic in
/-- A store of `n` whole rows from row `o` on, against the block's entries. -/
theorem row_piece {R C n : ℕ} {e : EltTy} (G : Fin R → Fin C → Elt Ideal e) (o : ℕ) {pay : Vec Ideal ⟨2, ![n, C]⟩ e}
    (hp : ∀ (i : Fin n) (j : Fin C) (h : o + i.val < R), pay (ix2 i j) = G ⟨o + i.val, h⟩ j)
    (inb : ∀ a, (![o, 0] : Fin 2 → Nat) a + (![n, C] : Fin 2 → Nat) a ≤ (⟨2, ![R, C]⟩ : Shape).size a)
    (x : (⟨2, ![n, C]⟩ : Shape).Idx) :
    pay x = (fun y : (⟨2, ![R, C]⟩ : Shape).Idx => G (y 0) (y 1)) ((Rect.unit (s := ⟨2, ![R, C]⟩) ![o, 0] ![n, C] inb).emb x) := by
  obtain ⟨x0, x1, rfl⟩ : ∃ (x0 : Fin n) (x1 : Fin C), x = ix2 x0 x1 := ⟨x 0, x 1, funext fun a => match a with
    | ⟨0, _⟩ => rfl
    | ⟨1, _⟩ => rfl⟩
  have hb : o + n ≤ R := inb 0
  refine (hp x0 x1 (by omega)).trans ?_
  refine congrArg₂ G (Fin.ext ?_) (Fin.ext ?_)
  · show o + x0.val = o + 1 * x0.val
    omega
  · show x1.val = 0 + 1 * x1.val
    omega

end Cert.Products

end
-- ==== Proof.ActValue.lean ====
/- The activation of the feed-forward: the product with the first weight, its positive part squared. -/
module

public import proofs.«01_k».proof.Proof.Gen.ActIdeal.Value
public import proofs.«01_k».proof.Proof.Gen.ActRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ActIdeal.Result

open Cert.ActIdeal Cert.ActIdeal.Gen Idealize.ShloMosaic Idealize.ShloMosaic.TcCoe Idealize.SL.Sem
open Idealize.ShloMosaic.Pipeline (Dat)

variable (m : (ℓ : Loc nD τ sig) → Buf (Elt Ideal) ℓ)

/-- One block of the activation. -/
def blk (a : Vec Ideal S1024x1024 .bf16) (b : Vec Ideal S1x1024x1024 .bf16) (i j : Fin 1024) : EReal :=
  max (∑ k : Fin 1024, a (ix2 i k) * b (ix3 0 k j)) 0 * max (∑ k : Fin 1024, a (ix2 i k) * b (ix3 0 k j)) 0

def whole (a : Vec Ideal S1024x1024 .bf16) (b : Vec Ideal S1x1024x1024 .bf16) : Vec Ideal S1024x1024 .bf16 := fun y => blk a b (y 0) (y 1)

theorem pay3 (a : Vec Ideal S1024x1024 .bf16) (b : Vec Ideal S1x1024x1024 .bf16) (i : Fin 256) (j : Fin 1024) :
    k0_pay3 (F := Ideal) a b (ix2 i j) = blk a b ⟨0 + i.val, by omega⟩ j := by
  unfold k0_pay3 k0_pay2 blk
  pointwise

theorem pay4 (a : Vec Ideal S1024x1024 .bf16) (b : Vec Ideal S1x1024x1024 .bf16) (i : Fin 256) (j : Fin 1024) :
    k0_pay4 (F := Ideal) a b (ix2 i j) = blk a b ⟨256 + i.val, by omega⟩ j := by
  unfold k0_pay4 k0_pay2 blk
  pointwise

theorem pay5 (a : Vec Ideal S1024x1024 .bf16) (b : Vec Ideal S1x1024x1024 .bf16) (i : Fin 256) (j : Fin 1024) :
    k0_pay5 (F := Ideal) a b (ix2 i j) = blk a b ⟨512 + i.val, by omega⟩ j := by
  unfold k0_pay5 k0_pay2 blk
  pointwise

theorem pay6 (a : Vec Ideal S1024x1024 .bf16) (b : Vec Ideal S1x1024x1024 .bf16) (i : Fin 256) (j : Fin 1024) :
    k0_pay1 (F := Ideal) (k0_pay6 (F := Ideal) a b) (ix2 i j) = blk a b ⟨768 + i.val, by omega⟩ j := by
  unfold k0_pay1 k0_pay6 k0_pay2 blk
  pointwise

theorem value (c : Dev nD) (t : Fin cfg0.N) : (dats m 0 c).after 2 t =
    whole (iblk m c 0 t) (iblk m c 1 t) := by
  rw [after0_2]
  frame_open
  simp (disch := decide) only [↓ View.readCov_skip, ↓ View.readCov_cons_toLoadRect, ↓ View.readCov_fill]
  frame_out
  funext y
  refine View.canon_append_of_piecesOf
    (whole (iblk m c 0 t) (iblk m c 1 t)) [] [_, _, _, _] ⟨?_, ?_, ?_, ?_, trivial⟩ y
    (View.cover_of_tiledL _ ![256, 1024] (by sl_kernel_rfl) y)
  · exact Cert.Products.row_piece (e := .bf16) (blk (iblk m c 0 t) (iblk m c 1 t)) 768 (fun i j h => pay6 _ _ i j) (by decide)
  · exact Cert.Products.row_piece (e := .bf16) (blk (iblk m c 0 t) (iblk m c 1 t)) 512 (fun i j h => pay5 _ _ i j) (by decide)
  · exact Cert.Products.row_piece (e := .bf16) (blk (iblk m c 0 t) (iblk m c 1 t)) 256 (fun i j h => pay4 _ _ i j) (by decide)
  · exact Cert.Products.row_piece (e := .bf16) (blk (iblk m c 0 t) (iblk m c 1 t)) 0 (fun i j h => pay3 _ _ i j) (by decide)

theorem idx0 : ∀ t : Fin cfg0.N, win0_0.index t = ![t.val / 4, 0] ∧ win0_1.index t = ![t.val % 4, 0, 0] ∧
    win0_2.index t = ![t.val / 4, t.val % 4] := by
  decide +kernel

theorem at_a (c : Dev nD) (t : Fin cfg0.N) (i k : Fin 1024) (h : t.val / 4 * 1024 + i.val < 8192) :
    iblk m c 0 t (ix2 i k) = m ((c : Thread nD τ).loc main_arg0) (ix2 ⟨t.val / 4 * 1024 + i.val, h⟩ k) := by
  blk_ext [iblk, V, idx0 t]

theorem at_b (c : Dev nD) (t : Fin cfg0.N) (k j : Fin 1024) (h : t.val % 4 * 1024 + j.val < 4096) :
    iblk m c 1 t (ix3 0 k j) = m ((c : Thread nD τ).loc main_arg1) (ix2 k ⟨t.val % 4 * 1024 + j.val, h⟩) := by
  have e1 : ((View.whole main_v3).slice (win0_1.rect t)).emb (ix3 (0 : Fin 1) k j) = ix3 (⟨t.val % 4, by omega⟩ : Fin 4) k j := by
    blk_ext [idx0 t]
  unfold iblk
  blk_simp
  entry_read
  rw [e1]
  pointwise

theorem reference_apply (x0 : Vec Ideal Cert.ActRefIdeal.S8192x1024 .f32) (x1 : Vec Ideal Cert.ActRefIdeal.S1024x4096 .f32)
    (i : Fin 8192) (j : Fin 4096) :
    Cert.ActRefIdeal.Read.val_main_v3 (F := Ideal) x0 x1 (ix2 i j) =
      max (∑ k : Fin 1024, x0 (ix2 i k) * x1 (ix2 k j)) 0 * max (∑ k : Fin 1024, x0 (ix2 i k) * x1 (ix2 k j)) 0 := by
  unfold Cert.ActRefIdeal.Read.val_main_v3 Cert.ActRefIdeal.Read.val_main_v2 Cert.ActRefIdeal.Read.val_main_v1
    Cert.ActRefIdeal.Read.val_main_call0_v0 Cert.ActRefIdeal.Read.val_main_call0_cst Cert.ActRefIdeal.Read.val_main_v0
  pointwise

theorem result (c : Dev nD) : (dats m 0 c).arrAt 2 cfg0.N =
    Cert.ActRefIdeal.Read.val_main_v3 (F := Ideal) (m ((c : Thread nD τ).loc main_arg0)) (m ((c : Thread nD τ).loc main_arg1)) := by
  refine (dats m 0 c).arrAt_eq_of_covers 2 _ (by decide +kernel) fun t hf y => ?_
  have hN : t.val < 32 := lt_of_lt_of_eq t.isLt (show cfg0.N = 32 from N_0)
  blk_simp
  rw [value]
  idx_vars y
  have e2 : ((View.whole main_v4).slice (win0_2.rect t)).emb (ix2 y0 y1) =
      ix2 (⟨t.val / 4 * 1024 + y0.val, by omega⟩ : Fin 8192) (⟨t.val % 4 * 1024 + y1.val, by omega⟩ : Fin 4096) := by
    blk_ext [idx0 t]
  refine Eq.trans ?_ (congrArg (Cert.ActRefIdeal.Read.val_main_v3 (F := Ideal) _ _) e2.symm)
  rw [reference_apply]
  show blk _ _ _ _ = _
  unfold blk
  exact congrArg (fun x : EReal => max x 0 * max x 0) (Finset.sum_congr rfl fun k _ =>
    congrArg₂ (fun x y : EReal => x * y) (at_a m c t y0 k (by omega)) (at_b m c t k y1 (by omega)))

end Cert.ActIdeal.Result

end
-- ==== Proof.DxTwoValue.lean ====
/- The gradient behind the second feed-forward product: the product with the weight's transpose, times the derivative of the squared
   positive part, which the call finds again from the activation that was saved. -/
module

public import proofs.«01_k».proof.Proof.Gen.DxTwoIdeal.Value
public import proofs.«01_k».proof.Proof.Gen.DxTwoRefIdeal.Read
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.DxTwoIdeal.Result

open Cert.DxTwoIdeal Cert.DxTwoIdeal.Gen Idealize.ShloMosaic Idealize.ShloMosaic.TcCoe Idealize.SL.Sem
open Idealize.ShloMosaic.Pipeline (Dat)

/-- The squared positive part. -/
def square (a : EReal) : EReal := max a 0 * max a 0

/-- The derivative of the squared positive part is twice the square root of it. -/
theorem relu_grad (s a : EReal) : s * (Ideal.ofBits .f32 0x40000000#32 * Ideal.sqrt (max a 0 * max a 0)) =
    if 0 < a then s * (Ideal.ofBits .f32 0x40000000#32 * max a 0) else 0 := by
  by_cases h : 0 < a
  · rw [if_pos h, max_eq_left h.le]
    refine congrArg (fun x => s * (_ * x)) ?_
    induction a using EReal.rec with
    | bot => exact absurd h (by simp)
    | top => rw [EReal.top_mul_top, Ideal.sqrt_top]
    | coe r =>
      have hr : 0 < r := EReal.coe_pos.mp h
      rw [← EReal.coe_mul, Ideal.sqrt_coe, if_neg (not_lt.mpr (mul_self_nonneg r)), Real.sqrt_mul_self hr.le]
  · rw [if_neg h, max_eq_right (not_lt.mp h), zero_mul, ← EReal.coe_zero, Ideal.sqrt_coe, if_neg (lt_irrefl _), Real.sqrt_zero,
      EReal.coe_zero, mul_zero, mul_zero]

variable (m : (ℓ : Loc nD τ sig) → Buf (Elt Ideal) ℓ)

/-- One block of the gradient. -/
def blk (a b r : Vec Ideal S1024x1024 .bf16) (i j : Fin 1024) : EReal :=
  (∑ k : Fin 1024, a (ix2 i k) * b (ix2 j k)) * (Ideal.ofBits .f32 0x40000000#32 * Ideal.sqrt (r (ix2 i j)))

def whole (a b r : Vec Ideal S1024x1024 .bf16) : Vec Ideal S1024x1024 .bf16 := fun y => blk a b r (y 0) (y 1)

theorem rows0 (a b r : Vec Ideal S1024x1024 .bf16) (i : Fin 256) (j : Fin 1024) :
    k0_pay4 (F := Ideal) a b (View.ld r r0_1) (ix2 i j) = blk a b r ⟨0 + i.val, by omega⟩ j := by
  unfold k0_pay4 k0_pay3 blk
  pointwise

theorem rows256 (a b r : Vec Ideal S1024x1024 .bf16) (i : Fin 256) (j : Fin 1024) :
    k0_pay5 (F := Ideal) a b (View.ld r r0_2) (ix2 i j) = blk a b r ⟨256 + i.val, by omega⟩ j := by
  unfold k0_pay5 k0_pay3 blk
  pointwise

theorem rows512 (a b r : Vec Ideal S1024x1024 .bf16) (i : Fin 256) (j : Fin 1024) :
    k0_pay1 (F := Ideal) (k0_pay6 (F := Ideal) a b (View.ld r r0_3)) (ix2 i j) = blk a b r ⟨512 + i.val, by omega⟩ j := by
  unfold k0_pay1 k0_pay6 k0_pay3 blk
  pointwise

theorem rows768 (a b r : Vec Ideal S1024x1024 .bf16) (i : Fin 256) (j : Fin 1024) :
    k0_pay2 (F := Ideal) (k0_pay3 (F := Ideal) a b) (View.ld r r0_4) (ix2 i j) = blk a b r ⟨768 + i.val, by omega⟩ j := by
  unfold k0_pay2 k0_pay3 blk
  pointwise

theorem value (c : Dev nD) (t : Fin cfg0.N) : (dats m 0 c).after 3 t = whole (iblk m c 0 t) (iblk m c 1 t) (iblk m c 2 t) := by
  rw [after0_3]
  frame_open
  simp (disch := decide) only [↓ View.readCov_skip, ↓ View.readCov_cons_toLoadRect, ↓ View.readCov_fill]
  frame_out
  funext y
  refine View.canon_append_of_piecesOf (whole (iblk m c 0 t) (iblk m c 1 t) (iblk m c 2 t)) [] [_, _, _, _] ⟨?_, ?_, ?_, ?_, trivial⟩ y
    (View.cover_of_tiledL _ ![256, 1024] (by sl_kernel_rfl) y)
  · exact Cert.Products.row_piece (e := .bf16) (blk (iblk m c 0 t) (iblk m c 1 t) (iblk m c 2 t)) 768 (fun i j h => rows768 _ _ _ i j) (by decide)
  · exact Cert.Products.row_piece (e := .bf16) (blk (iblk m c 0 t) (iblk m c 1 t) (iblk m c 2 t)) 512 (fun i j h => rows512 _ _ _ i j) (by decide)
  · exact Cert.Products.row_piece (e := .bf16) (blk (iblk m c 0 t) (iblk m c 1 t) (iblk m c 2 t)) 256 (fun i j h => rows256 _ _ _ i j) (by decide)
  · exact Cert.Products.row_piece (e := .bf16) (blk (iblk m c 0 t) (iblk m c 1 t) (iblk m c 2 t)) 0 (fun i j h => rows0 _ _ _ i j) (by decide)

theorem idx0 : ∀ t : Fin cfg0.N, win0_0.index t = ![t.val / 4, 0] ∧ win0_1.index t = ![t.val % 4, 0] ∧
    win0_2.index t = ![t.val / 4, t.val % 4] ∧ win0_3.index t = ![t.val / 4, t.val % 4] := by
  decide +kernel

theorem reference_apply (x0 : Vec Ideal Cert.DxTwoRefIdeal.S8192x4096 .f32) (x1 : Vec Ideal Cert.DxTwoRefIdeal.S4096x1024 .f32)
    (x2 : Vec Ideal Cert.DxTwoRefIdeal.S8192x1024 .f32) (i : Fin 8192) (j : Fin 4096) :
    Cert.DxTwoRefIdeal.Read.val_main_v12 (F := Ideal) x0 x1 x2 (ix2 i j) =
      (∑ k : Fin 1024, x2 (ix2 i k) * x1 (ix2 j k)) *
        (Ideal.ofBits .f32 0x40000000#32 * Ideal.sqrt (max (x0 (ix2 i j)) 0 * max (x0 (ix2 i j)) 0)) := by
  rw [relu_grad]
  unfold Cert.DxTwoRefIdeal.Read.val_main_v12 Cert.DxTwoRefIdeal.Read.val_main_v11 Cert.DxTwoRefIdeal.Read.val_main_v10
    Cert.DxTwoRefIdeal.Read.val_main_v9 Cert.DxTwoRefIdeal.Read.val_main_v8 Cert.DxTwoRefIdeal.Read.val_main_v6
    Cert.DxTwoRefIdeal.Read.val_main_v5 Cert.DxTwoRefIdeal.Read.val_main_v2 Cert.DxTwoRefIdeal.Read.val_main_v1
    Cert.DxTwoRefIdeal.Read.val_main_v0 Cert.DxTwoRefIdeal.Read.val_main_cst Cert.DxTwoRefIdeal.Read.val_main_cst_1
    Cert.DxTwoRefIdeal.Read.val_main_cst_2 Cert.DxTwoRefIdeal.Read.val_main_call0_v0 Cert.DxTwoRefIdeal.Read.val_main_call0_cst
  pointwise

theorem at_a (c : Dev nD) (t : Fin cfg0.N) (i k : Fin 1024) (h : t.val / 4 * 1024 + i.val < 8192) :
    iblk m c 0 t (ix2 i k) = m ((c : Thread nD τ).loc main_arg2) (ix2 ⟨t.val / 4 * 1024 + i.val, h⟩ k) := by
  blk_ext [iblk, V, idx0 t]

theorem at_b (c : Dev nD) (t : Fin cfg0.N) (j k : Fin 1024) (h : t.val % 4 * 1024 + j.val < 4096) :
    iblk m c 1 t (ix2 j k) = m ((c : Thread nD τ).loc main_arg1) (ix2 ⟨t.val % 4 * 1024 + j.val, h⟩ k) := by
  blk_ext [iblk, V, idx0 t]

/-- The saved activation is the squared positive part. -/
theorem at_r (c : Dev nD) (t : Fin cfg0.N) (i j : Fin 1024) (hi : t.val / 4 * 1024 + i.val < 8192) (hj : t.val % 4 * 1024 + j.val < 4096) :
    iblk m c 2 t (ix2 i j) = square (m ((c : Thread nD τ).loc main_arg0) (ix2 ⟨t.val / 4 * 1024 + i.val, hi⟩ ⟨t.val % 4 * 1024 + j.val, hj⟩)) := by
  have e2 : ((View.whole main_v2).slice (win0_2.rect t)).emb (ix2 i j) =
      ix2 (⟨t.val / 4 * 1024 + i.val, hi⟩ : Fin 8192) (⟨t.val % 4 * 1024 + j.val, hj⟩ : Fin 4096) := by
    blk_ext [idx0 t]
  unfold iblk square
  blk_simp
  simp only [V, hostOps0, hostOps0_1, List.flatten_cons, List.flatten_nil, List.append_nil, List.cons_append, List.nil_append]
  entry_read
  rw [e2]
  pointwise
  have e0 : ∀ (i : Fin 8192) (j : Fin 4096), maximumf (F := Ideal) (m (c, Proc.tc.devRef main_arg0) : Vec Ideal S8192x4096 .f32)
      (broadcastInDim S8192x4096 ![] bcast_S_S8192x4096 (constant S_ FTy.f32 0#32)) (ix2 i j) =
      @max EReal _ (m ((c : Thread nD τ).loc main_arg0) (ix2 i j)) 0 := by
    intro i j
    pointwise
  exact congrArg₂ (fun x y : EReal => x * y) (e0 _ _) (e0 _ _)

theorem result (c : Dev nD) : (dats m 0 c).arrAt 3 cfg0.N =
    Cert.DxTwoRefIdeal.Read.val_main_v12 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  have hN : t.val < 32 := lt_of_lt_of_eq t.isLt (show cfg0.N = 32 from N_0)
  blk_simp
  rw [value]
  idx_vars y
  have e3 : ((View.whole main_v5).slice (win0_3.rect t)).emb (ix2 y0 y1) =
      ix2 (⟨t.val / 4 * 1024 + y0.val, by omega⟩ : Fin 8192) (⟨t.val % 4 * 1024 + y1.val, by omega⟩ : Fin 4096) := by
    blk_ext [idx0 t]
  refine Eq.trans ?_ (congrArg (Cert.DxTwoRefIdeal.Read.val_main_v12 (F := Ideal) _ _ _) e3.symm)
  rw [reference_apply]
  show blk _ _ _ _ _ = _
  unfold blk
  exact congrArg₂ (fun x y : EReal => x * (Ideal.ofBits .f32 0x40000000#32 * Ideal.sqrt y)) (Finset.sum_congr rfl fun k _ =>
    congrArg₂ (fun x y : EReal => x * y) (at_a m c t y0 k (by omega)) (at_b m c t y1 k (by omega))) (at_r m c t y0 y1 (by omega) (by omega))

end Cert.DxTwoIdeal.Result

end
-- ==== Proof.Rms.lean ====
/- The gradient through the division by the root mean square, two ways of writing it, over all the extended reals. -/
module

public import proofs.«01_k».proof.Proof.Consts
public import Idealize.ShloMosaic.PureOps.Ideal

@[expose] public section

noncomputable section

namespace Cert.Rms

open Idealize.ShloMosaic

variable {n : ℕ}

/-- The mean square plus the epsilon; `w` is the number of entries, as the programs write it. -/
def scale (h : Fin n → EReal) (w : BitVec 32 := 0x44800000#32) : EReal :=
  Ideal.div (∑ k, h k * h k) (Ideal.ofBits .f32 w) + Ideal.ofBits .f32 0x358637BD#32

/-- The kernel's spelling: the gain's gradient `a g` less the part along the normalised row, over the root mean square, added to what
    comes along the residual stream. -/
def fused (h b g a : Fin n → EReal) (j : Fin n) (w : BitVec 32 := 0x44800000#32) : EReal :=
  b j + Ideal.rsqrt (scale h w) * (a j * g j - h j * Ideal.rsqrt (scale h w) *
    Ideal.div (∑ k, a k * g k * (h k * Ideal.rsqrt (scale h w))) (Ideal.ofBits .f32 w))

/-- What differentiating the mean square, its reciprocal root and the two products one after the other sends into the mean. -/
def inner (h g a : Fin n → EReal) (w : BitVec 32 := 0x44800000#32) : EReal :=
  Ideal.div ((∑ k, h k * (a k * g k)) * (Ideal.ofBits .f32 0xBF000000#32 * Ideal.div (Ideal.rsqrt (scale h w)) (scale h w)))
    (Ideal.ofBits .f32 w)

/-- The same gradient, as differentiating step by step spells it. -/
def stepwise (h b g a : Fin n → EReal) (j : Fin n) (w : BitVec 32 := 0x44800000#32) : EReal :=
  b j + a j * g j * Ideal.rsqrt (scale h w) + h j * inner h g a w + inner h g a w * h j

/-- A width: the constant reads as a positive real number. -/
def Width (w : BitVec 32) : Prop := ∃ r : ℝ, 0 < r ∧ Ideal.ofBits .f32 w = (r : EReal)

theorem width1024 : Width 0x44800000#32 := ⟨1024, by norm_num, by simp [Ideal.ofBits, Ideal.ieee, -EReal.coe_mul]; norm_num⟩
theorem width512 : Width 0x44000000#32 := ⟨512, by norm_num, by simp [Ideal.ofBits, Ideal.ieee, -EReal.coe_mul]; norm_num⟩
theorem width256 : Width 0x43800000#32 := ⟨256, by norm_num, by simp [Ideal.ofBits, Ideal.ieee, -EReal.coe_mul]; norm_num⟩

theorem mul_add_pos {i : ℝ} (hi : 0 ≤ i) (x y : EReal) : (i : EReal) * (x + y) = i * x + i * y :=
  EReal.left_distrib_of_nonneg_of_ne_top (by exact_mod_cast hi) (EReal.coe_ne_top i) x y

theorem mul_sum_pos {i : ℝ} (hi : 0 ≤ i) {ι : Type*} (s : Finset ι) (f : ι → EReal) :
    (i : EReal) * ∑ k ∈ s, f k = ∑ k ∈ s, (i : EReal) * f k := by
  classical
  induction s using Finset.induction_on with
  | empty => simp
  | insert a s ha ih => rw [Finset.sum_insert ha, Finset.sum_insert ha, mul_add_pos hi, ih]

/-- A real multiple of an extended real, twice. -/
theorem twice (r : ℝ) (x : EReal) : (r : EReal) * x + r * x = ((2 * r : ℝ) : EReal) * x := by
  induction x with
  | coe x => norm_cast; ring
  | bot =>
    rcases lt_trichotomy r 0 with hr | rfl | hr
    · rw [EReal.coe_mul_bot_of_neg hr, EReal.coe_mul_bot_of_neg (by linarith)]; rfl
    · simp
    · rw [EReal.coe_mul_bot_of_pos hr, EReal.coe_mul_bot_of_pos (by linarith)]; rfl
  | top =>
    rcases lt_trichotomy r 0 with hr | rfl | hr
    · rw [EReal.coe_mul_top_of_neg hr, EReal.coe_mul_top_of_neg (by linarith)]; rfl
    · simp
    · rw [EReal.coe_mul_top_of_pos hr, EReal.coe_mul_top_of_pos (by linarith)]; rfl

theorem square_nonneg (x : EReal) : 0 ≤ x * x := by
  rcases le_total 0 x with h | h
  · exact EReal.mul_nonneg_iff.mpr (Or.inl ⟨h, h⟩)
  · exact EReal.mul_nonneg_iff.mpr (Or.inr ⟨h, h⟩)

/-- The mean square plus the epsilon is either `+∞`, or a positive real number over a row of real numbers. -/
theorem scale_cases {w : BitVec 32} (hw : Width w) (h : Fin n → EReal) :
    scale h w = ⊤ ∨ ∃ s : ℝ, 0 < s ∧ scale h w = s ∧ ∀ k, ∃ r : ℝ, h k = r := by
  obtain ⟨W, hW, width⟩ := hw
  have h0 : 0 ≤ ∑ k, h k * h k := Finset.sum_nonneg fun k _ => square_nonneg _
  unfold scale
  rw [width, Consts.ln_eps, Ideal.div_coe hW.ne']
  generalize hS : ∑ k, h k * h k = S at h0
  induction S with
  | bot => exact absurd h0 (by simp)
  | top =>
    left
    rw [EReal.top_mul_coe_of_pos (by positivity)]
    rfl
  | coe x =>
    right
    refine ⟨x * (1 / W) + Consts.eps, ?_, by push_cast; rfl, fun k => ?_⟩
    · have : 0 ≤ x := by exact_mod_cast h0
      have := Consts.eps_pos
      positivity
    · have hle : h k * h k ≤ x := hS ▸ Finset.single_le_sum (f := fun k => h k * h k) (fun k _ => square_nonneg _) (Finset.mem_univ k)
      generalize h k = y at hle
      induction y with
      | bot => simp at hle
      | top => simp at hle
      | coe r => exact ⟨r, rfl⟩

theorem fused_eq {w : BitVec 32} (hw : Width w) (h b g a : Fin n → EReal) (j : Fin n) : fused h b g a j w = stepwise h b g a j w := by
  unfold fused stepwise inner
  obtain ⟨W, hW, width⟩ := id hw
  rcases scale_cases hw h with e | ⟨s, hs, e, hr⟩
  · rw [e, Ideal.rsqrt_top]
    have : Ideal.div 0 ⊤ = 0 := by simp [Ideal.div]
    rw [this, width, Ideal.div_coe hW.ne', Ideal.div_coe hW.ne']
    simp
  · obtain ⟨r, hj⟩ := hr j
    have hi : 0 < (Real.sqrt s)⁻¹ := inv_pos.mpr (Real.sqrt_pos.mpr hs)
    have hss : (Real.sqrt s)⁻¹ * (Real.sqrt s)⁻¹ = s⁻¹ := by rw [← mul_inv, Real.mul_self_sqrt hs.le]
    rw [e, Ideal.rsqrt_coe, if_neg (not_lt.mpr hs.le), if_neg hs.ne', width, Consts.neg_half, Ideal.div_coe hs.ne',
      Ideal.div_coe hW.ne', Ideal.div_coe hW.ne']
    generalize (Real.sqrt s)⁻¹ = i at hi hss
    have hsum : ∑ k, a k * g k * (h k * (i : EReal)) = i * ∑ k, h k * (a k * g k) := by
      rw [mul_sum_pos hi.le]
      exact Finset.sum_congr rfl fun k _ => by ac_rfl
    rw [hsum, hj, sub_eq_add_neg, mul_add_pos hi.le, ← EReal.neg_mul]
    generalize ∑ k, h k * (a k * g k) = S
    have hl : (i : EReal) * (-((r : EReal) * i) * (i * S * ((1 / W : ℝ) : EReal))) =
        ((i * -(r * i) * (i * (1 / W)) : ℝ) : EReal) * S := by
      push_cast
      ac_rfl
    have hq : (r : EReal) * (S * (((-1 / 2 : ℝ) : EReal) * (i * ((1 / s : ℝ) : EReal))) * ((1 / W : ℝ) : EReal)) =
        ((r * (-1 / 2 * (i * (1 / s))) * (1 / W) : ℝ) : EReal) * S := by
      rw [EReal.coe_mul, EReal.coe_mul, EReal.coe_mul, EReal.coe_mul]
      ac_rfl
    rw [mul_comm _ (r : EReal), hl, hq, add_assoc, add_assoc, twice, mul_comm (a j * g j)]
    refine congrArg (fun x : ℝ => b j + ((i : EReal) * (a j * g j) + (x : EReal) * S)) ?_
    rw [one_div s, ← hss]
    ring

end Cert.Rms

end
-- ==== Proof.NormValue.lean ====
/- The gradient of the first matrix's input, through the norm onto the residual stream, and of the norm's gain: the value of the
   kernel is the reference's. -/
module

public import proofs.«01_k».proof.Proof.Gen.NormIdeal.Value
public import proofs.«01_k».proof.Proof.Gen.NormRefIdeal.Read
public import proofs.«01_k».proof.Proof.Products
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.NormIdeal.Result

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

/-- One block's product. -/
theorem prod_apply (a : Vec Ideal S1024x1024 .bf16) (b : Vec Ideal S1x1024x1024 .bf16) (i j : Fin 1024) :
    k0_pay1 (F := Ideal) a b (ix2 i j) = ∑ k : Fin 1024, a (ix2 i k) * b (ix3 0 j k) := by
  unfold k0_pay1
  pointwise

theorem first_apply (a : Vec Ideal S1024x1024 .bf16) (b : Vec Ideal S1x1024x1024 .bf16) : k0_pay2 (F := Ideal) a b = k0_pay1 (F := Ideal) a b := by
  funext y
  unfold k0_pay2
  pointwise

theorem next_apply (a : Vec Ideal S1024x1024 .bf16) (b : Vec Ideal S1x1024x1024 .bf16) (s : Vec Ideal S1024x1024 .f32) (y : S1024x1024.Idx) :
    k0_pay3 (F := Ideal) a b s y = s y + k0_pay1 (F := Ideal) a b y := by
  unfold k0_pay3
  pointwise

/-- The scratch at a last block of columns is what was there plus the block's product. -/
theorem scratch_last (c : Dev nD) (t : Fin cfg0.N) (h : t.val % 4 = 3) : (outsAt0 m c t.val t.isLt).2.2.2 =
    k0_pay3 (F := Ideal) (iblk m c 0 t) (iblk m c 1 t) (outsAt0 m c (t.val - 1) (by omega)).2.2.2 := by
  by_cases h3 : t.val < 4
  · rw [outsAt0_C m c t (by omega) (by omega) h h3]
    frame_out
    simp only [read_unread_whole]
  · rw [outsAt0_D m c t (by omega) (by omega) h h3]
    frame_out
    simp only [read_unread_whole]

/-- What the scratch holds after the last block of columns. -/
theorem scratch (c : Dev nD) (t : Fin cfg0.N) (h : t.val % 4 = 3) (y : S1024x1024.Idx) :
    (outsAt0 m c t.val t.isLt).2.2.2 y = ∑ s : Fin 4, k0_pay1 (F := Ideal)
      (iblk m c 0 ⟨4 * (t.val / 4) + s.val, Pipeline.run_point_lt_of_flush t h s⟩)
      (iblk m c 1 ⟨4 * (t.val / 4) + s.val, Pipeline.run_point_lt_of_flush t h s⟩) y := by
  rw [Pipeline.eq_sum_fin_of_reset_step_apply_of_flush (fun n h => (outsAt0 m c n h).2.2.2) 4 (fun _ => 0)
    (fun t => k0_pay1 (F := Ideal) (iblk m c 0 t) (iblk m c 1 t))
    (fun t h0 y => by
      rw [outsAt0_A m c t h0 (by omega) (by omega)]
      frame_out
      rw [first_apply, zero_add])
    (fun t h0 y => by
      by_cases h2 : t.val % 4 = 3
      · rw [scratch_last m c t h2, next_apply]
      · rw [outsAt0_B m c t h0 (by omega) h2]
        frame_out
        simp only [read_unread_whole]
        rw [next_apply]) t h y, zero_add]

/-- One row of a block, as a function of the column. -/
def row (x : Vec Ideal S1024x1024 .f32) (i : Fin 1024) (k : Fin 1024) : EReal := x (ix2 i k)

/-- One block of the gradient. -/
def blk (h b : Vec Ideal S1024x1024 .f32) (g : Vec Ideal S1x1024 .f32) (a : Vec Ideal S1024x1024 .f32) (i j : Fin 1024) : EReal :=
  Rms.fused (row h i) (row b i) (fun k => g (ix2 0 k)) (row a i) j

def whole (h b : Vec Ideal S1024x1024 .f32) (g : Vec Ideal S1x1024 .f32) (a : Vec Ideal S1024x1024 .f32) : Vec Ideal S1024x1024 .f32 :=
  fun y => blk h b g a (y 0) (y 1)

def rounded (h b : Vec Ideal S1024x1024 .f32) (g : Vec Ideal S1x1024 .f32) (a : Vec Ideal S1024x1024 .f32) : Vec Ideal S1024x1024 .bf16 :=
  fun y => blk h b g a (y 0) (y 1)

section Chunks
variable (h b : Vec Ideal S1024x1024 .f32) (g : Vec Ideal S1x1024 .f32) (a : Vec Ideal S1024x1024 .f32) (i : Fin 256) (j : Fin 1024)

/-- The four runs of 256 rows. -/
abbrev part (o : ℕ) (x : Vec Ideal S1024x1024 .f32) (inb : ∀ a, (![o, 0] : Fin 2 → Nat) a + (![256, 1024] : Fin 2 → Nat) a ≤ S1024x1024.size a) :
    Vec Ideal S256x1024 .f32 := View.ld x (Rect.unit ![o, 0] ![256, 1024] inb)

theorem chunk0 (inb : ∀ a, (![0, 0] : Fin 2 → Nat) a + (![256, 1024] : Fin 2 → Nat) a ≤ S1024x1024.size a) :
    k0_pay13 (F := Ideal) (part 0 h inb) (part 0 b inb) g (part 0 a inb) (ix2 i j) =
      blk h b g a ⟨0 + i.val, by omega⟩ j := by
  unfold part k0_pay13 k0_pay11 k0_pay10 k0_pay9 blk Rms.fused Rms.scale row
  pointwise

theorem chunk256 (inb : ∀ a, (![256, 0] : Fin 2 → Nat) a + (![256, 1024] : Fin 2 → Nat) a ≤ S1024x1024.size a) :
    k0_pay21 (F := Ideal) (k0_pay19 (F := Ideal) (part 256 h inb) (part 256 b inb) g (part 256 a inb)) (ix2 i j) =
      blk h b g a ⟨256 + i.val, by omega⟩ j := by
  unfold part k0_pay21 k0_pay19 k0_pay18 k0_pay17 blk Rms.fused Rms.scale row
  pointwise

theorem chunk512 (inb : ∀ a, (![512, 0] : Fin 2 → Nat) a + (![256, 1024] : Fin 2 → Nat) a ≤ S1024x1024.size a) :
    k0_pay28 (F := Ideal) (part 512 b inb) (k0_pay26 (F := Ideal) (part 512 h inb) g (part 512 a inb)) (ix2 i j) =
      blk h b g a ⟨512 + i.val, by omega⟩ j := by
  unfold part k0_pay28 k0_pay27 k0_pay26 k0_pay25 k0_pay24 blk Rms.fused Rms.scale row
  pointwise

theorem chunk768 (inb : ∀ a, (![768, 0] : Fin 2 → Nat) a + (![256, 1024] : Fin 2 → Nat) a ≤ S1024x1024.size a) :
    k0_pay5 (F := Ideal) (part 768 b inb) (k0_pay31 (F := Ideal) (part 768 h inb)) (k0_pay32 (F := Ideal) (part 768 h inb)) (k0_pay33 (F := Ideal) g (part 768 a inb)) (k0_pay34 (F := Ideal) (part 768 h inb) g (part 768 a inb)) (ix2 i j) =
      blk h b g a ⟨768 + i.val, by omega⟩ j := by
  unfold part k0_pay5 k0_pay4 k0_pay34 k0_pay33 k0_pay32 k0_pay31 blk Rms.fused Rms.scale row
  pointwise

/-! The same rows, rounded. -/

theorem half0 (inb : ∀ a, (![0, 0] : Fin 2 → Nat) a + (![256, 1024] : Fin 2 → Nat) a ≤ S1024x1024.size a) :
    k0_pay15 (F := Ideal) (k0_pay14 (F := Ideal) (part 0 h inb) (part 0 b inb) g (part 0 a inb)) (ix2 i j) =
      blk h b g a ⟨0 + i.val, by omega⟩ j := by
  unfold part k0_pay15 k0_pay14 k0_pay11 k0_pay10 k0_pay9 blk Rms.fused Rms.scale row
  pointwise

theorem half256 (inb : ∀ a, (![256, 0] : Fin 2 → Nat) a + (![256, 1024] : Fin 2 → Nat) a ≤ S1024x1024.size a) :
    k0_pay22 (F := Ideal) (k0_pay19 (F := Ideal) (part 256 h inb) (part 256 b inb) g (part 256 a inb)) (ix2 i j) =
      blk h b g a ⟨256 + i.val, by omega⟩ j := by
  unfold part k0_pay22 k0_pay19 k0_pay18 k0_pay17 blk Rms.fused Rms.scale row
  pointwise

theorem half512 (inb : ∀ a, (![512, 0] : Fin 2 → Nat) a + (![256, 1024] : Fin 2 → Nat) a ≤ S1024x1024.size a) :
    k0_pay29 (F := Ideal) (part 512 b inb) (k0_pay26 (F := Ideal) (part 512 h inb) g (part 512 a inb)) (ix2 i j) =
      blk h b g a ⟨512 + i.val, by omega⟩ j := by
  unfold part k0_pay29 k0_pay27 k0_pay26 k0_pay25 k0_pay24 blk Rms.fused Rms.scale row
  pointwise

theorem half768 (inb : ∀ a, (![768, 0] : Fin 2 → Nat) a + (![256, 1024] : Fin 2 → Nat) a ≤ S1024x1024.size a) :
    k0_pay6 (F := Ideal) (part 768 b inb) (k0_pay31 (F := Ideal) (part 768 h inb)) (k0_pay32 (F := Ideal) (part 768 h inb)) (k0_pay33 (F := Ideal) g (part 768 a inb)) (k0_pay34 (F := Ideal) (part 768 h inb) g (part 768 a inb)) (ix2 i j) =
      blk h b g a ⟨768 + i.val, by omega⟩ j := by
  unfold part k0_pay6 k0_pay4 k0_pay34 k0_pay33 k0_pay32 k0_pay31 blk Rms.fused Rms.scale row
  pointwise

/-- What one block of rows adds to the gain's gradient. -/
def gain (h a : Vec Ideal S1024x1024 .f32) (j : Fin 1024) : EReal :=
  ∑ x : Fin 1024, a (ix2 x j) * (h (ix2 x j) * Ideal.rsqrt (Rms.scale (row h x)))

theorem gain_parts (p : Vec Ideal S1x1024 .f32)
    (i0 : ∀ a, (![0, 0] : Fin 2 → Nat) a + (![256, 1024] : Fin 2 → Nat) a ≤ S1024x1024.size a)
    (i1 : ∀ a, (![256, 0] : Fin 2 → Nat) a + (![256, 1024] : Fin 2 → Nat) a ≤ S1024x1024.size a)
    (i2 : ∀ a, (![512, 0] : Fin 2 → Nat) a + (![256, 1024] : Fin 2 → Nat) a ≤ S1024x1024.size a)
    (i3 : ∀ a, (![768, 0] : Fin 2 → Nat) a + (![256, 1024] : Fin 2 → Nat) a ≤ S1024x1024.size a) :
    k0_pay7 (F := Ideal) (part 768 a i3) (k0_pay32 (F := Ideal) (part 768 h i3))
      (k0_pay30 (F := Ideal) (part 512 a i2) (k0_pay25 (F := Ideal) (part 512 h i2))
        (k0_pay23 (F := Ideal) (k0_pay20 (F := Ideal) (part 256 h i1) (part 256 a i1))
          (k0_pay16 (F := Ideal) (k0_pay12 (F := Ideal) (part 0 h i0) (part 0 a i0)) p))) (ix2 0 j) = p (ix2 0 j) + gain h a j := by
  have e : gain h a j = ∑ s : Fin 4, ∑ k : Fin 256, a (ix2 ⟨s.val * 256 + k.val, by omega⟩ j) *
      (h (ix2 ⟨s.val * 256 + k.val, by omega⟩ j) * Ideal.rsqrt (Rms.scale (row h ⟨s.val * 256 + k.val, by omega⟩))) :=
    (Cert.Products.sum_blocks (by decide) fun s k hl => rfl).symm
  rw [e, Fin.sum_univ_four, ← add_assoc, ← add_assoc, ← add_assoc]
  unfold part k0_pay7 k0_pay32 k0_pay31 k0_pay30 k0_pay25 k0_pay24 k0_pay23 k0_pay20 k0_pay18 k0_pay17 k0_pay16 k0_pay12 k0_pay10 k0_pay9 Rms.scale row
  pointwise

end Chunks

theorem out5 (c : Dev nD) (t : Fin cfg0.N) (h : t.val % 4 = 3) : (outsAt0 m c t.val t.isLt).1 =
    whole (iblk m c 2 t) (iblk m c 3 t) (iblk m c 4 t) (outsAt0 m c t.val t.isLt).2.2.2 := by
  rw [scratch_last m c t h]
  by_cases h3 : t.val < 4
  all_goals
    first
    | rw [outsAt0_C m c t (by omega) (by omega) h h3]
    | rw [outsAt0_D m c t (by omega) (by omega) h h3]
    dsimp only
    frame_open
    simp (disch := decide) only [↓ View.readCov_skip, ↓ View.readCov_cons_toLoadRect, ↓ View.readCov_fill]
    frame_out
    simp only [read_unread_whole]
    funext y
    refine View.canon_append_of_piecesOf (whole (iblk m c 2 t) (iblk m c 3 t) (iblk m c 4 t) (k0_pay3 (F := Ideal) (iblk m c 0 t) (iblk m c 1 t)
      (outsAt0 m c (t.val - 1) (by omega)).2.2.2)) [] [_, _, _, _] ⟨?_, ?_, ?_, ?_, trivial⟩ y (View.cover_of_tiledL _ ![256, 1024] (by sl_kernel_rfl) y)
    · exact Cert.Products.row_piece (e := .f32) (blk (iblk m c 2 t) (iblk m c 3 t) (iblk m c 4 t) _) 768 (fun i j h => chunk768 _ _ _ _ i j _) (by decide)
    · exact Cert.Products.row_piece (e := .f32) (blk (iblk m c 2 t) (iblk m c 3 t) (iblk m c 4 t) _) 512 (fun i j h => chunk512 _ _ _ _ i j _) (by decide)
    · exact Cert.Products.row_piece (e := .f32) (blk (iblk m c 2 t) (iblk m c 3 t) (iblk m c 4 t) _) 256 (fun i j h => chunk256 _ _ _ _ i j _) (by decide)
    · exact Cert.Products.row_piece (e := .f32) (blk (iblk m c 2 t) (iblk m c 3 t) (iblk m c 4 t) _) 0 (fun i j h => chunk0 _ _ _ _ i j _) (by decide)

theorem out6 (c : Dev nD) (t : Fin cfg0.N) (h : t.val % 4 = 3) : (outsAt0 m c t.val t.isLt).2.1 =
    rounded (iblk m c 2 t) (iblk m c 3 t) (iblk m c 4 t) (outsAt0 m c t.val t.isLt).2.2.2 := by
  rw [scratch_last m c t h]
  by_cases h3 : t.val < 4
  all_goals
    first
    | rw [outsAt0_C m c t (by omega) (by omega) h h3]
    | rw [outsAt0_D m c t (by omega) (by omega) h h3]
    dsimp only
    frame_open
    simp (disch := decide) only [↓ View.readCov_skip, ↓ View.readCov_cons_toLoadRect, ↓ View.readCov_fill]
    frame_out
    simp only [read_unread_whole]
    funext y
    refine View.canon_append_of_piecesOf (rounded (iblk m c 2 t) (iblk m c 3 t) (iblk m c 4 t) (k0_pay3 (F := Ideal) (iblk m c 0 t) (iblk m c 1 t)
      (outsAt0 m c (t.val - 1) (by omega)).2.2.2)) [] [_, _, _, _] ⟨?_, ?_, ?_, ?_, trivial⟩ y (View.cover_of_tiledL _ ![256, 1024] (by sl_kernel_rfl) y)
    · exact Cert.Products.row_piece (e := .bf16) (blk (iblk m c 2 t) (iblk m c 3 t) (iblk m c 4 t) _) 768 (fun i j h => half768 _ _ _ _ i j _) (by decide)
    · exact Cert.Products.row_piece (e := .bf16) (blk (iblk m c 2 t) (iblk m c 3 t) (iblk m c 4 t) _) 512 (fun i j h => half512 _ _ _ _ i j _) (by decide)
    · exact Cert.Products.row_piece (e := .bf16) (blk (iblk m c 2 t) (iblk m c 3 t) (iblk m c 4 t) _) 256 (fun i j h => half256 _ _ _ _ i j _) (by decide)
    · exact Cert.Products.row_piece (e := .bf16) (blk (iblk m c 2 t) (iblk m c 3 t) (iblk m c 4 t) _) 0 (fun i j h => half0 _ _ _ _ i j _) (by decide)

theorem out7_first (c : Dev nD) (t : Fin cfg0.N) (h : t.val % 4 = 3) (h3 : t.val < 4) (j : Fin 1024) : (outsAt0 m c t.val t.isLt).2.2.1 (ix2 0 j) =
    gain (iblk m c 2 t) (outsAt0 m c t.val t.isLt).2.2.2 j := by
  rw [scratch_last m c t h, outsAt0_C m c t (by omega) (by omega) h h3]
  dsimp only
  frame_open
  simp (disch := decide) only [↓ View.readCov_skip, ↓ View.readCov_cons_toLoadRect, ↓ View.readCov_fill]
  frame_out
  simp only [read_unread_whole]
  refine (gain_parts _ _ j _ _ _ _ _).trans ?_
  unfold k0_pay8
  pointwise

theorem out7_next (c : Dev nD) (t : Fin cfg0.N) (h : t.val % 4 = 3) (h3 : ¬ t.val < 4) (j : Fin 1024) : (outsAt0 m c t.val t.isLt).2.2.1 (ix2 0 j) =
    (outsAt0 m c (t.val - 1) (by omega)).2.2.1 (ix2 0 j) + gain (iblk m c 2 t) (outsAt0 m c t.val t.isLt).2.2.2 j := by
  rw [scratch_last m c t h, outsAt0_D m c t (by omega) (by omega) h h3]
  dsimp only
  frame_open
  simp (disch := decide) only [↓ View.readCov_skip, ↓ View.readCov_cons_toLoadRect, ↓ View.readCov_fill]
  frame_out
  simp only [read_unread_whole]
  exact gain_parts _ _ j _ _ _ _ _

theorem out7_carried (c : Dev nD) (t : Fin cfg0.N) (h : t.val % 4 ≠ 3) : (outsAt0 m c t.val t.isLt).2.2.1 =
    (outsAt0 m c (t.val - 1) (by omega)).2.2.1 := by
  by_cases h0 : t.val % 4 = 0
  · rw [outsAt0_A m c t h0 (by omega) (by omega)]
    rfl
  · rw [outsAt0_B m c t h0 (by omega) (by omega)]
    rfl

/-- What block `q` of the rows adds, and nothing past the last block. -/
def gainOf (c : Dev nD) (j : Fin 1024) (q : ℕ) : EReal :=
  if h : 4 * q + 3 < cfg0.N then gain (iblk m c 2 ⟨4 * q + 3, h⟩) (outsAt0 m c (4 * q + 3) h).2.2.2 j else 0

/-- The gain's gradient, once the first block of rows is through. -/
theorem gain_sum (c : Dev nD) (j : Fin 1024) : ∀ (n : ℕ) (hn : n + 3 < cfg0.N),
    (outsAt0 m c (n + 3) hn).2.2.1 (ix2 0 j) = ∑ q ∈ Finset.range (n / 4 + 1), gainOf m c j q := by
  intro n
  induction n with
  | zero =>
    intro hn
    rw [out7_first m c ⟨0 + 3, hn⟩ (show (0 + 3) % 4 = 3 by omega) (show 0 + 3 < 4 by omega)]
    simp [gainOf, hn]
  | succ n ih =>
    intro hn
    by_cases h : (n + 1) % 4 = 0
    · have e : 4 * ((n + 1) / 4) = n + 1 := by omega
      have e' : (n + 1) / 4 = n / 4 + 1 := by omega
      rw [out7_next m c ⟨n + 1 + 3, hn⟩ (show (n + 1 + 3) % 4 = 3 by omega) (show ¬ n + 1 + 3 < 4 by omega), e', Finset.sum_range_succ, ← ih (by omega)]
      refine congrArg₂ (fun x y : EReal => x + y) rfl ?_
      have hq : 4 * (n / 4 + 1) + 3 = n + 1 + 3 := by omega
      have key : ∀ (k : ℕ) (hk : k < cfg0.N), k = n + 1 + 3 → gain (iblk m c 2 ⟨n + 1 + 3, hn⟩) (outsAt0 m c (n + 1 + 3) hn).2.2.2 j =
          gain (iblk m c 2 ⟨k, hk⟩) (outsAt0 m c k hk).2.2.2 j := by
        rintro k hk rfl
        rfl
      unfold gainOf
      rw [dif_pos (by omega)]
      exact key _ _ hq
    · rw [out7_carried m c ⟨n + 1 + 3, hn⟩ (show (n + 1 + 3) % 4 ≠ 3 by omega), show (n + 1) / 4 = n / 4 by omega]
      exact ih (by omega)

theorem idx0 : ∀ t : Fin cfg0.N, win0_0.index t = ![t.val / 4, t.val % 4] ∧ win0_1.index t = ![t.val % 4, 0, 0] ∧
    win0_2.index t = ![t.val / 4, 0] ∧ win0_3.index t = ![t.val / 4, 0] ∧ win0_4.index t = ![0, 0] ∧ win0_5.index t = ![t.val / 4, 0] ∧
    win0_6.index t = ![t.val / 4, 0] ∧ win0_7.index t = ![0, 0] := by
  decide +kernel

/-! The arguments. -/

section Args
variable (x0 : Vec Ideal S8192x4096 .f32) (x1 : Vec Ideal S1024x4096 .f32) (x2 x3 : Vec Ideal S8192x1024 .f32) (x4 : Vec Ideal S1024 .f32)

/-- The gradient of the norm's output. -/
def dxn (i : Fin 8192) (k : Fin 1024) : EReal := ∑ l : Fin 4096, x0 (ix2 i l) * x1 (ix2 k l)

theorem reference_rows (i : Fin 8192) (j : Fin 1024) : Cert.NormRefIdeal.Read.val_main_v38 (F := Ideal) x0 x1 x2 x3 x4 (ix2 i j) =
    Rms.stepwise (fun k => x2 (ix2 i k)) (fun k => x3 (ix2 i k)) (fun k => x4 (ix1 k)) (dxn x0 x1 i) j := by
  simp only [Cert.NormRefIdeal.Read.val_main_v0, Cert.NormRefIdeal.Read.val_main_cst, Cert.NormRefIdeal.Read.val_main_v1, Cert.NormRefIdeal.Read.val_main_v2,
    Cert.NormRefIdeal.Read.val_main_cst_0, Cert.NormRefIdeal.Read.val_main_v3, Cert.NormRefIdeal.Read.val_main_v4,
    Cert.NormRefIdeal.Read.val_main_cst_1, Cert.NormRefIdeal.Read.val_main_v5, Cert.NormRefIdeal.Read.val_main_v6,
    Cert.NormRefIdeal.Read.val_main_v7, Cert.NormRefIdeal.Read.val_main_v8, Cert.NormRefIdeal.Read.val_main_cst_2,
    Cert.NormRefIdeal.Read.val_main_v9, Cert.NormRefIdeal.Read.val_main_v10, Cert.NormRefIdeal.Read.val_main_v11,
    Cert.NormRefIdeal.Read.val_main_v12, Cert.NormRefIdeal.Read.val_main_v13, Cert.NormRefIdeal.Read.val_main_v14,
    Cert.NormRefIdeal.Read.val_main_v15, Cert.NormRefIdeal.Read.val_main_v16, Cert.NormRefIdeal.Read.val_main_v17,
    Cert.NormRefIdeal.Read.val_main_v18, Cert.NormRefIdeal.Read.val_main_cst_3, Cert.NormRefIdeal.Read.val_main_v19,
    Cert.NormRefIdeal.Read.val_main_v20, Cert.NormRefIdeal.Read.val_main_v21, Cert.NormRefIdeal.Read.val_main_v22,
    Cert.NormRefIdeal.Read.val_main_cst_4, Cert.NormRefIdeal.Read.val_main_v23, Cert.NormRefIdeal.Read.val_main_v24,
    Cert.NormRefIdeal.Read.val_main_cst_5, Cert.NormRefIdeal.Read.val_main_v25, Cert.NormRefIdeal.Read.val_main_v26,
    Cert.NormRefIdeal.Read.val_main_v27, Cert.NormRefIdeal.Read.val_main_v28, Cert.NormRefIdeal.Read.val_main_v29,
    Cert.NormRefIdeal.Read.val_main_v30, Cert.NormRefIdeal.Read.val_main_cst_6, Cert.NormRefIdeal.Read.val_main_v31,
    Cert.NormRefIdeal.Read.val_main_v32, Cert.NormRefIdeal.Read.val_main_cst_7, Cert.NormRefIdeal.Read.val_main_v33,
    Cert.NormRefIdeal.Read.val_main_v34, Cert.NormRefIdeal.Read.val_main_v35, Cert.NormRefIdeal.Read.val_main_v36,
    Cert.NormRefIdeal.Read.val_main_v37, Cert.NormRefIdeal.Read.val_main_v38]
  unfold Rms.stepwise Rms.inner Rms.scale dxn
  pointwise
  simp only [Finset.univ_unique, Finset.sum_singleton]

theorem reference_gain (j : Fin 1024) : Cert.NormRefIdeal.Read.val_main_v40 (F := Ideal) x0 x1 x2 (ix2 0 j) =
    ∑ i : Fin 8192, dxn x0 x1 i j * (x2 (ix2 i j) * Ideal.rsqrt (Rms.scale (fun k => x2 (ix2 i k)))) := by
  simp only [Cert.NormRefIdeal.Read.val_main_v0, Cert.NormRefIdeal.Read.val_main_cst, Cert.NormRefIdeal.Read.val_main_v1, Cert.NormRefIdeal.Read.val_main_v2,
    Cert.NormRefIdeal.Read.val_main_cst_0, Cert.NormRefIdeal.Read.val_main_v3, Cert.NormRefIdeal.Read.val_main_v4,
    Cert.NormRefIdeal.Read.val_main_cst_1, Cert.NormRefIdeal.Read.val_main_v5, Cert.NormRefIdeal.Read.val_main_v6,
    Cert.NormRefIdeal.Read.val_main_v7, Cert.NormRefIdeal.Read.val_main_v8, Cert.NormRefIdeal.Read.val_main_cst_2,
    Cert.NormRefIdeal.Read.val_main_v9, Cert.NormRefIdeal.Read.val_main_v10, Cert.NormRefIdeal.Read.val_main_v11,
    Cert.NormRefIdeal.Read.val_main_v12, Cert.NormRefIdeal.Read.val_main_v13, Cert.NormRefIdeal.Read.val_main_v14,
    Cert.NormRefIdeal.Read.val_main_v15, Cert.NormRefIdeal.Read.val_main_v16, Cert.NormRefIdeal.Read.val_main_v17,
    Cert.NormRefIdeal.Read.val_main_v18, Cert.NormRefIdeal.Read.val_main_cst_3, Cert.NormRefIdeal.Read.val_main_v19,
    Cert.NormRefIdeal.Read.val_main_v20, Cert.NormRefIdeal.Read.val_main_v21, Cert.NormRefIdeal.Read.val_main_v22,
    Cert.NormRefIdeal.Read.val_main_cst_4, Cert.NormRefIdeal.Read.val_main_v23, Cert.NormRefIdeal.Read.val_main_v24,
    Cert.NormRefIdeal.Read.val_main_cst_5, Cert.NormRefIdeal.Read.val_main_v25, Cert.NormRefIdeal.Read.val_main_v26,
    Cert.NormRefIdeal.Read.val_main_v27, Cert.NormRefIdeal.Read.val_main_v28, Cert.NormRefIdeal.Read.val_main_v29,
    Cert.NormRefIdeal.Read.val_main_v30, Cert.NormRefIdeal.Read.val_main_cst_6, Cert.NormRefIdeal.Read.val_main_v31,
    Cert.NormRefIdeal.Read.val_main_v32, Cert.NormRefIdeal.Read.val_main_cst_7, Cert.NormRefIdeal.Read.val_main_v33,
    Cert.NormRefIdeal.Read.val_main_v34, Cert.NormRefIdeal.Read.val_main_v35, Cert.NormRefIdeal.Read.val_main_v36,
    Cert.NormRefIdeal.Read.val_main_v37, Cert.NormRefIdeal.Read.val_main_v38, Cert.NormRefIdeal.Read.val_main_v40]
  unfold Rms.scale dxn
  pointwise
  simp only [Finset.univ_unique, Finset.sum_singleton]
  exact Finset.sum_congr rfl fun x _ => mul_comm _ _

end Args

/-- The scratch after the last block of columns: a block of rows of the gradient of the norm's output. -/
theorem scratch_row (c : Dev nD) (t : Fin cfg0.N) (h : t.val % 4 = 3) (i : Fin 1024) (j : Fin 1024) (hi : t.val / 4 * 1024 + i.val < 8192) :
    (outsAt0 m c t.val t.isLt).2.2.2 (ix2 i j) =
      dxn (m ((c : Thread nD τ).loc main_arg0)) (m ((c : Thread nD τ).loc main_arg1)) ⟨t.val / 4 * 1024 + i.val, hi⟩ j := by
  have hN : t.val < 32 := lt_of_lt_of_eq t.isLt (show cfg0.N = 32 from N_0)
  rw [scratch m c t h]
  simp only [prod_apply]
  unfold dxn
  refine Cert.Products.sum_blocks (by decide) fun s k hl => ?_
  have e0 : ∀ (p : Fin cfg0.N), p.val / 4 = t.val / 4 → p.val % 4 = s.val → iblk m c 0 p (ix2 i k) =
      m ((c : Thread nD τ).loc main_arg0) (ix2 ⟨t.val / 4 * 1024 + i.val, hi⟩ ⟨s.val * 1024 + k.val, hl⟩) := by
    intro p hp hs
    blk_ext [iblk, V, idx0 p, hp, hs]
  have e1 : ∀ (p : Fin cfg0.N), p.val % 4 = s.val → iblk m c 1 p (ix3 0 j k) =
      m ((c : Thread nD τ).loc main_arg1) (ix2 j ⟨s.val * 1024 + k.val, hl⟩) := by
    intro p hs
    have e : ((View.whole main_v3).slice (win0_1.rect p)).emb (ix3 (0 : Fin 1) j k) = ix3 (⟨s.val, by omega⟩ : Fin 4) j k := by
      blk_ext [idx0 p, hs]
    unfold iblk
    blk_simp
    entry_read
    rw [e]
    pointwise
  exact congrArg₂ (fun x y : EReal => x * y) (e0 _ (by simp; omega) (by simp)) (e1 _ (by simp))

theorem at_h (c : Dev nD) (t : Fin cfg0.N) (i k : Fin 1024) (h : t.val / 4 * 1024 + i.val < 8192) :
    iblk m c 2 t (ix2 i k) = m ((c : Thread nD τ).loc main_arg2) (ix2 ⟨t.val / 4 * 1024 + i.val, h⟩ k) := by
  blk_ext [iblk, V, idx0 t]

theorem at_base (c : Dev nD) (t : Fin cfg0.N) (i k : Fin 1024) (h : t.val / 4 * 1024 + i.val < 8192) :
    iblk m c 3 t (ix2 i k) = m ((c : Thread nD τ).loc main_arg3) (ix2 ⟨t.val / 4 * 1024 + i.val, h⟩ k) := by
  blk_ext [iblk, V, idx0 t]

theorem at_g (c : Dev nD) (t : Fin cfg0.N) (k : Fin 1024) :
    iblk m c 4 t (ix2 0 k) = m ((c : Thread nD τ).loc main_arg4) (ix1 k) := by
  have e : ((View.whole main_v4).slice (win0_4.rect t)).emb (ix2 (0 : Fin 1) k) = ix2 (0 : Fin 1) k := by
    blk_ext [idx0 t]
  unfold iblk
  blk_simp
  entry_read
  rw [e]
  pointwise

/-- One block of rows is the reference's. -/
theorem rows (c : Dev nD) (t : Fin cfg0.N) (h : t.val % 4 = 3) (i j : Fin 1024) (hi : t.val / 4 * 1024 + i.val < 8192) :
    blk (iblk m c 2 t) (iblk m c 3 t) (iblk m c 4 t) (outsAt0 m c t.val t.isLt).2.2.2 i j =
      Cert.NormRefIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix2 ⟨t.val / 4 * 1024 + i.val, hi⟩ j) := by
  rw [reference_rows]
  unfold blk
  rw [Rms.fused_eq Rms.width1024]
  have eh : row (iblk m c 2 t) i = fun k => m ((c : Thread nD τ).loc main_arg2) (ix2 ⟨t.val / 4 * 1024 + i.val, hi⟩ k) :=
    funext fun k => at_h m c t i k hi
  have eb : row (iblk m c 3 t) i = fun k => m ((c : Thread nD τ).loc main_arg3) (ix2 ⟨t.val / 4 * 1024 + i.val, hi⟩ k) :=
    funext fun k => at_base m c t i k hi
  have ea : row (outsAt0 m c t.val t.isLt).2.2.2 i =
      dxn (m ((c : Thread nD τ).loc main_arg0)) (m ((c : Thread nD τ).loc main_arg1)) ⟨t.val / 4 * 1024 + i.val, hi⟩ :=
    funext fun k => scratch_row m c t h i k hi
  have eg : (fun k : Fin 1024 => (iblk m c 4 t (ix2 0 k) : EReal)) = fun k => m ((c : Thread nD τ).loc main_arg4) (ix1 k) :=
    funext fun k => at_g m c t k
  rw [eh, eb, ea]
  exact congrArg (fun g => Rms.stepwise _ _ g _ j) eg

theorem result5 (c : Dev nD) : (dats m 0 c).arrAt 5 cfg0.N =
    Cert.NormRefIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 : t.val % 4 = 3 := (flush0_5 t).mp hf
  have hN : t.val < 32 := lt_of_lt_of_eq t.isLt (show cfg0.N = 32 from N_0)
  blk_simp
  rw [after0_5, out5 m c t h3]
  idx_vars y
  have e : ((View.whole main_v5_0).slice (win0_5.rect t)).emb (ix2 y0 y1) = ix2 (⟨t.val / 4 * 1024 + y0.val, by omega⟩ : Fin 8192) y1 := by
    blk_ext [idx0 t]
  refine Eq.trans ?_ (congrArg (Cert.NormRefIdeal.Read.val_main_v38 (F := Ideal) _ _ _ _ _) e.symm)
  exact rows m c t h3 y0 y1 (by omega)

theorem result6 (c : Dev nD) : (dats m 0 c).arrAt 6 cfg0.N =
    Cert.NormRefIdeal.Read.val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  have h3 : t.val % 4 = 3 := (flush0_6 t).mp hf
  have hN : t.val < 32 := lt_of_lt_of_eq t.isLt (show cfg0.N = 32 from N_0)
  blk_simp
  rw [after0_6, out6 m c t h3]
  idx_vars y
  have e : ((View.whole main_v5_1).slice (win0_6.rect t)).emb (ix2 y0 y1) = ix2 (⟨t.val / 4 * 1024 + y0.val, by omega⟩ : Fin 8192) y1 := by
    blk_ext [idx0 t]
  refine Eq.trans ?_ (congrArg (Cert.NormRefIdeal.Read.val_main_v39 (F := Ideal) _ _ _ _ _) e.symm)
  exact rows m c t h3 y0 y1 (by omega)

theorem result7 (c : Dev nD) : (dats m 0 c).arrAt 7 cfg0.N =
    Cert.NormRefIdeal.Read.val_main_v40 (F := Ideal) (m ((c : Thread nD τ).loc main_arg0)) (m ((c : Thread nD τ).loc main_arg1))
        (m ((c : Thread nD τ).loc main_arg2)) := by
  refine (dats m 0 c).arrAt_eq_of_covers 7 _ (by decide +kernel) fun t hf y => ?_
  have hN : t.val < 32 := lt_of_lt_of_eq t.isLt (show cfg0.N = 32 from N_0)
  have h3 : t.val % 32 = 31 := (flush0_7 t).mp hf
  blk_simp
  rw [after0_7]
  idx_vars y
  have e : ((View.whole main_v5_2).slice (win0_7.rect t)).emb (ix2 y0 y1) = ix2 y0 y1 := by
    blk_ext [idx0 t]
  refine Eq.trans ?_ (congrArg (Cert.NormRefIdeal.Read.val_main_v40 (F := Ideal) _ _ _) e.symm)
  obtain rfl : y0 = 0 := Subsingleton.elim _ _
  rw [reference_gain]
  have h31 : 28 + 3 < cfg0.N := lt_of_lt_of_eq (by decide) N_0.symm
  have et : t = ⟨28 + 3, h31⟩ := Fin.ext (show t.val = 28 + 3 by omega)
  subst et
  refine (gain_sum m c y1 28 h31).trans ?_
  rw [show 28 / 4 + 1 = 8 from rfl, Finset.sum_range]
  have key : ∀ q : Fin 8, gainOf m c y1 q.val = ∑ x : Fin 1024, dxn (m ((c : Thread nD τ).loc main_arg0)) (m ((c : Thread nD τ).loc main_arg1)) ⟨q.val * 1024 + x.val, by omega⟩ y1 *
      @HMul.hMul EReal EReal EReal _ (m ((c : Thread nD τ).loc main_arg2) (ix2 ⟨q.val * 1024 + x.val, by omega⟩ y1))
        (Ideal.rsqrt (Rms.scale (fun k => m ((c : Thread nD τ).loc main_arg2) (ix2 ⟨q.val * 1024 + x.val, by omega⟩ k)))) := by
    intro q
    unfold gainOf
    have hq : 4 * q.val + 3 < cfg0.N := lt_of_lt_of_eq (by omega) N_0.symm
    rw [dif_pos hq]
    unfold gain
    refine Finset.sum_congr rfl fun x _ => ?_
    have hd : (4 * q.val + 3) / 4 = q.val := by omega
    have ha := scratch_row m c ⟨4 * q.val + 3, hq⟩ (show (4 * q.val + 3) % 4 = 3 by omega) x y1 (by simp only [hd]; omega)
    have hh : ∀ k, iblk m c 2 ⟨4 * q.val + 3, hq⟩ (ix2 x k) = m ((c : Thread nD τ).loc main_arg2) (ix2 ⟨q.val * 1024 + x.val, by omega⟩ k) := by
      intro k
      have := at_h m c ⟨4 * q.val + 3, hq⟩ x k (by simp only [hd]; omega)
      simpa only [hd] using this
    have er : row (iblk m c 2 ⟨4 * q.val + 3, hq⟩) x = fun k => m ((c : Thread nD τ).loc main_arg2) (ix2 ⟨q.val * 1024 + x.val, by omega⟩ k) :=
      funext hh
    simp only [hd] at ha
    rw [er]
    exact congrArg₂ (fun x y : EReal => x * y) ha (congrArg (fun x : EReal => x * Ideal.rsqrt (Rms.scale _)) (hh y1))
  simp only [key]
  exact Cert.Products.sum_blocks (by decide) fun s k hl => rfl

end Cert.NormIdeal.Result

end
-- ==== Proof.DwTwoValue.lean ====
/- The gradient of the second feed-forward weight: four blocks of rows are multiplied and added in a scratch, and the last sum is
   written. The result is the product over all rows. -/
module

public import proofs.«01_k».proof.Proof.Gen.DwTwoIdeal.Value
public import proofs.«01_k».proof.Proof.Gen.DwTwoRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwTwoIdeal.Result

open Cert.DwTwoIdeal Cert.DwTwoIdeal.Gen Idealize.ShloMosaic Idealize.ShloMosaic.TcCoe Idealize.SL.Sem
open Idealize.ShloMosaic.Pipeline (Dat)

variable (m : (ℓ : Loc nD τ sig) → Buf (Elt Ideal) ℓ)

/-- The product of two blocks of rows, at an entry. -/
theorem prod_apply (a : Vec Ideal S2048x1024 .bf16) (b : Vec Ideal S2048x1024 .bf16) (i : Fin 1024) (j : Fin 1024) :
    k0_pay1 (F := Ideal) a b (ix2 i j) = ∑ k : Fin 2048, a (ix2 k i) * b (ix2 k j) := by
  unfold k0_pay1
  pointwise

theorem first_apply (a : Vec Ideal S2048x1024 .bf16) (b : Vec Ideal S2048x1024 .bf16) : k0_pay2 (F := Ideal) a b = k0_pay1 a b := by
  funext y
  unfold k0_pay2
  pointwise

theorem next_apply (a : Vec Ideal S2048x1024 .bf16) (b : Vec Ideal S2048x1024 .bf16) (s : Vec Ideal S1024x1024 .f32) (y : S1024x1024.Idx) :
    k0_pay3 (F := Ideal) a b s y = s y + k0_pay1 (F := Ideal) a b y := by
  unfold k0_pay3
  pointwise

theorem last_apply (s : Vec Ideal S1024x1024 .f32) : k0_pay4 (F := Ideal) s = s := by
  funext y
  unfold k0_pay4
  pointwise

/-- What the scratch holds after the last block of rows. -/
theorem scratch (c : Dev nD) (t : Fin cfg0.N) (h : t.val % 4 = 3) (y : S1024x1024.Idx) :
    (outsAt0 m c t.val t.isLt).2 y = ∑ s : Fin 4, k0_pay1 (F := Ideal)
      (iblk m c 0 ⟨4 * (t.val / 4) + s.val, Pipeline.run_point_lt_of_flush t h s⟩)
      (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => k0_pay1 (F := Ideal) (iblk m c 0 t) (iblk m c 1 t))
    (fun t h0 y => by
      rw [outsAt0_A m c t h0 (by omega) (by omega)]
      frame_out
      rw [first_apply, zero_add])
    (fun t h0 y => by
      by_cases h2 : t.val % 4 = 3
      · rw [outsAt0_C m c t h0 (by omega) h2]
        frame_out
        simp only [read_unread_whole]
        rw [next_apply]
      · rw [outsAt0_B m c t h0 (by omega) h2]
        frame_out
        simp only [read_unread_whole]
        rw [next_apply]) t h y, zero_add]

/-- The block written is the scratch. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_open
  simp (disch := decide) only [↓ View.readCov_skip, ↓ View.readCov_cons_toLoadRect, ↓ View.readCov_fill]
  frame_out
  rw [last_apply]

theorem idx0 : ∀ t : Fin cfg0.N, win0_0.index t = ![t.val % 4, t.val / 4] ∧ win0_1.index t = ![t.val % 4, 0] ∧
    win0_2.index t = ![t.val / 4, 0] := by
  decide +kernel

theorem result (c : Dev nD) : (dats m 0 c).arrAt 2 cfg0.N =
    Cert.DwTwoRefIdeal.Read.val_main_v3 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 16 := lt_of_lt_of_eq t.isLt (show cfg0.N = 16 from N_0)
  blk_simp
  rw [after0_2, written m c t h3, scratch m c t h3, Cert.DwTwoRefIdeal.Read.val_main_v3_apply, Cert.DwTwoRefIdeal.Read.val_main_v2_apply]
  idx_vars y
  simp only [prod_apply]
  refine Cert.Products.sum_blocks (by decide) fun s k hl => ?_
  refine (mul_comm _ _).trans ?_
  congr 1
  · blk_ext [iblk, V, idx0]
  · blk_ext [iblk, V, idx0]

end Cert.DwTwoIdeal.Result

end
-- ==== Proof.DwOneValue.lean ====
/- The gradient of the first feed-forward weight: four blocks of rows are multiplied and added in a scratch, and the last sum is
   written. The result is the product over all rows, as four
   blocks of columns. -/
module

public import proofs.«01_k».proof.Proof.Gen.DwOneIdeal.Value
public import proofs.«01_k».proof.Proof.Gen.DwOneRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwOneIdeal.Result

open Cert.DwOneIdeal Cert.DwOneIdeal.Gen Idealize.ShloMosaic Idealize.ShloMosaic.TcCoe Idealize.SL.Sem
open Idealize.ShloMosaic.Pipeline (Dat)

variable (m : (ℓ : Loc nD τ sig) → Buf (Elt Ideal) ℓ)

/-- The product of two blocks of rows, at an entry. -/
theorem prod_apply (a : Vec Ideal S2048x1024 .bf16) (b : Vec Ideal S2048x1024 .bf16) (i : Fin 1024) (j : Fin 1024) :
    k0_pay1 (F := Ideal) a b (ix2 i j) = ∑ k : Fin 2048, a (ix2 k i) * b (ix2 k j) := by
  unfold k0_pay1
  pointwise

theorem first_apply (a : Vec Ideal S2048x1024 .bf16) (b : Vec Ideal S2048x1024 .bf16) : k0_pay2 (F := Ideal) a b = k0_pay1 a b := by
  funext y
  unfold k0_pay2
  pointwise

theorem next_apply (a : Vec Ideal S2048x1024 .bf16) (b : Vec Ideal S2048x1024 .bf16) (s : Vec Ideal S1024x1024 .f32) (y : S1024x1024.Idx) :
    k0_pay3 (F := Ideal) a b s y = s y + k0_pay1 (F := Ideal) a b y := by
  unfold k0_pay3
  pointwise

theorem last_apply (s : Vec Ideal S1024x1024 .f32) (u : Fin 1) (i j : Fin 1024) : k0_pay4 (F := Ideal) s (ix3 u i j) = s (ix2 i j) := by
  unfold k0_pay4
  pointwise

/-- What the scratch holds after the last block of rows. -/
theorem scratch (c : Dev nD) (t : Fin cfg0.N) (h : t.val % 4 = 3) (y : S1024x1024.Idx) :
    (outsAt0 m c t.val t.isLt).2 y = ∑ s : Fin 4, k0_pay1 (F := Ideal)
      (iblk m c 0 ⟨4 * (t.val / 4) + s.val, Pipeline.run_point_lt_of_flush t h s⟩)
      (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => k0_pay1 (F := Ideal) (iblk m c 0 t) (iblk m c 1 t))
    (fun t h0 y => by
      rw [outsAt0_A m c t h0 (by omega) (by omega)]
      frame_out
      rw [first_apply, zero_add])
    (fun t h0 y => by
      by_cases h2 : t.val % 4 = 3
      · rw [outsAt0_C m c t h0 (by omega) h2]
        frame_out
        simp only [read_unread_whole]
        rw [next_apply]
      · rw [outsAt0_B m c t h0 (by omega) h2]
        frame_out
        simp only [read_unread_whole]
        rw [next_apply]) t h y, zero_add]

/-- The block written is the scratch. -/
theorem written (c : Dev nD) (t : Fin cfg0.N) (h : t.val % 4 = 3) (u : Fin 1) (i j : Fin 1024) :
    (outsAt0 m c t.val t.isLt).1 (ix3 u i j) = (outsAt0 m c t.val t.isLt).2 (ix2 i j) := by
  rw [outsAt0_C m c t (by omega) (by omega) h]
  dsimp only
  frame_open
  simp (disch := decide) only [↓ View.readCov_skip, ↓ View.readCov_cons_toLoadRect, ↓ View.readCov_fill]
  frame_out
  rw [last_apply]

theorem idx0 : ∀ t : Fin cfg0.N, win0_0.index t = ![t.val % 4, 0] ∧ win0_1.index t = ![t.val % 4, t.val / 4] ∧
    win0_2.index t = ![t.val / 4, 0, 0] := by
  decide +kernel

theorem reference_apply (x0 : Vec Ideal Cert.DwOneRefIdeal.S8192x1024 .f32) (x1 : Vec Ideal Cert.DwOneRefIdeal.S8192x4096 .f32)
    (g : Fin 4) (i j : Fin 1024) :
    Cert.DwOneRefIdeal.Read.val_main_v5 (F := Ideal) x0 x1 (ix3 g i j) =
      ∑ k : Fin 8192, x1 (ix2 k ⟨g.val * 1024 + j.val, by omega⟩) * x0 (ix2 k i) := by
  unfold Cert.DwOneRefIdeal.Read.val_main_v5 Cert.DwOneRefIdeal.Read.val_main_v4 Cert.DwOneRefIdeal.Read.val_main_v3
    Cert.DwOneRefIdeal.Read.val_main_v2
  pointwise

theorem result (c : Dev nD) : (dats m 0 c).arrAt 2 cfg0.N =
    Cert.DwOneRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 16 := lt_of_lt_of_eq t.isLt (show cfg0.N = 16 from N_0)
  have e2 : ∀ (u : Fin 1) (i j : Fin 1024), ((View.whole main_v2).slice (win0_2.rect t)).emb (ix3 u i j) = ix3 (⟨t.val / 4, by omega⟩ : Fin 4) i j := by
    intro u i j
    blk_ext [idx0 t]
  blk_simp
  rw [after0_2]
  idx_vars y
  rw [written m c t h3, scratch m c t h3]
  refine Eq.trans ?_ (congrArg (Cert.DwOneRefIdeal.Read.val_main_v5 (F := Ideal) _ _) (e2 _ _ _).symm)
  rw [reference_apply]
  simp only [prod_apply]
  refine Cert.Products.sum_blocks (by decide) fun s k hl => ?_
  refine (mul_comm _ _).trans ?_
  congr 1
  · blk_ext [iblk, V, idx0]
  · blk_ext [iblk, V, idx0]

end Cert.DwOneIdeal.Result

end
-- ==== Proof.DwGateValue.lean ====
/- The gradient of the second feed-forward weight: four blocks of rows are multiplied and added in a scratch, and the last sum is
   written. The result is the product over all rows. -/
module

public import proofs.«01_k».proof.Proof.Gen.DwGateIdeal.Value
public import proofs.«01_k».proof.Proof.Gen.DwGateRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwGateIdeal.Result

open Cert.DwGateIdeal Cert.DwGateIdeal.Gen Idealize.ShloMosaic Idealize.ShloMosaic.TcCoe Idealize.SL.Sem
open Idealize.ShloMosaic.Pipeline (Dat)

variable (m : (ℓ : Loc nD τ sig) → Buf (Elt Ideal) ℓ)

/-- The product of two blocks of rows, at an entry. -/
theorem prod_apply (a : Vec Ideal S2048x1024 .bf16) (b : Vec Ideal S2048x1024 .bf16) (i : Fin 1024) (j : Fin 1024) :
    k0_pay1 (F := Ideal) a b (ix2 i j) = ∑ k : Fin 2048, a (ix2 k i) * b (ix2 k j) := by
  unfold k0_pay1
  pointwise

theorem first_apply (a : Vec Ideal S2048x1024 .bf16) (b : Vec Ideal S2048x1024 .bf16) : k0_pay2 (F := Ideal) a b = k0_pay1 a b := by
  funext y
  unfold k0_pay2
  pointwise

theorem next_apply (a : Vec Ideal S2048x1024 .bf16) (b : Vec Ideal S2048x1024 .bf16) (s : Vec Ideal S1024x1024 .f32) (y : S1024x1024.Idx) :
    k0_pay3 (F := Ideal) a b s y = s y + k0_pay1 (F := Ideal) a b y := by
  unfold k0_pay3
  pointwise

theorem last_apply (s : Vec Ideal S1024x1024 .f32) : k0_pay4 (F := Ideal) s = s := by
  funext y
  unfold k0_pay4
  pointwise

/-- What the scratch holds after the last block of rows. -/
theorem scratch (c : Dev nD) (t : Fin cfg0.N) (h : t.val % 4 = 3) (y : S1024x1024.Idx) :
    (outsAt0 m c t.val t.isLt).2 y = ∑ s : Fin 4, k0_pay1 (F := Ideal)
      (iblk m c 0 ⟨4 * (t.val / 4) + s.val, Pipeline.run_point_lt_of_flush t h s⟩)
      (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => k0_pay1 (F := Ideal) (iblk m c 0 t) (iblk m c 1 t))
    (fun t h0 y => by
      have hN : t.val < 4 := lt_of_lt_of_eq t.isLt (show cfg0.N = 4 from N_0)
      rw [outsAt0_A m c t h0 (by omega) (by omega)]
      frame_out
      rw [first_apply, zero_add])
    (fun t h0 y => by
      by_cases h2 : t.val % 4 = 3
      · rw [outsAt0_C m c t h0 (by omega) h2]
        frame_out
        simp only [read_unread_whole]
        rw [next_apply]
      · rw [outsAt0_B m c t h0 (by omega) h2]
        frame_out
        simp only [read_unread_whole]
        rw [next_apply]) t h y, zero_add]

/-- The block written is the scratch. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_open
  simp (disch := decide) only [↓ View.readCov_skip, ↓ View.readCov_cons_toLoadRect, ↓ View.readCov_fill]
  frame_out
  rw [last_apply]

theorem idx0 : ∀ t : Fin cfg0.N, win0_0.index t = ![t.val % 4, 0] ∧ win0_1.index t = ![t.val % 4, 0] ∧
    win0_2.index t = ![0, 0] := by
  decide +kernel

theorem result (c : Dev nD) : (dats m 0 c).arrAt 2 cfg0.N =
    Cert.DwGateRefIdeal.Read.val_main_v3 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt (show cfg0.N = 4 from N_0)
  blk_simp
  rw [after0_2, written m c t h3, scratch m c t h3, Cert.DwGateRefIdeal.Read.val_main_v3_apply, Cert.DwGateRefIdeal.Read.val_main_v2_apply]
  idx_vars y
  simp only [prod_apply]
  refine Cert.Products.sum_blocks (by decide) fun s k hl => ?_
  refine (mul_comm _ _).trans ?_
  congr 1
  · blk_ext [iblk, V, idx0]
  · blk_ext [iblk, V, idx0]

end Cert.DwGateIdeal.Result

end
-- ==== Proof.DxGateValue.lean ====
/- The gradient behind the per-layer embedding's gate, carried back through the norm before it, and the gradient of that norm's gain: the
   values of the kernel are the reference's. -/
module

public import proofs.«01_k».proof.Proof.Gen.DxGateIdeal.Value
public import proofs.«01_k».proof.Proof.Gen.DxGateRefIdeal.Read
public import proofs.«01_k».proof.Proof.Products
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.DxGateIdeal.Result

open Cert.DxGateIdeal Cert.DxGateIdeal.Gen Idealize.ShloMosaic Idealize.ShloMosaic.TcCoe Idealize.SL.Sem
open Idealize.ShloMosaic.Pipeline (Dat)

variable (m : (ℓ : Loc nD τ sig) → Buf (Elt Ideal) ℓ)

/-- One block's product. -/
theorem prod_apply (a : Vec Ideal S1024x1024 .bf16) (b : Vec Ideal S1024x1024 .bf16) (i j : Fin 1024) :
    k0_pay6 (F := Ideal) a b (ix2 i j) = ∑ k : Fin 1024, a (ix2 i k) * b (ix2 j k) := by
  unfold k0_pay6
  pointwise

/-- One row of a block, as a function of the column. -/
def row (x : Vec Ideal S1024x1024 .f32) (i : Fin 1024) (k : Fin 1024) : EReal := x (ix2 i k)

/-- One block of the gradient. -/
def blk (h b : Vec Ideal S1024x1024 .f32) (g : Vec Ideal S1x1024 .f32) (a : Vec Ideal S1024x1024 .f32) (i j : Fin 1024) : EReal :=
  Rms.fused (row h i) (row b i) (fun k => g (ix2 0 k)) (row a i) j

def whole (h b : Vec Ideal S1024x1024 .f32) (g : Vec Ideal S1x1024 .f32) (a : Vec Ideal S1024x1024 .f32) : Vec Ideal S1024x1024 .f32 :=
  fun y => blk h b g a (y 0) (y 1)

def rounded (h b : Vec Ideal S1024x1024 .f32) (g : Vec Ideal S1x1024 .f32) (a : Vec Ideal S1024x1024 .f32) : Vec Ideal S1024x1024 .bf16 :=
  fun y => blk h b g a (y 0) (y 1)

section Chunks
variable (h b : Vec Ideal S1024x1024 .f32) (g : Vec Ideal S1x1024 .f32) (a : Vec Ideal S1024x1024 .f32) (x y : Vec Ideal S1024x1024 .bf16) (i : Fin 256) (j : Fin 1024)

/-- The four runs of 256 rows. -/
abbrev part (o : ℕ) (x : Vec Ideal S1024x1024 .f32) (inb : ∀ a, (![o, 0] : Fin 2 → Nat) a + (![256, 1024] : Fin 2 → Nat) a ≤ S1024x1024.size a) :
    Vec Ideal S256x1024 .f32 := View.ld x (Rect.unit ![o, 0] ![256, 1024] inb)

theorem chunk0 (inb : ∀ a, (![0, 0] : Fin 2 → Nat) a + (![256, 1024] : Fin 2 → Nat) a ≤ S1024x1024.size a) :
    k0_pay13 (F := Ideal) (k0_pay11 (F := Ideal) x y (part 0 h inb) (part 0 b inb) g) (ix2 i j) = blk h b g (k0_pay6 (F := Ideal) x y) ⟨0 + i.val, by omega⟩ j := by
  unfold part k0_pay13 k0_pay11 k0_pay10 k0_pay9 k0_pay8 blk Rms.fused Rms.scale row
  pointwise

theorem chunk256 (inb : ∀ a, (![256, 0] : Fin 2 → Nat) a + (![256, 1024] : Fin 2 → Nat) a ≤ S1024x1024.size a) :
    k0_pay22 (F := Ideal) (part 256 b inb) (k0_pay17 (F := Ideal) (part 256 h inb)) (k0_pay19 (F := Ideal) a g) (k0_pay20 (F := Ideal) a (part 256 h inb) g) (ix2 i j) = blk h b g a ⟨256 + i.val, by omega⟩ j := by
  unfold part k0_pay22 k0_pay21 k0_pay20 k0_pay19 k0_pay18 k0_pay17 k0_pay16 blk Rms.fused Rms.scale row
  pointwise

theorem chunk512 (inb : ∀ a, (![512, 0] : Fin 2 → Nat) a + (![256, 1024] : Fin 2 → Nat) a ≤ S1024x1024.size a) :
    k0_pay31 (F := Ideal) (part 512 b inb) (k0_pay26 (F := Ideal) (part 512 h inb)) (k0_pay27 (F := Ideal) (part 512 h inb)) (k0_pay28 (F := Ideal) a g) (k0_pay29 (F := Ideal) a (part 512 h inb) g) (ix2 i j) = blk h b g a ⟨512 + i.val, by omega⟩ j := by
  unfold part k0_pay31 k0_pay30 k0_pay29 k0_pay28 k0_pay27 k0_pay26 k0_pay25 blk Rms.fused Rms.scale row
  pointwise

theorem chunk768 (inb : ∀ a, (![768, 0] : Fin 2 → Nat) a + (![256, 1024] : Fin 2 → Nat) a ≤ S1024x1024.size a) :
    k0_pay3 (F := Ideal) (part 768 h inb) (part 768 b inb) (k0_pay34 (F := Ideal) g) (k0_pay35 (F := Ideal) a) (k0_pay36 (F := Ideal) (part 768 h inb)) (k0_pay37 (F := Ideal) (part 768 h inb)) (ix2 i j) = blk h b g a ⟨768 + i.val, by omega⟩ j := by
  unfold part k0_pay3 k0_pay2 k0_pay1 k0_pay34 k0_pay35 k0_pay37 k0_pay36 blk Rms.fused Rms.scale row
  pointwise

theorem half0 (inb : ∀ a, (![0, 0] : Fin 2 → Nat) a + (![256, 1024] : Fin 2 → Nat) a ≤ S1024x1024.size a) :
    k0_pay14 (F := Ideal) (k0_pay11 (F := Ideal) x y (part 0 h inb) (part 0 b inb) g) (ix2 i j) = blk h b g (k0_pay6 (F := Ideal) x y) ⟨0 + i.val, by omega⟩ j := by
  unfold part k0_pay14 k0_pay11 k0_pay10 k0_pay9 k0_pay8 blk Rms.fused Rms.scale row
  pointwise

theorem half256 (inb : ∀ a, (![256, 0] : Fin 2 → Nat) a + (![256, 1024] : Fin 2 → Nat) a ≤ S1024x1024.size a) :
    k0_pay23 (F := Ideal) (part 256 b inb) (k0_pay17 (F := Ideal) (part 256 h inb)) (k0_pay19 (F := Ideal) a g) (k0_pay20 (F := Ideal) a (part 256 h inb) g) (ix2 i j) = blk h b g a ⟨256 + i.val, by omega⟩ j := by
  unfold part k0_pay23 k0_pay21 k0_pay20 k0_pay19 k0_pay18 k0_pay17 k0_pay16 blk Rms.fused Rms.scale row
  pointwise

theorem half512 (inb : ∀ a, (![512, 0] : Fin 2 → Nat) a + (![256, 1024] : Fin 2 → Nat) a ≤ S1024x1024.size a) :
    k0_pay32 (F := Ideal) (part 512 b inb) (k0_pay26 (F := Ideal) (part 512 h inb)) (k0_pay27 (F := Ideal) (part 512 h inb)) (k0_pay28 (F := Ideal) a g) (k0_pay29 (F := Ideal) a (part 512 h inb) g) (ix2 i j) = blk h b g a ⟨512 + i.val, by omega⟩ j := by
  unfold part k0_pay32 k0_pay30 k0_pay29 k0_pay28 k0_pay27 k0_pay26 k0_pay25 blk Rms.fused Rms.scale row
  pointwise

theorem half768 (inb : ∀ a, (![768, 0] : Fin 2 → Nat) a + (![256, 1024] : Fin 2 → Nat) a ≤ S1024x1024.size a) :
    k0_pay4 (F := Ideal) (part 768 h inb) (part 768 b inb) (k0_pay34 (F := Ideal) g) (k0_pay35 (F := Ideal) a) (k0_pay36 (F := Ideal) (part 768 h inb)) (k0_pay37 (F := Ideal) (part 768 h inb)) (ix2 i j) = blk h b g a ⟨768 + i.val, by omega⟩ j := by
  unfold part k0_pay4 k0_pay2 k0_pay1 k0_pay34 k0_pay35 k0_pay37 k0_pay36 blk Rms.fused Rms.scale row
  pointwise

/-- What one block of rows adds to the gain's gradient. -/
def gain (h a : Vec Ideal S1024x1024 .f32) (j : Fin 1024) : EReal :=
  ∑ x : Fin 1024, a (ix2 x j) * (h (ix2 x j) * Ideal.rsqrt (Rms.scale (row h x)))

theorem gain_parts (p : Vec Ideal S1x1024 .f32)
    (i0 : ∀ a, (![0, 0] : Fin 2 → Nat) a + (![256, 1024] : Fin 2 → Nat) a ≤ S1024x1024.size a)
    (i1 : ∀ a, (![256, 0] : Fin 2 → Nat) a + (![256, 1024] : Fin 2 → Nat) a ≤ S1024x1024.size a)
    (i2 : ∀ a, (![512, 0] : Fin 2 → Nat) a + (![256, 1024] : Fin 2 → Nat) a ≤ S1024x1024.size a)
    (i3 : ∀ a, (![768, 0] : Fin 2 → Nat) a + (![256, 1024] : Fin 2 → Nat) a ≤ S1024x1024.size a) :
    k0_pay5 (F := Ideal) (part 768 h i3) (k0_pay35 (F := Ideal) (k0_pay6 (F := Ideal) x y)) (k0_pay37 (F := Ideal) (part 768 h i3))
      (k0_pay33 (F := Ideal) (k0_pay25 (F := Ideal) (k0_pay6 (F := Ideal) x y)) (k0_pay27 (F := Ideal) (part 512 h i2))
        (k0_pay24 (F := Ideal) (k0_pay16 (F := Ideal) (k0_pay6 (F := Ideal) x y)) (k0_pay18 (F := Ideal) (part 256 h i1))
          (k0_pay15 (F := Ideal) (k0_pay12 (F := Ideal) x y (part 0 h i0)) p))) (ix2 0 j) = p (ix2 0 j) + gain h (k0_pay6 (F := Ideal) x y) j := by
  have e : gain h (k0_pay6 (F := Ideal) x y) j = ∑ s : Fin 4, ∑ k : Fin 256, k0_pay6 (F := Ideal) x y (ix2 ⟨s.val * 256 + k.val, by omega⟩ j) *
      (h (ix2 ⟨s.val * 256 + k.val, by omega⟩ j) * Ideal.rsqrt (Rms.scale (row h ⟨s.val * 256 + k.val, by omega⟩))) :=
    (Cert.Products.sum_blocks (by decide) fun s k hl => rfl).symm
  rw [e, Fin.sum_univ_four, ← add_assoc, ← add_assoc, ← add_assoc]
  unfold part k0_pay5 k0_pay1 k0_pay35 k0_pay37 k0_pay36 k0_pay33 k0_pay25 k0_pay27 k0_pay26 k0_pay24 k0_pay16 k0_pay18 k0_pay17 k0_pay15 k0_pay12 k0_pay8 k0_pay10 k0_pay9 Rms.scale row
  pointwise

end Chunks

theorem out5 (c : Dev nD) (t : Fin cfg0.N) : (outsAt0 m c t.val t.isLt).1 =
    whole (iblk m c 2 t) (iblk m c 3 t) (iblk m c 4 t) (k0_pay6 (F := Ideal) (iblk m c 0 t) (iblk m c 1 t)) := by
  by_cases h : t.val % 8 = 0
  all_goals
    first
    | rw [outsAt0_A m c t h]
    | rw [outsAt0_B m c t h]
    dsimp only
    frame_open
    simp (disch := decide) only [↓ View.readCov_skip, ↓ View.readCov_cons_toLoadRect, ↓ View.readCov_fill]
    frame_out
    funext y
    refine View.canon_append_of_piecesOf (whole (iblk m c 2 t) (iblk m c 3 t) (iblk m c 4 t) (k0_pay6 (F := Ideal) (iblk m c 0 t) (iblk m c 1 t)))
      [] [_, _, _, _] ⟨?_, ?_, ?_, ?_, trivial⟩ y (View.cover_of_tiledL _ ![256, 1024] (by sl_kernel_rfl) y)
    · exact Cert.Products.row_piece (e := .f32) (blk (iblk m c 2 t) (iblk m c 3 t) (iblk m c 4 t) _) 768 (fun i j h => chunk768 _ _ _ _ i j _) (by decide)
    · exact Cert.Products.row_piece (e := .f32) (blk (iblk m c 2 t) (iblk m c 3 t) (iblk m c 4 t) _) 512 (fun i j h => chunk512 _ _ _ _ i j _) (by decide)
    · exact Cert.Products.row_piece (e := .f32) (blk (iblk m c 2 t) (iblk m c 3 t) (iblk m c 4 t) _) 256 (fun i j h => chunk256 _ _ _ _ i j _) (by decide)
    · exact Cert.Products.row_piece (e := .f32) (blk (iblk m c 2 t) (iblk m c 3 t) (iblk m c 4 t) _) 0 (fun i j h => chunk0 _ _ _ _ _ i j _) (by decide)

theorem out6 (c : Dev nD) (t : Fin cfg0.N) : (outsAt0 m c t.val t.isLt).2.1 =
    rounded (iblk m c 2 t) (iblk m c 3 t) (iblk m c 4 t) (k0_pay6 (F := Ideal) (iblk m c 0 t) (iblk m c 1 t)) := by
  by_cases h : t.val % 8 = 0
  all_goals
    first
    | rw [outsAt0_A m c t h]
    | rw [outsAt0_B m c t h]
    dsimp only
    frame_open
    simp (disch := decide) only [↓ View.readCov_skip, ↓ View.readCov_cons_toLoadRect, ↓ View.readCov_fill]
    frame_out
    funext y
    refine View.canon_append_of_piecesOf (rounded (iblk m c 2 t) (iblk m c 3 t) (iblk m c 4 t) (k0_pay6 (F := Ideal) (iblk m c 0 t) (iblk m c 1 t)))
      [] [_, _, _, _] ⟨?_, ?_, ?_, ?_, trivial⟩ y (View.cover_of_tiledL _ ![256, 1024] (by sl_kernel_rfl) y)
    · exact Cert.Products.row_piece (e := .bf16) (blk (iblk m c 2 t) (iblk m c 3 t) (iblk m c 4 t) _) 768 (fun i j h => half768 _ _ _ _ i j _) (by decide)
    · exact Cert.Products.row_piece (e := .bf16) (blk (iblk m c 2 t) (iblk m c 3 t) (iblk m c 4 t) _) 512 (fun i j h => half512 _ _ _ _ i j _) (by decide)
    · exact Cert.Products.row_piece (e := .bf16) (blk (iblk m c 2 t) (iblk m c 3 t) (iblk m c 4 t) _) 256 (fun i j h => half256 _ _ _ _ i j _) (by decide)
    · exact Cert.Products.row_piece (e := .bf16) (blk (iblk m c 2 t) (iblk m c 3 t) (iblk m c 4 t) _) 0 (fun i j h => half0 _ _ _ _ _ i j _) (by decide)

theorem out7_first (c : Dev nD) (t : Fin cfg0.N) (h : t.val % 8 = 0) (j : Fin 1024) : (outsAt0 m c t.val t.isLt).2.2 (ix2 0 j) =
    gain (iblk m c 2 t) (k0_pay6 (F := Ideal) (iblk m c 0 t) (iblk m c 1 t)) j := by
  rw [outsAt0_A m c t h]
  dsimp only
  frame_open
  simp (disch := decide) only [↓ View.readCov_skip, ↓ View.readCov_cons_toLoadRect, ↓ View.readCov_fill]
  frame_out
  refine (gain_parts _ _ _ j _ _ _ _ _).trans ?_
  unfold k0_pay7
  pointwise

theorem out7_next (c : Dev nD) (t : Fin cfg0.N) (h : ¬ t.val % 8 = 0) (j : Fin 1024) : (outsAt0 m c t.val t.isLt).2.2 (ix2 0 j) =
    (outsAt0 m c (t.val - 1) (by omega)).2.2 (ix2 0 j) + gain (iblk m c 2 t) (k0_pay6 (F := Ideal) (iblk m c 0 t) (iblk m c 1 t)) j := by
  rw [outsAt0_B m c t h]
  dsimp only
  frame_open
  simp (disch := decide) only [↓ View.readCov_skip, ↓ View.readCov_cons_toLoadRect, ↓ View.readCov_fill]
  frame_out
  exact gain_parts _ _ _ j _ _ _ _ _

/-- The gain's gradient, over all the blocks of rows. -/
theorem gain_sum (c : Dev nD) (t : Fin cfg0.N) (h : t.val % 8 = 7) (y : S1x1024.Idx) : (outsAt0 m c t.val t.isLt).2.2 y =
    ∑ s : Fin 8, gain (iblk m c 2 ⟨8 * (t.val / 8) + s.val, Pipeline.run_point_lt_of_flush t h s⟩)
      (k0_pay6 (F := Ideal) (iblk m c 0 ⟨8 * (t.val / 8) + s.val, Pipeline.run_point_lt_of_flush t h s⟩)
        (iblk m c 1 ⟨8 * (t.val / 8) + s.val, Pipeline.run_point_lt_of_flush t h s⟩)) (y 1) := by
  rw [Pipeline.eq_sum_fin_of_reset_step_apply_of_flush (fun n h => (outsAt0 m c n h).2.2) 8 (fun _ => 0)
    (fun t y => gain (iblk m c 2 t) (k0_pay6 (F := Ideal) (iblk m c 0 t) (iblk m c 1 t)) (y 1))
    (fun t h0 y => by
      idx_vars y
      obtain rfl : y0 = 0 := Subsingleton.elim _ _
      exact (out7_first m c t h0 y1).trans (zero_add _).symm)
    (fun t h0 y => by
      idx_vars y
      obtain rfl : y0 = 0 := Subsingleton.elim _ _
      exact out7_next m c t h0 y1) t h y, zero_add]

theorem idx0 : ∀ t : Fin cfg0.N, win0_0.index t = ![t.val, 0] ∧ win0_1.index t = ![0, 0] ∧
    win0_2.index t = ![t.val, 0] ∧ win0_3.index t = ![t.val, 0] ∧ win0_4.index t = ![0, 0] ∧ win0_5.index t = ![t.val, 0] ∧
    win0_6.index t = ![t.val, 0] ∧ win0_7.index t = ![0, 0] := by
  decide +kernel

/-! The arguments. -/

section Args
variable (x0 : Vec Ideal S8192x1024 .f32) (x1 : Vec Ideal S1024x1024 .f32) (x2 x3 : Vec Ideal S8192x1024 .f32) (x4 : Vec Ideal S1024 .f32)

/-- The gradient of the norm's output. -/
def dxn (i : Fin 8192) (k : Fin 1024) : EReal := ∑ l : Fin 1024, x0 (ix2 i l) * x1 (ix2 k l)

theorem reference_rows (i : Fin 8192) (j : Fin 1024) : Cert.DxGateRefIdeal.Read.val_main_v38 (F := Ideal) x0 x1 x2 x3 x4 (ix2 i j) =
    Rms.stepwise (fun k => x2 (ix2 i k)) (fun k => x3 (ix2 i k)) (fun k => x4 (ix1 k)) (dxn x0 x1 i) j := by
  simp only [Cert.DxGateRefIdeal.Read.val_main_v0, Cert.DxGateRefIdeal.Read.val_main_cst, Cert.DxGateRefIdeal.Read.val_main_v1, Cert.DxGateRefIdeal.Read.val_main_v2,
    Cert.DxGateRefIdeal.Read.val_main_cst_0, Cert.DxGateRefIdeal.Read.val_main_v3, Cert.DxGateRefIdeal.Read.val_main_v4,
    Cert.DxGateRefIdeal.Read.val_main_cst_1, Cert.DxGateRefIdeal.Read.val_main_v5, Cert.DxGateRefIdeal.Read.val_main_v6,
    Cert.DxGateRefIdeal.Read.val_main_v7, Cert.DxGateRefIdeal.Read.val_main_v8, Cert.DxGateRefIdeal.Read.val_main_cst_2,
    Cert.DxGateRefIdeal.Read.val_main_v9, Cert.DxGateRefIdeal.Read.val_main_v10, Cert.DxGateRefIdeal.Read.val_main_v11,
    Cert.DxGateRefIdeal.Read.val_main_v12, Cert.DxGateRefIdeal.Read.val_main_v13, Cert.DxGateRefIdeal.Read.val_main_v14,
    Cert.DxGateRefIdeal.Read.val_main_v15, Cert.DxGateRefIdeal.Read.val_main_v16, Cert.DxGateRefIdeal.Read.val_main_v17,
    Cert.DxGateRefIdeal.Read.val_main_v18, Cert.DxGateRefIdeal.Read.val_main_cst_3, Cert.DxGateRefIdeal.Read.val_main_v19,
    Cert.DxGateRefIdeal.Read.val_main_v20, Cert.DxGateRefIdeal.Read.val_main_v21, Cert.DxGateRefIdeal.Read.val_main_v22,
    Cert.DxGateRefIdeal.Read.val_main_cst_4, Cert.DxGateRefIdeal.Read.val_main_v23, Cert.DxGateRefIdeal.Read.val_main_v24,
    Cert.DxGateRefIdeal.Read.val_main_cst_5, Cert.DxGateRefIdeal.Read.val_main_v25, Cert.DxGateRefIdeal.Read.val_main_v26,
    Cert.DxGateRefIdeal.Read.val_main_v27, Cert.DxGateRefIdeal.Read.val_main_v28, Cert.DxGateRefIdeal.Read.val_main_v29,
    Cert.DxGateRefIdeal.Read.val_main_v30, Cert.DxGateRefIdeal.Read.val_main_cst_6, Cert.DxGateRefIdeal.Read.val_main_v31,
    Cert.DxGateRefIdeal.Read.val_main_v32, Cert.DxGateRefIdeal.Read.val_main_cst_7, Cert.DxGateRefIdeal.Read.val_main_v33,
    Cert.DxGateRefIdeal.Read.val_main_v34, Cert.DxGateRefIdeal.Read.val_main_v35, Cert.DxGateRefIdeal.Read.val_main_v36,
    Cert.DxGateRefIdeal.Read.val_main_v37, Cert.DxGateRefIdeal.Read.val_main_v38]
  unfold Rms.stepwise Rms.inner Rms.scale dxn
  pointwise
  simp only [Finset.univ_unique, Finset.sum_singleton]

theorem reference_gain (j : Fin 1024) : Cert.DxGateRefIdeal.Read.val_main_v40 (F := Ideal) x0 x1 x2 (ix2 0 j) =
    ∑ i : Fin 8192, dxn x0 x1 i j * (x2 (ix2 i j) * Ideal.rsqrt (Rms.scale (fun k => x2 (ix2 i k)))) := by
  simp only [Cert.DxGateRefIdeal.Read.val_main_v0, Cert.DxGateRefIdeal.Read.val_main_cst, Cert.DxGateRefIdeal.Read.val_main_v1, Cert.DxGateRefIdeal.Read.val_main_v2,
    Cert.DxGateRefIdeal.Read.val_main_cst_0, Cert.DxGateRefIdeal.Read.val_main_v3, Cert.DxGateRefIdeal.Read.val_main_v4,
    Cert.DxGateRefIdeal.Read.val_main_cst_1, Cert.DxGateRefIdeal.Read.val_main_v5, Cert.DxGateRefIdeal.Read.val_main_v6,
    Cert.DxGateRefIdeal.Read.val_main_v7, Cert.DxGateRefIdeal.Read.val_main_v8, Cert.DxGateRefIdeal.Read.val_main_cst_2,
    Cert.DxGateRefIdeal.Read.val_main_v9, Cert.DxGateRefIdeal.Read.val_main_v10, Cert.DxGateRefIdeal.Read.val_main_v11,
    Cert.DxGateRefIdeal.Read.val_main_v12, Cert.DxGateRefIdeal.Read.val_main_v13, Cert.DxGateRefIdeal.Read.val_main_v14,
    Cert.DxGateRefIdeal.Read.val_main_v15, Cert.DxGateRefIdeal.Read.val_main_v16, Cert.DxGateRefIdeal.Read.val_main_v17,
    Cert.DxGateRefIdeal.Read.val_main_v18, Cert.DxGateRefIdeal.Read.val_main_cst_3, Cert.DxGateRefIdeal.Read.val_main_v19,
    Cert.DxGateRefIdeal.Read.val_main_v20, Cert.DxGateRefIdeal.Read.val_main_v21, Cert.DxGateRefIdeal.Read.val_main_v22,
    Cert.DxGateRefIdeal.Read.val_main_cst_4, Cert.DxGateRefIdeal.Read.val_main_v23, Cert.DxGateRefIdeal.Read.val_main_v24,
    Cert.DxGateRefIdeal.Read.val_main_cst_5, Cert.DxGateRefIdeal.Read.val_main_v25, Cert.DxGateRefIdeal.Read.val_main_v26,
    Cert.DxGateRefIdeal.Read.val_main_v27, Cert.DxGateRefIdeal.Read.val_main_v28, Cert.DxGateRefIdeal.Read.val_main_v29,
    Cert.DxGateRefIdeal.Read.val_main_v30, Cert.DxGateRefIdeal.Read.val_main_cst_6, Cert.DxGateRefIdeal.Read.val_main_v31,
    Cert.DxGateRefIdeal.Read.val_main_v32, Cert.DxGateRefIdeal.Read.val_main_cst_7, Cert.DxGateRefIdeal.Read.val_main_v33,
    Cert.DxGateRefIdeal.Read.val_main_v34, Cert.DxGateRefIdeal.Read.val_main_v35, Cert.DxGateRefIdeal.Read.val_main_v36,
    Cert.DxGateRefIdeal.Read.val_main_v37, Cert.DxGateRefIdeal.Read.val_main_v38, Cert.DxGateRefIdeal.Read.val_main_v40]
  unfold Rms.scale dxn
  pointwise
  simp only [Finset.univ_unique, Finset.sum_singleton]
  exact Finset.sum_congr rfl fun x _ => mul_comm _ _

end Args

/-- A block of rows of the gradient of the norm's output. -/
theorem prod_row (c : Dev nD) (t : Fin cfg0.N) (i : Fin 1024) (j : Fin 1024) (hi : t.val * 1024 + i.val < 8192) :
    (k0_pay6 (F := Ideal) (iblk m c 0 t) (iblk m c 1 t)) (ix2 i j) = dxn (m ((c : Thread nD τ).loc main_arg0)) (m ((c : Thread nD τ).loc main_arg1)) ⟨t.val * 1024 + i.val, hi⟩ j := by
  rw [prod_apply]
  unfold dxn
  refine Finset.sum_congr rfl fun k _ => ?_
  have e0 : iblk m c 0 t (ix2 i k) = m ((c : Thread nD τ).loc main_arg0) (ix2 ⟨t.val * 1024 + i.val, hi⟩ k) := by
    blk_ext [iblk, V, idx0 t]
  have e1 : iblk m c 1 t (ix2 j k) = m ((c : Thread nD τ).loc main_arg1) (ix2 j k) := by
    blk_ext [iblk, V, idx0 t]
  exact congrArg₂ (fun x y : EReal => x * y) e0 e1

theorem at_h (c : Dev nD) (t : Fin cfg0.N) (i k : Fin 1024) (h : t.val * 1024 + i.val < 8192) :
    iblk m c 2 t (ix2 i k) = m ((c : Thread nD τ).loc main_arg2) (ix2 ⟨t.val * 1024 + i.val, h⟩ k) := by
  blk_ext [iblk, V, idx0 t]

theorem at_base (c : Dev nD) (t : Fin cfg0.N) (i k : Fin 1024) (h : t.val * 1024 + i.val < 8192) :
    iblk m c 3 t (ix2 i k) = m ((c : Thread nD τ).loc main_arg3) (ix2 ⟨t.val * 1024 + i.val, h⟩ k) := by
  blk_ext [iblk, V, idx0 t]

theorem at_g (c : Dev nD) (t : Fin cfg0.N) (k : Fin 1024) :
    iblk m c 4 t (ix2 0 k) = m ((c : Thread nD τ).loc main_arg4) (ix1 k) := by
  have e : ((View.whole main_v2).slice (win0_4.rect t)).emb (ix2 (0 : Fin 1) k) = ix2 (0 : Fin 1) k := by
    blk_ext [idx0 t]
  unfold iblk
  blk_simp
  entry_read
  rw [e]
  pointwise

/-- One block of rows is the reference's. -/
theorem rows (c : Dev nD) (t : Fin cfg0.N) (i j : Fin 1024) (hi : t.val * 1024 + i.val < 8192) :
    blk (iblk m c 2 t) (iblk m c 3 t) (iblk m c 4 t) (k0_pay6 (F := Ideal) (iblk m c 0 t) (iblk m c 1 t)) i j =
      Cert.DxGateRefIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix2 ⟨t.val * 1024 + i.val, hi⟩ j) := by
  rw [reference_rows]
  unfold blk
  rw [Rms.fused_eq Rms.width1024]
  have eh : row (iblk m c 2 t) i = fun k => m ((c : Thread nD τ).loc main_arg2) (ix2 ⟨t.val * 1024 + i.val, hi⟩ k) :=
    funext fun k => at_h m c t i k hi
  have eb : row (iblk m c 3 t) i = fun k => m ((c : Thread nD τ).loc main_arg3) (ix2 ⟨t.val * 1024 + i.val, hi⟩ k) :=
    funext fun k => at_base m c t i k hi
  have ea : row (k0_pay6 (F := Ideal) (iblk m c 0 t) (iblk m c 1 t)) i =
      dxn (m ((c : Thread nD τ).loc main_arg0)) (m ((c : Thread nD τ).loc main_arg1)) ⟨t.val * 1024 + i.val, hi⟩ :=
    funext fun k => prod_row m c t i k hi
  have eg : (fun k : Fin 1024 => (iblk m c 4 t (ix2 0 k) : EReal)) = fun k => m ((c : Thread nD τ).loc main_arg4) (ix1 k) :=
    funext fun k => at_g m c t k
  rw [eh, eb, ea]
  exact congrArg (fun g => Rms.stepwise _ _ g _ j) eg

theorem result5 (c : Dev nD) : (dats m 0 c).arrAt 5 cfg0.N =
    Cert.DxGateRefIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN : t.val < 8 := lt_of_lt_of_eq t.isLt (show cfg0.N = 8 from N_0)
  blk_simp
  rw [after0_5, out5 m c t]
  idx_vars y
  have e : ((View.whole main_v3_0).slice (win0_5.rect t)).emb (ix2 y0 y1) = ix2 (⟨t.val * 1024 + y0.val, by omega⟩ : Fin 8192) y1 := by
    blk_ext [idx0 t]
  refine Eq.trans ?_ (congrArg (Cert.DxGateRefIdeal.Read.val_main_v38 (F := Ideal) _ _ _ _ _) e.symm)
  exact rows m c t y0 y1 (by omega)

theorem result6 (c : Dev nD) : (dats m 0 c).arrAt 6 cfg0.N =
    Cert.DxGateRefIdeal.Read.val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 8 := lt_of_lt_of_eq t.isLt (show cfg0.N = 8 from N_0)
  blk_simp
  rw [after0_6, out6 m c t]
  idx_vars y
  have e : ((View.whole main_v3_1).slice (win0_6.rect t)).emb (ix2 y0 y1) = ix2 (⟨t.val * 1024 + y0.val, by omega⟩ : Fin 8192) y1 := by
    blk_ext [idx0 t]
  refine Eq.trans ?_ (congrArg (Cert.DxGateRefIdeal.Read.val_main_v39 (F := Ideal) _ _ _ _ _) e.symm)
  exact rows m c t y0 y1 (by omega)

theorem result7 (c : Dev nD) : (dats m 0 c).arrAt 7 cfg0.N =
    Cert.DxGateRefIdeal.Read.val_main_v40 (F := Ideal) (m ((c : Thread nD τ).loc main_arg0)) (m ((c : Thread nD τ).loc main_arg1))
        (m ((c : Thread nD τ).loc main_arg2)) := by
  refine (dats m 0 c).arrAt_eq_of_covers 7 _ (by decide +kernel) fun t hf y => ?_
  have hN : t.val < 8 := lt_of_lt_of_eq t.isLt (show cfg0.N = 8 from N_0)
  have h3 : t.val % 8 = 7 := (flush0_7 t).mp hf
  blk_simp
  rw [after0_7]
  idx_vars y
  have e : ((View.whole main_v3_2).slice (win0_7.rect t)).emb (ix2 y0 y1) = ix2 y0 y1 := by
    blk_ext [idx0 t]
  refine Eq.trans ?_ (congrArg (Cert.DxGateRefIdeal.Read.val_main_v40 (F := Ideal) _ _ _) e.symm)
  obtain rfl : y0 = 0 := Subsingleton.elim _ _
  rw [reference_gain]
  refine (gain_sum m c t h3 (ix2 0 y1)).trans ?_
  have key : ∀ (q : Fin 8) (p : Fin cfg0.N), p.val = q.val →
      gain (iblk m c 2 p) (k0_pay6 (F := Ideal) (iblk m c 0 p) (iblk m c 1 p)) y1 =
        ∑ x : Fin 1024, dxn (m ((c : Thread nD τ).loc main_arg0)) (m ((c : Thread nD τ).loc main_arg1)) ⟨q.val * 1024 + x.val, by omega⟩ y1 *
          @HMul.hMul EReal EReal EReal _ (m ((c : Thread nD τ).loc main_arg2) (ix2 ⟨q.val * 1024 + x.val, by omega⟩ y1))
            (Ideal.rsqrt (Rms.scale (fun k => m ((c : Thread nD τ).loc main_arg2) (ix2 ⟨q.val * 1024 + x.val, by omega⟩ k)))) := by
    rintro q ⟨p, hp⟩ rfl
    unfold gain
    refine Finset.sum_congr rfl fun x _ => ?_
    have ha := prod_row m c ⟨q.val, hp⟩ x y1 (show q.val * 1024 + x.val < 8192 by omega)
    have hh : ∀ k, iblk m c 2 ⟨q.val, hp⟩ (ix2 x k) = m ((c : Thread nD τ).loc main_arg2) (ix2 ⟨q.val * 1024 + x.val, by omega⟩ k) :=
      fun k => at_h m c ⟨q.val, hp⟩ x k (show q.val * 1024 + x.val < 8192 by omega)
    have er : row (iblk m c 2 ⟨q.val, hp⟩) x = fun k => m ((c : Thread nD τ).loc main_arg2) (ix2 ⟨q.val * 1024 + x.val, by omega⟩ k) :=
      funext hh
    rw [er]
    exact congrArg₂ (fun x y : EReal => x * y) ha (congrArg (fun x : EReal => x * Ideal.rsqrt (Rms.scale _)) (hh y1))
  refine (Finset.sum_congr rfl fun q _ => key q _ (show 8 * (t.val / 8) + q.val = q.val by omega)).trans ?_
  exact Cert.Products.sum_blocks (by decide) fun s k hl => rfl

end Cert.DxGateIdeal.Result

end
-- ==== Proof.DxOutValue.lean ====
/- The gradient behind the output projection: the value of the kernel is the reference's. -/
module

public import proofs.«01_k».proof.Proof.Gen.DxOutIdeal.Value
public import proofs.«01_k».proof.Proof.Gen.DxOutRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DxOutIdeal.Result

open Cert.DxOutIdeal Cert.DxOutIdeal.Gen Idealize.ShloMosaic Idealize.ShloMosaic.TcCoe Idealize.SL.Sem
open Idealize.ShloMosaic.Pipeline (Dat)

variable (m : (ℓ : Loc nD τ sig) → Buf (Elt Ideal) ℓ)

/-- The product of a block of rows and the matrix's rows, at an entry. -/
theorem prod_apply (a : Vec Ideal S1024x1024 .bf16) (b : Vec Ideal S1024x1024 .bf16) (i j : Fin 1024) :
    k0_pay1 (F := Ideal) a b (ix2 i j) = ∑ k : Fin 1024, a (ix2 i k) * b (ix2 j k) := by
  unfold k0_pay1
  pointwise

theorem value (c : Dev nD) (t : Fin cfg0.N) : (dats m 0 c).after 2 t = k0_pay1 (F := Ideal) (iblk m c 0 t) (iblk m c 1 t) := by
  rw [after0_2]
  frame_open
  frame_out

theorem idx0 : ∀ t : Fin cfg0.N, win0_0.index t = ![t.val, 0] ∧ win0_1.index t = ![0, 0] ∧ win0_2.index t = ![t.val, 0] := by
  decide +kernel

theorem result (c : Dev nD) : (dats m 0 c).arrAt 2 cfg0.N =
    Cert.DxOutRefIdeal.Read.val_main_v2 (F := Ideal) (m ((c : Thread nD τ).loc main_arg0)) (m ((c : Thread nD τ).loc main_arg1)) := by
  refine (dats m 0 c).arrAt_eq_of_covers 2 _ (by decide +kernel) fun t hf y => ?_
  have hN : t.val < 8 := lt_of_lt_of_eq t.isLt (show cfg0.N = 8 from N_0)
  blk_simp
  rw [value, Cert.DxOutRefIdeal.Read.val_main_v2_apply]
  idx_vars y
  rw [prod_apply]
  refine Finset.sum_congr (M := EReal) rfl fun k _ => ?_
  congr 1
  · blk_ext [iblk, V, idx0 t]
  · blk_ext [iblk, V, idx0 t]

end Cert.DxOutIdeal.Result

end
-- ==== Proof.DwInValue.lean ====
/- The gradient of the first feed-forward weight: four blocks of rows are multiplied and added in a scratch, and the last sum is
   written. The result is the product over all rows, as four
   blocks of columns. -/
module

public import proofs.«01_k».proof.Proof.Gen.DwInIdeal.Value
public import proofs.«01_k».proof.Proof.Gen.DwInRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwInIdeal.Result

open Cert.DwInIdeal Cert.DwInIdeal.Gen Idealize.ShloMosaic Idealize.ShloMosaic.TcCoe Idealize.SL.Sem
open Idealize.ShloMosaic.Pipeline (Dat)

variable (m : (ℓ : Loc nD τ sig) → Buf (Elt Ideal) ℓ)

/-- The product of two blocks of rows, at an entry. -/
theorem prod_apply (a : Vec Ideal S2048x1024 .bf16) (b : Vec Ideal S2048x384 .bf16) (i : Fin 1024) (j : Fin 384) :
    k0_pay1 (F := Ideal) a b (ix2 i j) = ∑ k : Fin 2048, a (ix2 k i) * b (ix2 k j) := by
  unfold k0_pay1
  pointwise

theorem first_apply (a : Vec Ideal S2048x1024 .bf16) (b : Vec Ideal S2048x384 .bf16) : k0_pay2 (F := Ideal) a b = k0_pay1 a b := by
  funext y
  unfold k0_pay2
  pointwise

theorem next_apply (a : Vec Ideal S2048x1024 .bf16) (b : Vec Ideal S2048x384 .bf16) (s : Vec Ideal S1024x384 .f32) (y : S1024x384.Idx) :
    k0_pay3 (F := Ideal) a b s y = s y + k0_pay1 (F := Ideal) a b y := by
  unfold k0_pay3
  pointwise

theorem last_apply (s : Vec Ideal S1024x384 .f32) (u : Fin 1) (i : Fin 1024) (j : Fin 384) : k0_pay4 (F := Ideal) s (ix3 u i j) = s (ix2 i j) := by
  unfold k0_pay4
  pointwise

/-- What the scratch holds after the last block of rows. -/
theorem scratch (c : Dev nD) (t : Fin cfg0.N) (h : t.val % 4 = 3) (y : S1024x384.Idx) :
    (outsAt0 m c t.val t.isLt).2 y = ∑ s : Fin 4, k0_pay1 (F := Ideal)
      (iblk m c 0 ⟨4 * (t.val / 4) + s.val, Pipeline.run_point_lt_of_flush t h s⟩)
      (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => k0_pay1 (F := Ideal) (iblk m c 0 t) (iblk m c 1 t))
    (fun t h0 y => by
      rw [outsAt0_A m c t h0 (by omega) (by omega)]
      frame_out
      rw [first_apply, zero_add])
    (fun t h0 y => by
      by_cases h2 : t.val % 4 = 3
      · rw [outsAt0_C m c t h0 (by omega) h2]
        frame_out
        simp only [read_unread_whole]
        rw [next_apply]
      · rw [outsAt0_B m c t h0 (by omega) h2]
        frame_out
        simp only [read_unread_whole]
        rw [next_apply]) t h y, zero_add]

/-- The block written is the scratch. -/
theorem written (c : Dev nD) (t : Fin cfg0.N) (h : t.val % 4 = 3) (u : Fin 1) (i : Fin 1024) (j : Fin 384) :
    (outsAt0 m c t.val t.isLt).1 (ix3 u i j) = (outsAt0 m c t.val t.isLt).2 (ix2 i j) := by
  rw [outsAt0_C m c t (by omega) (by omega) h]
  dsimp only
  frame_open
  simp (disch := decide) only [↓ View.readCov_skip, ↓ View.readCov_cons_toLoadRect, ↓ View.readCov_fill]
  frame_out
  rw [last_apply]

theorem idx0 : ∀ t : Fin cfg0.N, win0_0.index t = ![t.val % 4, 0] ∧ win0_1.index t = ![t.val % 4, t.val / 4] ∧
    win0_2.index t = ![t.val / 4, 0, 0] := by
  decide +kernel

theorem reference_apply (x0 : Vec Ideal Cert.DwInRefIdeal.S8192x1024 .f32) (x1 : Vec Ideal Cert.DwInRefIdeal.S8192x1536 .f32)
    (g : Fin 4) (i : Fin 1024) (j : Fin 384) :
    Cert.DwInRefIdeal.Read.val_main_v5 (F := Ideal) x0 x1 (ix3 g i j) =
      ∑ k : Fin 8192, x1 (ix2 k ⟨g.val * 384 + j.val, by omega⟩) * x0 (ix2 k i) := by
  unfold Cert.DwInRefIdeal.Read.val_main_v5 Cert.DwInRefIdeal.Read.val_main_v4 Cert.DwInRefIdeal.Read.val_main_v3
    Cert.DwInRefIdeal.Read.val_main_v2
  pointwise

theorem result (c : Dev nD) : (dats m 0 c).arrAt 2 cfg0.N =
    Cert.DwInRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 16 := lt_of_lt_of_eq t.isLt (show cfg0.N = 16 from N_0)
  have e2 : ∀ (u : Fin 1) (i : Fin 1024) (j : Fin 384), ((View.whole main_v2).slice (win0_2.rect t)).emb (ix3 u i j) = ix3 (⟨t.val / 4, by omega⟩ : Fin 4) i j := by
    intro u i j
    blk_ext [idx0 t]
  blk_simp
  rw [after0_2]
  idx_vars y
  rw [written m c t h3, scratch m c t h3]
  refine Eq.trans ?_ (congrArg (Cert.DwInRefIdeal.Read.val_main_v5 (F := Ideal) _ _) (e2 _ _ _).symm)
  rw [reference_apply]
  simp only [prod_apply]
  refine Cert.Products.sum_blocks (by decide) fun s k hl => ?_
  refine (mul_comm _ _).trans ?_
  congr 1
  · blk_ext [iblk, V, idx0]
  · blk_ext [iblk, V, idx0]

end Cert.DwInIdeal.Result

end
-- ==== Proof.DxInValue.lean ====
/- The gradient behind the input projection, carried back through the norm before it, and the gradient of that norm's gain: the values of
   the kernel are the reference's. -/
module

public import proofs.«01_k».proof.Proof.Gen.DxInIdeal.Value
public import proofs.«01_k».proof.Proof.Gen.DxInRefIdeal.Read
public import proofs.«01_k».proof.Proof.Products
public import proofs.«01_k».proof.Proof.Rms
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.DxInIdeal.Result

open Cert.DxInIdeal Cert.DxInIdeal.Gen Idealize.ShloMosaic Idealize.ShloMosaic.TcCoe Idealize.SL.Sem
open Idealize.ShloMosaic.Pipeline (Dat)

variable (m : (ℓ : Loc nD τ sig) → Buf (Elt Ideal) ℓ)

/-- One block's product. -/
theorem prod_apply (a : Vec Ideal S1024x384 .bf16) (b : Vec Ideal S1x1024x384 .bf16) (i j : Fin 1024) :
    k0_pay1 (F := Ideal) a b (ix2 i j) = ∑ k : Fin 384, a (ix2 i k) * b (ix3 0 j k) := by
  unfold k0_pay1
  pointwise

theorem first_apply (a : Vec Ideal S1024x384 .bf16) (b : Vec Ideal S1x1024x384 .bf16) : k0_pay2 (F := Ideal) a b = k0_pay1 (F := Ideal) a b := by
  funext y
  unfold k0_pay2
  pointwise

theorem next_apply (a : Vec Ideal S1024x384 .bf16) (b : Vec Ideal S1x1024x384 .bf16) (s : Vec Ideal S1024x1024 .f32) (y : S1024x1024.Idx) :
    k0_pay3 (F := Ideal) a b s y = s y + k0_pay1 (F := Ideal) a b y := by
  unfold k0_pay3
  pointwise

/-- The scratch at a last block of columns is what was there plus the block's product. -/
theorem scratch_last (c : Dev nD) (t : Fin cfg0.N) (h : t.val % 4 = 3) : (outsAt0 m c t.val t.isLt).2.2 =
    k0_pay3 (F := Ideal) (iblk m c 0 t) (iblk m c 1 t) (outsAt0 m c (t.val - 1) (by omega)).2.2 := by
  by_cases h3 : t.val < 4
  · rw [outsAt0_C m c t (by omega) (by omega) h h3]
    frame_out
    simp only [read_unread_whole]
  · rw [outsAt0_D m c t (by omega) (by omega) h h3]
    frame_out
    simp only [read_unread_whole]

/-- What the scratch holds after the last block of columns. -/
theorem scratch (c : Dev nD) (t : Fin cfg0.N) (h : t.val % 4 = 3) (y : S1024x1024.Idx) :
    (outsAt0 m c t.val t.isLt).2.2 y = ∑ s : Fin 4, k0_pay1 (F := Ideal)
      (iblk m c 0 ⟨4 * (t.val / 4) + s.val, Pipeline.run_point_lt_of_flush t h s⟩)
      (iblk m c 1 ⟨4 * (t.val / 4) + s.val, Pipeline.run_point_lt_of_flush t h s⟩) y := by
  rw [Pipeline.eq_sum_fin_of_reset_step_apply_of_flush (fun n h => (outsAt0 m c n h).2.2) 4 (fun _ => 0)
    (fun t => k0_pay1 (F := Ideal) (iblk m c 0 t) (iblk m c 1 t))
    (fun t h0 y => by
      rw [outsAt0_A m c t h0 (by omega) (by omega)]
      frame_out
      rw [first_apply, zero_add])
    (fun t h0 y => by
      by_cases h2 : t.val % 4 = 3
      · rw [scratch_last m c t h2, next_apply]
      · rw [outsAt0_B m c t h0 (by omega) h2]
        frame_out
        simp only [read_unread_whole]
        rw [next_apply]) t h y, zero_add]

/-- One row of a block, as a function of the column. -/
def row (x : Vec Ideal S1024x1024 .f32) (i : Fin 1024) (k : Fin 1024) : EReal := x (ix2 i k)

/-- One block of the gradient. -/
def blk (h b : Vec Ideal S1024x1024 .f32) (g : Vec Ideal S1x1024 .f32) (a : Vec Ideal S1024x1024 .f32) (i j : Fin 1024) : EReal :=
  Rms.fused (row h i) (row b i) (fun k => g (ix2 0 k)) (row a i) j

def whole (h b : Vec Ideal S1024x1024 .f32) (g : Vec Ideal S1x1024 .f32) (a : Vec Ideal S1024x1024 .f32) : Vec Ideal S1024x1024 .f32 :=
  fun y => blk h b g a (y 0) (y 1)

section Chunks
variable (h b : Vec Ideal S1024x1024 .f32) (g : Vec Ideal S1x1024 .f32) (a : Vec Ideal S1024x1024 .f32) (i : Fin 256) (j : Fin 1024)

/-- The four runs of 256 rows. -/
abbrev part (o : ℕ) (x : Vec Ideal S1024x1024 .f32) (inb : ∀ a, (![o, 0] : Fin 2 → Nat) a + (![256, 1024] : Fin 2 → Nat) a ≤ S1024x1024.size a) :
    Vec Ideal S256x1024 .f32 := View.ld x (Rect.unit ![o, 0] ![256, 1024] inb)

theorem chunk0 (inb : ∀ a, (![0, 0] : Fin 2 → Nat) a + (![256, 1024] : Fin 2 → Nat) a ≤ S1024x1024.size a) :
    k0_pay8 (F := Ideal) (part 0 h inb) (part 0 b inb) g (part 0 a inb) (ix2 i j) = blk h b g a ⟨0 + i.val, by omega⟩ j := by
  unfold part k0_pay8 k0_pay7 k0_pay6 blk Rms.fused Rms.scale row
  pointwise

theorem chunk256 (inb : ∀ a, (![256, 0] : Fin 2 → Nat) a + (![256, 1024] : Fin 2 → Nat) a ≤ S1024x1024.size a) :
    k0_pay13 (F := Ideal) (part 256 h inb) (part 256 b inb) g (part 256 a inb) (ix2 i j) = blk h b g a ⟨256 + i.val, by omega⟩ j := by
  unfold part k0_pay13 k0_pay12 k0_pay11 blk Rms.fused Rms.scale row
  pointwise

theorem chunk512 (inb : ∀ a, (![512, 0] : Fin 2 → Nat) a + (![256, 1024] : Fin 2 → Nat) a ≤ S1024x1024.size a) :
    k0_pay19 (F := Ideal) (part 512 h inb) (part 512 b inb) g (part 512 a inb) (ix2 i j) = blk h b g a ⟨512 + i.val, by omega⟩ j := by
  unfold part k0_pay19 k0_pay17 k0_pay16 blk Rms.fused Rms.scale row
  pointwise

theorem chunk768 (inb : ∀ a, (![768, 0] : Fin 2 → Nat) a + (![256, 1024] : Fin 2 → Nat) a ≤ S1024x1024.size a) :
    k0_pay24 (F := Ideal) (part 768 h inb) (part 768 b inb) g (part 768 a inb) (ix2 i j) = blk h b g a ⟨768 + i.val, by omega⟩ j := by
  unfold part k0_pay24 k0_pay22 k0_pay21 blk Rms.fused Rms.scale row
  pointwise

/-- What one block of rows adds to the gain's gradient. -/
def gain (h a : Vec Ideal S1024x1024 .f32) (j : Fin 1024) : EReal :=
  ∑ x : Fin 1024, a (ix2 x j) * (h (ix2 x j) * Ideal.rsqrt (Rms.scale (row h x)))

theorem gain_parts (p : Vec Ideal S1x1024 .f32)
    (i0 : ∀ a, (![0, 0] : Fin 2 → Nat) a + (![256, 1024] : Fin 2 → Nat) a ≤ S1024x1024.size a)
    (i1 : ∀ a, (![256, 0] : Fin 2 → Nat) a + (![256, 1024] : Fin 2 → Nat) a ≤ S1024x1024.size a)
    (i2 : ∀ a, (![512, 0] : Fin 2 → Nat) a + (![256, 1024] : Fin 2 → Nat) a ≤ S1024x1024.size a)
    (i3 : ∀ a, (![768, 0] : Fin 2 → Nat) a + (![256, 1024] : Fin 2 → Nat) a ≤ S1024x1024.size a) :
    k0_pay4 (F := Ideal) (k0_pay23 (F := Ideal) (part 768 h i3) (part 768 a i3))
      (k0_pay20 (F := Ideal) (k0_pay18 (F := Ideal) (part 512 h i2) (part 512 a i2))
        (k0_pay15 (F := Ideal) (k0_pay14 (F := Ideal) (part 256 h i1) (part 256 a i1)
          (k0_pay10 (F := Ideal) (k0_pay9 (F := Ideal) (part 0 h i0) (part 0 a i0) p))))) (ix2 0 j) = p (ix2 0 j) + gain h a j := by
  have e : gain h a j = ∑ s : Fin 4, ∑ k : Fin 256, a (ix2 ⟨s.val * 256 + k.val, by omega⟩ j) *
      (h (ix2 ⟨s.val * 256 + k.val, by omega⟩ j) * Ideal.rsqrt (Rms.scale (row h ⟨s.val * 256 + k.val, by omega⟩))) :=
    (Cert.Products.sum_blocks (by decide) fun s k hl => rfl).symm
  rw [e, Fin.sum_univ_four, ← add_assoc, ← add_assoc, ← add_assoc]
  unfold part k0_pay4 k0_pay23 k0_pay22 k0_pay21 k0_pay20 k0_pay18 k0_pay17 k0_pay16 k0_pay15 k0_pay14 k0_pay12 k0_pay11 k0_pay10 k0_pay9 k0_pay7 k0_pay6 Rms.scale row
  pointwise

end Chunks

theorem out5 (c : Dev nD) (t : Fin cfg0.N) (h : t.val % 4 = 3) : (outsAt0 m c t.val t.isLt).1 =
    whole (iblk m c 2 t) (iblk m c 3 t) (iblk m c 4 t) (outsAt0 m c t.val t.isLt).2.2 := by
  rw [scratch_last m c t h]
  by_cases h3 : t.val < 4
  all_goals
    first
    | rw [outsAt0_C m c t (by omega) (by omega) h h3]
    | rw [outsAt0_D m c t (by omega) (by omega) h h3]
    dsimp only
    frame_open
    simp (disch := decide) only [↓ View.readCov_skip, ↓ View.readCov_cons_toLoadRect, ↓ View.readCov_fill]
    frame_out
    simp only [read_unread_whole]
    funext y
    refine View.canon_append_of_piecesOf (whole (iblk m c 2 t) (iblk m c 3 t) (iblk m c 4 t) (k0_pay3 (F := Ideal) (iblk m c 0 t) (iblk m c 1 t)
      (outsAt0 m c (t.val - 1) (by omega)).2.2)) [] [_, _, _, _] ⟨?_, ?_, ?_, ?_, trivial⟩ y (View.cover_of_tiledL _ ![256, 1024] (by sl_kernel_rfl) y)
    · exact Cert.Products.row_piece (e := .f32) (blk (iblk m c 2 t) (iblk m c 3 t) (iblk m c 4 t) _) 768 (fun i j h => chunk768 _ _ _ _ i j _) (by decide)
    · exact Cert.Products.row_piece (e := .f32) (blk (iblk m c 2 t) (iblk m c 3 t) (iblk m c 4 t) _) 512 (fun i j h => chunk512 _ _ _ _ i j _) (by decide)
    · exact Cert.Products.row_piece (e := .f32) (blk (iblk m c 2 t) (iblk m c 3 t) (iblk m c 4 t) _) 256 (fun i j h => chunk256 _ _ _ _ i j _) (by decide)
    · exact Cert.Products.row_piece (e := .f32) (blk (iblk m c 2 t) (iblk m c 3 t) (iblk m c 4 t) _) 0 (fun i j h => chunk0 _ _ _ _ i j _) (by decide)

theorem out6_first (c : Dev nD) (t : Fin cfg0.N) (h : t.val % 4 = 3) (h3 : t.val < 4) (j : Fin 1024) : (outsAt0 m c t.val t.isLt).2.1 (ix2 0 j) =
    gain (iblk m c 2 t) (outsAt0 m c t.val t.isLt).2.2 j := by
  rw [scratch_last m c t h, outsAt0_C m c t (by omega) (by omega) h h3]
  dsimp only
  frame_open
  simp (disch := decide) only [↓ View.readCov_skip, ↓ View.readCov_cons_toLoadRect, ↓ View.readCov_fill]
  frame_out
  simp only [read_unread_whole]
  refine (gain_parts _ _ j _ _ _ _ _).trans ?_
  unfold k0_pay5
  pointwise

theorem out6_next (c : Dev nD) (t : Fin cfg0.N) (h : t.val % 4 = 3) (h3 : ¬ t.val < 4) (j : Fin 1024) : (outsAt0 m c t.val t.isLt).2.1 (ix2 0 j) =
    (outsAt0 m c (t.val - 1) (by omega)).2.1 (ix2 0 j) + gain (iblk m c 2 t) (outsAt0 m c t.val t.isLt).2.2 j := by
  rw [scratch_last m c t h, outsAt0_D m c t (by omega) (by omega) h h3]
  dsimp only
  frame_open
  simp (disch := decide) only [↓ View.readCov_skip, ↓ View.readCov_cons_toLoadRect, ↓ View.readCov_fill]
  frame_out
  simp only [read_unread_whole]
  exact gain_parts _ _ j _ _ _ _ _

theorem out6_carried (c : Dev nD) (t : Fin cfg0.N) (h : t.val % 4 ≠ 3) : (outsAt0 m c t.val t.isLt).2.1 =
    (outsAt0 m c (t.val - 1) (by omega)).2.1 := by
  by_cases h0 : t.val % 4 = 0
  · rw [outsAt0_A m c t h0 (by omega) (by omega)]
    rfl
  · rw [outsAt0_B m c t h0 (by omega) (by omega)]
    rfl

/-- What block `q` of the rows adds, and nothing past the last block. -/
def gainOf (c : Dev nD) (j : Fin 1024) (q : ℕ) : EReal :=
  if h : 4 * q + 3 < cfg0.N then gain (iblk m c 2 ⟨4 * q + 3, h⟩) (outsAt0 m c (4 * q + 3) h).2.2 j else 0

/-- The gain's gradient, once the first block of rows is through. -/
theorem gain_sum (c : Dev nD) (j : Fin 1024) : ∀ (n : ℕ) (hn : n + 3 < cfg0.N),
    (outsAt0 m c (n + 3) hn).2.1 (ix2 0 j) = ∑ q ∈ Finset.range (n / 4 + 1), gainOf m c j q := by
  intro n
  induction n with
  | zero =>
    intro hn
    rw [out6_first m c ⟨0 + 3, hn⟩ (show (0 + 3) % 4 = 3 by omega) (show 0 + 3 < 4 by omega)]
    simp [gainOf, hn]
  | succ n ih =>
    intro hn
    by_cases h : (n + 1) % 4 = 0
    · have e : 4 * ((n + 1) / 4) = n + 1 := by omega
      have e' : (n + 1) / 4 = n / 4 + 1 := by omega
      rw [out6_next m c ⟨n + 1 + 3, hn⟩ (show (n + 1 + 3) % 4 = 3 by omega) (show ¬ n + 1 + 3 < 4 by omega), e', Finset.sum_range_succ, ← ih (by omega)]
      refine congrArg₂ (fun x y : EReal => x + y) rfl ?_
      have hq : 4 * (n / 4 + 1) + 3 = n + 1 + 3 := by omega
      have key : ∀ (k : ℕ) (hk : k < cfg0.N), k = n + 1 + 3 → gain (iblk m c 2 ⟨n + 1 + 3, hn⟩) (outsAt0 m c (n + 1 + 3) hn).2.2 j =
          gain (iblk m c 2 ⟨k, hk⟩) (outsAt0 m c k hk).2.2 j := by
        rintro k hk rfl
        rfl
      unfold gainOf
      rw [dif_pos (by omega)]
      exact key _ _ hq
    · rw [out6_carried m c ⟨n + 1 + 3, hn⟩ (show (n + 1 + 3) % 4 ≠ 3 by omega), show (n + 1) / 4 = n / 4 by omega]
      exact ih (by omega)

theorem idx0 : ∀ t : Fin cfg0.N, win0_0.index t = ![t.val / 4, t.val % 4] ∧ win0_1.index t = ![t.val % 4, 0, 0] ∧
    win0_2.index t = ![t.val / 4, 0] ∧ win0_3.index t = ![t.val / 4, 0] ∧ win0_4.index t = ![0, 0] ∧ win0_5.index t = ![t.val / 4, 0] ∧
    win0_6.index t = ![0, 0] := by
  decide +kernel

/-! The arguments. -/

section Args
variable (x0 : Vec Ideal S8192x1536 .f32) (x1 : Vec Ideal S1024x1536 .f32) (x2 x3 : Vec Ideal S8192x1024 .f32) (x4 : Vec Ideal S1024 .f32)

/-- The gradient of the norm's output. -/
def dxn (i : Fin 8192) (k : Fin 1024) : EReal := ∑ l : Fin 1536, x0 (ix2 i l) * x1 (ix2 k l)

theorem reference_rows (i : Fin 8192) (j : Fin 1024) : Cert.DxInRefIdeal.Read.val_main_v38 (F := Ideal) x0 x1 x2 x3 x4 (ix2 i j) =
    Rms.stepwise (fun k => x2 (ix2 i k)) (fun k => x3 (ix2 i k)) (fun k => x4 (ix1 k)) (dxn x0 x1 i) j := by
  simp only [Cert.DxInRefIdeal.Read.val_main_v0, Cert.DxInRefIdeal.Read.val_main_cst, Cert.DxInRefIdeal.Read.val_main_v1, Cert.DxInRefIdeal.Read.val_main_v2,
    Cert.DxInRefIdeal.Read.val_main_cst_0, Cert.DxInRefIdeal.Read.val_main_v3, Cert.DxInRefIdeal.Read.val_main_v4,
    Cert.DxInRefIdeal.Read.val_main_cst_1, Cert.DxInRefIdeal.Read.val_main_v5, Cert.DxInRefIdeal.Read.val_main_v6,
    Cert.DxInRefIdeal.Read.val_main_v7, Cert.DxInRefIdeal.Read.val_main_v8, Cert.DxInRefIdeal.Read.val_main_cst_2,
    Cert.DxInRefIdeal.Read.val_main_v9, Cert.DxInRefIdeal.Read.val_main_v10, Cert.DxInRefIdeal.Read.val_main_v11,
    Cert.DxInRefIdeal.Read.val_main_v12, Cert.DxInRefIdeal.Read.val_main_v13, Cert.DxInRefIdeal.Read.val_main_v14,
    Cert.DxInRefIdeal.Read.val_main_v15, Cert.DxInRefIdeal.Read.val_main_v16, Cert.DxInRefIdeal.Read.val_main_v17,
    Cert.DxInRefIdeal.Read.val_main_v18, Cert.DxInRefIdeal.Read.val_main_cst_3, Cert.DxInRefIdeal.Read.val_main_v19,
    Cert.DxInRefIdeal.Read.val_main_v20, Cert.DxInRefIdeal.Read.val_main_v21, Cert.DxInRefIdeal.Read.val_main_v22,
    Cert.DxInRefIdeal.Read.val_main_cst_4, Cert.DxInRefIdeal.Read.val_main_v23, Cert.DxInRefIdeal.Read.val_main_v24,
    Cert.DxInRefIdeal.Read.val_main_cst_5, Cert.DxInRefIdeal.Read.val_main_v25, Cert.DxInRefIdeal.Read.val_main_v26,
    Cert.DxInRefIdeal.Read.val_main_v27, Cert.DxInRefIdeal.Read.val_main_v28, Cert.DxInRefIdeal.Read.val_main_v29,
    Cert.DxInRefIdeal.Read.val_main_v30, Cert.DxInRefIdeal.Read.val_main_cst_6, Cert.DxInRefIdeal.Read.val_main_v31,
    Cert.DxInRefIdeal.Read.val_main_v32, Cert.DxInRefIdeal.Read.val_main_cst_7, Cert.DxInRefIdeal.Read.val_main_v33,
    Cert.DxInRefIdeal.Read.val_main_v34, Cert.DxInRefIdeal.Read.val_main_v35, Cert.DxInRefIdeal.Read.val_main_v36,
    Cert.DxInRefIdeal.Read.val_main_v37, Cert.DxInRefIdeal.Read.val_main_v38]
  unfold Rms.stepwise Rms.inner Rms.scale dxn
  pointwise
  simp only [Finset.univ_unique, Finset.sum_singleton]

theorem reference_gain (j : Fin 1024) : Cert.DxInRefIdeal.Read.val_main_v39 (F := Ideal) x0 x1 x2 (ix2 0 j) =
    ∑ i : Fin 8192, dxn x0 x1 i j * (x2 (ix2 i j) * Ideal.rsqrt (Rms.scale (fun k => x2 (ix2 i k)))) := by
  simp only [Cert.DxInRefIdeal.Read.val_main_v0, Cert.DxInRefIdeal.Read.val_main_cst, Cert.DxInRefIdeal.Read.val_main_v1, Cert.DxInRefIdeal.Read.val_main_v2,
    Cert.DxInRefIdeal.Read.val_main_cst_0, Cert.DxInRefIdeal.Read.val_main_v3, Cert.DxInRefIdeal.Read.val_main_v4,
    Cert.DxInRefIdeal.Read.val_main_cst_1, Cert.DxInRefIdeal.Read.val_main_v5, Cert.DxInRefIdeal.Read.val_main_v6,
    Cert.DxInRefIdeal.Read.val_main_v7, Cert.DxInRefIdeal.Read.val_main_v8, Cert.DxInRefIdeal.Read.val_main_cst_2,
    Cert.DxInRefIdeal.Read.val_main_v9, Cert.DxInRefIdeal.Read.val_main_v10, Cert.DxInRefIdeal.Read.val_main_v11,
    Cert.DxInRefIdeal.Read.val_main_v12, Cert.DxInRefIdeal.Read.val_main_v13, Cert.DxInRefIdeal.Read.val_main_v14,
    Cert.DxInRefIdeal.Read.val_main_v15, Cert.DxInRefIdeal.Read.val_main_v16, Cert.DxInRefIdeal.Read.val_main_v17,
    Cert.DxInRefIdeal.Read.val_main_v18, Cert.DxInRefIdeal.Read.val_main_cst_3, Cert.DxInRefIdeal.Read.val_main_v19,
    Cert.DxInRefIdeal.Read.val_main_v20, Cert.DxInRefIdeal.Read.val_main_v21, Cert.DxInRefIdeal.Read.val_main_v22,
    Cert.DxInRefIdeal.Read.val_main_cst_4, Cert.DxInRefIdeal.Read.val_main_v23, Cert.DxInRefIdeal.Read.val_main_v24,
    Cert.DxInRefIdeal.Read.val_main_cst_5, Cert.DxInRefIdeal.Read.val_main_v25, Cert.DxInRefIdeal.Read.val_main_v26,
    Cert.DxInRefIdeal.Read.val_main_v27, Cert.DxInRefIdeal.Read.val_main_v28, Cert.DxInRefIdeal.Read.val_main_v29,
    Cert.DxInRefIdeal.Read.val_main_v30, Cert.DxInRefIdeal.Read.val_main_cst_6, Cert.DxInRefIdeal.Read.val_main_v31,
    Cert.DxInRefIdeal.Read.val_main_v32, Cert.DxInRefIdeal.Read.val_main_cst_7, Cert.DxInRefIdeal.Read.val_main_v33,
    Cert.DxInRefIdeal.Read.val_main_v34, Cert.DxInRefIdeal.Read.val_main_v35, Cert.DxInRefIdeal.Read.val_main_v36,
    Cert.DxInRefIdeal.Read.val_main_v37, Cert.DxInRefIdeal.Read.val_main_v38, Cert.DxInRefIdeal.Read.val_main_v39]
  unfold Rms.scale dxn
  pointwise
  simp only [Finset.univ_unique, Finset.sum_singleton]
  exact Finset.sum_congr rfl fun x _ => mul_comm _ _

end Args

/-- The scratch after the last block of columns: a block of rows of the gradient of the norm's output. -/
theorem scratch_row (c : Dev nD) (t : Fin cfg0.N) (h : t.val % 4 = 3) (i : Fin 1024) (j : Fin 1024) (hi : t.val / 4 * 1024 + i.val < 8192) :
    (outsAt0 m c t.val t.isLt).2.2 (ix2 i j) =
      dxn (m ((c : Thread nD τ).loc main_arg0)) (m ((c : Thread nD τ).loc main_arg1)) ⟨t.val / 4 * 1024 + i.val, hi⟩ j := by
  have hN : t.val < 32 := lt_of_lt_of_eq t.isLt (show cfg0.N = 32 from N_0)
  rw [scratch m c t h]
  simp only [prod_apply]
  unfold dxn
  refine Cert.Products.sum_blocks (by decide) fun s k hl => ?_
  have e0 : ∀ (p : Fin cfg0.N), p.val / 4 = t.val / 4 → p.val % 4 = s.val → iblk m c 0 p (ix2 i k) =
      m ((c : Thread nD τ).loc main_arg0) (ix2 ⟨t.val / 4 * 1024 + i.val, hi⟩ ⟨s.val * 384 + k.val, hl⟩) := by
    intro p hp hs
    blk_ext [iblk, V, idx0 p, hp, hs]
  have e1 : ∀ (p : Fin cfg0.N), p.val % 4 = s.val → iblk m c 1 p (ix3 0 j k) =
      m ((c : Thread nD τ).loc main_arg1) (ix2 j ⟨s.val * 384 + k.val, hl⟩) := by
    intro p hs
    have e : ((View.whole main_v3).slice (win0_1.rect p)).emb (ix3 (0 : Fin 1) j k) = ix3 (⟨s.val, by omega⟩ : Fin 4) j k := by
      blk_ext [idx0 p, hs]
    unfold iblk
    blk_simp
    entry_read
    rw [e]
    pointwise
  exact congrArg₂ (fun x y : EReal => x * y) (e0 _ (by simp; omega) (by simp)) (e1 _ (by simp))

theorem at_h (c : Dev nD) (t : Fin cfg0.N) (i k : Fin 1024) (h : t.val / 4 * 1024 + i.val < 8192) :
    iblk m c 2 t (ix2 i k) = m ((c : Thread nD τ).loc main_arg2) (ix2 ⟨t.val / 4 * 1024 + i.val, h⟩ k) := by
  blk_ext [iblk, V, idx0 t]

theorem at_base (c : Dev nD) (t : Fin cfg0.N) (i k : Fin 1024) (h : t.val / 4 * 1024 + i.val < 8192) :
    iblk m c 3 t (ix2 i k) = m ((c : Thread nD τ).loc main_arg3) (ix2 ⟨t.val / 4 * 1024 + i.val, h⟩ k) := by
  blk_ext [iblk, V, idx0 t]

theorem at_g (c : Dev nD) (t : Fin cfg0.N) (k : Fin 1024) :
    iblk m c 4 t (ix2 0 k) = m ((c : Thread nD τ).loc main_arg4) (ix1 k) := by
  have e : ((View.whole main_v4).slice (win0_4.rect t)).emb (ix2 (0 : Fin 1) k) = ix2 (0 : Fin 1) k := by
    blk_ext [idx0 t]
  unfold iblk
  blk_simp
  entry_read
  rw [e]
  pointwise

/-- One block of rows is the reference's. -/
theorem rows (c : Dev nD) (t : Fin cfg0.N) (h : t.val % 4 = 3) (i j : Fin 1024) (hi : t.val / 4 * 1024 + i.val < 8192) :
    blk (iblk m c 2 t) (iblk m c 3 t) (iblk m c 4 t) (outsAt0 m c t.val t.isLt).2.2 i j =
      Cert.DxInRefIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix2 ⟨t.val / 4 * 1024 + i.val, hi⟩ j) := by
  rw [reference_rows]
  unfold blk
  rw [Rms.fused_eq Rms.width1024]
  have eh : row (iblk m c 2 t) i = fun k => m ((c : Thread nD τ).loc main_arg2) (ix2 ⟨t.val / 4 * 1024 + i.val, hi⟩ k) :=
    funext fun k => at_h m c t i k hi
  have eb : row (iblk m c 3 t) i = fun k => m ((c : Thread nD τ).loc main_arg3) (ix2 ⟨t.val / 4 * 1024 + i.val, hi⟩ k) :=
    funext fun k => at_base m c t i k hi
  have ea : row (outsAt0 m c t.val t.isLt).2.2 i =
      dxn (m ((c : Thread nD τ).loc main_arg0)) (m ((c : Thread nD τ).loc main_arg1)) ⟨t.val / 4 * 1024 + i.val, hi⟩ :=
    funext fun k => scratch_row m c t h i k hi
  have eg : (fun k : Fin 1024 => (iblk m c 4 t (ix2 0 k) : EReal)) = fun k => m ((c : Thread nD τ).loc main_arg4) (ix1 k) :=
    funext fun k => at_g m c t k
  rw [eh, eb, ea]
  exact congrArg (fun g => Rms.stepwise _ _ g _ j) eg

theorem result5 (c : Dev nD) : (dats m 0 c).arrAt 5 cfg0.N =
    Cert.DxInRefIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 : t.val % 4 = 3 := (flush0_5 t).mp hf
  have hN : t.val < 32 := lt_of_lt_of_eq t.isLt (show cfg0.N = 32 from N_0)
  blk_simp
  rw [after0_5, out5 m c t h3]
  idx_vars y
  have e : ((View.whole main_v5_0).slice (win0_5.rect t)).emb (ix2 y0 y1) = ix2 (⟨t.val / 4 * 1024 + y0.val, by omega⟩ : Fin 8192) y1 := by
    blk_ext [idx0 t]
  refine Eq.trans ?_ (congrArg (Cert.DxInRefIdeal.Read.val_main_v38 (F := Ideal) _ _ _ _ _) e.symm)
  exact rows m c t h3 y0 y1 (by omega)

theorem result6 (c : Dev nD) : (dats m 0 c).arrAt 6 cfg0.N =
    Cert.DxInRefIdeal.Read.val_main_v39 (F := Ideal) (m ((c : Thread nD τ).loc main_arg0)) (m ((c : Thread nD τ).loc main_arg1))
        (m ((c : Thread nD τ).loc main_arg2)) := by
  refine (dats m 0 c).arrAt_eq_of_covers 6 _ (by decide +kernel) fun t hf y => ?_
  have hN : t.val < 32 := lt_of_lt_of_eq t.isLt (show cfg0.N = 32 from N_0)
  have h3 : t.val % 32 = 31 := (flush0_6 t).mp hf
  blk_simp
  rw [after0_6]
  idx_vars y
  have e : ((View.whole main_v5_1).slice (win0_6.rect t)).emb (ix2 y0 y1) = ix2 y0 y1 := by
    blk_ext [idx0 t]
  refine Eq.trans ?_ (congrArg (Cert.DxInRefIdeal.Read.val_main_v39 (F := Ideal) _ _ _) e.symm)
  obtain rfl : y0 = 0 := Subsingleton.elim _ _
  rw [reference_gain]
  have h31 : 28 + 3 < cfg0.N := lt_of_lt_of_eq (by decide) N_0.symm
  have et : t = ⟨28 + 3, h31⟩ := Fin.ext (show t.val = 28 + 3 by omega)
  subst et
  refine (gain_sum m c y1 28 h31).trans ?_
  rw [show 28 / 4 + 1 = 8 from rfl, Finset.sum_range]
  have key : ∀ q : Fin 8, gainOf m c y1 q.val = ∑ x : Fin 1024, dxn (m ((c : Thread nD τ).loc main_arg0)) (m ((c : Thread nD τ).loc main_arg1)) ⟨q.val * 1024 + x.val, by omega⟩ y1 *
      @HMul.hMul EReal EReal EReal _ (m ((c : Thread nD τ).loc main_arg2) (ix2 ⟨q.val * 1024 + x.val, by omega⟩ y1))
        (Ideal.rsqrt (Rms.scale (fun k => m ((c : Thread nD τ).loc main_arg2) (ix2 ⟨q.val * 1024 + x.val, by omega⟩ k)))) := by
    intro q
    unfold gainOf
    have hq : 4 * q.val + 3 < cfg0.N := lt_of_lt_of_eq (by omega) N_0.symm
    rw [dif_pos hq]
    unfold gain
    refine Finset.sum_congr rfl fun x _ => ?_
    have hd : (4 * q.val + 3) / 4 = q.val := by omega
    have ha := scratch_row m c ⟨4 * q.val + 3, hq⟩ (show (4 * q.val + 3) % 4 = 3 by omega) x y1 (by simp only [hd]; omega)
    have hh : ∀ k, iblk m c 2 ⟨4 * q.val + 3, hq⟩ (ix2 x k) = m ((c : Thread nD τ).loc main_arg2) (ix2 ⟨q.val * 1024 + x.val, by omega⟩ k) := by
      intro k
      have := at_h m c ⟨4 * q.val + 3, hq⟩ x k (by simp only [hd]; omega)
      simpa only [hd] using this
    have er : row (iblk m c 2 ⟨4 * q.val + 3, hq⟩) x = fun k => m ((c : Thread nD τ).loc main_arg2) (ix2 ⟨q.val * 1024 + x.val, by omega⟩ k) :=
      funext hh
    simp only [hd] at ha
    rw [er]
    exact congrArg₂ (fun x y : EReal => x * y) ha (congrArg (fun x : EReal => x * Ideal.rsqrt (Rms.scale _)) (hh y1))
  simp only [key]
  exact Cert.Products.sum_blocks (by decide) fun s k hl => rfl

end Cert.DxInIdeal.Result

end
-- ==== Proof.WInValue.lean ====
/- The input projection: the value of the kernel is the reference's. -/
module

public import proofs.«01_k».proof.Proof.Gen.WInIdeal.Value
public import proofs.«01_k».proof.Proof.Gen.WInRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WInIdeal.Result

open Cert.WInIdeal Cert.WInIdeal.Gen Idealize.ShloMosaic Idealize.ShloMosaic.TcCoe Idealize.SL.Sem
open Idealize.ShloMosaic.Pipeline (Dat)

variable (m : (ℓ : Loc nD τ sig) → Buf (Elt Ideal) ℓ)

/-- The product of a block of rows and a block of columns, at an entry. -/
theorem prod_apply (a : Vec Ideal S1024x1024 .bf16) (b : Vec Ideal S1x1024x384 .bf16) (i : Fin 1024) (j : Fin 384) :
    k0_pay1 (F := Ideal) a b (ix2 i j) = ∑ k : Fin 1024, a (ix2 i k) * b (ix3 0 k j) := by
  unfold k0_pay1
  pointwise

theorem value (c : Dev nD) (t : Fin cfg0.N) : (dats m 0 c).after 2 t = k0_pay1 (F := Ideal) (iblk m c 0 t) (iblk m c 1 t) := by
  rw [after0_2]
  frame_open
  frame_out

theorem idx0 : ∀ t : Fin cfg0.N, win0_0.index t = ![t.val / 4, 0] ∧ win0_1.index t = ![t.val % 4, 0, 0] ∧
    win0_2.index t = ![t.val / 4, t.val % 4] := by
  decide +kernel

theorem at_a (c : Dev nD) (t : Fin cfg0.N) (i k : Fin 1024) (h : t.val / 4 * 1024 + i.val < 8192) :
    iblk m c 0 t (ix2 i k) = m ((c : Thread nD τ).loc main_arg0) (ix2 ⟨t.val / 4 * 1024 + i.val, h⟩ k) := by
  blk_ext [iblk, V, idx0 t]

theorem at_b (c : Dev nD) (t : Fin cfg0.N) (k : Fin 1024) (j : Fin 384) (h : t.val % 4 * 384 + j.val < 1536) :
    iblk m c 1 t (ix3 0 k j) = m ((c : Thread nD τ).loc main_arg1) (ix2 k ⟨t.val % 4 * 384 + j.val, h⟩) := by
  have e1 : ((View.whole main_v3).slice (win0_1.rect t)).emb (ix3 (0 : Fin 1) k j) = ix3 (⟨t.val % 4, by omega⟩ : Fin 4) k j := by
    blk_ext [idx0 t]
  unfold iblk
  blk_simp
  entry_read
  rw [e1]
  pointwise

theorem reference_apply (x0 : Vec Ideal Cert.WInRefIdeal.S8192x1024 .f32) (x1 : Vec Ideal Cert.WInRefIdeal.S1024x1536 .f32)
    (i : Fin 8192) (j : Fin 1536) :
    Cert.WInRefIdeal.Read.val_main_v0 (F := Ideal) x0 x1 (ix2 i j) = ∑ k : Fin 1024, x0 (ix2 i k) * x1 (ix2 k j) := by
  unfold Cert.WInRefIdeal.Read.val_main_v0
  pointwise

theorem result (c : Dev nD) : (dats m 0 c).arrAt 2 cfg0.N =
    Cert.WInRefIdeal.Read.val_main_v0 (F := Ideal) (m ((c : Thread nD τ).loc main_arg0)) (m ((c : Thread nD τ).loc main_arg1)) := by
  refine (dats m 0 c).arrAt_eq_of_covers 2 _ (by decide +kernel) fun t hf y => ?_
  have hN : t.val < 32 := lt_of_lt_of_eq t.isLt (show cfg0.N = 32 from N_0)
  blk_simp
  rw [value]
  idx_vars y
  have e2 : ((View.whole main_v4).slice (win0_2.rect t)).emb (ix2 y0 y1) =
      ix2 (⟨t.val / 4 * 1024 + y0.val, by omega⟩ : Fin 8192) (⟨t.val % 4 * 384 + y1.val, by omega⟩ : Fin 1536) := by
    blk_ext [idx0 t]
  refine Eq.trans ?_ (congrArg (Cert.WInRefIdeal.Read.val_main_v0 (F := Ideal) _ _) e2.symm)
  rw [reference_apply, prod_apply]
  exact Finset.sum_congr (M := EReal) rfl fun k _ =>
    congrArg₂ (fun x y : EReal => x * y) (at_a m c t y0 k (by omega)) (at_b m c t k y1 (by omega))

end Cert.WInIdeal.Result

end
-- ==== Proof.WOutValue.lean ====
/- The output projection onto the residual stream and the norm behind it: the values of the kernel are the reference's. -/
module

public import proofs.«01_k».proof.Proof.Gen.WOutIdeal.Value
public import proofs.«01_k».proof.Proof.Gen.WOutRefIdeal.Read
public import proofs.«01_k».proof.Proof.Products
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WOutIdeal.Result

open Cert.WOutIdeal Cert.WOutIdeal.Gen Idealize.ShloMosaic Idealize.ShloMosaic.TcCoe Idealize.SL.Sem
open Idealize.ShloMosaic.Pipeline (Dat)

variable (m : (ℓ : Loc nD τ sig) → Buf (Elt Ideal) ℓ)

section Blocks
variable (x0 x1 : Vec Ideal S1024x1024 .bf16) (x2 : Vec Ideal S1024x1024 .f32) (x3 : Vec Ideal S1x1024 .f32)

/-- One block of the residual stream. -/
def blk (i j : Fin 1024) : EReal := x2 (ix2 i j) + ∑ k : Fin 1024, x0 (ix2 i k) * x1 (ix2 k j)

/-- One block of the norm's output. -/
def nrm (i j : Fin 1024) : EReal :=
  blk x0 x1 x2 i j * Ideal.rsqrt (Rms.scale (blk x0 x1 x2 i)) * x3 (ix2 0 j)

def whole : Vec Ideal S1024x1024 .f32 := fun y => blk x0 x1 x2 (y 0) (y 1)

def rounded : Vec Ideal S1024x1024 .bf16 := fun y => nrm x0 x1 x2 x3 (y 0) (y 1)

/-- A run of 256 rows. -/
abbrev part (o : ℕ) (inb : ∀ a, (![o, 0] : Fin 2 → Nat) a + (![256, 1024] : Fin 2 → Nat) a ≤ S1024x1024.size a) :
    Vec Ideal S256x1024 .f32 := View.ld x2 (Rect.unit ![o, 0] ![256, 1024] inb)

variable (i : Fin 256) (j : Fin 1024)

theorem chunk0 (inb : ∀ a, (![0, 0] : Fin 2 → Nat) a + (![256, 1024] : Fin 2 → Nat) a ≤ S1024x1024.size a) :
    k0_pay7 (F := Ideal) x0 x1 (part x2 0 inb) (ix2 i j) = blk x0 x1 x2 ⟨0 + i.val, by omega⟩ j := by
  unfold part k0_pay7 k0_pay6 k0_pay5 blk
  pointwise

theorem chunk256 (inb : ∀ a, (![256, 0] : Fin 2 → Nat) a + (![256, 1024] : Fin 2 → Nat) a ≤ S1024x1024.size a) :
    k0_pay12 (F := Ideal) (k0_pay10 (F := Ideal) x0 x1 (part x2 256 inb)) (ix2 i j) = blk x0 x1 x2 ⟨256 + i.val, by omega⟩ j := by
  unfold part k0_pay12 k0_pay10 k0_pay5 blk
  pointwise

theorem chunk512 (inb : ∀ a, (![512, 0] : Fin 2 → Nat) a + (![256, 1024] : Fin 2 → Nat) a ≤ S1024x1024.size a) :
    k0_pay15 (F := Ideal) (k0_pay5 (F := Ideal) x0 x1) (part x2 512 inb) (ix2 i j) = blk x0 x1 x2 ⟨512 + i.val, by omega⟩ j := by
  unfold part k0_pay15 k0_pay14 k0_pay5 blk
  pointwise

theorem chunk768 (inb : ∀ a, (![768, 0] : Fin 2 → Nat) a + (![256, 1024] : Fin 2 → Nat) a ≤ S1024x1024.size a) :
    k0_pay3 (F := Ideal) (k0_pay5 (F := Ideal) x0 x1) (part x2 768 inb) (ix2 i j) = blk x0 x1 x2 ⟨768 + i.val, by omega⟩ j := by
  unfold part k0_pay3 k0_pay2 k0_pay5 blk
  pointwise

theorem half0 (inb : ∀ a, (![0, 0] : Fin 2 → Nat) a + (![256, 1024] : Fin 2 → Nat) a ≤ S1024x1024.size a) :
    k0_pay8 (F := Ideal) x0 x1 (part x2 0 inb) x3 (ix2 i j) = nrm x0 x1 x2 x3 ⟨0 + i.val, by omega⟩ j := by
  unfold part k0_pay8 k0_pay6 k0_pay5 nrm Rms.scale blk
  pointwise

theorem half256 (inb : ∀ a, (![256, 0] : Fin 2 → Nat) a + (![256, 1024] : Fin 2 → Nat) a ≤ S1024x1024.size a) :
    k0_pay13 (F := Ideal) (k0_pay9 (F := Ideal) x3) (k0_pay10 (F := Ideal) x0 x1 (part x2 256 inb)) (k0_pay11 (F := Ideal) x0 x1 (part x2 256 inb)) (ix2 i j) = nrm x0 x1 x2 x3 ⟨256 + i.val, by omega⟩ j := by
  unfold part k0_pay13 k0_pay11 k0_pay10 k0_pay9 k0_pay5 nrm Rms.scale blk
  pointwise

theorem half512 (inb : ∀ a, (![512, 0] : Fin 2 → Nat) a + (![256, 1024] : Fin 2 → Nat) a ≤ S1024x1024.size a) :
    k0_pay1 (F := Ideal) (k0_pay16 (F := Ideal) (k0_pay5 (F := Ideal) x0 x1) (part x2 512 inb) x3) (ix2 i j) = nrm x0 x1 x2 x3 ⟨512 + i.val, by omega⟩ j := by
  unfold part k0_pay1 k0_pay16 k0_pay14 k0_pay5 nrm Rms.scale blk
  pointwise

theorem half768 (inb : ∀ a, (![768, 0] : Fin 2 → Nat) a + (![256, 1024] : Fin 2 → Nat) a ≤ S1024x1024.size a) :
    k0_pay4 (F := Ideal) (k0_pay5 (F := Ideal) x0 x1) (part x2 768 inb) x3 (ix2 i j) = nrm x0 x1 x2 x3 ⟨768 + i.val, by omega⟩ j := by
  unfold part k0_pay4 k0_pay2 k0_pay5 nrm Rms.scale blk
  pointwise

end Blocks

theorem out4 (c : Dev nD) (t : Fin cfg0.N) : (dats m 0 c).after 4 t = whole (iblk m c 0 t) (iblk m c 1 t) (iblk m c 2 t) := by
  rw [after0_4]
  unfold_out out0_4
  frame_out
  funext y
  refine View.canon_append_of_piecesOf (whole (iblk m c 0 t) (iblk m c 1 t) (iblk m c 2 t)) [] [_, _, _, _] ⟨?_, ?_, ?_, ?_, trivial⟩ y
    (View.cover_of_tiledL _ ![256, 1024] (by sl_kernel_rfl) y)
  · exact Cert.Products.row_piece (e := .f32) (blk (iblk m c 0 t) (iblk m c 1 t) (iblk m c 2 t)) 768 (fun i j h => chunk768 _ _ _ i j _) (by decide)
  · exact Cert.Products.row_piece (e := .f32) (blk (iblk m c 0 t) (iblk m c 1 t) (iblk m c 2 t)) 512 (fun i j h => chunk512 _ _ _ i j _) (by decide)
  · exact Cert.Products.row_piece (e := .f32) (blk (iblk m c 0 t) (iblk m c 1 t) (iblk m c 2 t)) 256 (fun i j h => chunk256 _ _ _ i j _) (by decide)
  · exact Cert.Products.row_piece (e := .f32) (blk (iblk m c 0 t) (iblk m c 1 t) (iblk m c 2 t)) 0 (fun i j h => chunk0 _ _ _ i j _) (by decide)

theorem out5 (c : Dev nD) (t : Fin cfg0.N) : (dats m 0 c).after 5 t = rounded (iblk m c 0 t) (iblk m c 1 t) (iblk m c 2 t) (iblk m c 3 t) := by
  rw [after0_5]
  unfold_out out0_5
  frame_out
  funext y
  refine View.canon_append_of_piecesOf (rounded (iblk m c 0 t) (iblk m c 1 t) (iblk m c 2 t) (iblk m c 3 t)) [] [_, _, _, _] ⟨?_, ?_, ?_, ?_, trivial⟩ y
    (View.cover_of_tiledL _ ![256, 1024] (by sl_kernel_rfl) y)
  · exact Cert.Products.row_piece (e := .bf16) (nrm (iblk m c 0 t) (iblk m c 1 t) (iblk m c 2 t) (iblk m c 3 t)) 768 (fun i j h => half768 _ _ _ _ i j _) (by decide)
  · exact Cert.Products.row_piece (e := .bf16) (nrm (iblk m c 0 t) (iblk m c 1 t) (iblk m c 2 t) (iblk m c 3 t)) 512 (fun i j h => half512 _ _ _ _ i j _) (by decide)
  · exact Cert.Products.row_piece (e := .bf16) (nrm (iblk m c 0 t) (iblk m c 1 t) (iblk m c 2 t) (iblk m c 3 t)) 256 (fun i j h => half256 _ _ _ _ i j _) (by decide)
  · exact Cert.Products.row_piece (e := .bf16) (nrm (iblk m c 0 t) (iblk m c 1 t) (iblk m c 2 t) (iblk m c 3 t)) 0 (fun i j h => half0 _ _ _ _ i j _) (by decide)

theorem idx0 : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![t.val, 0] := by
  decide +kernel

/-! The arguments. -/

section Args
variable (x0 : Vec Ideal S8192x1024 .f32) (x1 : Vec Ideal S1024x1024 .f32) (x2 : Vec Ideal S8192x1024 .f32) (x3 : Vec Ideal S1024 .f32)

/-- The residual stream. -/
def stream (i : Fin 8192) (j : Fin 1024) : EReal := x2 (ix2 i j) + ∑ k : Fin 1024, x0 (ix2 i k) * x1 (ix2 k j)

theorem reference_stream (i : Fin 8192) (j : Fin 1024) : Cert.WOutRefIdeal.Read.val_main_v1 (F := Ideal) x0 x1 x2 (ix2 i j) = stream x0 x1 x2 i j := by
  simp only [Cert.WOutRefIdeal.Read.val_main_v0, Cert.WOutRefIdeal.Read.val_main_v1]
  unfold stream
  pointwise

theorem reference_norm (i : Fin 8192) (j : Fin 1024) : Cert.WOutRefIdeal.Read.val_main_v15 (F := Ideal) x0 x1 x2 x3 (ix2 i j) =
    stream x0 x1 x2 i j * Ideal.rsqrt (Rms.scale (stream x0 x1 x2 i)) * x3 (ix1 j) := by
  simp only [Cert.WOutRefIdeal.Read.val_main_v0, Cert.WOutRefIdeal.Read.val_main_v1, Cert.WOutRefIdeal.Read.val_main_v2, Cert.WOutRefIdeal.Read.val_main_cst, Cert.WOutRefIdeal.Read.val_main_v3, Cert.WOutRefIdeal.Read.val_main_v4, Cert.WOutRefIdeal.Read.val_main_cst_0, Cert.WOutRefIdeal.Read.val_main_v5, Cert.WOutRefIdeal.Read.val_main_v6, Cert.WOutRefIdeal.Read.val_main_cst_1, Cert.WOutRefIdeal.Read.val_main_v7, Cert.WOutRefIdeal.Read.val_main_v8, Cert.WOutRefIdeal.Read.val_main_v9, Cert.WOutRefIdeal.Read.val_main_v10, Cert.WOutRefIdeal.Read.val_main_v11, Cert.WOutRefIdeal.Read.val_main_v12, Cert.WOutRefIdeal.Read.val_main_v13, Cert.WOutRefIdeal.Read.val_main_v14, Cert.WOutRefIdeal.Read.val_main_v15]
  unfold Rms.scale stream
  pointwise

end Args

theorem at_x (c : Dev nD) (t : Fin cfg0.N) (i k : Fin 1024) (h : t.val * 1024 + i.val < 8192) :
    iblk m c 0 t (ix2 i k) = m ((c : Thread nD τ).loc main_arg0) (ix2 ⟨t.val * 1024 + i.val, h⟩ k) := by
  blk_ext [iblk, V, idx0 t]

theorem at_w (c : Dev nD) (t : Fin cfg0.N) (k j : Fin 1024) :
    iblk m c 1 t (ix2 k j) = m ((c : Thread nD τ).loc main_arg1) (ix2 k j) := by
  blk_ext [iblk, V, idx0 t]

theorem at_h (c : Dev nD) (t : Fin cfg0.N) (i k : Fin 1024) (h : t.val * 1024 + i.val < 8192) :
    iblk m c 2 t (ix2 i k) = m ((c : Thread nD τ).loc main_arg2) (ix2 ⟨t.val * 1024 + i.val, h⟩ k) := by
  blk_ext [iblk, V, idx0 t]

theorem at_g (c : Dev nD) (t : Fin cfg0.N) (k : Fin 1024) :
    iblk m c 3 t (ix2 0 k) = m ((c : Thread nD τ).loc main_arg3) (ix1 k) := by
  have e : ((View.whole main_v2).slice (win0_3.rect t)).emb (ix2 (0 : Fin 1) k) = ix2 (0 : Fin 1) k := by
    blk_ext [idx0 t]
  unfold iblk
  blk_simp
  entry_read
  rw [e]
  pointwise

/-- One row of the residual stream is the arguments'. -/
theorem blk_row (c : Dev nD) (t : Fin cfg0.N) (i : Fin 1024) (h : t.val * 1024 + i.val < 8192) :
    blk (iblk m c 0 t) (iblk m c 1 t) (iblk m c 2 t) i =
      stream (m ((c : Thread nD τ).loc main_arg0)) (m ((c : Thread nD τ).loc main_arg1)) (m ((c : Thread nD τ).loc main_arg2))
        ⟨t.val * 1024 + i.val, h⟩ :=
  funext fun j => congrArg₂ (fun x y : EReal => x + y) (at_h m c t i j h)
    (Finset.sum_congr rfl fun k _ => congrArg₂ (fun x y : EReal => x * y) (at_x m c t i k h) (at_w m c t k j))

theorem result4 (c : Dev nD) : (dats m 0 c).arrAt 4 cfg0.N =
    Cert.WOutRefIdeal.Read.val_main_v1 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  have hN : t.val < 8 := lt_of_lt_of_eq t.isLt (show cfg0.N = 8 from N_0)
  blk_simp
  rw [out4]
  idx_vars y
  have e : ((View.whole main_v3_0).slice (win0_4.rect t)).emb (ix2 y0 y1) = ix2 (⟨t.val * 1024 + y0.val, by omega⟩ : Fin 8192) y1 := by
    blk_ext [idx0 t]
  refine Eq.trans ?_ (congrArg (Cert.WOutRefIdeal.Read.val_main_v1 (F := Ideal) _ _ _) e.symm)
  rw [reference_stream, ← blk_row]
  rfl

theorem result5 (c : Dev nD) : (dats m 0 c).arrAt 5 cfg0.N =
    Cert.WOutRefIdeal.Read.val_main_v15 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  have hN : t.val < 8 := lt_of_lt_of_eq t.isLt (show cfg0.N = 8 from N_0)
  blk_simp
  rw [out5]
  idx_vars y
  have e : ((View.whole main_v3_1).slice (win0_5.rect t)).emb (ix2 y0 y1) = ix2 (⟨t.val * 1024 + y0.val, by omega⟩ : Fin 8192) y1 := by
    blk_ext [idx0 t]
  refine Eq.trans ?_ (congrArg (Cert.WOutRefIdeal.Read.val_main_v15 (F := Ideal) _ _ _ _) e.symm)
  rw [reference_norm, ← blk_row]
  exact congrArg (fun g : EReal => _ * g) (at_g m c t y1)

end Cert.WOutIdeal.Result

end
-- ==== Proof.FfTwoValue.lean ====
/- The channel mixer's second product onto the residual stream and the norm behind it: the values of the kernel are the reference's. -/
module

public import proofs.«01_k».proof.Proof.Gen.FfTwoIdeal.Value
public import proofs.«01_k».proof.Proof.Gen.FfTwoRefIdeal.Read
public import proofs.«01_k».proof.Proof.Products
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfTwoIdeal.Result

open Cert.FfTwoIdeal Cert.FfTwoIdeal.Gen Idealize.ShloMosaic Idealize.ShloMosaic.TcCoe Idealize.SL.Sem
open Idealize.ShloMosaic.Pipeline (Dat)

variable (m : (ℓ : Loc nD τ sig) → Buf (Elt Ideal) ℓ)

/-- One block's product. -/
theorem prod_apply (a : Vec Ideal S1024x2048 .bf16) (b : Vec Ideal S2048x1024 .bf16) (i j : Fin 1024) :
    k0_pay1 (F := Ideal) a b (ix2 i j) = ∑ k : Fin 2048, a (ix2 i k) * b (ix2 k j) := by
  unfold k0_pay1
  pointwise

theorem first_apply (a : Vec Ideal S1024x2048 .bf16) (b : Vec Ideal S2048x1024 .bf16) : k0_pay2 (F := Ideal) a b = k0_pay1 (F := Ideal) a b := by
  funext y
  unfold k0_pay2
  pointwise

theorem next_apply (a : Vec Ideal S1024x2048 .bf16) (b : Vec Ideal S2048x1024 .bf16) (s : Vec Ideal S1024x1024 .f32) (y : S1024x1024.Idx) :
    k0_pay3 (F := Ideal) a b s y = s y + k0_pay1 (F := Ideal) a b y := by
  unfold k0_pay3
  pointwise

/-- The scratch at the second block of columns is what was there plus the block's product. -/
theorem scratch_last (c : Dev nD) (t : Fin cfg0.N) (h : t.val % 2 = 1) : (outsAt0 m c t.val t.isLt).2.2 =
    k0_pay3 (F := Ideal) (iblk m c 0 t) (iblk m c 1 t) (outsAt0 m c (t.val - 1) (by omega)).2.2 := by
  rw [outsAt0_B m c t (by omega) h h]
  frame_out
  simp only [read_unread_whole]

/-- What the scratch holds after the second block of columns. -/
theorem scratch (c : Dev nD) (t : Fin cfg0.N) (h : t.val % 2 = 1) (y : S1024x1024.Idx) :
    (outsAt0 m c t.val t.isLt).2.2 y = ∑ s : Fin 2, k0_pay1 (F := Ideal)
      (iblk m c 0 ⟨2 * (t.val / 2) + s.val, Pipeline.run_point_lt_of_flush t h s⟩)
      (iblk m c 1 ⟨2 * (t.val / 2) + s.val, Pipeline.run_point_lt_of_flush t h s⟩) y := by
  rw [Pipeline.eq_sum_fin_of_reset_step_apply_of_flush (fun n h => (outsAt0 m c n h).2.2) 2 (fun _ => 0)
    (fun t => k0_pay1 (F := Ideal) (iblk m c 0 t) (iblk m c 1 t))
    (fun t h0 y => by
      rw [outsAt0_A m c t h0 (by omega) (by omega)]
      frame_out
      rw [first_apply, zero_add])
    (fun t h0 y => by rw [scratch_last m c t (by omega), next_apply]) t h y, zero_add]

section Blocks
variable (h : Vec Ideal S1024x1024 .f32) (g : Vec Ideal S1x1024 .f32) (a : Vec Ideal S1024x1024 .f32)

/-- One block of the residual stream. -/
def blk (i j : Fin 1024) : EReal := h (ix2 i j) + a (ix2 i j)

/-- One block of the norm's output. -/
def nrm (i j : Fin 1024) : EReal :=
  blk h a i j * Ideal.rsqrt (Rms.scale (blk h a i)) * g (ix2 0 j)

def whole : Vec Ideal S1024x1024 .f32 := fun y => blk h a (y 0) (y 1)

def rounded : Vec Ideal S1024x1024 .bf16 := fun y => nrm h g a (y 0) (y 1)

/-- A run of 256 rows. -/
abbrev part (o : ℕ) (x : Vec Ideal S1024x1024 .f32) (inb : ∀ a, (![o, 0] : Fin 2 → Nat) a + (![256, 1024] : Fin 2 → Nat) a ≤ S1024x1024.size a) :
    Vec Ideal S256x1024 .f32 := View.ld x (Rect.unit ![o, 0] ![256, 1024] inb)

variable (i : Fin 256) (j : Fin 1024)

theorem chunk0 (inb : ∀ a, (![0, 0] : Fin 2 → Nat) a + (![256, 1024] : Fin 2 → Nat) a ≤ S1024x1024.size a) :
    k0_pay8 (F := Ideal) (part 0 h inb) (part 0 a inb) (ix2 i j) = blk h a ⟨0 + i.val, by omega⟩ j := by
  unfold part k0_pay8 k0_pay7 blk
  pointwise

theorem chunk256 (inb : ∀ a, (![256, 0] : Fin 2 → Nat) a + (![256, 1024] : Fin 2 → Nat) a ≤ S1024x1024.size a) :
    k0_pay13 (F := Ideal) (k0_pay11 (F := Ideal) (part 256 h inb) (part 256 a inb)) (ix2 i j) = blk h a ⟨256 + i.val, by omega⟩ j := by
  unfold part k0_pay13 k0_pay11 blk
  pointwise

theorem chunk512 (inb : ∀ a, (![512, 0] : Fin 2 → Nat) a + (![256, 1024] : Fin 2 → Nat) a ≤ S1024x1024.size a) :
    k0_pay16 (F := Ideal) (part 512 h inb) (part 512 a inb) (ix2 i j) = blk h a ⟨512 + i.val, by omega⟩ j := by
  unfold part k0_pay16 k0_pay15 blk
  pointwise

theorem chunk768 (inb : ∀ a, (![768, 0] : Fin 2 → Nat) a + (![256, 1024] : Fin 2 → Nat) a ≤ S1024x1024.size a) :
    k0_pay5 (F := Ideal) (part 768 h inb) (part 768 a inb) (ix2 i j) = blk h a ⟨768 + i.val, by omega⟩ j := by
  unfold part k0_pay5 k0_pay4 blk
  pointwise

theorem half0 (inb : ∀ a, (![0, 0] : Fin 2 → Nat) a + (![256, 1024] : Fin 2 → Nat) a ≤ S1024x1024.size a) :
    k0_pay9 (F := Ideal) (part 0 h inb) g (part 0 a inb) (ix2 i j) = nrm h g a ⟨0 + i.val, by omega⟩ j := by
  unfold part k0_pay9 k0_pay7 nrm Rms.scale blk
  pointwise

theorem half256 (inb : ∀ a, (![256, 0] : Fin 2 → Nat) a + (![256, 1024] : Fin 2 → Nat) a ≤ S1024x1024.size a) :
    k0_pay14 (F := Ideal) (k0_pay10 (F := Ideal) g) (k0_pay11 (F := Ideal) (part 256 h inb) (part 256 a inb)) (k0_pay12 (F := Ideal) (part 256 h inb) (part 256 a inb)) (ix2 i j) = nrm h g a ⟨256 + i.val, by omega⟩ j := by
  unfold part k0_pay14 k0_pay12 k0_pay11 k0_pay10 nrm Rms.scale blk
  pointwise

theorem half512 (inb : ∀ a, (![512, 0] : Fin 2 → Nat) a + (![256, 1024] : Fin 2 → Nat) a ≤ S1024x1024.size a) :
    k0_pay17 (F := Ideal) (part 512 h inb) g (part 512 a inb) (ix2 i j) = nrm h g a ⟨512 + i.val, by omega⟩ j := by
  unfold part k0_pay17 k0_pay15 nrm Rms.scale blk
  pointwise

theorem half768 (inb : ∀ a, (![768, 0] : Fin 2 → Nat) a + (![256, 1024] : Fin 2 → Nat) a ≤ S1024x1024.size a) :
    k0_pay6 (F := Ideal) (part 768 h inb) g (part 768 a inb) (ix2 i j) = nrm h g a ⟨768 + i.val, by omega⟩ j := by
  unfold part k0_pay6 k0_pay4 nrm Rms.scale blk
  pointwise

end Blocks

theorem out4 (c : Dev nD) (t : Fin cfg0.N) (h : t.val % 2 = 1) : (outsAt0 m c t.val t.isLt).1 =
    whole (iblk m c 2 t) (outsAt0 m c t.val t.isLt).2.2 := by
  rw [scratch_last m c t h, outsAt0_B m c t (by omega) h h]
  dsimp only
  frame_open
  simp (disch := decide) only [↓ View.readCov_skip, ↓ View.readCov_cons_toLoadRect, ↓ View.readCov_fill]
  frame_out
  simp only [read_unread_whole]
  funext y
  refine View.canon_append_of_piecesOf (whole (iblk m c 2 t) (k0_pay3 (F := Ideal) (iblk m c 0 t) (iblk m c 1 t)
    (outsAt0 m c (t.val - 1) (by omega)).2.2)) [] [_, _, _, _] ⟨?_, ?_, ?_, ?_, trivial⟩ y
    (View.cover_of_tiledL _ ![256, 1024] (by sl_kernel_rfl) y)
  · exact Cert.Products.row_piece (e := .f32) (blk (iblk m c 2 t) _) 768 (fun i j h => chunk768 _ _ i j _) (by decide)
  · exact Cert.Products.row_piece (e := .f32) (blk (iblk m c 2 t) _) 512 (fun i j h => chunk512 _ _ i j _) (by decide)
  · exact Cert.Products.row_piece (e := .f32) (blk (iblk m c 2 t) _) 256 (fun i j h => chunk256 _ _ i j _) (by decide)
  · exact Cert.Products.row_piece (e := .f32) (blk (iblk m c 2 t) _) 0 (fun i j h => chunk0 _ _ i j _) (by decide)

theorem out5 (c : Dev nD) (t : Fin cfg0.N) (h : t.val % 2 = 1) : (outsAt0 m c t.val t.isLt).2.1 =
    rounded (iblk m c 2 t) (iblk m c 3 t) (outsAt0 m c t.val t.isLt).2.2 := by
  rw [scratch_last m c t h, outsAt0_B m c t (by omega) h h]
  dsimp only
  frame_open
  simp (disch := decide) only [↓ View.readCov_skip, ↓ View.readCov_cons_toLoadRect, ↓ View.readCov_fill]
  frame_out
  simp only [read_unread_whole]
  funext y
  refine View.canon_append_of_piecesOf (rounded (iblk m c 2 t) (iblk m c 3 t) (k0_pay3 (F := Ideal) (iblk m c 0 t) (iblk m c 1 t)
    (outsAt0 m c (t.val - 1) (by omega)).2.2)) [] [_, _, _, _] ⟨?_, ?_, ?_, ?_, trivial⟩ y
    (View.cover_of_tiledL _ ![256, 1024] (by sl_kernel_rfl) y)
  · exact Cert.Products.row_piece (e := .bf16) (nrm (iblk m c 2 t) (iblk m c 3 t) _) 768 (fun i j h => half768 _ _ _ i j _) (by decide)
  · exact Cert.Products.row_piece (e := .bf16) (nrm (iblk m c 2 t) (iblk m c 3 t) _) 512 (fun i j h => half512 _ _ _ i j _) (by decide)
  · exact Cert.Products.row_piece (e := .bf16) (nrm (iblk m c 2 t) (iblk m c 3 t) _) 256 (fun i j h => half256 _ _ _ i j _) (by decide)
  · exact Cert.Products.row_piece (e := .bf16) (nrm (iblk m c 2 t) (iblk m c 3 t) _) 0 (fun i j h => half0 _ _ _ i j _) (by decide)

theorem idx0 : ∀ t : Fin cfg0.N, win0_0.index t = ![t.val / 2, t.val % 2] ∧ win0_1.index t = ![t.val % 2, 0] ∧
    win0_2.index t = ![t.val / 2, 0] ∧ win0_3.index t = ![0, 0] ∧ win0_4.index t = ![t.val / 2, 0] ∧ win0_5.index t = ![t.val / 2, 0] := by
  decide +kernel

/-! The arguments. -/

section Args
variable (x0 : Vec Ideal S8192x4096 .f32) (x1 : Vec Ideal S4096x1024 .f32) (x2 : Vec Ideal S8192x1024 .f32) (x3 : Vec Ideal S1024 .f32)

/-- The residual stream. -/
def stream (i : Fin 8192) (j : Fin 1024) : EReal := x2 (ix2 i j) + ∑ k : Fin 4096, x0 (ix2 i k) * x1 (ix2 k j)

theorem reference_stream (i : Fin 8192) (j : Fin 1024) : Cert.FfTwoRefIdeal.Read.val_main_v1 (F := Ideal) x0 x1 x2 (ix2 i j) = stream x0 x1 x2 i j := by
  simp only [Cert.FfTwoRefIdeal.Read.val_main_v0, Cert.FfTwoRefIdeal.Read.val_main_v1]
  unfold stream
  pointwise

theorem reference_norm (i : Fin 8192) (j : Fin 1024) : Cert.FfTwoRefIdeal.Read.val_main_v15 (F := Ideal) x0 x1 x2 x3 (ix2 i j) =
    stream x0 x1 x2 i j * Ideal.rsqrt (Rms.scale (stream x0 x1 x2 i)) * x3 (ix1 j) := by
  simp only [Cert.FfTwoRefIdeal.Read.val_main_v0, Cert.FfTwoRefIdeal.Read.val_main_v1, Cert.FfTwoRefIdeal.Read.val_main_v2, Cert.FfTwoRefIdeal.Read.val_main_cst, Cert.FfTwoRefIdeal.Read.val_main_v3, Cert.FfTwoRefIdeal.Read.val_main_v4, Cert.FfTwoRefIdeal.Read.val_main_cst_0, Cert.FfTwoRefIdeal.Read.val_main_v5, Cert.FfTwoRefIdeal.Read.val_main_v6, Cert.FfTwoRefIdeal.Read.val_main_cst_1, Cert.FfTwoRefIdeal.Read.val_main_v7, Cert.FfTwoRefIdeal.Read.val_main_v8, Cert.FfTwoRefIdeal.Read.val_main_v9, Cert.FfTwoRefIdeal.Read.val_main_v10, Cert.FfTwoRefIdeal.Read.val_main_v11, Cert.FfTwoRefIdeal.Read.val_main_v12, Cert.FfTwoRefIdeal.Read.val_main_v13, Cert.FfTwoRefIdeal.Read.val_main_v14, Cert.FfTwoRefIdeal.Read.val_main_v15]
  unfold Rms.scale stream
  pointwise

end Args

/-- The scratch after the second block of columns: a block of rows of the product. -/
theorem scratch_row (c : Dev nD) (t : Fin cfg0.N) (h : t.val % 2 = 1) (i : Fin 1024) (j : Fin 1024) (hi : t.val / 2 * 1024 + i.val < 8192) :
    (outsAt0 m c t.val t.isLt).2.2 (ix2 i j) =
      ∑ k : Fin 4096, @HMul.hMul EReal EReal EReal _ (m ((c : Thread nD τ).loc main_arg0) (ix2 ⟨t.val / 2 * 1024 + i.val, hi⟩ k)) (m ((c : Thread nD τ).loc main_arg1) (ix2 k j)) := by
  have hN : t.val < 16 := lt_of_lt_of_eq t.isLt (show cfg0.N = 16 from N_0)
  rw [scratch m c t h]
  simp only [prod_apply]
  refine Cert.Products.sum_blocks (by decide) fun s k hl => ?_
  have e0 : ∀ (p : Fin cfg0.N), p.val / 2 = t.val / 2 → p.val % 2 = s.val → iblk m c 0 p (ix2 i k) =
      m ((c : Thread nD τ).loc main_arg0) (ix2 ⟨t.val / 2 * 1024 + i.val, hi⟩ ⟨s.val * 2048 + k.val, hl⟩) := by
    intro p hp hs
    blk_ext [iblk, V, idx0 p, hp, hs]
  have e1 : ∀ (p : Fin cfg0.N), p.val % 2 = s.val → iblk m c 1 p (ix2 k j) =
      m ((c : Thread nD τ).loc main_arg1) (ix2 ⟨s.val * 2048 + k.val, hl⟩ j) := by
    intro p hs
    blk_ext [iblk, V, idx0 p, hs]
  exact congrArg₂ (fun x y : EReal => x * y) (e0 _ (show (2 * (t.val / 2) + s.val) / 2 = t.val / 2 by omega)
    (show (2 * (t.val / 2) + s.val) % 2 = s.val by omega)) (e1 _ (show (2 * (t.val / 2) + s.val) % 2 = s.val by omega))

theorem at_h (c : Dev nD) (t : Fin cfg0.N) (i k : Fin 1024) (h : t.val / 2 * 1024 + i.val < 8192) :
    iblk m c 2 t (ix2 i k) = m ((c : Thread nD τ).loc main_arg2) (ix2 ⟨t.val / 2 * 1024 + i.val, h⟩ k) := by
  blk_ext [iblk, V, idx0 t]

theorem at_g (c : Dev nD) (t : Fin cfg0.N) (k : Fin 1024) :
    iblk m c 3 t (ix2 0 k) = m ((c : Thread nD τ).loc main_arg3) (ix1 k) := by
  have e : ((View.whole main_v2).slice (win0_3.rect t)).emb (ix2 (0 : Fin 1) k) = ix2 (0 : Fin 1) k := by
    blk_ext [idx0 t]
  unfold iblk
  blk_simp
  entry_read
  rw [e]
  pointwise

/-- One row of the residual stream is the arguments'. -/
theorem blk_row (c : Dev nD) (t : Fin cfg0.N) (h1 : t.val % 2 = 1) (i : Fin 1024) (h : t.val / 2 * 1024 + i.val < 8192) :
    blk (iblk m c 2 t) (outsAt0 m c t.val t.isLt).2.2 i = stream (m ((c : Thread nD τ).loc main_arg0)) (m ((c : Thread nD τ).loc main_arg1)) (m ((c : Thread nD τ).loc main_arg2)) ⟨t.val / 2 * 1024 + i.val, h⟩ :=
  funext fun j => congrArg₂ (fun x y : EReal => x + y) (at_h m c t i j h) (scratch_row m c t h1 i j h)

theorem result4 (c : Dev nD) : (dats m 0 c).arrAt 4 cfg0.N = Cert.FfTwoRefIdeal.Read.val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have h1 : t.val % 2 = 1 := (flush0_4 t).mp hf
  have hN : t.val < 16 := lt_of_lt_of_eq t.isLt (show cfg0.N = 16 from N_0)
  blk_simp
  rw [after0_4, out4 m c t h1]
  idx_vars y
  have e : ((View.whole main_v3_0).slice (win0_4.rect t)).emb (ix2 y0 y1) = ix2 (⟨t.val / 2 * 1024 + y0.val, by omega⟩ : Fin 8192) y1 := by
    blk_ext [idx0 t]
  refine Eq.trans ?_ (congrArg (Cert.FfTwoRefIdeal.Read.val_main_v1 (F := Ideal) _ _ _) e.symm)
  rw [reference_stream, ← blk_row m c t h1]
  rfl

theorem result5 (c : Dev nD) : (dats m 0 c).arrAt 5 cfg0.N = Cert.FfTwoRefIdeal.Read.val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h1 : t.val % 2 = 1 := (flush0_5 t).mp hf
  have hN : t.val < 16 := lt_of_lt_of_eq t.isLt (show cfg0.N = 16 from N_0)
  blk_simp
  rw [after0_5, out5 m c t h1]
  idx_vars y
  have e : ((View.whole main_v3_1).slice (win0_5.rect t)).emb (ix2 y0 y1) = ix2 (⟨t.val / 2 * 1024 + y0.val, by omega⟩ : Fin 8192) y1 := by
    blk_ext [idx0 t]
  refine Eq.trans ?_ (congrArg (Cert.FfTwoRefIdeal.Read.val_main_v15 (F := Ideal) _ _ _ _) e.symm)
  rw [reference_norm, ← blk_row m c t h1]
  exact congrArg (fun g : EReal => _ * g) (at_g m c t y1)

end Cert.FfTwoIdeal.Result

end
-- ==== Proof.GateValue.lean ====
/- The gated per-layer embedding onto the residual stream, the gate, and the norm behind it: the values of the kernel are the reference's. -/
module

public import proofs.«01_k».proof.Proof.Gen.GateIdeal.Value
public import proofs.«01_k».proof.Proof.Gen.GateRefIdeal.Read
public import proofs.«01_k».proof.Proof.Products
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateIdeal.Result

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- The logistic function, as both sides spell it. -/
def logistic (x : EReal) : EReal :=
  Ideal.div (Ideal.ofBits .f32 0x3F800000#32) (Ideal.ofBits .f32 0x3F800000#32 + Ideal.exp (-x))

section Blocks
variable (x0 x1 : Vec Ideal S1024x1024 .bf16) (x2 x3 : Vec Ideal S1024x1024 .f32) (x4 : Vec Ideal S1x1024 .f32)

/-- One block of the gate. -/
def gate (i j : Fin 1024) : EReal := logistic (∑ k : Fin 1024, x0 (ix2 i k) * x1 (ix2 k j))

/-- One block of the residual stream. -/
def blk (i j : Fin 1024) : EReal := x2 (ix2 i j) + gate x0 x1 i j * x3 (ix2 i j)

/-- One block of the norm's output. -/
def nrm (i j : Fin 1024) : EReal :=
  blk x0 x1 x2 x3 i j * Ideal.rsqrt (Rms.scale (blk x0 x1 x2 x3 i)) * x4 (ix2 0 j)

def whole : Vec Ideal S1024x1024 .f32 := fun y => blk x0 x1 x2 x3 (y 0) (y 1)

def gates : Vec Ideal S1024x1024 .f32 := fun y => gate x0 x1 (y 0) (y 1)

def rounded : Vec Ideal S1024x1024 .bf16 := fun y => nrm x0 x1 x2 x3 x4 (y 0) (y 1)

/-- A run of 256 rows. -/
abbrev part (o : ℕ) (x : Vec Ideal S1024x1024 .f32) (inb : ∀ a, (![o, 0] : Fin 2 → Nat) a + (![256, 1024] : Fin 2 → Nat) a ≤ S1024x1024.size a) :
    Vec Ideal S256x1024 .f32 := View.ld x (Rect.unit ![o, 0] ![256, 1024] inb)

variable (i : Fin 256) (j : Fin 1024)

theorem chunk0 (inb : ∀ a, (![0, 0] : Fin 2 → Nat) a + (![256, 1024] : Fin 2 → Nat) a ≤ S1024x1024.size a) :
    k0_pay5 (F := Ideal) x0 x1 (part 0 x2 inb) (part 0 x3 inb) (ix2 i j) = blk x0 x1 x2 x3 ⟨0 + i.val, by omega⟩ j := by
  unfold part k0_pay5 k0_pay3 k0_pay2 k0_pay1 blk gate logistic
  pointwise
  all_goals simp only [zero_sub]

theorem open0 :
    k0_pay6 (F := Ideal) (k0_pay2 (F := Ideal) x0 x1) (ix2 i j) = gate x0 x1 ⟨0 + i.val, by omega⟩ j := by
  unfold k0_pay6 k0_pay2 k0_pay1 gate logistic
  pointwise
  all_goals simp only [zero_sub]

theorem half0 (inb : ∀ a, (![0, 0] : Fin 2 → Nat) a + (![256, 1024] : Fin 2 → Nat) a ≤ S1024x1024.size a) :
    k0_pay7 (F := Ideal) (k0_pay4 (F := Ideal) x0 x1 (part 0 x2 inb) (part 0 x3 inb) x4) (ix2 i j) = nrm x0 x1 x2 x3 x4 ⟨0 + i.val, by omega⟩ j := by
  unfold part k0_pay7 k0_pay4 k0_pay3 k0_pay2 k0_pay1 nrm Rms.scale blk gate logistic
  pointwise
  all_goals simp only [zero_sub]

theorem chunk256 (inb : ∀ a, (![256, 0] : Fin 2 → Nat) a + (![256, 1024] : Fin 2 → Nat) a ≤ S1024x1024.size a) :
    k0_pay11 (F := Ideal) (k0_pay1 (F := Ideal) x0 x1) (part 256 x2 inb) (part 256 x3 inb) (ix2 i j) = blk x0 x1 x2 x3 ⟨256 + i.val, by omega⟩ j := by
  unfold part k0_pay11 k0_pay9 k0_pay8 k0_pay1 blk gate logistic
  pointwise
  all_goals simp only [zero_sub]

theorem open256 :
    k0_pay12 (F := Ideal) (k0_pay1 (F := Ideal) x0 x1) (ix2 i j) = gate x0 x1 ⟨256 + i.val, by omega⟩ j := by
  unfold k0_pay12 k0_pay8 k0_pay1 gate logistic
  pointwise
  all_goals simp only [zero_sub]

theorem half256 (inb : ∀ a, (![256, 0] : Fin 2 → Nat) a + (![256, 1024] : Fin 2 → Nat) a ≤ S1024x1024.size a) :
    k0_pay13 (F := Ideal) (k0_pay10 (F := Ideal) (k0_pay1 (F := Ideal) x0 x1) (part 256 x2 inb) (part 256 x3 inb) x4) (ix2 i j) = nrm x0 x1 x2 x3 x4 ⟨256 + i.val, by omega⟩ j := by
  unfold part k0_pay13 k0_pay10 k0_pay9 k0_pay8 k0_pay1 nrm Rms.scale blk gate logistic
  pointwise
  all_goals simp only [zero_sub]

theorem chunk512 (inb : ∀ a, (![512, 0] : Fin 2 → Nat) a + (![256, 1024] : Fin 2 → Nat) a ≤ S1024x1024.size a) :
    k0_pay16 (F := Ideal) (k0_pay1 (F := Ideal) x0 x1) (part 512 x2 inb) (part 512 x3 inb) (ix2 i j) = blk x0 x1 x2 x3 ⟨512 + i.val, by omega⟩ j := by
  unfold part k0_pay16 k0_pay15 k0_pay14 k0_pay1 blk gate logistic
  pointwise
  all_goals simp only [zero_sub]

theorem open512 :
    k0_pay17 (F := Ideal) (k0_pay1 (F := Ideal) x0 x1) (ix2 i j) = gate x0 x1 ⟨512 + i.val, by omega⟩ j := by
  unfold k0_pay17 k0_pay14 k0_pay1 gate logistic
  pointwise
  all_goals simp only [zero_sub]

theorem half512 (inb : ∀ a, (![512, 0] : Fin 2 → Nat) a + (![256, 1024] : Fin 2 → Nat) a ≤ S1024x1024.size a) :
    k0_pay19 (F := Ideal) (k0_pay18 (F := Ideal) (k0_pay1 (F := Ideal) x0 x1) (part 512 x2 inb) (part 512 x3 inb) x4) (ix2 i j) = nrm x0 x1 x2 x3 x4 ⟨512 + i.val, by omega⟩ j := by
  unfold part k0_pay19 k0_pay18 k0_pay15 k0_pay14 k0_pay1 nrm Rms.scale blk gate logistic
  pointwise
  all_goals simp only [zero_sub]

theorem chunk768 (inb : ∀ a, (![768, 0] : Fin 2 → Nat) a + (![256, 1024] : Fin 2 → Nat) a ≤ S1024x1024.size a) :
    k0_pay22 (F := Ideal) (k0_pay1 (F := Ideal) x0 x1) (part 768 x2 inb) (part 768 x3 inb) (ix2 i j) = blk x0 x1 x2 x3 ⟨768 + i.val, by omega⟩ j := by
  unfold part k0_pay22 k0_pay21 k0_pay20 k0_pay1 blk gate logistic
  pointwise
  all_goals simp only [zero_sub]

theorem open768 :
    k0_pay23 (F := Ideal) (k0_pay1 (F := Ideal) x0 x1) (ix2 i j) = gate x0 x1 ⟨768 + i.val, by omega⟩ j := by
  unfold k0_pay23 k0_pay20 k0_pay1 gate logistic
  pointwise
  all_goals simp only [zero_sub]

theorem half768 (inb : ∀ a, (![768, 0] : Fin 2 → Nat) a + (![256, 1024] : Fin 2 → Nat) a ≤ S1024x1024.size a) :
    k0_pay24 (F := Ideal) (k0_pay1 (F := Ideal) x0 x1) (part 768 x2 inb) (part 768 x3 inb) x4 (ix2 i j) = nrm x0 x1 x2 x3 x4 ⟨768 + i.val, by omega⟩ j := by
  unfold part k0_pay24 k0_pay21 k0_pay20 k0_pay1 nrm Rms.scale blk gate logistic
  pointwise
  all_goals simp only [zero_sub]

end Blocks

theorem out5 (c : Dev nD) (t : Fin cfg0.N) : (dats m 0 c).after 5 t = whole (iblk m c 0 t) (iblk m c 1 t) (iblk m c 2 t) (iblk m c 3 t) := by
  rw [after0_5]
  unfold_out out0_5
  frame_out
  funext y
  refine View.canon_append_of_piecesOf (whole (iblk m c 0 t) (iblk m c 1 t) (iblk m c 2 t) (iblk m c 3 t)) [] [_, _, _, _] ⟨?_, ?_, ?_, ?_, trivial⟩ y
    (View.cover_of_tiledL _ ![256, 1024] (by sl_kernel_rfl) y)
  · exact Cert.Products.row_piece (e := .f32) (blk (iblk m c 0 t) (iblk m c 1 t) (iblk m c 2 t) (iblk m c 3 t)) 768 (fun i j h => chunk768 _ _ _ _ i j _) (by decide)
  · exact Cert.Products.row_piece (e := .f32) (blk (iblk m c 0 t) (iblk m c 1 t) (iblk m c 2 t) (iblk m c 3 t)) 512 (fun i j h => chunk512 _ _ _ _ i j _) (by decide)
  · exact Cert.Products.row_piece (e := .f32) (blk (iblk m c 0 t) (iblk m c 1 t) (iblk m c 2 t) (iblk m c 3 t)) 256 (fun i j h => chunk256 _ _ _ _ i j _) (by decide)
  · exact Cert.Products.row_piece (e := .f32) (blk (iblk m c 0 t) (iblk m c 1 t) (iblk m c 2 t) (iblk m c 3 t)) 0 (fun i j h => chunk0 _ _ _ _ i j _) (by decide)

theorem out6 (c : Dev nD) (t : Fin cfg0.N) : (dats m 0 c).after 6 t = gates (iblk m c 0 t) (iblk m c 1 t) := by
  rw [after0_6]
  unfold_out out0_6
  frame_out
  funext y
  refine View.canon_append_of_piecesOf (gates (iblk m c 0 t) (iblk m c 1 t)) [] [_, _, _, _] ⟨?_, ?_, ?_, ?_, trivial⟩ y
    (View.cover_of_tiledL _ ![256, 1024] (by sl_kernel_rfl) y)
  · exact Cert.Products.row_piece (e := .f32) (gate (iblk m c 0 t) (iblk m c 1 t)) 768 (fun i j h => open768 _ _ i j) (by decide)
  · exact Cert.Products.row_piece (e := .f32) (gate (iblk m c 0 t) (iblk m c 1 t)) 512 (fun i j h => open512 _ _ i j) (by decide)
  · exact Cert.Products.row_piece (e := .f32) (gate (iblk m c 0 t) (iblk m c 1 t)) 256 (fun i j h => open256 _ _ i j) (by decide)
  · exact Cert.Products.row_piece (e := .f32) (gate (iblk m c 0 t) (iblk m c 1 t)) 0 (fun i j h => open0 _ _ i j) (by decide)

theorem out7 (c : Dev nD) (t : Fin cfg0.N) : (dats m 0 c).after 7 t = rounded (iblk m c 0 t) (iblk m c 1 t) (iblk m c 2 t) (iblk m c 3 t) (iblk m c 4 t) := by
  rw [after0_7]
  unfold_out out0_7
  frame_out
  funext y
  refine View.canon_append_of_piecesOf (rounded (iblk m c 0 t) (iblk m c 1 t) (iblk m c 2 t) (iblk m c 3 t) (iblk m c 4 t)) [] [_, _, _, _] ⟨?_, ?_, ?_, ?_, trivial⟩ y
    (View.cover_of_tiledL _ ![256, 1024] (by sl_kernel_rfl) y)
  · exact Cert.Products.row_piece (e := .bf16) (nrm (iblk m c 0 t) (iblk m c 1 t) (iblk m c 2 t) (iblk m c 3 t) (iblk m c 4 t)) 768 (fun i j h => half768 _ _ _ _ _ i j _) (by decide)
  · exact Cert.Products.row_piece (e := .bf16) (nrm (iblk m c 0 t) (iblk m c 1 t) (iblk m c 2 t) (iblk m c 3 t) (iblk m c 4 t)) 512 (fun i j h => half512 _ _ _ _ _ i j _) (by decide)
  · exact Cert.Products.row_piece (e := .bf16) (nrm (iblk m c 0 t) (iblk m c 1 t) (iblk m c 2 t) (iblk m c 3 t) (iblk m c 4 t)) 256 (fun i j h => half256 _ _ _ _ _ i j _) (by decide)
  · exact Cert.Products.row_piece (e := .bf16) (nrm (iblk m c 0 t) (iblk m c 1 t) (iblk m c 2 t) (iblk m c 3 t) (iblk m c 4 t)) 0 (fun i j h => half0 _ _ _ _ _ i j _) (by decide)

theorem idx0 : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![t.val, 0] ∧ win0_6.index t = ![t.val, 0] ∧
    win0_7.index t = ![t.val, 0] := by
  decide +kernel

/-! The arguments. -/

section Args
variable (x0 : Vec Ideal S8192x1024 .f32) (x1 : Vec Ideal S1024x1024 .f32) (x2 x3 : Vec Ideal S8192x1024 .f32) (x4 : Vec Ideal S1024 .f32)

def sigma (i : Fin 8192) (j : Fin 1024) : EReal := logistic (∑ k : Fin 1024, x0 (ix2 i k) * x1 (ix2 k j))

/-- The residual stream. -/
def stream (i : Fin 8192) (j : Fin 1024) : EReal := x2 (ix2 i j) + sigma x0 x1 i j * x3 (ix2 i j)

theorem reference_gate (i : Fin 8192) (j : Fin 1024) : Cert.GateRefIdeal.Read.val_main_v6 (F := Ideal) x0 x1 (ix2 i j) = sigma x0 x1 i j := by
  simp only [Cert.GateRefIdeal.Read.val_main_v0, Cert.GateRefIdeal.Read.val_main_v1, Cert.GateRefIdeal.Read.val_main_v2, Cert.GateRefIdeal.Read.val_main_cst, Cert.GateRefIdeal.Read.val_main_v3, Cert.GateRefIdeal.Read.val_main_v4, Cert.GateRefIdeal.Read.val_main_cst_0, Cert.GateRefIdeal.Read.val_main_v5, Cert.GateRefIdeal.Read.val_main_v6]
  unfold sigma logistic
  pointwise

theorem reference_stream (i : Fin 8192) (j : Fin 1024) : Cert.GateRefIdeal.Read.val_main_v8 (F := Ideal) x0 x1 x2 x3 (ix2 i j) = stream x0 x1 x2 x3 i j := by
  simp only [Cert.GateRefIdeal.Read.val_main_v0, Cert.GateRefIdeal.Read.val_main_v1, Cert.GateRefIdeal.Read.val_main_v2, Cert.GateRefIdeal.Read.val_main_cst, Cert.GateRefIdeal.Read.val_main_v3, Cert.GateRefIdeal.Read.val_main_v4, Cert.GateRefIdeal.Read.val_main_cst_0, Cert.GateRefIdeal.Read.val_main_v5, Cert.GateRefIdeal.Read.val_main_v6, Cert.GateRefIdeal.Read.val_main_v7, Cert.GateRefIdeal.Read.val_main_v8]
  unfold stream sigma logistic
  pointwise

theorem reference_norm (i : Fin 8192) (j : Fin 1024) : Cert.GateRefIdeal.Read.val_main_v22 (F := Ideal) x0 x1 x2 x3 x4 (ix2 i j) =
    stream x0 x1 x2 x3 i j * Ideal.rsqrt (Rms.scale (stream x0 x1 x2 x3 i)) * x4 (ix1 j) := by
  simp only [Cert.GateRefIdeal.Read.val_main_v0, Cert.GateRefIdeal.Read.val_main_v1, Cert.GateRefIdeal.Read.val_main_v2, Cert.GateRefIdeal.Read.val_main_cst, Cert.GateRefIdeal.Read.val_main_v3, Cert.GateRefIdeal.Read.val_main_v4, Cert.GateRefIdeal.Read.val_main_cst_0, Cert.GateRefIdeal.Read.val_main_v5, Cert.GateRefIdeal.Read.val_main_v6, Cert.GateRefIdeal.Read.val_main_v7, Cert.GateRefIdeal.Read.val_main_v8, Cert.GateRefIdeal.Read.val_main_v9, Cert.GateRefIdeal.Read.val_main_cst_1, Cert.GateRefIdeal.Read.val_main_v10, Cert.GateRefIdeal.Read.val_main_v11, Cert.GateRefIdeal.Read.val_main_cst_2, Cert.GateRefIdeal.Read.val_main_v12, Cert.GateRefIdeal.Read.val_main_v13, Cert.GateRefIdeal.Read.val_main_cst_3, Cert.GateRefIdeal.Read.val_main_v14, Cert.GateRefIdeal.Read.val_main_v15, Cert.GateRefIdeal.Read.val_main_v16, Cert.GateRefIdeal.Read.val_main_v17, Cert.GateRefIdeal.Read.val_main_v18, Cert.GateRefIdeal.Read.val_main_v19, Cert.GateRefIdeal.Read.val_main_v20, Cert.GateRefIdeal.Read.val_main_v21, Cert.GateRefIdeal.Read.val_main_v22]
  unfold Rms.scale stream sigma logistic
  pointwise

end Args

theorem at_x (c : Dev nD) (t : Fin cfg0.N) (i k : Fin 1024) (h : t.val * 1024 + i.val < 8192) :
    iblk m c 0 t (ix2 i k) = m ((c : Thread nD τ).loc main_arg0) (ix2 ⟨t.val * 1024 + i.val, h⟩ k) := by
  blk_ext [iblk, V, idx0 t]

theorem at_w (c : Dev nD) (t : Fin cfg0.N) (k j : Fin 1024) :
    iblk m c 1 t (ix2 k j) = m ((c : Thread nD τ).loc main_arg1) (ix2 k j) := by
  blk_ext [iblk, V, idx0 t]

theorem at_h (c : Dev nD) (t : Fin cfg0.N) (i k : Fin 1024) (h : t.val * 1024 + i.val < 8192) :
    iblk m c 2 t (ix2 i k) = m ((c : Thread nD τ).loc main_arg2) (ix2 ⟨t.val * 1024 + i.val, h⟩ k) := by
  blk_ext [iblk, V, idx0 t]

theorem at_e (c : Dev nD) (t : Fin cfg0.N) (i k : Fin 1024) (h : t.val * 1024 + i.val < 8192) :
    iblk m c 3 t (ix2 i k) = m ((c : Thread nD τ).loc main_arg3) (ix2 ⟨t.val * 1024 + i.val, h⟩ k) := by
  blk_ext [iblk, V, idx0 t]

theorem at_g (c : Dev nD) (t : Fin cfg0.N) (k : Fin 1024) :
    iblk m c 4 t (ix2 0 k) = m ((c : Thread nD τ).loc main_arg4) (ix1 k) := by
  have e : ((View.whole main_v2).slice (win0_4.rect t)).emb (ix2 (0 : Fin 1) k) = ix2 (0 : Fin 1) k := by
    blk_ext [idx0 t]
  unfold iblk
  blk_simp
  entry_read
  rw [e]
  pointwise

theorem gate_entry (c : Dev nD) (t : Fin cfg0.N) (i j : Fin 1024) (h : t.val * 1024 + i.val < 8192) :
    gate (iblk m c 0 t) (iblk m c 1 t) i j = sigma (m ((c : Thread nD τ).loc main_arg0)) (m ((c : Thread nD τ).loc main_arg1)) ⟨t.val * 1024 + i.val, h⟩ j :=
  congrArg logistic (Finset.sum_congr rfl fun k _ => congrArg₂ (fun x y : EReal => x * y) (at_x m c t i k h) (at_w m c t k j))

/-- One row of the residual stream is the arguments'. -/
theorem blk_row (c : Dev nD) (t : Fin cfg0.N) (i : Fin 1024) (h : t.val * 1024 + i.val < 8192) :
    blk (iblk m c 0 t) (iblk m c 1 t) (iblk m c 2 t) (iblk m c 3 t) i = stream (m ((c : Thread nD τ).loc main_arg0)) (m ((c : Thread nD τ).loc main_arg1)) (m ((c : Thread nD τ).loc main_arg2)) (m ((c : Thread nD τ).loc main_arg3)) ⟨t.val * 1024 + i.val, h⟩ :=
  funext fun j => congrArg₂ (fun x y : EReal => x + y) (at_h m c t i j h)
    (congrArg₂ (fun x y : EReal => x * y) (gate_entry m c t i j h) (at_e m c t i j h))

theorem result5 (c : Dev nD) : (dats m 0 c).arrAt 5 cfg0.N = Cert.GateRefIdeal.Read.val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 8 := lt_of_lt_of_eq t.isLt (show cfg0.N = 8 from N_0)
  blk_simp
  rw [out5]
  idx_vars y
  have e : ((View.whole main_v3_0).slice (win0_5.rect t)).emb (ix2 y0 y1) = ix2 (⟨t.val * 1024 + y0.val, by omega⟩ : Fin 8192) y1 := by
    blk_ext [idx0 t]
  refine Eq.trans ?_ (congrArg (Cert.GateRefIdeal.Read.val_main_v8 (F := Ideal) _ _ _ _) e.symm)
  rw [reference_stream, ← blk_row]
  rfl

theorem result6 (c : Dev nD) : (dats m 0 c).arrAt 6 cfg0.N = Cert.GateRefIdeal.Read.val_main_v6 (F := Ideal) (m ((c : Thread nD τ).loc main_arg0)) (m ((c : Thread nD τ).loc main_arg1)) := by
  refine (dats m 0 c).arrAt_eq_of_covers 6 _ (by decide +kernel) fun t hf y => ?_
  have hN : t.val < 8 := lt_of_lt_of_eq t.isLt (show cfg0.N = 8 from N_0)
  blk_simp
  rw [out6]
  idx_vars y
  have e : ((View.whole main_v3_1).slice (win0_6.rect t)).emb (ix2 y0 y1) = ix2 (⟨t.val * 1024 + y0.val, by omega⟩ : Fin 8192) y1 := by
    blk_ext [idx0 t]
  refine Eq.trans ?_ (congrArg (Cert.GateRefIdeal.Read.val_main_v6 (F := Ideal) _ _) e.symm)
  rw [reference_gate, ← gate_entry]
  rfl

theorem result7 (c : Dev nD) : (dats m 0 c).arrAt 7 cfg0.N = Cert.GateRefIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have hN : t.val < 8 := lt_of_lt_of_eq t.isLt (show cfg0.N = 8 from N_0)
  blk_simp
  rw [out7]
  idx_vars y
  have e : ((View.whole main_v3_2).slice (win0_7.rect t)).emb (ix2 y0 y1) = ix2 (⟨t.val * 1024 + y0.val, by omega⟩ : Fin 8192) y1 := by
    blk_ext [idx0 t]
  refine Eq.trans ?_ (congrArg (Cert.GateRefIdeal.Read.val_main_v22 (F := Ideal) _ _ _ _ _) e.symm)
  rw [reference_norm, ← blk_row]
  exact congrArg (fun g : EReal => _ * g) (at_g m c t y1)

end Cert.GateIdeal.Result

end
-- ==== Proof.PleProjValue.lean ====
/- The projection of the per-layer input: the value of the kernel is the reference's. -/
module

public import proofs.«01_k».proof.Proof.Gen.PleProjIdeal.Value
public import proofs.«01_k».proof.Proof.Gen.PleProjRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.PleProjIdeal.Result

open Cert.PleProjIdeal Cert.PleProjIdeal.Gen Idealize.ShloMosaic Idealize.ShloMosaic.TcCoe Idealize.SL.Sem
open Idealize.ShloMosaic.Pipeline (Dat)

variable (m : (ℓ : Loc nD τ sig) → Buf (Elt Ideal) ℓ)

/-- The product of a block of rows and a block of columns, at an entry. -/
theorem prod_apply (a : Vec Ideal S1024x256 .bf16) (b : Vec Ideal S1x256x256 .bf16) (i : Fin 1024) (j : Fin 256) :
    k0_pay1 (F := Ideal) a b (ix2 i j) = ∑ k : Fin 256, a (ix2 i k) * b (ix3 0 k j) := by
  unfold k0_pay1
  pointwise

theorem value (c : Dev nD) (t : Fin cfg0.N) : (dats m 0 c).after 2 t = k0_pay1 (F := Ideal) (iblk m c 0 t) (iblk m c 1 t) := by
  rw [after0_2]
  frame_open
  frame_out

theorem idx0 : ∀ t : Fin cfg0.N, win0_0.index t = ![t.val / 4, 0] ∧ win0_1.index t = ![t.val % 4, 0, 0] ∧
    win0_2.index t = ![t.val / 4, t.val % 4] := by
  decide +kernel

theorem at_a (c : Dev nD) (t : Fin cfg0.N) (i : Fin 1024) (k : Fin 256) (h : t.val / 4 * 1024 + i.val < 8192) :
    iblk m c 0 t (ix2 i k) = m ((c : Thread nD τ).loc main_arg0) (ix2 ⟨t.val / 4 * 1024 + i.val, h⟩ k) := by
  blk_ext [iblk, V, idx0 t]

theorem at_b (c : Dev nD) (t : Fin cfg0.N) (k : Fin 256) (j : Fin 256) (h : t.val % 4 * 256 + j.val < 1024) :
    iblk m c 1 t (ix3 0 k j) = m ((c : Thread nD τ).loc main_arg1) (ix2 k ⟨t.val % 4 * 256 + j.val, h⟩) := by
  have e1 : ((View.whole main_v3).slice (win0_1.rect t)).emb (ix3 (0 : Fin 1) k j) = ix3 (⟨t.val % 4, by omega⟩ : Fin 4) k j := by
    blk_ext [idx0 t]
  unfold iblk
  blk_simp
  entry_read
  rw [e1]
  pointwise

theorem reference_apply (x0 : Vec Ideal Cert.PleProjRefIdeal.S8192x256 .f32) (x1 : Vec Ideal Cert.PleProjRefIdeal.S256x1024 .f32)
    (i : Fin 8192) (j : Fin 1024) :
    Cert.PleProjRefIdeal.Read.val_main_v0 (F := Ideal) x0 x1 (ix2 i j) = ∑ k : Fin 256, x0 (ix2 i k) * x1 (ix2 k j) := by
  unfold Cert.PleProjRefIdeal.Read.val_main_v0
  pointwise

theorem result (c : Dev nD) : (dats m 0 c).arrAt 2 cfg0.N =
    Cert.PleProjRefIdeal.Read.val_main_v0 (F := Ideal) (m ((c : Thread nD τ).loc main_arg0)) (m ((c : Thread nD τ).loc main_arg1)) := by
  refine (dats m 0 c).arrAt_eq_of_covers 2 _ (by decide +kernel) fun t hf y => ?_
  have hN : t.val < 32 := lt_of_lt_of_eq t.isLt (show cfg0.N = 32 from N_0)
  blk_simp
  rw [value]
  idx_vars y
  have e2 : ((View.whole main_v4).slice (win0_2.rect t)).emb (ix2 y0 y1) =
      ix2 (⟨t.val / 4 * 1024 + y0.val, by omega⟩ : Fin 8192) (⟨t.val % 4 * 256 + y1.val, by omega⟩ : Fin 1024) := by
    blk_ext [idx0 t]
  refine Eq.trans ?_ (congrArg (Cert.PleProjRefIdeal.Read.val_main_v0 (F := Ideal) _ _) e2.symm)
  rw [reference_apply, prod_apply]
  exact Finset.sum_congr (M := EReal) rfl fun k _ =>
    congrArg₂ (fun x y : EReal => x * y) (at_a m c t y0 k (by omega)) (at_b m c t k y1 (by omega))

end Cert.PleProjIdeal.Result

end
-- ==== Proof.DwProjValue.lean ====
/- The gradient of the per-layer projection: four blocks of rows are multiplied and added in a scratch, and the last sum is
   written. The result is the product over all rows, as four
   blocks of columns. -/
module

public import proofs.«01_k».proof.Proof.Gen.DwProjIdeal.Value
public import proofs.«01_k».proof.Proof.Gen.DwProjRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwProjIdeal.Result

open Cert.DwProjIdeal Cert.DwProjIdeal.Gen Idealize.ShloMosaic Idealize.ShloMosaic.TcCoe Idealize.SL.Sem
open Idealize.ShloMosaic.Pipeline (Dat)

variable (m : (ℓ : Loc nD τ sig) → Buf (Elt Ideal) ℓ)

/-- The product of two blocks of rows, at an entry. -/
theorem prod_apply (a : Vec Ideal S2048x256 .bf16) (b : Vec Ideal S2048x256 .bf16) (i : Fin 256) (j : Fin 256) :
    k0_pay1 (F := Ideal) a b (ix2 i j) = ∑ k : Fin 2048, a (ix2 k i) * b (ix2 k j) := by
  unfold k0_pay1
  pointwise

theorem first_apply (a : Vec Ideal S2048x256 .bf16) (b : Vec Ideal S2048x256 .bf16) : k0_pay2 (F := Ideal) a b = k0_pay1 a b := by
  funext y
  unfold k0_pay2
  pointwise

theorem next_apply (a : Vec Ideal S2048x256 .bf16) (b : Vec Ideal S2048x256 .bf16) (s : Vec Ideal S256x256 .f32) (y : S256x256.Idx) :
    k0_pay3 (F := Ideal) a b s y = s y + k0_pay1 (F := Ideal) a b y := by
  unfold k0_pay3
  pointwise

theorem last_apply (s : Vec Ideal S256x256 .f32) (u : Fin 1) (i : Fin 256) (j : Fin 256) : k0_pay4 (F := Ideal) s (ix3 u i j) = s (ix2 i j) := by
  unfold k0_pay4
  pointwise

/-- What the scratch holds after the last block of rows. -/
theorem scratch (c : Dev nD) (t : Fin cfg0.N) (h : t.val % 4 = 3) (y : S256x256.Idx) :
    (outsAt0 m c t.val t.isLt).2 y = ∑ s : Fin 4, k0_pay1 (F := Ideal)
      (iblk m c 0 ⟨4 * (t.val / 4) + s.val, Pipeline.run_point_lt_of_flush t h s⟩)
      (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => k0_pay1 (F := Ideal) (iblk m c 0 t) (iblk m c 1 t))
    (fun t h0 y => by
      rw [outsAt0_A m c t h0 (by omega) (by omega)]
      frame_out
      rw [first_apply, zero_add])
    (fun t h0 y => by
      by_cases h2 : t.val % 4 = 3
      · rw [outsAt0_C m c t h0 (by omega) h2]
        frame_out
        simp only [read_unread_whole]
        rw [next_apply]
      · rw [outsAt0_B m c t h0 (by omega) h2]
        frame_out
        simp only [read_unread_whole]
        rw [next_apply]) t h y, zero_add]

/-- The block written is the scratch. -/
theorem written (c : Dev nD) (t : Fin cfg0.N) (h : t.val % 4 = 3) (u : Fin 1) (i : Fin 256) (j : Fin 256) :
    (outsAt0 m c t.val t.isLt).1 (ix3 u i j) = (outsAt0 m c t.val t.isLt).2 (ix2 i j) := by
  rw [outsAt0_C m c t (by omega) (by omega) h]
  dsimp only
  frame_open
  simp (disch := decide) only [↓ View.readCov_skip, ↓ View.readCov_cons_toLoadRect, ↓ View.readCov_fill]
  frame_out
  rw [last_apply]

theorem idx0 : ∀ t : Fin cfg0.N, win0_0.index t = ![t.val % 4, 0] ∧ win0_1.index t = ![t.val % 4, t.val / 4] ∧
    win0_2.index t = ![t.val / 4, 0, 0] := by
  decide +kernel

theorem reference_apply (x0 : Vec Ideal Cert.DwProjRefIdeal.S8192x256 .f32) (x1 : Vec Ideal Cert.DwProjRefIdeal.S8192x1024 .f32)
    (g : Fin 4) (i : Fin 256) (j : Fin 256) :
    Cert.DwProjRefIdeal.Read.val_main_v5 (F := Ideal) x0 x1 (ix3 g i j) =
      ∑ k : Fin 8192, x1 (ix2 k ⟨g.val * 256 + j.val, by omega⟩) * x0 (ix2 k i) := by
  unfold Cert.DwProjRefIdeal.Read.val_main_v5 Cert.DwProjRefIdeal.Read.val_main_v4 Cert.DwProjRefIdeal.Read.val_main_v3
    Cert.DwProjRefIdeal.Read.val_main_v2
  pointwise

theorem result (c : Dev nD) : (dats m 0 c).arrAt 2 cfg0.N =
    Cert.DwProjRefIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 16 := lt_of_lt_of_eq t.isLt (show cfg0.N = 16 from N_0)
  have e2 : ∀ (u : Fin 1) (i : Fin 256) (j : Fin 256), ((View.whole main_v2).slice (win0_2.rect t)).emb (ix3 u i j) = ix3 (⟨t.val / 4, by omega⟩ : Fin 4) i j := by
    intro u i j
    blk_ext [idx0 t]
  blk_simp
  rw [after0_2]
  idx_vars y
  rw [written m c t h3, scratch m c t h3]
  refine Eq.trans ?_ (congrArg (Cert.DwProjRefIdeal.Read.val_main_v5 (F := Ideal) _ _) (e2 _ _ _).symm)
  rw [reference_apply]
  simp only [prod_apply]
  refine Cert.Products.sum_blocks (by decide) fun s k hl => ?_
  refine (mul_comm _ _).trans ?_
  congr 1
  · blk_ext [iblk, V, idx0]
  · blk_ext [iblk, V, idx0]

end Cert.DwProjIdeal.Result

end
-- ==== Proof.GluValue.lean ====
/- The two gates' matrices side by side: the value of the kernel is the reference's. -/
module

public import proofs.«01_k».proof.Proof.Gen.GluIdeal.Value
public import proofs.«01_k».proof.Proof.Gen.GluRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GluIdeal.Result

open Cert.GluIdeal Cert.GluIdeal.Gen Idealize.ShloMosaic Idealize.ShloMosaic.TcCoe Idealize.SL.Sem
open Idealize.ShloMosaic.Pipeline (Dat)

variable (m : (ℓ : Loc nD τ sig) → Buf (Elt Ideal) ℓ)

/-- The product of a block of rows and a block of columns, at an entry. -/
theorem prod_apply (a : Vec Ideal S1024x256 .bf16) (b : Vec Ideal S256x512 .bf16) (i : Fin 1024) (j : Fin 512) :
    k0_pay1 (F := Ideal) a b (ix2 i j) = ∑ k : Fin 256, a (ix2 i k) * b (ix2 k j) := by
  unfold k0_pay1
  pointwise

theorem value (c : Dev nD) (t : Fin cfg0.N) : (dats m 0 c).after 2 t = k0_pay1 (F := Ideal) (iblk m c 0 t) (iblk m c 1 t) := by
  rw [after0_2]
  frame_open
  frame_out

theorem idx0 : ∀ t : Fin cfg0.N, win0_0.index t = ![t.val, 0] ∧ win0_1.index t = ![0, 0] ∧
    win0_2.index t = ![t.val, 0] := by
  decide +kernel

/-- An entry of two matrices side by side. -/
def beside (x y : Fin 256 → Fin 256 → EReal) (k : Fin 256) (j : Fin 512) : EReal :=
  if h : j.val < 256 then x k ⟨j.val, h⟩ else y k ⟨j.val - 256, by omega⟩

theorem at_a (c : Dev nD) (t : Fin cfg0.N) (i : Fin 1024) (k : Fin 256) (h : t.val * 1024 + i.val < 8192) :
    iblk m c 0 t (ix2 i k) = m ((c : Thread nD τ).loc main_arg0) (ix2 ⟨t.val * 1024 + i.val, h⟩ k) := by
  blk_ext [iblk, V, idx0 t]

theorem at_b (c : Dev nD) (t : Fin cfg0.N) (k : Fin 256) (j : Fin 512) :
    iblk m c 1 t (ix2 k j) = beside (fun k j => m ((c : Thread nD τ).loc main_arg1) (ix2 k j)) (fun k j => m ((c : Thread nD τ).loc main_arg2) (ix2 k j)) k j := by
  have e1 : ((View.whole main_v1).slice (win0_1.rect t)).emb (ix2 k j) = ix2 k j := by
    blk_ext [idx0 t]
  unfold iblk beside
  blk_simp
  entry_read
  rw [e1]
  by_cases h : j.val < 256
  · simp only [dif_pos h]
    pointwise
    rw [dif_pos h]
  · simp only [dif_neg h]
    pointwise
    rw [dif_neg h]

theorem reference_apply (x0 : Vec Ideal Cert.GluRefIdeal.S8192x256 .f32) (x1 x2 : Vec Ideal Cert.GluRefIdeal.S256x256 .f32)
    (i : Fin 8192) (j : Fin 512) :
    Cert.GluRefIdeal.Read.val_main_v2 (F := Ideal) x0 x1 x2 (ix2 i j) =
      ∑ k : Fin 256, @HMul.hMul EReal EReal EReal _ (x0 (ix2 i k)) (beside (fun k j => x1 (ix2 k j)) (fun k j => x2 (ix2 k j)) k j) := by
  unfold Cert.GluRefIdeal.Read.val_main_v2 Cert.GluRefIdeal.Read.val_main_v1 Cert.GluRefIdeal.Read.val_main_v0 beside
  by_cases h : j.val < 256
  · simp only [dif_pos h]
    pointwise
    rw [dif_pos h]
  · simp only [dif_neg h]
    pointwise
    rw [dif_neg h]

theorem result (c : Dev nD) : (dats m 0 c).arrAt 2 cfg0.N =
    Cert.GluRefIdeal.Read.val_main_v2 (F := Ideal) (m ((c : Thread nD τ).loc main_arg0)) (m ((c : Thread nD τ).loc main_arg1))
      (m ((c : Thread nD τ).loc main_arg2)) := by
  refine (dats m 0 c).arrAt_eq_of_covers 2 _ (by decide +kernel) fun t hf y => ?_
  have hN : t.val < 8 := lt_of_lt_of_eq t.isLt (show cfg0.N = 8 from N_0)
  blk_simp
  rw [value]
  idx_vars y
  have e2 : ((View.whole main_v3).slice (win0_2.rect t)).emb (ix2 y0 y1) = ix2 (⟨t.val * 1024 + y0.val, by omega⟩ : Fin 8192) y1 := by
    blk_ext [idx0 t]
  refine Eq.trans ?_ (congrArg (Cert.GluRefIdeal.Read.val_main_v2 (F := Ideal) _ _ _) e2.symm)
  rw [reference_apply, prod_apply]
  exact Finset.sum_congr (M := EReal) rfl fun k _ =>
    congrArg₂ (fun x y : EReal => x * y) (at_a m c t y0 k (by omega)) (at_b m c t k y1)

end Cert.GluIdeal.Result

end
-- ==== Proof.DwGluValue.lean ====
/- The gradient of the two gates' matrices side by side: four blocks of rows are multiplied and added in a scratch, and the last sum is
   written. The result is the product over all rows. -/
module

public import proofs.«01_k».proof.Proof.Gen.DwGluIdeal.Value
public import proofs.«01_k».proof.Proof.Gen.DwGluRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwGluIdeal.Result

open Cert.DwGluIdeal Cert.DwGluIdeal.Gen Idealize.ShloMosaic Idealize.ShloMosaic.TcCoe Idealize.SL.Sem
open Idealize.ShloMosaic.Pipeline (Dat)

variable (m : (ℓ : Loc nD τ sig) → Buf (Elt Ideal) ℓ)

/-- The product of two blocks of rows, at an entry. -/
theorem prod_apply (a : Vec Ideal S2048x256 .bf16) (b : Vec Ideal S2048x512 .bf16) (i : Fin 256) (j : Fin 512) :
    k0_pay1 (F := Ideal) a b (ix2 i j) = ∑ k : Fin 2048, a (ix2 k i) * b (ix2 k j) := by
  unfold k0_pay1
  pointwise

theorem first_apply (a : Vec Ideal S2048x256 .bf16) (b : Vec Ideal S2048x512 .bf16) : k0_pay2 (F := Ideal) a b = k0_pay1 a b := by
  funext y
  unfold k0_pay2
  pointwise

theorem next_apply (a : Vec Ideal S2048x256 .bf16) (b : Vec Ideal S2048x512 .bf16) (s : Vec Ideal S256x512 .f32) (y : S256x512.Idx) :
    k0_pay3 (F := Ideal) a b s y = s y + k0_pay1 (F := Ideal) a b y := by
  unfold k0_pay3
  pointwise

theorem last_apply (s : Vec Ideal S256x512 .f32) : k0_pay4 (F := Ideal) s = s := by
  funext y
  unfold k0_pay4
  pointwise

/-- What the scratch holds after the last block of rows. -/
theorem scratch (c : Dev nD) (t : Fin cfg0.N) (h : t.val % 4 = 3) (y : S256x512.Idx) :
    (outsAt0 m c t.val t.isLt).2 y = ∑ s : Fin 4, k0_pay1 (F := Ideal)
      (iblk m c 0 ⟨4 * (t.val / 4) + s.val, Pipeline.run_point_lt_of_flush t h s⟩)
      (iblk m c 1 ⟨4 * (t.val / 4) + s.val, Pipeline.run_point_lt_of_flush t h s⟩) y := by
  rw [Pipeline.eq_sum_fin_of_reset_step_apply_of_flush (fun n h => (outsAt0 m c n h).2) 4 (fun _ => 0)
    (fun t => k0_pay1 (F := Ideal) (iblk m c 0 t) (iblk m c 1 t))
    (fun t h0 y => by
      have hN : t.val < 4 := lt_of_lt_of_eq t.isLt (show cfg0.N = 4 from N_0)
      rw [outsAt0_A m c t h0 (by omega) (by omega)]
      frame_out
      rw [first_apply, zero_add])
    (fun t h0 y => by
      by_cases h2 : t.val % 4 = 3
      · rw [outsAt0_C m c t h0 (by omega) h2]
        frame_out
        simp only [read_unread_whole]
        rw [next_apply]
      · rw [outsAt0_B m c t h0 (by omega) h2]
        frame_out
        simp only [read_unread_whole]
        rw [next_apply]) t h y, zero_add]

/-- The block written is the scratch. -/
theorem written (c : Dev nD) (t : Fin cfg0.N) (h : t.val % 4 = 3) : (outsAt0 m c t.val t.isLt).1 = (outsAt0 m c t.val t.isLt).2 := by
  rw [outsAt0_C m c t (by omega) (by omega) h]
  dsimp only
  frame_open
  simp (disch := decide) only [↓ View.readCov_skip, ↓ View.readCov_cons_toLoadRect, ↓ View.readCov_fill]
  frame_out
  rw [last_apply]

theorem idx0 : ∀ t : Fin cfg0.N, win0_0.index t = ![t.val % 4, 0] ∧ win0_1.index t = ![t.val % 4, 0] ∧
    win0_2.index t = ![0, 0] := by
  decide +kernel

theorem reference_apply (x0 : Vec Ideal Cert.DwGluRefIdeal.S8192x256 .f32) (x1 : Vec Ideal Cert.DwGluRefIdeal.S8192x512 .f32)
    (i : Fin 256) (j : Fin 512) :
    Cert.DwGluRefIdeal.Read.val_main_v9 (F := Ideal) x0 x1 (ix2 i j) = ∑ k : Fin 8192, @HMul.hMul EReal EReal EReal _ (x1 (ix2 k j)) (x0 (ix2 k i)) := by
  unfold Cert.DwGluRefIdeal.Read.val_main_v9 Cert.DwGluRefIdeal.Read.val_main_v8 Cert.DwGluRefIdeal.Read.val_main_v7
    Cert.DwGluRefIdeal.Read.val_main_v6 Cert.DwGluRefIdeal.Read.val_main_v5 Cert.DwGluRefIdeal.Read.val_main_v4 Cert.DwGluRefIdeal.Read.val_main_v3
  by_cases h : j.val < 256
  · pointwise
    rw [dif_pos h]
  · pointwise
    rw [dif_neg h]
    refine Finset.sum_congr (M := EReal) rfl fun k _ => ?_
    congr 3
    exact Fin.ext (by simp only []; omega)

theorem result (c : Dev nD) : (dats m 0 c).arrAt 2 cfg0.N =
    Cert.DwGluRefIdeal.Read.val_main_v9 (F := Ideal) (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 4 := lt_of_lt_of_eq t.isLt (show cfg0.N = 4 from N_0)
  blk_simp
  rw [after0_2, written m c t h3, scratch m c t h3]
  idx_vars y
  have e2 : ((View.whole main_v2).slice (win0_2.rect t)).emb (ix2 y0 y1) = ix2 y0 y1 := by
    blk_ext [idx0 t]
  refine Eq.trans ?_ (congrArg (Cert.DwGluRefIdeal.Read.val_main_v9 (F := Ideal) _ _) e2.symm)
  rw [reference_apply]
  simp only [prod_apply]
  refine Cert.Products.sum_blocks (by decide) fun s k hl => ?_
  refine (mul_comm _ _).trans ?_
  congr 1
  · blk_ext [iblk, V, idx0]
  · blk_ext [iblk, V, idx0]

end Cert.DwGluIdeal.Result

end
-- ==== Proof.DxGluValue.lean ====
/- The gradient behind the two gates' matrices, through the GELU. -/
module

public import proofs.«01_k».proof.Proof.Gen.DxGluIdeal.Value
public import proofs.«01_k».proof.Proof.Gen.DxGluRefIdeal.Read
public import proofs.«01_k».proof.Proof.Products
public import proofs.«01_k».proof.Proof.GluValue
public import proofs.«01_k».proof.Proof.Finite
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DxGluIdeal.Result

open Cert.DxGluIdeal Cert.DxGluIdeal.Gen Idealize.ShloMosaic Idealize.ShloMosaic.TcCoe Idealize.SL.Sem
open Idealize.ShloMosaic.Pipeline (Dat)
open Cert.Gmlp Cert.Consts
open Cert.GluIdeal.Result (beside)

/-- The tanh inside the GELU, at an extended real. -/
def tanh' (x : EReal) : EReal := Ideal.tanh ((c0 : EReal) * (x + (kap : EReal) * (x * x * x)))

/-- The derivative of the GELU as the call writes it. -/
def grad (x : EReal) : EReal :=
  ((1 / 2 : ℝ) : EReal) * (1 + tanh' x) + ((1 / 2 : ℝ) : EReal) * x * (1 - tanh' x * tanh' x) *
    ((c0 : EReal) * (1 + ((26829 / 200000 : ℝ) : EReal) * (x * x)))

/-- The derivative of the GELU times a gradient, as differentiating term by term writes it. -/
def terms (c x : EReal) : EReal :=
  c * (((1 / 2 : ℝ) : EReal) * (1 + tanh' x)) + (c0 : EReal) * (((1 / 2 : ℝ) : EReal) * (x * c) * ((1 + tanh' x) * (1 - tanh' x))) +
    (kap : EReal) * ((c0 : EReal) * (((1 / 2 : ℝ) : EReal) * (x * c) * ((1 + tanh' x) * (1 - tanh' x)))) * (((3 : ℝ) : EReal) * (x * x))

theorem c0_pos : 0 < c0 := by unfold c0; norm_num

theorem kap_pos : 0 < kap := by unfold kap; norm_num

theorem tanh'_coe (x : ℝ) : tanh' x = (th x : EReal) := by
  unfold tanh' th
  simp only [← EReal.coe_mul, ← EReal.coe_add, Ideal.tanh_coe]

theorem tanh'_top : tanh' ⊤ = 1 := by
  unfold tanh'
  rw [EReal.top_mul_top, EReal.top_mul_top, EReal.coe_mul_top_of_pos kap_pos, EReal.top_add_top, EReal.coe_mul_top_of_pos c0_pos]
  rfl

theorem tanh'_bot : tanh' ⊥ = -1 := by
  unfold tanh'
  rw [EReal.bot_mul_bot, EReal.top_mul_bot, EReal.coe_mul_bot_of_pos kap_pos, EReal.bot_add, EReal.coe_mul_bot_of_pos c0_pos]
  rfl

theorem one_sub_one : (1 : EReal) - 1 = 0 := by
  rw [← EReal.coe_one, ← EReal.coe_sub, sub_self, EReal.coe_zero]

theorem one_add_neg_one : (1 : EReal) + -1 = 0 := by rw [← sub_eq_add_neg, one_sub_one]

theorem grad_eq (c : ℝ) (x : EReal) : (c : EReal) * grad x = terms c x := by
  unfold grad terms
  induction x using EReal.rec with
  | bot => rw [tanh'_bot, neg_mul_neg, one_mul, one_sub_one, one_add_neg_one]; simp only [mul_zero, zero_mul, add_zero]
  | top => rw [tanh'_top, one_mul, one_sub_one]; simp only [mul_zero, zero_mul, add_zero]
  | coe r =>
    rw [tanh'_coe]
    simp only [← EReal.coe_one, ← EReal.coe_mul, ← EReal.coe_add, ← EReal.coe_sub]
    exact congrArg _ (gelu'_eq r c).symm

theorem entry (A B : Fin 512 → EReal) (x : EReal) (hA : ∀ k, ∃ r : ℝ, A k = r) (hB : ∀ k, ∃ r : ℝ, B k = r) :
    (∑ k, A k * B k) * grad x = terms (∑ k, A k * B k) x := by
  choose a ha using hA
  choose b hb using hB
  simp only [ha, hb, ← EReal.coe_mul]
  rw [coe_sum]
  exact grad_eq _ _

variable (m : (ℓ : Loc nD τ sig) → Buf (Elt Ideal) ℓ)

/-- One entry of a block of the call: the product of a row and a row, and the derivative. -/
def blk (a : Vec Ideal S1024x512 .bf16) (b : Vec Ideal S256x512 .bf16) (x : Vec Ideal S1024x256 .f32) (i : Fin 1024) (j : Fin 256) : EReal :=
  (∑ k : Fin 512, a (ix2 i k) * b (ix2 j k)) * grad (x (ix2 i j))

def whole (a : Vec Ideal S1024x512 .bf16) (b : Vec Ideal S256x512 .bf16) (x : Vec Ideal S1024x256 .f32) : Vec Ideal S1024x256 .f32 :=
  fun y => blk a b x (y 0) (y 1)

theorem rows0 (a : Vec Ideal S1024x512 .bf16) (b : Vec Ideal S256x512 .bf16) (x : Vec Ideal S1024x256 .f32) (i j : Fin 256) :
    k0_pay3 (F := Ideal) a b (View.ld x r0_2) (ix2 i j) = blk a b x ⟨0 + i.val, by omega⟩ j := by
  unfold k0_pay3 k0_pay2 blk grad tanh'
  pointwise
  rw [half, gelu_scale, IdealRules.named_const.ideal_named_scalar κ "gelu_cubic" _ _ rfl,
    IdealRules.named_const.ideal_named_scalar κ "gelu_cubic_3" _ _ rfl]
  rfl

theorem rows256 (a : Vec Ideal S1024x512 .bf16) (b : Vec Ideal S256x512 .bf16) (x : Vec Ideal S1024x256 .f32) (i j : Fin 256) :
    k0_pay4 (F := Ideal) (k0_pay2 (F := Ideal) a b) (View.ld x r0_3) (ix2 i j) = blk a b x ⟨256 + i.val, by omega⟩ j := by
  unfold k0_pay4 k0_pay2 blk grad tanh'
  pointwise
  rw [half, gelu_scale, IdealRules.named_const.ideal_named_scalar κ "gelu_cubic" _ _ rfl,
    IdealRules.named_const.ideal_named_scalar κ "gelu_cubic_3" _ _ rfl]
  rfl

theorem rows512 (a : Vec Ideal S1024x512 .bf16) (b : Vec Ideal S256x512 .bf16) (x : Vec Ideal S1024x256 .f32) (i j : Fin 256) :
    k0_pay7 (F := Ideal) (View.ld x r0_4) (k0_pay5 (F := Ideal) (k0_pay2 (F := Ideal) a b)) (k0_pay6 (F := Ideal) (View.ld x r0_4)) (ix2 i j) = blk a b x ⟨512 + i.val, by omega⟩ j := by
  unfold k0_pay7 k0_pay6 k0_pay5 k0_pay2 blk grad tanh'
  pointwise
  rw [half, gelu_scale, IdealRules.named_const.ideal_named_scalar κ "gelu_cubic" _ _ rfl,
    IdealRules.named_const.ideal_named_scalar κ "gelu_cubic_3" _ _ rfl]
  rfl

theorem rows768 (a : Vec Ideal S1024x512 .bf16) (b : Vec Ideal S256x512 .bf16) (x : Vec Ideal S1024x256 .f32) (i j : Fin 256) :
    k0_pay1 (F := Ideal) (View.ld x r0_5) (k0_pay8 (F := Ideal) (k0_pay2 (F := Ideal) a b)) (k0_pay10 (View.ld x r0_5)) (k0_pay11 (View.ld x r0_5)) (k0_pay12 (View.ld x r0_5)) (k0_pay13 (F := Ideal)) (ix2 i j) = blk a b x ⟨768 + i.val, by omega⟩ j := by
  unfold k0_pay1 k0_pay8 k0_pay10 k0_pay11 k0_pay12 k0_pay13 k0_pay9 k0_pay2 blk grad tanh'
  pointwise
  rw [half, gelu_scale, IdealRules.named_const.ideal_named_scalar κ "gelu_cubic" _ _ rfl,
    IdealRules.named_const.ideal_named_scalar κ "gelu_cubic_3" _ _ rfl]
  rfl

theorem value (c : Dev nD) (t : Fin cfg0.N) : (dats m 0 c).after 3 t = whole (iblk m c 0 t) (iblk m c 1 t) (iblk m c 2 t) := by
  rw [after0_3]
  unfold_out out0_3
  frame_out
  funext y
  refine View.canon_append_of_piecesOf (whole (iblk m c 0 t) (iblk m c 1 t) (iblk m c 2 t)) [] [_, _, _, _] ⟨?_, ?_, ?_, ?_, trivial⟩ y
    (View.cover_of_tiledL _ ![256, 256] (by sl_kernel_rfl) y)
  · exact Cert.Products.row_piece (e := .f32) (blk (iblk m c 0 t) (iblk m c 1 t) (iblk m c 2 t)) 768 (fun i j h => rows768 _ _ _ i j) (by decide)
  · exact Cert.Products.row_piece (e := .f32) (blk (iblk m c 0 t) (iblk m c 1 t) (iblk m c 2 t)) 512 (fun i j h => rows512 _ _ _ i j) (by decide)
  · exact Cert.Products.row_piece (e := .f32) (blk (iblk m c 0 t) (iblk m c 1 t) (iblk m c 2 t)) 256 (fun i j h => rows256 _ _ _ i j) (by decide)
  · exact Cert.Products.row_piece (e := .f32) (blk (iblk m c 0 t) (iblk m c 1 t) (iblk m c 2 t)) 0 (fun i j h => rows0 _ _ _ i j) (by decide)

theorem idx0 : ∀ t : Fin cfg0.N, win0_0.index t = ![t.val, 0] ∧ win0_1.index t = ![0, 0] ∧
    win0_2.index t = ![t.val, 0] ∧ win0_3.index t = ![t.val, 0] := by
  decide +kernel

theorem at_a (c : Dev nD) (t : Fin cfg0.N) (i : Fin 1024) (k : Fin 512) (h : t.val * 1024 + i.val < 8192) :
    iblk m c 0 t (ix2 i k) = m ((c : Thread nD τ).loc main_arg0) (ix2 ⟨t.val * 1024 + i.val, h⟩ k) := by
  blk_ext [iblk, V, idx0 t]

theorem at_b (c : Dev nD) (t : Fin cfg0.N) (k : Fin 256) (j : Fin 512) :
    iblk m c 1 t (ix2 k j) = beside (fun k j => m ((c : Thread nD τ).loc main_arg1) (ix2 k j)) (fun k j => m ((c : Thread nD τ).loc main_arg2) (ix2 k j)) k j := by
  have e1 : ((View.whole main_v1).slice (win0_1.rect t)).emb (ix2 k j) = ix2 k j := by
    blk_ext [idx0 t]
  unfold iblk beside
  blk_simp
  entry_read
  rw [e1]
  by_cases h : j.val < 256
  · simp only [dif_pos h]
    pointwise
    rw [dif_pos h]
  · simp only [dif_neg h]
    pointwise
    rw [dif_neg h]

theorem at_x (c : Dev nD) (t : Fin cfg0.N) (i : Fin 1024) (j : Fin 256) (h : t.val * 1024 + i.val < 8192) :
    iblk m c 2 t (ix2 i j) = m ((c : Thread nD τ).loc main_arg3) (ix2 ⟨t.val * 1024 + i.val, h⟩ j) := by
  blk_ext [iblk, V, idx0 t]

/-- A gradient times the two matrices side by side is the sum of its two halves' products. -/
theorem halves (x0 : Vec Ideal Cert.DxGluRefIdeal.S8192x512 .f32) (x1 x2 : Vec Ideal Cert.DxGluRefIdeal.S256x256 .f32) (i : Fin 8192) (j : Fin 256) :
    (∑ k : Fin 256, @HMul.hMul EReal EReal EReal _ (x0 (ix2 i ⟨256 + k.val, by omega⟩)) (x2 (ix2 j k))) +
      ∑ k : Fin 256, @HMul.hMul EReal EReal EReal _ (x0 (ix2 i ⟨k.val, by omega⟩)) (x1 (ix2 j k)) =
    ∑ k : Fin 512, @HMul.hMul EReal EReal EReal _ (x0 (ix2 i k)) (beside (fun k j => x1 (ix2 k j)) (fun k j => x2 (ix2 k j)) j k) := by
  rw [add_comm]
  refine Eq.trans ?_ (Fin.sum_univ_add (a := 256) (b := 256) (fun k : Fin 512 => @HMul.hMul EReal EReal EReal _ (x0 (ix2 i k)) (beside (fun k j => x1 (ix2 k j)) (fun k j => x2 (ix2 k j)) j k))).symm
  congr 1

theorem reference_apply (x0 : Vec Ideal Cert.DxGluRefIdeal.S8192x512 .f32) (x1 x2 : Vec Ideal Cert.DxGluRefIdeal.S256x256 .f32)
    (x3 : Vec Ideal Cert.DxGluRefIdeal.S8192x256 .f32) (i : Fin 8192) (j : Fin 256) :
    Cert.DxGluRefIdeal.Read.val_main_v40 (F := Ideal) x0 x1 x2 x3 (ix2 i j) =
      terms (∑ k : Fin 512, @HMul.hMul EReal EReal EReal _ (x0 (ix2 i k)) (beside (fun k j => x1 (ix2 k j)) (fun k j => x2 (ix2 k j)) j k)) (x3 (ix2 i j)) := by
  rw [← halves]
  unfold terms tanh' Cert.DxGluRefIdeal.Read.val_main_v40
    Cert.DxGluRefIdeal.Read.val_main_v39
    Cert.DxGluRefIdeal.Read.val_main_v38
    Cert.DxGluRefIdeal.Read.val_main_v37
    Cert.DxGluRefIdeal.Read.val_main_v36
    Cert.DxGluRefIdeal.Read.val_main_v35
    Cert.DxGluRefIdeal.Read.val_main_v34
    Cert.DxGluRefIdeal.Read.val_main_v33
    Cert.DxGluRefIdeal.Read.val_main_v32
    Cert.DxGluRefIdeal.Read.val_main_v31
    Cert.DxGluRefIdeal.Read.val_main_v30
    Cert.DxGluRefIdeal.Read.val_main_v29
    Cert.DxGluRefIdeal.Read.val_main_v28
    Cert.DxGluRefIdeal.Read.val_main_v27
    Cert.DxGluRefIdeal.Read.val_main_v26
    Cert.DxGluRefIdeal.Read.val_main_v25
    Cert.DxGluRefIdeal.Read.val_main_v24
    Cert.DxGluRefIdeal.Read.val_main_v20
    Cert.DxGluRefIdeal.Read.val_main_v19
    Cert.DxGluRefIdeal.Read.val_main_v18
    Cert.DxGluRefIdeal.Read.val_main_v17
    Cert.DxGluRefIdeal.Read.val_main_v16
    Cert.DxGluRefIdeal.Read.val_main_v15
    Cert.DxGluRefIdeal.Read.val_main_v14
    Cert.DxGluRefIdeal.Read.val_main_v13
    Cert.DxGluRefIdeal.Read.val_main_v12
    Cert.DxGluRefIdeal.Read.val_main_v11
    Cert.DxGluRefIdeal.Read.val_main_v10
    Cert.DxGluRefIdeal.Read.val_main_v9
    Cert.DxGluRefIdeal.Read.val_main_v8
    Cert.DxGluRefIdeal.Read.val_main_v7
    Cert.DxGluRefIdeal.Read.val_main_v6
    Cert.DxGluRefIdeal.Read.val_main_v5
    Cert.DxGluRefIdeal.Read.val_main_v4
    Cert.DxGluRefIdeal.Read.val_main_v3
    Cert.DxGluRefIdeal.Read.val_main_v2
    Cert.DxGluRefIdeal.Read.val_main_v1
    Cert.DxGluRefIdeal.Read.val_main_v0
    Cert.DxGluRefIdeal.Read.val_main_cst Cert.DxGluRefIdeal.Read.val_main_cst_0 Cert.DxGluRefIdeal.Read.val_main_cst_1 Cert.DxGluRefIdeal.Read.val_main_cst_2 Cert.DxGluRefIdeal.Read.val_main_cst_3 Cert.DxGluRefIdeal.Read.val_main_cst_4 Cert.DxGluRefIdeal.Read.val_main_cst_5 Cert.DxGluRefIdeal.Read.val_main_cst_6 Cert.DxGluRefIdeal.Read.val_main_cst_7 Cert.DxGluRefIdeal.Read.val_main_cst_8
  pointwise
  have hk : Ideal.div ((44715 : ℝ) : EReal) ((1000000 : ℝ) : EReal) = (kap : EReal) := by
    rw [Ideal.div_coe, ← EReal.coe_mul]
    · refine congrArg _ ?_
      unfold kap
      norm_num
    · norm_num
  rw [half, gelu_scale, Cert.Consts.whole, million, three, hk]

theorem result (c : Dev nD)
    (h0 : ∀ i k, ∃ r : ℝ, (m ((c : Thread nD τ).loc main_arg0) : Vec Ideal S8192x512 .f32) (ix2 i k) = (r : EReal))
    (h1 : ∀ i k, ∃ r : ℝ, (m ((c : Thread nD τ).loc main_arg1) : Vec Ideal S256x256 .f32) (ix2 i k) = (r : EReal))
    (h2 : ∀ i k, ∃ r : ℝ, (m ((c : Thread nD τ).loc main_arg2) : Vec Ideal S256x256 .f32) (ix2 i k) = (r : EReal)) :
    (dats m 0 c).arrAt 3 cfg0.N = Cert.DxGluRefIdeal.Read.val_main_v40 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 3 _ (by decide +kernel) fun t hf y => ?_
  have hN : t.val < 8 := lt_of_lt_of_eq t.isLt (show cfg0.N = 8 from N_0)
  blk_simp
  rw [value]
  idx_vars y
  have e : ((View.whole main_v3).slice (win0_3.rect t)).emb (ix2 y0 y1) = ix2 (⟨t.val * 1024 + y0.val, by omega⟩ : Fin 8192) y1 := by
    blk_ext [idx0 t]
  refine Eq.trans ?_ (congrArg (Cert.DxGluRefIdeal.Read.val_main_v40 (F := Ideal) _ _ _ _) e.symm)
  rw [reference_apply]
  have hb : ∀ k j, ∃ r : ℝ, beside (fun k j => m ((c : Thread nD τ).loc main_arg1) (ix2 k j)) (fun k j => m ((c : Thread nD τ).loc main_arg2) (ix2 k j)) k j = (r : EReal) := by
    intro k j
    unfold beside
    split_ifs with h
    · exact h1 _ _
    · exact h2 _ _
  refine Eq.trans ?_ (entry (fun k => m ((c : Thread nD τ).loc main_arg0) (ix2 ⟨t.val * 1024 + y0.val, by omega⟩ k)) _ _ (fun k => h0 _ _) (hb y1))
  exact congrArg₂ (fun x y : EReal => x * grad y)
    (Finset.sum_congr (M := EReal) rfl fun k _ => congrArg₂ (fun x y : EReal => x * y) (at_a m c t y0 k (by omega)) (at_b m c t y1 k))
    (at_x m c t y0 y1 (by omega))

end Cert.DxGluIdeal.Result

end
-- ==== Proof.PleElemValue.lean ====
/- The gradients behind the gated per-layer embedding: the values of the kernel are the reference's. -/
module

public import proofs.«01_k».proof.Proof.Gen.PleElemIdeal.Value
public import proofs.«01_k».proof.Proof.Gen.PleElemRefIdeal.Read
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

noncomputable section

namespace Cert.PleElemIdeal.Result

open Cert.PleElemIdeal Cert.PleElemIdeal.Gen Idealize.ShloMosaic Idealize.ShloMosaic.TcCoe Idealize.SL.Sem
open Idealize.ShloMosaic.Pipeline (Dat)

variable (m : (ℓ : Loc nD τ sig) → Buf (Elt Ideal) ℓ)

theorem pre_apply (d g e : Vec Ideal S512x1024 .f32) (y : S512x1024.Idx) :
    k0_pay2 (F := Ideal) d g e y = @HMul.hMul EReal EReal EReal _ (d y) (e y) * g y * (Ideal.ofBits .f32 0x3F800000#32 - g y) := by
  unfold k0_pay2 k0_pay1
  pointwise

theorem emb_apply (d g : Vec Ideal S512x1024 .f32) (y : S512x1024.Idx) :
    k0_pay3 (F := Ideal) d g y = @HMul.hMul EReal EReal EReal _ (d y) (g y) := by
  unfold k0_pay3 k0_pay1
  pointwise

theorem value3 (c : Dev nD) (t : Fin cfg0.N) : (dats m 0 c).after 3 t = k0_pay2 (F := Ideal) (iblk m c 0 t) (iblk m c 1 t) (iblk m c 2 t) := by
  rw [after0_3]
  unfold out0_3
  frame_out

theorem value4 (c : Dev nD) (t : Fin cfg0.N) : (dats m 0 c).after 4 t = k0_pay3 (F := Ideal) (iblk m c 0 t) (iblk m c 1 t) := by
  rw [after0_4]
  unfold out0_4
  frame_out

theorem idx0 : ∀ t : Fin cfg0.N, win0_0.index t = ![t.val, 0] ∧ win0_1.index t = ![t.val, 0] ∧
    win0_2.index t = ![t.val, 0] ∧ win0_3.index t = ![t.val, 0] ∧ win0_4.index t = ![t.val, 0] := by
  decide +kernel

/-- The gate, of what goes into it. -/
def gate (x : EReal) : EReal := Ideal.div (Ideal.ofBits .f32 0x3F800000#32) (Ideal.ofBits .f32 0x3F800000#32 + Ideal.exp (-x))

theorem at_d (c : Dev nD) (t : Fin cfg0.N) (i : Fin 512) (j : Fin 1024) (h : t.val * 512 + i.val < 8192) :
    iblk m c 0 t (ix2 i j) = m ((c : Thread nD τ).loc main_arg2) (ix2 ⟨t.val * 512 + i.val, h⟩ j) := by
  blk_ext [iblk, V, idx0 t]

theorem at_g (c : Dev nD) (t : Fin cfg0.N) (i : Fin 512) (j : Fin 1024) (h : t.val * 512 + i.val < 8192) :
    iblk m c 1 t (ix2 i j) = gate (m ((c : Thread nD τ).loc main_arg0) (ix2 ⟨t.val * 512 + i.val, h⟩ j)) := by
  have e : ((View.whole main_v5).slice (win0_1.rect t)).emb (ix2 i j) = ix2 (⟨t.val * 512 + i.val, h⟩ : Fin 8192) j := by
    blk_ext [idx0 t]
  unfold iblk gate
  blk_simp
  entry_read
  rw [e]
  pointwise

theorem at_e (c : Dev nD) (t : Fin cfg0.N) (i : Fin 512) (j : Fin 1024) (h : t.val * 512 + i.val < 8192) :
    iblk m c 2 t (ix2 i j) = m ((c : Thread nD τ).loc main_arg1) (ix2 ⟨t.val * 512 + i.val, h⟩ j) := by
  blk_ext [iblk, V, idx0 t]

theorem pre_reference (x0 x1 x2 : Vec Ideal Cert.PleElemRefIdeal.S8192x1024 .f32) (i : Fin 8192) (j : Fin 1024) :
    Cert.PleElemRefIdeal.Read.val_main_v13 (F := Ideal) x0 x1 x2 (ix2 i j) =
      @HMul.hMul EReal EReal EReal _ (@HMul.hMul EReal EReal EReal _ (x2 (ix2 i j)) (x1 (ix2 i j)))
        (gate (x0 (ix2 i j)) * (Ideal.ofBits .f32 0x3F800000#32 - gate (x0 (ix2 i j)))) := by
  unfold Cert.PleElemRefIdeal.Read.val_main_v13 Cert.PleElemRefIdeal.Read.val_main_v12 Cert.PleElemRefIdeal.Read.val_main_v11
    Cert.PleElemRefIdeal.Read.val_main_v8 Cert.PleElemRefIdeal.Read.val_main_v7 Cert.PleElemRefIdeal.Read.val_main_v6
    Cert.PleElemRefIdeal.Read.val_main_v5 Cert.PleElemRefIdeal.Read.val_main_v4 Cert.PleElemRefIdeal.Read.val_main_v3
    Cert.PleElemRefIdeal.Read.val_main_v2 Cert.PleElemRefIdeal.Read.val_main_v1 Cert.PleElemRefIdeal.Read.val_main_v0
    Cert.PleElemRefIdeal.Read.val_main_cst Cert.PleElemRefIdeal.Read.val_main_cst_0 Cert.PleElemRefIdeal.Read.val_main_cst_1 gate
  pointwise

theorem emb_reference (x0 x2 : Vec Ideal Cert.PleElemRefIdeal.S8192x1024 .f32) (i : Fin 8192) (j : Fin 1024) :
    Cert.PleElemRefIdeal.Read.val_main_v14 (F := Ideal) x0 x2 (ix2 i j) = gate (x0 (ix2 i j)) * (x2 (ix2 i j)) := by
  unfold Cert.PleElemRefIdeal.Read.val_main_v14 Cert.PleElemRefIdeal.Read.val_main_v10
    Cert.PleElemRefIdeal.Read.val_main_v5 Cert.PleElemRefIdeal.Read.val_main_v4 Cert.PleElemRefIdeal.Read.val_main_v3
    Cert.PleElemRefIdeal.Read.val_main_v2 Cert.PleElemRefIdeal.Read.val_main_v1 Cert.PleElemRefIdeal.Read.val_main_v0
    Cert.PleElemRefIdeal.Read.val_main_cst Cert.PleElemRefIdeal.Read.val_main_cst_0 gate
  pointwise

theorem result3 (c : Dev nD) : (dats m 0 c).arrAt 3 cfg0.N =
    Cert.PleElemRefIdeal.Read.val_main_v13 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  have hN : t.val < 16 := lt_of_lt_of_eq t.isLt (show cfg0.N = 16 from N_0)
  blk_simp
  rw [value3]
  idx_vars y
  have e : ((View.whole main_v6_0).slice (win0_3.rect t)).emb (ix2 y0 y1) = ix2 (⟨t.val * 512 + y0.val, by omega⟩ : Fin 8192) y1 := by
    blk_ext [idx0 t]
  refine Eq.trans ?_ (congrArg (Cert.PleElemRefIdeal.Read.val_main_v13 (F := Ideal) _ _ _) e.symm)
  rw [pre_reference, pre_apply, at_d m c t y0 y1 (by omega), at_g m c t y0 y1 (by omega), at_e m c t y0 y1 (by omega)]
  exact mul_assoc (G := EReal) _ _ _

theorem result4 (c : Dev nD) : (dats m 0 c).arrAt 4 cfg0.N =
    Cert.PleElemRefIdeal.Read.val_main_v14 (F := Ideal) (m ((c : Thread nD τ).loc main_arg0)) (m ((c : Thread nD τ).loc main_arg2)) := by
  refine (dats m 0 c).arrAt_eq_of_covers 4 _ (by decide +kernel) fun t hf y => ?_
  have hN : t.val < 16 := lt_of_lt_of_eq t.isLt (show cfg0.N = 16 from N_0)
  blk_simp
  rw [value4]
  idx_vars y
  have e : ((View.whole main_v6_1).slice (win0_4.rect t)).emb (ix2 y0 y1) = ix2 (⟨t.val * 512 + y0.val, by omega⟩ : Fin 8192) y1 := by
    blk_ext [idx0 t]
  refine Eq.trans ?_ (congrArg (Cert.PleElemRefIdeal.Read.val_main_v14 (F := Ideal) _ _) e.symm)
  rw [emb_reference, emb_apply, at_d m c t y0 y1 (by omega), at_g m c t y0 y1 (by omega)]
  exact mul_comm (G := EReal) _ _

end Cert.PleElemIdeal.Result

end
-- ==== Proof.GmlpValue.lean ====
/- The forward pass of mixer A: a head's gelu, the norm of its gate, the causal mixing of a chunk's rows, and the gate. -/
module

public import proofs.«01_k».proof.Proof.Gen.GmlpIdeal.Value
public import proofs.«01_k».proof.Proof.Gen.GmlpRefIdeal.Read
public import proofs.«01_k».proof.Proof.Head
public import proofs.«01_k».proof.Proof.Ref
public import Idealize.ShloMosaic.Lib.Pipeline.ReadBack

@[expose] public section

set_option maxRecDepth 16384

noncomputable section

namespace Cert.GmlpIdeal.Result

open Cert.GmlpIdeal Cert.GmlpIdeal.Gen Idealize.ShloMosaic Idealize.ShloMosaic.TcCoe Idealize.SL.Sem
open Idealize.ShloMosaic.Pipeline (Dat)
open Cert.GmlpRefIdeal.Read Cert.Gmlp Cert.Consts
open Cert.KernelIdeal.Head (geluV tanhV xcV rstdV xhatV vnV lowerV mm rot rowMean rowSum zeroV mk_lo mk_hi rot_lo rot_hi rows_apply lanes_apply
  rowSum_apply mm_apply lowerV_apply zeroV_apply)

variable (m : (ℓ : Loc nD τ sig) → Buf (Elt Ideal) ℓ)

/-! The mathematics, of one head. -/

/-- The gelu. -/
def gl (x : EReal) : EReal := Ideal.ofBits .f32 0x3F000000#32 * x *
  (Ideal.ofBits .f32 0x3F800000#32 + Ideal.tanh (Ideal.ofBits .f32 0x3F4C422A#32 * (x + ((kap : ℝ) : EReal) * (x * x * x))))

/-- A gate's row less its mean. -/
def cen (v : Fin 64 → EReal) (e : Fin 64) : EReal := v e - (∑ k, v k) * Ideal.ofBits .f32 0x3C800000#32

/-- A gate's row through its norm. -/
def nrm (v g b : Fin 64 → EReal) (e : Fin 64) : EReal :=
  cen v e * Ideal.rsqrt ((∑ k, cen v k * cen v k) * Ideal.ofBits .f32 0x3C800000#32 + Ideal.ofBits .f32 0x358637BD#32) * g e + b e

/-- A head's output: the values times the mixed gate. `z` are the chunk's rows, `w` the mixing matrix, `s` its bias. -/
def head (z w : Fin 128 → Fin 128 → EReal) (g b : Fin 64 → EReal) (s : Fin 128 → EReal) (t : Fin 128) (e : Fin 64) : EReal :=
  gl (z t (lo e)) * ((∑ u, (if u ≤ t then w t u else 0) * nrm (fun k => gl (z u (hi k))) g b e) + s t)

/-! The kernel's vectors of one chunk and head. -/

def headV (lg lb : Vec Ideal S1x128 .f32) (W b : Vec Ideal S1x128x128 .f32) (Z : Vec Ideal S128x128 .f32) : FVec Ideal S128x128 .f32 :=
  mulf (geluV Z) (rot (addf (mm (lowerV (Cert.KernelIdeal.Head.one W)) (vnV lg lb Z)) (Cert.KernelIdeal.Head.one b)))

/-- Two heads side by side. -/
def pairV (a b : FVec Ideal S128x128 .f32) : FVec Ideal S128x128 .f32 :=
  shapeCast S128x128 (addf a (rot b)) shapeCasts_S128x128_S128x128

theorem geluV_gl (Z : Vec Ideal S128x128 .f32) (t l : Fin 128) : geluV Z (ix2 t l) = gl (Z (ix2 t l)) := by
  unfold geluV tanhV gl
  pointwise
  rw [IdealRules.named_const.ideal_named_scalar Cert.KernelIdeal.κ "gelu_cubic" _ _ rfl]
  rfl

/-- The norm's gain and bias, and the mixing's bias, are zero on the values' lanes. -/
structure Reads (g b : Fin 64 → EReal) (s : Fin 128 → EReal) (lg lb : Vec Ideal S1x128 .f32) (bf : Vec Ideal S1x128x128 .f32) : Prop where
  lg0 : ∀ e, lg (ix2 0 (lo e)) = (0 : EReal)
  lg1 : ∀ e, lg (ix2 0 (hi e)) = g e
  lb0 : ∀ e, lb (ix2 0 (lo e)) = (0 : EReal)
  lb1 : ∀ e, lb (ix2 0 (hi e)) = b e
  bf0 : ∀ t e, bf (ix3 0 t (lo e)) = (0 : EReal)
  bf1 : ∀ t e, bf (ix3 0 t (hi e)) = s t

theorem zero_lane (t l : Fin 128) : (zeroV : FVec Ideal S128x128 .f32) (ix2 t l) = (0 : EReal) := (zeroV_apply t l).trans EReal.coe_zero

/-- The mean over the gate's lanes, of a vector that is zero on the others. -/
theorem mean_hi (a : FVec Ideal S128x128 .f32) (t : Fin 128) (i : Fin 1) (h : ∀ e, a (ix2 t (lo e)) = (0 : EReal)) :
    rowMean a (ix2 t i) = @HMul.hMul EReal EReal EReal _ (∑ e, (a (ix2 t (hi e)) : EReal)) (Ideal.ofBits .f32 0x3C800000#32) := by
  unfold rowMean
  pointwise
  rw [rowSum_apply]
  refine congrArg (fun x : EReal => x * _) ?_
  rw [sum_lanes]
  simp only [h, Finset.sum_const_zero, zero_add]

theorem xc_lo (Z : Vec Ideal S128x128 .f32) (t : Fin 128) (e : Fin 64) : xcV Z (ix2 t (lo e)) = (0 : EReal) := by
  unfold xcV
  rw [mk_lo, zero_lane]

theorem xc_hi (Z : Vec Ideal S128x128 .f32) (t : Fin 128) (e : Fin 64) : xcV Z (ix2 t (hi e)) = cen (fun k => gl (Z (ix2 t (hi k)))) e := by
  unfold xcV cen
  rw [mk_hi]
  pointwise
  rw [rows_apply, mean_hi _ _ _ (fun e => (mk_lo _ _ t e).trans (zero_lane t _)), geluV_gl]
  simp only [mk_hi, geluV_gl]

section Head
variable {g b : Fin 64 → EReal} {s : Fin 128 → EReal} {lg lb : Vec Ideal S1x128 .f32} {bf : Vec Ideal S1x128x128 .f32} (H : Reads g b s lg lb bf)
  (W : Vec Ideal S1x128x128 .f32) (Z : Vec Ideal S128x128 .f32) (t : Fin 128) (e : Fin 64)
include H

theorem vn_lo : vnV lg lb Z (ix2 t (lo e)) = (0 : EReal) := by
  unfold vnV xhatV
  pointwise
  rw [lanes_apply, lanes_apply, xc_lo, H.lg0, H.lb0, mul_zero, zero_add]

theorem vn_hi : vnV lg lb Z (ix2 t (hi e)) = nrm (fun k => gl (Z (ix2 t (hi k)))) g b e := by
  unfold vnV xhatV rstdV nrm
  pointwise
  rw [lanes_apply, lanes_apply, rows_apply, xc_hi, H.lg1, H.lb1]
  pointwise
  rw [mean_hi _ _ _ (fun e => by pointwise; rw [xc_lo, mul_zero])]
  have q : ∀ k, mulf (xcV Z) (xcV Z) (ix2 t (hi k)) = @HMul.hMul EReal EReal EReal _ (xcV Z (ix2 t (hi k))) (xcV Z (ix2 t (hi k))) := fun _ => rfl
  simp only [q, xc_hi]

theorem one_at (a : Vec Ideal S1x128x128 .f32) (t l : Fin 128) : Cert.KernelIdeal.Head.one a (ix2 t l) = a (ix3 0 t l) := by
  unfold Cert.KernelIdeal.Head.one
  pointwise

theorem head_lo : headV lg lb W bf Z (ix2 t (lo e)) = head (fun t l => Z (ix2 t l)) (fun t u => W (ix3 0 t u)) g b s t e := by
  unfold headV head
  pointwise
  rw [geluV_gl, rot_lo]
  pointwise
  rw [mm_apply, one_at H, H.bf1]
  simp only [lowerV_apply, vn_hi H, one_at H, EReal.coe_zero]

theorem head_hi : headV lg lb W bf Z (ix2 t (hi e)) = (0 : EReal) := by
  unfold headV
  pointwise
  rw [rot_hi]
  pointwise
  rw [mm_apply, one_at H, H.bf0]
  simp only [vn_lo H, mul_zero, Finset.sum_const_zero, add_zero]

end Head

theorem pair_lo (a b : FVec Ideal S128x128 .f32) (t : Fin 128) (e : Fin 64) (h : b (ix2 t (hi e)) = (0 : EReal)) :
    pairV a b (ix2 t (lo e)) = a (ix2 t (lo e)) := by
  unfold pairV
  pointwise
  rw [rot_lo, h, add_zero]

theorem pair_hi (a b : FVec Ideal S128x128 .f32) (t : Fin 128) (e : Fin 64) (h : a (ix2 t (hi e)) = (0 : EReal)) :
    pairV a b (ix2 t (hi e)) = b (ix2 t (lo e)) := by
  unfold pairV
  pointwise
  rw [rot_hi, h, zero_add]

theorem out_eq (x0 : Vec Ideal S256x512 .f32) (x1 x2 : Vec Ideal S4x128x128 .f32) (x3 x4 : Vec Ideal S4x128 .f32) : out0_5 x0 x1 x2 x3 x4 = View.canon
    [⟨r0_19, pairV (headV (View.ld x3 r0_9) (View.ld x4 r0_9) (View.ld x1 r0_8) (View.ld x2 r0_8) (View.ld x0 r0_17))
        (headV (View.ld x3 r0_12) (View.ld x4 r0_12) (View.ld x1 r0_11) (View.ld x2 r0_11) (View.ld x0 r0_18))⟩,
      ⟨r0_16, pairV (headV (View.ld x3 r0_2) (View.ld x4 r0_2) (View.ld x1 r0_1) (View.ld x2 r0_1) (View.ld x0 r0_14))
        (headV (View.ld x3 r0_5) (View.ld x4 r0_5) (View.ld x1 r0_4) (View.ld x2 r0_4) (View.ld x0 r0_15))⟩,
      ⟨r0_13, pairV (headV (View.ld x3 r0_9) (View.ld x4 r0_9) (View.ld x1 r0_8) (View.ld x2 r0_8) (View.ld x0 r0_7))
        (headV (View.ld x3 r0_12) (View.ld x4 r0_12) (View.ld x1 r0_11) (View.ld x2 r0_11) (View.ld x0 r0_10))⟩,
      ⟨r0_6, pairV (headV (View.ld x3 r0_2) (View.ld x4 r0_2) (View.ld x1 r0_1) (View.ld x2 r0_1) (View.ld x0 r0_0))
        (headV (View.ld x3 r0_5) (View.ld x4 r0_5) (View.ld x1 r0_4) (View.ld x2 r0_4) (View.ld x0 r0_3))⟩] := by
  unfold_out out0_5
  rfl

/-! The reference, one operation at a time. -/

section Ref
variable (z : Vec Ideal S8192x1536 .f32) (g b : Vec Ideal S4x64 .f32) (w : Vec Ideal S4x128x128 .f32) (s : Vec Ideal S4x128 .f32)

/-- The rows of chunk `n` and head `h`. -/
def zOf (n : Fin 64) (h : Fin 4) (t l : Fin 128) : EReal := z (ix2 (row n t) (col h l))

theorem ref_coef (i : S_.Idx) : val_main_v2 (F := Ideal) i = ((kap : ℝ) : EReal) := by
  unfold val_main_v2 val_main_cst val_main_cst_0
  pointwise
  rw [whole, million, Ideal.div_coe (by norm_num), ← EReal.coe_mul]
  refine congrArg _ ?_
  unfold kap
  norm_num

theorem ref_gelu (r : Fin 8192) (l : Fin 512) : val_main_v15 (F := Ideal) z (ix3 0 r l) = gl (z (ix2 r ⟨l.val, by omega⟩)) := by
  have q : val_main_v1 (F := Ideal) z (ix3 0 r l) = z (ix2 r ⟨l.val, by omega⟩) := by
    unfold val_main_v1 val_main_v0
    pointwise
  unfold val_main_v15 val_main_v14 val_main_v13 val_main_v12 val_main_v11 val_main_v10 val_main_v9 val_main_v8 val_main_v7 val_main_v6
    val_main_v5 val_main_v4 val_main_v3 val_main_cst_1 val_main_cst_2 val_main_cst_3
  pointwise
  rw [q, ref_coef]
  unfold gl
  rw [mul_assoc (Ideal.ofBits .f32 0x3F000000#32), one, EReal.coe_one]
  exact mul_left_comm (G := EReal) _ _ _

theorem ref_act (n : Fin 64) (t : Fin 128) (h : Fin 4) (l : Fin 128) : val_main_v16 (F := Ideal) z (ix5 0 n t h l) = gl (zOf z n h t l) := by
  unfold val_main_v16
  pointwise
  rw [ref_gelu]
  unfold zOf row col
  refine congrArg gl (congrArg z (congrArg₂ ix2 (Fin.ext ?_) (Fin.ext ?_)))
  · show n.val * 128 + t.val = 128 * n.val + t.val
    omega
  · show h.val * 128 + l.val = 128 * h.val + l.val
    omega

theorem ref_gate (n : Fin 64) (t : Fin 128) (h : Fin 4) (e : Fin 64) : val_main_v18 (F := Ideal) z (ix5 0 n t h e) = gl (zOf z n h t (hi e)) := by
  unfold val_main_v18
  pointwise
  exact ref_act z n t h (hi e)

theorem ref_mean (n : Fin 64) (t : Fin 128) (h : Fin 4) : val_main_v22 (F := Ideal) z (ix5 0 n t h 0) =
    @HMul.hMul EReal EReal EReal _ (∑ k, gl (zOf z n h t (hi k))) (Ideal.ofBits .f32 0x3C800000#32) := by
  unfold val_main_v22 val_main_v21 val_main_v20 val_main_v19 val_main_cst_4 val_main_cst_5
  pointwise
  simp only [ref_gate]
  rw [sixtyFour, Ideal.div_coe (by norm_num), inv64]

theorem ref_cen (n : Fin 64) (t : Fin 128) (h : Fin 4) (e : Fin 64) :
    val_main_v24 (F := Ideal) z (ix5 0 n t h e) = cen (fun k => gl (zOf z n h t (hi k))) e := by
  unfold val_main_v24 val_main_v23
  pointwise
  rw [ref_gate, ref_mean]
  rfl

theorem ref_nrm (n : Fin 64) (t : Fin 128) (h : Fin 4) (e : Fin 64) : val_main_v40 (F := Ideal) z g b (ix5 0 n t h e) =
    nrm (fun k => gl (zOf z n h t (hi k))) (fun e => g (ix2 h e)) (fun e => b (ix2 h e)) e := by
  unfold val_main_v40 val_main_v39 val_main_v38 val_main_v37 val_main_v36 val_main_v35 val_main_v34 val_main_v33 val_main_v32 val_main_v31
    val_main_v30 val_main_v29 val_main_v28 val_main_v27 val_main_v26 val_main_v25 val_main_cst_6 val_main_cst_7 val_main_cst_8
  pointwise
  simp only [ref_cen]
  rw [sixtyFour, Ideal.div_coe (by norm_num), ← inv64]
  rfl

theorem ref_mask (t u : Fin 128) : val_main_v42 (F := Ideal) (ix2 t u) = BitVec.ofBool (decide (u ≤ t)) := by
  unfold val_main_v42 val_main_v41 val_main_call0_v5 val_main_call0_v4 val_main_call0_v3 val_main_call0_v2 val_main_call0_v1
    val_main_call0_v0 val_main_call0_c val_main_call0_c_0 val_main_c
  pointwise
  rw [show IntOp.addi (BitVec.ofNat 32 t.val) 0#32 = BitVec.ofNat 32 t.val from BitVec.add_zero _,
    WordCmp.cmpi_sge_ofNat (by have := t.isLt; norm_num; omega) (by have := u.isLt; norm_num; omega), WordCmp.select_ofBool]
  by_cases h : u ≤ t
  · rw [decide_eq_true h, decide_eq_true (show u.val ≤ t.val from h)]
    rfl
  · rw [decide_eq_false h, decide_eq_false (show ¬u.val ≤ t.val from h)]
    rfl

theorem ref_lower (h : Fin 4) (t u : Fin 128) : val_main_v43 (F := Ideal) w (ix3 h t u) = @ite EReal (u ≤ t) _ (w (ix3 h t u)) 0 := by
  unfold val_main_v43 val_main_call1_v2 val_main_call1_v1 val_main_call1_v0 val_main_cst_9
  pointwise
  rw [ref_mask, WordCmp.select_ofBool]
  simp only [decide_eq_true_eq]
  split
  · rfl
  · exact zero.trans EReal.coe_zero

theorem ref_head (n : Fin 64) (t : Fin 128) (h : Fin 4) (e : Fin 64) : val_main_v50 (F := Ideal) z g b w s (ix5 0 n t h e) =
    head (zOf z n h) (fun t u => w (ix3 h t u)) (fun e => g (ix2 h e)) (fun e => b (ix2 h e)) (fun t => s (ix2 h t)) t e := by
  have q : val_main_v17 (F := Ideal) z (ix5 0 n t h e) = gl (zOf z n h t (lo e)) := by
    unfold val_main_v17
    pointwise
    exact ref_act z n t h (lo e)
  unfold val_main_v50 val_main_v49 val_main_v48 val_main_v47 val_main_v46 val_main_v45 val_main_v44
  pointwise
  rw [q]
  simp only [ref_nrm, ref_lower]
  unfold head
  simp only [mul_comm (nrm _ _ _ _)]

theorem ref_out (n : Fin 64) (t : Fin 128) (h : Fin 4) (e : Fin 64) : val_main_v52 (F := Ideal) z g b w s (ix2 (row n t) (lane h e)) =
    head (zOf z n h) (fun t u => w (ix3 h t u)) (fun e => g (ix2 h e)) (fun e => b (ix2 h e)) (fun t => s (ix2 h t)) t e := by
  rw [← ref_head]
  unfold val_main_v52 val_main_v51
  pointwise
  refine congrArg (val_main_v50 (F := Ideal) z g b w s) ?_
  have i1 := t.isLt
  have i2 := e.isLt
  refine Cert.ReferenceIdeal.Ref.ix5_ext rfl (Fin.ext ?_) (Fin.ext ?_) (Fin.ext ?_) (Fin.ext ?_)
  · show (128 * n.val + t.val) / 128 = n.val
    omega
  · show (128 * n.val + t.val) % 128 = t.val
    omega
  · show (64 * h.val + e.val) / 64 = h.val
    omega
  · show (64 * h.val + e.val) % 64 = e.val
    omega

end Ref

/-! The kernel's loads of its blocks. -/

/-- What one grid point's blocks hold: two chunks of rows, and every head's matrix, biases and gain. -/
structure Stage (zz : Fin 2 → Fin 4 → Fin 128 → Fin 128 → EReal) (ww : Fin 4 → Fin 128 → Fin 128 → EReal) (g b : Fin 4 → Fin 64 → EReal)
    (s : Fin 4 → Fin 128 → EReal) (Z : Vec Ideal S256x512 .f32) (W BF : Vec Ideal S4x128x128 .f32) (LG LB : Vec Ideal S4x128 .f32) : Prop where
  z : ∀ k h t l, Z (ix2 ⟨128 * k.val + t.val, by omega⟩ ⟨128 * h.val + l.val, by omega⟩) = zz k h t l
  w : ∀ h t u, W (ix3 h t u) = ww h t u
  bf0 : ∀ h t e, BF (ix3 h t (lo e)) = (0 : EReal)
  bf1 : ∀ h t e, BF (ix3 h t (hi e)) = s h t
  lg0 : ∀ h e, LG (ix2 h (lo e)) = (0 : EReal)
  lg1 : ∀ h e, LG (ix2 h (hi e)) = g h e
  lb0 : ∀ h e, LB (ix2 h (lo e)) = (0 : EReal)
  lb1 : ∀ h e, LB (ix2 h (hi e)) = b h e

section Stage
variable {zz : Fin 2 → Fin 4 → Fin 128 → Fin 128 → EReal} {ww : Fin 4 → Fin 128 → Fin 128 → EReal} {g b : Fin 4 → Fin 64 → EReal}
  {s : Fin 4 → Fin 128 → EReal} {Z : Vec Ideal S256x512 .f32} {W BF : Vec Ideal S4x128x128 .f32} {LG LB : Vec Ideal S4x128 .f32}
  (S : Stage zz ww g b s Z W BF LG LB)
include S

theorem Stage.reads (h : Fin 4) (k : Nat) (hk : k = h.val)
    (i1 : ∀ x, (![k, 0] : Fin 2 → Nat) x + (![1, 128] : Fin 2 → Nat) x ≤ S4x128.size x)
    (i3 : ∀ x, (![k, 0, 0] : Fin 3 → Nat) x + (![1, 128, 128] : Fin 3 → Nat) x ≤ S4x128x128.size x) :
    Reads (g h) (b h) (s h) (View.ld LG (Rect.unit ![k, 0] ![1, 128] i1)) (View.ld LB (Rect.unit ![k, 0] ![1, 128] i1))
      (View.ld BF (Rect.unit ![k, 0, 0] ![1, 128, 128] i3)) := by
  subst hk
  refine ⟨fun e => ?_, fun e => ?_, fun e => ?_, fun e => ?_, fun t e => ?_, fun t e => ?_⟩
  · pointwise
    exact S.lg0 h e
  · pointwise
    exact S.lg1 h e
  · pointwise
    exact S.lb0 h e
  · pointwise
    exact S.lb1 h e
  · pointwise
    exact S.bf0 h t e
  · pointwise
    exact S.bf1 h t e

theorem Stage.value (c : Fin 2) (h : Fin 4) (a o k : Nat) (ha : a = 128 * c.val) (ho : o = 128 * h.val) (hk : k = h.val)
    (i1 : ∀ x, (![k, 0] : Fin 2 → Nat) x + (![1, 128] : Fin 2 → Nat) x ≤ S4x128.size x)
    (i3 : ∀ x, (![k, 0, 0] : Fin 3 → Nat) x + (![1, 128, 128] : Fin 3 → Nat) x ≤ S4x128x128.size x)
    (i6 : ∀ x, (![a, o] : Fin 2 → Nat) x + (![128, 128] : Fin 2 → Nat) x ≤ S256x512.size x) (t : Fin 128) (e : Fin 64) :
    headV (View.ld LG (Rect.unit ![k, 0] ![1, 128] i1)) (View.ld LB (Rect.unit ![k, 0] ![1, 128] i1))
      (View.ld W (Rect.unit ![k, 0, 0] ![1, 128, 128] i3)) (View.ld BF (Rect.unit ![k, 0, 0] ![1, 128, 128] i3))
      (View.ld Z (Rect.unit ![a, o] ![128, 128] i6)) (ix2 t (lo e)) = head (zz c h) (ww h) (g h) (b h) (s h) t e := by
  rw [head_lo (S.reads h k hk i1 i3)]
  subst ha ho hk
  have e1 : (fun t l => View.ld Z (Rect.unit ![128 * c.val, 128 * h.val] ![128, 128] i6) (ix2 t l)) = zz c h := by
    funext t l
    pointwise
    exact S.z c h t l
  have e2 : (fun t u => View.ld W (Rect.unit ![h.val, 0, 0] ![1, 128, 128] i3) (ix3 0 t u)) = ww h := by
    funext t u
    pointwise
    exact S.w h t u
  exact congrArg₂ (fun p q => head p q (g h) (b h) (s h) t e) e1 e2

/-- A store of two heads of a chunk holds the wanted part of the block. -/
theorem Stage.piece (T : S256x256.Idx → EReal)
    (hT : ∀ (c : Fin 2) (h : Fin 4) (t : Fin 128) (e : Fin 64), T (ix2 ⟨128 * c.val + t.val, by omega⟩ ⟨64 * h.val + e.val, by omega⟩) =
      head (zz c h) (ww h) (g h) (b h) (s h) t e)
    (c : Fin 2) (h h' : Fin 4) (a o o' k k' q : Nat) (ha : a = 128 * c.val) (ho : o = 128 * h.val) (hk : k = h.val)
    (ho' : o' = 128 * h'.val) (hk' : k' = h'.val) (hq : q = 64 * h.val) (hh : h'.val = h.val + 1)
    (i1 : ∀ x, (![k, 0] : Fin 2 → Nat) x + (![1, 128] : Fin 2 → Nat) x ≤ S4x128.size x)
    (i3 : ∀ x, (![k, 0, 0] : Fin 3 → Nat) x + (![1, 128, 128] : Fin 3 → Nat) x ≤ S4x128x128.size x)
    (i6 : ∀ x, (![a, o] : Fin 2 → Nat) x + (![128, 128] : Fin 2 → Nat) x ≤ S256x512.size x)
    (j1 : ∀ x, (![k', 0] : Fin 2 → Nat) x + (![1, 128] : Fin 2 → Nat) x ≤ S4x128.size x)
    (j3 : ∀ x, (![k', 0, 0] : Fin 3 → Nat) x + (![1, 128, 128] : Fin 3 → Nat) x ≤ S4x128x128.size x)
    (j6 : ∀ x, (![a, o'] : Fin 2 → Nat) x + (![128, 128] : Fin 2 → Nat) x ≤ S256x512.size x)
    (i7 : ∀ x, (![a, q] : Fin 2 → Nat) x + (![128, 128] : Fin 2 → Nat) x ≤ S256x256.size x) (x : S128x128.Idx) :
    pairV (headV (View.ld LG (Rect.unit ![k, 0] ![1, 128] i1)) (View.ld LB (Rect.unit ![k, 0] ![1, 128] i1))
        (View.ld W (Rect.unit ![k, 0, 0] ![1, 128, 128] i3)) (View.ld BF (Rect.unit ![k, 0, 0] ![1, 128, 128] i3))
        (View.ld Z (Rect.unit ![a, o] ![128, 128] i6)))
      (headV (View.ld LG (Rect.unit ![k', 0] ![1, 128] j1)) (View.ld LB (Rect.unit ![k', 0] ![1, 128] j1))
        (View.ld W (Rect.unit ![k', 0, 0] ![1, 128, 128] j3)) (View.ld BF (Rect.unit ![k', 0, 0] ![1, 128, 128] j3))
        (View.ld Z (Rect.unit ![a, o'] ![128, 128] j6))) x = T ((Rect.unit (s := S256x256) ![a, q] ![128, 128] i7).emb x) := by
  obtain ⟨t, l, rfl⟩ : ∃ (t : Fin 128) (l : Fin 128), x = ix2 t l := ⟨x 0, x 1, funext fun a => match a with
    | ⟨0, _⟩ => rfl
    | ⟨1, _⟩ => rfl⟩
  rcases lane_cases l with ⟨e, rfl⟩ | ⟨e, rfl⟩
  · rw [pair_lo _ _ t e (head_hi (S.reads h' k' hk' j1 j3) _ _ t e), S.value c h a o k ha ho hk, ← hT]
    refine congrArg T (funext fun x => Fin.ext ?_)
    match x with
    | ⟨0, _⟩ => show 128 * c.val + t.val = a + 1 * t.val; omega
    | ⟨1, _⟩ => show 64 * h.val + e.val = q + 1 * e.val; omega
  · rw [pair_hi _ _ t e (head_hi (S.reads h k hk i1 i3) _ _ t e), S.value c h' a o' k' ha ho' hk', ← hT]
    refine congrArg T (funext fun x => Fin.ext ?_)
    match x with
    | ⟨0, _⟩ => show 128 * c.val + t.val = a + 1 * t.val; omega
    | ⟨1, _⟩ => show 64 * h'.val + e.val = q + 1 * (64 + e.val); omega

theorem Stage.block (T : S256x256.Idx → EReal)
    (hT : ∀ (c : Fin 2) (h : Fin 4) (t : Fin 128) (e : Fin 64), T (ix2 ⟨128 * c.val + t.val, by omega⟩ ⟨64 * h.val + e.val, by omega⟩) =
      head (zz c h) (ww h) (g h) (b h) (s h) t e) : out0_5 Z W BF LG LB = T := by
  rw [out_eq]
  funext y
  refine View.canon_append_of_piecesOf (Val := Elt Ideal) (e := .f32) T [] [_, _, _, _] ⟨?_, ?_, ?_, ?_, trivial⟩ y
    (View.cover_of_tiledL _ ![128, 128] (by sl_kernel_rfl) y)
  · exact S.piece T hT 1 2 3 128 256 384 2 3 128 rfl rfl rfl rfl rfl rfl rfl _ _ _ _ _ _ (by decide)
  · exact S.piece T hT 1 0 1 128 0 128 0 1 0 rfl rfl rfl rfl rfl rfl rfl _ _ _ _ _ _ (by decide)
  · exact S.piece T hT 0 2 3 0 256 384 2 3 128 rfl rfl rfl rfl rfl rfl rfl _ _ _ _ _ _ (by decide)
  · exact S.piece T hT 0 0 1 0 0 128 0 1 0 rfl rfl rfl rfl rfl rfl rfl _ _ _ _ _ _ (by decide)

end Stage

theorem idx0 : ∀ t : Fin cfg0.N, win0_0.index t = ![t.val, 0] ∧ win0_1.index t = ![0, 0, 0] ∧ win0_2.index t = ![0, 0, 0] ∧
    win0_3.index t = ![0, 0] ∧ win0_4.index t = ![0, 0] ∧ win0_5.index t = ![t.val, 0] := by
  decide +kernel

section At
variable (c : Dev nD) (t : Fin cfg0.N)

/-- The arguments: the rows, the norm's gain and bias, the mixing matrix and its bias. -/
abbrev aZ : Vec Ideal S8192x1536 .f32 := m ((c : Thread nD τ).loc main_arg0)
abbrev aG : Vec Ideal S4x64 .f32 := m ((c : Thread nD τ).loc main_arg1)
abbrev aB : Vec Ideal S4x64 .f32 := m ((c : Thread nD τ).loc main_arg2)
abbrev aW : Vec Ideal S4x128x128 .f32 := m ((c : Thread nD τ).loc main_arg3)
abbrev aS : Vec Ideal S4x128 .f32 := m ((c : Thread nD τ).loc main_arg4)

/-- Chunk `k` of the two of a grid point. -/
def chunk (k : Fin 2) : Fin 64 := ⟨2 * t.val + k.val, by have : t.val < 32 := t.isLt; omega⟩

theorem at_z (k : Fin 2) (h : Fin 4) (u l : Fin 128) :
    iblk m c 0 t (ix2 ⟨128 * k.val + u.val, by omega⟩ ⟨128 * h.val + l.val, by omega⟩) = aZ m c (ix2 (row (chunk t k) u) (col h l)) := by
  unfold row col chunk
  blk_ext [iblk, V, idx0 t]

theorem at_w (h : Fin 4) (u s : Fin 128) : iblk m c 1 t (ix3 h u s) = aW m c (ix3 h u s) := by
  have e : ((View.whole main_arg3).slice (win0_1.rect t)).emb (ix3 h u s) = ix3 h u s := by blk_ext [idx0 t]
  unfold iblk
  blk_simp
  entry_read
  rw [e]

theorem hi_not (e : Fin 64) : ¬(hi e).val < 64 := by
  show ¬64 + e.val < 64
  omega

theorem at_bf (h : Fin 4) (u l : Fin 128) : iblk m c 2 t (ix3 h u l) = if q : l.val < 64 then (0 : EReal) else aS m c (ix2 h u) := by
  have e : ((View.whole main_v3).slice (win0_2.rect t)).emb (ix3 h u l) = ix3 h u l := by blk_ext [idx0 t]
  unfold iblk
  blk_simp
  entry_read
  rw [e]
  pointwise

theorem at_lg (h : Fin 4) (l : Fin 128) : iblk m c 3 t (ix2 h l) = if q : l.val < 64 then (0 : EReal) else aG m c (ix2 h ⟨l.val - 64, by omega⟩) := by
  have e : ((View.whole main_v5).slice (win0_3.rect t)).emb (ix2 h l) = ix2 h l := by blk_ext [idx0 t]
  unfold iblk
  blk_simp
  entry_read
  rw [e]
  pointwise

theorem at_lb (h : Fin 4) (l : Fin 128) : iblk m c 4 t (ix2 h l) = if q : l.val < 64 then (0 : EReal) else aB m c (ix2 h ⟨l.val - 64, by omega⟩) := by
  have e : ((View.whole main_v7).slice (win0_4.rect t)).emb (ix2 h l) = ix2 h l := by blk_ext [idx0 t]
  unfold iblk
  blk_simp
  entry_read
  rw [e]
  pointwise

theorem stage : Stage (fun k h u l => aZ m c (ix2 (row (chunk t k) u) (col h l))) (fun h u s => aW m c (ix3 h u s)) (fun h e => aG m c (ix2 h e))
    (fun h e => aB m c (ix2 h e)) (fun h u => aS m c (ix2 h u)) (iblk m c 0 t) (iblk m c 1 t) (iblk m c 2 t) (iblk m c 3 t) (iblk m c 4 t) := by
  have back : ∀ e : Fin 64, (⟨(hi e).val - 64, by have := (hi e).isLt; omega⟩ : Fin 64) = e := fun e => Fin.ext (show 64 + e.val - 64 = e.val by omega)
  exact ⟨at_z m c t, at_w m c t, fun h u e => (at_bf m c t h u _).trans (dif_pos e.isLt), fun h u e => (at_bf m c t h u _).trans (dif_neg (hi_not e)),
    fun h e => (at_lg m c t h _).trans (dif_pos e.isLt), fun h e => ((at_lg m c t h _).trans (dif_neg (hi_not e))).trans (congrArg (fun x => aG m c (ix2 h x)) (back e)),
    fun h e => (at_lb m c t h _).trans (dif_pos e.isLt), fun h e => ((at_lb m c t h _).trans (dif_neg (hi_not e))).trans (congrArg (fun x => aB m c (ix2 h x)) (back e))⟩

end At

/-- The reference's rows of a grid point. -/
def rowsOf (c : Dev nD) (t : Fin cfg0.N) : S256x256.Idx → EReal := fun y =>
  val_main_v52 (F := Ideal) (aZ m c) (aG m c) (aB m c) (aW m c) (aS m c)
    (ix2 ⟨256 * t.val + (y 0).val, by have : t.val < 32 := t.isLt; have : (y 0).val < 256 := (y 0).isLt; omega⟩ (y 1))

/-- The output. -/
theorem result5 (c : Dev nD) : (dats m 0 c).arrAt 5 cfg0.N = val_main_v52 (F := Ideal) (aZ m c) (aG m c) (aB m c) (aW m c) (aS m c) := by
  refine (dats m 0 c).arrAt_eq_of_covers 5 _ (by decide +kernel) fun t hf y => ?_
  blk_simp
  rw [after0_5, (stage m c t).block (rowsOf m c t) fun k h u e => ?_]
  · idx_vars y
    have ht : t.val < 32 := t.isLt
    have e : ((View.whole main_v8).slice (win0_5.rect t)).emb (ix2 y0 y1) = ix2 (⟨256 * t.val + y0.val, by omega⟩ : Fin 8192) y1 := by
      blk_ext [idx0 t]
    exact congrArg (val_main_v52 (F := Ideal) (aZ m c) (aG m c) (aB m c) (aW m c) (aS m c)) e.symm
  · refine Eq.trans ?_ (ref_out (aZ m c) (aG m c) (aB m c) (aW m c) (aS m c) (chunk t k) u h e)
    unfold rowsOf row lane chunk
    refine congrArg (val_main_v52 (F := Ideal) (aZ m c) (aG m c) (aB m c) (aW m c) (aS m c)) (congrArg₂ ix2 (Fin.ext ?_) rfl)
    show 256 * t.val + (128 * k.val + u.val) = 128 * (2 * t.val + k.val) + u.val
    omega

end Cert.GmlpIdeal.Result
-- ==== Proof.MergeValue.lean ====
/- The merge of the mixers' outputs: the gated third mixer, the three root-mean-square norms and their place in the joint row. -/
module

public import proofs.«01_k».proof.Proof.Gen.MergeIdeal.Value
public import proofs.«01_k».proof.Proof.Gen.MergeRefIdeal.Read
public import proofs.«01_k».proof.Proof.Consts
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MergeIdeal.Result

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- One row over its root mean square (the width is the constant `w`), times the gains. -/
def nrm {n : Nat} (w : BitVec 32) (y g : Fin n → EReal) (j : Fin n) : EReal :=
  y j * Ideal.rsqrt (Ideal.div (∑ k, y k * y k) (Ideal.ofBits .f32 w) + Ideal.ofBits .f32 0x358637BD#32) * g j

/-- The third mixer's gate: the left half of the row times the logistic function of its right half. -/
def gate (a b : EReal) : EReal := a * Ideal.div 1 (1 + Ideal.exp (-b))

/-! The kernel's three stores. -/

section Stores
variable (x0 : Vec Ideal S512x256 .f32) (x1 x2 : Vec Ideal S512x512 .f32) (g : Vec Ideal S1x256 .f32) (g' : Vec Ideal S1x512 .f32)

theorem gated (i : Fin 512) (j : Fin 256) : k0_pay3 (F := Ideal) x2 (ix2 i j) =
    gate (x2 (ix2 i ⟨j.val, by omega⟩)) (x2 (ix2 i ⟨256 + j.val, by omega⟩)) := by
  unfold k0_pay3 gate
  pointwise
  rw [zero_sub]

theorem first (i : Fin 512) (j : Fin 256) : k0_pay4 (F := Ideal) x0 g (ix2 i j) =
    nrm 0x43800000#32 (fun k => x0 (ix2 i k)) (fun k => g (ix2 0 k)) j := by
  unfold k0_pay4 nrm
  pointwise

theorem second (i j : Fin 512) : k0_pay1 (F := Ideal) x1 (k0_pay5 (F := Ideal) x1) g' (ix2 i j) =
    nrm 0x44000000#32 (fun k => x1 (ix2 i k)) (fun k => g' (ix2 0 k)) j := by
  unfold k0_pay1 k0_pay5 nrm
  pointwise

theorem third (i : Fin 512) (j : Fin 256) : k0_pay2 (F := Ideal) x0 g (ix2 i j) =
    nrm 0x43800000#32 (fun k => x0 (ix2 i k)) (fun k => g (ix2 0 k)) j := by
  unfold k0_pay2 nrm
  pointwise

end Stores

/-! The reference's three parts. -/

section Reference
variable (x0 : Vec Ideal S8192x256 .f32) (x1 x2 : Vec Ideal S8192x512 .f32) (x3 : Vec Ideal S1024 .f32)

theorem ref_gated (i : Fin 8192) (j : Fin 256) : val_main_v8 (F := Ideal) x2 (ix2 i j) =
    gate (x2 (ix2 i ⟨j.val, by omega⟩)) (x2 (ix2 i ⟨256 + j.val, by omega⟩)) := by
  simp only [val_main_v0, val_main_v1, val_main_v2, val_main_v3, val_main_v4, val_main_v5, val_main_v6, val_main_v7, val_main_v8, val_main_cst, val_main_cst_0]
  unfold gate
  pointwise

theorem ref_first (i : Fin 8192) (j : Fin 256) : val_main_v22 (F := Ideal) x0 x3 (ix2 i j) =
    nrm 0x43800000#32 (fun k => x0 (ix2 i k)) (fun k => x3 (ix1 ⟨k.val, by omega⟩)) j := by
  simp only [val_main_v9, val_main_v10, val_main_v11, val_main_v12, val_main_v13, val_main_v14, val_main_v15, val_main_v16, val_main_v17, val_main_v18, val_main_v19, val_main_v20, val_main_v21, val_main_v22, val_main_cst_1, val_main_cst_2, val_main_cst_3]
  unfold nrm
  pointwise

theorem ref_second (i : Fin 8192) (j : Fin 512) : val_main_v36 (F := Ideal) x1 x3 (ix2 i j) =
    nrm 0x44000000#32 (fun k => x1 (ix2 i k)) (fun k => x3 (ix1 ⟨256 + k.val, by omega⟩)) j := by
  simp only [val_main_v23, val_main_v24, val_main_v25, val_main_v26, val_main_v27, val_main_v28, val_main_v29, val_main_v30, val_main_v31, val_main_v32, val_main_v33, val_main_v34, val_main_v35, val_main_v36, val_main_cst_4, val_main_cst_5, val_main_cst_6]
  unfold nrm
  pointwise

theorem ref_third (i : Fin 8192) (j : Fin 256) : val_main_v50 (F := Ideal) x2 x3 (ix2 i j) =
    nrm 0x43800000#32 (fun k => val_main_v8 (F := Ideal) x2 (ix2 i k)) (fun k => x3 (ix1 ⟨768 + k.val, by omega⟩)) j := by
  simp only [val_main_v37, val_main_v38, val_main_v39, val_main_v40, val_main_v41, val_main_v42, val_main_v43, val_main_v44, val_main_v45, val_main_v46, val_main_v47, val_main_v48, val_main_v49, val_main_v50, val_main_cst_7, val_main_cst_8, val_main_cst_9]
  unfold nrm
  pointwise

theorem widths : Shape.Concatenates [S8192x256, S8192x512, S8192x256] S8192x1024 1 := by decide

/-- The columns of the joint row, part by part. -/
theorem join (i : Fin 8192) : (∀ (j : Fin 256) (h : 0 + j.val < 1024), val_main_v52 (F := Ideal) x0 x1 x2 x3 (ix2 i ⟨0 + j.val, h⟩) = val_main_v22 (F := Ideal) x0 x3 (ix2 i j)) ∧
    (∀ (j : Fin 512) (h : 256 + j.val < 1024), val_main_v52 (F := Ideal) x0 x1 x2 x3 (ix2 i ⟨256 + j.val, h⟩) = val_main_v36 (F := Ideal) x1 x3 (ix2 i j)) ∧
    (∀ (j : Fin 256) (h : 768 + j.val < 1024), val_main_v52 (F := Ideal) x0 x1 x2 x3 (ix2 i ⟨768 + j.val, h⟩) = val_main_v50 (F := Ideal) x2 x3 (ix2 i j)) := by
  have off : ∀ {n o : Nat} (j : Fin n) (h : o + j.val < 1024) (b : Fin 2), b ≠ 1 →
      ((ix2 i j : (⟨2, ![8192, n]⟩ : Shape).Idx) b).val = ((ix2 i ⟨o + j.val, h⟩ : S8192x1024.Idx) b).val := fun j h b hb => by
    match b with
    | ⟨0, _⟩ => rfl
    | ⟨1, _⟩ => exact absurd rfl hb
  refine ⟨fun j h => ?_, fun j h => ?_, fun j h => ?_⟩
  · exact concatenate_apply_piece (α := EReal) (t := S8192x1024) 1 [⟨S8192x256, val_main_v22 (F := Ideal) x0 x3⟩, ⟨S8192x512, val_main_v36 (F := Ideal) x1 x3⟩, ⟨S8192x256, val_main_v50 (F := Ideal) x2 x3⟩]
      widths _ 0 (by simp) S8192x256 _ rfl rfl 0 rfl (ix2 i j) (off j h) rfl
  · exact concatenate_apply_piece (α := EReal) (t := S8192x1024) 1 [⟨S8192x256, val_main_v22 (F := Ideal) x0 x3⟩, ⟨S8192x512, val_main_v36 (F := Ideal) x1 x3⟩, ⟨S8192x256, val_main_v50 (F := Ideal) x2 x3⟩]
      widths _ 1 (by simp) S8192x512 _ rfl rfl 256 rfl (ix2 i j) (off j h) rfl
  · exact concatenate_apply_piece (α := EReal) (t := S8192x1024) 1 [⟨S8192x256, val_main_v22 (F := Ideal) x0 x3⟩, ⟨S8192x512, val_main_v36 (F := Ideal) x1 x3⟩, ⟨S8192x256, val_main_v50 (F := Ideal) x2 x3⟩]
      widths _ 2 (by simp) S8192x256 _ rfl rfl 768 rfl (ix2 i j) (off j h) rfl

end Reference

theorem idx0 : ∀ t : Fin cfg0.N, win0_0.index t = ![t.val, 0] ∧ win0_1.index t = ![t.val, 0] ∧ win0_2.index t = ![t.val, 0] ∧
    win0_3.index t = ![0, 0] ∧ win0_4.index t = ![t.val, 0] := by
  decide +kernel

theorem at_a (c : Dev nD) (t : Fin cfg0.N) (i : Fin 512) (k : Fin 256) (h : t.val * 512 + i.val < 8192) :
    iblk m c 0 t (ix2 i k) = m ((c : Thread nD τ).loc main_arg0) (ix2 ⟨t.val * 512 + i.val, h⟩ k) := by
  blk_ext [iblk, V, idx0 t]

theorem at_b (c : Dev nD) (t : Fin cfg0.N) (i k : Fin 512) (h : t.val * 512 + i.val < 8192) :
    iblk m c 1 t (ix2 i k) = m ((c : Thread nD τ).loc main_arg1) (ix2 ⟨t.val * 512 + i.val, h⟩ k) := by
  blk_ext [iblk, V, idx0 t]

theorem at_c (c : Dev nD) (t : Fin cfg0.N) (i k : Fin 512) (h : t.val * 512 + i.val < 8192) :
    iblk m c 2 t (ix2 i k) = m ((c : Thread nD τ).loc main_arg2) (ix2 ⟨t.val * 512 + i.val, h⟩ k) := by
  blk_ext [iblk, V, idx0 t]

theorem at_g (c : Dev nD) (t : Fin cfg0.N) (k : Fin 1024) :
    iblk m c 3 t (ix2 0 k) = m ((c : Thread nD τ).loc main_arg3) (ix1 k) := by
  have e : ((View.whole main_v0).slice (win0_3.rect t)).emb (ix2 (0 : Fin 1) k) = ix2 (0 : Fin 1) k := by
    blk_ext [idx0 t]
  unfold iblk
  blk_simp
  entry_read
  rw [e]
  pointwise

/-- A run of the gains. -/
theorem at_gains (c : Dev nD) (t : Fin cfg0.N) {n : Nat} (o : Nat) (inb : ∀ a, (![0, o] : Fin 2 → Nat) a + (![1, n] : Fin 2 → Nat) a ≤ S1x1024.size a)
    (k : Fin n) (h : o + k.val < 1024) :
    View.ld (iblk m c 3 t) (Rect.unit (s := S1x1024) ![0, o] ![1, n] inb) (ix2 (0 : Fin 1) k) = m ((c : Thread nD τ).loc main_arg3) (ix1 ⟨o + k.val, h⟩) := by
  rw [← at_g m c t]
  refine congrArg (iblk m c 3 t) (funext fun a => Fin.ext ?_)
  match a with
  | ⟨0, _⟩ => show 0 + 1 * 0 = 0; rfl
  | ⟨1, _⟩ => show o + 1 * k.val = o + k.val; omega

/-- A store over columns holds the wanted columns. -/
theorem col_piece {n : Nat} {G : S512x1024.Idx → EReal} (o : Nat) {pay : (⟨2, ![512, n]⟩ : Shape).Idx → EReal}
    (hp : ∀ (i : Fin 512) (j : Fin n) (h : o + j.val < 1024), pay (ix2 i j) = G (ix2 i ⟨o + j.val, h⟩))
    (inb : ∀ a, (![0, o] : Fin 2 → Nat) a + (![512, n] : Fin 2 → Nat) a ≤ S512x1024.size a) (x : (⟨2, ![512, n]⟩ : Shape).Idx) :
    pay x = G ((Rect.unit (s := S512x1024) ![0, o] ![512, n] inb).emb x) := by
  obtain ⟨x0, x1, rfl⟩ : ∃ (x0 : Fin 512) (x1 : Fin n), x = ix2 x0 x1 := ⟨x 0, x 1, funext fun a => match a with
    | ⟨0, _⟩ => rfl
    | ⟨1, _⟩ => rfl⟩
  have hb : o + n ≤ 1024 := inb 1
  rw [hp x0 x1 (by omega)]
  refine congrArg G (funext fun a => Fin.ext ?_)
  match a with
  | ⟨0, _⟩ => show x0.val = 0 + 1 * x0.val; omega
  | ⟨1, _⟩ => show o + x1.val = o + 1 * x1.val; omega

/-- The reference's rows of one block. -/
def whole (c : Dev nD) (t : Fin cfg0.N) : Vec Ideal S512x1024 .bf16 := fun y =>
  val_main_v52 (F := Ideal) (m ((c : Thread nD τ).loc main_arg0)) (m ((c : Thread nD τ).loc main_arg1)) (m ((c : Thread nD τ).loc main_arg2))
    (m ((c : Thread nD τ).loc main_arg3)) (ix2 ⟨t.val * 512 + (y 0).val, by
      have : (y 0).val < 512 := (y 0).isLt
      have := lt_of_lt_of_eq t.isLt (show cfg0.N = 16 from N_0)
      omega⟩ (y 1))

section Parts
variable (c : Dev nD) (t : Fin cfg0.N) (i : Fin 512)

theorem part_first (inb) (j : Fin 256) (h : 0 + j.val < 1024) :
    k0_pay4 (F := Ideal) (iblk m c 0 t) (View.ld (iblk m c 3 t) (Rect.unit (s := S1x1024) ![0, 0] ![1, 256] inb)) (ix2 i j) = whole m c t (ix2 i ⟨0 + j.val, h⟩) := by
  have hN : t.val < 16 := lt_of_lt_of_eq t.isLt (show cfg0.N = 16 from N_0)
  refine Eq.trans ?_ ((join _ _ _ _ _).1 j h).symm
  rw [first, ref_first]
  refine congrArg₂ (fun y g => nrm 0x43800000#32 y g j) (funext fun k => at_a m c t i k (by omega)) (funext fun k => ?_)
  exact (at_gains m c t 0 inb k (by omega)).trans (congrArg _ (congrArg ix1 (Fin.ext (Nat.zero_add _))))

theorem part_second (inb) (j : Fin 512) (h : 256 + j.val < 1024) :
    k0_pay1 (F := Ideal) (iblk m c 1 t) (k0_pay5 (F := Ideal) (iblk m c 1 t)) (View.ld (iblk m c 3 t) (Rect.unit (s := S1x1024) ![0, 256] ![1, 512] inb)) (ix2 i j) =
      whole m c t (ix2 i ⟨256 + j.val, h⟩) := by
  have hN : t.val < 16 := lt_of_lt_of_eq t.isLt (show cfg0.N = 16 from N_0)
  refine Eq.trans ?_ ((join _ _ _ _ _).2.1 j h).symm
  rw [second, ref_second]
  exact congrArg₂ (fun y g => nrm 0x44000000#32 y g j) (funext fun k => at_b m c t i k (by omega)) (funext fun k => at_gains m c t 256 inb k (by omega))

theorem part_third (inb) (j : Fin 256) (h : 768 + j.val < 1024) :
    k0_pay2 (F := Ideal) (k0_pay3 (F := Ideal) (iblk m c 2 t)) (View.ld (iblk m c 3 t) (Rect.unit (s := S1x1024) ![0, 768] ![1, 256] inb)) (ix2 i j) =
      whole m c t (ix2 i ⟨768 + j.val, h⟩) := by
  have hN : t.val < 16 := lt_of_lt_of_eq t.isLt (show cfg0.N = 16 from N_0)
  refine Eq.trans ?_ ((join _ _ _ _ _).2.2 j h).symm
  rw [third, ref_third]
  refine congrArg₂ (fun y g => nrm 0x43800000#32 y g j) (funext fun k => ?_) (funext fun k => at_gains m c t 768 inb k (by omega))
  rw [gated, ref_gated]
  exact congrArg₂ gate (at_c m c t i _ (by omega)) (at_c m c t i _ (by omega))

end Parts

theorem out4 (c : Dev nD) (t : Fin cfg0.N) : (dats m 0 c).after 4 t = whole m c t := by
  rw [after0_4]
  unfold outsAt0 out0_A_4
  frame_open
  simp (disch := decide) only [↓ View.readCov_skip, ↓ View.readCov_cons_toLoadRect, ↓ View.readCov_fill]
  frame_out
  funext y
  refine View.canon_append_of_piecesOf (Val := Elt Ideal) (e := .bf16) (whole m c t) [] [_, _, _] ⟨?_, ?_, ?_, trivial⟩ y
    (View.cover_of_tiledBy _ ![512, 256] (by sl_kernel_rfl) y)
  · exact col_piece 768 (fun i j h => part_third m c t i _ j h) (by decide)
  · exact col_piece 256 (fun i j h => part_second m c t i _ j h) (by decide)
  · exact col_piece 0 (fun i j h => part_first m c t i _ j h) (by decide)

theorem result4 (c : Dev nD) : (dats m 0 c).arrAt 4 cfg0.N =
    val_main_v52 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have hN : t.val < 16 := lt_of_lt_of_eq t.isLt (show cfg0.N = 16 from N_0)
  blk_simp
  rw [out4]
  idx_vars y
  have e : ((View.whole main_v1).slice (win0_4.rect t)).emb (ix2 y0 y1) = ix2 (⟨t.val * 512 + y0.val, by omega⟩ : Fin 8192) y1 := by
    blk_ext [idx0 t]
  exact congrArg (val_main_v52 (F := Ideal) _ _ _ _) e.symm

end Cert.MergeIdeal.Result

end
-- ==== Proof.DMergeValue.lean ====
/- The gradients behind the merge of the mixers' outputs: of the three mixers, of the third mixer's gate and of the gains. -/
module

public import proofs.«01_k».proof.Proof.Gen.DMergeIdeal.Value
public import proofs.«01_k».proof.Proof.Gen.DMergeRefIdeal.Read
public import proofs.«01_k».proof.Proof.Products
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DMergeIdeal.Result

open Cert.DMergeIdeal Cert.DMergeIdeal.Gen Idealize.ShloMosaic Idealize.ShloMosaic.TcCoe Idealize.SL.Sem
open Idealize.ShloMosaic.Pipeline (Dat)
open Cert.DMergeRefIdeal.Read

variable (m : (ℓ : Loc nD τ sig) → Buf (Elt Ideal) ℓ)

/-- One row of a block or of an array, as a function of the column. -/
def row {R n : Nat} (x : (⟨2, ![R, n]⟩ : Shape).Idx → EReal) (i : Fin R) (k : Fin n) : EReal := x (ix2 i k)

/-- The gradient behind one row's norm, as the kernel spells it. -/
def grad {n : Nat} (w : BitVec 32) (y g d : Fin n → EReal) (j : Fin n) : EReal := Rms.fused y (fun _ => 0) g d j w

/-- What one row adds to the gains' gradient. -/
def gain {n : Nat} (w : BitVec 32) (y d : Fin n → EReal) (j : Fin n) : EReal := d j * (y j * Ideal.rsqrt (Rms.scale y w))

/-- The logistic function. -/
def logis (b : EReal) : EReal := Ideal.div 1 (1 + Ideal.exp (-b))

/-! The kernel's stores. -/

section Stores
variable (x d : Vec Ideal S512x256 .f32) (x' d' : Vec Ideal S512x512 .f32) (g : Vec Ideal S1x256 .f32) (g' : Vec Ideal S1x512 .f32) (z : Vec Ideal S512x512 .f32)

theorem left_half (i : Fin 512) (j : Fin 256) : k0_pay5 (F := Ideal) z (ix2 i j) = z (ix2 i ⟨j.val, by omega⟩) := by
  unfold k0_pay5
  pointwise

theorem logistic (i : Fin 512) (j : Fin 256) : k0_pay6 (F := Ideal) z (ix2 i j) = logis (z (ix2 i ⟨256 + j.val, by omega⟩)) := by
  unfold k0_pay6 logis
  pointwise
  rw [zero_sub]

theorem gated (i : Fin 512) (j : Fin 256) : k0_pay7 (F := Ideal) z (ix2 i j) =
    z (ix2 i ⟨j.val, by omega⟩) * logis (z (ix2 i ⟨256 + j.val, by omega⟩)) := by
  rw [← left_half z i j, ← logistic z i j]
  unfold k0_pay7
  pointwise

theorem grad_first (i : Fin 512) (j : Fin 256) :
    k0_pay23 (F := Ideal) (k0_pay12 (F := Ideal) (k0_pay8 (F := Ideal) x) (k0_pay10 (F := Ideal) d g) (k0_pay11 (F := Ideal) x d g)) (ix2 i j) =
      grad 0x43800000#32 (row x i) (row g 0) (row d i) j := by
  unfold k0_pay23 k0_pay12 k0_pay11 k0_pay10 k0_pay9 k0_pay8 grad Rms.fused Rms.scale row
  rw [zero_add]
  pointwise

theorem grad_second (i j : Fin 512) : k0_pay1 (F := Ideal) (k0_pay16 (F := Ideal) x' d' g') (ix2 i j) =
    grad 0x44000000#32 (row x' i) (row g' 0) (row d' i) j := by
  unfold k0_pay1 k0_pay16 k0_pay15 k0_pay14 grad Rms.fused Rms.scale row
  rw [zero_add]
  pointwise

theorem grad_third (i : Fin 512) (j : Fin 256) : k0_pay21 (F := Ideal) x d g (ix2 i j) =
    grad 0x43800000#32 (row x i) (row g 0) (row d i) j := by
  unfold k0_pay21 k0_pay20 k0_pay19 grad Rms.fused Rms.scale row
  rw [zero_add]
  pointwise

theorem gate_left (s e : FVec Ideal S512x256 .f32) (i : Fin 512) (j : Fin 256) : k0_pay2 (F := Ideal) s e (ix2 i j) = e (ix2 i j) * s (ix2 i j) := by
  unfold k0_pay2
  pointwise

theorem gate_right (a s e : FVec Ideal S512x256 .f32) (i : Fin 512) (j : Fin 256) : k0_pay3 (F := Ideal) a s e (ix2 i j) =
    a (ix2 i j) * e (ix2 i j) * (s (ix2 i j) * (1 - s (ix2 i j))) := by
  unfold k0_pay3
  pointwise
  rw [mul_comm (a (ix2 i j)), mul_assoc]

theorem gain_first (p : Vec Ideal S1x256 .f32) (j : Fin 256) : k0_pay13 (F := Ideal) (k0_pay9 (F := Ideal) x) d p (ix2 0 j) =
    p (ix2 0 j) + ∑ i : Fin 512, gain 0x43800000#32 (row x i) (row d i) j := by
  unfold k0_pay13 k0_pay9 k0_pay8 gain Rms.scale row
  pointwise

theorem gain_second (p : Vec Ideal S1x512 .f32) (j : Fin 512) : k0_pay18 (F := Ideal) (k0_pay17 (F := Ideal) x' d' p) (ix2 0 j) =
    p (ix2 0 j) + ∑ i : Fin 512, gain 0x44000000#32 (row x' i) (row d' i) j := by
  unfold k0_pay18 k0_pay17 k0_pay15 k0_pay14 gain Rms.scale row
  pointwise

theorem gain_third (p : Vec Ideal S1x256 .f32) (j : Fin 256) : k0_pay22 (F := Ideal) x d p (ix2 0 j) =
    p (ix2 0 j) + ∑ i : Fin 512, gain 0x43800000#32 (row x i) (row d i) j := by
  unfold k0_pay22 k0_pay20 k0_pay19 gain Rms.scale row
  pointwise

end Stores

/-! The reference. -/

section Reference
variable (x0 : Vec Ideal S8192x1024 .f32) (x1 : Vec Ideal S8192x256 .f32) (x2 x3 : Vec Ideal S8192x512 .f32) (x4 : Vec Ideal S1024 .f32)

/-- Columns of the incoming gradient and entries of the gains, from `o` on. -/
def cols (n o : Nat) (h : o + n ≤ 1024) (i : Fin 8192) (k : Fin n) : EReal := x0 (ix2 i ⟨o + k.val, by omega⟩)
def gains (n o : Nat) (h : o + n ≤ 1024) (k : Fin n) : EReal := x4 (ix1 ⟨o + k.val, by omega⟩)

theorem ref_left (i : Fin 8192) (j : Fin 256) : val_main_v0 (F := Ideal) x3 (ix2 i j) = x3 (ix2 i ⟨j.val, by omega⟩) := by
  unfold val_main_v0
  pointwise

theorem ref_logistic (i : Fin 8192) (j : Fin 256) : val_main_v7 (F := Ideal) x3 (ix2 i j) = logis (x3 (ix2 i ⟨256 + j.val, by omega⟩)) := by
  simp only [val_main_v1, val_main_v2, val_main_v3, val_main_v4, val_main_v5, val_main_v6, val_main_v7, val_main_cst, val_main_cst_0]
  unfold logis
  pointwise

theorem ref_gated (i : Fin 8192) (j : Fin 256) : val_main_v11 (F := Ideal) x3 (ix2 i j) =
    x3 (ix2 i ⟨j.val, by omega⟩) * logis (x3 (ix2 i ⟨256 + j.val, by omega⟩)) := by
  rw [← ref_left x3 i j, ← ref_logistic x3 i j]
  unfold val_main_v11
  pointwise

theorem ref_first (i : Fin 8192) (j : Fin 256) : val_main_v129 (F := Ideal) x0 x1 x4 (ix2 i j) =
    grad 0x43800000#32 (row x1 i) (gains x4 256 0 (by omega)) (cols x0 256 0 (by omega) i) j := by
  unfold grad
  rw [Rms.fused_eq Rms.width256]
  simp only [val_main_v12, val_main_v13, val_main_v14, val_main_v15, val_main_v16, val_main_v17, val_main_v18, val_main_v19, val_main_v20, val_main_v21, val_main_v22, val_main_v23, val_main_v24, val_main_v25, val_main_v26, val_main_v27, val_main_v64, val_main_v113, val_main_v114, val_main_v116, val_main_v117, val_main_v118, val_main_v119, val_main_v120, val_main_v121, val_main_v122, val_main_v123, val_main_v124, val_main_v125, val_main_v126, val_main_v127, val_main_v128, val_main_v129, val_main_cst_2, val_main_cst_3, val_main_cst_4, val_main_cst_5, val_main_cst_28, val_main_cst_29, val_main_cst_30]
  unfold Rms.stepwise Rms.inner Rms.scale row gains cols
  rw [zero_add]
  pointwise
  simp only [Finset.univ_unique, Finset.sum_singleton]

theorem ref_second (i : Fin 8192) (j : Fin 512) : val_main_v107 (F := Ideal) x0 x2 x4 (ix2 i j) =
    grad 0x44000000#32 (row x2 i) (gains x4 512 256 (by omega)) (cols x0 512 256 (by omega) i) j := by
  unfold grad
  rw [Rms.fused_eq Rms.width512]
  simp only [val_main_v29, val_main_v30, val_main_v31, val_main_v32, val_main_v33, val_main_v34, val_main_v35, val_main_v36, val_main_v37, val_main_v38, val_main_v39, val_main_v40, val_main_v41, val_main_v42, val_main_v43, val_main_v44, val_main_v65, val_main_v91, val_main_v92, val_main_v94, val_main_v95, val_main_v96, val_main_v97, val_main_v98, val_main_v99, val_main_v100, val_main_v101, val_main_v102, val_main_v103, val_main_v104, val_main_v105, val_main_v106, val_main_v107, val_main_cst_6, val_main_cst_7, val_main_cst_8, val_main_cst_9, val_main_cst_22, val_main_cst_23, val_main_cst_24]
  unfold Rms.stepwise Rms.inner Rms.scale row gains cols
  rw [zero_add]
  pointwise
  simp only [Finset.univ_unique, Finset.sum_singleton]

theorem ref_third (i : Fin 8192) (j : Fin 256) : val_main_v86 (F := Ideal) x0 x3 x4 (ix2 i j) =
    grad 0x43800000#32 (row (val_main_v11 (F := Ideal) x3) i) (gains x4 256 768 (by omega)) (cols x0 256 768 (by omega) i) j := by
  unfold grad
  rw [Rms.fused_eq Rms.width256]
  simp only [val_main_v46, val_main_v47, val_main_v48, val_main_v49, val_main_v50, val_main_v51, val_main_v52, val_main_v53, val_main_v54, val_main_v55, val_main_v56, val_main_v57, val_main_v58, val_main_v59, val_main_v60, val_main_v61, val_main_v66, val_main_v70, val_main_v71, val_main_v73, val_main_v74, val_main_v75, val_main_v76, val_main_v77, val_main_v78, val_main_v79, val_main_v80, val_main_v81, val_main_v82, val_main_v83, val_main_v84, val_main_v85, val_main_v86, val_main_cst_10, val_main_cst_11, val_main_cst_12, val_main_cst_13, val_main_cst_16, val_main_cst_17, val_main_cst_18]
  unfold Rms.stepwise Rms.inner Rms.scale row gains cols
  rw [zero_add]
  pointwise
  simp only [Finset.univ_unique, Finset.sum_singleton]

theorem ref_gate_left (i : Fin 8192) (j : Fin 256) (h : 0 + j.val < 512) : val_main_v138 (F := Ideal) x0 x3 x4 (ix2 i ⟨0 + j.val, h⟩) =
    val_main_v86 (F := Ideal) x0 x3 x4 (ix2 i j) * val_main_v7 (F := Ideal) x3 (ix2 i j) := by
  simp only [val_main_v132, val_main_v133, val_main_v134, val_main_v135, val_main_v136, val_main_v137, val_main_v138, val_main_cst_32, val_main_cst_33]
  pointwise
  rw [dif_neg (fun h => h.1), zero_add]

theorem ref_gate_right (i : Fin 8192) (j : Fin 256) (h : 256 + j.val < 512) : val_main_v138 (F := Ideal) x0 x3 x4 (ix2 i ⟨256 + j.val, h⟩) =
    val_main_v0 (F := Ideal) x3 (ix2 i j) * val_main_v86 (F := Ideal) x0 x3 x4 (ix2 i j) *
      (val_main_v7 (F := Ideal) x3 (ix2 i j) * (1 - val_main_v7 (F := Ideal) x3 (ix2 i j))) := by
  simp only [val_main_v132, val_main_v133, val_main_v134, val_main_v135, val_main_v136, val_main_v137, val_main_v138, val_main_cst_32, val_main_cst_33, val_main_v8, val_main_v9, val_main_v10, val_main_cst_1]
  pointwise
  done

theorem ref_gain_first (j : Fin 256) : val_main_v115 (F := Ideal) x0 x1 (ix1 j) =
    ∑ i : Fin 8192, gain 0x43800000#32 (row x1 i) (cols x0 256 0 (by omega) i) j := by
  simp only [val_main_v12, val_main_v13, val_main_v14, val_main_v15, val_main_v16, val_main_v17, val_main_v18, val_main_v19, val_main_v20, val_main_v21, val_main_v22, val_main_v23, val_main_v24, val_main_v25, val_main_v26, val_main_v27, val_main_v64, val_main_v110, val_main_v111, val_main_v112, val_main_v115, val_main_cst_2, val_main_cst_3, val_main_cst_4, val_main_cst_5, val_main_cst_26, val_main_cst_27]
  unfold gain Rms.scale row cols
  pointwise
  simp only [Finset.univ_unique, Finset.sum_singleton]
  exact Finset.sum_congr rfl fun x _ => mul_comm _ _

theorem ref_gain_second (j : Fin 512) : val_main_v93 (F := Ideal) x0 x2 (ix1 j) =
    ∑ i : Fin 8192, gain 0x44000000#32 (row x2 i) (cols x0 512 256 (by omega) i) j := by
  simp only [val_main_v29, val_main_v30, val_main_v31, val_main_v32, val_main_v33, val_main_v34, val_main_v35, val_main_v36, val_main_v37, val_main_v38, val_main_v39, val_main_v40, val_main_v41, val_main_v42, val_main_v43, val_main_v44, val_main_v65, val_main_v88, val_main_v89, val_main_v90, val_main_v93, val_main_cst_6, val_main_cst_7, val_main_cst_8, val_main_cst_9, val_main_cst_20, val_main_cst_21]
  unfold gain Rms.scale row cols
  pointwise
  simp only [Finset.univ_unique, Finset.sum_singleton]
  exact Finset.sum_congr rfl fun x _ => mul_comm _ _

theorem ref_gain_third (j : Fin 256) : val_main_v72 (F := Ideal) x0 x3 (ix1 j) =
    ∑ i : Fin 8192, gain 0x43800000#32 (row (val_main_v11 (F := Ideal) x3) i) (cols x0 256 768 (by omega) i) j := by
  simp only [val_main_v46, val_main_v47, val_main_v48, val_main_v49, val_main_v50, val_main_v51, val_main_v52, val_main_v53, val_main_v54, val_main_v55, val_main_v56, val_main_v57, val_main_v58, val_main_v59, val_main_v60, val_main_v61, val_main_v66, val_main_v67, val_main_v68, val_main_v69, val_main_v72, val_main_cst_10, val_main_cst_11, val_main_cst_12, val_main_cst_13, val_main_cst_14, val_main_cst_15]
  unfold gain Rms.scale row cols
  pointwise
  simp only [Finset.univ_unique, Finset.sum_singleton]
  exact Finset.sum_congr rfl fun x _ => mul_comm _ _

/-- The gains' gradient, group by group. -/
theorem ref_gains : (∀ (j : Fin 256) (h : 0 + j.val < 1024), val_main_v139 (F := Ideal) x0 x1 x2 x3 (ix2 0 ⟨0 + j.val, h⟩) = val_main_v115 (F := Ideal) x0 x1 (ix1 j)) ∧
    (∀ (j : Fin 512) (h : 256 + j.val < 1024), val_main_v139 (F := Ideal) x0 x1 x2 x3 (ix2 0 ⟨256 + j.val, h⟩) = val_main_v93 (F := Ideal) x0 x2 (ix1 j)) ∧
    (∀ (j : Fin 256) (h : 768 + j.val < 1024), val_main_v139 (F := Ideal) x0 x1 x2 x3 (ix2 0 ⟨768 + j.val, h⟩) = val_main_v72 (F := Ideal) x0 x3 (ix1 j)) := by
  simp only [val_main_v87, val_main_v108, val_main_v109, val_main_v130, val_main_v131, val_main_v139, val_main_cst_19, val_main_cst_25, val_main_cst_31]
  refine ⟨fun j h => ?_, fun j h => ?_, fun j h => ?_⟩
  · pointwise
    rw [dif_neg (by omega), dif_neg (fun h => h.1), zero_add, zero_add]
  · pointwise
    rw [dif_neg (by omega), zero_add]
  · pointwise
    rw [dif_neg (by omega), dif_neg (by omega), add_zero, add_zero]

end Reference

theorem idx0 : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![t.val, 0] ∧
    win0_7.index t = ![t.val, 0] ∧ win0_8.index t = ![0, 0] := by
  decide +kernel

/-- The arguments. -/
abbrev D (c : Dev nD) : Vec Ideal S8192x1024 .f32 := m ((c : Thread nD τ).loc main_arg0)
abbrev A (c : Dev nD) : Vec Ideal S8192x256 .f32 := m ((c : Thread nD τ).loc main_arg1)
abbrev B (c : Dev nD) : Vec Ideal S8192x512 .f32 := m ((c : Thread nD τ).loc main_arg2)
abbrev Z (c : Dev nD) : Vec Ideal S8192x512 .f32 := m ((c : Thread nD τ).loc main_arg3)
abbrev Gm (c : Dev nD) : Vec Ideal S1024 .f32 := m ((c : Thread nD τ).loc main_arg4)

/-- Row `i` of block `t`. -/
def blockRow (t : Fin cfg0.N) (i : Fin 512) : Fin 8192 := ⟨t.val * 512 + i.val, by
  have := lt_of_lt_of_eq t.isLt (show cfg0.N = 16 from N_0)
  omega⟩

section Blocks
variable (c : Dev nD) (t : Fin cfg0.N) (i : Fin 512)

theorem at_d (k : Fin 1024) : iblk m c 0 t (ix2 i k) = D m c (ix2 (blockRow t i) k) := by
  unfold blockRow
  blk_ext [iblk, V, idx0 t]

theorem at_a (k : Fin 256) : iblk m c 1 t (ix2 i k) = A m c (ix2 (blockRow t i) k) := by
  unfold blockRow
  blk_ext [iblk, V, idx0 t]

theorem at_b (k : Fin 512) : iblk m c 2 t (ix2 i k) = B m c (ix2 (blockRow t i) k) := by
  unfold blockRow
  blk_ext [iblk, V, idx0 t]

theorem at_z (k : Fin 512) : iblk m c 3 t (ix2 i k) = Z m c (ix2 (blockRow t i) k) := by
  unfold blockRow
  blk_ext [iblk, V, idx0 t]

theorem at_g (k : Fin 1024) : iblk m c 4 t (ix2 0 k) = Gm m c (ix1 k) := by
  have e : ((View.whole main_v0).slice (win0_4.rect t)).emb (ix2 (0 : Fin 1) k) = ix2 (0 : Fin 1) k := by
    blk_ext [idx0 t]
  unfold iblk
  blk_simp
  entry_read
  rw [e]
  pointwise

/-- Columns from `o` on, of the incoming gradient's block. -/
theorem d_cols {n : Nat} (o : Nat) (h : o + n ≤ 1024) (inb : ∀ a, (![0, o] : Fin 2 → Nat) a + (![512, n] : Fin 2 → Nat) a ≤ S512x1024.size a) :
    row (R := 512) (n := n) (View.ld (iblk m c 0 t) (Rect.unit (s := S512x1024) ![0, o] ![512, n] inb)) i = cols (D m c) n o h (blockRow t i) := by
  funext k
  refine Eq.trans ?_ (at_d m c t i ⟨o + k.val, by omega⟩)
  refine congrArg (iblk m c 0 t) (funext fun a => Fin.ext ?_)
  match a with
  | ⟨0, _⟩ => show 0 + 1 * i.val = i.val; omega
  | ⟨1, _⟩ => show o + 1 * k.val = o + k.val; omega

/-- Gains from `o` on. -/
theorem g_cols {n : Nat} (o : Nat) (h : o + n ≤ 1024) (inb : ∀ a, (![0, o] : Fin 2 → Nat) a + (![1, n] : Fin 2 → Nat) a ≤ S1x1024.size a) :
    row (R := 1) (n := n) (View.ld (iblk m c 4 t) (Rect.unit (s := S1x1024) ![0, o] ![1, n] inb)) 0 = gains (Gm m c) n o h := by
  funext k
  refine Eq.trans ?_ (at_g m c t ⟨o + k.val, by omega⟩)
  refine congrArg (iblk m c 4 t) (funext fun a => Fin.ext ?_)
  match a with
  | ⟨0, _⟩ => show 0 + 1 * 0 = 0; rfl
  | ⟨1, _⟩ => show o + 1 * k.val = o + k.val; omega

theorem a_row : row (R := 512) (n := 256) (iblk m c 1 t) i = row (A m c) (blockRow t i) := funext fun k => at_a m c t i k
theorem b_row : row (R := 512) (n := 512) (iblk m c 2 t) i = row (B m c) (blockRow t i) := funext fun k => at_b m c t i k

theorem z_left (k : Fin 256) : k0_pay5 (F := Ideal) (iblk m c 3 t) (ix2 i k) = val_main_v0 (F := Ideal) (Z m c) (ix2 (blockRow t i) k) :=
  (left_half _ i k).trans ((at_z m c t i _).trans (ref_left _ _ k).symm)

theorem z_sig (k : Fin 256) : k0_pay6 (F := Ideal) (iblk m c 3 t) (ix2 i k) = val_main_v7 (F := Ideal) (Z m c) (ix2 (blockRow t i) k) :=
  (logistic _ i k).trans ((congrArg logis (at_z m c t i _)).trans (ref_logistic _ _ k).symm)

theorem z_row : row (R := 512) (n := 256) (k0_pay7 (F := Ideal) (iblk m c 3 t)) i = row (R := 8192) (n := 256) (val_main_v11 (F := Ideal) (Z m c)) (blockRow t i) :=
  funext fun k => (gated _ i k).trans ((congrArg₂ (fun a b : EReal => a * logis b) (at_z m c t i _) (at_z m c t i _)).trans (ref_gated _ _ k).symm)

theorem block_first (i0 i1) (j : Fin 256) : k0_pay23 (F := Ideal) (k0_pay12 (F := Ideal) (k0_pay8 (F := Ideal) (iblk m c 1 t))
    (k0_pay10 (F := Ideal) (View.ld (iblk m c 0 t) (Rect.unit (s := S512x1024) ![0, 0] ![512, 256] i0)) (View.ld (iblk m c 4 t) (Rect.unit (s := S1x1024) ![0, 0] ![1, 256] i1)))
    (k0_pay11 (F := Ideal) (iblk m c 1 t) (View.ld (iblk m c 0 t) (Rect.unit (s := S512x1024) ![0, 0] ![512, 256] i0)) (View.ld (iblk m c 4 t) (Rect.unit (s := S1x1024) ![0, 0] ![1, 256] i1))))
      (ix2 i j) = val_main_v129 (F := Ideal) (D m c) (A m c) (Gm m c) (ix2 (blockRow t i) j) := by
  rw [grad_first, ref_first, a_row, d_cols m c t i 0 (by omega), g_cols m c t 0 (by omega)]

theorem block_second (i0 i1) (j : Fin 512) : k0_pay1 (F := Ideal) (k0_pay16 (F := Ideal) (iblk m c 2 t)
    (View.ld (iblk m c 0 t) (Rect.unit (s := S512x1024) ![0, 256] ![512, 512] i0)) (View.ld (iblk m c 4 t) (Rect.unit (s := S1x1024) ![0, 256] ![1, 512] i1)))
      (ix2 i j) = val_main_v107 (F := Ideal) (D m c) (B m c) (Gm m c) (ix2 (blockRow t i) j) := by
  rw [grad_second, ref_second, b_row, d_cols m c t i 256 (by omega), g_cols m c t 256 (by omega)]

theorem block_third (i0 i1) (j : Fin 256) : k0_pay21 (F := Ideal) (k0_pay7 (F := Ideal) (iblk m c 3 t))
    (View.ld (iblk m c 0 t) (Rect.unit (s := S512x1024) ![0, 768] ![512, 256] i0)) (View.ld (iblk m c 4 t) (Rect.unit (s := S1x1024) ![0, 768] ![1, 256] i1))
      (ix2 i j) = val_main_v86 (F := Ideal) (D m c) (Z m c) (Gm m c) (ix2 (blockRow t i) j) := by
  rw [grad_third, ref_third, z_row, d_cols m c t i 768 (by omega), g_cols m c t 768 (by omega)]

end Blocks

/-- A block of rows of an array. -/
def rowsOf {n : Nat} (t : Fin cfg0.N) (X : (⟨2, ![8192, n]⟩ : Shape).Idx → EReal) : (⟨2, ![512, n]⟩ : Shape).Idx → EReal := fun y => X (ix2 (blockRow t (y 0)) (y 1))

theorem out5 (c : Dev nD) (t : Fin cfg0.N) : (outsAt0 m c t.val t.isLt).1 = rowsOf t (val_main_v129 (F := Ideal) (D m c) (A m c) (Gm m c)) := by
  by_cases h0 : t.val % 16 = 0
  all_goals
    first
    | rw [outsAt0_A m c t h0]
    | rw [outsAt0_B m c t h0]
    dsimp only
    first
    | unfold out0_A_5
    | unfold out0_B_5
    frame_open
    simp (disch := decide) only [↓ View.readCov_skip, ↓ View.readCov_cons_toLoadRect, ↓ View.readCov_fill]
    frame_out
    funext y
    idx_vars y
    exact block_first m c t y0 _ _ y1

theorem out6 (c : Dev nD) (t : Fin cfg0.N) : (outsAt0 m c t.val t.isLt).2.1 = rowsOf t (val_main_v107 (F := Ideal) (D m c) (B m c) (Gm m c)) := by
  by_cases h0 : t.val % 16 = 0
  all_goals
    first
    | rw [outsAt0_A m c t h0]
    | rw [outsAt0_B m c t h0]
    dsimp only
    first
    | unfold out0_A_6
    | unfold out0_B_6
    frame_open
    simp (disch := decide) only [↓ View.readCov_skip, ↓ View.readCov_cons_toLoadRect, ↓ View.readCov_fill]
    frame_out
    funext y
    idx_vars y
    exact block_second m c t y0 _ _ y1

/-- A store over columns holds the wanted columns. -/
theorem col_piece {R C n : Nat} {G : (⟨2, ![R, C]⟩ : Shape).Idx → EReal} (o : Nat) {pay : (⟨2, ![R, n]⟩ : Shape).Idx → EReal}
    (hp : ∀ (i : Fin R) (j : Fin n) (h : o + j.val < C), pay (ix2 i j) = G (ix2 i ⟨o + j.val, h⟩))
    (inb : ∀ a, (![0, o] : Fin 2 → Nat) a + (![R, n] : Fin 2 → Nat) a ≤ (⟨2, ![R, C]⟩ : Shape).size a) (x : (⟨2, ![R, n]⟩ : Shape).Idx) :
    pay x = G ((Rect.unit (s := ⟨2, ![R, C]⟩) ![0, o] ![R, n] inb).emb x) := by
  obtain ⟨x0, x1, rfl⟩ : ∃ (x0 : Fin R) (x1 : Fin n), x = ix2 x0 x1 := ⟨x 0, x 1, funext fun a => match a with
    | ⟨0, _⟩ => rfl
    | ⟨1, _⟩ => rfl⟩
  have hb : o + n ≤ C := inb 1
  rw [hp x0 x1 (by omega)]
  refine congrArg G (funext fun a => Fin.ext ?_)
  match a with
  | ⟨0, _⟩ => show x0.val = 0 + 1 * x0.val; omega
  | ⟨1, _⟩ => show o + x1.val = o + 1 * x1.val; omega

theorem out7 (c : Dev nD) (t : Fin cfg0.N) : (outsAt0 m c t.val t.isLt).2.2.1 = rowsOf t (val_main_v138 (F := Ideal) (D m c) (Z m c) (Gm m c)) := by
  by_cases h0 : t.val % 16 = 0
  all_goals
    first
    | rw [outsAt0_A m c t h0]
    | rw [outsAt0_B m c t h0]
    dsimp only
    first
    | unfold out0_A_7
    | unfold out0_B_7
    frame_open
    simp (disch := decide) only [↓ View.readCov_skip, ↓ View.readCov_cons_toLoadRect, ↓ View.readCov_fill]
    frame_out
    funext y
    refine View.canon_append_of_piecesOf (Val := Elt Ideal) (e := .bf16) (rowsOf t (val_main_v138 (F := Ideal) (D m c) (Z m c) (Gm m c))) [] [_, _] ⟨?_, ?_, trivial⟩ y
      (View.cover_of_tiledL _ ![512, 256] (by sl_kernel_rfl) y)
    · refine col_piece (C := 512) 256 (fun i j h => (gate_right _ _ _ i j).trans ?_) (by decide)
      rw [z_left, z_sig, block_third]
      exact (ref_gate_right _ _ _ _ j h).symm
    · refine col_piece (C := 512) 0 (fun i j h => (gate_left _ _ i j).trans ?_) (by decide)
      rw [z_sig, block_third]
      exact (ref_gate_left _ _ _ _ j h).symm

/-- What one row adds to the gains' gradient, the three groups side by side. -/
def rowAdd (c : Dev nD) (r : Fin 8192) (j : Fin 1024) : EReal :=
  if h : j.val < 256 then gain 0x43800000#32 (row (A m c) r) (cols (D m c) 256 0 (by omega) r) ⟨j.val, h⟩
  else if h' : j.val < 768 then gain 0x44000000#32 (row (B m c) r) (cols (D m c) 512 256 (by omega) r) ⟨j.val - 256, by omega⟩
  else gain 0x43800000#32 (row (R := 8192) (n := 256) (val_main_v11 (F := Ideal) (Z m c)) r) (cols (D m c) 256 768 (by omega) r) ⟨j.val - 768, by omega⟩

theorem rowAdd_first (c : Dev nD) (r : Fin 8192) (j : Fin 256) (h : 0 + j.val < 1024) :
    rowAdd m c r ⟨0 + j.val, h⟩ = gain 0x43800000#32 (row (A m c) r) (cols (D m c) 256 0 (by omega) r) j :=
  (dif_pos (show 0 + j.val < 256 by omega)).trans (congrArg (gain _ _ _) (Fin.ext (Nat.zero_add _)))

theorem rowAdd_second (c : Dev nD) (r : Fin 8192) (j : Fin 512) (h : 256 + j.val < 1024) :
    rowAdd m c r ⟨256 + j.val, h⟩ = gain 0x44000000#32 (row (B m c) r) (cols (D m c) 512 256 (by omega) r) j :=
  ((dif_neg (show ¬ 256 + j.val < 256 by omega)).trans (dif_pos (show 256 + j.val < 768 by omega))).trans
    (congrArg (gain _ _ _) (Fin.ext (Nat.add_sub_cancel_left _ _)))

theorem rowAdd_third (c : Dev nD) (r : Fin 8192) (j : Fin 256) (h : 768 + j.val < 1024) : rowAdd m c r ⟨768 + j.val, h⟩ =
    gain 0x43800000#32 (row (R := 8192) (n := 256) (val_main_v11 (F := Ideal) (Z m c)) r) (cols (D m c) 256 768 (by omega) r) j :=
  ((dif_neg (show ¬ 768 + j.val < 256 by omega)).trans (dif_neg (show ¬ 768 + j.val < 768 by omega))).trans
    (congrArg (gain _ _ _) (Fin.ext (Nat.add_sub_cancel_left _ _)))

/-- What one block of rows adds. -/
def blockAdd (c : Dev nD) (t : Fin cfg0.N) (y : S1x1024.Idx) : EReal := ∑ i : Fin 512, rowAdd m c (blockRow t i) (y 1)

/-- A load of columns from `o` on. -/
theorem ld_col {n : Nat} (p : Vec Ideal S1x1024 .f32) (o : Nat) (inb : ∀ a, (![0, o] : Fin 2 → Nat) a + (![1, n] : Fin 2 → Nat) a ≤ S1x1024.size a)
    (j : Fin n) (h : o + j.val < 1024) :
    (View.ld p (Rect.unit (s := S1x1024) ![0, o] ![1, n] inb) : (⟨2, ![1, n]⟩ : Shape).Idx → EReal) (ix2 (0 : Fin 1) j) = p (ix2 0 ⟨o + j.val, h⟩) := by
  refine congrArg p (funext fun a => Fin.ext ?_)
  match a with
  | ⟨0, _⟩ => show 0 + 1 * 0 = 0; rfl
  | ⟨1, _⟩ => show o + 1 * j.val = o + j.val; omega

section Adds
variable (c : Dev nD) (t : Fin cfg0.N) (p : Vec Ideal S1x1024 .f32) (i : Fin 1)

theorem add_first (i0 i1) (j : Fin 256) (h : 0 + j.val < 1024) : k0_pay13 (F := Ideal) (k0_pay9 (F := Ideal) (iblk m c 1 t))
    (View.ld (iblk m c 0 t) (Rect.unit (s := S512x1024) ![0, 0] ![512, 256] i0)) (View.ld p (Rect.unit (s := S1x1024) ![0, 0] ![1, 256] i1)) (ix2 i j) =
      @HAdd.hAdd EReal EReal EReal _ (p (ix2 i ⟨0 + j.val, h⟩)) (blockAdd m c t (ix2 i ⟨0 + j.val, h⟩)) := by
  obtain rfl : i = 0 := Subsingleton.elim _ _
  rw [gain_first]
  refine congrArg₂ (fun a b : EReal => a + b) (ld_col p 0 i1 j h) (Finset.sum_congr rfl fun k _ => ?_)
  rw [a_row, d_cols m c t k 0 (by omega)]
  exact (rowAdd_first m c _ j h).symm

theorem add_second (i0 i1) (j : Fin 512) (h : 256 + j.val < 1024) : k0_pay18 (F := Ideal) (k0_pay17 (F := Ideal) (iblk m c 2 t)
    (View.ld (iblk m c 0 t) (Rect.unit (s := S512x1024) ![0, 256] ![512, 512] i0)) (View.ld p (Rect.unit (s := S1x1024) ![0, 256] ![1, 512] i1))) (ix2 i j) =
      @HAdd.hAdd EReal EReal EReal _ (p (ix2 i ⟨256 + j.val, h⟩)) (blockAdd m c t (ix2 i ⟨256 + j.val, h⟩)) := by
  obtain rfl : i = 0 := Subsingleton.elim _ _
  rw [gain_second]
  refine congrArg₂ (fun a b : EReal => a + b) (ld_col p 256 i1 j h) (Finset.sum_congr rfl fun k _ => ?_)
  rw [b_row, d_cols m c t k 256 (by omega)]
  exact (rowAdd_second m c _ j h).symm

theorem add_third (i0 i1) (j : Fin 256) (h : 768 + j.val < 1024) : k0_pay22 (F := Ideal) (k0_pay7 (F := Ideal) (iblk m c 3 t))
    (View.ld (iblk m c 0 t) (Rect.unit (s := S512x1024) ![0, 768] ![512, 256] i0)) (View.ld p (Rect.unit (s := S1x1024) ![0, 768] ![1, 256] i1)) (ix2 i j) =
      @HAdd.hAdd EReal EReal EReal _ (p (ix2 i ⟨768 + j.val, h⟩)) (blockAdd m c t (ix2 i ⟨768 + j.val, h⟩)) := by
  obtain rfl : i = 0 := Subsingleton.elim _ _
  rw [gain_third]
  refine congrArg₂ (fun a b : EReal => a + b) (ld_col p 768 i1 j h) (Finset.sum_congr rfl fun k _ => ?_)
  rw [z_row, d_cols m c t k 768 (by omega)]
  exact (rowAdd_third m c _ j h).symm

end Adds

theorem start (y : S1x1024.Idx) : k0_pay4 (F := Ideal) y = (0 : EReal) := by
  idx_vars y
  unfold k0_pay4
  pointwise

/-- The running sum with one block more. -/
def addTo (c : Dev nD) (t : Fin cfg0.N) (p : S1x1024.Idx → EReal) : S1x1024.Idx → EReal := fun y => p y + blockAdd m c t y

theorem reset (c : Dev nD) (t : Fin cfg0.N) (h0 : t.val % 16 = 0) (y : S1x1024.Idx) :
    @Eq EReal ((outsAt0 m c t.val t.isLt).2.2.2 y) (0 + blockAdd m c t y) := by
  rw [outsAt0_A m c t h0]
  dsimp only
  unfold out0_A_8
  frame_open
  simp (disch := decide) only [↓ View.readCov_skip, ↓ View.readCov_cons_toLoadRect, ↓ View.readCov_fill]
  frame_out
  refine View.canon_append_of_piecesOf (Val := Elt Ideal) (e := .f32) (addTo m c t fun _ => 0) [_] [_, _, _] ⟨?_, ?_, ?_, trivial⟩ y
    (View.cover_of_tiledBy _ ![1, 256] (by sl_kernel_rfl) y)
  · refine col_piece (R := 1) (C := 1024) (n := 256) 768 (fun i j h => ?_) (by decide)
    exact (add_third m c t _ i _ _ j h).trans (congrArg (fun a : EReal => a + blockAdd m c t _) (start _))
  · refine col_piece (R := 1) (C := 1024) (n := 512) 256 (fun i j h => ?_) (by decide)
    exact (add_second m c t _ i _ _ j h).trans (congrArg (fun a : EReal => a + blockAdd m c t _) (start _))
  · refine col_piece (R := 1) (C := 1024) (n := 256) 0 (fun i j h => ?_) (by decide)
    exact (add_first m c t _ i _ _ j h).trans (congrArg (fun a : EReal => a + blockAdd m c t _) (start _))

theorem step (c : Dev nD) (t : Fin cfg0.N) (h0 : ¬ t.val % 16 = 0) (y : S1x1024.Idx) :
    @Eq EReal ((outsAt0 m c t.val t.isLt).2.2.2 y) (@HAdd.hAdd EReal EReal EReal _ ((outsAt0 m c (t.val - 1) (by omega)).2.2.2 y) (blockAdd m c t y)) := by
  rw [outsAt0_B m c t h0]
  dsimp only
  unfold out0_B_8
  frame_open
  simp (disch := decide) only [↓ View.readCov_skip, ↓ View.readCov_cons_toLoadRect, ↓ View.readCov_fill]
  frame_out
  refine View.canon_append_of_piecesOf (Val := Elt Ideal) (e := .f32)
    (addTo m c t (outsAt0 m c (t.val - 1) (by omega)).2.2.2) [] [_, _, _] ⟨?_, ?_, ?_, trivial⟩ y
    (View.cover_of_tiledBy _ ![1, 256] (by sl_kernel_rfl) y)
  · refine col_piece (R := 1) (C := 1024) (n := 256) 768 (fun i j h => ?_) (by decide)
    exact add_third m c t _ i _ _ j h
  · refine col_piece (R := 1) (C := 1024) (n := 512) 256 (fun i j h => ?_) (by decide)
    exact add_second m c t _ i _ _ j h
  · refine col_piece (R := 1) (C := 1024) (n := 256) 0 (fun i j h => ?_) (by decide)
    exact add_first m c t _ i _ _ j h

/-- After the last block: the sum of the blocks' parts. -/
theorem total (c : Dev nD) (t : Fin cfg0.N) (h : t.val % 16 = 15) (y : S1x1024.Idx) :
    (outsAt0 m c t.val t.isLt).2.2.2 y = ∑ s : Fin 16, blockAdd m c ⟨16 * (t.val / 16) + s.val, Pipeline.run_point_lt_of_flush t h s⟩ y := by
  rw [Pipeline.eq_sum_fin_of_reset_step_apply_of_flush (fun n h => (outsAt0 m c n h).2.2.2) 16 (fun _ => (0 : EReal))
    (fun t => blockAdd m c t) (fun t h0 y => reset m c t h0 y) (fun t h0 y => step m c t h0 y) t h y, zero_add]

theorem gains_apply (c : Dev nD) (j : Fin 1024) : val_main_v139 (F := Ideal) (D m c) (A m c) (B m c) (Z m c) (ix2 0 j) = ∑ r : Fin 8192, rowAdd m c r j := by
  obtain ⟨r1, r2, r3⟩ := ref_gains (D m c) (A m c) (B m c) (Z m c)
  by_cases h : j.val < 256
  · obtain ⟨k, hk⟩ : ∃ k : Fin 256, j = ⟨0 + k.val, by omega⟩ := ⟨⟨j.val, h⟩, Fin.ext (Nat.zero_add _).symm⟩
    rw [hk, r1, ref_gain_first]
    exact Finset.sum_congr rfl fun r _ => (rowAdd_first m c r k _).symm
  by_cases h' : j.val < 768
  · obtain ⟨k, hk⟩ : ∃ k : Fin 512, j = ⟨256 + k.val, by omega⟩ := ⟨⟨j.val - 256, by omega⟩, Fin.ext (by show j.val = 256 + (j.val - 256); omega)⟩
    rw [hk, r2, ref_gain_second]
    exact Finset.sum_congr rfl fun r _ => (rowAdd_second m c r k _).symm
  · obtain ⟨k, hk⟩ : ∃ k : Fin 256, j = ⟨768 + k.val, by omega⟩ := ⟨⟨j.val - 768, by omega⟩, Fin.ext (by show j.val = 768 + (j.val - 768); omega)⟩
    rw [hk, r3, ref_gain_third]
    exact Finset.sum_congr rfl fun r _ => (rowAdd_third m c r k _).symm

theorem result5 (c : Dev nD) : (dats m 0 c).arrAt 5 cfg0.N = val_main_v129 (F := Ideal) (D m c) (A m c) (Gm m c) := by
  refine (dats m 0 c).arrAt_eq_of_covers 5 _ (by decide +kernel) fun t hf y => ?_
  blk_simp
  rw [after0_5, out5]
  have e : ((View.whole main_v1_0).slice (win0_5.rect t)).emb y = ix2 (blockRow t (y 0)) (y 1) := by
    unfold blockRow
    idx_vars y
    blk_ext [idx0 t]
  exact congrArg (val_main_v129 (F := Ideal) _ _ _) e.symm

theorem result6 (c : Dev nD) : (dats m 0 c).arrAt 6 cfg0.N = val_main_v107 (F := Ideal) (D m c) (B m c) (Gm m c) := by
  refine (dats m 0 c).arrAt_eq_of_covers 6 _ (by decide +kernel) fun t hf y => ?_
  blk_simp
  rw [after0_6, out6]
  have e : ((View.whole main_v1_1).slice (win0_6.rect t)).emb y = ix2 (blockRow t (y 0)) (y 1) := by
    unfold blockRow
    idx_vars y
    blk_ext [idx0 t]
  exact congrArg (val_main_v107 (F := Ideal) _ _ _) e.symm

theorem result7 (c : Dev nD) : (dats m 0 c).arrAt 7 cfg0.N = val_main_v138 (F := Ideal) (D m c) (Z m c) (Gm m c) := by
  refine (dats m 0 c).arrAt_eq_of_covers 7 _ (by decide +kernel) fun t hf y => ?_
  blk_simp
  rw [after0_7, out7]
  have e : ((View.whole main_v1_2).slice (win0_7.rect t)).emb y = ix2 (blockRow t (y 0)) (y 1) := by
    unfold blockRow
    idx_vars y
    blk_ext [idx0 t]
  exact congrArg (val_main_v138 (F := Ideal) _ _ _) e.symm

theorem result8 (c : Dev nD) : (dats m 0 c).arrAt 8 cfg0.N = val_main_v139 (F := Ideal) (D m c) (A m c) (B m c) (Z m c) := by
  refine (dats m 0 c).arrAt_eq_of_covers 8 _ (by decide +kernel) fun t hf y => ?_
  have hN : t.val < 16 := lt_of_lt_of_eq t.isLt (show cfg0.N = 16 from N_0)
  have h15 : t.val % 16 = 15 := (flush0_8 t).mp hf
  blk_simp
  rw [after0_8, total m c t h15]
  idx_vars y
  obtain rfl : y0 = 0 := Subsingleton.elim _ _
  have e : ((View.whole main_v1_3).slice (win0_8.rect t)).emb (ix2 (0 : Fin 1) y1) = ix2 (0 : Fin 1) y1 := by
    blk_ext [idx0 t]
  refine Eq.trans ?_ (congrArg (val_main_v139 (F := Ideal) _ _ _ _) e.symm)
  rw [gains_apply]
  refine Cert.Products.sum_blocks (n := 512) (L := 8192) rfl fun s k hl => ?_
  refine congrArg (fun r => rowAdd m c r y1) (Fin.ext ?_)
  show (16 * (t.val / 16) + s.val) * 512 + k.val = s.val * 512 + k.val
  omega

end Cert.DMergeIdeal.Result

end
-- ==== Proof.Swa.lean ====
/- The attention with sinks over a sliding window, as a formula over the extended reals: the scores of a query against the keys of its own
   block and the one before, the weights, and their weighted sum of the values. -/
module

public import proofs.«01_k».proof.Proof.Consts
public import Idealize.ShloMosaic.Lib.Pointwise
public import Idealize.ShloMosaic.Lib.WordCmp

@[expose] public section

set_option maxRecDepth 16384

noncomputable section

namespace Cert.Swa

open Idealize.ShloMosaic

/-- Key `kk` of the pair of blocks that end with block `n` is seen by row `r` of that block. -/
def Seen (n r kk : Nat) : Prop := r < kk ∧ kk ≤ r + 128 ∧ (0 < n ∨ 128 ≤ kk)

instance (n r kk : Nat) : Decidable (Seen n r kk) := by unfold Seen; infer_instance

/-- Row `r` of block `n`. -/
def row (n : Fin 64) (r : Fin 128) : Fin 8192 := ⟨n.val * 128 + r.val, by omega⟩
/-- The row of key `kk` of the pair of blocks that end with block `n` (for the first block, whose keys before it are not seen: any). -/
def key (n : Fin 64) (kk : Fin 256) : Fin 8192 := ⟨n.val * 128 + kk.val - 128, by omega⟩
/-- Lane `d` of head `j` of the keys and values. -/
def lane (j : Fin 2) (d : Fin 64) : Fin 128 := ⟨j.val * 64 + d.val, by omega⟩
/-- Lane `d` of the `g`th query head of those that share head `j`. -/
def qlane (j : Fin 2) (g : Fin 4) (d : Fin 64) : Fin 512 := ⟨(j.val * 4 + g.val) * 64 + d.val, by omega⟩
/-- The lane of the values among those of the projections. -/
def vlane (l : Fin 128) : Fin 1536 := ⟨1152 + l.val, by omega⟩
/-- The `g`th query head of those that share head `j`. -/
def head (j : Fin 2) (g : Fin 4) : Fin 8 := ⟨j.val * 4 + g.val, by omega⟩

/-- The score of key `kk` for a query: minus infinity where it is not seen. -/
def score (Q : Fin 8192 → Fin 512 → EReal) (K : Fin 8192 → Fin 128 → EReal) (n : Fin 64) (j : Fin 2) (g : Fin 4) (r : Fin 128) (kk : Fin 256) : EReal :=
  if Seen n.val r.val kk.val then (∑ d : Fin 64, K (key n kk) (lane j d) * Q (row n r) (qlane j g d)) * ((1 / 8 : ℝ) : EReal) else ⊥

/-- The greatest of the scores and the sink. -/
def top (f : Fin 256 → EReal) (s : EReal) : EReal := max (Finset.univ.fold max ⊥ f) s
def wt (f : Fin 256 → EReal) (s : EReal) (kk : Fin 256) : EReal := Ideal.exp (f kk - top f s)
def den (f : Fin 256 → EReal) (s : EReal) : EReal := (∑ kk, wt f s kk) + Ideal.exp (s - top f s)
/-- The weight of a key. -/
def prob (f : Fin 256 → EReal) (s : EReal) (kk : Fin 256) : EReal := Ideal.div (wt f s kk) (den f s)

/-- The attention of a query, at one lane. -/
def attend (Q : Fin 8192 → Fin 512 → EReal) (K V : Fin 8192 → Fin 128 → EReal) (S : Fin 8 → EReal) (n : Fin 64) (j : Fin 2) (g : Fin 4)
    (r : Fin 128) (d : Fin 64) : EReal :=
  ∑ kk, prob (score Q K n j g r) (S (head j g)) kk * V (key n kk) (lane j d)

theorem lowest : Ideal.ofBits .f32 0xFF800000#32 = ⊥ := by
  simp [Ideal.ofBits, Ideal.ieee]

theorem eighth : Ideal.ofBits .f32 0x3E000000#32 = ((1 / 8 : ℝ) : EReal) := by
  simp [Ideal.ofBits, Ideal.ieee, -EReal.coe_mul]; norm_num

/-- A key that is not seen has weight zero. -/
theorem prob_bot (f : Fin 256 → EReal) (s : EReal) (kk : Fin 256) (h : f kk = ⊥) (hd : den f s ≠ 0) : prob f s kk = 0 := by
  unfold prob wt
  rw [h, EReal.bot_sub, Ideal.exp_bot, Ideal.div, if_neg hd, zero_mul]

/-- A sum over the lanes of which only those of head `j` count. -/
theorem sum_lane (j : Fin 2) (f : Fin 128 → EReal) (h : ∀ l : Fin 128, l.val / 64 ≠ j.val → f l = 0) : ∑ l, f l = ∑ d : Fin 64, f (lane j d) := by
  have e : ∑ l, f l = ∑ i : Fin 2, ∑ d : Fin 64, f (lane i d) := by
    rw [← Fintype.sum_prod_type', ← Equiv.sum_comp (finProdFinEquiv : Fin 2 × Fin 64 ≃ Fin 128)]
    refine Finset.sum_congr rfl fun p _ => congrArg f (Fin.ext ?_)
    simp [lane, finProdFinEquiv]
    omega
  rw [e, Finset.sum_eq_single j]
  · intro i _ hi
    exact Finset.sum_eq_zero fun d _ => h _ fun e => hi (Fin.ext (by simp [lane] at e; omega))
  · simp

theorem exp_nonneg (x : EReal) : 0 ≤ Ideal.exp x := by
  induction x with
  | bot => simp
  | top => simp
  | coe x => exact EReal.coe_nonneg.2 (Real.exp_pos x).le

/-- The sum of the weights is not zero where the queries, the keys and the sink are real numbers. -/
theorem den_ne (Q : Fin 8192 → Fin 512 → EReal) (K : Fin 8192 → Fin 128 → EReal) (s : EReal) (hQ : ∀ i l, ∃ x : ℝ, Q i l = x)
    (hK : ∀ i l, ∃ x : ℝ, K i l = x) (hs : ∃ x : ℝ, s = x) (n : Fin 64) (j : Fin 2) (g : Fin 4) (r : Fin 128) : den (score Q K n j g r) s ≠ 0 := by
  choose q hq using hQ
  choose k hk using hK
  obtain ⟨σ, rfl⟩ := hs
  have h : ∀ kk, score Q K n j g r kk < ⊤ := by
    intro kk
    unfold score
    split
    · simp only [hq, hk, ← EReal.coe_mul]
      have e := map_sum (⟨⟨((↑) : ℝ → EReal), rfl⟩, EReal.coe_add⟩ : ℝ →+ EReal)
        (fun d : Fin 64 => k (key n kk) (lane j d) * q (row n r) (qlane j g d)) Finset.univ
      refine lt_of_eq_of_lt (congrArg (fun x : EReal => x * ((1 / 8 : ℝ) : EReal)) e.symm) ?_
      exact EReal.coe_lt_top (_ * _)
    · exact bot_lt_top
  have ht : top (score Q K n j g r) σ < ⊤ := max_lt ((Finset.fold_max_lt _).2 ⟨bot_lt_top, fun kk _ => h kk⟩) (EReal.coe_lt_top σ)
  have hb : ⊥ < top (score Q K n j g r) σ := lt_of_lt_of_le (EReal.bot_lt_coe σ) (le_max_right _ _)
  have e : (((top (score Q K n j g r) σ).toReal : ℝ) : EReal) = top (score Q K n j g r) σ := EReal.coe_toReal ht.ne hb.ne'
  unfold den
  rw [← e, ← EReal.coe_sub]
  have h0 : (0 : EReal) ≤ ∑ kk, wt (score Q K n j g r) σ kk := Finset.sum_nonneg fun kk _ => exp_nonneg _
  have h1 : (0 : EReal) < Ideal.exp ((σ - (top (score Q K n j g r) σ).toReal : ℝ) : EReal) := EReal.coe_pos.2 (Real.exp_pos _)
  exact (lt_of_lt_of_le h1 (le_add_of_nonneg_left h0)).ne'

end Cert.Swa

end
-- ==== Proof.SwaTile.lean ====
/- A block of the attention as the kernel computes it: two 128-lane slabs of queries stacked head by head, their scores against the 256 keys,
   the weights, the products with the values, and the heads put back side by side. -/
module

public import proofs.«01_k».proof.Proof.Gen.AttnIdeal.Frame
public import proofs.«01_k».proof.Proof.Swa
public import proofs.«01_k».proof.Proof.Products
public import Idealize.ShloMosaic.Lib.Pipeline.ValueKit
public import Idealize.ShloMosaic.Lib.Pointwise

@[expose] public section

set_option maxRecDepth 16384

noncomputable section

namespace Cert.Swa

open Cert.AttnIdeal Cert.AttnIdeal.Gen Idealize.ShloMosaic Idealize.ShloMosaic.TcCoe Idealize.SL.Sem

section Tile

variable {F : FTy → Type} [FloatOps F] [Named F]

/-- The keys a query of the block sees; `off` is what hides the block before the first one. -/
def seen (off : BitVec 32) : IVec S256x512 1 :=
  ori (andi (cmpi .sge (iota .tc S256x512 32 [0] iota_S256x512_d0_w32) (broadcast S256x512 128#32))
      (cmpi .sle (subi (iota .tc S256x512 32 [0] iota_S256x512_d0_w32) (broadcast S256x512 128#32)) k0_pay5))
    (andi (cmpi .slt (iota .tc S256x512 32 [0] iota_S256x512_d0_w32) (broadcast S256x512 128#32))
      (cmpi .sgt (iota .tc S256x512 32 [0] iota_S256x512_d0_w32) (addi k0_pay5 (broadcast S256x512 off))))

def zeros : FVec F S128x128 .f32 := broadcast S128x128 (Scalar.ofBits .f32 0x00000000#32)
def keep (h : IVec S128x128 1) (x : FVec F S128x128 .f32) : FVec F S128x128 .f32 := select h x zeros
def turn (x : FVec F S128x128 .f32) : FVec F S128x128 .f32 := dynamicRotate 1 64#32 none x rotates_S128x128_d1
/-- A slab of queries. -/
def wide (x : FVec F S128x128 .bf16) : FVec F S128x128 .f32 := extf .f32 (shapeCast S128x128 x shapeCasts_S128x128_S128x128) bitsLt_bf16_f32

/-- Four heads of queries, one above the other. -/
def stack (h : IVec S128x128 1) (a b c d : FVec F S128x128 .f32) : FVec F S512x128 .f32 :=
  concatenate S512x128 0 [⟨S128x128, keep h a⟩, ⟨S128x128, keep h b⟩, ⟨S128x128, keep h c⟩, ⟨S128x128, keep h d⟩]
    concatenates_S128x128_S128x128_S128x128_S128x128_S512x128_d0

/-- Their sinks. -/
def sinks (a b c d : Elt F .f32) : FVec F S1x512 .f32 :=
  select (cmpi .sge (iota .tc S1x512 32 [1] iota_S1x512_d1_w32) (broadcast S1x512 384#32)) (broadcast S1x512 d)
    (select (cmpi .sge (iota .tc S1x512 32 [1] iota_S1x512_d1_w32) (broadcast S1x512 256#32)) (broadcast S1x512 c)
      (select (cmpi .sge (iota .tc S1x512 32 [1] iota_S1x512_d1_w32) (broadcast S1x512 128#32)) (broadcast S1x512 b) (broadcast S1x512 a)))

/-- Their scores. -/
def scores (v : IVec S256x512 1) (K : FVec F S256x128 .bf16) (q : FVec F S512x128 .f32) : FVec F S256x512 .f32 :=
  select v (mulf (matmul dot_S256x128_S512x128_S256x512_1_1_0_0_n_n none K (truncf .bf16 q bitsLt_bf16_f32) (constant S256x512 .f32 0x00000000#32))
      (broadcast S256x512 (Scalar.ofBits .f32 0x3E000000#32)))
    (broadcast S256x512 (Named.named κ "mask" 0xF149F2CA#32))
def tops (s : FVec F S256x512 .f32) (k : FVec F S1x512 .f32) : FVec F S1x512 .f32 :=
  maximumf (shapeCast S1x512 (multiReduction .maximumf [0] S512 s 0xFF800000#32 reduces_S256x512_S512 (.inl rfl) rfl) shapeCasts_S512_S1x512) k
def exps (s : FVec F S256x512 .f32) (k : FVec F S1x512 .f32) : FVec F S256x512 .f32 :=
  exp (subf s (broadcastTo S256x512 (tops s k) broadcasts_S1x512_S256x512))
def dens (s : FVec F S256x512 .f32) (k : FVec F S1x512 .f32) : FVec F S1x512 .f32 :=
  addf (shapeCast S1x512 (multiReduction .add [0] S512 (exps s k) 0x00000000#32 reduces_S256x512_S512 (.inl rfl) rfl) shapeCasts_S512_S1x512)
    (exp (subf k (tops s k)))
/-- Their weights. -/
def probs (s : FVec F S256x512 .f32) (k : FVec F S1x512 .f32) : FVec F S256x512 .f32 :=
  mulf (exps s k) (broadcastTo S256x512 (divf (broadcast S1x512 (Scalar.ofBits .f32 0x3F800000#32)) (dens s k)) broadcasts_S1x512_S256x512)
/-- Their results, one above the other. -/
def outs (p : FVec F S256x512 .f32) (V : FVec F S256x128 .f32) : FVec F S512x128 .f32 :=
  matmul dot_S256x512_S256x128_S512x128_0_0_1_1_n_n none (truncf .bf16 p bitsLt_bf16_f32) (truncf .bf16 V bitsLt_bf16_f32)
    (constant S512x128 .f32 0x00000000#32)

def head0 (o : FVec F S512x128 .f32) : FVec F S128x128 .f32 := extractStridedSlice S128x128 ![0, 0] o slices_S512x128_o0_0_S128x128
def head1 (o : FVec F S512x128 .f32) : FVec F S128x128 .f32 := extractStridedSlice S128x128 ![128, 0] o slices_S512x128_o128_0_S128x128
def head2 (o : FVec F S512x128 .f32) : FVec F S128x128 .f32 := extractStridedSlice S128x128 ![256, 0] o slices_S512x128_o256_0_S128x128
def head3 (o : FVec F S512x128 .f32) : FVec F S128x128 .f32 := extractStridedSlice S128x128 ![384, 0] o slices_S512x128_o384_0_S128x128

/-- The heads of the lower half of the keys' lanes. -/
def low (off : BitVec 32) (K : FVec F S256x128 .bf16) (V : FVec F S256x128 .f32) (a b : FVec F S128x128 .bf16) (s0 s1 s2 s3 : Elt F .f32) :
    FVec F S512x128 .f32 :=
  outs (probs (scores (seen off) K (stack k0_pay12 (wide a) (turn (wide a)) (wide b) (turn (wide b)))) (sinks s0 s1 s2 s3)) V
/-- The heads of the upper half. -/
def high (off : BitVec 32) (K : FVec F S256x128 .bf16) (V : FVec F S256x128 .f32) (a b : FVec F S128x128 .bf16) (s0 s1 s2 s3 : Elt F .f32) :
    FVec F S512x128 .f32 :=
  outs (probs (scores (seen off) K (stack k0_pay19 (turn (wide a)) (wide a) (turn (wide b)) (wide b))) (sinks s0 s1 s2 s3)) V

/-- What is stored. -/
def slab0 (o : FVec F S512x128 .f32) : FVec F S128x128 .f32 :=
  shapeCast S128x128 (addf (keep k0_pay12 (head0 o)) (turn (keep k0_pay12 (head1 o)))) shapeCasts_S128x128_S128x128
def slab1 (o : FVec F S512x128 .f32) : FVec F S128x128 .f32 :=
  shapeCast S128x128 (addf (keep k0_pay12 (head2 o)) (turn (keep k0_pay12 (head3 o)))) shapeCasts_S128x128_S128x128
def slab2 (o : FVec F S512x128 .f32) : FVec F S128x128 .f32 :=
  shapeCast S128x128 (addf (turn (keep k0_pay19 (head0 o))) (keep k0_pay19 (head1 o))) shapeCasts_S128x128_S128x128
def slab3 (o : FVec F S512x128 .f32) : FVec F S128x128 .f32 :=
  shapeCast S128x128 (addf (turn (keep k0_pay19 (head2 o))) (keep k0_pay19 (head3 o))) shapeCasts_S128x128_S128x128

end Tile

theorem col : ∀ (kk : Fin 256) (i : Fin 512), k0_pay5 (ix2 kk i) = BitVec.ofNat 32 (i.val % 128) := by
  intro kk i
  unfold k0_pay5
  pointwise
  revert i
  decide +kernel

theorem seen_zero : ∀ (kk : Fin 256) (r : Fin 128), IntOp.ori
    (IntOp.andi (IntOp.cmpi .sge (BitVec.ofNat 32 kk.val) 128#32) (IntOp.cmpi .sle (IntOp.subi (BitVec.ofNat 32 kk.val) 128#32) (BitVec.ofNat 32 r.val)))
    (IntOp.andi (IntOp.cmpi .slt (BitVec.ofNat 32 kk.val) 128#32) (IntOp.cmpi .sgt (BitVec.ofNat 32 kk.val) (IntOp.addi (BitVec.ofNat 32 r.val) 0#32)))
      = BitVec.ofBool (decide (Seen 1 r.val kk.val)) := by
  decide +kernel
theorem seen_first : ∀ (kk : Fin 256) (r : Fin 128), IntOp.ori
    (IntOp.andi (IntOp.cmpi .sge (BitVec.ofNat 32 kk.val) 128#32) (IntOp.cmpi .sle (IntOp.subi (BitVec.ofNat 32 kk.val) 128#32) (BitVec.ofNat 32 r.val)))
    (IntOp.andi (IntOp.cmpi .slt (BitVec.ofNat 32 kk.val) 128#32) (IntOp.cmpi .sgt (BitVec.ofNat 32 kk.val) (IntOp.addi (BitVec.ofNat 32 r.val) 512#32)))
      = BitVec.ofBool (decide (Seen 0 r.val kk.val)) := by
  decide +kernel

theorem seen_apply (n : Nat) (kk : Fin 256) (i : Fin 512) : seen (if 0 < n then 0#32 else 512#32) (ix2 kk i) = BitVec.ofBool (decide (Seen n (i.val % 128) kk.val)) := by
  unfold seen
  pointwise
  rw [col]
  by_cases h : 0 < n
  · rw [if_pos h, seen_zero kk ⟨i.val % 128, by omega⟩]
    simp [Seen, h]
  · obtain rfl : n = 0 := by omega
    exact seen_first kk ⟨i.val % 128, by omega⟩

theorem lower (i l : Fin 128) : k0_pay12 (ix2 i l) = BitVec.ofBool (decide (l.val / 64 = 0)) := by
  unfold k0_pay12
  pointwise
  revert l
  decide +kernel
theorem upper (i l : Fin 128) : k0_pay19 (ix2 i l) = BitVec.ofBool (decide (l.val / 64 = 1)) := by
  unfold k0_pay19
  pointwise
  revert l
  decide +kernel

theorem later : ∀ (g : Fin 4) (r : Fin 128), IntOp.cmpi .sge (BitVec.ofNat 32 (g.val * 128 + r.val)) 384#32 = BitVec.ofBool (decide (3 ≤ g.val))
    ∧ IntOp.cmpi .sge (BitVec.ofNat 32 (g.val * 128 + r.val)) 256#32 = BitVec.ofBool (decide (2 ≤ g.val))
    ∧ IntOp.cmpi .sge (BitVec.ofNat 32 (g.val * 128 + r.val)) 128#32 = BitVec.ofBool (decide (1 ≤ g.val)) := by
  decide +kernel

/-- Row `r` of the `g`th of four heads. -/
def hrow (g : Fin 4) (r : Fin 128) : Fin 512 := ⟨g.val * 128 + r.val, by omega⟩

theorem sinks_apply (a b c d : EReal) (g : Fin 4) (r : Fin 128) : sinks (F := Ideal) a b c d (ix2 0 (hrow g r)) = ![a, b, c, d] g := by
  unfold sinks
  pointwise
  unfold hrow
  dsimp only
  rw [(later g r).1, (later g r).2.1, (later g r).2.2]
  fin_cases g <;> rfl

theorem scores_apply (v : IVec S256x512 1) (K : FVec Ideal S256x128 .bf16) (q : FVec Ideal S512x128 .f32) (kk : Fin 256) (i : Fin 512) :
    scores v K q (ix2 kk i) = Scalar.select (v (ix2 kk i)) ((∑ x : Fin 128, @HMul.hMul EReal EReal EReal _ (K (ix2 kk x)) (q (ix2 i x))) * ((1 / 8 : ℝ) : EReal)) ⊥ := by
  have e : (Named.named κ "mask" 0xF149F2CA#32 : Ideal .f32) = ⊥ := IdealRules.named_const.ideal_named_scalar κ "mask" _ _ rfl
  unfold scores
  pointwise
  rw [e, eighth]

theorem tops_apply (s : FVec Ideal S256x512 .f32) (k : FVec Ideal S1x512 .f32) (i : Fin 512) :
    tops s k (ix2 0 i) = top (fun kk => s (ix2 kk i)) (k (ix2 0 i)) := by
  unfold tops
  pointwise
  rw [lowest]
  rfl
theorem exps_apply (s : FVec Ideal S256x512 .f32) (k : FVec Ideal S1x512 .f32) (kk : Fin 256) (i : Fin 512) :
    exps s k (ix2 kk i) = wt (fun kk => s (ix2 kk i)) (k (ix2 0 i)) kk := by
  unfold exps
  pointwise
  rw [tops_apply]
  rfl
theorem dens_apply (s : FVec Ideal S256x512 .f32) (k : FVec Ideal S1x512 .f32) (i : Fin 512) :
    dens s k (ix2 0 i) = den (fun kk => s (ix2 kk i)) (k (ix2 0 i)) := by
  unfold dens
  pointwise
  simp only [tops_apply, exps_apply]
  rfl
theorem probs_apply (s : FVec Ideal S256x512 .f32) (k : FVec Ideal S1x512 .f32) (kk : Fin 256) (i : Fin 512) (hd : den (fun kk => s (ix2 kk i)) (k (ix2 0 i)) ≠ 0) :
    probs s k (ix2 kk i) = prob (fun kk => s (ix2 kk i)) (k (ix2 0 i)) kk := by
  unfold probs
  pointwise
  rw [dens_apply, exps_apply, prob, Ideal.div, if_neg hd, Ideal.div, if_neg hd, one_mul]
theorem outs_apply (p : FVec Ideal S256x512 .f32) (V : FVec Ideal S256x128 .f32) (i : Fin 512) (l : Fin 128) :
    outs p V (ix2 i l) = ∑ kk : Fin 256, @HMul.hMul EReal EReal EReal _ (p (ix2 kk i)) (V (ix2 kk l)) := by
  unfold outs
  pointwise

theorem stack_apply (h : IVec S128x128 1) (a b c d : FVec Ideal S128x128 .f32) (g : Fin 4) (r l : Fin 128) :
    stack h a b c d (ix2 (hrow g r) l) = Scalar.select (h (ix2 r l)) ((![a, b, c, d] g) (ix2 r l)) 0 := by
  unfold stack keep zeros
  pointwise
  unfold hrow
  fin_cases g
  · rw [dif_pos (by dsimp only; omega)]
    refine congrArg (fun i : Fin 128 => (Scalar.select (h (ix2 i l)) (a (ix2 i l)) 0 : EReal)) (Fin.ext ?_)
    dsimp only; omega
  · rw [dif_neg (by dsimp only; omega), dif_pos (by dsimp only; omega)]
    refine congrArg (fun i : Fin 128 => (Scalar.select (h (ix2 i l)) (b (ix2 i l)) 0 : EReal)) (Fin.ext ?_)
    dsimp only; omega
  · rw [dif_neg (by dsimp only; omega), dif_neg (by dsimp only; omega), dif_pos (by dsimp only; omega)]
    refine congrArg (fun i : Fin 128 => (Scalar.select (h (ix2 i l)) (c (ix2 i l)) 0 : EReal)) (Fin.ext ?_)
    dsimp only; omega
  · rw [dif_neg (by dsimp only; omega), dif_neg (by dsimp only; omega), dif_neg (by dsimp only; omega)]
    refine congrArg (fun i : Fin 128 => (Scalar.select (h (ix2 i l)) (d (ix2 i l)) 0 : EReal)) (Fin.ext ?_)
    dsimp only; omega

/-- The lane half a slab away. -/
def other (l : Fin 128) : Fin 128 := ⟨(l.val + 64) % 128, by omega⟩

theorem turn_apply (x : FVec Ideal S128x128 .f32) (i l : Fin 128) : turn x (ix2 i l) = x (ix2 i (other l)) := by
  unfold turn
  pointwise
  refine congrArg (fun i' : Fin 128 => x (ix2 i i')) (Fin.ext ?_)
  show (l.val + 128 - 64) % 128 = (l.val + 64) % 128
  omega

theorem wide_apply (x : FVec Ideal S128x128 .bf16) (i l : Fin 128) : wide x (ix2 i l) = x (ix2 i l) := by
  unfold wide
  pointwise

/-- The heads' results, one above the other, are the attention's. -/
theorem heads_apply (Q : Fin 8192 → Fin 512 → EReal) (K V : Fin 8192 → Fin 128 → EReal) (S : Fin 8 → EReal) (n : Fin 64) (j : Fin 2)
    (v : IVec S256x512 1) (hv : ∀ kk i, v (ix2 kk i) = BitVec.ofBool (decide (Seen n.val (i.val % 128) kk.val)))
    (Kb : FVec Ideal S256x128 .bf16) (hK : ∀ (kk : Fin 256) l, (0 < n.val ∨ 128 ≤ kk.val) → Kb (ix2 kk l) = K (key n kk) l)
    (Vb : FVec Ideal S256x128 .f32) (hV : ∀ (kk : Fin 256) l, (0 < n.val ∨ 128 ≤ kk.val) → Vb (ix2 kk l) = V (key n kk) l)
    (q : FVec Ideal S512x128 .f32) (hq0 : ∀ (g : Fin 4) (r l : Fin 128), l.val / 64 ≠ j.val → q (ix2 (hrow g r) l) = 0)
    (hq : ∀ (g : Fin 4) (r : Fin 128) d, q (ix2 (hrow g r) (lane j d)) = Q (row n r) (qlane j g d))
    (s : FVec Ideal S1x512 .f32) (hs : ∀ (g : Fin 4) (r : Fin 128), s (ix2 0 (hrow g r)) = S (head j g))
    (hd : ∀ g r, den (score Q K n j g r) (S (head j g)) ≠ 0) (g : Fin 4) (r : Fin 128) (d : Fin 64) :
    outs (probs (scores v Kb q) s) Vb (ix2 (hrow g r) (lane j d)) = attend Q K V S n j g r d := by
  have er : (hrow g r).val % 128 = r.val := by show (g.val * 128 + r.val) % 128 = r.val; omega
  have e : (fun kk => scores v Kb q (ix2 kk (hrow g r))) = score Q K n j g r := by
    funext kk
    rw [scores_apply, hv, er]
    unfold score
    by_cases h : Seen n.val r.val kk.val
    · rw [if_pos h, decide_eq_true h, sum_lane j _ fun l hl => by rw [hq0 g r l hl]; exact mul_zero (M₀ := EReal) _]
      simp only [hK kk _ h.2.2, hq]
      rfl
    · rw [if_neg h, decide_eq_false h]
      rfl
  rw [outs_apply]
  unfold attend
  refine Finset.sum_congr rfl fun kk _ => ?_
  rw [probs_apply _ _ _ _ (by rw [e, hs]; exact hd g r), e, hs]
  by_cases h : Seen n.val r.val kk.val
  · rw [hV kk _ h.2.2]
  · rw [prob_bot _ _ kk (if_neg h) (hd g r)]
    exact (zero_mul (M₀ := EReal) _).trans (zero_mul (M₀ := EReal) _).symm

theorem head0_apply (o : FVec Ideal S512x128 .f32) (i l : Fin 128) : head0 o (ix2 i l) = o (ix2 (hrow 0 i) l) := by
  unfold head0
  pointwise
  exact congrArg (fun i' : Fin 512 => o (ix2 i' l)) (Fin.ext (by simp [hrow]))
theorem head1_apply (o : FVec Ideal S512x128 .f32) (i l : Fin 128) : head1 o (ix2 i l) = o (ix2 (hrow 1 i) l) := by
  unfold head1
  pointwise
  exact congrArg (fun i' : Fin 512 => o (ix2 i' l)) (Fin.ext (by simp [hrow]))
theorem head2_apply (o : FVec Ideal S512x128 .f32) (i l : Fin 128) : head2 o (ix2 i l) = o (ix2 (hrow 2 i) l) := by
  unfold head2
  pointwise
  exact congrArg (fun i' : Fin 512 => o (ix2 i' l)) (Fin.ext (by simp [hrow]))
theorem head3_apply (o : FVec Ideal S512x128 .f32) (i l : Fin 128) : head3 o (ix2 i l) = o (ix2 (hrow 3 i) l) := by
  unfold head3
  pointwise
  exact congrArg (fun i' : Fin 512 => o (ix2 i' l)) (Fin.ext (by simp [hrow]))
theorem keep_apply (h : IVec S128x128 1) (x : FVec Ideal S128x128 .f32) (i l : Fin 128) : keep h x (ix2 i l) = Scalar.select (h (ix2 i l)) (x (ix2 i l)) 0 := by
  unfold keep zeros
  pointwise

/-- Two heads of the lower lanes, side by side. -/
theorem lower_pair (x y : FVec Ideal S128x128 .f32) (f : Fin 2 → Fin 128 → Fin 64 → EReal) (hx : ∀ r d, x (ix2 r (lane 0 d)) = f 0 r d)
    (hy : ∀ r d, y (ix2 r (lane 0 d)) = f 1 r d) (i l : Fin 128) :
    shapeCast S128x128 (addf (keep k0_pay12 x) (turn (keep k0_pay12 y))) shapeCasts_S128x128_S128x128 (ix2 i l)
      = f ⟨l.val / 64, by omega⟩ i ⟨l.val % 64, by omega⟩ := by
  have ea : ∀ a b : FVec Ideal S128x128 .f32, shapeCast S128x128 (addf a b) shapeCasts_S128x128_S128x128 (ix2 i l) = @HAdd.hAdd EReal EReal EReal _ (a (ix2 i l)) (b (ix2 i l)) := by
    intro a b
    pointwise
  rw [ea, turn_apply, keep_apply, keep_apply, lower, lower]
  by_cases h : l.val / 64 = 0
  · rw [decide_eq_true h, decide_eq_false (by show ¬ ((l.val + 64) % 128 / 64 = 0); omega)]
    refine (add_zero (M := EReal) _).trans ?_
    have e : l = lane 0 ⟨l.val % 64, by omega⟩ := Fin.ext (by simp [lane]; omega)
    have e' : (⟨l.val / 64, by omega⟩ : Fin 2) = 0 := Fin.ext h
    rw [e']
    exact (congrArg (fun l' => x (ix2 i l')) e).trans (hx i _)
  · rw [decide_eq_false h, decide_eq_true (by show (l.val + 64) % 128 / 64 = 0; omega)]
    refine (zero_add (M := EReal) _).trans ?_
    have e : other l = lane 0 ⟨l.val % 64, by omega⟩ := Fin.ext (by simp [lane, other]; omega)
    have e' : (⟨l.val / 64, by omega⟩ : Fin 2) = 1 := Fin.ext (by show l.val / 64 = 1; omega)
    rw [e']
    exact (congrArg (fun l' => y (ix2 i l')) e).trans (hy i _)

/-- Two heads of the upper lanes, side by side. -/
theorem upper_pair (x y : FVec Ideal S128x128 .f32) (f : Fin 2 → Fin 128 → Fin 64 → EReal) (hx : ∀ r d, x (ix2 r (lane 1 d)) = f 0 r d)
    (hy : ∀ r d, y (ix2 r (lane 1 d)) = f 1 r d) (i l : Fin 128) :
    shapeCast S128x128 (addf (turn (keep k0_pay19 x)) (keep k0_pay19 y)) shapeCasts_S128x128_S128x128 (ix2 i l)
      = f ⟨l.val / 64, by omega⟩ i ⟨l.val % 64, by omega⟩ := by
  have ea : ∀ a b : FVec Ideal S128x128 .f32, shapeCast S128x128 (addf a b) shapeCasts_S128x128_S128x128 (ix2 i l) = @HAdd.hAdd EReal EReal EReal _ (a (ix2 i l)) (b (ix2 i l)) := by
    intro a b
    pointwise
  rw [ea, turn_apply, keep_apply, keep_apply, upper, upper]
  by_cases h : l.val / 64 = 0
  · rw [decide_eq_true (by show (l.val + 64) % 128 / 64 = 1; omega), decide_eq_false (by omega)]
    refine (add_zero (M := EReal) _).trans ?_
    have e : other l = lane 1 ⟨l.val % 64, by omega⟩ := Fin.ext (by simp [lane, other]; omega)
    have e' : (⟨l.val / 64, by omega⟩ : Fin 2) = 0 := Fin.ext h
    rw [e']
    exact (congrArg (fun l' => x (ix2 i l')) e).trans (hx i _)
  · rw [decide_eq_false (by show ¬ ((l.val + 64) % 128 / 64 = 1); omega), decide_eq_true (by omega)]
    refine (zero_add (M := EReal) _).trans ?_
    have e : l = lane 1 ⟨l.val % 64, by omega⟩ := Fin.ext (by simp [lane]; omega)
    have e' : (⟨l.val / 64, by omega⟩ : Fin 2) = 1 := Fin.ext (by show l.val / 64 = 1; omega)
    rw [e']
    exact (congrArg (fun l' => y (ix2 i l')) e).trans (hy i _)

theorem low_apply (Q : Fin 8192 → Fin 512 → EReal) (K V : Fin 8192 → Fin 128 → EReal) (S : Fin 8 → EReal) (n : Fin 64)
    (off : BitVec 32) (ho : off = if 0 < n.val then 0#32 else 512#32)
    (Kb : FVec Ideal S256x128 .bf16) (hK : ∀ (kk : Fin 256) l, (0 < n.val ∨ 128 ≤ kk.val) → Kb (ix2 kk l) = K (key n kk) l)
    (Vb : FVec Ideal S256x128 .f32) (hV : ∀ (kk : Fin 256) l, (0 < n.val ∨ 128 ≤ kk.val) → Vb (ix2 kk l) = V (key n kk) l)
    (a b : FVec Ideal S128x128 .bf16) (ha : ∀ (r l : Fin 128), a (ix2 r l) = Q (row n r) ⟨0 + l.val, by omega⟩)
    (hb : ∀ (r l : Fin 128), b (ix2 r l) = Q (row n r) ⟨128 + l.val, by omega⟩)
    (s : Fin 4 → EReal) (hs : ∀ g, s g = S (head 0 g)) (hd : ∀ g r, den (score Q K n 0 g r) (S (head 0 g)) ≠ 0) (g : Fin 4) (r : Fin 128) (d : Fin 64) :
    low (F := Ideal) off Kb Vb a b (s 0) (s 1) (s 2) (s 3) (ix2 (hrow g r) (lane 0 d)) = attend Q K V S n 0 g r d := by
  unfold low
  refine heads_apply Q K V S n 0 _ (fun kk i => by rw [ho, seen_apply]) Kb hK Vb hV _ (fun g r l h => ?_) (fun g r d => ?_) _ (fun g r => ?_) hd g r d
  · rw [stack_apply, lower, decide_eq_false (show ¬ (l.val / 64 = 0) from h)]
    rfl
  · rw [stack_apply, lower, decide_eq_true (by simp [lane] <;> omega)]
    refine (WordCmp.select_ofBool _ _ _).trans ?_
    fin_cases g
    · show wide a (ix2 r (lane 0 d)) = _
      rw [wide_apply, ha]
      exact congrArg (Q (row n r)) (Fin.ext (by simp [lane, qlane] <;> omega))
    · show turn (wide a) (ix2 r (lane 0 d)) = _
      rw [turn_apply, wide_apply, ha]
      exact congrArg (Q (row n r)) (Fin.ext (by simp [lane, other, qlane] <;> omega))
    · show wide b (ix2 r (lane 0 d)) = _
      rw [wide_apply, hb]
      exact congrArg (Q (row n r)) (Fin.ext (by simp [lane, qlane] <;> omega))
    · show turn (wide b) (ix2 r (lane 0 d)) = _
      rw [turn_apply, wide_apply, hb]
      exact congrArg (Q (row n r)) (Fin.ext (by simp [lane, other, qlane] <;> omega))
  · rw [sinks_apply, ← hs]
    fin_cases g <;> rfl

theorem high_apply (Q : Fin 8192 → Fin 512 → EReal) (K V : Fin 8192 → Fin 128 → EReal) (S : Fin 8 → EReal) (n : Fin 64)
    (off : BitVec 32) (ho : off = if 0 < n.val then 0#32 else 512#32)
    (Kb : FVec Ideal S256x128 .bf16) (hK : ∀ (kk : Fin 256) l, (0 < n.val ∨ 128 ≤ kk.val) → Kb (ix2 kk l) = K (key n kk) l)
    (Vb : FVec Ideal S256x128 .f32) (hV : ∀ (kk : Fin 256) l, (0 < n.val ∨ 128 ≤ kk.val) → Vb (ix2 kk l) = V (key n kk) l)
    (a b : FVec Ideal S128x128 .bf16) (ha : ∀ (r l : Fin 128), a (ix2 r l) = Q (row n r) ⟨256 + l.val, by omega⟩)
    (hb : ∀ (r l : Fin 128), b (ix2 r l) = Q (row n r) ⟨384 + l.val, by omega⟩)
    (s : Fin 4 → EReal) (hs : ∀ g, s g = S (head 1 g)) (hd : ∀ g r, den (score Q K n 1 g r) (S (head 1 g)) ≠ 0) (g : Fin 4) (r : Fin 128) (d : Fin 64) :
    high (F := Ideal) off Kb Vb a b (s 0) (s 1) (s 2) (s 3) (ix2 (hrow g r) (lane 1 d)) = attend Q K V S n 1 g r d := by
  unfold high
  refine heads_apply Q K V S n 1 _ (fun kk i => by rw [ho, seen_apply]) Kb hK Vb hV _ (fun g r l h => ?_) (fun g r d => ?_) _ (fun g r => ?_) hd g r d
  · rw [stack_apply, upper, decide_eq_false (show ¬ (l.val / 64 = 1) from h)]
    rfl
  · rw [stack_apply, upper, decide_eq_true (by simp [lane] <;> omega)]
    refine (WordCmp.select_ofBool _ _ _).trans ?_
    fin_cases g
    · show turn (wide a) (ix2 r (lane 1 d)) = _
      rw [turn_apply, wide_apply, ha]
      exact congrArg (Q (row n r)) (Fin.ext (by simp [lane, other, qlane] <;> omega))
    · show wide a (ix2 r (lane 1 d)) = _
      rw [wide_apply, ha]
      exact congrArg (Q (row n r)) (Fin.ext (by simp [lane, qlane] <;> omega))
    · show turn (wide b) (ix2 r (lane 1 d)) = _
      rw [turn_apply, wide_apply, hb]
      exact congrArg (Q (row n r)) (Fin.ext (by simp [lane, other, qlane] <;> omega))
    · show wide b (ix2 r (lane 1 d)) = _
      rw [wide_apply, hb]
      exact congrArg (Q (row n r)) (Fin.ext (by simp [lane, qlane] <;> omega))
  · rw [sinks_apply, ← hs]
    fin_cases g <;> rfl

end Cert.Swa

end
-- ==== Proof.AttnRef.lean ====
/- The reference's attention, at an entry: the weighted sum of the values that a query sees. -/
module

public import proofs.«01_k».proof.Proof.Gen.AttnRefIdeal.Read
public import proofs.«01_k».proof.Proof.Swa
public import proofs.«01_k».proof.Proof.Products
public import Idealize.ShloMosaic.Lib.Pipeline.ValueKit
public import Idealize.ShloMosaic.Lib.Pointwise

@[expose] public section
set_option maxRecDepth 16384
noncomputable section
namespace Cert.AttnIdeal.Result
open Cert.AttnRefIdeal Cert.AttnRefIdeal.Read Idealize.ShloMosaic Idealize.ShloMosaic.TcCoe Idealize.SL.Sem Cert.Swa

theorem q_apply (x0 : Vec Ideal S8192x512 .f32) (n : Fin 64) (r : Fin 128) (j : Fin 2) (g : Fin 4) (d : Fin 64) :
    val_main_v4 (F := Ideal) x0 (ix5 n r j g d) = x0 (ix2 (row n r) (qlane j g d)) := by
  unfold val_main_v4 val_main_v1
  pointwise
  exact congrArg (fun i => x0 (ix2 _ i)) (Fin.ext (by show _ = (j.val * 4 + g.val) * 64 + d.val; dsimp only; omega))
theorem k_apply (x1 : Vec Ideal S8192x128 .f32) (n : Fin 64) (kk : Fin 256) (j : Fin 2) (d : Fin 64) (h : 0 < n.val ∨ 128 ≤ kk.val) :
    val_main_v10 (F := Ideal) x1 (ix4 n kk j d) = x1 (ix2 (key n kk) (lane j d)) := by
  unfold val_main_v10 val_main_v9 val_main_v8 val_main_v7 val_main_v5 val_main_v2 val_main_cst
  pointwise
  split
  · split
    · omega
    · exact congrArg (fun i => x1 (ix2 i _)) (Fin.ext (by unfold key; dsimp only; omega))
  · exact congrArg (fun i => x1 (ix2 i _)) (Fin.ext (by unfold key; dsimp only; omega))
theorem v_apply (x2 : Vec Ideal S8192x1536 .f32) (n : Fin 64) (kk : Fin 256) (j : Fin 2) (d : Fin 64) (h : 0 < n.val ∨ 128 ≤ kk.val) :
    val_main_v16 (F := Ideal) x2 (ix4 n kk j d) = x2 (ix2 (key n kk) (vlane (lane j d))) := by
  unfold val_main_v16 val_main_v15 val_main_v14 val_main_v13 val_main_v11 val_main_v3 val_main_v0 val_main_cst_0
  pointwise
  split
  · split
    · omega
    · exact congrArg (fun i => x2 (ix2 i _)) (Fin.ext (by unfold key; dsimp only; omega))
  · exact congrArg (fun i => x2 (ix2 i _)) (Fin.ext (by unfold key; dsimp only; omega))

theorem before : ∀ (r : Fin 128) (kk : Fin 256), IntOp.andi
    (IntOp.cmpi .sge (IntOp.subi (IntOp.addi (BitVec.ofNat 32 r.val) 128#32) (BitVec.ofNat 32 kk.val)) 0#32)
    (IntOp.cmpi .slt (IntOp.subi (IntOp.addi (BitVec.ofNat 32 r.val) 128#32) (BitVec.ofNat 32 kk.val)) 128#32)
    = BitVec.ofBool (decide (r.val < kk.val ∧ kk.val ≤ r.val + 128)) := by
  decide +kernel
theorem first : ∀ n : Fin 64, IntOp.cmpi .sgt (BitVec.ofNat 32 n.val) 0#32 = BitVec.ofBool (decide (0 < n.val)) := by decide +kernel
theorem second : ∀ kk : Fin 256, IntOp.cmpi .sge (BitVec.ofNat 32 kk.val) 128#32 = BitVec.ofBool (decide (128 ≤ kk.val)) := by decide +kernel

theorem mask_apply (n : Fin 64) (kk : Fin 256) (r : Fin 128) : val_main_v48 (F := Ideal) (ix3 n r kk) = BitVec.ofBool (decide (Seen n.val r.val kk.val)) := by
  unfold val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_c val_main_c_2 val_main_c_3 val_main_c_4 val_main_c_5
  pointwise
  rw [before, first, second]
  unfold Seen
  by_cases h1 : r.val < kk.val ∧ kk.val ≤ r.val + 128 <;> by_cases h2 : 0 < n.val <;> by_cases h3 : 128 ≤ kk.val <;>
    simp [h1, h2, h3, IntOp.andi, IntOp.ori, and_assoc, ← and_assoc]

theorem s_apply (x0 : Vec Ideal S8192x512 .f32) (x1 : Vec Ideal S8192x128 .f32) (n : Fin 64) (j : Fin 2) (g : Fin 4) (r : Fin 128) (kk : Fin 256) :
    val_main_v50 (F := Ideal) x0 x1 (ix5 n j g r kk) = score (fun i l => x0 (ix2 i l)) (fun i l => x1 (ix2 i l)) n j g r kk := by
  unfold val_main_v50 val_main_v20 val_main_v19 val_main_v18 val_main_v17 val_main_call0_v2 val_main_call0_v0 val_main_call0_v1 val_main_v49 val_main_cst_1 val_main_cst_6
  pointwise
  rw [mask_apply]
  simp only [q_apply]
  unfold score
  by_cases h : Seen n.val r.val kk.val
  · rw [if_pos h, decide_eq_true h]
    simp only [k_apply x1 n kk _ _ h.2.2]
    exact congrArg (fun x : EReal => _ * x) eighth
  · rw [if_neg h, decide_eq_false h]
    exact lowest

theorem top_apply (x0 : Vec Ideal S8192x512 .f32) (x1 : Vec Ideal S8192x128 .f32) (x3 : Vec Ideal S8 .f32) (n : Fin 64) (j : Fin 2) (g : Fin 4) (r : Fin 128) :
    val_main_v56 (F := Ideal) x0 x1 x3 (ix5 n j g r 0) = top (score (fun i l => x0 (ix2 i l)) (fun i l => x1 (ix2 i l)) n j g r) (x3 (ix1 (head j g))) := by
  rw [val_main_v56_apply, val_main_v54_apply, val_main_v55_apply, val_main_v52_apply, val_main_v51_apply, Ideal.maximumf_eq_max]
  have e1 : idx_main_v54 (ix5 n j g r 0) = ix4 n j g r := by funext a; fin_cases a <;> rfl
  have e2 : idx_main_v51 (idx_main_v52 (idx_main_v55 (ix5 n j g r 0))) = ix1 (head j g) := by funext a; fin_cases a <;> rfl
  rw [e1, e2]
  unfold val_main_v53 val_main_cst_7
  pointwise
  simp only [s_apply, lowest]
  rfl

theorem wt_apply (x0 : Vec Ideal S8192x512 .f32) (x1 : Vec Ideal S8192x128 .f32) (x3 : Vec Ideal S8 .f32) (n : Fin 64) (j : Fin 2) (g : Fin 4) (r : Fin 128) (kk : Fin 256) :
    val_main_v59 (F := Ideal) x0 x1 x3 (ix5 n j g r kk) = wt (score (fun i l => x0 (ix2 i l)) (fun i l => x1 (ix2 i l)) n j g r) (x3 (ix1 (head j g))) kk := by
  have e1 : idx_main_v57 (ix5 n j g r kk) = ix5 n j g r 0 := by funext a; fin_cases a <;> rfl
  rw [val_main_v59_apply, val_main_v58_apply, val_main_v57_apply, e1, top_apply, s_apply]
  rfl

theorem den_apply (x0 : Vec Ideal S8192x512 .f32) (x1 : Vec Ideal S8192x128 .f32) (x3 : Vec Ideal S8 .f32) (n : Fin 64) (j : Fin 2) (g : Fin 4) (r : Fin 128) :
    val_main_v65 (F := Ideal) x0 x1 x3 (ix5 n j g r 0) = den (score (fun i l => x0 (ix2 i l)) (fun i l => x1 (ix2 i l)) n j g r) (x3 (ix1 (head j g))) := by
  have e1 : idx_main_v61 (ix5 n j g r 0) = ix4 n j g r := by funext a; fin_cases a <;> rfl
  have e2 : idx_main_v51 (idx_main_v52 (idx_main_v62 (ix5 n j g r 0))) = ix1 (head j g) := by funext a; fin_cases a <;> rfl
  rw [val_main_v65_apply, val_main_v61_apply, e1, val_main_v64_apply, val_main_v63_apply, val_main_v62_apply, val_main_v52_apply,
    val_main_v51_apply, e2, top_apply]
  unfold val_main_v60 val_main_cst_8
  pointwise
  simp only [wt_apply]
  rfl

theorem prob_apply (x0 : Vec Ideal S8192x512 .f32) (x1 : Vec Ideal S8192x128 .f32) (x3 : Vec Ideal S8 .f32) (n : Fin 64) (j : Fin 2) (g : Fin 4) (r : Fin 128) (kk : Fin 256) :
    val_main_v67 (F := Ideal) x0 x1 x3 (ix5 n j g r kk) = prob (score (fun i l => x0 (ix2 i l)) (fun i l => x1 (ix2 i l)) n j g r) (x3 (ix1 (head j g))) kk := by
  have e1 : idx_main_v66 (ix5 n j g r kk) = ix5 n j g r 0 := by funext a; fin_cases a <;> rfl
  rw [val_main_v67_apply, val_main_v66_apply, e1, den_apply, wt_apply]
  rfl

/-- The reference at an entry of its result. -/
theorem reference_apply (x0 : Vec Ideal S8192x512 .f32) (x1 : Vec Ideal S8192x128 .f32) (x2 : Vec Ideal S8192x1536 .f32) (x3 : Vec Ideal S8 .f32)
    (hd : ∀ n j g r, den (score (fun i l => x0 (ix2 i l)) (fun i l => x1 (ix2 i l)) n j g r) (x3 (ix1 (head j g))) ≠ 0) (i : Fin 8192) (l : Fin 512) :
    val_main_v70 (F := Ideal) x0 x1 x2 x3 (ix2 i l) = attend (fun i l => x0 (ix2 i l)) (fun i l => x1 (ix2 i l)) (fun i l => x2 (ix2 i (vlane l)))
      (fun h => x3 (ix1 h)) ⟨i.val / 128, by omega⟩ ⟨l.val / 256, by omega⟩ ⟨l.val / 64 % 4, by omega⟩ ⟨i.val % 128, by omega⟩ ⟨l.val % 64, by omega⟩ := by
  unfold val_main_v70 val_main_v69 val_main_v68
  pointwise
  unfold attend
  refine Finset.sum_congr rfl fun kk _ => ?_
  rw [prob_apply]
  by_cases h : Seen (i.val / 128) (i.val % 128) kk.val
  · rw [v_apply x2 _ kk _ _ h.2.2]
    exact mul_comm (G := EReal) _ _
  · rw [prob_bot _ _ kk (if_neg h) (hd _ _ _ _)]
    exact (mul_zero (M₀ := EReal) _).trans (zero_mul (M₀ := EReal) _).symm

end Cert.AttnIdeal.Result
end
-- ==== Proof.AttnValue.lean ====
/- The attention: the values of the kernel are the reference's. -/
module

public import proofs.«01_k».proof.Proof.SwaTile
public import proofs.«01_k».proof.Proof.AttnRef
public import proofs.«01_k».proof.Proof.Gen.AttnIdeal.Value
public import Idealize.ShloMosaic.Lib.Pipeline.ValueKit
public import Idealize.ShloMosaic.Lib.Pipeline.ReadBack

@[expose] public section

set_option maxRecDepth 16384

noncomputable section

namespace Cert.AttnIdeal.Result

open Cert.AttnIdeal Cert.AttnIdeal.Gen Idealize.ShloMosaic Idealize.ShloMosaic.TcCoe Idealize.SL.Sem Cert.Swa
open Idealize.ShloMosaic.Pipeline (Dat)

variable (m : (ℓ : Loc nD τ sig) → Buf (Elt Ideal) ℓ)

theorem idx0 : ∀ t : Fin cfg0.N, win0_0.index t = ![0] ∧ win0_1.index t = ![t.val, 0] ∧ win0_2.index t = ![4 * t.val - 1, 0] ∧
    win0_3.index t = ![t.val, 0] ∧ win0_4.index t = ![4 * t.val - 1, 9] ∧ win0_5.index t = ![t.val, 9] ∧ win0_6.index t = ![t.val, 0] := by
  decide +kernel

theorem one_pos : 0 < (⟨1, ![1]⟩ : Shape).numel := by decide

theorem points (t : Fin cfg0.N) : t.val < 16 := lt_of_lt_of_eq t.isLt (show cfg0.N = 16 from N_0)

/-- The arguments of a device. -/
def Qm (c : Dev nD) (i : Fin 8192) (l : Fin 512) : EReal := m ((c : Thread nD τ).loc main_arg0) (ix2 i l)
def Km (c : Dev nD) (i : Fin 8192) (l : Fin 128) : EReal := m ((c : Thread nD τ).loc main_arg1) (ix2 i l)
def Vm (c : Dev nD) (i : Fin 8192) (l : Fin 128) : EReal := m ((c : Thread nD τ).loc main_arg2) (ix2 i (vlane l))
def Sm (c : Dev nD) (h : Fin 8) : EReal := m ((c : Thread nD τ).loc main_arg3) (ix1 h)

theorem at_s (c : Dev nD) (t : Fin cfg0.N) (h : Fin 8) : iblk m c 0 t (ix1 h) = Sm m c h := by
  unfold Sm
  blk_ext [iblk, V, idx0 t]

theorem at_q (c : Dev nD) (t : Fin cfg0.N) (i l : Fin 512) (h : t.val * 512 + i.val < 8192) : iblk m c 1 t (ix2 i l) = Qm m c ⟨t.val * 512 + i.val, h⟩ l := by
  have e : ((View.whole main_v0).slice (win0_1.rect t)).emb (ix2 i l) = ix2 (⟨t.val * 512 + i.val, h⟩ : Fin 8192) l := by
    blk_ext [idx0 t]
  unfold iblk
  blk_simp
  entry_read
  rw [e]
  pointwise
  rfl

theorem at_kp (c : Dev nD) (t : Fin cfg0.N) (i l : Fin 128) (h : (4 * t.val - 1) * 128 + i.val < 8192) : iblk m c 2 t (ix2 i l) = Km m c ⟨(4 * t.val - 1) * 128 + i.val, h⟩ l := by
  have e : ((View.whole main_v1).slice (win0_2.rect t)).emb (ix2 i l) = ix2 (⟨(4 * t.val - 1) * 128 + i.val, h⟩ : Fin 8192) l := by
    blk_ext [idx0 t]
  unfold iblk
  blk_simp
  entry_read
  rw [e]
  pointwise
  rfl

theorem at_kc (c : Dev nD) (t : Fin cfg0.N) (i : Fin 512) (l : Fin 128) (h : t.val * 512 + i.val < 8192) : iblk m c 3 t (ix2 i l) = Km m c ⟨t.val * 512 + i.val, h⟩ l := by
  have e : ((View.whole main_v1).slice (win0_3.rect t)).emb (ix2 i l) = ix2 (⟨t.val * 512 + i.val, h⟩ : Fin 8192) l := by
    blk_ext [idx0 t]
  unfold iblk
  blk_simp
  entry_read
  rw [e]
  pointwise
  rfl

theorem at_vp (c : Dev nD) (t : Fin cfg0.N) (i l : Fin 128) (h : (4 * t.val - 1) * 128 + i.val < 8192) : iblk m c 4 t (ix2 i l) = Vm m c ⟨(4 * t.val - 1) * 128 + i.val, h⟩ l := by
  unfold Vm vlane
  blk_ext [iblk, V, idx0 t]

theorem at_vc (c : Dev nD) (t : Fin cfg0.N) (i : Fin 512) (l : Fin 128) (h : t.val * 512 + i.val < 8192) : iblk m c 5 t (ix2 i l) = Vm m c ⟨t.val * 512 + i.val, h⟩ l := by
  unfold Vm vlane
  blk_ext [iblk, V, idx0 t]

/-- The keys of a step: those of the block before it and its own. -/
theorem keys (c : Dev nD) (t : Fin cfg0.N) (e : Fin 640) (l : Fin 128) (h : 0 < t.val ∨ 128 ≤ e.val) (hi : t.val * 512 + e.val - 128 < 8192) :
    k0_pay3 (F := Ideal) (iblk m c 2 t) (iblk m c 3 t) (ix2 e l) = Km m c ⟨t.val * 512 + e.val - 128, hi⟩ l := by
  unfold k0_pay3
  pointwise
  split
  · refine (at_kp m c t ⟨e.val, by omega⟩ l (by dsimp only; omega)).trans (congrArg (fun i => Km m c i l) (Fin.ext ?_))
    dsimp only
    omega
  · refine (at_kc m c t ⟨e.val - 128, by omega⟩ l (by dsimp only; omega)).trans (congrArg (fun i => Km m c i l) (Fin.ext ?_))
    dsimp only
    omega

theorem vals (c : Dev nD) (t : Fin cfg0.N) (e : Fin 640) (l : Fin 128) (h : 0 < t.val ∨ 128 ≤ e.val) (hi : t.val * 512 + e.val - 128 < 8192) :
    k0_pay4 (F := Ideal) (iblk m c 4 t) (iblk m c 5 t) (ix2 e l) = Vm m c ⟨t.val * 512 + e.val - 128, hi⟩ l := by
  unfold k0_pay4
  pointwise
  split
  · refine (at_vp m c t ⟨e.val, by omega⟩ l (by dsimp only; omega)).trans (congrArg (fun i => Vm m c i l) (Fin.ext ?_))
    dsimp only
    omega
  · refine (at_vc m c t ⟨e.val - 128, by omega⟩ l (by dsimp only; omega)).trans (congrArg (fun i => Vm m c i l) (Fin.ext ?_))
    dsimp only
    omega

/-- What a step leaves: the attention of its four blocks. -/
def whole (c : Dev nD) (t : Fin cfg0.N) (y : S512x512.Idx) : EReal :=
  attend (Qm m c) (Km m c) (Vm m c) (Sm m c) ⟨4 * t.val + (y 0).val / 128, by have := points t; have h : (y 0).val < 512 := (y 0).isLt; omega⟩
    ⟨(y 1).val / 256, by have h : (y 1).val < 512 := (y 1).isLt; omega⟩ ⟨(y 1).val / 64 % 4, by omega⟩
    ⟨(y 0).val % 128, by omega⟩ ⟨(y 1).val % 64, by omega⟩

/-- A query slab of a step. -/
theorem at_slab (c : Dev nD) (t : Fin cfg0.N) (b o : Nat) (i : ∀ a, (![b, o] : Fin 2 → Nat) a + (![128, 128] : Fin 2 → Nat) a ≤ S512x512.size a)
    (r l : Fin 128) (hr : t.val * 512 + (b + r.val) < 8192) (hl : o + l.val < 512) :
    View.ld (iblk m c 1 t) (Rect.unit ![b, o] ![128, 128] i) (ix2 r l) = Qm m c ⟨t.val * 512 + (b + r.val), hr⟩ ⟨o + l.val, hl⟩ := by
  have hb : b + 128 ≤ 512 := i 0
  have e : (Rect.unit (s := S512x512) ![b, o] ![128, 128] i).emb (ix2 r l) = ix2 (⟨b + r.val, by omega⟩ : Fin 512) ⟨o + l.val, hl⟩ := by
    funext a
    fin_cases a
    · exact Fin.ext (by show b + 1 * r.val = b + r.val; omega)
    · exact Fin.ext (by show o + 1 * l.val = o + l.val; omega)
  exact (congrArg (iblk m c 1 t) e).trans (at_q m c t ⟨b + r.val, by omega⟩ ⟨o + l.val, hl⟩ hr)

theorem at_sink (c : Dev nD) (t : Fin cfg0.N) (h : Nat) (i : ∀ a, (![h] : Fin 1 → Nat) a + (![1] : Fin 1 → Nat) a ≤ S8.size a) (p) (hh : h < 8) :
    View.ld (iblk m c 0 t) (Rect.unit ![h] ![1] i) (Shape.Idx.first p) = Sm m c ⟨h, hh⟩ := by
  have e : (Rect.unit (s := S8) ![h] ![1] i).emb (Shape.Idx.first p) = ix1 (⟨h, hh⟩ : Fin 8) := by
    funext a
    fin_cases a
    exact Fin.ext (by show h + 1 * 0 = h; omega)
  exact (congrArg (iblk m c 0 t) e).trans (at_s m c t ⟨h, hh⟩)

theorem first_step : ∀ t : Fin grid0.N, Scalar.select (Scalar.cmpi .sgt (BitVec.ofNat 32 ((grid0.coords t) 0).val) 0#32) 0#32 512#32 = if 0 < t.val then 0#32 else 512#32 := by
  decide +kernel

theorem piece {G : S512x512.Idx → EReal} (b o : Nat) {pay : S128x128.Idx → EReal}
    (i : ∀ a, (![b, o] : Fin 2 → Nat) a + (![128, 128] : Fin 2 → Nat) a ≤ S512x512.size a)
    (hp : ∀ (r l : Fin 128) (hr : b + r.val < 512) (hl : o + l.val < 512), pay (ix2 r l) = G (ix2 ⟨b + r.val, hr⟩ ⟨o + l.val, hl⟩))
    (x : (Rect.unit (s := S512x512) ![b, o] ![128, 128] i).shape.Idx) :
    pay x = G ((Rect.unit ![b, o] ![128, 128] i).emb x) := by
  have hb : b + 128 ≤ 512 := i 0
  have ho : o + 128 ≤ 512 := i 1
  idx_vars x
  refine (hp x0 x1 (by omega) (by omega)).trans (congrArg G ?_)
  funext a
  fin_cases a
  · exact Fin.ext (by show b + x0.val = b + 1 * x0.val; omega)
  · exact Fin.ext (by show o + x1.val = o + 1 * x1.val; omega)

/-- Block `b` of a step: its number. -/
def blk (t : Fin cfg0.N) (b : Fin 4) : Fin 64 := ⟨4 * t.val + b.val, by have := points t; omega⟩

/-- Block `b` of step `t` starts at row `o` of the step, where the step's keys and queries have room for it, and `z` marks the first block of all. -/
structure At (t : Fin cfg0.N) (b : Fin 4) (o : Nat) (z : BitVec 32) : Prop where
  first : z = if 0 < (blk t b).val then 0#32 else 512#32
  start : o = 128 * b.val
  slice : S640x128.Slices ![o, 0] S256x128
  in0 : ∀ a, (![o, 0] : Fin 2 → Nat) a + (![128, 128] : Fin 2 → Nat) a ≤ S512x512.size a
  in1 : ∀ a, (![o, 128] : Fin 2 → Nat) a + (![128, 128] : Fin 2 → Nat) a ≤ S512x512.size a
  in2 : ∀ a, (![o, 256] : Fin 2 → Nat) a + (![128, 128] : Fin 2 → Nat) a ≤ S512x512.size a
  in3 : ∀ a, (![o, 384] : Fin 2 → Nat) a + (![128, 128] : Fin 2 → Nat) a ≤ S512x512.size a

/-- The four blocks of a step. -/
theorem at0 (t : Fin cfg0.N) : At t 0 0 (Scalar.select (Scalar.cmpi .sgt (BitVec.ofNat 32 ((grid0.coords t) 0).val) 0#32) 0#32 512#32) := by
  refine ⟨(first_step t).trans ?_, rfl, slices_S640x128_o0_0_S256x128, by decide, by decide, by decide, by decide⟩
  show _ = if 0 < 4 * t.val + 0 then 0#32 else 512#32
  by_cases h : 0 < t.val
  · rw [if_pos h, if_pos (by omega)]
  · rw [if_neg h, if_neg (by omega)]
theorem at1 (t : Fin cfg0.N) : At t 1 128 0#32 :=
  ⟨(if_pos (by show 0 < 4 * t.val + 1; omega)).symm, rfl, slices_S640x128_o128_0_S256x128, by decide, by decide, by decide, by decide⟩
theorem at2 (t : Fin cfg0.N) : At t 2 256 0#32 :=
  ⟨(if_pos (by show 0 < 4 * t.val + 2; omega)).symm, rfl, slices_S640x128_o256_0_S256x128, by decide, by decide, by decide, by decide⟩
theorem at3 (t : Fin cfg0.N) : At t 3 384 0#32 :=
  ⟨(if_pos (by show 0 < 4 * t.val + 3; omega)).symm, rfl, slices_S640x128_o384_0_S256x128, by decide, by decide, by decide, by decide⟩

section

variable {t : Fin cfg0.N} {b : Fin 4} {o : Nat} {z : BitVec 32} (a : At t b o z) (c : Dev nD)

/-- The keys and the values a block sees. -/
def At.keys : FVec Ideal S256x128 .bf16 := extractStridedSlice S256x128 ![o, 0] (k0_pay3 (iblk m c 2 t) (iblk m c 3 t)) a.slice
def At.vals : FVec Ideal S256x128 .f32 := extractStridedSlice S256x128 ![o, 0] (k0_pay4 (iblk m c 4 t) (iblk m c 5 t)) a.slice

theorem At.keys_apply (kk : Fin 256) (l : Fin 128) (h : 0 < (blk t b).val ∨ 128 ≤ kk.val) : a.keys m c (ix2 kk l) = Km m c (key (blk t b) kk) l := by
  have ht := points t
  have hb := b.isLt
  have hs := a.start
  unfold blk at h
  unfold At.keys
  pointwise
  refine (Result.keys m c t ⟨o + kk.val, by omega⟩ l (by dsimp only at h ⊢; omega) (by dsimp only; omega)).trans (congrArg (fun i => Km m c i l) (Fin.ext ?_))
  show t.val * 512 + (o + kk.val) - 128 = (4 * t.val + b.val) * 128 + kk.val - 128
  omega
theorem At.vals_apply (kk : Fin 256) (l : Fin 128) (h : 0 < (blk t b).val ∨ 128 ≤ kk.val) : a.vals m c (ix2 kk l) = Vm m c (key (blk t b) kk) l := by
  have ht := points t
  have hb := b.isLt
  have hs := a.start
  unfold blk at h
  unfold At.vals
  pointwise
  refine (Result.vals m c t ⟨o + kk.val, by omega⟩ l (by dsimp only at h ⊢; omega) (by dsimp only; omega)).trans (congrArg (fun i => Vm m c i l) (Fin.ext ?_))
  show t.val * 512 + (o + kk.val) - 128 = (4 * t.val + b.val) * 128 + kk.val - 128
  omega

include a in
/-- A slab of a block's queries. -/
theorem At.slab (s : Nat) (i : ∀ a, (![o, s] : Fin 2 → Nat) a + (![128, 128] : Fin 2 → Nat) a ≤ S512x512.size a) (r l : Fin 128) (hl : s + l.val < 512) :
    View.ld (iblk m c 1 t) (Rect.unit ![o, s] ![128, 128] i) (ix2 r l) = Qm m c (row (blk t b) r) ⟨s + l.val, hl⟩ := by
  have ht := points t
  have hb := b.isLt
  have hs := a.start
  refine (at_slab m c t o s i r l (by omega) hl).trans (congrArg (fun i => Qm m c i _) (Fin.ext ?_))
  show t.val * 512 + (o + r.val) = (4 * t.val + b.val) * 128 + r.val
  omega

/-- The attention of a block's lower and upper heads. -/
def At.low : FVec Ideal S512x128 .f32 :=
  Cert.Swa.low z (a.keys m c) (a.vals m c) (View.ld (iblk m c 1 t) (Rect.unit ![o, 0] ![128, 128] a.in0)) (View.ld (iblk m c 1 t) (Rect.unit ![o, 128] ![128, 128] a.in1))
    (View.ld (iblk m c 0 t) (Rect.unit ![0] ![1] inb_S8_S1_0) (Shape.Idx.first one_pos)) (View.ld (iblk m c 0 t) (Rect.unit ![1] ![1] inb_S8_S1_1) (Shape.Idx.first one_pos)) (View.ld (iblk m c 0 t) (Rect.unit ![2] ![1] inb_S8_S1_2) (Shape.Idx.first one_pos)) (View.ld (iblk m c 0 t) (Rect.unit ![3] ![1] inb_S8_S1_3) (Shape.Idx.first one_pos))
def At.high : FVec Ideal S512x128 .f32 :=
  Cert.Swa.high z (a.keys m c) (a.vals m c) (View.ld (iblk m c 1 t) (Rect.unit ![o, 256] ![128, 128] a.in2)) (View.ld (iblk m c 1 t) (Rect.unit ![o, 384] ![128, 128] a.in3))
    (View.ld (iblk m c 0 t) (Rect.unit ![4] ![1] inb_S8_S1_4) (Shape.Idx.first one_pos)) (View.ld (iblk m c 0 t) (Rect.unit ![5] ![1] inb_S8_S1_5) (Shape.Idx.first one_pos)) (View.ld (iblk m c 0 t) (Rect.unit ![6] ![1] inb_S8_S1_6) (Shape.Idx.first one_pos)) (View.ld (iblk m c 0 t) (Rect.unit ![7] ![1] inb_S8_S1_7) (Shape.Idx.first one_pos))
theorem At.low_apply (hd : ∀ n j g r, den (score (Qm m c) (Km m c) n j g r) (Sm m c (head j g)) ≠ 0) (g : Fin 4) (r : Fin 128) (d : Fin 64) :
    a.low m c (ix2 (hrow g r) (lane 0 d)) = attend (Qm m c) (Km m c) (Vm m c) (Sm m c) (blk t b) 0 g r d := by
  refine Cert.Swa.low_apply (Qm m c) (Km m c) (Vm m c) (Sm m c) (blk t b) _ a.first _ (a.keys_apply m c) _ (a.vals_apply m c) _ _
    (fun r l => a.slab m c 0 a.in0 r l (by omega)) (fun r l => a.slab m c 128 a.in1 r l (by omega))
    ![View.ld (iblk m c 0 t) (Rect.unit ![0] ![1] inb_S8_S1_0) (Shape.Idx.first one_pos), View.ld (iblk m c 0 t) (Rect.unit ![1] ![1] inb_S8_S1_1) (Shape.Idx.first one_pos), View.ld (iblk m c 0 t) (Rect.unit ![2] ![1] inb_S8_S1_2) (Shape.Idx.first one_pos), View.ld (iblk m c 0 t) (Rect.unit ![3] ![1] inb_S8_S1_3) (Shape.Idx.first one_pos)] (fun g => ?_) (hd _ _) g r d
  fin_cases g
  · exact at_sink m c t 0 _ _ (by omega)
  · exact at_sink m c t 1 _ _ (by omega)
  · exact at_sink m c t 2 _ _ (by omega)
  · exact at_sink m c t 3 _ _ (by omega)
theorem At.high_apply (hd : ∀ n j g r, den (score (Qm m c) (Km m c) n j g r) (Sm m c (head j g)) ≠ 0) (g : Fin 4) (r : Fin 128) (d : Fin 64) :
    a.high m c (ix2 (hrow g r) (lane 1 d)) = attend (Qm m c) (Km m c) (Vm m c) (Sm m c) (blk t b) 1 g r d := by
  refine Cert.Swa.high_apply (Qm m c) (Km m c) (Vm m c) (Sm m c) (blk t b) _ a.first _ (a.keys_apply m c) _ (a.vals_apply m c) _ _
    (fun r l => a.slab m c 256 a.in2 r l (by omega)) (fun r l => a.slab m c 384 a.in3 r l (by omega))
    ![View.ld (iblk m c 0 t) (Rect.unit ![4] ![1] inb_S8_S1_4) (Shape.Idx.first one_pos), View.ld (iblk m c 0 t) (Rect.unit ![5] ![1] inb_S8_S1_5) (Shape.Idx.first one_pos), View.ld (iblk m c 0 t) (Rect.unit ![6] ![1] inb_S8_S1_6) (Shape.Idx.first one_pos), View.ld (iblk m c 0 t) (Rect.unit ![7] ![1] inb_S8_S1_7) (Shape.Idx.first one_pos)] (fun g => ?_) (hd _ _) g r d
  fin_cases g
  · exact at_sink m c t 4 _ _ (by omega)
  · exact at_sink m c t 5 _ _ (by omega)
  · exact at_sink m c t 6 _ _ (by omega)
  · exact at_sink m c t 7 _ _ (by omega)

include a in
/-- Two heads of a block, where they lie in the step. -/
theorem At.place (s : Nat) (j : Fin 2) (k : Nat) (hk : k ≤ 2) (h : s = 256 * j.val + 64 * k) (r l : Fin 128) (hr : o + r.val < 512) (hl : s + l.val < 512) :
    attend (Qm m c) (Km m c) (Vm m c) (Sm m c) (blk t b) j ⟨k + l.val / 64, by omega⟩ r ⟨l.val % 64, by omega⟩ = whole m c t (ix2 ⟨o + r.val, hr⟩ ⟨s + l.val, hl⟩) := by
  have hb := b.isLt
  have hs := a.start
  have hj := j.isLt
  unfold whole blk
  congr 1
  · exact Fin.ext (by show 4 * t.val + b.val = 4 * t.val + (o + r.val) / 128; omega)
  · exact Fin.ext (by show j.val = (s + l.val) / 256; omega)
  · exact Fin.ext (by show k + l.val / 64 = (s + l.val) / 64 % 4; omega)
  · exact Fin.ext (by show r.val = (o + r.val) % 128; omega)
  · exact Fin.ext (by show l.val % 64 = (s + l.val) % 64; omega)
theorem At.piece0 (hd : ∀ n j g r, den (score (Qm m c) (Km m c) n j g r) (Sm m c (head j g)) ≠ 0) (r l : Fin 128) (hr : o + r.val < 512) (hl : 0 + l.val < 512) :
    slab0 (a.low m c) (ix2 r l) = whole m c t (ix2 ⟨o + r.val, hr⟩ ⟨0 + l.val, hl⟩) :=
  (lower_pair _ _ (fun g r d => attend (Qm m c) (Km m c) (Vm m c) (Sm m c) (blk t b) 0 ⟨0 + g.val, by omega⟩ r d)
    (fun r d => (head0_apply _ _ _).trans (a.low_apply m c hd 0 r d)) (fun r d => (head1_apply _ _ _).trans (a.low_apply m c hd 1 r d)) r l).trans
    (a.place m c 0 0 0 (by omega) rfl r l hr hl)
theorem At.piece1 (hd : ∀ n j g r, den (score (Qm m c) (Km m c) n j g r) (Sm m c (head j g)) ≠ 0) (r l : Fin 128) (hr : o + r.val < 512) (hl : 128 + l.val < 512) :
    slab1 (a.low m c) (ix2 r l) = whole m c t (ix2 ⟨o + r.val, hr⟩ ⟨128 + l.val, hl⟩) :=
  (lower_pair _ _ (fun g r d => attend (Qm m c) (Km m c) (Vm m c) (Sm m c) (blk t b) 0 ⟨2 + g.val, by omega⟩ r d)
    (fun r d => (head2_apply _ _ _).trans (a.low_apply m c hd 2 r d)) (fun r d => (head3_apply _ _ _).trans (a.low_apply m c hd 3 r d)) r l).trans
    (a.place m c 128 0 2 (by omega) rfl r l hr hl)
theorem At.piece2 (hd : ∀ n j g r, den (score (Qm m c) (Km m c) n j g r) (Sm m c (head j g)) ≠ 0) (r l : Fin 128) (hr : o + r.val < 512) (hl : 256 + l.val < 512) :
    slab2 (a.high m c) (ix2 r l) = whole m c t (ix2 ⟨o + r.val, hr⟩ ⟨256 + l.val, hl⟩) :=
  (upper_pair _ _ (fun g r d => attend (Qm m c) (Km m c) (Vm m c) (Sm m c) (blk t b) 1 ⟨0 + g.val, by omega⟩ r d)
    (fun r d => (head0_apply _ _ _).trans (a.high_apply m c hd 0 r d)) (fun r d => (head1_apply _ _ _).trans (a.high_apply m c hd 1 r d)) r l).trans
    (a.place m c 256 1 0 (by omega) rfl r l hr hl)
theorem At.piece3 (hd : ∀ n j g r, den (score (Qm m c) (Km m c) n j g r) (Sm m c (head j g)) ≠ 0) (r l : Fin 128) (hr : o + r.val < 512) (hl : 384 + l.val < 512) :
    slab3 (a.high m c) (ix2 r l) = whole m c t (ix2 ⟨o + r.val, hr⟩ ⟨384 + l.val, hl⟩) :=
  (upper_pair _ _ (fun g r d => attend (Qm m c) (Km m c) (Vm m c) (Sm m c) (blk t b) 1 ⟨2 + g.val, by omega⟩ r d)
    (fun r d => (head2_apply _ _ _).trans (a.high_apply m c hd 2 r d)) (fun r d => (head3_apply _ _ _).trans (a.high_apply m c hd 3 r d)) r l).trans
    (a.place m c 384 1 2 (by omega) rfl r l hr hl)

end

theorem value6 (c : Dev nD) (t : Fin cfg0.N) (hd : ∀ n j g r, den (score (Qm m c) (Km m c) n j g r) (Sm m c (head j g)) ≠ 0) : outsAt0 m c t = whole m c t := by
  unfold outsAt0 out0_A_6
  frame_open
  simp (disch := decide) only [↓ View.readCov_skip, ↓ View.readCov_cons_toLoadRect, ↓ View.readCov_fill]
  frame_out
  funext y
  refine View.canon_append_of_piecesOf (Val := Elt Ideal) (e := .f32) (whole m c t) [] [_, _, _, _, _, _, _, _, _, _, _, _, _, _, _, _] ⟨?_, ?_, ?_, ?_, ?_, ?_, ?_, ?_, ?_, ?_, ?_, ?_, ?_, ?_, ?_, ?_, trivial⟩ y
    (View.cover_of_tiledL _ ![128, 128] (by sl_kernel_rfl) y)
  · exact piece 384 384 (by decide) ((at3 t).piece3 m c hd)
  · exact piece 384 256 (by decide) ((at3 t).piece2 m c hd)
  · exact piece 384 128 (by decide) ((at3 t).piece1 m c hd)
  · exact piece 384 0 (by decide) ((at3 t).piece0 m c hd)
  · exact piece 256 384 (by decide) ((at2 t).piece3 m c hd)
  · exact piece 256 256 (by decide) ((at2 t).piece2 m c hd)
  · exact piece 256 128 (by decide) ((at2 t).piece1 m c hd)
  · exact piece 256 0 (by decide) ((at2 t).piece0 m c hd)
  · exact piece 128 384 (by decide) ((at1 t).piece3 m c hd)
  · exact piece 128 256 (by decide) ((at1 t).piece2 m c hd)
  · exact piece 128 128 (by decide) ((at1 t).piece1 m c hd)
  · exact piece 128 0 (by decide) ((at1 t).piece0 m c hd)
  · exact piece 0 384 (by decide) ((at0 t).piece3 m c hd)
  · exact piece 0 256 (by decide) ((at0 t).piece2 m c hd)
  · exact piece 0 128 (by decide) ((at0 t).piece1 m c hd)
  · exact piece 0 0 (by decide) ((at0 t).piece0 m c hd)

/-- The attention of a device. -/
def val (c : Dev nD) (i : Fin 8192) (l : Fin 512) : EReal :=
  attend (Qm m c) (Km m c) (Vm m c) (Sm m c) ⟨i.val / 128, by omega⟩ ⟨l.val / 256, by omega⟩ ⟨l.val / 64 % 4, by omega⟩ ⟨i.val % 128, by omega⟩ ⟨l.val % 64, by omega⟩

theorem array (c : Dev nD) (hd : ∀ n j g r, den (score (Qm m c) (Km m c) n j g r) (Sm m c (head j g)) ≠ 0) :
    (dats m 0 c).arrAt 6 cfg0.N = fun i => val m c (i 0) (i 1) := by
  refine (dats m 0 c).arrAt_eq_of_covers 6 _ (by decide +kernel) fun t hf y => ?_
  have hN := points t
  blk_simp
  rw [after0_6, value6 m c t hd]
  idx_vars y
  have e : ((View.whole main_v2).slice (win0_6.rect t)).emb (ix2 y0 y1) = ix2 (⟨t.val * 512 + y0.val, by omega⟩ : Fin 8192) y1 := by
    blk_ext [idx0 t]
  refine Eq.trans ?_ (congrArg (fun i : S8192x512.Idx => val m c (i 0) (i 1)) e.symm)
  show whole m c t (ix2 y0 y1) = val m c ⟨t.val * 512 + y0.val, _⟩ y1
  unfold whole val
  congr 1
  · exact Fin.ext (by show 4 * t.val + y0.val / 128 = (t.val * 512 + y0.val) / 128; omega)
  · exact Fin.ext (by show y0.val % 128 = (t.val * 512 + y0.val) % 128; omega)

/-- The reference's result of a device. -/
theorem result (c : Dev nD) (hq : ∀ i l, ∃ x : ℝ, Qm m c i l = x) (hk : ∀ i l, ∃ x : ℝ, Km m c i l = x) (hs : ∀ h, ∃ x : ℝ, Sm m c h = x) :
    (dats m 0 c).arrAt 6 cfg0.N = Cert.AttnRefIdeal.Read.val_main_v70 (F := Ideal) (m ((c : Thread nD τ).loc main_arg0)) (m ((c : Thread nD τ).loc main_arg1))
      (m ((c : Thread nD τ).loc main_arg2)) (m ((c : Thread nD τ).loc main_arg3)) := by
  have hd : ∀ n j g r, den (score (Qm m c) (Km m c) n j g r) (Sm m c (head j g)) ≠ 0 := fun n j g r => den_ne _ _ _ hq hk (hs _) n j g r
  rw [array m c hd]
  funext y
  idx_vars y
  exact (reference_apply _ _ _ _ hd y0 y1).symm

end Cert.AttnIdeal.Result

end
-- ==== Proof.SwaGrad.lean ====
/- The gradient of the attention, as a formula over the extended reals, and a block of it as the kernel computes it: the weights again, the
   products of the values with the gradient, and from these the gradients of the scores, queries, keys, values and sinks. -/
module

public import proofs.«01_k».proof.Proof.Gen.DAttnIdeal.Frame
public import proofs.«01_k».proof.Proof.SwaTile

@[expose] public section

set_option maxRecDepth 16384

noncomputable section

namespace Cert.Swa

open Cert.DAttnIdeal Cert.DAttnIdeal.Gen Idealize.ShloMosaic Idealize.ShloMosaic.TcCoe Idealize.SL.Sem

/-- The queries, keys, values and sinks, and the gradient of the attention. -/
structure Args where
  q : Fin 8192 → Fin 512 → EReal
  k : Fin 8192 → Fin 128 → EReal
  v : Fin 8192 → Fin 128 → EReal
  s : Fin 8 → EReal
  d : Fin 8192 → Fin 512 → EReal

namespace Args

variable (A : Args)

/-- The scores, the weight of a key, the weight of the sink. -/
def sc (n : Fin 64) (j : Fin 2) (g : Fin 4) (r : Fin 128) : Fin 256 → EReal := score A.q A.k n j g r
def pr (n : Fin 64) (j : Fin 2) (g : Fin 4) (r : Fin 128) (kk : Fin 256) : EReal := prob (A.sc n j g r) (A.s (head j g)) kk
def ps (n : Fin 64) (j : Fin 2) (g : Fin 4) (r : Fin 128) : EReal :=
  Ideal.div (Ideal.exp (A.s (head j g) - top (A.sc n j g r) (A.s (head j g)))) (den (A.sc n j g r) (A.s (head j g)))
/-- The gradient of a weight, and the mean of it over the weights. -/
def gp (n : Fin 64) (j : Fin 2) (g : Fin 4) (r : Fin 128) (kk : Fin 256) : EReal :=
  ∑ d : Fin 64, A.v (key n kk) (lane j d) * A.d (row n r) (qlane j g d)
def pd (n : Fin 64) (j : Fin 2) (g : Fin 4) (r : Fin 128) : EReal := ∑ kk, A.pr n j g r kk * A.gp n j g r kk
/-- The gradient of a score. -/
def gs (n : Fin 64) (j : Fin 2) (g : Fin 4) (r : Fin 128) (kk : Fin 256) : EReal :=
  A.pr n j g r kk * (A.gp n j g r kk - A.pd n j g r) * ((1 / 8 : ℝ) : EReal)
/-- The gradients of a query, of a key and a value in the window of block `n`, and (but for the sign) of a sink from block `n`. -/
def gq (n : Fin 64) (j : Fin 2) (g : Fin 4) (r : Fin 128) (d : Fin 64) : EReal := ∑ kk, A.gs n j g r kk * A.k (key n kk) (lane j d)
def gk (n : Fin 64) (kk : Fin 256) (j : Fin 2) (d : Fin 64) : EReal := ∑ g, ∑ r, A.gs n j g r kk * A.q (row n r) (qlane j g d)
def gv (n : Fin 64) (kk : Fin 256) (j : Fin 2) (d : Fin 64) : EReal := ∑ g, ∑ r, A.pr n j g r kk * A.d (row n r) (qlane j g d)
def gt (n : Fin 64) (j : Fin 2) (g : Fin 4) : EReal := ∑ r, A.ps n j g r * A.pd n j g r

end Args

section Tile

variable {F : FTy → Type} [FloatOps F] [Named F]

def inv (s : FVec F S256x512 .f32) (k : FVec F S1x512 .f32) : FVec F S1x512 .f32 := divf (broadcast S1x512 (Scalar.ofBits .f32 0x3F800000#32)) (dens s k)
/-- The sinks' weights. -/
def sinkp (s : FVec F S256x512 .f32) (k : FVec F S1x512 .f32) : FVec F S1x512 .f32 := mulf (exp (subf k (tops s k))) (inv s k)
/-- The gradients of the weights, and their means. -/
def dps (V : FVec F S256x128 .f32) (d : FVec F S512x128 .f32) : FVec F S256x512 .f32 :=
  matmul dot_S256x128_S512x128_S256x512_1_1_0_0_n_n none (truncf .bf16 V bitsLt_bf16_f32) (truncf .bf16 d bitsLt_bf16_f32) (constant S256x512 .f32 0x00000000#32)
def dds (p dp : FVec F S256x512 .f32) : FVec F S1x512 .f32 :=
  shapeCast S1x512 (multiReduction .add [0] S512 (mulf p dp) 0x00000000#32 reduces_S256x512_S512 (.inl rfl) rfl) shapeCasts_S512_S1x512
/-- The gradients of the scores. -/
def dss (p dp : FVec F S256x512 .f32) : FVec F S256x512 .f32 :=
  mulf (mulf p (subf dp (broadcastTo S256x512 (dds p dp) broadcasts_S1x512_S256x512))) (broadcast S256x512 (Scalar.ofBits .f32 0x3E000000#32))
/-- The gradients of the queries, one head above the other. -/
def dqs (p : FVec F S256x512 .f32) (K : FVec F S256x128 .bf16) : FVec F S512x128 .f32 :=
  matmul dot_S256x512_S256x128_S512x128_0_0_1_1_n_n none (truncf .bf16 p bitsLt_bf16_f32) K (constant S512x128 .f32 0x00000000#32)
/-- The gradients of the keys or values. -/
def dks (p : FVec F S256x512 .f32) (q : FVec F S512x128 .f32) : FVec F S256x128 .f32 :=
  matmul dot_S256x512_S512x128_S256x128_1_0_0_1_n_n none (truncf .bf16 p bitsLt_bf16_f32) (truncf .bf16 q bitsLt_bf16_f32) (constant S256x128 .f32 0x00000000#32)
def prior (x : FVec F S256x128 .f32) : FVec F S128x128 .f32 := extractStridedSlice S128x128 ![0, 0] x slices_S256x128_o0_0_S128x128
def own (x : FVec F S256x128 .f32) : FVec F S128x128 .f32 := extractStridedSlice S128x128 ![128, 0] x slices_S256x128_o128_0_S128x128

/-- The sums over the rows of a head, and their place among the sinks. -/
def tot0 (x : FVec F S1x512 .f32) : FVec F S1x1 .f32 :=
  shapeCast S1x1 (shapeCast S1x1 (multiReduction .add [1] S1 (extractStridedSlice S1x128 ![0, 0] x slices_S1x512_o0_0_S1x128) 0x00000000#32 reduces_S1x128_S1 (.inl rfl) rfl) shapeCasts_S1_S1x1) shapeCasts_S1x1_S1x1
def tot1 (x : FVec F S1x512 .f32) : FVec F S1x1 .f32 :=
  shapeCast S1x1 (shapeCast S1x1 (multiReduction .add [1] S1 (extractStridedSlice S1x128 ![0, 128] x slices_S1x512_o0_128_S1x128) 0x00000000#32 reduces_S1x128_S1 (.inl rfl) rfl) shapeCasts_S1_S1x1) shapeCasts_S1x1_S1x1
def tot2 (x : FVec F S1x512 .f32) : FVec F S1x1 .f32 :=
  shapeCast S1x1 (shapeCast S1x1 (multiReduction .add [1] S1 (extractStridedSlice S1x128 ![0, 256] x slices_S1x512_o0_256_S1x128) 0x00000000#32 reduces_S1x128_S1 (.inl rfl) rfl) shapeCasts_S1_S1x1) shapeCasts_S1x1_S1x1
def tot3 (x : FVec F S1x512 .f32) : FVec F S1x1 .f32 :=
  shapeCast S1x1 (shapeCast S1x1 (multiReduction .add [1] S1 (extractStridedSlice S1x128 ![0, 384] x slices_S1x512_o0_384_S1x128) 0x00000000#32 reduces_S1x128_S1 (.inl rfl) rfl) shapeCasts_S1_S1x1) shapeCasts_S1x1_S1x1
def less (h : BitVec 32) (t : FVec F S1x1 .f32) (a : FVec F S1x128 .f32) : FVec F S1x128 .f32 :=
  subf a (select (cmpi .eq (iota .tc S1x128 32 [1] iota_S1x128_d1_w32) (broadcast S1x128 h)) (broadcastTo S1x128 t broadcasts_S1x1_S1x128)
    (broadcast S1x128 (Scalar.ofBits .f32 0x00000000#32)))
def lower4 (x : FVec F S1x512 .f32) (a : FVec F S1x128 .f32) : FVec F S1x128 .f32 :=
  less 3#32 (tot3 x) (less 2#32 (tot2 x) (less 1#32 (tot1 x) (less 0#32 (tot0 x) a)))
def upper4 (x : FVec F S1x512 .f32) (a : FVec F S1x128 .f32) : FVec F S1x128 .f32 :=
  less 7#32 (tot3 x) (less 6#32 (tot2 x) (less 5#32 (tot1 x) (less 4#32 (tot0 x) a)))

end Tile

theorem sinkp_apply (s : FVec Ideal S256x512 .f32) (k : FVec Ideal S1x512 .f32) (i : Fin 512) (hd : den (fun kk => s (ix2 kk i)) (k (ix2 0 i)) ≠ 0) :
    sinkp s k (ix2 0 i) = Ideal.div (Ideal.exp (k (ix2 0 i) - top (fun kk => s (ix2 kk i)) (k (ix2 0 i)))) (den (fun kk => s (ix2 kk i)) (k (ix2 0 i))) := by
  unfold sinkp inv
  pointwise
  rw [dens_apply, tops_apply, Ideal.div, if_neg hd, Ideal.div, if_neg hd, one_mul]
theorem dps_apply (V : FVec Ideal S256x128 .f32) (d : FVec Ideal S512x128 .f32) (kk : Fin 256) (i : Fin 512) :
    dps V d (ix2 kk i) = ∑ l : Fin 128, @HMul.hMul EReal EReal EReal _ (V (ix2 kk l)) (d (ix2 i l)) := by
  unfold dps
  pointwise
theorem dds_apply (p dp : FVec Ideal S256x512 .f32) (i : Fin 512) :
    dds p dp (ix2 0 i) = ∑ kk : Fin 256, @HMul.hMul EReal EReal EReal _ (p (ix2 kk i)) (dp (ix2 kk i)) := by
  unfold dds
  pointwise
theorem dss_apply (p dp : FVec Ideal S256x512 .f32) (kk : Fin 256) (i : Fin 512) :
    dss p dp (ix2 kk i) = @HMul.hMul EReal EReal EReal _ (@HMul.hMul EReal EReal EReal _ (p (ix2 kk i)) (@HSub.hSub EReal EReal EReal _ (dp (ix2 kk i)) (dds p dp (ix2 0 i)))) ((1 / 8 : ℝ) : EReal) := by
  unfold dss
  pointwise
  rw [eighth]
theorem dqs_apply (p : FVec Ideal S256x512 .f32) (K : FVec Ideal S256x128 .bf16) (i : Fin 512) (l : Fin 128) :
    dqs p K (ix2 i l) = ∑ kk : Fin 256, @HMul.hMul EReal EReal EReal _ (p (ix2 kk i)) (K (ix2 kk l)) := by
  unfold dqs
  pointwise
theorem dks_apply (p : FVec Ideal S256x512 .f32) (q : FVec Ideal S512x128 .f32) (kk : Fin 256) (l : Fin 128) :
    dks p q (ix2 kk l) = ∑ i : Fin 512, @HMul.hMul EReal EReal EReal _ (p (ix2 kk i)) (q (ix2 i l)) := by
  unfold dks
  pointwise

/-- A sum over the rows of four heads. -/
theorem sum_rows (f : Fin 512 → EReal) : ∑ i, f i = ∑ g : Fin 4, ∑ r : Fin 128, f (hrow g r) := by
  rw [← Fintype.sum_prod_type', ← Equiv.sum_comp (finProdFinEquiv : Fin 4 × Fin 128 ≃ Fin 512)]
  refine Finset.sum_congr rfl fun p _ => congrArg f (Fin.ext ?_)
  simp [hrow, finProdFinEquiv]
  omega

section Heads

variable (A : Args) (n : Fin 64) (j : Fin 2)
    (v : IVec S256x512 1) (hv : ∀ kk i, v (ix2 kk i) = BitVec.ofBool (decide (Seen n.val (i.val % 128) kk.val)))
    (Kb : FVec Ideal S256x128 .bf16) (hK : ∀ (kk : Fin 256) l, (0 < n.val ∨ 128 ≤ kk.val) → Kb (ix2 kk l) = A.k (key n kk) l)
    (Vb : FVec Ideal S256x128 .f32) (hV : ∀ (kk : Fin 256) l, (0 < n.val ∨ 128 ≤ kk.val) → Vb (ix2 kk l) = A.v (key n kk) l)
    (q : FVec Ideal S512x128 .f32) (hq0 : ∀ (g : Fin 4) (r l : Fin 128), l.val / 64 ≠ j.val → q (ix2 (hrow g r) l) = 0)
    (hq : ∀ (g : Fin 4) (r : Fin 128) d, q (ix2 (hrow g r) (lane j d)) = A.q (row n r) (qlane j g d))
    (o : FVec Ideal S512x128 .f32) (ho0 : ∀ (g : Fin 4) (r l : Fin 128), l.val / 64 ≠ j.val → o (ix2 (hrow g r) l) = 0)
    (ho : ∀ (g : Fin 4) (r : Fin 128) d, o (ix2 (hrow g r) (lane j d)) = A.d (row n r) (qlane j g d))
    (s : FVec Ideal S1x512 .f32) (hs : ∀ (g : Fin 4) (r : Fin 128), s (ix2 0 (hrow g r)) = A.s (head j g))
    (hd : ∀ g r, den (A.sc n j g r) (A.s (head j g)) ≠ 0)

include hv hK hq0 hq in
theorem scores_eq (g : Fin 4) (r : Fin 128) : (fun kk => scores v Kb q (ix2 kk (hrow g r))) = A.sc n j g r := by
  have er : (hrow g r).val % 128 = r.val := by show (g.val * 128 + r.val) % 128 = r.val; omega
  funext kk
  rw [scores_apply, hv, er]
  unfold Args.sc score
  by_cases h : Seen n.val r.val kk.val
  · rw [if_pos h, decide_eq_true h, sum_lane j _ fun l hl => by rw [hq0 g r l hl]; exact mul_zero (M₀ := EReal) _]
    simp only [hK kk _ h.2.2, hq]
    rfl
  · rw [if_neg h, decide_eq_false h]
    rfl

include hv hK hq0 hq hs hd in
theorem pr_eq (g : Fin 4) (r : Fin 128) (kk : Fin 256) : probs (scores v Kb q) s (ix2 kk (hrow g r)) = A.pr n j g r kk := by
  have e := scores_eq A n j v hv Kb hK q hq0 hq g r
  rw [probs_apply _ _ _ _ (by rw [e, hs]; exact hd g r), e, hs]
  rfl

include hv hK hq0 hq hs hd in
theorem ps_eq (g : Fin 4) (r : Fin 128) : sinkp (scores v Kb q) s (ix2 0 (hrow g r)) = A.ps n j g r := by
  have e := scores_eq A n j v hv Kb hK q hq0 hq g r
  rw [sinkp_apply _ _ _ (by rw [e, hs]; exact hd g r), e, hs]
  rfl

/-- A key that is not seen has weight zero. -/
theorem pr_zero (g : Fin 4) (r : Fin 128) (hd : den (A.sc n j g r) (A.s (head j g)) ≠ 0) (kk : Fin 256) (h : ¬ Seen n.val r.val kk.val) : A.pr n j g r kk = 0 :=
  prob_bot _ _ kk (if_neg h) hd

include hV ho0 ho in
theorem gp_eq (g : Fin 4) (r : Fin 128) (kk : Fin 256) (h : 0 < n.val ∨ 128 ≤ kk.val) : dps Vb o (ix2 kk (hrow g r)) = A.gp n j g r kk := by
  rw [dps_apply, sum_lane j _ fun l hl => by rw [ho0 g r l hl]; exact mul_zero (M₀ := EReal) _]
  unfold Args.gp
  simp only [hV kk _ h, ho]

include hv hK hV hq0 hq ho0 ho hs hd in
theorem pd_eq (g : Fin 4) (r : Fin 128) : dds (probs (scores v Kb q) s) (dps Vb o) (ix2 0 (hrow g r)) = A.pd n j g r := by
  rw [dds_apply]
  unfold Args.pd
  refine Finset.sum_congr rfl fun kk _ => ?_
  rw [pr_eq A n j v hv Kb hK q hq0 hq s hs hd g r kk]
  by_cases h : Seen n.val r.val kk.val
  · rw [gp_eq A n j Vb hV o ho0 ho g r kk h.2.2]
  · rw [pr_zero A n j g r (hd g r) kk h]
    exact (zero_mul (M₀ := EReal) _).trans (zero_mul (M₀ := EReal) _).symm

include hv hK hV hq0 hq ho0 ho hs hd in
theorem gs_eq (g : Fin 4) (r : Fin 128) (kk : Fin 256) : dss (probs (scores v Kb q) s) (dps Vb o) (ix2 kk (hrow g r)) = A.gs n j g r kk := by
  rw [dss_apply, pr_eq A n j v hv Kb hK q hq0 hq s hs hd g r kk, pd_eq A n j v hv Kb hK Vb hV q hq0 hq o ho0 ho s hs hd g r]
  unfold Args.gs
  by_cases h : Seen n.val r.val kk.val
  · rw [gp_eq A n j Vb hV o ho0 ho g r kk h.2.2]
  · rw [pr_zero A n j g r (hd g r) kk h]
    exact congrArg (fun x : EReal => x * _) ((zero_mul (M₀ := EReal) _).trans (zero_mul (M₀ := EReal) _).symm)

theorem gs_zero (g : Fin 4) (r : Fin 128) (hd : den (A.sc n j g r) (A.s (head j g)) ≠ 0) (kk : Fin 256) (h : ¬ Seen n.val r.val kk.val) : A.gs n j g r kk = 0 := by
  unfold Args.gs
  rw [pr_zero A n j g r hd kk h, zero_mul, zero_mul]

include hv hK hV hq0 hq ho0 ho hs hd in
theorem gq_eq (g : Fin 4) (r : Fin 128) (d : Fin 64) : dqs (dss (probs (scores v Kb q) s) (dps Vb o)) Kb (ix2 (hrow g r) (lane j d)) = A.gq n j g r d := by
  rw [dqs_apply]
  unfold Args.gq
  refine Finset.sum_congr rfl fun kk _ => ?_
  rw [gs_eq A n j v hv Kb hK Vb hV q hq0 hq o ho0 ho s hs hd g r kk]
  by_cases h : Seen n.val r.val kk.val
  · rw [hK kk _ h.2.2]
  · rw [gs_zero A n j g r (hd g r) kk h]
    exact (zero_mul (M₀ := EReal) _).trans (zero_mul (M₀ := EReal) _).symm

include hv hK hV hq0 hq ho0 ho hs hd in
theorem gk_eq (kk : Fin 256) (d : Fin 64) : dks (dss (probs (scores v Kb q) s) (dps Vb o)) q (ix2 kk (lane j d)) = A.gk n kk j d := by
  rw [dks_apply, sum_rows]
  unfold Args.gk
  refine Finset.sum_congr rfl fun g _ => Finset.sum_congr rfl fun r _ => ?_
  rw [gs_eq A n j v hv Kb hK Vb hV q hq0 hq o ho0 ho s hs hd g r kk, hq]

include hv hK hq0 hq ho hs hd in
theorem gv_eq (kk : Fin 256) (d : Fin 64) : dks (probs (scores v Kb q) s) o (ix2 kk (lane j d)) = A.gv n kk j d := by
  rw [dks_apply, sum_rows]
  unfold Args.gv
  refine Finset.sum_congr rfl fun g _ => Finset.sum_congr rfl fun r _ => ?_
  rw [pr_eq A n j v hv Kb hK q hq0 hq s hs hd g r kk, ho]

/-- Elsewhere the gradients of the keys and values are zero. -/
theorem dks_zero (p : FVec Ideal S256x512 .f32) (x : FVec Ideal S512x128 .f32) (hx : ∀ (g : Fin 4) (r l : Fin 128), l.val / 64 ≠ j.val → x (ix2 (hrow g r) l) = 0)
    (kk : Fin 256) (l : Fin 128) (hl : l.val / 64 ≠ j.val) : dks p x (ix2 kk l) = 0 := by
  rw [dks_apply, sum_rows]
  exact Finset.sum_eq_zero fun g _ => Finset.sum_eq_zero fun r _ => by rw [hx g r l hl]; exact mul_zero (M₀ := EReal) _

include hv hK hV hq0 hq ho0 ho hs hd in
theorem gt_eq (g : Fin 4) (r : Fin 128) : mulf (sinkp (scores v Kb q) s) (dds (probs (scores v Kb q) s) (dps Vb o)) (ix2 0 (hrow g r)) = A.ps n j g r * A.pd n j g r := by
  rw [← ps_eq A n j v hv Kb hK q hq0 hq s hs hd g r, ← pd_eq A n j v hv Kb hK Vb hV q hq0 hq o ho0 ho s hs hd g r]
  rfl

end Heads

theorem prior_apply (x : FVec Ideal S256x128 .f32) (i l : Fin 128) : prior x (ix2 i l) = x (ix2 ⟨i.val, by omega⟩ l) := by
  unfold prior
  pointwise
theorem own_apply (x : FVec Ideal S256x128 .f32) (i l : Fin 128) : own x (ix2 i l) = x (ix2 ⟨128 + i.val, by omega⟩ l) := by
  unfold own
  pointwise

theorem tot0_apply (x : FVec Ideal S1x512 .f32) : tot0 x (ix2 0 0) = ∑ r : Fin 128, @id EReal (x (ix2 0 (hrow 0 r))) := by
  unfold tot0
  pointwise
  exact Finset.sum_congr rfl fun r _ => congrArg (fun i => x (ix2 0 i)) (Fin.ext (by simp [hrow]))
theorem tot1_apply (x : FVec Ideal S1x512 .f32) : tot1 x (ix2 0 0) = ∑ r : Fin 128, @id EReal (x (ix2 0 (hrow 1 r))) := by
  unfold tot1
  pointwise
  exact Finset.sum_congr rfl fun r _ => congrArg (fun i => x (ix2 0 i)) (Fin.ext (by simp [hrow]))
theorem tot2_apply (x : FVec Ideal S1x512 .f32) : tot2 x (ix2 0 0) = ∑ r : Fin 128, @id EReal (x (ix2 0 (hrow 2 r))) := by
  unfold tot2
  pointwise
  exact Finset.sum_congr rfl fun r _ => congrArg (fun i => x (ix2 0 i)) (Fin.ext (by simp [hrow]))
theorem tot3_apply (x : FVec Ideal S1x512 .f32) : tot3 x (ix2 0 0) = ∑ r : Fin 128, @id EReal (x (ix2 0 (hrow 3 r))) := by
  unfold tot3
  pointwise
  exact Finset.sum_congr rfl fun r _ => congrArg (fun i => x (ix2 0 i)) (Fin.ext (by simp [hrow]))

theorem lane_eq : ∀ (h : Fin 8) (l : Fin 128), IntOp.cmpi .eq (BitVec.ofNat 32 l.val) (BitVec.ofNat 32 h.val) = BitVec.ofBool (decide (l.val = h.val)) := by
  decide +kernel

theorem less_apply (h : Fin 8) (t : FVec Ideal S1x1 .f32) (a : FVec Ideal S1x128 .f32) (l : Fin 128) :
    less (BitVec.ofNat 32 h.val) t a (ix2 0 l) = @HSub.hSub EReal EReal EReal _ (a (ix2 0 l)) (if l.val = h.val then @id EReal (t (ix2 0 0)) else 0) := by
  unfold less
  pointwise
  rw [lane_eq]
  by_cases e : l.val = h.val
  · rw [if_pos e, decide_eq_true e]; rfl
  · rw [if_neg e, decide_eq_false e]; rfl

/-- The sinks' gradients of four heads. -/
theorem lower4_apply (x : FVec Ideal S1x512 .f32) (a : FVec Ideal S1x128 .f32) (l : Fin 128) :
    lower4 x a (ix2 0 l) = @HSub.hSub EReal EReal EReal _ (a (ix2 0 l)) (if h : l.val < 4 then ∑ r : Fin 128, @id EReal (x (ix2 0 (hrow ⟨l.val, h⟩ r))) else 0) := by
  unfold lower4
  refine (less_apply 3 _ _ l).trans ?_
  refine (congrArg (fun y : EReal => y - _) (less_apply 2 _ _ l)).trans ?_
  refine (congrArg (fun y : EReal => y - _ - _) (less_apply 1 _ _ l)).trans ?_
  refine (congrArg (fun y : EReal => y - _ - _ - _) (less_apply 0 _ _ l)).trans ?_
  rw [tot0_apply, tot1_apply, tot2_apply, tot3_apply]
  by_cases h : l.val < 4
  · rw [dif_pos h]
    obtain ⟨l, hl⟩ := l
    dsimp only at h ⊢
    interval_cases l <;> simp
  · rw [dif_neg h, if_neg (by show ¬ l.val = 0; omega), if_neg (by show ¬ l.val = 1; omega), if_neg (by show ¬ l.val = 2; omega), if_neg (by show ¬ l.val = 3; omega)]
    simp only [sub_zero]
theorem upper4_apply (x : FVec Ideal S1x512 .f32) (a : FVec Ideal S1x128 .f32) (l : Fin 128) :
    upper4 x a (ix2 0 l) = @HSub.hSub EReal EReal EReal _ (a (ix2 0 l)) (if h : 4 ≤ l.val ∧ l.val < 8 then ∑ r : Fin 128, @id EReal (x (ix2 0 (hrow ⟨l.val - 4, by omega⟩ r))) else 0) := by
  unfold upper4
  refine (less_apply 7 _ _ l).trans ?_
  refine (congrArg (fun y : EReal => y - _) (less_apply 6 _ _ l)).trans ?_
  refine (congrArg (fun y : EReal => y - _ - _) (less_apply 5 _ _ l)).trans ?_
  refine (congrArg (fun y : EReal => y - _ - _ - _) (less_apply 4 _ _ l)).trans ?_
  rw [tot0_apply, tot1_apply, tot2_apply, tot3_apply]
  by_cases h : 4 ≤ l.val ∧ l.val < 8
  · rw [dif_pos h]
    obtain ⟨l, hl⟩ := l
    dsimp only at h ⊢
    obtain ⟨h1, h2⟩ := h
    interval_cases l <;> simp
  · rw [dif_neg h, if_neg (by show ¬ l.val = 4; omega), if_neg (by show ¬ l.val = 5; omega), if_neg (by show ¬ l.val = 6; omega), if_neg (by show ¬ l.val = 7; omega)]
    simp only [sub_zero]

end Cert.Swa

end
-- ==== Proof.SwaReal.lean ====
/- The gradient of the attention where the arguments are real numbers: the weights of a query are real numbers too. -/
module

public import proofs.«01_k».proof.Proof.SwaGrad
public import proofs.«01_k».proof.Proof.Real

@[expose] public section

set_option maxRecDepth 16384

noncomputable section

namespace Cert.Swa

open Idealize.ShloMosaic

theorem div_coe (x y : ℝ) (h : y ≠ 0) : Ideal.div (x : EReal) (y : EReal) = ((x / y : ℝ) : EReal) := by
  rw [Ideal.div, if_neg (by exact_mod_cast h), ← EReal.coe_inv, ← EReal.coe_mul, div_eq_mul_inv]

/-- The arguments are real numbers. -/
structure Args.Reals (A : Args) : Prop where
  q : ∀ i l, ∃ x : ℝ, A.q i l = x
  k : ∀ i l, ∃ x : ℝ, A.k i l = x
  v : ∀ i l, ∃ x : ℝ, A.v i l = x
  s : ∀ h, ∃ x : ℝ, A.s h = x
  d : ∀ i l, ∃ x : ℝ, A.d i l = x

/-- The weights of a query before they are normalised, that of the sink, and the gradients of the weights. -/
structure Row (A : Args) (n : Fin 64) (j : Fin 2) (g : Fin 4) (r : Fin 128) (w : Fin 256 → ℝ) (σ : ℝ) (γ : Fin 256 → ℝ) : Prop where
  wt : ∀ kk, wt (A.sc n j g r) (A.s (head j g)) kk = (w kk : EReal)
  sink : Ideal.exp (A.s (head j g) - top (A.sc n j g r) (A.s (head j g))) = (σ : EReal)
  gp : ∀ kk, A.gp n j g r kk = (γ kk : EReal)
  pos : (∑ kk, w kk) + σ ≠ 0
  zero : ∀ kk, ¬ Seen n.val r.val kk.val → w kk = 0

theorem Args.Reals.row {A : Args} (H : A.Reals) (n : Fin 64) (j : Fin 2) (g : Fin 4) (r : Fin 128) : ∃ w σ γ, Row A n j g r w σ γ := by
  choose q hq using H.q
  choose k hk using H.k
  choose v hv using H.v
  choose d hd using H.d
  obtain ⟨s, hs⟩ := H.s (head j g)
  have hsc : ∀ kk, A.sc n j g r kk = ⊥ ∨ ∃ x : ℝ, A.sc n j g r kk = x := by
    intro kk
    unfold Args.sc score
    split
    · refine .inr ⟨(∑ d : Fin 64, k (key n kk) (lane j d) * q (Swa.row n r) (qlane j g d)) * (1 / 8), ?_⟩
      simp only [hq, hk, ← EReal.coe_mul, Cert.Gmlp.coe_sum]
    · exact .inl rfl
  have ht : top (A.sc n j g r) s < ⊤ := by
    refine max_lt ((Finset.fold_max_lt _).2 ⟨bot_lt_top, fun kk _ => ?_⟩) (EReal.coe_lt_top s)
    rcases hsc kk with h | ⟨x, h⟩
    · rw [h]; exact bot_lt_top
    · rw [h]; exact EReal.coe_lt_top x
  have hb : ⊥ < top (A.sc n j g r) s := lt_of_lt_of_le (EReal.bot_lt_coe s) (le_max_right _ _)
  obtain ⟨t, e⟩ : ∃ t : ℝ, top (A.sc n j g r) s = t := ⟨_, (EReal.coe_toReal ht.ne hb.ne').symm⟩
  have hw : ∀ kk, ∃ x : ℝ, 0 ≤ x ∧ wt (A.sc n j g r) s kk = x := by
    intro kk
    unfold wt
    rw [e]
    rcases hsc kk with h | ⟨x, h⟩
    · rw [h, EReal.bot_sub, Ideal.exp_bot]
      exact ⟨0, le_rfl, rfl⟩
    · rw [h, ← EReal.coe_sub]
      exact ⟨_, (Real.exp_pos _).le, rfl⟩
  choose w h0 hw using hw
  refine ⟨w, Real.exp (s - t), fun kk => ∑ e : Fin 64, v (key n kk) (lane j e) * d (Swa.row n r) (qlane j g e), ?_, ?_, ?_, ?_, ?_⟩
  · rw [hs]; exact hw
  · rw [hs, e, ← EReal.coe_sub]; rfl
  · intro kk
    unfold Args.gp
    simp only [hv, hd, ← EReal.coe_mul, Cert.Gmlp.coe_sum]
  · have h1 := Finset.sum_nonneg (s := Finset.univ) fun kk _ => h0 kk
    have h2 := Real.exp_pos (s - t)
    exact (by linarith : 0 < (∑ kk, w kk) + Real.exp (s - t)).ne'
  · intro kk h
    have h1 := hw kk
    have h2 : A.sc n j g r kk = ⊥ := if_neg h
    unfold wt at h1
    rw [h2, EReal.bot_sub, Ideal.exp_bot] at h1
    exact_mod_cast h1.symm

namespace Row

variable {A : Args} {n : Fin 64} {j : Fin 2} {g : Fin 4} {r : Fin 128} {w : Fin 256 → ℝ} {σ : ℝ} {γ : Fin 256 → ℝ} (R : Row A n j g r w σ γ)

include R

theorem den : Swa.den (A.sc n j g r) (A.s (head j g)) = (((∑ kk, w kk) + σ : ℝ) : EReal) := by
  unfold Swa.den
  rw [R.sink, EReal.coe_add, ← Cert.Gmlp.coe_sum]
  simp only [R.wt]

theorem den_ne : Swa.den (A.sc n j g r) (A.s (head j g)) ≠ 0 := by
  rw [R.den]
  exact_mod_cast R.pos

theorem pr (kk : Fin 256) : A.pr n j g r kk = ((w kk / ((∑ kk, w kk) + σ) : ℝ) : EReal) := by
  unfold Args.pr prob
  rw [R.den, R.wt, div_coe _ _ R.pos]
theorem ps : A.ps n j g r = ((σ / ((∑ kk, w kk) + σ) : ℝ) : EReal) := by
  unfold Args.ps
  rw [R.den, R.sink, div_coe _ _ R.pos]
theorem pd : A.pd n j g r = ((∑ kk, w kk / ((∑ kk, w kk) + σ) * γ kk : ℝ) : EReal) := by
  unfold Args.pd
  simp only [R.pr, R.gp, ← EReal.coe_mul, Cert.Gmlp.coe_sum]
theorem gs (kk : Fin 256) : A.gs n j g r kk =
    ((w kk / ((∑ kk, w kk) + σ) * (γ kk - ∑ kk, w kk / ((∑ kk, w kk) + σ) * γ kk) * (1 / 8) : ℝ) : EReal) := by
  unfold Args.gs
  rw [R.pr, R.gp, R.pd, ← EReal.coe_sub, ← EReal.coe_mul, ← EReal.coe_mul]
theorem psd : A.ps n j g r * A.pd n j g r = ((σ / ((∑ kk, w kk) + σ) * ∑ kk, w kk / ((∑ kk, w kk) + σ) * γ kk : ℝ) : EReal) := by
  rw [R.ps, R.pd, ← EReal.coe_mul]

end Row

/-- The derivative by the quotient rule: its parts for the scores and for the sink, and what is left for the greatest of them. -/
theorem quotient (w γ : Fin 256 → ℝ) (σ : ℝ) (h : (∑ kk, w kk) + σ ≠ 0) :
    -(∑ kk, γ kk * (1 / (((∑ kk, w kk) + σ) * ((∑ kk, w kk) + σ))) * w kk) = -((∑ kk, w kk / ((∑ kk, w kk) + σ) * γ kk) / ((∑ kk, w kk) + σ)) := by
  rw [Finset.sum_div]
  refine congrArg _ (Finset.sum_congr rfl fun kk _ => ?_)
  field_simp

theorem balance (w γ : Fin 256 → ℝ) (σ c : ℝ) (h : (∑ kk, w kk) + σ ≠ 0) (hc : c = -((∑ kk, w kk / ((∑ kk, w kk) + σ) * γ kk) / ((∑ kk, w kk) + σ))) :
    -(c * σ) + ∑ kk, -((γ kk / ((∑ kk, w kk) + σ) + c) * w kk) = 0 := by
  have e : ∑ kk, -((γ kk / ((∑ kk, w kk) + σ) + c) * w kk) = -(∑ kk, w kk / ((∑ kk, w kk) + σ) * γ kk) - c * ∑ kk, w kk := by
    rw [Finset.mul_sum, ← Finset.sum_neg_distrib, ← Finset.sum_sub_distrib]
    refine Finset.sum_congr rfl fun kk _ => ?_
    ring
  rw [e]
  have e2 : (∑ kk, w kk / ((∑ kk, w kk) + σ) * γ kk) = -c * ((∑ kk, w kk) + σ) := by
    rw [hc]
    field_simp
  rw [e2]
  ring

end Cert.Swa

end
-- ==== Proof.DAttnRef.lean ====
/- The reference's gradient of the attention, at an entry of each of its results, where the arguments are real numbers. -/
module

public import proofs.«01_k».proof.Proof.Gen.DAttnRefIdeal.Read
public import proofs.«01_k».proof.Proof.SwaReal
public import proofs.«01_k».proof.Proof.AttnRef
public import proofs.«01_k».proof.Proof.Products
public import proofs.«01_k».proof.Proof.Consts
public import Idealize.ShloMosaic.Lib.Pipeline.ValueKit
public import Idealize.ShloMosaic.Lib.Pointwise

@[expose] public section
set_option maxRecDepth 16384
noncomputable section
namespace Cert.DAttnIdeal.Result
open Cert.DAttnRefIdeal Cert.DAttnRefIdeal.Read Idealize.ShloMosaic Idealize.ShloMosaic.TcCoe Idealize.SL.Sem Cert.Swa
open Cert.AttnIdeal.Result (before first second)

variable (x0 : Vec Ideal S8192x512 .f32) (x1 : Vec Ideal S8192x128 .f32) (x2 : Vec Ideal S8192x1536 .f32) (x3 : Vec Ideal S8 .f32) (x4 : Vec Ideal S8192x512 .f32)

theorem nought : Ideal.ofBits .f32 0x00000000#32 = (0 : EReal) := Cert.Consts.zero.trans EReal.coe_zero

/-- The arguments as the attention takes them. -/
def entries : Args where
  q i l := x0 (ix2 i l)
  k i l := x1 (ix2 i l)
  v i l := x2 (ix2 i (vlane l))
  s h := x3 (ix1 h)
  d i l := x4 (ix2 i l)

theorem q_apply (n : Fin 64) (r : Fin 128) (j : Fin 2) (g : Fin 4) (d : Fin 64) : val_main_v0 (F := Ideal) x0 (ix5 n r j g d) = x0 (ix2 (row n r) (qlane j g d)) := by
  unfold val_main_v0
  pointwise
  exact congrArg (fun i => x0 (ix2 _ i)) (Fin.ext (by show _ = (j.val * 4 + g.val) * 64 + d.val; dsimp only; omega))
theorem k_apply (n : Fin 64) (kk : Fin 256) (j : Fin 2) (d : Fin 64) (h : 0 < n.val ∨ 128 ≤ kk.val) :
    val_main_v7 (F := Ideal) x1 (ix4 n kk j d) = x1 (ix2 (key n kk) (lane j d)) := by
  unfold val_main_v7 val_main_v6 val_main_v5 val_main_v4 val_main_v2 val_main_v1 val_main_cst
  pointwise
  split
  · split
    · omega
    · exact congrArg (fun i => x1 (ix2 i _)) (Fin.ext (by unfold key; dsimp only; omega))
  · exact congrArg (fun i => x1 (ix2 i _)) (Fin.ext (by unfold key; dsimp only; omega))
theorem v_apply (n : Fin 64) (kk : Fin 256) (j : Fin 2) (d : Fin 64) (h : 0 < n.val ∨ 128 ≤ kk.val) :
    val_main_v15 (F := Ideal) x2 (ix4 n kk j d) = x2 (ix2 (key n kk) (vlane (lane j d))) := by
  unfold val_main_v15 val_main_v14 val_main_v13 val_main_v12 val_main_v10 val_main_v9 val_main_v8 val_main_cst_0
  pointwise
  split
  · split
    · omega
    · exact congrArg (fun i => x2 (ix2 i _)) (Fin.ext (by unfold key; dsimp only; omega))
  · exact congrArg (fun i => x2 (ix2 i _)) (Fin.ext (by unfold key; dsimp only; omega))
theorem v_zero (n : Fin 64) (kk : Fin 256) (j : Fin 2) (d : Fin 64) (h : ¬ (0 < n.val ∨ 128 ≤ kk.val)) : val_main_v15 (F := Ideal) x2 (ix4 n kk j d) = (0 : EReal) := by
  unfold val_main_v15 val_main_v14 val_main_v13 val_main_v12 val_main_v10 val_main_v9 val_main_v8 val_main_cst_0
  pointwise
  rw [dif_pos (by omega), dif_pos (by omega)]

theorem mask_apply (n : Fin 64) (r : Fin 128) (kk : Fin 256) : val_main_v47 (F := Ideal) (ix3 n r kk) = BitVec.ofBool (decide (Seen n.val r.val kk.val)) := by
  unfold val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_c val_main_c_2 val_main_c_3 val_main_c_4 val_main_c_5
  pointwise
  rw [before, first, second]
  unfold Seen
  by_cases h1 : r.val < kk.val ∧ kk.val ≤ r.val + 128 <;> by_cases h2 : 0 < n.val <;> by_cases h3 : 128 ≤ kk.val <;>
    simp [h1, h2, h3, IntOp.andi, IntOp.ori, and_assoc, ← and_assoc]
theorem masks_apply (n : Fin 64) (j : Fin 2) (g : Fin 4) (r : Fin 128) (kk : Fin 256) :
    val_main_v49_1 (F := Ideal) (ix5 n j g r kk) = BitVec.ofBool (decide (Seen n.val r.val kk.val)) := by
  have e : idx_main_v48 (idx_main_v49_1 (ix5 n j g r kk)) = ix3 n r kk := by funext a; fin_cases a <;> rfl
  rw [val_main_v49_1_apply, val_main_v48_apply, e, mask_apply]

theorem s_apply (n : Fin 64) (j : Fin 2) (g : Fin 4) (r : Fin 128) (kk : Fin 256) :
    val_main_v49_0 (F := Ideal) x0 x1 (ix5 n j g r kk) = (entries x0 x1 x2 x3 x4).sc n j g r kk := by
  have e : val_main_v19 (F := Ideal) x0 x1 (ix5 n j g r kk) = (∑ d : Fin 64, @HMul.hMul EReal EReal EReal _ (val_main_v7 (F := Ideal) x1 (ix4 n kk j d)) (x0 (ix2 (row n r) (qlane j g d)))) * ((1 / 8 : ℝ) : EReal) := by
    unfold val_main_v19 val_main_v18 val_main_v17 val_main_v16 val_main_cst_1
    pointwise
    simp only [q_apply, eighth]
  have e2 : val_main_call0_v2 (F := Ideal) (ix5 n j g r kk) = (⊥ : EReal) := by
    unfold val_main_call0_v2 val_main_call0_v0 val_main_cst_6
    pointwise
    exact lowest
  rw [val_main_v49_0_apply, masks_apply, e, e2]
  unfold Args.sc score
  by_cases h : Seen n.val r.val kk.val
  · rw [if_pos h, decide_eq_true h]
    simp only [k_apply x1 n kk _ _ h.2.2]
    rfl
  · rw [if_neg h, decide_eq_false h]
    rfl

theorem top_apply (n : Fin 64) (j : Fin 2) (g : Fin 4) (r : Fin 128) :
    val_main_v60 (F := Ideal) x0 x1 x3 (ix5 n j g r 0) = top ((entries x0 x1 x2 x3 x4).sc n j g r) (x3 (ix1 (head j g))) := by
  have e1 : idx_main_v58 (ix5 n j g r 0) = ix4 n j g r := by funext a; fin_cases a <;> rfl
  have e2 : idx_main_v50 (idx_main_v51 (idx_main_v59 (ix5 n j g r 0))) = ix1 (head j g) := by funext a; fin_cases a <;> rfl
  rw [val_main_v60_apply, val_main_v58_apply, val_main_v59_apply, val_main_v51_apply, val_main_v50_apply, Ideal.maximumf_eq_max, e1, e2]
  unfold val_main_v52 val_main_cst_7
  pointwise
  simp only [s_apply x0 x1 x2 x3 x4, lowest]
  rfl
theorem wt_apply (n : Fin 64) (j : Fin 2) (g : Fin 4) (r : Fin 128) (kk : Fin 256) :
    val_main_v81 (F := Ideal) x0 x1 x3 (ix5 n j g r kk) = wt ((entries x0 x1 x2 x3 x4).sc n j g r) (x3 (ix1 (head j g))) kk := by
  have e1 : idx_main_v79 (ix5 n j g r kk) = ix5 n j g r 0 := by funext a; fin_cases a <;> rfl
  rw [val_main_v81_apply, val_main_v80_apply, val_main_v79_apply, e1, top_apply x0 x1 x2 x3 x4, s_apply x0 x1 x2 x3 x4]
  rfl
theorem sink_apply (n : Fin 64) (j : Fin 2) (g : Fin 4) (r : Fin 128) :
    val_main_v86 (F := Ideal) x0 x1 x3 (ix5 n j g r 0) = Ideal.exp (@HSub.hSub EReal EReal EReal _ (x3 (ix1 (head j g))) (top ((entries x0 x1 x2 x3 x4).sc n j g r) (x3 (ix1 (head j g))))) := by
  have e2 : idx_main_v50 (idx_main_v51 (idx_main_v84 (ix5 n j g r 0))) = ix1 (head j g) := by funext a; fin_cases a <;> rfl
  rw [val_main_v86_apply, val_main_v85_apply, val_main_v84_apply, val_main_v51_apply, val_main_v50_apply, e2, top_apply x0 x1 x2 x3 x4]
  rfl
theorem den_apply (n : Fin 64) (j : Fin 2) (g : Fin 4) (r : Fin 128) :
    val_main_v87 (F := Ideal) x0 x1 x3 (ix5 n j g r 0) = den ((entries x0 x1 x2 x3 x4).sc n j g r) (x3 (ix1 (head j g))) := by
  have e1 : idx_main_v83 (ix5 n j g r 0) = ix4 n j g r := by funext a; fin_cases a <;> rfl
  rw [val_main_v87_apply, val_main_v83_apply, e1, sink_apply x0 x1 x2 x3 x4]
  unfold val_main_v82 val_main_cst_15
  pointwise
  simp only [wt_apply x0 x1 x2 x3 x4]
  rfl
theorem prob_apply (n : Fin 64) (j : Fin 2) (g : Fin 4) (r : Fin 128) (kk : Fin 256) :
    val_main_v89 (F := Ideal) x0 x1 x3 (ix5 n j g r kk) = (entries x0 x1 x2 x3 x4).pr n j g r kk := by
  have e1 : idx_main_v88 (ix5 n j g r kk) = ix5 n j g r 0 := by funext a; fin_cases a <;> rfl
  rw [val_main_v89_apply, val_main_v88_apply, e1, den_apply x0 x1 x2 x3 x4, wt_apply x0 x1 x2 x3 x4]
  rfl

/-- The number of keys with the greatest score is not zero. -/
theorem count_ne (n : Fin 64) (j : Fin 2) (g : Fin 4) (r : Fin 128) : val_main_v57 (F := Ideal) x0 x1 (ix4 n j g r) ≠ (0 : EReal) := by
  have e : ∀ kk, val_main_v56 (F := Ideal) x0 x1 (ix5 n j g r kk) = if val_main_v49_0 (F := Ideal) x0 x1 (ix5 n j g r kk) = val_main_v52 (F := Ideal) x0 x1 (ix4 n j g r) then (1 : EReal) else 0 := by
    intro kk
    have e1 : idx_main_v54 (ix5 n j g r kk) = ix5 n j g r 0 := by funext a; fin_cases a <;> rfl
    have e2 : val_main_v53 (F := Ideal) x0 x1 (ix5 n j g r 0) = val_main_v52 (F := Ideal) x0 x1 (ix4 n j g r) := by
      unfold val_main_v53
      pointwise
    rw [val_main_v56_apply, val_main_v55_apply, val_main_v54_apply, e1, e2]
    show (((BitVec.ofBool (decide (_ = _))).toNat : ℝ) : EReal) = _
    split
    · rename_i h; rw [decide_eq_true h]; simp
    · rename_i h; rw [decide_eq_false h]; simp
  have m : val_main_v52 (F := Ideal) x0 x1 (ix4 n j g r) = Finset.univ.fold max (⊥ : EReal) fun kk : Fin 256 => val_main_v49_0 (F := Ideal) x0 x1 (ix5 n j g r kk) := by
    unfold val_main_v52 val_main_cst_7
    pointwise
    rw [lowest]
  obtain ⟨kk, hk⟩ : ∃ kk : Fin 256, val_main_v49_0 (F := Ideal) x0 x1 (ix5 n j g r kk) = val_main_v52 (F := Ideal) x0 x1 (ix4 n j g r) := by
    obtain ⟨kk, -, hk⟩ := Finset.exists_max_image (Finset.univ : Finset (Fin 256)) (fun kk => (val_main_v49_0 (F := Ideal) x0 x1 (ix5 n j g r kk) : EReal)) ⟨0, Finset.mem_univ _⟩
    refine ⟨kk, ?_⟩
    rw [m]
    refine le_antisymm ?_ ?_
    · exact (Finset.le_fold_max _).2 (.inr ⟨kk, Finset.mem_univ _, le_rfl⟩)
    · exact (Finset.fold_max_le _).2 ⟨bot_le, fun k _ => hk k (Finset.mem_univ _)⟩
  have e2 : val_main_v57 (F := Ideal) x0 x1 (ix4 n j g r) = ∑ kk : Fin 256, (if val_main_v49_0 (F := Ideal) x0 x1 (ix5 n j g r kk) = val_main_v52 (F := Ideal) x0 x1 (ix4 n j g r) then (1 : EReal) else 0) := by
    unfold val_main_v57 val_main_cst_8
    pointwise
    simp only [e]
  rw [e2]
  have h1 : (1 : EReal) ≤ ∑ kk : Fin 256, (if val_main_v49_0 (F := Ideal) x0 x1 (ix5 n j g r kk) = val_main_v52 (F := Ideal) x0 x1 (ix4 n j g r) then (1 : EReal) else 0) := by
    refine le_trans (le_of_eq (if_pos hk).symm) (Finset.single_le_sum (f := fun kk : Fin 256 => (if val_main_v49_0 (F := Ideal) x0 x1 (ix5 n j g r kk) = val_main_v52 (F := Ideal) x0 x1 (ix4 n j g r) then (1 : EReal) else 0)) (fun k _ => ?_) (Finset.mem_univ kk))
    dsimp only
    split <;> simp
  exact (lt_of_lt_of_le zero_lt_one h1).ne'

/-- The gradient of a weight. -/
theorem gp_apply (n : Fin 64) (j : Fin 2) (g : Fin 4) (r : Fin 128) (kk : Fin 256) :
    val_main_v98 (F := Ideal) x2 x4 (ix5 n j g r kk) = if 0 < n.val ∨ 128 ≤ kk.val then (entries x0 x1 x2 x3 x4).gp n j g r kk else 0 := by
  have e : val_main_v98 (F := Ideal) x2 x4 (ix5 n j g r kk) = ∑ d : Fin 64, @HMul.hMul EReal EReal EReal _ (x4 (ix2 (row n r) (qlane j g d))) (val_main_v15 (F := Ideal) x2 (ix4 n kk j d)) := by
    unfold val_main_v98 val_main_v97 val_main_v96
    pointwise
    refine Finset.sum_congr rfl fun d _ => congrArg (fun i => @HMul.hMul EReal EReal EReal _ (x4 (ix2 _ i)) _) (Fin.ext ?_)
    show _ = (j.val * 4 + g.val) * 64 + d.val
    dsimp only
    omega
  rw [e]
  split
  · rename_i h
    unfold Args.gp
    refine Finset.sum_congr rfl fun d _ => ?_
    rw [v_apply x2 n kk j d h]
    exact mul_comm (G := EReal) _ _
  · rename_i h
    exact Finset.sum_eq_zero fun d _ => by rw [v_zero x2 n kk j d h]; exact mul_zero (M₀ := EReal) _

section Row

variable {x0 x1 x2 x3 x4} {n : Fin 64} {j : Fin 2} {g : Fin 4} {r : Fin 128} {w : Fin 256 → ℝ} {σ : ℝ} {γ : Fin 256 → ℝ}
  (R : Row (entries x0 x1 x2 x3 x4) n j g r w σ γ)

include R

theorem real_w (kk : Fin 256) : val_main_v81 (F := Ideal) x0 x1 x3 (ix5 n j g r kk) = (w kk : EReal) := (wt_apply x0 x1 x2 x3 x4 n j g r kk).trans (R.wt kk)
theorem real_sink : val_main_v86 (F := Ideal) x0 x1 x3 (ix5 n j g r 0) = (σ : EReal) := (sink_apply x0 x1 x2 x3 x4 n j g r).trans R.sink
theorem real_den : val_main_v87 (F := Ideal) x0 x1 x3 (ix5 n j g r 0) = (((∑ kk, w kk) + σ : ℝ) : EReal) := (den_apply x0 x1 x2 x3 x4 n j g r).trans R.den

/-- The gradient of a weight, times the weight. -/
theorem real_gw (kk : Fin 256) (c : ℝ) : ∃ γ' : ℝ, val_main_v98 (F := Ideal) x2 x4 (ix5 n j g r kk) = (γ' : EReal) ∧ γ' * w kk = γ kk * w kk := by
  rw [gp_apply x0 x1 x2 x3 x4]
  split
  · exact ⟨γ kk, R.gp kk, rfl⟩
  · rename_i h
    refine ⟨0, rfl, ?_⟩
    rw [R.zero kk fun hs => h hs.2.2, mul_zero, mul_zero]

/-- The gradient of the sum of the weights. -/
theorem real_ct : val_main_v106 (F := Ideal) x0 x1 x2 x3 x4 (ix5 n j g r 0) = ((-((∑ kk, w kk / ((∑ kk, w kk) + σ) * γ kk) / ((∑ kk, w kk) + σ)) : ℝ) : EReal) := by
  have e2 : ∀ kk, idx_main_v101 (ix5 n j g r kk) = ix5 n j g r 0 := by intro kk; funext a; fin_cases a <;> rfl
  have h2 : ((∑ kk, w kk) + σ) * ((∑ kk, w kk) + σ) ≠ 0 := mul_ne_zero R.pos R.pos
  have h92 : val_main_v92 (F := Ideal) x0 x1 x3 (ix5 n j g r 0) = ((1 / (((∑ kk, w kk) + σ) * ((∑ kk, w kk) + σ)) : ℝ) : EReal) := by
    have e3 : val_main_v91 (F := Ideal) (ix5 n j g r 0) = ((1 : ℝ) : EReal) := by
      unfold val_main_v91 val_main_cst_16
      pointwise
      simp
    rw [val_main_v92_apply, val_main_v90_apply, real_den R, e3]
    refine Eq.trans ?_ (div_coe _ _ h2)
    rw [EReal.coe_mul]
    rfl
  have h103 : ∀ kk, val_main_v103 (F := Ideal) x0 x1 x2 x3 x4 (ix5 n j g r kk) = ((γ kk * (1 / (((∑ kk, w kk) + σ) * ((∑ kk, w kk) + σ))) * w kk : ℝ) : EReal) := by
    intro kk
    obtain ⟨γ', h1, h2⟩ := real_gw R kk 0
    rw [val_main_v103_apply, val_main_v102_apply, val_main_v101_apply, e2, h92, real_w R, h1]
    show (γ' : EReal) * _ * _ = _
    rw [← EReal.coe_mul, ← EReal.coe_mul, mul_right_comm, h2, mul_right_comm]
  have h104 : val_main_v104 (F := Ideal) x0 x1 x2 x3 x4 (ix4 n j g r) = ((∑ kk, γ kk * (1 / (((∑ kk, w kk) + σ) * ((∑ kk, w kk) + σ))) * w kk : ℝ) : EReal) := by
    unfold val_main_v104 val_main_cst_17
    pointwise
    simp only [h103, Cert.Gmlp.coe_sum]
  have h105 : val_main_v105 (F := Ideal) x0 x1 x2 x3 x4 (ix5 n j g r 0) = val_main_v104 (F := Ideal) x0 x1 x2 x3 x4 (ix4 n j g r) := by
    unfold val_main_v105
    pointwise
  rw [val_main_v106_apply, h105, h104, ← quotient w γ σ R.pos, EReal.coe_neg]
  rfl

/-- The gradient of a score, but for the part of the greatest. -/
theorem real_gm (kk : Fin 256) : val_main_v116 (F := Ideal) x0 x1 x2 x3 x4 (ix5 n j g r kk) =
    (((γ kk / ((∑ kk, w kk) + σ) + -((∑ kk, w kk / ((∑ kk, w kk) + σ) * γ kk) / ((∑ kk, w kk) + σ))) * w kk : ℝ) : EReal) := by
  have e1 : idx_main_v107 (ix5 n j g r kk) = ix5 n j g r 0 := by funext a; fin_cases a <;> rfl
  have e2 : idx_main_v114 (ix5 n j g r kk) = ix4 n j g r := by funext a; fin_cases a <;> rfl
  have h113 : val_main_v113 (F := Ideal) x0 x1 x2 x3 x4 (ix4 n j g r) = ((-((∑ kk, w kk / ((∑ kk, w kk) + σ) * γ kk) / ((∑ kk, w kk) + σ)) : ℝ) : EReal) := by
    unfold val_main_v113 val_main_cst_19
    pointwise
    exact (Fin.sum_univ_one _).trans (real_ct R)
  obtain ⟨γ', h1, h2⟩ := real_gw R kk 0
  have h108 : val_main_v108 (F := Ideal) x0 x1 x2 x3 x4 (ix5 n j g r kk) = ((γ' / ((∑ kk, w kk) + σ) : ℝ) : EReal) := by
    rw [val_main_v108_apply, val_main_v107_apply, e1, real_den R, h1]
    exact div_coe _ _ R.pos
  rw [val_main_v116_apply, val_main_v115_apply, val_main_v114_apply, e2, h113, h108, real_w R]
  show ((_ : EReal) + _) * _ = _
  rw [← EReal.coe_add, ← EReal.coe_mul]
  congr 1
  rw [add_mul, add_mul, div_mul_eq_mul_div, h2, div_mul_eq_mul_div]

/-- The part of the greatest of the scores is zero. -/
theorem real_zero : val_main_v120 (F := Ideal) x0 x1 x2 x3 x4 (ix5 n j g r 0) = (0 : EReal) := by
  have h118 : val_main_v118 (F := Ideal) x0 x1 x2 x3 x4 (ix4 n j g r) = ((∑ kk, -((γ kk / ((∑ kk, w kk) + σ) + -((∑ kk, w kk / ((∑ kk, w kk) + σ) * γ kk) / ((∑ kk, w kk) + σ))) * w kk) : ℝ) : EReal) := by
    unfold val_main_v118 val_main_v117 val_main_cst_20
    pointwise
    simp only [real_gm R, ← EReal.coe_neg, Cert.Gmlp.coe_sum]
  have h119 : val_main_v119 (F := Ideal) x0 x1 x2 x3 x4 (ix5 n j g r 0) = val_main_v118 (F := Ideal) x0 x1 x2 x3 x4 (ix4 n j g r) := by
    unfold val_main_v119
    pointwise
  rw [val_main_v120_apply, h119, val_main_v112_apply, val_main_v109_apply, h118, real_ct R, real_sink R]
  show -((_ : EReal) * _) + _ = _
  rw [← EReal.coe_mul, ← EReal.coe_neg, ← EReal.coe_add, balance w γ σ _ R.pos rfl]
  rfl

omit R in
theorem over {x : EReal} (h : x ≠ 0) : Ideal.div 0 x = 0 := by
  unfold Ideal.div
  rw [if_neg h, zero_mul]

theorem real_part : val_main_v126 (F := Ideal) x0 x1 x2 x3 x4 (ix4 n j g r) = (0 : EReal) := by
  have e : val_main_v126 (F := Ideal) x0 x1 x2 x3 x4 (ix4 n j g r) = ∑ x : Fin 1, (val_main_v125 (F := Ideal) x0 x1 x2 x3 x4 (ix5 n j g r x) : EReal) := by
    unfold val_main_v126 val_main_cst_22
    pointwise
  rw [e, Fin.sum_univ_one, val_main_v125_apply, real_zero R]
  exact zero_mul (M₀ := EReal) _

theorem real_parts : val_main_v127 (F := Ideal) x0 x1 x2 x3 x4 (ix4 n j g r) = (0 : EReal) := by
  rw [val_main_v127_apply, real_part R]
  exact over (count_ne x0 x1 n j g r)

/-- The part of a score that comes of the greatest. -/
theorem real_top (kk : Fin 256) : val_main_v129 (F := Ideal) x0 x1 x2 x3 x4 (ix5 n j g r kk) = @HMul.hMul EReal EReal EReal _ 0 (val_main_v56 (F := Ideal) x0 x1 (ix5 n j g r kk)) := by
  have e1 : idx_main_v128 (ix5 n j g r kk) = ix4 n j g r := by funext a; fin_cases a <;> rfl
  rw [val_main_v129_apply, val_main_v128_apply, e1, real_parts R]
  rfl

omit R in
theorem one_eighth (i : S64x2x4x128x256.Idx) : val_main_v134 (F := Ideal) i = ((1 / 8 : ℝ) : EReal) := by
  rw [val_main_v134_apply]
  exact eighth
omit R in
theorem none (i : S64x2x4x128x256.Idx) : val_main_call1_v0 (F := Ideal) i = (0 : EReal) := by
  rw [val_main_call1_v0_apply]
  exact nought

/-- The gradient of a score. -/
theorem real_gs (kk : Fin 256) : val_main_v135 (F := Ideal) x0 x1 x2 x3 x4 (ix5 n j g r kk) = (entries x0 x1 x2 x3 x4).gs n j g r kk := by
  have e : val_main_v130 (F := Ideal) x0 x1 x2 x3 x4 (ix5 n j g r kk) = (((γ kk / ((∑ kk, w kk) + σ) + -((∑ kk, w kk / ((∑ kk, w kk) + σ) * γ kk) / ((∑ kk, w kk) + σ))) * w kk : ℝ) : EReal) := by
    rw [val_main_v130_apply, real_top R, real_gm R, zero_mul (M₀ := EReal)]
    exact add_zero (M := EReal) _
  rw [val_main_v135_apply, val_main_v133_apply, e, one_eighth, none, masks_apply, R.gs]
  by_cases h : Seen n.val r.val kk.val
  · rw [decide_eq_true h]
    refine (EReal.coe_mul _ _).symm.trans (congrArg _ ?_)
    have := R.pos
    field_simp
    ring
  · rw [decide_eq_false h, R.zero kk h]
    refine (zero_mul (M₀ := EReal) _).trans ?_
    simp

/-- The gradient of the sink from a row. -/
theorem real_sinks : val_main_v109 (F := Ideal) x0 x1 x2 x3 x4 (ix5 n j g r 0) = -((entries x0 x1 x2 x3 x4).ps n j g r * (entries x0 x1 x2 x3 x4).pd n j g r) := by
  rw [val_main_v109_apply, real_ct R, real_sink R, R.psd]
  show (_ : EReal) * _ = _
  rw [← EReal.coe_mul, ← EReal.coe_neg]
  congr 1
  have := R.pos
  field_simp

end Row

/-- The sums over the blocks and the rows. -/
theorem sum_blocks (v : S64x2x4x128x1.Idx → EReal) (c : EReal) (j : Fin 2) (g : Fin 4) :
    Ideal.hostReduceAdd Gen.reducesTo_S64x2x4x128x1_S2x4x1_d0_3 v c (ix3 j g 0) = c + ∑ n : Fin 64, ∑ r : Fin 128, v (ix5 n j g r 0) := by
  refine congrArg (c + ·) ((Finset.sum_filter_eq_sum_of_fiber _ (fun k : Fin 64 × Fin 128 => ix5 k.1 j g k.2 (0 : Fin 1))
    (fun _ _ e => Prod.ext (congrFun e 0) (congrFun e 3)) (fun i => ⟨fun e => ⟨(i 0, i 3), ?_⟩, ?_⟩) v).trans ?_)
  · funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext b
    apply Fin.ext
    match b with
    | ⟨0, _⟩ => rfl
    | ⟨1, _⟩ => rfl
    | ⟨2, _⟩ => rfl
  · simp only [Fintype.sum_prod_type]
theorem sum_ones (v : S1x2x4x1x1.Idx → EReal) (c : EReal) (j : Fin 2) (g : Fin 4) :
    Ideal.hostReduceAdd Gen.reducesTo_S1x2x4x1x1_S2x4_d0_3_4 v c (ix2 j g) = c + v (ix5 0 j g 0 0) := by
  refine congrArg (c + ·) ((Finset.sum_filter_eq_sum_of_fiber _ (fun k : Fin 1 => ix5 k j g (0 : Fin 1) (0 : Fin 1))
    (fun _ _ _ => Subsingleton.elim _ _) (fun i => ⟨fun e => ⟨i 0, ?_⟩, ?_⟩) v).trans ?_)
  · funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => exact congrArg Fin.val (Subsingleton.elim (0 : Fin 1) (i 3))
    | ⟨4, _⟩ => exact congrArg Fin.val (Subsingleton.elim (0 : Fin 1) (i 4))
  · rintro ⟨k, rfl⟩
    funext b
    apply Fin.ext
    match b with
    | ⟨0, _⟩ => rfl
    | ⟨1, _⟩ => rfl
  · simp

variable (H : (entries x0 x1 x2 x3 x4).Reals)

include H

theorem gs_apply (n : Fin 64) (j : Fin 2) (g : Fin 4) (r : Fin 128) (kk : Fin 256) :
    val_main_v135 (F := Ideal) x0 x1 x2 x3 x4 (ix5 n j g r kk) = (entries x0 x1 x2 x3 x4).gs n j g r kk := by
  obtain ⟨w, σ, γ, R⟩ := H.row n j g r
  exact real_gs R kk

theorem dq_apply (i : Fin 8192) (l : Fin 512) : val_main_v141 (F := Ideal) x0 x1 x2 x3 x4 (ix2 i l) =
    (entries x0 x1 x2 x3 x4).gq ⟨i.val / 128, by omega⟩ ⟨l.val / 256, by omega⟩ ⟨l.val / 64 % 4, by omega⟩ ⟨i.val % 128, by omega⟩ ⟨l.val % 64, by omega⟩ := by
  unfold val_main_v141 val_main_v138 val_main_v137 val_main_v136
  pointwise
  unfold Args.gq
  refine Finset.sum_congr rfl fun kk _ => ?_
  rw [gs_apply x0 x1 x2 x3 x4 H]
  by_cases h : Seen (i.val / 128) (i.val % 128) kk.val
  · rw [k_apply x1 _ kk _ _ h.2.2]
    rfl
  · obtain ⟨w, σ, γ, R⟩ := H.row ⟨i.val / 128, by omega⟩ ⟨l.val / 256, by omega⟩ ⟨l.val / 64 % 4, by omega⟩ ⟨i.val % 128, by omega⟩
    rw [gs_zero _ _ _ _ _ R.den_ne kk h]
    exact (zero_mul (M₀ := EReal) _).trans (zero_mul (M₀ := EReal) _).symm

theorem gk_apply (n : Fin 64) (kk : Fin 256) (j : Fin 2) (d : Fin 64) :
    val_main_v140 (F := Ideal) x0 x1 x2 x3 x4 (ix4 n kk j d) = (entries x0 x1 x2 x3 x4).gk n kk j d := by
  unfold val_main_v140 val_main_v139 val_main_v136
  pointwise
  unfold Args.gk
  refine Finset.sum_comm.trans (Finset.sum_congr rfl fun g _ => Finset.sum_congr rfl fun r _ => ?_)
  rw [gs_apply x0 x1 x2 x3 x4 H, q_apply]
  rfl

theorem gv_apply (n : Fin 64) (kk : Fin 256) (j : Fin 2) (d : Fin 64) :
    val_main_v100 (F := Ideal) x0 x1 x3 x4 (ix4 n kk j d) = (entries x0 x1 x2 x3 x4).gv n kk j d := by
  unfold val_main_v100 val_main_v99 val_main_v97 val_main_v96
  pointwise
  unfold Args.gv
  refine Finset.sum_congr rfl fun g _ => Finset.sum_congr rfl fun r _ => ?_
  rw [prob_apply x0 x1 x2 x3 x4]
  refine (mul_comm (G := EReal) _ _).trans (congrArg (fun i => @HMul.hMul EReal EReal EReal _ _ (x4 (ix2 _ i))) (Fin.ext ?_))
  show _ = (j.val * 4 + g.val) * 64 + d.val
  dsimp only
  omega

/-- What a step of four blocks leaves for its own keys: the second half of each block's window and, but for the last, the first half of the next's. -/
def joined (f : Fin 64 → Fin 256 → Fin 2 → Fin 64 → EReal) (i : Fin 8192) (j : Fin 2) (d : Fin 64) : EReal :=
  f ⟨i.val / 128, by omega⟩ ⟨128 + i.val % 128, by omega⟩ j d +
    (if h : i.val / 128 % 4 < 3 then f ⟨i.val / 128 + 1, by omega⟩ ⟨i.val % 128, by omega⟩ j d else 0)

theorem dkc_apply (i : Fin 8192) (l : Fin 128) : val_main_v149 (F := Ideal) x0 x1 x2 x3 x4 (ix2 i l) =
    joined (entries x0 x1 x2 x3 x4).gk i ⟨l.val / 64, by omega⟩ ⟨l.val % 64, by omega⟩ := by
  unfold val_main_v149 val_main_v148 val_main_v147 val_main_v146 val_main_v145 val_main_v143 val_main_v142 val_main_cst_25
  pointwise
  simp only [gk_apply x0 x1 x2 x3 x4 H]
  unfold joined
  refine congrArg₂ (fun a b : EReal => a + b) (congrArg (fun n => (entries x0 x1 x2 x3 x4).gk n _ _ _) (Fin.ext (by dsimp only; omega))) ?_
  split
  · exact congrArg (fun n => (entries x0 x1 x2 x3 x4).gk n _ _ _) (Fin.ext (by dsimp only; omega))
  · rfl
theorem dkp_apply (i : Fin 2048) (l : Fin 128) : val_main_v152 (F := Ideal) x0 x1 x2 x3 x4 (ix2 i l) =
    (entries x0 x1 x2 x3 x4).gk ⟨i.val / 128 * 4, by omega⟩ ⟨i.val % 128, by omega⟩ ⟨l.val / 64, by omega⟩ ⟨l.val % 64, by omega⟩ := by
  unfold val_main_v152 val_main_v151 val_main_v150 val_main_v142
  pointwise
  simp only [gk_apply x0 x1 x2 x3 x4 H]
theorem dvc_apply (i : Fin 8192) (l : Fin 128) : val_main_v160 (F := Ideal) x0 x1 x3 x4 (ix2 i l) =
    joined (entries x0 x1 x2 x3 x4).gv i ⟨l.val / 64, by omega⟩ ⟨l.val % 64, by omega⟩ := by
  unfold val_main_v160 val_main_v159 val_main_v158 val_main_v157 val_main_v156 val_main_v154 val_main_v153 val_main_cst_26
  pointwise
  simp only [gv_apply x0 x1 x2 x3 x4 H]
  unfold joined
  refine congrArg₂ (fun a b : EReal => a + b) (congrArg (fun n => (entries x0 x1 x2 x3 x4).gv n _ _ _) (Fin.ext (by dsimp only; omega))) ?_
  split
  · exact congrArg (fun n => (entries x0 x1 x2 x3 x4).gv n _ _ _) (Fin.ext (by dsimp only; omega))
  · rfl
theorem dvp_apply (i : Fin 2048) (l : Fin 128) : val_main_v163 (F := Ideal) x0 x1 x3 x4 (ix2 i l) =
    (entries x0 x1 x2 x3 x4).gv ⟨i.val / 128 * 4, by omega⟩ ⟨i.val % 128, by omega⟩ ⟨l.val / 64, by omega⟩ ⟨l.val % 64, by omega⟩ := by
  unfold val_main_v163 val_main_v162 val_main_v161 val_main_v153
  pointwise
  simp only [gv_apply x0 x1 x2 x3 x4 H]

/-- The gradient of a sink. -/
theorem sinks_apply (j : Fin 2) (g : Fin 4) : val_main_v131 (F := Ideal) x0 x1 x2 x3 x4 (ix2 j g) =
    ∑ n : Fin 64, ∑ r : Fin 128, -((entries x0 x1 x2 x3 x4).ps n j g r * (entries x0 x1 x2 x3 x4).pd n j g r) := by
  have h110 : val_main_v110 (F := Ideal) x0 x1 x2 x3 x4 (ix3 j g 0) = ∑ n : Fin 64, ∑ r : Fin 128, -((entries x0 x1 x2 x3 x4).ps n j g r * (entries x0 x1 x2 x3 x4).pd n j g r) := by
    refine (sum_blocks _ _ j g).trans ?_
    refine (congrArg (fun a : EReal => a + _) nought).trans ((zero_add (M := EReal) _).trans ?_)
    refine Finset.sum_congr rfl fun n _ => Finset.sum_congr rfl fun r _ => ?_
    obtain ⟨w, σ, γ, R⟩ := H.row n j g r
    exact real_sinks R
  have h122 : val_main_v122 (F := Ideal) x0 x1 x2 x3 x4 (ix3 j g 0) = (0 : EReal) := by
    refine (sum_blocks _ _ j g).trans ?_
    refine (congrArg (fun a : EReal => a + _) nought).trans ((zero_add (M := EReal) _).trans ?_)
    refine Finset.sum_eq_zero fun n _ => Finset.sum_eq_zero fun r _ => ?_
    obtain ⟨w, σ, γ, R⟩ := H.row n j g r
    rw [val_main_v121_apply, real_zero R]
    exact zero_mul (M₀ := EReal) _
  have h111 : val_main_v111 (F := Ideal) x0 x1 x2 x3 x4 (ix5 0 j g 0 0) = val_main_v110 (F := Ideal) x0 x1 x2 x3 x4 (ix3 j g 0) := by
    unfold val_main_v111
    pointwise
  have h123 : val_main_v123 (F := Ideal) x0 x1 x2 x3 x4 (ix5 0 j g 0 0) = val_main_v122 (F := Ideal) x0 x1 x2 x3 x4 (ix3 j g 0) := by
    unfold val_main_v123
    pointwise
  refine (sum_ones _ _ j g).trans ?_
  refine (congrArg (fun a : EReal => a + _) nought).trans ((zero_add (M := EReal) _).trans ?_)
  rw [val_main_v124_apply, h111, h123, h110, h122]
  exact add_zero (M := EReal) _

theorem ds_apply (h : Fin 8) (l : Fin 128) : val_main_v165 (F := Ideal) x0 x1 x2 x3 x4 (ix2 h l) =
    if hl : h.val < 1 ∧ l.val < 8 then ∑ n : Fin 64, ∑ r : Fin 128, -((entries x0 x1 x2 x3 x4).ps n ⟨l.val / 4, by omega⟩ ⟨l.val % 4, by omega⟩ r * (entries x0 x1 x2 x3 x4).pd n ⟨l.val / 4, by omega⟩ ⟨l.val % 4, by omega⟩ r) else 0 := by
  unfold val_main_v165 val_main_v164 val_main_v132
  pointwise
  simp only [sinks_apply x0 x1 x2 x3 x4 H]
  split
  · rfl
  · unfold val_main_call2_v0 val_main_c_27
    show (((0#32 : BitVec 32).toInt : ℝ) : EReal) = 0
    simp

end Cert.DAttnIdeal.Result
end
-- ==== Proof.DAttnStep.lean ====
/- One step of the gradient of the attention: its four blocks of rows. -/
module

public import proofs.«01_k».proof.Proof.SwaReal
public import proofs.«01_k».proof.Proof.DAttnRef
public import proofs.«01_k».proof.Proof.Gen.DAttnIdeal.Value
public import Idealize.ShloMosaic.Lib.Pipeline.ValueKit
public import Idealize.ShloMosaic.Lib.Pipeline.ReadBack

@[expose] public section

set_option maxRecDepth 16384

noncomputable section

namespace Cert.DAttnIdeal.Result

open Cert.DAttnIdeal Cert.DAttnIdeal.Gen Idealize.ShloMosaic Idealize.ShloMosaic.TcCoe Idealize.SL.Sem Cert.Swa
open Idealize.ShloMosaic.Pipeline (Dat)

/-- A tile of keys, values, queries, gradients and sinks that holds a block's. -/
structure Half (A : Args) (n : Fin 64) (j : Fin 2) (v : IVec S256x512 1) (Kb : FVec Ideal S256x128 .bf16) (Vb : FVec Ideal S256x128 .f32)
    (q o : FVec Ideal S512x128 .f32) (s : FVec Ideal S1x512 .f32) : Prop where
  hv : ∀ kk i, v (ix2 kk i) = BitVec.ofBool (decide (Seen n.val (i.val % 128) kk.val))
  hK : ∀ (kk : Fin 256) l, (0 < n.val ∨ 128 ≤ kk.val) → Kb (ix2 kk l) = A.k (key n kk) l
  hV : ∀ (kk : Fin 256) l, (0 < n.val ∨ 128 ≤ kk.val) → Vb (ix2 kk l) = A.v (key n kk) l
  hq0 : ∀ (g : Fin 4) (r l : Fin 128), l.val / 64 ≠ j.val → q (ix2 (hrow g r) l) = 0
  hq : ∀ (g : Fin 4) (r : Fin 128) d, q (ix2 (hrow g r) (lane j d)) = A.q (row n r) (qlane j g d)
  ho0 : ∀ (g : Fin 4) (r l : Fin 128), l.val / 64 ≠ j.val → o (ix2 (hrow g r) l) = 0
  ho : ∀ (g : Fin 4) (r : Fin 128) d, o (ix2 (hrow g r) (lane j d)) = A.d (row n r) (qlane j g d)
  hs : ∀ (g : Fin 4) (r : Fin 128), s (ix2 0 (hrow g r)) = A.s (head j g)
  hd : ∀ g r, den (A.sc n j g r) (A.s (head j g)) ≠ 0

/-- The gradients of the scores of a tile, the tile's part of the sinks' gradient, and its gradients of queries, keys and values. -/
def tileS (v : IVec S256x512 1) (Kb : FVec Ideal S256x128 .bf16) (Vb : FVec Ideal S256x128 .f32) (q o : FVec Ideal S512x128 .f32) (s : FVec Ideal S1x512 .f32) :
    FVec Ideal S256x512 .f32 := dss (probs (scores v Kb q) s) (dps Vb o)
def tileT (v : IVec S256x512 1) (Kb : FVec Ideal S256x128 .bf16) (Vb : FVec Ideal S256x128 .f32) (q o : FVec Ideal S512x128 .f32) (s : FVec Ideal S1x512 .f32) :
    FVec Ideal S1x512 .f32 := mulf (sinkp (scores v Kb q) s) (dds (probs (scores v Kb q) s) (dps Vb o))
def tileQ (v : IVec S256x512 1) (Kb : FVec Ideal S256x128 .bf16) (Vb : FVec Ideal S256x128 .f32) (q o : FVec Ideal S512x128 .f32) (s : FVec Ideal S1x512 .f32) :
    FVec Ideal S512x128 .f32 := dqs (tileS v Kb Vb q o s) Kb
def tileK (v : IVec S256x512 1) (Kb : FVec Ideal S256x128 .bf16) (Vb : FVec Ideal S256x128 .f32) (q o : FVec Ideal S512x128 .f32) (s : FVec Ideal S1x512 .f32) :
    FVec Ideal S256x128 .f32 := dks (tileS v Kb Vb q o s) q
def tileV (v : IVec S256x512 1) (Kb : FVec Ideal S256x128 .bf16) (Vb : FVec Ideal S256x128 .f32) (q o : FVec Ideal S512x128 .f32) (s : FVec Ideal S1x512 .f32) :
    FVec Ideal S256x128 .f32 := dks (probs (scores v Kb q) s) o

section

variable {A : Args} {n : Fin 64} {j : Fin 2} {v : IVec S256x512 1} {Kb : FVec Ideal S256x128 .bf16} {Vb : FVec Ideal S256x128 .f32}
  {q o q' o' : FVec Ideal S512x128 .f32} {s s' : FVec Ideal S1x512 .f32}

theorem Half.gq (h : Half A n j v Kb Vb q o s) (g : Fin 4) (r : Fin 128) (d : Fin 64) : tileQ v Kb Vb q o s (ix2 (hrow g r) (lane j d)) = A.gq n j g r d :=
  gq_eq A n j v h.hv Kb h.hK Vb h.hV q h.hq0 h.hq o h.ho0 h.ho s h.hs h.hd g r d
theorem Half.gk (h : Half A n j v Kb Vb q o s) (kk : Fin 256) (d : Fin 64) : tileK v Kb Vb q o s (ix2 kk (lane j d)) = A.gk n kk j d :=
  gk_eq A n j v h.hv Kb h.hK Vb h.hV q h.hq0 h.hq o h.ho0 h.ho s h.hs h.hd kk d
theorem Half.gv (h : Half A n j v Kb Vb q o s) (kk : Fin 256) (d : Fin 64) : tileV v Kb Vb q o s (ix2 kk (lane j d)) = A.gv n kk j d :=
  gv_eq A n j v h.hv Kb h.hK q h.hq0 h.hq o h.ho s h.hs h.hd kk d
theorem Half.gt (h : Half A n j v Kb Vb q o s) (g : Fin 4) (r : Fin 128) : tileT v Kb Vb q o s (ix2 0 (hrow g r)) = A.ps n j g r * A.pd n j g r :=
  gt_eq A n j v h.hv Kb h.hK Vb h.hV q h.hq0 h.hq o h.ho0 h.ho s h.hs h.hd g r

theorem lanes (l : Fin 128) (j : Fin 2) (h : l.val / 64 = j.val) : l = lane j ⟨l.val % 64, by omega⟩ :=
  Fin.ext (by simp [lane] <;> omega)

/-- The lower and the upper lanes together hold the gradients of both keys' heads. -/
theorem both_k (L : Half A n 0 v Kb Vb q o s) (U : Half A n 1 v Kb Vb q' o' s') (kk : Fin 256) (l : Fin 128) :
    @HAdd.hAdd EReal EReal EReal _ (tileK v Kb Vb q o s (ix2 kk l)) (tileK v Kb Vb q' o' s' (ix2 kk l)) = A.gk n kk ⟨l.val / 64, by omega⟩ ⟨l.val % 64, by omega⟩ := by
  by_cases h : l.val / 64 = 0
  · rw [show tileK v Kb Vb q' o' s' (ix2 kk l) = (0 : EReal) from dks_zero 1 _ _ U.hq0 kk l (by show l.val / 64 ≠ 1; omega),
      show tileK v Kb Vb q o s (ix2 kk l) = A.gk n kk 0 ⟨l.val % 64, by omega⟩ from (congrArg (fun i => tileK v Kb Vb q o s (ix2 kk i)) (lanes l 0 h)).trans (L.gk kk _)]
    refine (add_zero (M := EReal) _).trans ?_
    exact congrArg (fun i => A.gk n kk i _) (Fin.ext h.symm)
  · have h1 : l.val / 64 = 1 := by omega
    rw [show tileK v Kb Vb q o s (ix2 kk l) = (0 : EReal) from dks_zero 0 _ _ L.hq0 kk l (by show l.val / 64 ≠ 0; omega),
      show tileK v Kb Vb q' o' s' (ix2 kk l) = A.gk n kk 1 ⟨l.val % 64, by omega⟩ from (congrArg (fun i => tileK v Kb Vb q' o' s' (ix2 kk i)) (lanes l 1 h1)).trans (U.gk kk _)]
    refine (zero_add (M := EReal) _).trans ?_
    exact congrArg (fun i => A.gk n kk i _) (Fin.ext h1.symm)
theorem both_v (L : Half A n 0 v Kb Vb q o s) (U : Half A n 1 v Kb Vb q' o' s') (kk : Fin 256) (l : Fin 128) :
    @HAdd.hAdd EReal EReal EReal _ (tileV v Kb Vb q o s (ix2 kk l)) (tileV v Kb Vb q' o' s' (ix2 kk l)) = A.gv n kk ⟨l.val / 64, by omega⟩ ⟨l.val % 64, by omega⟩ := by
  by_cases h : l.val / 64 = 0
  · rw [show tileV v Kb Vb q' o' s' (ix2 kk l) = (0 : EReal) from dks_zero 1 _ _ U.ho0 kk l (by show l.val / 64 ≠ 1; omega),
      show tileV v Kb Vb q o s (ix2 kk l) = A.gv n kk 0 ⟨l.val % 64, by omega⟩ from (congrArg (fun i => tileV v Kb Vb q o s (ix2 kk i)) (lanes l 0 h)).trans (L.gv kk _)]
    refine (add_zero (M := EReal) _).trans ?_
    exact congrArg (fun i => A.gv n kk i _) (Fin.ext h.symm)
  · have h1 : l.val / 64 = 1 := by omega
    rw [show tileV v Kb Vb q o s (ix2 kk l) = (0 : EReal) from dks_zero 0 _ _ L.ho0 kk l (by show l.val / 64 ≠ 0; omega),
      show tileV v Kb Vb q' o' s' (ix2 kk l) = A.gv n kk 1 ⟨l.val % 64, by omega⟩ from (congrArg (fun i => tileV v Kb Vb q' o' s' (ix2 kk i)) (lanes l 1 h1)).trans (U.gv kk _)]
    refine (zero_add (M := EReal) _).trans ?_
    exact congrArg (fun i => A.gv n kk i _) (Fin.ext h1.symm)

/-- The sinks' gradient after a tile of the lower and a tile of the upper lanes. -/
theorem both_t (L : Half A n 0 v Kb Vb q o s) (U : Half A n 1 v Kb Vb q' o' s') (a : FVec Ideal S1x128 .f32) (l : Fin 128) :
    upper4 (tileT v Kb Vb q' o' s') (lower4 (tileT v Kb Vb q o s) a) (ix2 0 l) =
      @HSub.hSub EReal EReal EReal _ (a (ix2 0 l)) (if h : l.val < 8 then A.gt n ⟨l.val / 4, by omega⟩ ⟨l.val % 4, by omega⟩ else 0) := by
  rw [upper4_apply, lower4_apply]
  unfold Args.gt
  by_cases h : l.val < 4
  · rw [dif_pos h, dif_neg (by omega), dif_pos (by omega)]
    refine (sub_zero (G := EReal) _).trans (congrArg (fun y : EReal => @HSub.hSub EReal EReal EReal _ (a (ix2 0 l)) y) (Finset.sum_congr rfl fun r _ => ?_))
    refine (L.gt ⟨l.val, h⟩ r).trans ?_
    rw [show (⟨l.val / 4, by omega⟩ : Fin 2) = 0 from Fin.ext (by show l.val / 4 = 0; omega), show (⟨l.val % 4, by omega⟩ : Fin 4) = ⟨l.val, h⟩ from Fin.ext (by show l.val % 4 = l.val; omega)]
  · by_cases h8 : l.val < 8
    · rw [dif_neg h, dif_pos (by omega), dif_pos h8]
      refine congrArg₂ (fun x y : EReal => x - y) (sub_zero (G := EReal) _) (Finset.sum_congr rfl fun r _ => ?_)
      refine (U.gt ⟨l.val - 4, by omega⟩ r).trans ?_
      rw [show (⟨l.val / 4, by omega⟩ : Fin 2) = 1 from Fin.ext (by show l.val / 4 = 1; omega), show (⟨l.val % 4, by omega⟩ : Fin 4) = ⟨l.val - 4, by omega⟩ from Fin.ext (by show l.val % 4 = l.val - 4; omega)]
    · rw [dif_neg h, dif_neg (by omega), dif_neg h8]
      exact sub_zero (G := EReal) _

end

/-- Four heads of the lower lanes, one above the other. -/
theorem stack_low (D : Fin 8192 → Fin 512 → EReal) (n : Fin 64) (a b : FVec Ideal S128x128 .f32) (ha : ∀ (r l : Fin 128), a (ix2 r l) = D (row n r) ⟨0 + l.val, by omega⟩)
    (hb : ∀ (r l : Fin 128), b (ix2 r l) = D (row n r) ⟨128 + l.val, by omega⟩) :
    (∀ (g : Fin 4) (r l : Fin 128), l.val / 64 ≠ 0 → stack Cert.AttnIdeal.Gen.k0_pay12 a (turn a) b (turn b) (ix2 (hrow g r) l) = (0 : EReal)) ∧
      ∀ (g : Fin 4) (r : Fin 128) d, stack Cert.AttnIdeal.Gen.k0_pay12 a (turn a) b (turn b) (ix2 (hrow g r) (lane 0 d)) = D (row n r) (qlane 0 g d) := by
  refine ⟨fun g r l h => ?_, fun g r d => ?_⟩
  · rw [stack_apply, lower, decide_eq_false h]
    rfl
  · rw [stack_apply, lower, decide_eq_true (by simp [lane] <;> omega)]
    refine (WordCmp.select_ofBool _ _ _).trans ?_
    fin_cases g
    · show a (ix2 r (lane 0 d)) = _
      rw [ha]
      exact congrArg (D (row n r)) (Fin.ext (by simp [lane, qlane] <;> omega))
    · show turn a (ix2 r (lane 0 d)) = _
      rw [turn_apply, ha]
      exact congrArg (D (row n r)) (Fin.ext (by simp [lane, other, qlane] <;> omega))
    · show b (ix2 r (lane 0 d)) = _
      rw [hb]
      exact congrArg (D (row n r)) (Fin.ext (by simp [lane, qlane] <;> omega))
    · show turn b (ix2 r (lane 0 d)) = _
      rw [turn_apply, hb]
      exact congrArg (D (row n r)) (Fin.ext (by simp [lane, other, qlane] <;> omega))
theorem stack_high (D : Fin 8192 → Fin 512 → EReal) (n : Fin 64) (a b : FVec Ideal S128x128 .f32) (ha : ∀ (r l : Fin 128), a (ix2 r l) = D (row n r) ⟨256 + l.val, by omega⟩)
    (hb : ∀ (r l : Fin 128), b (ix2 r l) = D (row n r) ⟨384 + l.val, by omega⟩) :
    (∀ (g : Fin 4) (r l : Fin 128), l.val / 64 ≠ 1 → stack Cert.AttnIdeal.Gen.k0_pay19 (turn a) a (turn b) b (ix2 (hrow g r) l) = (0 : EReal)) ∧
      ∀ (g : Fin 4) (r : Fin 128) d, stack Cert.AttnIdeal.Gen.k0_pay19 (turn a) a (turn b) b (ix2 (hrow g r) (lane 1 d)) = D (row n r) (qlane 1 g d) := by
  refine ⟨fun g r l h => ?_, fun g r d => ?_⟩
  · rw [stack_apply, upper, decide_eq_false h]
    rfl
  · rw [stack_apply, upper, decide_eq_true (by simp [lane] <;> omega)]
    refine (WordCmp.select_ofBool _ _ _).trans ?_
    fin_cases g
    · show turn a (ix2 r (lane 1 d)) = _
      rw [turn_apply, ha]
      exact congrArg (D (row n r)) (Fin.ext (by simp [lane, other, qlane] <;> omega))
    · show a (ix2 r (lane 1 d)) = _
      rw [ha]
      exact congrArg (D (row n r)) (Fin.ext (by simp [lane, qlane] <;> omega))
    · show turn b (ix2 r (lane 1 d)) = _
      rw [turn_apply, hb]
      exact congrArg (D (row n r)) (Fin.ext (by simp [lane, other, qlane] <;> omega))
    · show b (ix2 r (lane 1 d)) = _
      rw [hb]
      exact congrArg (D (row n r)) (Fin.ext (by simp [lane, qlane] <;> omega))

variable (m : (ℓ : Loc nD τ sig) → Buf (Elt Ideal) ℓ)

theorem idx0 : ∀ t : Fin cfg0.N, win0_0.index t = ![0] ∧ win0_1.index t = ![t.val, 0] ∧ win0_2.index t = ![4 * t.val - 1, 0] ∧
    win0_3.index t = ![t.val, 0] ∧ win0_4.index t = ![4 * t.val - 1, 9] ∧ win0_5.index t = ![t.val, 9] ∧ win0_6.index t = ![t.val, 0] ∧
    win0_7.index t = ![t.val, 0] ∧ win0_8.index t = ![t.val, 0] ∧ win0_9.index t = ![t.val, 0] ∧ win0_10.index t = ![t.val, 0] ∧
    win0_11.index t = ![t.val, 0] ∧ win0_12.index t = ![0, 0] := by
  decide +kernel

theorem one_pos : 0 < (⟨1, ![1]⟩ : Shape).numel := by decide

theorem points (t : Fin cfg0.N) : t.val < 16 := lt_of_lt_of_eq t.isLt (show cfg0.N = 16 from N_0)

/-- The arguments of a device. -/
def args (c : Dev nD) : Args := entries (m ((c : Thread nD τ).loc main_arg0)) (m ((c : Thread nD τ).loc main_arg1)) (m ((c : Thread nD τ).loc main_arg2))
  (m ((c : Thread nD τ).loc main_arg3)) (m ((c : Thread nD τ).loc main_arg4))

/-- No row's weights have sum zero. -/
def Sound (c : Dev nD) : Prop := ∀ n j g r, den ((args m c).sc n j g r) ((args m c).s (head j g)) ≠ 0

theorem at_s (c : Dev nD) (t : Fin cfg0.N) (h : Fin 8) : iblk m c 0 t (ix1 h) = (args m c).s h := by
  unfold args entries
  blk_ext [iblk, V, idx0 t]

theorem at_q (c : Dev nD) (t : Fin cfg0.N) (i l : Fin 512) (h : t.val * 512 + i.val < 8192) : iblk m c 1 t (ix2 i l) = (args m c).q ⟨t.val * 512 + i.val, h⟩ l := by
  have e : ((View.whole main_v0).slice (win0_1.rect t)).emb (ix2 i l) = ix2 (⟨t.val * 512 + i.val, h⟩ : Fin 8192) l := by
    blk_ext [idx0 t]
  unfold iblk
  blk_simp
  entry_read
  rw [e]
  pointwise
  rfl

theorem at_d (c : Dev nD) (t : Fin cfg0.N) (i l : Fin 512) (h : t.val * 512 + i.val < 8192) : iblk m c 6 t (ix2 i l) = (args m c).d ⟨t.val * 512 + i.val, h⟩ l := by
  unfold args entries
  blk_ext [iblk, V, idx0 t]

theorem at_kp (c : Dev nD) (t : Fin cfg0.N) (i l : Fin 128) (h : (4 * t.val - 1) * 128 + i.val < 8192) : iblk m c 2 t (ix2 i l) = (args m c).k ⟨(4 * t.val - 1) * 128 + i.val, h⟩ l := by
  have e : ((View.whole main_v1).slice (win0_2.rect t)).emb (ix2 i l) = ix2 (⟨(4 * t.val - 1) * 128 + i.val, h⟩ : Fin 8192) l := by
    blk_ext [idx0 t]
  unfold iblk
  blk_simp
  entry_read
  rw [e]
  pointwise
  rfl

theorem at_kc (c : Dev nD) (t : Fin cfg0.N) (i : Fin 512) (l : Fin 128) (h : t.val * 512 + i.val < 8192) : iblk m c 3 t (ix2 i l) = (args m c).k ⟨t.val * 512 + i.val, h⟩ l := by
  have e : ((View.whole main_v1).slice (win0_3.rect t)).emb (ix2 i l) = ix2 (⟨t.val * 512 + i.val, h⟩ : Fin 8192) l := by
    blk_ext [idx0 t]
  unfold iblk
  blk_simp
  entry_read
  rw [e]
  pointwise
  rfl

theorem at_vp (c : Dev nD) (t : Fin cfg0.N) (i l : Fin 128) (h : (4 * t.val - 1) * 128 + i.val < 8192) : iblk m c 4 t (ix2 i l) = (args m c).v ⟨(4 * t.val - 1) * 128 + i.val, h⟩ l := by
  unfold args entries vlane
  blk_ext [iblk, V, idx0 t]

theorem at_vc (c : Dev nD) (t : Fin cfg0.N) (i : Fin 512) (l : Fin 128) (h : t.val * 512 + i.val < 8192) : iblk m c 5 t (ix2 i l) = (args m c).v ⟨t.val * 512 + i.val, h⟩ l := by
  unfold args entries vlane
  blk_ext [iblk, V, idx0 t]

/-- The keys of a step: those of the block before it and its own. -/
theorem keys (c : Dev nD) (t : Fin cfg0.N) (e : Fin 640) (l : Fin 128) (h : 0 < t.val ∨ 128 ≤ e.val) (hi : t.val * 512 + e.val - 128 < 8192) :
    k0_pay5 (F := Ideal) (iblk m c 2 t) (iblk m c 3 t) (ix2 e l) = (args m c).k ⟨t.val * 512 + e.val - 128, hi⟩ l := by
  unfold k0_pay5
  pointwise
  split
  · refine (at_kp m c t ⟨e.val, by omega⟩ l (by dsimp only; omega)).trans (congrArg (fun i => (args m c).k i l) (Fin.ext ?_))
    dsimp only
    omega
  · refine (at_kc m c t ⟨e.val - 128, by omega⟩ l (by dsimp only; omega)).trans (congrArg (fun i => (args m c).k i l) (Fin.ext ?_))
    dsimp only
    omega

theorem vals (c : Dev nD) (t : Fin cfg0.N) (e : Fin 640) (l : Fin 128) (h : 0 < t.val ∨ 128 ≤ e.val) (hi : t.val * 512 + e.val - 128 < 8192) :
    k0_pay6 (F := Ideal) (iblk m c 4 t) (iblk m c 5 t) (ix2 e l) = (args m c).v ⟨t.val * 512 + e.val - 128, hi⟩ l := by
  unfold k0_pay6
  pointwise
  split
  · refine (at_vp m c t ⟨e.val, by omega⟩ l (by dsimp only; omega)).trans (congrArg (fun i => (args m c).v i l) (Fin.ext ?_))
    dsimp only
    omega
  · refine (at_vc m c t ⟨e.val - 128, by omega⟩ l (by dsimp only; omega)).trans (congrArg (fun i => (args m c).v i l) (Fin.ext ?_))
    dsimp only
    omega

/-- A slab of queries or of gradients of a step. -/
theorem slab_emb (b o : Nat) (i : ∀ a, (![b, o] : Fin 2 → Nat) a + (![128, 128] : Fin 2 → Nat) a ≤ S512x512.size a) (r l : Fin 128) (hb : b + r.val < 512) (hl : o + l.val < 512) :
    (Rect.unit (s := S512x512) ![b, o] ![128, 128] i).emb (ix2 r l) = ix2 (⟨b + r.val, hb⟩ : Fin 512) ⟨o + l.val, hl⟩ := by
  funext a
  fin_cases a
  · exact Fin.ext (by show b + 1 * r.val = b + r.val; omega)
  · exact Fin.ext (by show o + 1 * l.val = o + l.val; omega)
theorem at_slab (c : Dev nD) (t : Fin cfg0.N) (b o : Nat) (i : ∀ a, (![b, o] : Fin 2 → Nat) a + (![128, 128] : Fin 2 → Nat) a ≤ S512x512.size a)
    (r l : Fin 128) (hr : t.val * 512 + (b + r.val) < 8192) (hl : o + l.val < 512) :
    View.ld (iblk m c 1 t) (Rect.unit ![b, o] ![128, 128] i) (ix2 r l) = (args m c).q ⟨t.val * 512 + (b + r.val), hr⟩ ⟨o + l.val, hl⟩ := by
  have hb : b + 128 ≤ 512 := i 0
  exact (congrArg (iblk m c 1 t) (slab_emb b o i r l (by omega) hl)).trans (at_q m c t ⟨b + r.val, by omega⟩ ⟨o + l.val, hl⟩ hr)
theorem at_dslab (c : Dev nD) (t : Fin cfg0.N) (b o : Nat) (i : ∀ a, (![b, o] : Fin 2 → Nat) a + (![128, 128] : Fin 2 → Nat) a ≤ S512x512.size a)
    (r l : Fin 128) (hr : t.val * 512 + (b + r.val) < 8192) (hl : o + l.val < 512) :
    View.ld (iblk m c 6 t) (Rect.unit ![b, o] ![128, 128] i) (ix2 r l) = (args m c).d ⟨t.val * 512 + (b + r.val), hr⟩ ⟨o + l.val, hl⟩ := by
  have hb : b + 128 ≤ 512 := i 0
  exact (congrArg (iblk m c 6 t) (slab_emb b o i r l (by omega) hl)).trans (at_d m c t ⟨b + r.val, by omega⟩ ⟨o + l.val, hl⟩ hr)

theorem at_sink (c : Dev nD) (t : Fin cfg0.N) (h : Nat) (i : ∀ a, (![h] : Fin 1 → Nat) a + (![1] : Fin 1 → Nat) a ≤ S8.size a) (p) (hh : h < 8) :
    View.ld (iblk m c 0 t) (Rect.unit ![h] ![1] i) (Shape.Idx.first p) = (args m c).s ⟨h, hh⟩ := by
  have e : (Rect.unit (s := S8) ![h] ![1] i).emb (Shape.Idx.first p) = ix1 (⟨h, hh⟩ : Fin 8) := by
    funext a
    fin_cases a
    exact Fin.ext (by show h + 1 * 0 = h; omega)
  exact (congrArg (iblk m c 0 t) e).trans (at_s m c t ⟨h, hh⟩)

theorem first_step : ∀ t : Fin grid0.N, Scalar.select (Scalar.cmpi .sgt (BitVec.ofNat 32 ((grid0.coords t) 0).val) 0#32) 0#32 512#32 = if 0 < t.val then 0#32 else 512#32 := by
  decide +kernel

/-- The sinks of the lower and the upper heads. -/
def sinksL (c : Dev nD) (t : Fin cfg0.N) : FVec Ideal S1x512 .f32 :=
  sinks (View.ld (iblk m c 0 t) (Rect.unit ![0] ![1] inb_S8_S1_0) (Shape.Idx.first one_pos)) (View.ld (iblk m c 0 t) (Rect.unit ![1] ![1] inb_S8_S1_1) (Shape.Idx.first one_pos)) (View.ld (iblk m c 0 t) (Rect.unit ![2] ![1] inb_S8_S1_2) (Shape.Idx.first one_pos)) (View.ld (iblk m c 0 t) (Rect.unit ![3] ![1] inb_S8_S1_3) (Shape.Idx.first one_pos))
def sinksH (c : Dev nD) (t : Fin cfg0.N) : FVec Ideal S1x512 .f32 :=
  sinks (View.ld (iblk m c 0 t) (Rect.unit ![4] ![1] inb_S8_S1_4) (Shape.Idx.first one_pos)) (View.ld (iblk m c 0 t) (Rect.unit ![5] ![1] inb_S8_S1_5) (Shape.Idx.first one_pos)) (View.ld (iblk m c 0 t) (Rect.unit ![6] ![1] inb_S8_S1_6) (Shape.Idx.first one_pos)) (View.ld (iblk m c 0 t) (Rect.unit ![7] ![1] inb_S8_S1_7) (Shape.Idx.first one_pos))
theorem sinksL_apply (c : Dev nD) (t : Fin cfg0.N) (g : Fin 4) (r : Fin 128) : sinksL m c t (ix2 0 (hrow g r)) = (args m c).s (head 0 g) := by
  refine (Cert.Swa.sinks_apply _ _ _ _ g r).trans ?_
  fin_cases g
  · exact at_sink m c t 0 _ _ (by omega)
  · exact at_sink m c t 1 _ _ (by omega)
  · exact at_sink m c t 2 _ _ (by omega)
  · exact at_sink m c t 3 _ _ (by omega)
theorem sinksH_apply (c : Dev nD) (t : Fin cfg0.N) (g : Fin 4) (r : Fin 128) : sinksH m c t (ix2 0 (hrow g r)) = (args m c).s (head 1 g) := by
  refine (Cert.Swa.sinks_apply _ _ _ _ g r).trans ?_
  fin_cases g
  · exact at_sink m c t 4 _ _ (by omega)
  · exact at_sink m c t 5 _ _ (by omega)
  · exact at_sink m c t 6 _ _ (by omega)
  · exact at_sink m c t 7 _ _ (by omega)

/-- What a step leaves of the queries' gradient: that of its four blocks. -/
def wholeQ (c : Dev nD) (t : Fin cfg0.N) (y : S512x512.Idx) : EReal :=
  (args m c).gq ⟨4 * t.val + (y 0).val / 128, by have := points t; have h : (y 0).val < 512 := (y 0).isLt; omega⟩
    ⟨(y 1).val / 256, by have h : (y 1).val < 512 := (y 1).isLt; omega⟩ ⟨(y 1).val / 64 % 4, by omega⟩
    ⟨(y 0).val % 128, by omega⟩ ⟨(y 1).val % 64, by omega⟩

/-- Block `b` of a step: its number. -/
def blk (t : Fin cfg0.N) (b : Fin 4) : Fin 64 := ⟨4 * t.val + b.val, by have := points t; omega⟩

/-- Block `b` of step `t` starts at row `o` of the step, where the step's keys, queries and gradients have room for it, and `z` marks the first block of all. -/
structure At (t : Fin cfg0.N) (b : Fin 4) (o : Nat) (z : BitVec 32) : Prop where
  first : z = if 0 < (blk t b).val then 0#32 else 512#32
  start : o = 128 * b.val
  slice : S640x128.Slices ![o, 0] S256x128
  in0 : ∀ a, (![o, 0] : Fin 2 → Nat) a + (![128, 128] : Fin 2 → Nat) a ≤ S512x512.size a
  in1 : ∀ a, (![o, 128] : Fin 2 → Nat) a + (![128, 128] : Fin 2 → Nat) a ≤ S512x512.size a
  in2 : ∀ a, (![o, 256] : Fin 2 → Nat) a + (![128, 128] : Fin 2 → Nat) a ≤ S512x512.size a
  in3 : ∀ a, (![o, 384] : Fin 2 → Nat) a + (![128, 128] : Fin 2 → Nat) a ≤ S512x512.size a

/-- The four blocks of a step. -/
theorem at0 (t : Fin cfg0.N) : At t 0 0 (Scalar.select (Scalar.cmpi .sgt (BitVec.ofNat 32 ((grid0.coords t) 0).val) 0#32) 0#32 512#32) := by
  refine ⟨(first_step t).trans ?_, rfl, slices_S640x128_o0_0_S256x128, by decide, by decide, by decide, by decide⟩
  show _ = if 0 < 4 * t.val + 0 then 0#32 else 512#32
  by_cases h : 0 < t.val
  · rw [if_pos h, if_pos (by omega)]
  · rw [if_neg h, if_neg (by omega)]
theorem at1 (t : Fin cfg0.N) : At t 1 128 0#32 :=
  ⟨(if_pos (by show 0 < 4 * t.val + 1; omega)).symm, rfl, slices_S640x128_o128_0_S256x128, by decide, by decide, by decide, by decide⟩
theorem at2 (t : Fin cfg0.N) : At t 2 256 0#32 :=
  ⟨(if_pos (by show 0 < 4 * t.val + 2; omega)).symm, rfl, slices_S640x128_o256_0_S256x128, by decide, by decide, by decide, by decide⟩
theorem at3 (t : Fin cfg0.N) : At t 3 384 0#32 :=
  ⟨(if_pos (by show 0 < 4 * t.val + 3; omega)).symm, rfl, slices_S640x128_o384_0_S256x128, by decide, by decide, by decide, by decide⟩

/-- Two slabs stacked by heads, for the lower and for the upper lanes. -/
def low (x y : FVec Ideal S128x128 .f32) : FVec Ideal S512x128 .f32 := stack Cert.AttnIdeal.Gen.k0_pay12 x (turn x) y (turn y)
def high (x y : FVec Ideal S128x128 .f32) : FVec Ideal S512x128 .f32 := stack Cert.AttnIdeal.Gen.k0_pay19 (turn x) x (turn y) y

section

variable {t : Fin cfg0.N} {b : Fin 4} {o : Nat} {z : BitVec 32} (a : At t b o z) (c : Dev nD)

/-- The keys and the values a block sees, and its queries and gradients stacked by heads. -/
def At.keys : FVec Ideal S256x128 .bf16 := extractStridedSlice S256x128 ![o, 0] (k0_pay5 (iblk m c 2 t) (iblk m c 3 t)) a.slice
def At.vals : FVec Ideal S256x128 .f32 := extractStridedSlice S256x128 ![o, 0] (k0_pay6 (iblk m c 4 t) (iblk m c 5 t)) a.slice
def At.qL : FVec Ideal S512x128 .f32 :=
  low (wide (View.ld (iblk m c 1 t) (Rect.unit ![o, 0] ![128, 128] a.in0))) (wide (View.ld (iblk m c 1 t) (Rect.unit ![o, 128] ![128, 128] a.in1)))
def At.qH : FVec Ideal S512x128 .f32 :=
  high (wide (View.ld (iblk m c 1 t) (Rect.unit ![o, 256] ![128, 128] a.in2))) (wide (View.ld (iblk m c 1 t) (Rect.unit ![o, 384] ![128, 128] a.in3)))
def At.oL : FVec Ideal S512x128 .f32 :=
  low (View.ld (iblk m c 6 t) (Rect.unit ![o, 0] ![128, 128] a.in0)) (View.ld (iblk m c 6 t) (Rect.unit ![o, 128] ![128, 128] a.in1))
def At.oH : FVec Ideal S512x128 .f32 :=
  high (View.ld (iblk m c 6 t) (Rect.unit ![o, 256] ![128, 128] a.in2)) (View.ld (iblk m c 6 t) (Rect.unit ![o, 384] ![128, 128] a.in3))

include a in
theorem At.seen_apply (kk : Fin 256) (i : Fin 512) : seen z (ix2 kk i) = BitVec.ofBool (decide (Seen (blk t b).val (i.val % 128) kk.val)) := by
  rw [a.first]
  exact Cert.Swa.seen_apply _ kk i
theorem At.keys_apply (kk : Fin 256) (l : Fin 128) (h : 0 < (blk t b).val ∨ 128 ≤ kk.val) : a.keys m c (ix2 kk l) = (args m c).k (key (blk t b) kk) l := by
  have ht := points t
  have hb := b.isLt
  have hs := a.start
  unfold blk at h
  unfold At.keys
  pointwise
  refine (Result.keys m c t ⟨o + kk.val, by omega⟩ l (by dsimp only at h ⊢; omega) (by dsimp only; omega)).trans (congrArg (fun i => (args m c).k i l) (Fin.ext ?_))
  show t.val * 512 + (o + kk.val) - 128 = (4 * t.val + b.val) * 128 + kk.val - 128
  omega
theorem At.vals_apply (kk : Fin 256) (l : Fin 128) (h : 0 < (blk t b).val ∨ 128 ≤ kk.val) : a.vals m c (ix2 kk l) = (args m c).v (key (blk t b) kk) l := by
  have ht := points t
  have hb := b.isLt
  have hs := a.start
  unfold blk at h
  unfold At.vals
  pointwise
  refine (Result.vals m c t ⟨o + kk.val, by omega⟩ l (by dsimp only at h ⊢; omega) (by dsimp only; omega)).trans (congrArg (fun i => (args m c).v i l) (Fin.ext ?_))
  show t.val * 512 + (o + kk.val) - 128 = (4 * t.val + b.val) * 128 + kk.val - 128
  omega

include a in
/-- A slab of a block's queries, and one of its gradients. -/
theorem At.slab (s : Nat) (i : ∀ a, (![o, s] : Fin 2 → Nat) a + (![128, 128] : Fin 2 → Nat) a ≤ S512x512.size a) (r l : Fin 128) (hl : s + l.val < 512) :
    wide (F := Ideal) (View.ld (iblk m c 1 t) (Rect.unit ![o, s] ![128, 128] i)) (ix2 r l) = (args m c).q (row (blk t b) r) ⟨s + l.val, hl⟩ := by
  have ht := points t
  have hb := b.isLt
  have hs := a.start
  refine (wide_apply _ r l).trans ((at_slab m c t o s i r l (by omega) hl).trans (congrArg (fun i => (args m c).q i _) (Fin.ext ?_)))
  show t.val * 512 + (o + r.val) = (4 * t.val + b.val) * 128 + r.val
  omega
include a in
theorem At.dslab (s : Nat) (i : ∀ a, (![o, s] : Fin 2 → Nat) a + (![128, 128] : Fin 2 → Nat) a ≤ S512x512.size a) (r l : Fin 128) (hl : s + l.val < 512) :
    View.ld (iblk m c 6 t) (Rect.unit ![o, s] ![128, 128] i) (ix2 r l) = (args m c).d (row (blk t b) r) ⟨s + l.val, hl⟩ := by
  have ht := points t
  have hb := b.isLt
  have hs := a.start
  refine (at_dslab m c t o s i r l (by omega) hl).trans (congrArg (fun i => (args m c).d i _) (Fin.ext ?_))
  show t.val * 512 + (o + r.val) = (4 * t.val + b.val) * 128 + r.val
  omega

/-- The tiles of the lower and of the upper lanes hold the block's. -/
theorem At.halfL (hd : Sound m c) : Half (args m c) (blk t b) 0 (seen z) (a.keys m c) (a.vals m c) (a.qL m c) (a.oL m c) (sinksL m c t) :=
  have hq := stack_low (args m c).q (blk t b) _ _ (fun r l => a.slab m c 0 a.in0 r l (by omega)) (fun r l => a.slab m c 128 a.in1 r l (by omega))
  have ho := stack_low (args m c).d (blk t b) _ _ (fun r l => a.dslab m c 0 a.in0 r l (by omega)) (fun r l => a.dslab m c 128 a.in1 r l (by omega))
  ⟨a.seen_apply, a.keys_apply m c, a.vals_apply m c, hq.1, hq.2, ho.1, ho.2, sinksL_apply m c t, hd _ _⟩
theorem At.halfH (hd : Sound m c) : Half (args m c) (blk t b) 1 (seen z) (a.keys m c) (a.vals m c) (a.qH m c) (a.oH m c) (sinksH m c t) :=
  have hq := stack_high (args m c).q (blk t b) _ _ (fun r l => a.slab m c 256 a.in2 r l (by omega)) (fun r l => a.slab m c 384 a.in3 r l (by omega))
  have ho := stack_high (args m c).d (blk t b) _ _ (fun r l => a.dslab m c 256 a.in2 r l (by omega)) (fun r l => a.dslab m c 384 a.in3 r l (by omega))
  ⟨a.seen_apply, a.keys_apply m c, a.vals_apply m c, hq.1, hq.2, ho.1, ho.2, sinksH_apply m c t, hd _ _⟩

/-- The gradients a block's tiles leave. -/
def At.QL : FVec Ideal S512x128 .f32 := tileQ (seen z) (a.keys m c) (a.vals m c) (a.qL m c) (a.oL m c) (sinksL m c t)
def At.QH : FVec Ideal S512x128 .f32 := tileQ (seen z) (a.keys m c) (a.vals m c) (a.qH m c) (a.oH m c) (sinksH m c t)
def At.KL : FVec Ideal S256x128 .f32 := tileK (seen z) (a.keys m c) (a.vals m c) (a.qL m c) (a.oL m c) (sinksL m c t)
def At.KH : FVec Ideal S256x128 .f32 := tileK (seen z) (a.keys m c) (a.vals m c) (a.qH m c) (a.oH m c) (sinksH m c t)
def At.VL : FVec Ideal S256x128 .f32 := tileV (seen z) (a.keys m c) (a.vals m c) (a.qL m c) (a.oL m c) (sinksL m c t)
def At.VH : FVec Ideal S256x128 .f32 := tileV (seen z) (a.keys m c) (a.vals m c) (a.qH m c) (a.oH m c) (sinksH m c t)
def At.TL : FVec Ideal S1x512 .f32 := tileT (seen z) (a.keys m c) (a.vals m c) (a.qL m c) (a.oL m c) (sinksL m c t)
def At.TH : FVec Ideal S1x512 .f32 := tileT (seen z) (a.keys m c) (a.vals m c) (a.qH m c) (a.oH m c) (sinksH m c t)

include a in
/-- Two heads of a block, where they lie in the step. -/
theorem At.place (s : Nat) (j : Fin 2) (k : Nat) (hk : k ≤ 2) (h : s = 256 * j.val + 64 * k) (r l : Fin 128) (hr : o + r.val < 512) (hl : s + l.val < 512) :
    (args m c).gq (blk t b) j ⟨k + l.val / 64, by omega⟩ r ⟨l.val % 64, by omega⟩ = wholeQ m c t (ix2 ⟨o + r.val, hr⟩ ⟨s + l.val, hl⟩) := by
  have hb := b.isLt
  have hs := a.start
  have hj := j.isLt
  unfold wholeQ blk
  congr 1
  · exact Fin.ext (by show 4 * t.val + b.val = 4 * t.val + (o + r.val) / 128; omega)
  · exact Fin.ext (by show j.val = (s + l.val) / 256; omega)
  · exact Fin.ext (by show k + l.val / 64 = (s + l.val) / 64 % 4; omega)
  · exact Fin.ext (by show r.val = (o + r.val) % 128; omega)
  · exact Fin.ext (by show l.val % 64 = (s + l.val) % 64; omega)
theorem At.pieceQ0 (hd : Sound m c) (r l : Fin 128) (hr : o + r.val < 512) (hl : 0 + l.val < 512) :
    slab0 (a.QL m c) (ix2 r l) = wholeQ m c t (ix2 ⟨o + r.val, hr⟩ ⟨0 + l.val, hl⟩) :=
  (lower_pair _ _ (fun g r d => (args m c).gq (blk t b) 0 ⟨0 + g.val, by omega⟩ r d)
    (fun r d => (head0_apply _ _ _).trans ((a.halfL m c hd).gq 0 r d)) (fun r d => (head1_apply _ _ _).trans ((a.halfL m c hd).gq 1 r d)) r l).trans
    (a.place m c 0 0 0 (by omega) rfl r l hr hl)
theorem At.pieceQ1 (hd : Sound m c) (r l : Fin 128) (hr : o + r.val < 512) (hl : 128 + l.val < 512) :
    slab1 (a.QL m c) (ix2 r l) = wholeQ m c t (ix2 ⟨o + r.val, hr⟩ ⟨128 + l.val, hl⟩) :=
  (lower_pair _ _ (fun g r d => (args m c).gq (blk t b) 0 ⟨2 + g.val, by omega⟩ r d)
    (fun r d => (head2_apply _ _ _).trans ((a.halfL m c hd).gq 2 r d)) (fun r d => (head3_apply _ _ _).trans ((a.halfL m c hd).gq 3 r d)) r l).trans
    (a.place m c 128 0 2 (by omega) rfl r l hr hl)
theorem At.pieceQ2 (hd : Sound m c) (r l : Fin 128) (hr : o + r.val < 512) (hl : 256 + l.val < 512) :
    slab2 (a.QH m c) (ix2 r l) = wholeQ m c t (ix2 ⟨o + r.val, hr⟩ ⟨256 + l.val, hl⟩) :=
  (upper_pair _ _ (fun g r d => (args m c).gq (blk t b) 1 ⟨0 + g.val, by omega⟩ r d)
    (fun r d => (head0_apply _ _ _).trans ((a.halfH m c hd).gq 0 r d)) (fun r d => (head1_apply _ _ _).trans ((a.halfH m c hd).gq 1 r d)) r l).trans
    (a.place m c 256 1 0 (by omega) rfl r l hr hl)
theorem At.pieceQ3 (hd : Sound m c) (r l : Fin 128) (hr : o + r.val < 512) (hl : 384 + l.val < 512) :
    slab3 (a.QH m c) (ix2 r l) = wholeQ m c t (ix2 ⟨o + r.val, hr⟩ ⟨384 + l.val, hl⟩) :=
  (upper_pair _ _ (fun g r d => (args m c).gq (blk t b) 1 ⟨2 + g.val, by omega⟩ r d)
    (fun r d => (head2_apply _ _ _).trans ((a.halfH m c hd).gq 2 r d)) (fun r d => (head3_apply _ _ _).trans ((a.halfH m c hd).gq 3 r d)) r l).trans
    (a.place m c 384 1 2 (by omega) rfl r l hr hl)

end

end Cert.DAttnIdeal.Result

end
-- ==== Proof.DAttnTiles.lean ====
/- The gradient of the attention: the values of the kernel are the reference's. -/
module

public import proofs.«01_k».proof.Proof.DAttnStep

@[expose] public section

set_option maxRecDepth 16384

noncomputable section

namespace Cert.DAttnIdeal.Result

open Cert.DAttnIdeal Cert.DAttnIdeal.Gen Idealize.ShloMosaic Idealize.ShloMosaic.TcCoe Idealize.SL.Sem Cert.Swa
open Idealize.ShloMosaic.Pipeline (Dat)

variable (m : (ℓ : Loc nD τ sig) → Buf (Elt Ideal) ℓ)

/-- A stored slab of a block, and a stored block. -/
theorem piece {C : Nat} {G : (⟨2, ![512, C]⟩ : Shape).Idx → EReal} (b o : Nat) {pay : S128x128.Idx → EReal}
    (i : ∀ a, (![b, o] : Fin 2 → Nat) a + (![128, 128] : Fin 2 → Nat) a ≤ (⟨2, ![512, C]⟩ : Shape).size a)
    (hp : ∀ (r l : Fin 128) (hr : b + r.val < 512) (hl : o + l.val < C), pay (ix2 r l) = G (ix2 ⟨b + r.val, hr⟩ ⟨o + l.val, hl⟩))
    (x : (Rect.unit (s := ⟨2, ![512, C]⟩) ![b, o] ![128, 128] i).shape.Idx) :
    pay x = G ((Rect.unit ![b, o] ![128, 128] i).emb x) := by
  have hb : b + 128 ≤ 512 := i 0
  have ho : o + 128 ≤ C := i 1
  idx_vars x
  refine (hp x0 x1 (by omega) (by omega)).trans (congrArg G ?_)
  funext a
  fin_cases a
  · exact Fin.ext (by show b + x0.val = b + 1 * x0.val; omega)
  · exact Fin.ext (by show o + x1.val = o + 1 * x1.val; omega)

/-- What a step leaves of the gradients of its keys and of its values: `f` has a block's part. -/
def wholeF (f : Fin 64 → Fin 256 → Fin 2 → Fin 64 → EReal) (t : Fin cfg0.N) (y : S512x128.Idx) : EReal :=
  joined f ⟨t.val * 512 + (y 0).val, by have := points t; have h : (y 0).val < 512 := (y 0).isLt; omega⟩
    ⟨(y 1).val / 64, by have h : (y 1).val < 128 := (y 1).isLt; omega⟩ ⟨(y 1).val % 64, by omega⟩
def wholeK (c : Dev nD) (t : Fin cfg0.N) (y : S512x128.Idx) : EReal := wholeF (args m c).gk t y
def wholeV (c : Dev nD) (t : Fin cfg0.N) (y : S512x128.Idx) : EReal := wholeF (args m c).gv t y

theorem sum4 (a b c d : FVec Ideal S128x128 .f32) (i l : Fin 128) : shapeCast S128x128 (addf (addf (addf a b) c) d) shapeCasts_S128x128_S128x128 (ix2 i l)
    = @HAdd.hAdd EReal EReal EReal _ (@HAdd.hAdd EReal EReal EReal _ (a (ix2 i l)) (b (ix2 i l))) (@HAdd.hAdd EReal EReal EReal _ (c (ix2 i l)) (d (ix2 i l))) := by
  pointwise
  exact add_assoc (G := EReal) _ _ _
theorem sum2 (a b : FVec Ideal S128x128 .f32) (i l : Fin 128) : shapeCast S128x128 (addf a b) shapeCasts_S128x128_S128x128 (ix2 i l)
    = @HAdd.hAdd EReal EReal EReal _ (a (ix2 i l)) (b (ix2 i l)) := by
  pointwise

/-- The tiles of the lower and of the upper lanes add up to a block's part. -/
def Both (f : Fin 64 → Fin 256 → Fin 2 → Fin 64 → EReal) (n : Fin 64) (x y : FVec Ideal S256x128 .f32) : Prop :=
  ∀ (kk : Fin 256) (l : Fin 128), @HAdd.hAdd EReal EReal EReal _ (x (ix2 kk l)) (y (ix2 kk l)) = f n kk ⟨l.val / 64, by omega⟩ ⟨l.val % 64, by omega⟩

theorem At.bothK {t : Fin cfg0.N} {b : Fin 4} {o : Nat} {z : BitVec 32} (a : At t b o z) (c : Dev nD) (hd : Sound m c) :
    Both (args m c).gk (blk t b) (a.KL m c) (a.KH m c) := both_k (a.halfL m c hd) (a.halfH m c hd)
theorem At.bothV {t : Fin cfg0.N} {b : Fin 4} {o : Nat} {z : BitVec 32} (a : At t b o z) (c : Dev nD) (hd : Sound m c) :
    Both (args m c).gv (blk t b) (a.VL m c) (a.VH m c) := both_v (a.halfL m c hd) (a.halfH m c hd)

section

variable {t : Fin cfg0.N} {b b' : Fin 4} {o : Nat} {z : BitVec 32} {f : Fin 64 → Fin 256 → Fin 2 → Fin 64 → EReal} {x y x' y' : FVec Ideal S256x128 .f32}

/-- A block's own rows, with what the next block adds to them; the last block of a step has its own part only. -/
theorem At.inner (a : At t b o z) (h : Both f (blk t b) x y) (h' : Both f (blk t b') x' y') (hb : b'.val = b.val + 1) (r l : Fin 128) (hr : o + r.val < 512) (hl : 0 + l.val < 128) :
    shapeCast S128x128 (addf (addf (addf (own x) (own y)) (prior x')) (prior y')) shapeCasts_S128x128_S128x128 (ix2 r l) = wholeF f t (ix2 ⟨o + r.val, hr⟩ ⟨0 + l.val, hl⟩) := by
  have ht := points t
  have hs := a.start
  have hb' := b'.isLt
  rw [sum4, own_apply, own_apply, prior_apply, prior_apply]
  unfold wholeF joined
  rw [dif_pos (by show (t.val * 512 + (o + r.val)) / 128 % 4 < 3; omega)]
  refine congrArg₂ (fun a b : EReal => a + b) ((h ⟨128 + r.val, by omega⟩ l).trans ?_) ((h' ⟨r.val, by omega⟩ l).trans ?_)
  · congr 1
    · exact Fin.ext (by show 4 * t.val + b.val = (t.val * 512 + (o + r.val)) / 128; omega)
    · exact Fin.ext (by show 128 + r.val = 128 + (t.val * 512 + (o + r.val)) % 128; omega)
    · exact Fin.ext (by show l.val / 64 = (0 + l.val) / 64; omega)
    · exact Fin.ext (by show l.val % 64 = (0 + l.val) % 64; omega)
  · congr 1
    · exact Fin.ext (by show 4 * t.val + b'.val = (t.val * 512 + (o + r.val)) / 128 + 1; omega)
    · exact Fin.ext (by show r.val = (t.val * 512 + (o + r.val)) % 128; omega)
    · exact Fin.ext (by show l.val / 64 = (0 + l.val) / 64; omega)
    · exact Fin.ext (by show l.val % 64 = (0 + l.val) % 64; omega)
theorem At.last (a : At t b o z) (h : Both f (blk t b) x y) (hb : b.val = 3) (r l : Fin 128) (hr : o + r.val < 512) (hl : 0 + l.val < 128) :
    shapeCast S128x128 (addf (own x) (own y)) shapeCasts_S128x128_S128x128 (ix2 r l) = wholeF f t (ix2 ⟨o + r.val, hr⟩ ⟨0 + l.val, hl⟩) := by
  have ht := points t
  have hs := a.start
  rw [sum2, own_apply, own_apply]
  unfold wholeF joined
  rw [dif_neg (by show ¬ (t.val * 512 + (o + r.val)) / 128 % 4 < 3; omega), add_zero]
  refine (h ⟨128 + r.val, by omega⟩ l).trans ?_
  congr 1
  · exact Fin.ext (by show 4 * t.val + b.val = (t.val * 512 + (o + r.val)) / 128; omega)
  · exact Fin.ext (by show 128 + r.val = 128 + (t.val * 512 + (o + r.val)) % 128; omega)
  · exact Fin.ext (by show l.val / 64 = (0 + l.val) / 64; omega)
  · exact Fin.ext (by show l.val % 64 = (0 + l.val) % 64; omega)
/-- What a step leaves of the gradient of the rows before it. -/
theorem before (n : Fin 64) (h : Both f n x y) (r l : Fin 128) :
    shapeCast S128x128 (addf (prior x) (prior y)) shapeCasts_S128x128_S128x128 (ix2 r l) = f n ⟨r.val, by omega⟩ ⟨l.val / 64, by omega⟩ ⟨l.val % 64, by omega⟩ := by
  rw [sum2, prior_apply, prior_apply]
  exact h ⟨r.val, by omega⟩ l

end

theorem value7 (c : Dev nD) (t : Fin cfg0.N) (hd : Sound m c) : (outsAt0 m c t.val t.isLt).1 = wholeQ m c t := by
  by_cases h0 : t.val % 16 = 0
  on_goal 1 => rw [outsAt0_A m c t h0]; dsimp only; unfold out0_A_7
  on_goal 2 => rw [outsAt0_B m c t h0]; dsimp only; unfold out0_B_7
  all_goals
    frame_open
    simp (disch := decide) only [↓ View.readCov_skip, ↓ View.readCov_cons_toLoadRect, ↓ View.readCov_fill]
    frame_out
    funext y
    refine View.canon_append_of_piecesOf (Val := Elt Ideal) (e := .f32) (wholeQ m c t) [] [_, _, _, _, _, _, _, _, _, _, _, _, _, _, _, _] ⟨?_, ?_, ?_, ?_, ?_, ?_, ?_, ?_, ?_, ?_, ?_, ?_, ?_, ?_, ?_, ?_, trivial⟩ y
      (View.cover_of_tiledL _ ![128, 128] (by sl_kernel_rfl) y)
    · exact piece (C := 512) 384 384 (by decide) ((at3 t).pieceQ3 m c hd)
    · exact piece (C := 512) 384 256 (by decide) ((at3 t).pieceQ2 m c hd)
    · exact piece (C := 512) 384 128 (by decide) ((at3 t).pieceQ1 m c hd)
    · exact piece (C := 512) 384 0 (by decide) ((at3 t).pieceQ0 m c hd)
    · exact piece (C := 512) 256 384 (by decide) ((at2 t).pieceQ3 m c hd)
    · exact piece (C := 512) 256 256 (by decide) ((at2 t).pieceQ2 m c hd)
    · exact piece (C := 512) 256 128 (by decide) ((at2 t).pieceQ1 m c hd)
    · exact piece (C := 512) 256 0 (by decide) ((at2 t).pieceQ0 m c hd)
    · exact piece (C := 512) 128 384 (by decide) ((at1 t).pieceQ3 m c hd)
    · exact piece (C := 512) 128 256 (by decide) ((at1 t).pieceQ2 m c hd)
    · exact piece (C := 512) 128 128 (by decide) ((at1 t).pieceQ1 m c hd)
    · exact piece (C := 512) 128 0 (by decide) ((at1 t).pieceQ0 m c hd)
    · exact piece (C := 512) 0 384 (by decide) ((at0 t).pieceQ3 m c hd)
    · exact piece (C := 512) 0 256 (by decide) ((at0 t).pieceQ2 m c hd)
    · exact piece (C := 512) 0 128 (by decide) ((at0 t).pieceQ1 m c hd)
    · exact piece (C := 512) 0 0 (by decide) ((at0 t).pieceQ0 m c hd)
theorem value8 (c : Dev nD) (t : Fin cfg0.N) (hd : Sound m c) : (outsAt0 m c t.val t.isLt).2.1 = wholeK m c t := by
  by_cases h0 : t.val % 16 = 0
  on_goal 1 => rw [outsAt0_A m c t h0]; dsimp only; unfold out0_A_8
  on_goal 2 => rw [outsAt0_B m c t h0]; dsimp only; unfold out0_B_8
  all_goals
    frame_open
    simp (disch := decide) only [↓ View.readCov_skip, ↓ View.readCov_cons_toLoadRect, ↓ View.readCov_fill]
    frame_out
    funext y
    refine View.canon_append_of_piecesOf (Val := Elt Ideal) (e := .f32) (wholeK m c t) [] [_, _, _, _] ⟨?_, ?_, ?_, ?_, trivial⟩ y
      (View.cover_of_tiledL _ ![128, 128] (by sl_kernel_rfl) y)
    · exact piece (C := 128) 384 0 (by decide) ((at3 t).last ((at3 t).bothK m c hd) rfl)
    · exact piece (C := 128) 256 0 (by decide) ((at2 t).inner ((at2 t).bothK m c hd) ((at3 t).bothK m c hd) rfl)
    · exact piece (C := 128) 128 0 (by decide) ((at1 t).inner ((at1 t).bothK m c hd) ((at2 t).bothK m c hd) rfl)
    · exact piece (C := 128) 0 0 (by decide) ((at0 t).inner ((at0 t).bothK m c hd) ((at1 t).bothK m c hd) rfl)
theorem value10 (c : Dev nD) (t : Fin cfg0.N) (hd : Sound m c) : (outsAt0 m c t.val t.isLt).2.2.2.1 = wholeV m c t := by
  by_cases h0 : t.val % 16 = 0
  on_goal 1 => rw [outsAt0_A m c t h0]; dsimp only; unfold out0_A_10
  on_goal 2 => rw [outsAt0_B m c t h0]; dsimp only; unfold out0_B_10
  all_goals
    frame_open
    simp (disch := decide) only [↓ View.readCov_skip, ↓ View.readCov_cons_toLoadRect, ↓ View.readCov_fill]
    frame_out
    funext y
    refine View.canon_append_of_piecesOf (Val := Elt Ideal) (e := .f32) (wholeV m c t) [] [_, _, _, _] ⟨?_, ?_, ?_, ?_, trivial⟩ y
      (View.cover_of_tiledL _ ![128, 128] (by sl_kernel_rfl) y)
    · exact piece (C := 128) 384 0 (by decide) ((at3 t).last ((at3 t).bothV m c hd) rfl)
    · exact piece (C := 128) 256 0 (by decide) ((at2 t).inner ((at2 t).bothV m c hd) ((at3 t).bothV m c hd) rfl)
    · exact piece (C := 128) 128 0 (by decide) ((at1 t).inner ((at1 t).bothV m c hd) ((at2 t).bothV m c hd) rfl)
    · exact piece (C := 128) 0 0 (by decide) ((at0 t).inner ((at0 t).bothV m c hd) ((at1 t).bothV m c hd) rfl)
theorem value9 (c : Dev nD) (t : Fin cfg0.N) (hd : Sound m c) : (outsAt0 m c t.val t.isLt).2.2.1 = fun y => (args m c).gk (blk t 0) ⟨(y 0).val, by have h : (y 0).val < 128 := (y 0).isLt; omega⟩ ⟨(y 1).val / 64, by have h : (y 1).val < 128 := (y 1).isLt; omega⟩ ⟨(y 1).val % 64, by omega⟩ := by
  by_cases h0 : t.val % 16 = 0
  on_goal 1 => rw [outsAt0_A m c t h0]; dsimp only; unfold out0_A_9
  on_goal 2 => rw [outsAt0_B m c t h0]; dsimp only; unfold out0_B_9
  all_goals
    frame_open
    simp (disch := decide) only [↓ View.readCov_skip, ↓ View.readCov_cons_toLoadRect, ↓ View.readCov_fill]
    frame_out
    funext y
    idx_vars y
    exact before _ ((at0 t).bothK m c hd) y0 y1
theorem value11 (c : Dev nD) (t : Fin cfg0.N) (hd : Sound m c) : (outsAt0 m c t.val t.isLt).2.2.2.2.1 = fun y => (args m c).gv (blk t 0) ⟨(y 0).val, by have h : (y 0).val < 128 := (y 0).isLt; omega⟩ ⟨(y 1).val / 64, by have h : (y 1).val < 128 := (y 1).isLt; omega⟩ ⟨(y 1).val % 64, by omega⟩ := by
  by_cases h0 : t.val % 16 = 0
  on_goal 1 => rw [outsAt0_A m c t h0]; dsimp only; unfold out0_A_11
  on_goal 2 => rw [outsAt0_B m c t h0]; dsimp only; unfold out0_B_11
  all_goals
    frame_open
    simp (disch := decide) only [↓ View.readCov_skip, ↓ View.readCov_cons_toLoadRect, ↓ View.readCov_fill]
    frame_out
    funext y
    idx_vars y
    exact before _ ((at0 t).bothV m c hd) y0 y1

end Cert.DAttnIdeal.Result

end
-- ==== Proof.DAttnValue.lean ====
/- The gradient of the attention: the six results of the kernel, for real arguments, are the reference's. -/
module

public import proofs.«01_k».proof.Proof.DAttnTiles
public import proofs.«01_k».proof.Proof.Products
public import proofs.«01_k».proof.Proof.Real
public import Idealize.ShloMosaic.Lib.WritesUnit
public import Idealize.ShloMosaic.Lib.Pointwise

@[expose] public section

set_option maxRecDepth 16384

noncomputable section

namespace Cert.DAttnIdeal.Result

open Cert.DAttnIdeal Cert.DAttnIdeal.Gen Idealize.ShloMosaic Idealize.ShloMosaic.TcCoe Idealize.SL.Sem Cert.Swa
open Idealize.ShloMosaic.Pipeline (Dat)

variable (m : (ℓ : Loc nD τ sig) → Buf (Elt Ideal) ℓ)

/-- The row of the sinks' gradient that a step computes: both halves of its four blocks. -/
def stepT (c : Dev nD) (t : Fin cfg0.N) : FVec Ideal S1x128 .f32 :=
  upper4 ((at3 t).TH m c) (lower4 ((at3 t).TL m c) (upper4 ((at2 t).TH m c) (lower4 ((at2 t).TL m c)
    (upper4 ((at1 t).TH m c) (lower4 ((at1 t).TL m c) (upper4 ((at0 t).TH m c) (lower4 ((at0 t).TL m c) k0_pay7)))))))

/-- A block's part of the sinks' gradient, in the lane of its head. -/
def lane8 (A : Args) (n : Fin 64) (l : Fin 128) : EReal :=
  if h : l.val < 8 then A.gt n ⟨l.val / 4, by omega⟩ ⟨l.val % 4, by omega⟩ else 0

theorem stepT_apply (c : Dev nD) (t : Fin cfg0.N) (hd : Sound m c) (l : Fin 128) : stepT m c t (ix2 0 l) =
    @HSub.hSub EReal EReal EReal _ (@HSub.hSub EReal EReal EReal _ (@HSub.hSub EReal EReal EReal _ (@HSub.hSub EReal EReal EReal _ 0
      (lane8 (args m c) (blk t 0) l)) (lane8 (args m c) (blk t 1) l)) (lane8 (args m c) (blk t 2) l)) (lane8 (args m c) (blk t 3) l) := by
  unfold stepT
  refine (both_t ((at3 t).halfL m c hd) ((at3 t).halfH m c hd) _ l).trans ?_
  refine congrArg (fun x : EReal => x - lane8 (args m c) (blk t 3) l) ?_
  refine (both_t ((at2 t).halfL m c hd) ((at2 t).halfH m c hd) _ l).trans ?_
  refine congrArg (fun x : EReal => x - lane8 (args m c) (blk t 2) l) ?_
  refine (both_t ((at1 t).halfL m c hd) ((at1 t).halfH m c hd) _ l).trans ?_
  refine congrArg (fun x : EReal => x - lane8 (args m c) (blk t 1) l) ?_
  refine (both_t ((at0 t).halfL m c hd) ((at0 t).halfH m c hd) _ l).trans ?_
  refine congrArg (fun x : EReal => x - lane8 (args m c) (blk t 0) l) ?_
  unfold k0_pay7
  pointwise

/-- What a step adds to the sinks' gradient: its row, and nothing to the other rows. -/
def stepD (c : Dev nD) (t : Fin cfg0.N) (y : S8x128.Idx) : EReal :=
  if (y 0).val = 0 then stepT m c t (ix2 0 ⟨(y 1).val, (y 1).isLt⟩) else 0

theorem plus_apply (a b : FVec Ideal S1x128 .f32) (l : Fin 128) : k0_pay3 a b (ix2 0 l) = @HAdd.hAdd EReal EReal EReal _ (b (ix2 0 l)) (a (ix2 0 l)) := by
  unfold k0_pay3
  pointwise

theorem zeros_apply (y : S8x128.Idx) : k0_pay4 (F := Ideal) y = (0 : EReal) := by
  unfold k0_pay4
  pointwise

theorem emb_row (i : ∀ a, (![0, 0] : Fin 2 → Nat) a + (![1, 128] : Fin 2 → Nat) a ≤ S8x128.size a) (l : Fin 128) :
    (Rect.unit (s := S8x128) ![0, 0] ![1, 128] i).emb (ix2 (0 : Fin 1) l) = ix2 (0 : Fin 8) l := by
  funext a
  fin_cases a
  · exact Fin.ext (by show 0 + 1 * 0 = 0; omega)
  · exact Fin.ext (by show 0 + 1 * l.val = l.val; omega)

theorem not_row (i : ∀ a, (![0, 0] : Fin 2 → Nat) a + (![1, 128] : Fin 2 → Nat) a ≤ S8x128.size a) (h : Fin 8) (l : Fin 128) (hh : h ≠ 0) :
    ix2 h l ∉ (Rect.unit (s := S8x128) ![0, 0] ![1, 128] i).set := by
  intro hm
  have h1 : h.val < 0 + 1 := (Rect.mem_set_unit.mp hm 0).2
  exact hh (Fin.ext (by show h.val = 0; omega))

theorem reset (c : Dev nD) (t : Fin cfg0.N) (h0 : t.val % 16 = 0) (y : S8x128.Idx) :
    (outsAt0 m c t.val t.isLt).2.2.2.2.2 y = @HAdd.hAdd EReal EReal EReal _ 0 (stepD m c t y) := by
  rw [outsAt0_A m c t h0]
  dsimp only
  unfold out0_A_12
  frame_open
  simp (disch := decide) only [↓ View.readCov_skip, ↓ View.readCov_cons_toLoadRect, ↓ View.readCov_fill]
  frame_out
  idx_vars y
  by_cases hy : y0 = 0
  · subst hy
    refine (congrArg _ (emb_row (by decide) y1).symm).trans ?_
    refine (View.canon_cons_emb _ _ _ _).trans ?_
    refine (plus_apply _ _ y1).trans ?_
    refine congrArg₂ (fun a b : EReal => a + b) (zeros_apply _) ?_
    exact (if_pos rfl).symm
  · refine (View.canon_cons_of_not_mem _ _ ?_).trans ?_
    · exact not_row (by decide) y0 y1 hy
    · rw [View.canon_cons_unit_lit _ _ _ (by decide)]
      refine (zeros_apply _).trans ?_
      have e : stepD m c t (ix2 y0 y1) = 0 := if_neg fun h => hy (Fin.ext h)
      rw [e]
      exact (add_zero (M := EReal) 0).symm

theorem step (c : Dev nD) (t : Fin cfg0.N) (h0 : ¬ t.val % 16 = 0) (y : S8x128.Idx) :
    (outsAt0 m c t.val t.isLt).2.2.2.2.2 y = @HAdd.hAdd EReal EReal EReal _ ((outsAt0 m c (t.val - 1) (by have := t.isLt; omega)).2.2.2.2.2 y) (stepD m c t y) := by
  rw [outsAt0_B m c t h0]
  dsimp only
  unfold out0_B_12
  frame_open
  simp (disch := decide) only [↓ View.readCov_skip, ↓ View.readCov_cons_toLoadRect, ↓ View.readCov_fill]
  frame_out
  idx_vars y
  by_cases hy : y0 = 0
  · subst hy
    refine (View.read_writes_cons_unit_of_mem (s := S8x128) _ _ _ _ _ _ (ix2 (0 : Fin 1) y1) (off' := ![0, 0]) (by funext a; fin_cases a <;> rfl) ?_).trans ?_
    · intro a
      fin_cases a
      · rfl
      · show y1.val = 0 + y1.val; omega
    refine (plus_apply _ _ y1).trans ?_
    refine congrArg₂ (fun a b : EReal => a + b) ?_ ?_
    · exact congrArg _ (emb_row (by decide) y1)
    · exact (if_pos rfl).symm
  · refine (View.read_writes_cons_unit_of_not_mem (s := S8x128) _ _ _ _ _ _ (off' := ![0, 0]) (by funext a; fin_cases a <;> rfl) 0 ?_).trans ?_
    · right
      show 0 + 1 ≤ y0.val
      have : y0.val ≠ 0 := fun h => hy (Fin.ext h)
      omega
    · rw [View.writes_nil]
      have e : stepD m c t (ix2 y0 y1) = 0 := if_neg fun h => hy (Fin.ext h)
      rw [e]
      exact (congrFun ((hs0_12 t).read_unread _) _).trans (add_zero (M := EReal) _).symm

/-- After the last step: the sum of the steps' rows. -/
theorem total (c : Dev nD) (t : Fin cfg0.N) (h : t.val % 16 = 15) (y : S8x128.Idx) :
    (outsAt0 m c t.val t.isLt).2.2.2.2.2 y = ∑ s : Fin 16, stepD m c ⟨16 * (t.val / 16) + s.val, Pipeline.run_point_lt_of_flush t h s⟩ y := by
  rw [Pipeline.eq_sum_fin_of_reset_step_apply_of_flush (fun n h => (outsAt0 m c n h).2.2.2.2.2) 16 (fun _ => (0 : EReal))
    (fun t => stepD m c t) (fun t h0 y => reset m c t h0 y) (fun t h0 y => step m c t h0 y) t h y, zero_add]

/-- The arguments are real. -/
abbrev RealArgs (c : Dev nD) : Prop := (args m c).Reals

theorem sound (c : Dev nD) (H : RealArgs m c) : Sound m c := fun n j g r => by
  obtain ⟨w, σ, γ, R⟩ := Args.Reals.row H n j g r
  exact R.den_ne

theorem psd_real {A : Args} (H : A.Reals) (n : Fin 64) (j : Fin 2) (g : Fin 4) (r : Fin 128) : ∃ x : ℝ, A.ps n j g r * A.pd n j g r = (x : EReal) := by
  obtain ⟨w, σ, γ, R⟩ := H.row n j g r
  exact ⟨_, R.psd⟩

/-- Subtracting the blocks' parts step by step is adding them with the sign changed. -/
theorem regroup {A : Args} (H : A.Reals) (l : Fin 128) (h : l.val < 8) (F : Fin 16 → EReal)
    (hF : ∀ s : Fin 16, F s = @HSub.hSub EReal EReal EReal _ (@HSub.hSub EReal EReal EReal _ (@HSub.hSub EReal EReal EReal _ (@HSub.hSub EReal EReal EReal _ 0
      (lane8 A ⟨4 * s.val + 0, by omega⟩ l)) (lane8 A ⟨4 * s.val + 1, by omega⟩ l)) (lane8 A ⟨4 * s.val + 2, by omega⟩ l)) (lane8 A ⟨4 * s.val + 3, by omega⟩ l)) :
    ∑ s, F s = ∑ n : Fin 64, ∑ r : Fin 128, -(A.ps n ⟨l.val / 4, by omega⟩ ⟨l.val % 4, by omega⟩ r * A.pd n ⟨l.val / 4, by omega⟩ ⟨l.val % 4, by omega⟩ r) := by
  choose x hx using fun n r => psd_real H n (⟨l.val / 4, by omega⟩ : Fin 2) (⟨l.val % 4, by omega⟩ : Fin 4) r
  have e : ∀ n, lane8 A n l = ((∑ r : Fin 128, x n r : ℝ) : EReal) := fun n => by
    unfold lane8 Args.gt
    rw [dif_pos h, ← Cert.Gmlp.coe_sum]
    exact Finset.sum_congr rfl fun r _ => hx n r
  have e2 : ∀ n : Fin 64, ∑ r : Fin 128, -(A.ps n ⟨l.val / 4, by omega⟩ ⟨l.val % 4, by omega⟩ r * A.pd n ⟨l.val / 4, by omega⟩ ⟨l.val % 4, by omega⟩ r)
      = ((-∑ r : Fin 128, x n r : ℝ) : EReal) := fun n => by
    rw [← Finset.sum_neg_distrib, ← Cert.Gmlp.coe_sum]
    refine Finset.sum_congr rfl fun r _ => ?_
    rw [hx n r, EReal.coe_neg]
  have e1 : ∀ s : Fin 16, F s = ∑ k : Fin 4, ((-∑ r : Fin 128, x ⟨s.val * 4 + k.val, by omega⟩ r : ℝ) : EReal) := fun s => by
    rw [hF s, e, e, e, e, Cert.Gmlp.coe_sum, Fin.sum_univ_four, ← EReal.coe_zero, ← EReal.coe_sub, ← EReal.coe_sub, ← EReal.coe_sub, ← EReal.coe_sub]
    refine congrArg _ ?_
    have q : ∀ (a b : Fin 64), a.val = b.val → ∑ r : Fin 128, x a r = ∑ r : Fin 128, x b r := fun a b hab => by rw [Fin.ext hab]
    rw [q ⟨4 * s.val + 0, by omega⟩ ⟨s.val * 4 + (0 : Fin 4).val, by show s.val * 4 + 0 < 64; omega⟩ (by show 4 * s.val + 0 = s.val * 4 + 0; omega),
      q ⟨4 * s.val + 1, by omega⟩ ⟨s.val * 4 + (1 : Fin 4).val, by show s.val * 4 + 1 < 64; omega⟩ (by show 4 * s.val + 1 = s.val * 4 + 1; omega),
      q ⟨4 * s.val + 2, by omega⟩ ⟨s.val * 4 + (2 : Fin 4).val, by show s.val * 4 + 2 < 64; omega⟩ (by show 4 * s.val + 2 = s.val * 4 + 2; omega),
      q ⟨4 * s.val + 3, by omega⟩ ⟨s.val * 4 + (3 : Fin 4).val, by show s.val * 4 + 3 < 64; omega⟩ (by show 4 * s.val + 3 = s.val * 4 + 3; omega)]
    ring
  simp only [e1, e2]
  exact Cert.Products.sum_blocks (J := 16) (n := 4) (L := 64) (by decide) fun s k hl => rfl

theorem lane_none (A : Args) (n : Fin 64) (l : Fin 128) (h : ¬ l.val < 8) : lane8 A n l = 0 := dif_neg h

/-- The reference's arrays at the arguments. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)

theorem reals (c : Dev nD) (h : S8192x1536.Slices ![0, 1152] S8192x128) (hq : ∀ i, ∃ x : ℝ, a0 m c i = (x : EReal)) (hk : ∀ i, ∃ x : ℝ, a1 m c i = (x : EReal))
    (hv : ∀ i, ∃ x : ℝ, extractStridedSlice (α := EReal) S8192x128 ![0, 1152] (a2 m c) h i = (x : EReal)) (hs : ∀ i, ∃ x : ℝ, a3 m c i = (x : EReal))
    (hd : ∀ i, ∃ x : ℝ, a4 m c i = (x : EReal)) : RealArgs m c where
  q i l := hq _
  k i l := hk _
  v i l := by
    obtain ⟨x, hx⟩ := hv (ix2 i l)
    refine ⟨x, Eq.trans ?_ hx⟩
    have e : extractStridedSlice (α := EReal) S8192x128 ![0, 1152] (a2 m c) h (ix2 i l) = a2 m c (ix2 i (vlane l)) := by
      pointwise
      rfl
    exact e.symm
  s h := hs _
  d i l := hd _

theorem result0 (c : Dev nD) (H : RealArgs m c) : (dats m 0 c).arrAt 7 cfg0.N =
    Cert.DAttnRefIdeal.Read.val_main_v141 (F := Ideal) (a0 m c) (a1 m c) (a2 m c) (a3 m c) (a4 m c) := by
  refine (dats m 0 c).arrAt_eq_of_covers 7 _ (by decide +kernel) fun t hf y => ?_
  have ht := points t
  blk_simp
  rw [after0_7, value7 m c t (sound m c H)]
  idx_vars y
  have e : ((View.whole main_v2_0).slice (win0_7.rect t)).emb (ix2 y0 y1) = ix2 (⟨t.val * 512 + y0.val, by omega⟩ : Fin 8192) y1 := by
    blk_ext [idx0 t]
  refine Eq.trans ?_ (congrArg (Cert.DAttnRefIdeal.Read.val_main_v141 (F := Ideal) (a0 m c) (a1 m c) (a2 m c) (a3 m c) (a4 m c)) e.symm)
  refine Eq.trans ?_ (dq_apply (a0 m c) (a1 m c) (a2 m c) (a3 m c) (a4 m c) H _ y1).symm
  unfold wholeQ args
  congr 1
  · exact Fin.ext (by show 4 * t.val + y0.val / 128 = (t.val * 512 + y0.val) / 128; omega)
  · exact Fin.ext (by show y0.val % 128 = (t.val * 512 + y0.val) % 128; omega)

theorem result1 (c : Dev nD) (H : RealArgs m c) : (dats m 0 c).arrAt 8 cfg0.N =
    Cert.DAttnRefIdeal.Read.val_main_v149 (F := Ideal) (a0 m c) (a1 m c) (a2 m c) (a3 m c) (a4 m c) := by
  refine (dats m 0 c).arrAt_eq_of_covers 8 _ (by decide +kernel) fun t hf y => ?_
  have ht := points t
  blk_simp
  rw [after0_8, value8 m c t (sound m c H)]
  idx_vars y
  have e : ((View.whole main_v2_1).slice (win0_8.rect t)).emb (ix2 y0 y1) = ix2 (⟨t.val * 512 + y0.val, by omega⟩ : Fin 8192) y1 := by
    blk_ext [idx0 t]
  refine Eq.trans ?_ (congrArg (Cert.DAttnRefIdeal.Read.val_main_v149 (F := Ideal) (a0 m c) (a1 m c) (a2 m c) (a3 m c) (a4 m c)) e.symm)
  exact (dkc_apply (a0 m c) (a1 m c) (a2 m c) (a3 m c) (a4 m c) H _ y1).symm

theorem result2 (c : Dev nD) (H : RealArgs m c) : (dats m 0 c).arrAt 9 cfg0.N =
    Cert.DAttnRefIdeal.Read.val_main_v152 (F := Ideal) (a0 m c) (a1 m c) (a2 m c) (a3 m c) (a4 m c) := by
  refine (dats m 0 c).arrAt_eq_of_covers 9 _ (by decide +kernel) fun t hf y => ?_
  have ht := points t
  blk_simp
  rw [after0_9, value9 m c t (sound m c H)]
  idx_vars y
  have e : ((View.whole main_v2_2).slice (win0_9.rect t)).emb (ix2 y0 y1) = ix2 (⟨t.val * 128 + y0.val, by omega⟩ : Fin 2048) y1 := by
    blk_ext [idx0 t]
  refine Eq.trans ?_ (congrArg (Cert.DAttnRefIdeal.Read.val_main_v152 (F := Ideal) (a0 m c) (a1 m c) (a2 m c) (a3 m c) (a4 m c)) e.symm)
  refine Eq.trans ?_ (dkp_apply (a0 m c) (a1 m c) (a2 m c) (a3 m c) (a4 m c) H _ y1).symm
  unfold args
  congr 1
  · exact Fin.ext (by show 4 * t.val + 0 = (t.val * 128 + y0.val) / 128 * 4; omega)
  · exact Fin.ext (by show y0.val = (t.val * 128 + y0.val) % 128; omega)

theorem result3 (c : Dev nD) (H : RealArgs m c) : (dats m 0 c).arrAt 10 cfg0.N =
    Cert.DAttnRefIdeal.Read.val_main_v160 (F := Ideal) (a0 m c) (a1 m c) (a3 m c) (a4 m c) := by
  refine (dats m 0 c).arrAt_eq_of_covers 10 _ (by decide +kernel) fun t hf y => ?_
  have ht := points t
  blk_simp
  rw [after0_10, value10 m c t (sound m c H)]
  idx_vars y
  have e : ((View.whole main_v2_3).slice (win0_10.rect t)).emb (ix2 y0 y1) = ix2 (⟨t.val * 512 + y0.val, by omega⟩ : Fin 8192) y1 := by
    blk_ext [idx0 t]
  refine Eq.trans ?_ (congrArg (Cert.DAttnRefIdeal.Read.val_main_v160 (F := Ideal) (a0 m c) (a1 m c) (a3 m c) (a4 m c)) e.symm)
  exact (dvc_apply (a0 m c) (a1 m c) (a2 m c) (a3 m c) (a4 m c) H _ y1).symm

theorem result4 (c : Dev nD) (H : RealArgs m c) : (dats m 0 c).arrAt 11 cfg0.N =
    Cert.DAttnRefIdeal.Read.val_main_v163 (F := Ideal) (a0 m c) (a1 m c) (a3 m c) (a4 m c) := by
  refine (dats m 0 c).arrAt_eq_of_covers 11 _ (by decide +kernel) fun t hf y => ?_
  have ht := points t
  blk_simp
  rw [after0_11, value11 m c t (sound m c H)]
  idx_vars y
  have e : ((View.whole main_v2_4).slice (win0_11.rect t)).emb (ix2 y0 y1) = ix2 (⟨t.val * 128 + y0.val, by omega⟩ : Fin 2048) y1 := by
    blk_ext [idx0 t]
  refine Eq.trans ?_ (congrArg (Cert.DAttnRefIdeal.Read.val_main_v163 (F := Ideal) (a0 m c) (a1 m c) (a3 m c) (a4 m c)) e.symm)
  refine Eq.trans ?_ (dvp_apply (a0 m c) (a1 m c) (a2 m c) (a3 m c) (a4 m c) H _ y1).symm
  unfold args
  congr 1
  · exact Fin.ext (by show 4 * t.val + 0 = (t.val * 128 + y0.val) / 128 * 4; omega)
  · exact Fin.ext (by show y0.val = (t.val * 128 + y0.val) % 128; omega)

theorem result5 (c : Dev nD) (H : RealArgs m c) : (dats m 0 c).arrAt 12 cfg0.N =
    Cert.DAttnRefIdeal.Read.val_main_v165 (F := Ideal) (a0 m c) (a1 m c) (a2 m c) (a3 m c) (a4 m c) := by
  refine (dats m 0 c).arrAt_eq_of_covers 12 _ (by decide +kernel) fun t hf y => ?_
  have ht := points t
  have h15 : t.val % 16 = 15 := (flush0_12 t).mp hf
  blk_simp
  rw [after0_12, total m c t h15]
  idx_vars y
  have e : ((View.whole main_v2_5).slice (win0_12.rect t)).emb (ix2 y0 y1) = ix2 y0 y1 := by
    blk_ext [idx0 t]
  refine Eq.trans ?_ (congrArg (Cert.DAttnRefIdeal.Read.val_main_v165 (F := Ideal) (a0 m c) (a1 m c) (a2 m c) (a3 m c) (a4 m c)) e.symm)
  refine Eq.trans ?_ (ds_apply (a0 m c) (a1 m c) (a2 m c) (a3 m c) (a4 m c) H y0 y1).symm
  by_cases hy : y0.val = 0
  · have e1 : ∀ s : Fin 16, stepD m c ⟨16 * (t.val / 16) + s.val, Pipeline.run_point_lt_of_flush t h15 s⟩ (ix2 y0 y1) =
        stepT m c ⟨16 * (t.val / 16) + s.val, Pipeline.run_point_lt_of_flush t h15 s⟩ (ix2 0 y1) := fun s => if_pos hy
    by_cases hl : y1.val < 8
    · rw [dif_pos ⟨by omega, hl⟩]
      refine regroup H y1 hl _ fun s => ?_
      refine (e1 s).trans ((stepT_apply m c _ (sound m c H) y1).trans ?_)
      have q : ∀ a b : Fin 64, a.val = b.val → lane8 (args m c) a y1 = lane8 (args m c) b y1 := fun a b hab => by rw [Fin.ext hab]
      refine congrArg₂ (fun x y : EReal => x - y) (congrArg₂ (fun x y : EReal => x - y) (congrArg₂ (fun x y : EReal => x - y)
        (congrArg (fun x : EReal => 0 - x) ?_) ?_) ?_) ?_
      · exact q _ _ (by show 4 * (16 * (t.val / 16) + s.val) + 0 = 4 * s.val + 0; omega)
      · exact q _ _ (by show 4 * (16 * (t.val / 16) + s.val) + 1 = 4 * s.val + 1; omega)
      · exact q _ _ (by show 4 * (16 * (t.val / 16) + s.val) + 2 = 4 * s.val + 2; omega)
      · exact q _ _ (by show 4 * (16 * (t.val / 16) + s.val) + 3 = 4 * s.val + 3; omega)
    · rw [dif_neg fun h => hl h.2]
      refine Finset.sum_eq_zero (M := EReal) fun s _ => (e1 s).trans ((stepT_apply m c _ (sound m c H) y1).trans ?_)
      simp only [lane_none _ _ _ hl, sub_zero]
  · rw [dif_neg fun h => hy (by omega)]
    exact Finset.sum_eq_zero (M := EReal) fun s _ => if_neg hy

end Cert.DAttnIdeal.Result

end
-- ==== Proof.lean ====
/- The gradient of the chunked gate: the frames, what naming the GELU's cubic coefficients preserves, and the equality of the five
   results with the gradient of the gate. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Equal
public import proofs.«01_k».proof.Proof.Gen.Act.Frame
public import proofs.«01_k».proof.Proof.Gen.ActRefIdeal.Run
public import proofs.«01_k».proof.Proof.Gen.DxTwo.Frame
public import proofs.«01_k».proof.Proof.Gen.DxTwoRefIdeal.Run
public import proofs.«01_k».proof.Proof.Gen.Norm.Frame
public import proofs.«01_k».proof.Proof.Gen.NormRefIdeal.Run
public import proofs.«01_k».proof.Proof.Gen.DwTwo.Frame
public import proofs.«01_k».proof.Proof.Gen.DwTwoRefIdeal.Run
public import proofs.«01_k».proof.Proof.Gen.DwOne.Frame
public import proofs.«01_k».proof.Proof.Gen.DwOneRefIdeal.Run
public import proofs.«01_k».proof.Proof.Gen.DwGate.Frame
public import proofs.«01_k».proof.Proof.Gen.DwGateRefIdeal.Run
public import proofs.«01_k».proof.Proof.Gen.DxGate.Frame
public import proofs.«01_k».proof.Proof.Gen.DxGateRefIdeal.Run
public import proofs.«01_k».proof.Proof.Gen.DxOut.Frame
public import proofs.«01_k».proof.Proof.Gen.DxOutRefIdeal.Run
public import proofs.«01_k».proof.Proof.Gen.DwIn.Frame
public import proofs.«01_k».proof.Proof.Gen.DwInRefIdeal.Run
public import proofs.«01_k».proof.Proof.Gen.DxIn.Frame
public import proofs.«01_k».proof.Proof.Gen.DxInRefIdeal.Run
public import proofs.«01_k».proof.Proof.Gen.WIn.Frame
public import proofs.«01_k».proof.Proof.Gen.WInRefIdeal.Run
public import proofs.«01_k».proof.Proof.Gen.WOut.Frame
public import proofs.«01_k».proof.Proof.Gen.WOutRefIdeal.Run
public import proofs.«01_k».proof.Proof.Gen.FfTwo.Frame
public import proofs.«01_k».proof.Proof.Gen.FfTwoRefIdeal.Run
public import proofs.«01_k».proof.Proof.Gen.Gate.Frame
public import proofs.«01_k».proof.Proof.Gen.GateRefIdeal.Run
public import proofs.«01_k».proof.Proof.Gen.PleProj.Frame
public import proofs.«01_k».proof.Proof.Gen.PleProjRefIdeal.Run
public import proofs.«01_k».proof.Proof.Gen.DwProj.Frame
public import proofs.«01_k».proof.Proof.Gen.DwProjRefIdeal.Run
public import proofs.«01_k».proof.Proof.Gen.Glu.Frame
public import proofs.«01_k».proof.Proof.Gen.GluRefIdeal.Run
public import proofs.«01_k».proof.Proof.Gen.DwGlu.Frame
public import proofs.«01_k».proof.Proof.Gen.DwGluRefIdeal.Run
public import proofs.«01_k».proof.Proof.Gen.DxGlu.Frame
public import proofs.«01_k».proof.Proof.Gen.DxGluRefIdeal.Run
public import proofs.«01_k».proof.Proof.Gen.PleElem.Frame
public import proofs.«01_k».proof.Proof.Gen.PleElemRefIdeal.Run
public import proofs.«01_k».proof.Proof.Gen.Gmlp.Frame
public import proofs.«01_k».proof.Proof.Gen.GmlpRefIdeal.Run
public import proofs.«01_k».proof.Proof.Gen.Merge.Frame
public import proofs.«01_k».proof.Proof.Gen.MergeRefIdeal.Run
public import proofs.«01_k».proof.Proof.Gen.DMerge.Frame
public import proofs.«01_k».proof.Proof.Gen.DMergeRefIdeal.Run
public import proofs.«01_k».proof.Proof.Gen.Attn.Frame
public import proofs.«01_k».proof.Proof.Gen.AttnRefIdeal.Run
public import proofs.«01_k».proof.Proof.Gen.DAttn.Frame
public import proofs.«01_k».proof.Proof.Gen.DAttnRefIdeal.Run
public import proofs.«01_k».proof.Proof.ActValue
public import proofs.«01_k».proof.Proof.DxTwoValue
public import proofs.«01_k».proof.Proof.NormValue
public import proofs.«01_k».proof.Proof.DwTwoValue
public import proofs.«01_k».proof.Proof.DwOneValue
public import proofs.«01_k».proof.Proof.DwGateValue
public import proofs.«01_k».proof.Proof.DxGateValue
public import proofs.«01_k».proof.Proof.DxOutValue
public import proofs.«01_k».proof.Proof.DwInValue
public import proofs.«01_k».proof.Proof.DxInValue
public import proofs.«01_k».proof.Proof.WInValue
public import proofs.«01_k».proof.Proof.WOutValue
public import proofs.«01_k».proof.Proof.FfTwoValue
public import proofs.«01_k».proof.Proof.GateValue
public import proofs.«01_k».proof.Proof.PleProjValue
public import proofs.«01_k».proof.Proof.DwProjValue
public import proofs.«01_k».proof.Proof.GluValue
public import proofs.«01_k».proof.Proof.DwGluValue
public import proofs.«01_k».proof.Proof.DxGluValue
public import proofs.«01_k».proof.Proof.PleElemValue
public import proofs.«01_k».proof.Proof.GmlpValue
public import proofs.«01_k».proof.Proof.MergeValue
public import proofs.«01_k».proof.Proof.DMergeValue
public import proofs.«01_k».proof.Proof.AttnValue
public import proofs.«01_k».proof.Proof.DAttnValue

@[expose] public section

set_option maxRecDepth 16384

open Idealize.ShloMosaic Idealize.ShloMosaic.TcCoe Idealize.SL.Sem

namespace Cert.Proof

theorem facts_finite : Cert.Pre_finite.Facts := ⟨by decide, by decide, by decide, by decide, by decide⟩

theorem preserves : Cert.preserves_Kernel_KernelIdeal :=
  ⟨IdealRules.named_const.statement Cert.KernelIdeal.κ "gelu_cubic" .f32 0x3D372713#32 _ rfl,
    IdealRules.named_const.statement Cert.KernelIdeal.κ "gelu_cubic_3" .f32 0x3E095D4F#32 _ rfl⟩

theorem algebraic : Cert.algebraic_KernelIdeal_ReferenceIdeal_pre_finite (hKernelIdeal := Cert.KernelIdeal.Gen.facts)
    (hReferenceIdeal := Cert.ReferenceIdeal.Gen.facts) (hPre_finite := facts_finite) := by
  letI := Cert.KernelIdeal.Gen.facts
  letI := Cert.ReferenceIdeal.Gen.facts
  letI := facts_finite
  intro m g m' g' hpre hin
  have hK (c) := Cert.Finite.holds _ _ _ _ _ _ (hpre c)
  have hR (c) : Cert.ReferenceIdeal.Ref.Holds _ _ _ _ _ _ _ := ⟨(hK c).z, (hK c).d, (hK c).g, (hK c).b, (hK c).w, (hK c).s⟩
  refine ⟨_, _, _, _, _, Cert.KernelIdeal.Value.run_blocks m g, ?_⟩
  refine (θ_run _ _ _).mono (fun _ h c => ?_) (Cert.ReferenceIdeal.Value.run m' g')
  obtain ⟨h0, h1, h2, h3, h4, ha⟩ := h c
  obtain ⟨i0, i1, i2, i3, i4, i5⟩ := hin c
  have e0 : StableHlo.launchContents m' c (Proc.devRef .tc Cert.ReferenceIdeal.main_arg0) = _ := i0
  have e1 : StableHlo.launchContents m' c (Proc.devRef .tc Cert.ReferenceIdeal.main_arg1) = _ := i1
  have e2 : StableHlo.launchContents m' c (Proc.devRef .tc Cert.ReferenceIdeal.main_arg2) = _ := i2
  have e3 : StableHlo.launchContents m' c (Proc.devRef .tc Cert.ReferenceIdeal.main_arg3) = _ := i3
  have e4 : StableHlo.launchContents m' c (Proc.devRef .tc Cert.ReferenceIdeal.main_arg4) = _ := i4
  have e5 : StableHlo.launchContents m' c (Proc.devRef .tc Cert.ReferenceIdeal.main_arg5) = _ := i5
  replace h0 := h0.trans (Cert.ReferenceIdeal.Read.val_main_v127_eq _)
  rw [e0, e1, e2, e3, e4, e5, ← Cert.Equal.dz (hR c)] at h0
  replace h1 := h1.trans (Cert.ReferenceIdeal.Read.val_main_v76_eq _)
  rw [e0, e1, e2, e3, ← Cert.Equal.dw (hR c)] at h1
  replace h2 := h2.trans (Cert.ReferenceIdeal.Read.val_main_v129_eq _)
  rw [e0, e1, ← Cert.Equal.db (hR c)] at h2
  replace h3 := h3.trans (Cert.ReferenceIdeal.Read.val_main_v133_eq _)
  rw [e0, e1, e4, ← Cert.Equal.dlg (hR c)] at h3
  replace h4 := h4.trans (Cert.ReferenceIdeal.Read.val_main_v137_eq _)
  rw [e0, e1, e4, ← Cert.Equal.dlb (hR c)] at h4
  exact ⟨h0.trans (Cert.KernelIdeal.Result.dz_all m c (hK c)).symm, h1.trans (Cert.KernelIdeal.Result.dw_last m c (hK c)).symm,
    h2.trans (Cert.KernelIdeal.Result.db_last m c (hK c)).symm, h3.trans (Cert.KernelIdeal.Result.dlg_last m c (hK c)).symm,
    h4.trans (Cert.KernelIdeal.Result.dlb_last m c (hK c)).symm, ha⟩

/-- The reference runs on the host alone: it ends, leaves its arguments, and there is no semaphore. -/
theorem frame_reference : Cert.quiescent_ReferenceIdeal (hReferenceIdeal := Cert.ReferenceIdeal.Gen.facts) := fun m ρ _ =>
  (θ_run _ _ _).mono (fun r h => ⟨fun c => (h c).2.2.2.2.2, sem_eq_zero_of_no_sems rfl r.2⟩) (Cert.ReferenceIdeal.Value.run m ρ)

/-! The calls that multiply, each with its own reference. -/

theorem frame_act : Cert.quiescent_ActRefIdeal (hActRefIdeal := Cert.ActRefIdeal.Gen.facts) := fun m ρ _ =>
  (θ_run _ _ _).mono (fun r h => ⟨fun c => (h c).2, sem_eq_zero_of_no_sems rfl r.2⟩) (Cert.ActRefIdeal.Value.run m ρ)

theorem algebraic_act : Cert.algebraic_ActIdeal_ActRefIdeal (hActIdeal := Cert.ActIdeal.Gen.facts)
    (hActRefIdeal := Cert.ActRefIdeal.Gen.facts) := by
  letI := Cert.ActIdeal.Gen.facts
  letI := Cert.ActRefIdeal.Gen.facts
  intro m g m' g' _ hin
  refine ⟨_, Cert.ActIdeal.Value.run_blocks m g, ?_⟩
  refine (θ_run _ _ _).mono (fun _ h c => ?_) (Cert.ActRefIdeal.Value.run m' g')
  obtain ⟨h0, ha⟩ := h c
  obtain ⟨i0, i1⟩ := hin c
  replace h0 := h0.trans (Cert.ActRefIdeal.Read.val_main_v3_eq _ _)
  rw [i0, i1] at h0
  exact ⟨h0.trans (Cert.ActIdeal.Result.result m c).symm, ha⟩

theorem frame_dxTwo : Cert.quiescent_DxTwoRefIdeal (hDxTwoRefIdeal := Cert.DxTwoRefIdeal.Gen.facts) := fun m ρ _ =>
  (θ_run _ _ _).mono (fun r h => ⟨fun c => (h c).2, sem_eq_zero_of_no_sems rfl r.2⟩) (Cert.DxTwoRefIdeal.Value.run m ρ)

theorem algebraic_dxTwo : Cert.algebraic_DxTwoIdeal_DxTwoRefIdeal (hDxTwoIdeal := Cert.DxTwoIdeal.Gen.facts)
    (hDxTwoRefIdeal := Cert.DxTwoRefIdeal.Gen.facts) := by
  letI := Cert.DxTwoIdeal.Gen.facts
  letI := Cert.DxTwoRefIdeal.Gen.facts
  intro m g m' g' _ hin
  refine ⟨_, Cert.DxTwoIdeal.Value.run_blocks m g, ?_⟩
  refine (θ_run _ _ _).mono (fun _ h c => ?_) (Cert.DxTwoRefIdeal.Value.run m' g')
  obtain ⟨h0, ha⟩ := h c
  obtain ⟨i0, i1, i2⟩ := hin c
  replace h0 := h0.trans (Cert.DxTwoRefIdeal.Read.val_main_v12_eq _ _ _)
  rw [i0, i1, i2] at h0
  exact ⟨h0.trans (Cert.DxTwoIdeal.Result.result m c).symm, ha⟩

theorem frame_norm : Cert.quiescent_NormRefIdeal (hNormRefIdeal := Cert.NormRefIdeal.Gen.facts) := fun m ρ _ =>
  (θ_run _ _ _).mono (fun r h => ⟨fun c => (h c).2.2.2, sem_eq_zero_of_no_sems rfl r.2⟩) (Cert.NormRefIdeal.Value.run m ρ)

theorem algebraic_norm : Cert.algebraic_NormIdeal_NormRefIdeal (hNormIdeal := Cert.NormIdeal.Gen.facts)
    (hNormRefIdeal := Cert.NormRefIdeal.Gen.facts) := by
  letI := Cert.NormIdeal.Gen.facts
  letI := Cert.NormRefIdeal.Gen.facts
  intro m g m' g' _ hin
  refine ⟨_, _, _, Cert.NormIdeal.Value.run_blocks m g, ?_⟩
  refine (θ_run _ _ _).mono (fun _ h c => ?_) (Cert.NormRefIdeal.Value.run m' g')
  obtain ⟨h0, h1, h2, ha⟩ := h c
  obtain ⟨i0, i1, i2, i3, i4⟩ := hin c
  replace h0 := h0.trans (Cert.NormRefIdeal.Read.val_main_v38_eq m' c)
  rw [i0, i1, i2, i3, i4] at h0
  replace h1 := h1.trans (Cert.NormRefIdeal.Read.val_main_v39_eq m' c)
  rw [i0, i1, i2, i3, i4] at h1
  replace h2 := h2.trans (Cert.NormRefIdeal.Read.val_main_v40_eq _ _ _)
  rw [i0, i1, i2] at h2
  exact ⟨h0.trans (Cert.NormIdeal.Result.result5 m c).symm, h1.trans (Cert.NormIdeal.Result.result6 m c).symm, h2.trans (Cert.NormIdeal.Result.result7 m c).symm, ha⟩

theorem frame_dwTwo : Cert.quiescent_DwTwoRefIdeal (hDwTwoRefIdeal := Cert.DwTwoRefIdeal.Gen.facts) := fun m ρ _ =>
  (θ_run _ _ _).mono (fun r h => ⟨fun c => (h c).2, sem_eq_zero_of_no_sems rfl r.2⟩) (Cert.DwTwoRefIdeal.Value.run m ρ)

theorem algebraic_dwTwo : Cert.algebraic_DwTwoIdeal_DwTwoRefIdeal (hDwTwoIdeal := Cert.DwTwoIdeal.Gen.facts)
    (hDwTwoRefIdeal := Cert.DwTwoRefIdeal.Gen.facts) := by
  letI := Cert.DwTwoIdeal.Gen.facts
  letI := Cert.DwTwoRefIdeal.Gen.facts
  intro m g m' g' _ hin
  refine ⟨_, Cert.DwTwoIdeal.Value.run_blocks m g, ?_⟩
  refine (θ_run _ _ _).mono (fun _ h c => ?_) (Cert.DwTwoRefIdeal.Value.run m' g')
  obtain ⟨h0, ha⟩ := h c
  obtain ⟨i0, i1⟩ := hin c
  replace h0 := h0.trans (Cert.DwTwoRefIdeal.Read.val_main_v3_eq _ _)
  rw [i0, i1] at h0
  exact ⟨h0.trans (Cert.DwTwoIdeal.Result.result m c).symm, ha⟩

theorem frame_dwOne : Cert.quiescent_DwOneRefIdeal (hDwOneRefIdeal := Cert.DwOneRefIdeal.Gen.facts) := fun m ρ _ =>
  (θ_run _ _ _).mono (fun r h => ⟨fun c => (h c).2, sem_eq_zero_of_no_sems rfl r.2⟩) (Cert.DwOneRefIdeal.Value.run m ρ)

theorem algebraic_dwOne : Cert.algebraic_DwOneIdeal_DwOneRefIdeal (hDwOneIdeal := Cert.DwOneIdeal.Gen.facts)
    (hDwOneRefIdeal := Cert.DwOneRefIdeal.Gen.facts) := by
  letI := Cert.DwOneIdeal.Gen.facts
  letI := Cert.DwOneRefIdeal.Gen.facts
  intro m g m' g' _ hin
  refine ⟨_, Cert.DwOneIdeal.Value.run_blocks m g, ?_⟩
  refine (θ_run _ _ _).mono (fun _ h c => ?_) (Cert.DwOneRefIdeal.Value.run m' g')
  obtain ⟨h0, ha⟩ := h c
  obtain ⟨i0, i1⟩ := hin c
  replace h0 := h0.trans (Cert.DwOneRefIdeal.Read.val_main_v5_eq _ _)
  rw [i0, i1] at h0
  exact ⟨h0.trans (Cert.DwOneIdeal.Result.result m c).symm, ha⟩

theorem frame_dwGate : Cert.quiescent_DwGateRefIdeal (hDwGateRefIdeal := Cert.DwGateRefIdeal.Gen.facts) := fun m ρ _ =>
  (θ_run _ _ _).mono (fun r h => ⟨fun c => (h c).2, sem_eq_zero_of_no_sems rfl r.2⟩) (Cert.DwGateRefIdeal.Value.run m ρ)

theorem algebraic_dwGate : Cert.algebraic_DwGateIdeal_DwGateRefIdeal (hDwGateIdeal := Cert.DwGateIdeal.Gen.facts)
    (hDwGateRefIdeal := Cert.DwGateRefIdeal.Gen.facts) := by
  letI := Cert.DwGateIdeal.Gen.facts
  letI := Cert.DwGateRefIdeal.Gen.facts
  intro m g m' g' _ hin
  refine ⟨_, Cert.DwGateIdeal.Value.run_blocks m g, ?_⟩
  refine (θ_run _ _ _).mono (fun _ h c => ?_) (Cert.DwGateRefIdeal.Value.run m' g')
  obtain ⟨h0, ha⟩ := h c
  obtain ⟨i0, i1⟩ := hin c
  replace h0 := h0.trans (Cert.DwGateRefIdeal.Read.val_main_v3_eq _ _)
  rw [i0, i1] at h0
  exact ⟨h0.trans (Cert.DwGateIdeal.Result.result m c).symm, ha⟩

theorem frame_dxGate : Cert.quiescent_DxGateRefIdeal (hDxGateRefIdeal := Cert.DxGateRefIdeal.Gen.facts) := fun m ρ _ =>
  (θ_run _ _ _).mono (fun r h => ⟨fun c => (h c).2.2.2, sem_eq_zero_of_no_sems rfl r.2⟩) (Cert.DxGateRefIdeal.Value.run m ρ)

theorem algebraic_dxGate : Cert.algebraic_DxGateIdeal_DxGateRefIdeal (hDxGateIdeal := Cert.DxGateIdeal.Gen.facts)
    (hDxGateRefIdeal := Cert.DxGateRefIdeal.Gen.facts) := by
  letI := Cert.DxGateIdeal.Gen.facts
  letI := Cert.DxGateRefIdeal.Gen.facts
  intro m g m' g' _ hin
  refine ⟨_, _, _, Cert.DxGateIdeal.Value.run_blocks m g, ?_⟩
  refine (θ_run _ _ _).mono (fun _ h c => ?_) (Cert.DxGateRefIdeal.Value.run m' g')
  obtain ⟨h0, h1, h2, ha⟩ := h c
  obtain ⟨i0, i1, i2, i3, i4⟩ := hin c
  replace h0 := h0.trans (Cert.DxGateRefIdeal.Read.val_main_v38_eq m' c)
  rw [i0, i1, i2, i3, i4] at h0
  replace h1 := h1.trans (Cert.DxGateRefIdeal.Read.val_main_v39_eq m' c)
  rw [i0, i1, i2, i3, i4] at h1
  replace h2 := h2.trans (Cert.DxGateRefIdeal.Read.val_main_v40_eq _ _ _)
  rw [i0, i1, i2] at h2
  exact ⟨h0.trans (Cert.DxGateIdeal.Result.result5 m c).symm, h1.trans (Cert.DxGateIdeal.Result.result6 m c).symm, h2.trans (Cert.DxGateIdeal.Result.result7 m c).symm, ha⟩

theorem frame_dxOut : Cert.quiescent_DxOutRefIdeal (hDxOutRefIdeal := Cert.DxOutRefIdeal.Gen.facts) := fun m ρ _ =>
  (θ_run _ _ _).mono (fun r h => ⟨fun c => (h c).2, sem_eq_zero_of_no_sems rfl r.2⟩) (Cert.DxOutRefIdeal.Value.run m ρ)

theorem algebraic_dxOut : Cert.algebraic_DxOutIdeal_DxOutRefIdeal (hDxOutIdeal := Cert.DxOutIdeal.Gen.facts)
    (hDxOutRefIdeal := Cert.DxOutRefIdeal.Gen.facts) := by
  letI := Cert.DxOutIdeal.Gen.facts
  letI := Cert.DxOutRefIdeal.Gen.facts
  intro m g m' g' _ hin
  refine ⟨_, Cert.DxOutIdeal.Value.run_blocks m g, ?_⟩
  refine (θ_run _ _ _).mono (fun _ h c => ?_) (Cert.DxOutRefIdeal.Value.run m' g')
  obtain ⟨h0, ha⟩ := h c
  obtain ⟨i0, i1⟩ := hin c
  replace h0 := h0.trans (Cert.DxOutRefIdeal.Read.val_main_v2_eq _ _)
  rw [i0, i1] at h0
  exact ⟨h0.trans (Cert.DxOutIdeal.Result.result m c).symm, ha⟩

theorem frame_dwIn : Cert.quiescent_DwInRefIdeal (hDwInRefIdeal := Cert.DwInRefIdeal.Gen.facts) := fun m ρ _ =>
  (θ_run _ _ _).mono (fun r h => ⟨fun c => (h c).2, sem_eq_zero_of_no_sems rfl r.2⟩) (Cert.DwInRefIdeal.Value.run m ρ)

theorem algebraic_dwIn : Cert.algebraic_DwInIdeal_DwInRefIdeal (hDwInIdeal := Cert.DwInIdeal.Gen.facts)
    (hDwInRefIdeal := Cert.DwInRefIdeal.Gen.facts) := by
  letI := Cert.DwInIdeal.Gen.facts
  letI := Cert.DwInRefIdeal.Gen.facts
  intro m g m' g' _ hin
  refine ⟨_, Cert.DwInIdeal.Value.run_blocks m g, ?_⟩
  refine (θ_run _ _ _).mono (fun _ h c => ?_) (Cert.DwInRefIdeal.Value.run m' g')
  obtain ⟨h0, ha⟩ := h c
  obtain ⟨i0, i1⟩ := hin c
  replace h0 := h0.trans (Cert.DwInRefIdeal.Read.val_main_v5_eq _ _)
  rw [i0, i1] at h0
  exact ⟨h0.trans (Cert.DwInIdeal.Result.result m c).symm, ha⟩

theorem frame_dxIn : Cert.quiescent_DxInRefIdeal (hDxInRefIdeal := Cert.DxInRefIdeal.Gen.facts) := fun m ρ _ =>
  (θ_run _ _ _).mono (fun r h => ⟨fun c => (h c).2.2, sem_eq_zero_of_no_sems rfl r.2⟩) (Cert.DxInRefIdeal.Value.run m ρ)

theorem algebraic_dxIn : Cert.algebraic_DxInIdeal_DxInRefIdeal (hDxInIdeal := Cert.DxInIdeal.Gen.facts)
    (hDxInRefIdeal := Cert.DxInRefIdeal.Gen.facts) := by
  letI := Cert.DxInIdeal.Gen.facts
  letI := Cert.DxInRefIdeal.Gen.facts
  intro m g m' g' _ hin
  refine ⟨_, _, Cert.DxInIdeal.Value.run_blocks m g, ?_⟩
  refine (θ_run _ _ _).mono (fun _ h c => ?_) (Cert.DxInRefIdeal.Value.run m' g')
  obtain ⟨h0, h1, ha⟩ := h c
  obtain ⟨i0, i1, i2, i3, i4⟩ := hin c
  replace h0 := h0.trans (Cert.DxInRefIdeal.Read.val_main_v38_eq m' c)
  rw [i0, i1, i2, i3, i4] at h0
  replace h1 := h1.trans (Cert.DxInRefIdeal.Read.val_main_v39_eq _ _ _)
  rw [i0, i1, i2] at h1
  exact ⟨h0.trans (Cert.DxInIdeal.Result.result5 m c).symm, h1.trans (Cert.DxInIdeal.Result.result6 m c).symm, ha⟩

theorem frame_wIn : Cert.quiescent_WInRefIdeal (hWInRefIdeal := Cert.WInRefIdeal.Gen.facts) := fun m ρ _ =>
  (θ_run _ _ _).mono (fun r h => ⟨fun c => (h c).2, sem_eq_zero_of_no_sems rfl r.2⟩) (Cert.WInRefIdeal.Value.run m ρ)

theorem algebraic_wIn : Cert.algebraic_WInIdeal_WInRefIdeal (hWInIdeal := Cert.WInIdeal.Gen.facts)
    (hWInRefIdeal := Cert.WInRefIdeal.Gen.facts) := by
  letI := Cert.WInIdeal.Gen.facts
  letI := Cert.WInRefIdeal.Gen.facts
  intro m g m' g' _ hin
  refine ⟨_, Cert.WInIdeal.Value.run_blocks m g, ?_⟩
  refine (θ_run _ _ _).mono (fun _ h c => ?_) (Cert.WInRefIdeal.Value.run m' g')
  obtain ⟨h0, ha⟩ := h c
  obtain ⟨i0, i1⟩ := hin c
  replace h0 := h0.trans (Cert.WInRefIdeal.Read.val_main_v0_eq _ _)
  rw [i0, i1] at h0
  exact ⟨h0.trans (Cert.WInIdeal.Result.result m c).symm, ha⟩

theorem frame_wOut : Cert.quiescent_WOutRefIdeal (hWOutRefIdeal := Cert.WOutRefIdeal.Gen.facts) := fun m ρ _ =>
  (θ_run _ _ _).mono (fun r h => ⟨fun c => (h c).2.2, sem_eq_zero_of_no_sems rfl r.2⟩) (Cert.WOutRefIdeal.Value.run m ρ)

theorem algebraic_wOut : Cert.algebraic_WOutIdeal_WOutRefIdeal (hWOutIdeal := Cert.WOutIdeal.Gen.facts)
    (hWOutRefIdeal := Cert.WOutRefIdeal.Gen.facts) := by
  letI := Cert.WOutIdeal.Gen.facts
  letI := Cert.WOutRefIdeal.Gen.facts
  intro m g m' g' _ hin
  refine ⟨_, _, Cert.WOutIdeal.Value.run_blocks m g, ?_⟩
  refine (θ_run _ _ _).mono (fun _ h c => ?_) (Cert.WOutRefIdeal.Value.run m' g')
  obtain ⟨h0, h1, ha⟩ := h c
  obtain ⟨i0, i1, i2, i3⟩ := hin c
  replace h0 := h0.trans (Cert.WOutRefIdeal.Read.val_main_v1_eq _ _ _)
  rw [i0, i1, i2] at h0
  replace h1 := h1.trans (Cert.WOutRefIdeal.Read.val_main_v15_eq _ _ _ _)
  rw [i0, i1, i2, i3] at h1
  exact ⟨h0.trans (Cert.WOutIdeal.Result.result4 m c).symm, h1.trans (Cert.WOutIdeal.Result.result5 m c).symm, ha⟩

theorem frame_ffTwo : Cert.quiescent_FfTwoRefIdeal (hFfTwoRefIdeal := Cert.FfTwoRefIdeal.Gen.facts) := fun m ρ _ =>
  (θ_run _ _ _).mono (fun r h => ⟨fun c => (h c).2.2, sem_eq_zero_of_no_sems rfl r.2⟩) (Cert.FfTwoRefIdeal.Value.run m ρ)

theorem algebraic_ffTwo : Cert.algebraic_FfTwoIdeal_FfTwoRefIdeal (hFfTwoIdeal := Cert.FfTwoIdeal.Gen.facts)
    (hFfTwoRefIdeal := Cert.FfTwoRefIdeal.Gen.facts) := by
  letI := Cert.FfTwoIdeal.Gen.facts
  letI := Cert.FfTwoRefIdeal.Gen.facts
  intro m g m' g' _ hin
  refine ⟨_, _, Cert.FfTwoIdeal.Value.run_blocks m g, ?_⟩
  refine (θ_run _ _ _).mono (fun _ h c => ?_) (Cert.FfTwoRefIdeal.Value.run m' g')
  obtain ⟨h0, h1, ha⟩ := h c
  obtain ⟨i0, i1, i2, i3⟩ := hin c
  replace h0 := h0.trans (Cert.FfTwoRefIdeal.Read.val_main_v1_eq _ _ _)
  rw [i0, i1, i2] at h0
  replace h1 := h1.trans (Cert.FfTwoRefIdeal.Read.val_main_v15_eq _ _ _ _)
  rw [i0, i1, i2, i3] at h1
  exact ⟨h0.trans (Cert.FfTwoIdeal.Result.result4 m c).symm, h1.trans (Cert.FfTwoIdeal.Result.result5 m c).symm, ha⟩

theorem frame_gate : Cert.quiescent_GateRefIdeal (hGateRefIdeal := Cert.GateRefIdeal.Gen.facts) := fun m ρ _ =>
  (θ_run _ _ _).mono (fun r h => ⟨fun c => (h c).2.2.2, sem_eq_zero_of_no_sems rfl r.2⟩) (Cert.GateRefIdeal.Value.run m ρ)

theorem algebraic_gate : Cert.algebraic_GateIdeal_GateRefIdeal (hGateIdeal := Cert.GateIdeal.Gen.facts)
    (hGateRefIdeal := Cert.GateRefIdeal.Gen.facts) := by
  letI := Cert.GateIdeal.Gen.facts
  letI := Cert.GateRefIdeal.Gen.facts
  intro m g m' g' _ hin
  refine ⟨_, _, _, Cert.GateIdeal.Value.run_blocks m g, ?_⟩
  refine (θ_run _ _ _).mono (fun _ h c => ?_) (Cert.GateRefIdeal.Value.run m' g')
  obtain ⟨h0, h1, h2, ha⟩ := h c
  obtain ⟨i0, i1, i2, i3, i4⟩ := hin c
  replace h0 := h0.trans (Cert.GateRefIdeal.Read.val_main_v8_eq _ _ _ _)
  rw [i0, i1, i2, i3] at h0
  replace h1 := h1.trans (Cert.GateRefIdeal.Read.val_main_v6_eq _ _)
  rw [i0, i1] at h1
  replace h2 := h2.trans (Cert.GateRefIdeal.Read.val_main_v22_eq _ _ _ _ _)
  rw [i0, i1, i2, i3, i4] at h2
  exact ⟨h0.trans (Cert.GateIdeal.Result.result5 m c).symm, h1.trans (Cert.GateIdeal.Result.result6 m c).symm, h2.trans (Cert.GateIdeal.Result.result7 m c).symm, ha⟩

theorem frame_pleProj : Cert.quiescent_PleProjRefIdeal (hPleProjRefIdeal := Cert.PleProjRefIdeal.Gen.facts) := fun m ρ _ =>
  (θ_run _ _ _).mono (fun r h => ⟨fun c => (h c).2, sem_eq_zero_of_no_sems rfl r.2⟩) (Cert.PleProjRefIdeal.Value.run m ρ)

theorem algebraic_pleProj : Cert.algebraic_PleProjIdeal_PleProjRefIdeal (hPleProjIdeal := Cert.PleProjIdeal.Gen.facts)
    (hPleProjRefIdeal := Cert.PleProjRefIdeal.Gen.facts) := by
  letI := Cert.PleProjIdeal.Gen.facts
  letI := Cert.PleProjRefIdeal.Gen.facts
  intro m g m' g' _ hin
  refine ⟨_, Cert.PleProjIdeal.Value.run_blocks m g, ?_⟩
  refine (θ_run _ _ _).mono (fun _ h c => ?_) (Cert.PleProjRefIdeal.Value.run m' g')
  obtain ⟨h0, ha⟩ := h c
  obtain ⟨i0, i1⟩ := hin c
  replace h0 := h0.trans (Cert.PleProjRefIdeal.Read.val_main_v0_eq _ _)
  rw [i0, i1] at h0
  exact ⟨h0.trans (Cert.PleProjIdeal.Result.result m c).symm, ha⟩

theorem frame_dwProj : Cert.quiescent_DwProjRefIdeal (hDwProjRefIdeal := Cert.DwProjRefIdeal.Gen.facts) := fun m ρ _ =>
  (θ_run _ _ _).mono (fun r h => ⟨fun c => (h c).2, sem_eq_zero_of_no_sems rfl r.2⟩) (Cert.DwProjRefIdeal.Value.run m ρ)

theorem algebraic_dwProj : Cert.algebraic_DwProjIdeal_DwProjRefIdeal (hDwProjIdeal := Cert.DwProjIdeal.Gen.facts)
    (hDwProjRefIdeal := Cert.DwProjRefIdeal.Gen.facts) := by
  letI := Cert.DwProjIdeal.Gen.facts
  letI := Cert.DwProjRefIdeal.Gen.facts
  intro m g m' g' _ hin
  refine ⟨_, Cert.DwProjIdeal.Value.run_blocks m g, ?_⟩
  refine (θ_run _ _ _).mono (fun _ h c => ?_) (Cert.DwProjRefIdeal.Value.run m' g')
  obtain ⟨h0, ha⟩ := h c
  obtain ⟨i0, i1⟩ := hin c
  replace h0 := h0.trans (Cert.DwProjRefIdeal.Read.val_main_v5_eq _ _)
  rw [i0, i1] at h0
  exact ⟨h0.trans (Cert.DwProjIdeal.Result.result m c).symm, ha⟩

theorem frame_glu : Cert.quiescent_GluRefIdeal (hGluRefIdeal := Cert.GluRefIdeal.Gen.facts) := fun m ρ _ =>
  (θ_run _ _ _).mono (fun r h => ⟨fun c => (h c).2, sem_eq_zero_of_no_sems rfl r.2⟩) (Cert.GluRefIdeal.Value.run m ρ)

theorem algebraic_glu : Cert.algebraic_GluIdeal_GluRefIdeal (hGluIdeal := Cert.GluIdeal.Gen.facts)
    (hGluRefIdeal := Cert.GluRefIdeal.Gen.facts) := by
  letI := Cert.GluIdeal.Gen.facts
  letI := Cert.GluRefIdeal.Gen.facts
  intro m g m' g' _ hin
  refine ⟨_, Cert.GluIdeal.Value.run_blocks m g, ?_⟩
  refine (θ_run _ _ _).mono (fun _ h c => ?_) (Cert.GluRefIdeal.Value.run m' g')
  obtain ⟨h0, ha⟩ := h c
  obtain ⟨i0, i1, i2⟩ := hin c
  replace h0 := h0.trans (Cert.GluRefIdeal.Read.val_main_v2_eq _ _ _)
  rw [i0, i1, i2] at h0
  exact ⟨h0.trans (Cert.GluIdeal.Result.result m c).symm, ha⟩

theorem frame_dwGlu : Cert.quiescent_DwGluRefIdeal (hDwGluRefIdeal := Cert.DwGluRefIdeal.Gen.facts) := fun m ρ _ =>
  (θ_run _ _ _).mono (fun r h => ⟨fun c => (h c).2, sem_eq_zero_of_no_sems rfl r.2⟩) (Cert.DwGluRefIdeal.Value.run m ρ)

theorem algebraic_dwGlu : Cert.algebraic_DwGluIdeal_DwGluRefIdeal (hDwGluIdeal := Cert.DwGluIdeal.Gen.facts)
    (hDwGluRefIdeal := Cert.DwGluRefIdeal.Gen.facts) := by
  letI := Cert.DwGluIdeal.Gen.facts
  letI := Cert.DwGluRefIdeal.Gen.facts
  intro m g m' g' _ hin
  refine ⟨_, Cert.DwGluIdeal.Value.run_blocks m g, ?_⟩
  refine (θ_run _ _ _).mono (fun _ h c => ?_) (Cert.DwGluRefIdeal.Value.run m' g')
  obtain ⟨h0, ha⟩ := h c
  obtain ⟨i0, i1⟩ := hin c
  replace h0 := h0.trans (Cert.DwGluRefIdeal.Read.val_main_v9_eq _ _)
  rw [i0, i1] at h0
  exact ⟨h0.trans (Cert.DwGluIdeal.Result.result m c).symm, ha⟩

theorem frame_dxGlu : Cert.quiescent_DxGluRefIdeal (hDxGluRefIdeal := Cert.DxGluRefIdeal.Gen.facts) := fun m ρ _ =>
  (θ_run _ _ _).mono (fun r h => ⟨fun c => (h c).2, sem_eq_zero_of_no_sems rfl r.2⟩) (Cert.DxGluRefIdeal.Value.run m ρ)

theorem facts_finite20 : Cert.Pre_finite20.Facts := ⟨by decide, by decide⟩

theorem algebraic_dxGlu : Cert.algebraic_DxGluIdeal_DxGluRefIdeal_pre_finite20 (hDxGluIdeal := Cert.DxGluIdeal.Gen.facts)
    (hDxGluRefIdeal := Cert.DxGluRefIdeal.Gen.facts) (hPre_finite20 := facts_finite20) := by
  letI := Cert.DxGluIdeal.Gen.facts
  letI := Cert.DxGluRefIdeal.Gen.facts
  letI := facts_finite20
  intro m g m' g' hpre hin
  refine ⟨_, Cert.DxGluIdeal.Value.run_blocks m g, ?_⟩
  refine (θ_run _ _ _).mono (fun _ h c => ?_) (Cert.DxGluRefIdeal.Value.run m' g')
  obtain ⟨h0, ha⟩ := h c
  obtain ⟨i0, i1, i2, i3⟩ := hin c
  replace h0 := h0.trans (Cert.DxGluRefIdeal.Read.val_main_v40_eq m' c)
  rw [i0, i1, i2, i3] at h0
  exact ⟨h0.trans (Cert.DxGluIdeal.Result.result m c (fun i j => ⟨_, Cert.Finite.entry _ Cert.Pre_finite20.Facts.bcast_S_S8192x512 (hpre c).1 _⟩) (fun i j => ⟨_, Cert.Finite.entry _ Cert.Pre_finite20.Facts.bcast_S_S256x256 (hpre c).2.1 _⟩) (fun i j => ⟨_, Cert.Finite.entry _ Cert.Pre_finite20.Facts.bcast_S_S256x256 (hpre c).2.2 _⟩)).symm, ha⟩

theorem frame_pleElem : Cert.quiescent_PleElemRefIdeal (hPleElemRefIdeal := Cert.PleElemRefIdeal.Gen.facts) := fun m ρ _ =>
  (θ_run _ _ _).mono (fun r h => ⟨fun c => (h c).2.2, sem_eq_zero_of_no_sems rfl r.2⟩) (Cert.PleElemRefIdeal.Value.run m ρ)

theorem algebraic_pleElem : Cert.algebraic_PleElemIdeal_PleElemRefIdeal (hPleElemIdeal := Cert.PleElemIdeal.Gen.facts)
    (hPleElemRefIdeal := Cert.PleElemRefIdeal.Gen.facts) := by
  letI := Cert.PleElemIdeal.Gen.facts
  letI := Cert.PleElemRefIdeal.Gen.facts
  intro m g m' g' _ hin
  refine ⟨_, _, Cert.PleElemIdeal.Value.run_blocks m g, ?_⟩
  refine (θ_run _ _ _).mono (fun _ h c => ?_) (Cert.PleElemRefIdeal.Value.run m' g')
  obtain ⟨h0, h1, ha⟩ := h c
  obtain ⟨i0, i1, i2⟩ := hin c
  replace h0 := h0.trans (Cert.PleElemRefIdeal.Read.val_main_v13_eq _ _ _)
  rw [i0, i1, i2] at h0
  replace h1 := h1.trans (Cert.PleElemRefIdeal.Read.val_main_v14_eq _ _)
  rw [i0, i2] at h1
  exact ⟨h0.trans (Cert.PleElemIdeal.Result.result3 m c).symm, h1.trans (Cert.PleElemIdeal.Result.result4 m c).symm, ha⟩

theorem frame_gmlp : Cert.quiescent_GmlpRefIdeal (hGmlpRefIdeal := Cert.GmlpRefIdeal.Gen.facts) := fun m ρ _ =>
  (θ_run _ _ _).mono (fun r h => ⟨fun c => (h c).2, sem_eq_zero_of_no_sems rfl r.2⟩) (Cert.GmlpRefIdeal.Value.run m ρ)

theorem algebraic_gmlp : Cert.algebraic_GmlpIdeal_GmlpRefIdeal (hGmlpIdeal := Cert.GmlpIdeal.Gen.facts)
    (hGmlpRefIdeal := Cert.GmlpRefIdeal.Gen.facts) := by
  letI := Cert.GmlpIdeal.Gen.facts
  letI := Cert.GmlpRefIdeal.Gen.facts
  intro m g m' g' _ hin
  refine ⟨_, Cert.GmlpIdeal.Value.run_blocks m g, ?_⟩
  refine (θ_run _ _ _).mono (fun _ h c => ?_) (Cert.GmlpRefIdeal.Value.run m' g')
  obtain ⟨h0, ha⟩ := h c
  obtain ⟨i0, i1, i2, i3, i4⟩ := hin c
  replace h0 := h0.trans (Cert.GmlpRefIdeal.Read.val_main_v52_eq m' c)
  rw [i0, i1, i2, i3, i4] at h0
  exact ⟨h0.trans (Cert.GmlpIdeal.Result.result5 m c).symm, ha⟩

theorem frame_merge : Cert.quiescent_MergeRefIdeal (hMergeRefIdeal := Cert.MergeRefIdeal.Gen.facts) := fun m ρ _ =>
  (θ_run _ _ _).mono (fun r h => ⟨fun c => (h c).2, sem_eq_zero_of_no_sems rfl r.2⟩) (Cert.MergeRefIdeal.Value.run m ρ)

theorem algebraic_merge : Cert.algebraic_MergeIdeal_MergeRefIdeal (hMergeIdeal := Cert.MergeIdeal.Gen.facts)
    (hMergeRefIdeal := Cert.MergeRefIdeal.Gen.facts) := by
  letI := Cert.MergeIdeal.Gen.facts
  letI := Cert.MergeRefIdeal.Gen.facts
  intro m g m' g' _ hin
  refine ⟨_, Cert.MergeIdeal.Value.run_blocks m g, ?_⟩
  refine (θ_run _ _ _).mono (fun _ h c => ?_) (Cert.MergeRefIdeal.Value.run m' g')
  obtain ⟨h0, ha⟩ := h c
  obtain ⟨i0, i1, i2, i3⟩ := hin c
  replace h0 := h0.trans (Cert.MergeRefIdeal.Read.val_main_v52_eq _ _ _ _)
  rw [i0, i1, i2, i3] at h0
  exact ⟨h0.trans (Cert.MergeIdeal.Result.result4 m c).symm, ha⟩

theorem frame_dMerge : Cert.quiescent_DMergeRefIdeal (hDMergeRefIdeal := Cert.DMergeRefIdeal.Gen.facts) := fun m ρ _ =>
  (θ_run _ _ _).mono (fun r h => ⟨fun c => (h c).2.2.2.2, sem_eq_zero_of_no_sems rfl r.2⟩) (Cert.DMergeRefIdeal.Value.run m ρ)

theorem algebraic_dMerge : Cert.algebraic_DMergeIdeal_DMergeRefIdeal (hDMergeIdeal := Cert.DMergeIdeal.Gen.facts)
    (hDMergeRefIdeal := Cert.DMergeRefIdeal.Gen.facts) := by
  letI := Cert.DMergeIdeal.Gen.facts
  letI := Cert.DMergeRefIdeal.Gen.facts
  intro m g m' g' _ hin
  refine ⟨_, _, _, _, Cert.DMergeIdeal.Value.run_blocks m g, ?_⟩
  refine (θ_run _ _ _).mono (fun _ h c => ?_) (Cert.DMergeRefIdeal.Value.run m' g')
  obtain ⟨h0, h1, h2, h3, ha⟩ := h c
  obtain ⟨i0, i1, i2, i3, i4⟩ := hin c
  replace h0 := h0.trans (Cert.DMergeRefIdeal.Read.val_main_v129_eq m' c)
  rw [i0, i1, i4] at h0
  replace h1 := h1.trans (Cert.DMergeRefIdeal.Read.val_main_v107_eq m' c)
  rw [i0, i2, i4] at h1
  replace h2 := h2.trans (Cert.DMergeRefIdeal.Read.val_main_v138_eq m' c)
  rw [i0, i3, i4] at h2
  replace h3 := h3.trans (Cert.DMergeRefIdeal.Read.val_main_v139_eq m' c)
  rw [i0, i1, i2, i3] at h3
  exact ⟨h0.trans (Cert.DMergeIdeal.Result.result5 m c).symm, h1.trans (Cert.DMergeIdeal.Result.result6 m c).symm, h2.trans (Cert.DMergeIdeal.Result.result7 m c).symm, h3.trans (Cert.DMergeIdeal.Result.result8 m c).symm, ha⟩

theorem frame_attn : Cert.quiescent_AttnRefIdeal (hAttnRefIdeal := Cert.AttnRefIdeal.Gen.facts) := fun m ρ _ =>
  (θ_run _ _ _).mono (fun r h => ⟨fun c => (h c).2, sem_eq_zero_of_no_sems rfl r.2⟩) (Cert.AttnRefIdeal.Value.run m ρ)

theorem facts_finite25 : Cert.Pre_finite25.Facts := ⟨by decide, by decide, by decide⟩

theorem algebraic_attn : Cert.algebraic_AttnIdeal_AttnRefIdeal_pre_finite25 (hAttnIdeal := Cert.AttnIdeal.Gen.facts)
    (hAttnRefIdeal := Cert.AttnRefIdeal.Gen.facts) (hPre_finite25 := facts_finite25) := by
  letI := Cert.AttnIdeal.Gen.facts
  letI := Cert.AttnRefIdeal.Gen.facts
  letI := facts_finite25
  intro m g m' g' hpre hin
  refine ⟨_, Cert.AttnIdeal.Value.run_blocks m g, ?_⟩
  refine (θ_run _ _ _).mono (fun _ h c => ?_) (Cert.AttnRefIdeal.Value.run m' g')
  obtain ⟨h0, ha⟩ := h c
  obtain ⟨i0, i1, i2, i3⟩ := hin c
  replace h0 := h0.trans (Cert.AttnRefIdeal.Read.val_main_v70_eq m' c)
  rw [i0, i1, i2, i3] at h0
  exact ⟨h0.trans (Cert.AttnIdeal.Result.result m c (fun i j => ⟨_, Cert.Finite.entry _ Cert.Pre_finite25.Facts.bcast_S_S8192x512 (hpre c).1 _⟩) (fun i j => ⟨_, Cert.Finite.entry _ Cert.Pre_finite25.Facts.bcast_S_S8192x128 (hpre c).2.1 _⟩) (fun i => ⟨_, Cert.Finite.entry _ Cert.Pre_finite25.Facts.bcast_S_S8 (hpre c).2.2 _⟩)).symm, ha⟩

theorem frame_dAttn : Cert.quiescent_DAttnRefIdeal (hDAttnRefIdeal := Cert.DAttnRefIdeal.Gen.facts) := fun m ρ _ =>
  (θ_run _ _ _).mono (fun r h => ⟨fun c => (h c).2.2.2.2.2.2, sem_eq_zero_of_no_sems rfl r.2⟩) (Cert.DAttnRefIdeal.Value.run m ρ)

theorem facts_finite26 : Cert.Pre_finite26.Facts := ⟨by decide, by decide, by decide, by decide⟩

theorem algebraic_dAttn : Cert.algebraic_DAttnIdeal_DAttnRefIdeal_pre_finite26 (hDAttnIdeal := Cert.DAttnIdeal.Gen.facts)
    (hDAttnRefIdeal := Cert.DAttnRefIdeal.Gen.facts) (hPre_finite26 := facts_finite26) := by
  letI := Cert.DAttnIdeal.Gen.facts
  letI := Cert.DAttnRefIdeal.Gen.facts
  letI := facts_finite26
  intro m g m' g' hpre hin
  refine ⟨_, _, _, _, _, _, Cert.DAttnIdeal.Value.run_blocks m g, ?_⟩
  refine (θ_run _ _ _).mono (fun _ h c => ?_) (Cert.DAttnRefIdeal.Value.run m' g')
  obtain ⟨h0, h1, h2, h3, h4, h5, ha⟩ := h c
  obtain ⟨i0, i1, i2, i3, i4⟩ := hin c
  replace h0 : _ = Cert.DAttnRefIdeal.Read.val_main_v141 (F := Ideal) (m' ((c.tc : Thread Cert.DAttnRefIdeal.nD Cert.DAttnRefIdeal.τ).loc Cert.DAttnRefIdeal.main_arg0))
      (m' ((c.tc : Thread Cert.DAttnRefIdeal.nD Cert.DAttnRefIdeal.τ).loc Cert.DAttnRefIdeal.main_arg1))
      (m' ((c.tc : Thread Cert.DAttnRefIdeal.nD Cert.DAttnRefIdeal.τ).loc Cert.DAttnRefIdeal.main_arg2))
      (m' ((c.tc : Thread Cert.DAttnRefIdeal.nD Cert.DAttnRefIdeal.τ).loc Cert.DAttnRefIdeal.main_arg3))
      (m' ((c.tc : Thread Cert.DAttnRefIdeal.nD Cert.DAttnRefIdeal.τ).loc Cert.DAttnRefIdeal.main_arg4)) :=
    h0.trans (Cert.DAttnRefIdeal.Read.val_main_v141_eq (Idealize.ShloMosaic.StableHlo.launchContents m' c))
  rw [i0, i1, i2, i3, i4] at h0
  replace h1 : _ = Cert.DAttnRefIdeal.Read.val_main_v149 (F := Ideal) (m' ((c.tc : Thread Cert.DAttnRefIdeal.nD Cert.DAttnRefIdeal.τ).loc Cert.DAttnRefIdeal.main_arg0))
      (m' ((c.tc : Thread Cert.DAttnRefIdeal.nD Cert.DAttnRefIdeal.τ).loc Cert.DAttnRefIdeal.main_arg1))
      (m' ((c.tc : Thread Cert.DAttnRefIdeal.nD Cert.DAttnRefIdeal.τ).loc Cert.DAttnRefIdeal.main_arg2))
      (m' ((c.tc : Thread Cert.DAttnRefIdeal.nD Cert.DAttnRefIdeal.τ).loc Cert.DAttnRefIdeal.main_arg3))
      (m' ((c.tc : Thread Cert.DAttnRefIdeal.nD Cert.DAttnRefIdeal.τ).loc Cert.DAttnRefIdeal.main_arg4)) :=
    h1.trans (Cert.DAttnRefIdeal.Read.val_main_v149_eq (Idealize.ShloMosaic.StableHlo.launchContents m' c))
  rw [i0, i1, i2, i3, i4] at h1
  replace h2 : _ = Cert.DAttnRefIdeal.Read.val_main_v152 (F := Ideal) (m' ((c.tc : Thread Cert.DAttnRefIdeal.nD Cert.DAttnRefIdeal.τ).loc Cert.DAttnRefIdeal.main_arg0))
      (m' ((c.tc : Thread Cert.DAttnRefIdeal.nD Cert.DAttnRefIdeal.τ).loc Cert.DAttnRefIdeal.main_arg1))
      (m' ((c.tc : Thread Cert.DAttnRefIdeal.nD Cert.DAttnRefIdeal.τ).loc Cert.DAttnRefIdeal.main_arg2))
      (m' ((c.tc : Thread Cert.DAttnRefIdeal.nD Cert.DAttnRefIdeal.τ).loc Cert.DAttnRefIdeal.main_arg3))
      (m' ((c.tc : Thread Cert.DAttnRefIdeal.nD Cert.DAttnRefIdeal.τ).loc Cert.DAttnRefIdeal.main_arg4)) :=
    h2.trans (Cert.DAttnRefIdeal.Read.val_main_v152_eq (Idealize.ShloMosaic.StableHlo.launchContents m' c))
  rw [i0, i1, i2, i3, i4] at h2
  replace h3 : _ = Cert.DAttnRefIdeal.Read.val_main_v160 (F := Ideal) (m' ((c.tc : Thread Cert.DAttnRefIdeal.nD Cert.DAttnRefIdeal.τ).loc Cert.DAttnRefIdeal.main_arg0))
      (m' ((c.tc : Thread Cert.DAttnRefIdeal.nD Cert.DAttnRefIdeal.τ).loc Cert.DAttnRefIdeal.main_arg1))
      (m' ((c.tc : Thread Cert.DAttnRefIdeal.nD Cert.DAttnRefIdeal.τ).loc Cert.DAttnRefIdeal.main_arg3))
      (m' ((c.tc : Thread Cert.DAttnRefIdeal.nD Cert.DAttnRefIdeal.τ).loc Cert.DAttnRefIdeal.main_arg4)) :=
    h3.trans (Cert.DAttnRefIdeal.Read.val_main_v160_eq (Idealize.ShloMosaic.StableHlo.launchContents m' c))
  rw [i0, i1, i3, i4] at h3
  replace h4 : _ = Cert.DAttnRefIdeal.Read.val_main_v163 (F := Ideal) (m' ((c.tc : Thread Cert.DAttnRefIdeal.nD Cert.DAttnRefIdeal.τ).loc Cert.DAttnRefIdeal.main_arg0))
      (m' ((c.tc : Thread Cert.DAttnRefIdeal.nD Cert.DAttnRefIdeal.τ).loc Cert.DAttnRefIdeal.main_arg1))
      (m' ((c.tc : Thread Cert.DAttnRefIdeal.nD Cert.DAttnRefIdeal.τ).loc Cert.DAttnRefIdeal.main_arg3))
      (m' ((c.tc : Thread Cert.DAttnRefIdeal.nD Cert.DAttnRefIdeal.τ).loc Cert.DAttnRefIdeal.main_arg4)) :=
    h4.trans (Cert.DAttnRefIdeal.Read.val_main_v163_eq (Idealize.ShloMosaic.StableHlo.launchContents m' c))
  rw [i0, i1, i3, i4] at h4
  replace h5 : _ = Cert.DAttnRefIdeal.Read.val_main_v165 (F := Ideal) (m' ((c.tc : Thread Cert.DAttnRefIdeal.nD Cert.DAttnRefIdeal.τ).loc Cert.DAttnRefIdeal.main_arg0))
      (m' ((c.tc : Thread Cert.DAttnRefIdeal.nD Cert.DAttnRefIdeal.τ).loc Cert.DAttnRefIdeal.main_arg1))
      (m' ((c.tc : Thread Cert.DAttnRefIdeal.nD Cert.DAttnRefIdeal.τ).loc Cert.DAttnRefIdeal.main_arg2))
      (m' ((c.tc : Thread Cert.DAttnRefIdeal.nD Cert.DAttnRefIdeal.τ).loc Cert.DAttnRefIdeal.main_arg3))
      (m' ((c.tc : Thread Cert.DAttnRefIdeal.nD Cert.DAttnRefIdeal.τ).loc Cert.DAttnRefIdeal.main_arg4)) :=
    h5.trans (Cert.DAttnRefIdeal.Read.val_main_v165_eq (Idealize.ShloMosaic.StableHlo.launchContents m' c))
  rw [i0, i1, i2, i3, i4] at h5
  have hr := Cert.DAttnIdeal.Result.reals m c Cert.Pre_finite26.Facts.slices_S8192x1536_S8192x128_0_1152
    (fun i => ⟨_, Cert.Finite.entry _ Cert.Pre_finite26.Facts.bcast_S_S8192x512 (hpre c).1 _⟩)
    (fun i => ⟨_, Cert.Finite.entry _ Cert.Pre_finite26.Facts.bcast_S_S8192x128 (hpre c).2.1 _⟩)
    (fun i => ⟨_, Cert.Finite.entry _ Cert.Pre_finite26.Facts.bcast_S_S8192x128 (hpre c).2.2.1 _⟩)
    (fun i => ⟨_, Cert.Finite.entry _ Cert.Pre_finite26.Facts.bcast_S_S8 (hpre c).2.2.2.1 _⟩)
    (fun i => ⟨_, Cert.Finite.entry _ Cert.Pre_finite26.Facts.bcast_S_S8192x512 (hpre c).2.2.2.2 _⟩)
  exact ⟨h0.trans (Cert.DAttnIdeal.Result.result0 m c hr).symm, h1.trans (Cert.DAttnIdeal.Result.result1 m c hr).symm, h2.trans (Cert.DAttnIdeal.Result.result2 m c hr).symm, h3.trans (Cert.DAttnIdeal.Result.result3 m c hr).symm, h4.trans (Cert.DAttnIdeal.Result.result4 m c hr).symm, h5.trans (Cert.DAttnIdeal.Result.result5 m c hr).symm, ha⟩

/-- A frame without a precondition is one under any. -/
theorem claim : Cert.Claim :=
  ⟨Cert.Kernel.Gen.facts, Cert.KernelIdeal.Gen.facts, Cert.ReferenceIdeal.Gen.facts,
    Cert.Act.Gen.facts, Cert.ActIdeal.Gen.facts, Cert.ActRefIdeal.Gen.facts, Cert.DxTwo.Gen.facts, Cert.DxTwoIdeal.Gen.facts,
    Cert.DxTwoRefIdeal.Gen.facts, Cert.Norm.Gen.facts, Cert.NormIdeal.Gen.facts, Cert.NormRefIdeal.Gen.facts, Cert.DwTwo.Gen.facts,
    Cert.DwTwoIdeal.Gen.facts, Cert.DwTwoRefIdeal.Gen.facts, Cert.DwOne.Gen.facts, Cert.DwOneIdeal.Gen.facts, Cert.DwOneRefIdeal.Gen.facts,
    Cert.DwGate.Gen.facts, Cert.DwGateIdeal.Gen.facts, Cert.DwGateRefIdeal.Gen.facts, Cert.DxGate.Gen.facts, Cert.DxGateIdeal.Gen.facts,
    Cert.DxGateRefIdeal.Gen.facts, Cert.DxOut.Gen.facts, Cert.DxOutIdeal.Gen.facts, Cert.DxOutRefIdeal.Gen.facts, Cert.DwIn.Gen.facts,
    Cert.DwInIdeal.Gen.facts, Cert.DwInRefIdeal.Gen.facts, Cert.DxIn.Gen.facts, Cert.DxInIdeal.Gen.facts, Cert.DxInRefIdeal.Gen.facts,
    Cert.WIn.Gen.facts, Cert.WInIdeal.Gen.facts, Cert.WInRefIdeal.Gen.facts, Cert.WOut.Gen.facts, Cert.WOutIdeal.Gen.facts,
    Cert.WOutRefIdeal.Gen.facts, Cert.FfTwo.Gen.facts, Cert.FfTwoIdeal.Gen.facts, Cert.FfTwoRefIdeal.Gen.facts, Cert.Gate.Gen.facts,
    Cert.GateIdeal.Gen.facts, Cert.GateRefIdeal.Gen.facts, Cert.PleProj.Gen.facts, Cert.PleProjIdeal.Gen.facts,
    Cert.PleProjRefIdeal.Gen.facts, Cert.DwProj.Gen.facts, Cert.DwProjIdeal.Gen.facts, Cert.DwProjRefIdeal.Gen.facts, Cert.Glu.Gen.facts,
    Cert.GluIdeal.Gen.facts, Cert.GluRefIdeal.Gen.facts, Cert.DwGlu.Gen.facts, Cert.DwGluIdeal.Gen.facts, Cert.DwGluRefIdeal.Gen.facts,
    Cert.DxGlu.Gen.facts, Cert.DxGluIdeal.Gen.facts, Cert.DxGluRefIdeal.Gen.facts, Cert.PleElem.Gen.facts, Cert.PleElemIdeal.Gen.facts,
    Cert.PleElemRefIdeal.Gen.facts, Cert.Gmlp.Gen.facts, Cert.GmlpIdeal.Gen.facts, Cert.GmlpRefIdeal.Gen.facts, Cert.Merge.Gen.facts,
    Cert.MergeIdeal.Gen.facts, Cert.MergeRefIdeal.Gen.facts, Cert.DMerge.Gen.facts, Cert.DMergeIdeal.Gen.facts,
    Cert.DMergeRefIdeal.Gen.facts, Cert.Attn.Gen.facts, Cert.AttnIdeal.Gen.facts, Cert.AttnRefIdeal.Gen.facts, Cert.DAttn.Gen.facts,
    Cert.DAttnIdeal.Gen.facts, Cert.DAttnRefIdeal.Gen.facts, facts_finite, facts_finite20, facts_finite25, facts_finite26,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Act.Gen.frame m ρ, fun m ρ _ => Cert.ActIdeal.Gen.frame m ρ, frame_act, fun m ρ _ => Cert.DxTwo.Gen.frame m ρ,
    fun m ρ _ => Cert.DxTwoIdeal.Gen.frame m ρ, frame_dxTwo, fun m ρ _ => Cert.Norm.Gen.frame m ρ, fun m ρ _ => Cert.NormIdeal.Gen.frame m ρ,
    frame_norm, fun m ρ _ => Cert.DwTwo.Gen.frame m ρ, fun m ρ _ => Cert.DwTwoIdeal.Gen.frame m ρ, frame_dwTwo,
    fun m ρ _ => Cert.DwOne.Gen.frame m ρ, fun m ρ _ => Cert.DwOneIdeal.Gen.frame m ρ, frame_dwOne, fun m ρ _ => Cert.DwGate.Gen.frame m ρ,
    fun m ρ _ => Cert.DwGateIdeal.Gen.frame m ρ, frame_dwGate, fun m ρ _ => Cert.DxGate.Gen.frame m ρ,
    fun m ρ _ => Cert.DxGateIdeal.Gen.frame m ρ, frame_dxGate, fun m ρ _ => Cert.DxOut.Gen.frame m ρ,
    fun m ρ _ => Cert.DxOutIdeal.Gen.frame m ρ, frame_dxOut, fun m ρ _ => Cert.DwIn.Gen.frame m ρ, fun m ρ _ => Cert.DwInIdeal.Gen.frame m ρ,
    frame_dwIn, fun m ρ _ => Cert.DxIn.Gen.frame m ρ, fun m ρ _ => Cert.DxInIdeal.Gen.frame m ρ, frame_dxIn,
    fun m ρ _ => Cert.WIn.Gen.frame m ρ, fun m ρ _ => Cert.WInIdeal.Gen.frame m ρ, frame_wIn, fun m ρ _ => Cert.WOut.Gen.frame m ρ,
    fun m ρ _ => Cert.WOutIdeal.Gen.frame m ρ, frame_wOut, fun m ρ _ => Cert.FfTwo.Gen.frame m ρ, fun m ρ _ => Cert.FfTwoIdeal.Gen.frame m ρ,
    frame_ffTwo, fun m ρ _ => Cert.Gate.Gen.frame m ρ, fun m ρ _ => Cert.GateIdeal.Gen.frame m ρ, frame_gate,
    fun m ρ _ => Cert.PleProj.Gen.frame m ρ, fun m ρ _ => Cert.PleProjIdeal.Gen.frame m ρ, frame_pleProj,
    fun m ρ _ => Cert.DwProj.Gen.frame m ρ, fun m ρ _ => Cert.DwProjIdeal.Gen.frame m ρ, frame_dwProj, fun m ρ _ => Cert.Glu.Gen.frame m ρ,
    fun m ρ _ => Cert.GluIdeal.Gen.frame m ρ, frame_glu, fun m ρ _ => Cert.DwGlu.Gen.frame m ρ, fun m ρ _ => Cert.DwGluIdeal.Gen.frame m ρ,
    frame_dwGlu, fun m ρ _ => Cert.DxGlu.Gen.frame m ρ, fun m ρ _ => Cert.DxGluIdeal.Gen.frame m ρ,
    fun m ρ _ => Cert.DxGluIdeal.Gen.frame m ρ, frame_dxGlu, fun m ρ _ => frame_dxGlu m ρ trivial, fun m ρ _ => Cert.PleElem.Gen.frame m ρ,
    fun m ρ _ => Cert.PleElemIdeal.Gen.frame m ρ, frame_pleElem, fun m ρ _ => Cert.Gmlp.Gen.frame m ρ,
    fun m ρ _ => Cert.GmlpIdeal.Gen.frame m ρ, frame_gmlp, fun m ρ _ => Cert.Merge.Gen.frame m ρ, fun m ρ _ => Cert.MergeIdeal.Gen.frame m ρ,
    frame_merge, fun m ρ _ => Cert.DMerge.Gen.frame m ρ, fun m ρ _ => Cert.DMergeIdeal.Gen.frame m ρ, frame_dMerge,
    fun m ρ _ => Cert.Attn.Gen.frame m ρ, fun m ρ _ => Cert.AttnIdeal.Gen.frame m ρ, fun m ρ _ => Cert.AttnIdeal.Gen.frame m ρ, frame_attn,
    fun m ρ _ => frame_attn m ρ trivial, fun m ρ _ => Cert.DAttn.Gen.frame m ρ, fun m ρ _ => Cert.DAttnIdeal.Gen.frame m ρ,
    fun m ρ _ => Cert.DAttnIdeal.Gen.frame m ρ, frame_dAttn, fun m ρ _ => frame_dAttn m ρ trivial,
    preserves, algebraic,
    trivial, algebraic_act, trivial, algebraic_dxTwo, trivial, algebraic_norm, trivial, algebraic_dwTwo, trivial, algebraic_dwOne, trivial,
    algebraic_dwGate, trivial, algebraic_dxGate, trivial, algebraic_dxOut, trivial, algebraic_dwIn, trivial, algebraic_dxIn, trivial,
    algebraic_wIn, trivial, algebraic_wOut, trivial, algebraic_ffTwo, trivial, algebraic_gate, trivial, algebraic_pleProj, trivial,
    algebraic_dwProj, trivial, algebraic_glu, trivial, algebraic_dwGlu,
    ⟨IdealRules.named_const.statement Cert.DxGluIdeal.κ "gelu_cubic" .f32 0x3D372713#32 _ rfl,
      IdealRules.named_const.statement Cert.DxGluIdeal.κ "gelu_cubic_3" .f32 0x3E095D4F#32 _ rfl⟩,
    algebraic_dxGlu, trivial, algebraic_pleElem, IdealRules.named_const.statement Cert.GmlpIdeal.κ "gelu_cubic" .f32 0x3D372713#32 _ rfl,
    algebraic_gmlp, trivial, algebraic_merge, trivial, algebraic_dMerge,
    IdealRules.named_const.statement Cert.AttnIdeal.κ "mask" .f32 0xF149F2CA#32 _ rfl, algebraic_attn,
    IdealRules.named_const.statement Cert.DAttnIdeal.κ "mask" .f32 0xF149F2CA#32 _ rfl, algebraic_dAttn⟩

end Cert.Proof
